-- ==== Defs.lean ====
def Pre_PostNorm (m : (ℓ : Loc Cert.PostNorm.nD Cert.PostNorm.τ Cert.PostNorm.sig) → Buf (Elt Bits) ℓ) : Prop :=
  True

def Pre_PostNormIdeal (m : (ℓ : Loc Cert.PostNormIdeal.nD Cert.PostNormIdeal.τ Cert.PostNormIdeal.sig) → Buf (Elt Ideal) ℓ) : Prop :=
  True

def Pre_PostNormIdeal_post_norm_finite [hPre_post_norm_finite : Cert.Pre_post_norm_finite.Facts] (m : (ℓ : Loc Cert.PostNormIdeal.nD Cert.PostNormIdeal.τ Cert.PostNormIdeal.sig) → Buf (Elt Ideal) ℓ) : Prop :=
  ∀ c : Dev Cert.PostNormIdeal.nD,
    (Cert.Pre_post_norm_finite.fn (F := Ideal) (m ((c.tc : Thread Cert.PostNormIdeal.nD Cert.PostNormIdeal.τ).loc Cert.PostNormIdeal.main_arg0)) (m ((c.tc : Thread Cert.PostNormIdeal.nD Cert.PostNormIdeal.τ).loc Cert.PostNormIdeal.main_arg1)) (m ((c.tc : Thread Cert.PostNormIdeal.nD Cert.PostNormIdeal.τ).loc Cert.PostNormIdeal.main_arg2))) = (fun _ => 1#1)

def Pre_PostNormRefIdeal (m : (ℓ : Loc Cert.PostNormRefIdeal.nD Cert.PostNormRefIdeal.τ Cert.PostNormRefIdeal.sig) → Buf (Elt Ideal) ℓ) : Prop :=
  True

def Pre_PostNormRefIdeal_post_norm_finite [hPre_post_norm_finite : Cert.Pre_post_norm_finite.Facts] (m : (ℓ : Loc Cert.PostNormRefIdeal.nD Cert.PostNormRefIdeal.τ Cert.PostNormRefIdeal.sig) → Buf (Elt Ideal) ℓ) : Prop :=
  ∀ c : Dev Cert.PostNormRefIdeal.nD,
    (Cert.Pre_post_norm_finite.fn (F := Ideal) (m ((c.tc : Thread Cert.PostNormRefIdeal.nD Cert.PostNormRefIdeal.τ).loc Cert.PostNormRefIdeal.main_arg0)) (m ((c.tc : Thread Cert.PostNormRefIdeal.nD Cert.PostNormRefIdeal.τ).loc Cert.PostNormRefIdeal.main_arg1)) (m ((c.tc : Thread Cert.PostNormRefIdeal.nD Cert.PostNormRefIdeal.τ).loc Cert.PostNormRefIdeal.main_arg2))) = (fun _ => 1#1)

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormIdeal_pre_norm_finite [hPre_pre_norm_finite : Cert.Pre_pre_norm_finite.Facts] (m : (ℓ : Loc Cert.PreNormIdeal.nD Cert.PreNormIdeal.τ Cert.PreNormIdeal.sig) → Buf (Elt Ideal) ℓ) : Prop :=
  ∀ c : Dev Cert.PreNormIdeal.nD,
    (Cert.Pre_pre_norm_finite.fn (F := Ideal) (m ((c.tc : Thread Cert.PreNormIdeal.nD Cert.PreNormIdeal.τ).loc Cert.PreNormIdeal.main_arg0)) (m ((c.tc : Thread Cert.PreNormIdeal.nD Cert.PreNormIdeal.τ).loc Cert.PreNormIdeal.main_arg1)) (m ((c.tc : Thread Cert.PreNormIdeal.nD Cert.PreNormIdeal.τ).loc Cert.PreNormIdeal.main_arg2)) (m ((c.tc : Thread Cert.PreNormIdeal.nD Cert.PreNormIdeal.τ).loc Cert.PreNormIdeal.main_arg3))) = (fun _ => 1#1)

def Pre_PreNormRefIdeal (m : (ℓ : Loc Cert.PreNormRefIdeal.nD Cert.PreNormRefIdeal.τ Cert.PreNormRefIdeal.sig) → Buf (Elt Ideal) ℓ) : Prop :=
  True

def Pre_PreNormRefIdeal_pre_norm_finite [hPre_pre_norm_finite : Cert.Pre_pre_norm_finite.Facts] (m : (ℓ : Loc Cert.PreNormRefIdeal.nD Cert.PreNormRefIdeal.τ Cert.PreNormRefIdeal.sig) → Buf (Elt Ideal) ℓ) : Prop :=
  ∀ c : Dev Cert.PreNormRefIdeal.nD,
    (Cert.Pre_pre_norm_finite.fn (F := Ideal) (m ((c.tc : Thread Cert.PreNormRefIdeal.nD Cert.PreNormRefIdeal.τ).loc Cert.PreNormRefIdeal.main_arg0)) (m ((c.tc : Thread Cert.PreNormRefIdeal.nD Cert.PreNormRefIdeal.τ).loc Cert.PreNormRefIdeal.main_arg1)) (m ((c.tc : Thread Cert.PreNormRefIdeal.nD Cert.PreNormRefIdeal.τ).loc Cert.PreNormRefIdeal.main_arg2)) (m ((c.tc : Thread Cert.PreNormRefIdeal.nD Cert.PreNormRefIdeal.τ).loc Cert.PreNormRefIdeal.main_arg3))) = (fun _ => 1#1)

def Pre_SwaBwd (m : (ℓ : Loc Cert.SwaBwd.nD Cert.SwaBwd.τ Cert.SwaBwd.sig) → Buf (Elt Bits) ℓ) : Prop :=
  True

def Pre_SwaBwdIdeal (m : (ℓ : Loc Cert.SwaBwdIdeal.nD Cert.SwaBwdIdeal.τ Cert.SwaBwdIdeal.sig) → Buf (Elt Ideal) ℓ) : Prop :=
  True

def Pre_SwaBwdIdeal_swa_bwd_finite [hPre_swa_bwd_finite : Cert.Pre_swa_bwd_finite.Facts] (m : (ℓ : Loc Cert.SwaBwdIdeal.nD Cert.SwaBwdIdeal.τ Cert.SwaBwdIdeal.sig) → Buf (Elt Ideal) ℓ) : Prop :=
  ∀ c : Dev Cert.SwaBwdIdeal.nD,
    (Cert.Pre_swa_bwd_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2)) (m ((c.tc : Thread Cert.SwaBwdIdeal.nD Cert.SwaBwdIdeal.τ).loc Cert.SwaBwdIdeal.main_arg3))) = (fun _ => 1#1)

def Pre_SwaBwdRefIdeal (m : (ℓ : Loc Cert.SwaBwdRefIdeal.nD Cert.SwaBwdRefIdeal.τ Cert.SwaBwdRefIdeal.sig) → Buf (Elt Ideal) ℓ) : Prop :=
  True

def Pre_SwaBwdRefIdeal_swa_bwd_finite [hPre_swa_bwd_finite : Cert.Pre_swa_bwd_finite.Facts] (m : (ℓ : Loc Cert.SwaBwdRefIdeal.nD Cert.SwaBwdRefIdeal.τ Cert.SwaBwdRefIdeal.sig) → Buf (Elt Ideal) ℓ) : Prop :=
  ∀ c : Dev Cert.SwaBwdRefIdeal.nD,
    (Cert.Pre_swa_bwd_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2)) (m ((c.tc : Thread Cert.SwaBwdRefIdeal.nD Cert.SwaBwdRefIdeal.τ).loc Cert.SwaBwdRefIdeal.main_arg3))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_bwd_finite [hPre_pool_bwd_finite : Cert.Pre_pool_bwd_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))) = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_bwd_finite [hPre_pool_bwd_finite : Cert.Pre_pool_bwd_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))) = (fun _ => 1#1)

def Pre_MidNorm (m : (ℓ : Loc Cert.MidNorm.nD Cert.MidNorm.τ Cert.MidNorm.sig) → Buf (Elt Bits) ℓ) : Prop :=
  True

def Pre_MidNormIdeal (m : (ℓ : Loc Cert.MidNormIdeal.nD Cert.MidNormIdeal.τ Cert.MidNormIdeal.sig) → Buf (Elt Ideal) ℓ) : Prop :=
  True

def Pre_MidNormIdeal_mid_norm_finite [hPre_mid_norm_finite : Cert.Pre_mid_norm_finite.Facts] (m : (ℓ : Loc Cert.MidNormIdeal.nD Cert.MidNormIdeal.τ Cert.MidNormIdeal.sig) → Buf (Elt Ideal) ℓ) : Prop :=
  ∀ c : Dev Cert.MidNormIdeal.nD,
    (Cert.Pre_mid_norm_finite.fn (F := Ideal) (m ((c.tc : Thread Cert.MidNormIdeal.nD Cert.MidNormIdeal.τ).loc Cert.MidNormIdeal.main_arg0)) (m ((c.tc : Thread Cert.MidNormIdeal.nD Cert.MidNormIdeal.τ).loc Cert.MidNormIdeal.main_arg1)) (m ((c.tc : Thread Cert.MidNormIdeal.nD Cert.MidNormIdeal.τ).loc Cert.MidNormIdeal.main_arg2)) (m ((c.tc : Thread Cert.MidNormIdeal.nD Cert.MidNormIdeal.τ).loc Cert.MidNormIdeal.main_arg3)) (m ((c.tc : Thread Cert.MidNormIdeal.nD Cert.MidNormIdeal.τ).loc Cert.MidNormIdeal.main_arg4)) (m ((c.tc : Thread Cert.MidNormIdeal.nD Cert.MidNormIdeal.τ).loc Cert.MidNormIdeal.main_arg5))) = (fun _ => 1#1)

def Pre_MidNormRefIdeal (m : (ℓ : Loc Cert.MidNormRefIdeal.nD Cert.MidNormRefIdeal.τ Cert.MidNormRefIdeal.sig) → Buf (Elt Ideal) ℓ) : Prop :=
  True

def Pre_MidNormRefIdeal_mid_norm_finite [hPre_mid_norm_finite : Cert.Pre_mid_norm_finite.Facts] (m : (ℓ : Loc Cert.MidNormRefIdeal.nD Cert.MidNormRefIdeal.τ Cert.MidNormRefIdeal.sig) → Buf (Elt Ideal) ℓ) : Prop :=
  ∀ c : Dev Cert.MidNormRefIdeal.nD,
    (Cert.Pre_mid_norm_finite.fn (F := Ideal) (m ((c.tc : Thread Cert.MidNormRefIdeal.nD Cert.MidNormRefIdeal.τ).loc Cert.MidNormRefIdeal.main_arg0)) (m ((c.tc : Thread Cert.MidNormRefIdeal.nD Cert.MidNormRefIdeal.τ).loc Cert.MidNormRefIdeal.main_arg1)) (m ((c.tc : Thread Cert.MidNormRefIdeal.nD Cert.MidNormRefIdeal.τ).loc Cert.MidNormRefIdeal.main_arg2)) (m ((c.tc : Thread Cert.MidNormRefIdeal.nD Cert.MidNormRefIdeal.τ).loc Cert.MidNormRefIdeal.main_arg3)) (m ((c.tc : Thread Cert.MidNormRefIdeal.nD Cert.MidNormRefIdeal.τ).loc Cert.MidNormRefIdeal.main_arg4)) (m ((c.tc : Thread Cert.MidNormRefIdeal.nD Cert.MidNormRefIdeal.τ).loc Cert.MidNormRefIdeal.main_arg5))) = (fun _ => 1#1)

def Pre_PostLoss (m : (ℓ : Loc Cert.PostLoss.nD Cert.PostLoss.τ Cert.PostLoss.sig) → Buf (Elt Bits) ℓ) : Prop :=
  True

def Pre_PostLossIdeal (m : (ℓ : Loc Cert.PostLossIdeal.nD Cert.PostLossIdeal.τ Cert.PostLossIdeal.sig) → Buf (Elt Ideal) ℓ) : Prop :=
  True

def Pre_PostLossIdeal_post_loss_finite [hPre_post_loss_finite : Cert.Pre_post_loss_finite.Facts] (m : (ℓ : Loc Cert.PostLossIdeal.nD Cert.PostLossIdeal.τ Cert.PostLossIdeal.sig) → Buf (Elt Ideal) ℓ) : Prop :=
  ∀ c : Dev Cert.PostLossIdeal.nD,
    (Cert.Pre_post_loss_finite.fn (F := Ideal) (m ((c.tc : Thread Cert.PostLossIdeal.nD Cert.PostLossIdeal.τ).loc Cert.PostLossIdeal.main_arg0)) (m ((c.tc : Thread Cert.PostLossIdeal.nD Cert.PostLossIdeal.τ).loc Cert.PostLossIdeal.main_arg1)) (m ((c.tc : Thread Cert.PostLossIdeal.nD Cert.PostLossIdeal.τ).loc Cert.PostLossIdeal.main_arg2)) (m ((c.tc : Thread Cert.PostLossIdeal.nD Cert.PostLossIdeal.τ).loc Cert.PostLossIdeal.main_arg3))) = (fun _ => 1#1)

def Pre_PostLossRefIdeal (m : (ℓ : Loc Cert.PostLossRefIdeal.nD Cert.PostLossRefIdeal.τ Cert.PostLossRefIdeal.sig) → Buf (Elt Ideal) ℓ) : Prop :=
  True

def Pre_PostLossRefIdeal_post_loss_finite [hPre_post_loss_finite : Cert.Pre_post_loss_finite.Facts] (m : (ℓ : Loc Cert.PostLossRefIdeal.nD Cert.PostLossRefIdeal.τ Cert.PostLossRefIdeal.sig) → Buf (Elt Ideal) ℓ) : Prop :=
  ∀ c : Dev Cert.PostLossRefIdeal.nD,
    (Cert.Pre_post_loss_finite.fn (F := Ideal) (m ((c.tc : Thread Cert.PostLossRefIdeal.nD Cert.PostLossRefIdeal.τ).loc Cert.PostLossRefIdeal.main_arg0)) (m ((c.tc : Thread Cert.PostLossRefIdeal.nD Cert.PostLossRefIdeal.τ).loc Cert.PostLossRefIdeal.main_arg1)) (m ((c.tc : Thread Cert.PostLossRefIdeal.nD Cert.PostLossRefIdeal.τ).loc Cert.PostLossRefIdeal.main_arg2)) (m ((c.tc : Thread Cert.PostLossRefIdeal.nD Cert.PostLossRefIdeal.τ).loc Cert.PostLossRefIdeal.main_arg3))) = (fun _ => 1#1)

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstIdeal_norm_first_finite [hPre_norm_first_finite : Cert.Pre_norm_first_finite.Facts] (m : (ℓ : Loc Cert.NormFirstIdeal.nD Cert.NormFirstIdeal.τ Cert.NormFirstIdeal.sig) → Buf (Elt Ideal) ℓ) : Prop :=
  ∀ c : Dev Cert.NormFirstIdeal.nD,
    (Cert.Pre_norm_first_finite.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1))) = (fun _ => 1#1)

def Pre_NormFirstRefIdeal (m : (ℓ : Loc Cert.NormFirstRefIdeal.nD Cert.NormFirstRefIdeal.τ Cert.NormFirstRefIdeal.sig) → Buf (Elt Ideal) ℓ) : Prop :=
  True

def Pre_NormFirstRefIdeal_norm_first_finite [hPre_norm_first_finite : Cert.Pre_norm_first_finite.Facts] (m : (ℓ : Loc Cert.NormFirstRefIdeal.nD Cert.NormFirstRefIdeal.τ Cert.NormFirstRefIdeal.sig) → Buf (Elt Ideal) ℓ) : Prop :=
  ∀ c : Dev Cert.NormFirstRefIdeal.nD,
    (Cert.Pre_norm_first_finite.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1))) = (fun _ => 1#1)

def Pre_PostPre (m : (ℓ : Loc Cert.PostPre.nD Cert.PostPre.τ Cert.PostPre.sig) → Buf (Elt Bits) ℓ) : Prop :=
  True

def Pre_PostPreIdeal (m : (ℓ : Loc Cert.PostPreIdeal.nD Cert.PostPreIdeal.τ Cert.PostPreIdeal.sig) → Buf (Elt Ideal) ℓ) : Prop :=
  True

def Pre_PostPreIdeal_post_pre_finite [hPre_post_pre_finite : Cert.Pre_post_pre_finite.Facts] (m : (ℓ : Loc Cert.PostPreIdeal.nD Cert.PostPreIdeal.τ Cert.PostPreIdeal.sig) → Buf (Elt Ideal) ℓ) : Prop :=
  ∀ c : Dev Cert.PostPreIdeal.nD,
    (Cert.Pre_post_pre_finite.fn (F := Ideal) (m ((c.tc : Thread Cert.PostPreIdeal.nD Cert.PostPreIdeal.τ).loc Cert.PostPreIdeal.main_arg0)) (m ((c.tc : Thread Cert.PostPreIdeal.nD Cert.PostPreIdeal.τ).loc Cert.PostPreIdeal.main_arg1)) (m ((c.tc : Thread Cert.PostPreIdeal.nD Cert.PostPreIdeal.τ).loc Cert.PostPreIdeal.main_arg2)) (m ((c.tc : Thread Cert.PostPreIdeal.nD Cert.PostPreIdeal.τ).loc Cert.PostPreIdeal.main_arg3))) = (fun _ => 1#1)

def Pre_PostPreRefIdeal (m : (ℓ : Loc Cert.PostPreRefIdeal.nD Cert.PostPreRefIdeal.τ Cert.PostPreRefIdeal.sig) → Buf (Elt Ideal) ℓ) : Prop :=
  True

def Pre_PostPreRefIdeal_post_pre_finite [hPre_post_pre_finite : Cert.Pre_post_pre_finite.Facts] (m : (ℓ : Loc Cert.PostPreRefIdeal.nD Cert.PostPreRefIdeal.τ Cert.PostPreRefIdeal.sig) → Buf (Elt Ideal) ℓ) : Prop :=
  ∀ c : Dev Cert.PostPreRefIdeal.nD,
    (Cert.Pre_post_pre_finite.fn (F := Ideal) (m ((c.tc : Thread Cert.PostPreRefIdeal.nD Cert.PostPreRefIdeal.τ).loc Cert.PostPreRefIdeal.main_arg0)) (m ((c.tc : Thread Cert.PostPreRefIdeal.nD Cert.PostPreRefIdeal.τ).loc Cert.PostPreRefIdeal.main_arg1)) (m ((c.tc : Thread Cert.PostPreRefIdeal.nD Cert.PostPreRefIdeal.τ).loc Cert.PostPreRefIdeal.main_arg2)) (m ((c.tc : Thread Cert.PostPreRefIdeal.nD Cert.PostPreRefIdeal.τ).loc Cert.PostPreRefIdeal.main_arg3))) = (fun _ => 1#1)

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_swa_fwd_finite [hPre_swa_fwd_finite : Cert.Pre_swa_fwd_finite.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_swa_fwd_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))) = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_swa_fwd_finite [hPre_swa_fwd_finite : Cert.Pre_swa_fwd_finite.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_swa_fwd_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2))) = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmUpD (m : (ℓ : Loc Cert.MmUpD.nD Cert.MmUpD.τ Cert.MmUpD.sig) → Buf (Elt Bits) ℓ) : Prop :=
  True

def Pre_MmUpDIdeal (m : (ℓ : Loc Cert.MmUpDIdeal.nD Cert.MmUpDIdeal.τ Cert.MmUpDIdeal.sig) → Buf (Elt Ideal) ℓ) : Prop :=
  True

def Pre_MmUpDRefIdeal (m : (ℓ : Loc Cert.MmUpDRefIdeal.nD Cert.MmUpDRefIdeal.τ Cert.MmUpDRefIdeal.sig) → Buf (Elt Ideal) ℓ) : Prop :=
  True

def Pre_MmUpW (m : (ℓ : Loc Cert.MmUpW.nD Cert.MmUpW.τ Cert.MmUpW.sig) → Buf (Elt Bits) ℓ) : Prop :=
  True

def Pre_MmUpWIdeal (m : (ℓ : Loc Cert.MmUpWIdeal.nD Cert.MmUpWIdeal.τ Cert.MmUpWIdeal.sig) → Buf (Elt Ideal) ℓ) : Prop :=
  True

def Pre_MmUpWRefIdeal (m : (ℓ : Loc Cert.MmUpWRefIdeal.nD Cert.MmUpWRefIdeal.τ Cert.MmUpWRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_SumSlabs (m : (ℓ : Loc Cert.SumSlabs.nD Cert.SumSlabs.τ Cert.SumSlabs.sig) → Buf (Elt Bits) ℓ) : Prop :=
  True

def Pre_SumSlabsIdeal (m : (ℓ : Loc Cert.SumSlabsIdeal.nD Cert.SumSlabsIdeal.τ Cert.SumSlabsIdeal.sig) → Buf (Elt Ideal) ℓ) : Prop :=
  True

def Pre_SumSlabsRefIdeal (m : (ℓ : Loc Cert.SumSlabsRefIdeal.nD Cert.SumSlabsRefIdeal.τ Cert.SumSlabsRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def quiescent_PostNorm [hPostNorm : Cert.PostNorm.Facts] : Prop :=
  ∀ (m : (ℓ : Loc Cert.PostNorm.nD Cert.PostNorm.τ Cert.PostNorm.sig) → Buf (Elt Bits) ℓ) (g : Dev Cert.PostNorm.nD → PrngReg), Pre_PostNorm m →
    θ_run (Cert.PostNorm.defs (F := Bits)) (onTc (τ := Cert.PostNorm.τ) (Cert.PostNorm.main (F := Bits))) ⟨m, fun _ => 0, g⟩ (fun r => (∀ c : Dev Cert.PostNorm.nD,
      r.2.mem ((c.tc : Thread Cert.PostNorm.nD Cert.PostNorm.τ).loc Cert.PostNorm.main_arg0) = m ((c.tc : Thread Cert.PostNorm.nD Cert.PostNorm.τ).loc Cert.PostNorm.main_arg0)
      ∧ r.2.mem ((c.tc : Thread Cert.PostNorm.nD Cert.PostNorm.τ).loc Cert.PostNorm.main_arg1) = m ((c.tc : Thread Cert.PostNorm.nD Cert.PostNorm.τ).loc Cert.PostNorm.main_arg1)
      ∧ r.2.mem ((c.tc : Thread Cert.PostNorm.nD Cert.PostNorm.τ).loc Cert.PostNorm.main_arg2) = m ((c.tc : Thread Cert.PostNorm.nD Cert.PostNorm.τ).loc Cert.PostNorm.main_arg2))
      ∧ r.2.sem = fun _ => 0)

def quiescent_PostNormIdeal [hPostNormIdeal : Cert.PostNormIdeal.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ r.2.sem = fun _ => 0)

def quiescent_PostNormIdeal_pre_post_norm_finite [hPostNormIdeal : Cert.PostNormIdeal.Facts] [hPre_post_norm_finite : Cert.Pre_post_norm_finite.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal_post_norm_finite m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ r.2.sem = fun _ => 0)

def quiescent_PostNormRefIdeal [hPostNormRefIdeal : Cert.PostNormRefIdeal.Facts] : Prop :=
  ∀ (m : (ℓ : Loc Cert.PostNormRefIdeal.nD Cert.PostNormRefIdeal.τ Cert.PostNormRefIdeal.sig) → Buf (Elt Ideal) ℓ) (g : Dev Cert.PostNormRefIdeal.nD → PrngReg), Pre_PostNormRefIdeal m →
    θ_run (Cert.PostNormRefIdeal.defs (F := Ideal)) (onTc (τ := Cert.PostNormRefIdeal.τ) (Cert.PostNormRefIdeal.main (F := Ideal))) ⟨m, fun _ => 0, g⟩ (fun r => (∀ c : Dev Cert.PostNormRefIdeal.nD,
      r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2))
      ∧ r.2.sem = fun _ => 0)

def quiescent_PostNormRefIdeal_pre_post_norm_finite [hPostNormRefIdeal : Cert.PostNormRefIdeal.Facts] [hPre_post_norm_finite : Cert.Pre_post_norm_finite.Facts] : Prop :=
  ∀ (m : (ℓ : Loc Cert.PostNormRefIdeal.nD Cert.PostNormRefIdeal.τ Cert.PostNormRefIdeal.sig) → Buf (Elt Ideal) ℓ) (g : Dev Cert.PostNormRefIdeal.nD → PrngReg), Pre_PostNormRefIdeal_post_norm_finite m →
    θ_run (Cert.PostNormRefIdeal.defs (F := Ideal)) (onTc (τ := Cert.PostNormRefIdeal.τ) (Cert.PostNormRefIdeal.main (F := Ideal))) ⟨m, fun _ => 0, g⟩ (fun r => (∀ c : Dev Cert.PostNormRefIdeal.nD,
      r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2)
      ∧ r.2.mem ((c.tc : Thread Cert.PreNorm.nD Cert.PreNorm.τ).loc Cert.PreNorm.main_arg3) = m ((c.tc : Thread Cert.PreNorm.nD Cert.PreNorm.τ).loc Cert.PreNorm.main_arg3))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
      ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ r.2.sem = fun _ => 0)

def quiescent_PreNormIdeal_pre_pre_norm_finite [hPreNormIdeal : Cert.PreNormIdeal.Facts] [hPre_pre_norm_finite : Cert.Pre_pre_norm_finite.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal_pre_norm_finite m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
      ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2)
      ∧ r.2.mem ((c.tc : Thread Cert.PreNormRefIdeal.nD Cert.PreNormRefIdeal.τ).loc Cert.PreNormRefIdeal.main_arg3) = m ((c.tc : Thread Cert.PreNormRefIdeal.nD Cert.PreNormRefIdeal.τ).loc Cert.PreNormRefIdeal.main_arg3))
      ∧ r.2.sem = fun _ => 0)

def quiescent_PreNormRefIdeal_pre_pre_norm_finite [hPreNormRefIdeal : Cert.PreNormRefIdeal.Facts] [hPre_pre_norm_finite : Cert.Pre_pre_norm_finite.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal_pre_norm_finite m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2)
      ∧ r.2.mem ((c.tc : Thread Cert.PreNormRefIdeal.nD Cert.PreNormRefIdeal.τ).loc Cert.PreNormRefIdeal.main_arg3) = m ((c.tc : Thread Cert.PreNormRefIdeal.nD Cert.PreNormRefIdeal.τ).loc Cert.PreNormRefIdeal.main_arg3))
      ∧ r.2.sem = fun _ => 0)

def quiescent_SwaBwd [hSwaBwd : Cert.SwaBwd.Facts] : Prop :=
  ∀ (m : (ℓ : Loc Cert.SwaBwd.nD Cert.SwaBwd.τ Cert.SwaBwd.sig) → Buf (Elt Bits) ℓ) (g : Dev Cert.SwaBwd.nD → PrngReg), Pre_SwaBwd m →
    θ_run (Cert.SwaBwd.defs (F := Bits)) (onTc (τ := Cert.SwaBwd.τ) (Cert.SwaBwd.main (F := Bits))) ⟨m, fun _ => 0, g⟩ (fun r => (∀ c : Dev Cert.SwaBwd.nD,
      r.2.mem ((c.tc : Thread Cert.SwaBwd.nD Cert.SwaBwd.τ).loc Cert.SwaBwd.main_arg0) = m ((c.tc : Thread Cert.SwaBwd.nD Cert.SwaBwd.τ).loc Cert.SwaBwd.main_arg0)
      ∧ r.2.mem ((c.tc : Thread Cert.SwaBwd.nD Cert.SwaBwd.τ).loc Cert.SwaBwd.main_arg1) = m ((c.tc : Thread Cert.SwaBwd.nD Cert.SwaBwd.τ).loc Cert.SwaBwd.main_arg1)
      ∧ r.2.mem ((c.tc : Thread Cert.SwaBwd.nD Cert.SwaBwd.τ).loc Cert.SwaBwd.main_arg2) = m ((c.tc : Thread Cert.SwaBwd.nD Cert.SwaBwd.τ).loc Cert.SwaBwd.main_arg2)
      ∧ r.2.mem ((c.tc : Thread Cert.SwaBwd.nD Cert.SwaBwd.τ).loc Cert.SwaBwd.main_arg3) = m ((c.tc : Thread Cert.SwaBwd.nD Cert.SwaBwd.τ).loc Cert.SwaBwd.main_arg3))
      ∧ r.2.sem = fun _ => 0)

def quiescent_SwaBwdIdeal [hSwaBwdIdeal : Cert.SwaBwdIdeal.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
      ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3))
      ∧ r.2.sem = fun _ => 0)

def quiescent_SwaBwdIdeal_pre_swa_bwd_finite [hSwaBwdIdeal : Cert.SwaBwdIdeal.Facts] [hPre_swa_bwd_finite : Cert.Pre_swa_bwd_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal_swa_bwd_finite m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
      ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3))
      ∧ r.2.sem = fun _ => 0)

def quiescent_SwaBwdRefIdeal [hSwaBwdRefIdeal : Cert.SwaBwdRefIdeal.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2)
      ∧ r.2.mem ((c.tc : Thread Cert.SwaBwdRefIdeal.nD Cert.SwaBwdRefIdeal.τ).loc Cert.SwaBwdRefIdeal.main_arg3) = m ((c.tc : Thread Cert.SwaBwdRefIdeal.nD Cert.SwaBwdRefIdeal.τ).loc Cert.SwaBwdRefIdeal.main_arg3))
      ∧ r.2.sem = fun _ => 0)

def quiescent_SwaBwdRefIdeal_pre_swa_bwd_finite [hSwaBwdRefIdeal : Cert.SwaBwdRefIdeal.Facts] [hPre_swa_bwd_finite : Cert.Pre_swa_bwd_finite.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal_swa_bwd_finite m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2)
      ∧ r.2.mem ((c.tc : Thread Cert.SwaBwdRefIdeal.nD Cert.SwaBwdRefIdeal.τ).loc Cert.SwaBwdRefIdeal.main_arg3) = m ((c.tc : Thread Cert.SwaBwdRefIdeal.nD Cert.SwaBwdRefIdeal.τ).loc Cert.SwaBwdRefIdeal.main_arg3))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_pool_bwd_finite [hPoolBwdIdeal : Cert.PoolBwdIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_bwd_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_PoolBwdRefIdeal_pre_pool_bwd_finite [hPoolBwdRefIdeal : Cert.PoolBwdRefIdeal.Facts] [hPre_pool_bwd_finite : Cert.Pre_pool_bwd_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_bwd_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_MidNorm [hMidNorm : Cert.MidNorm.Facts] : Prop :=
  ∀ (m : (ℓ : Loc Cert.MidNorm.nD Cert.MidNorm.τ Cert.MidNorm.sig) → Buf (Elt Bits) ℓ) (g : Dev Cert.MidNorm.nD → PrngReg), Pre_MidNorm m →
    θ_run (Cert.MidNorm.defs (F := Bits)) (onTc (τ := Cert.MidNorm.τ) (Cert.MidNorm.main (F := Bits))) ⟨m, fun _ => 0, g⟩ (fun r => (∀ c : Dev Cert.MidNorm.nD,
      r.2.mem ((c.tc : Thread Cert.MidNorm.nD Cert.MidNorm.τ).loc Cert.MidNorm.main_arg0) = m ((c.tc : Thread Cert.MidNorm.nD Cert.MidNorm.τ).loc Cert.MidNorm.main_arg0)
      ∧ r.2.mem ((c.tc : Thread Cert.MidNorm.nD Cert.MidNorm.τ).loc Cert.MidNorm.main_arg1) = m ((c.tc : Thread Cert.MidNorm.nD Cert.MidNorm.τ).loc Cert.MidNorm.main_arg1)
      ∧ r.2.mem ((c.tc : Thread Cert.MidNorm.nD Cert.MidNorm.τ).loc Cert.MidNorm.main_arg2) = m ((c.tc : Thread Cert.MidNorm.nD Cert.MidNorm.τ).loc Cert.MidNorm.main_arg2)
      ∧ r.2.mem ((c.tc : Thread Cert.MidNorm.nD Cert.MidNorm.τ).loc Cert.MidNorm.main_arg3) = m ((c.tc : Thread Cert.MidNorm.nD Cert.MidNorm.τ).loc Cert.MidNorm.main_arg3)
      ∧ r.2.mem ((c.tc : Thread Cert.MidNorm.nD Cert.MidNorm.τ).loc Cert.MidNorm.main_arg4) = m ((c.tc : Thread Cert.MidNorm.nD Cert.MidNorm.τ).loc Cert.MidNorm.main_arg4)
      ∧ r.2.mem ((c.tc : Thread Cert.MidNorm.nD Cert.MidNorm.τ).loc Cert.MidNorm.main_arg5) = m ((c.tc : Thread Cert.MidNorm.nD Cert.MidNorm.τ).loc Cert.MidNorm.main_arg5))
      ∧ r.2.sem = fun _ => 0)

def quiescent_MidNormIdeal [hMidNormIdeal : Cert.MidNormIdeal.Facts] : Prop :=
  ∀ (m : (ℓ : Loc Cert.MidNormIdeal.nD Cert.MidNormIdeal.τ Cert.MidNormIdeal.sig) → Buf (Elt Ideal) ℓ) (g : Dev Cert.MidNormIdeal.nD → PrngReg), Pre_MidNormIdeal m →
    θ_run (Cert.MidNormIdeal.defs (F := Ideal)) (onTc (τ := Cert.MidNormIdeal.τ) (Cert.MidNormIdeal.main (F := Ideal))) ⟨m, fun _ => 0, g⟩ (fun r => (∀ c : Dev Cert.MidNormIdeal.nD,
      r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
      ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
      ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
      ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3)
      ∧ r.2.mem ((c.tc : Thread Cert.MidNormIdeal.nD Cert.MidNormIdeal.τ).loc Cert.MidNormIdeal.main_arg4) = m ((c.tc : Thread Cert.MidNormIdeal.nD Cert.MidNormIdeal.τ).loc Cert.MidNormIdeal.main_arg4)
      ∧ r.2.mem ((c.tc : Thread Cert.MidNormIdeal.nD Cert.MidNormIdeal.τ).loc Cert.MidNormIdeal.main_arg5) = m ((c.tc : Thread Cert.MidNormIdeal.nD Cert.MidNormIdeal.τ).loc Cert.MidNormIdeal.main_arg5))
      ∧ r.2.sem = fun _ => 0)

def quiescent_MidNormIdeal_pre_mid_norm_finite [hMidNormIdeal : Cert.MidNormIdeal.Facts] [hPre_mid_norm_finite : Cert.Pre_mid_norm_finite.Facts] : Prop :=
  ∀ (m : (ℓ : Loc Cert.MidNormIdeal.nD Cert.MidNormIdeal.τ Cert.MidNormIdeal.sig) → Buf (Elt Ideal) ℓ) (g : Dev Cert.MidNormIdeal.nD → PrngReg), Pre_MidNormIdeal_mid_norm_finite m →
    θ_run (Cert.MidNormIdeal.defs (F := Ideal)) (onTc (τ := Cert.MidNormIdeal.τ) (Cert.MidNormIdeal.main (F := Ideal))) ⟨m, fun _ => 0, g⟩ (fun r => (∀ c : Dev Cert.MidNormIdeal.nD,
      r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
      ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
      ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
      ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3)
      ∧ r.2.mem ((c.tc : Thread Cert.MidNormIdeal.nD Cert.MidNormIdeal.τ).loc Cert.MidNormIdeal.main_arg4) = m ((c.tc : Thread Cert.MidNormIdeal.nD Cert.MidNormIdeal.τ).loc Cert.MidNormIdeal.main_arg4)
      ∧ r.2.mem ((c.tc : Thread Cert.MidNormIdeal.nD Cert.MidNormIdeal.τ).loc Cert.MidNormIdeal.main_arg5) = m ((c.tc : Thread Cert.MidNormIdeal.nD Cert.MidNormIdeal.τ).loc Cert.MidNormIdeal.main_arg5))
      ∧ r.2.sem = fun _ => 0)

def quiescent_MidNormRefIdeal [hMidNormRefIdeal : Cert.MidNormRefIdeal.Facts] : Prop :=
  ∀ (m : (ℓ : Loc Cert.MidNormRefIdeal.nD Cert.MidNormRefIdeal.τ Cert.MidNormRefIdeal.sig) → Buf (Elt Ideal) ℓ) (g : Dev Cert.MidNormRefIdeal.nD → PrngReg), Pre_MidNormRefIdeal m →
    θ_run (Cert.MidNormRefIdeal.defs (F := Ideal)) (onTc (τ := Cert.MidNormRefIdeal.τ) (Cert.MidNormRefIdeal.main (F := Ideal))) ⟨m, fun _ => 0, g⟩ (fun r => (∀ c : Dev Cert.MidNormRefIdeal.nD,
      r.2.mem ((c.tc : Thread Cert.MidNormRefIdeal.nD Cert.MidNormRefIdeal.τ).loc Cert.MidNormRefIdeal.main_arg0) = m ((c.tc : Thread Cert.MidNormRefIdeal.nD Cert.MidNormRefIdeal.τ).loc Cert.MidNormRefIdeal.main_arg0)
      ∧ r.2.mem ((c.tc : Thread Cert.MidNormRefIdeal.nD Cert.MidNormRefIdeal.τ).loc Cert.MidNormRefIdeal.main_arg1) = m ((c.tc : Thread Cert.MidNormRefIdeal.nD Cert.MidNormRefIdeal.τ).loc Cert.MidNormRefIdeal.main_arg1)
      ∧ r.2.mem ((c.tc : Thread Cert.MidNormRefIdeal.nD Cert.MidNormRefIdeal.τ).loc Cert.MidNormRefIdeal.main_arg2) = m ((c.tc : Thread Cert.MidNormRefIdeal.nD Cert.MidNormRefIdeal.τ).loc Cert.MidNormRefIdeal.main_arg2)
      ∧ r.2.mem ((c.tc : Thread Cert.MidNormRefIdeal.nD Cert.MidNormRefIdeal.τ).loc Cert.MidNormRefIdeal.main_arg3) = m ((c.tc : Thread Cert.MidNormRefIdeal.nD Cert.MidNormRefIdeal.τ).loc Cert.MidNormRefIdeal.main_arg3)
      ∧ r.2.mem ((c.tc : Thread Cert.MidNormRefIdeal.nD Cert.MidNormRefIdeal.τ).loc Cert.MidNormRefIdeal.main_arg4) = m ((c.tc : Thread Cert.MidNormRefIdeal.nD Cert.MidNormRefIdeal.τ).loc Cert.MidNormRefIdeal.main_arg4)
      ∧ r.2.mem ((c.tc : Thread Cert.MidNormRefIdeal.nD Cert.MidNormRefIdeal.τ).loc Cert.MidNormRefIdeal.main_arg5) = m ((c.tc : Thread Cert.MidNormRefIdeal.nD Cert.MidNormRefIdeal.τ).loc Cert.MidNormRefIdeal.main_arg5))
      ∧ r.2.sem = fun _ => 0)

def quiescent_MidNormRefIdeal_pre_mid_norm_finite [hMidNormRefIdeal : Cert.MidNormRefIdeal.Facts] [hPre_mid_norm_finite : Cert.Pre_mid_norm_finite.Facts] : Prop :=
  ∀ (m : (ℓ : Loc Cert.MidNormRefIdeal.nD Cert.MidNormRefIdeal.τ Cert.MidNormRefIdeal.sig) → Buf (Elt Ideal) ℓ) (g : Dev Cert.MidNormRefIdeal.nD → PrngReg), Pre_MidNormRefIdeal_mid_norm_finite m →
    θ_run (Cert.MidNormRefIdeal.defs (F := Ideal)) (onTc (τ := Cert.MidNormRefIdeal.τ) (Cert.MidNormRefIdeal.main (F := Ideal))) ⟨m, fun _ => 0, g⟩ (fun r => (∀ c : Dev Cert.MidNormRefIdeal.nD,
      r.2.mem ((c.tc : Thread Cert.MidNormRefIdeal.nD Cert.MidNormRefIdeal.τ).loc Cert.MidNormRefIdeal.main_arg0) = m ((c.tc : Thread Cert.MidNormRefIdeal.nD Cert.MidNormRefIdeal.τ).loc Cert.MidNormRefIdeal.main_arg0)
      ∧ r.2.mem ((c.tc : Thread Cert.MidNormRefIdeal.nD Cert.MidNormRefIdeal.τ).loc Cert.MidNormRefIdeal.main_arg1) = m ((c.tc : Thread Cert.MidNormRefIdeal.nD Cert.MidNormRefIdeal.τ).loc Cert.MidNormRefIdeal.main_arg1)
      ∧ r.2.mem ((c.tc : Thread Cert.MidNormRefIdeal.nD Cert.MidNormRefIdeal.τ).loc Cert.MidNormRefIdeal.main_arg2) = m ((c.tc : Thread Cert.MidNormRefIdeal.nD Cert.MidNormRefIdeal.τ).loc Cert.MidNormRefIdeal.main_arg2)
      ∧ r.2.mem ((c.tc : Thread Cert.MidNormRefIdeal.nD Cert.MidNormRefIdeal.τ).loc Cert.MidNormRefIdeal.main_arg3) = m ((c.tc : Thread Cert.MidNormRefIdeal.nD Cert.MidNormRefIdeal.τ).loc Cert.MidNormRefIdeal.main_arg3)
      ∧ r.2.mem ((c.tc : Thread Cert.MidNormRefIdeal.nD Cert.MidNormRefIdeal.τ).loc Cert.MidNormRefIdeal.main_arg4) = m ((c.tc : Thread Cert.MidNormRefIdeal.nD Cert.MidNormRefIdeal.τ).loc Cert.MidNormRefIdeal.main_arg4)
      ∧ r.2.mem ((c.tc : Thread Cert.MidNormRefIdeal.nD Cert.MidNormRefIdeal.τ).loc Cert.MidNormRefIdeal.main_arg5) = m ((c.tc : Thread Cert.MidNormRefIdeal.nD Cert.MidNormRefIdeal.τ).loc Cert.MidNormRefIdeal.main_arg5))
      ∧ r.2.sem = fun _ => 0)

def quiescent_PostLoss [hPostLoss : Cert.PostLoss.Facts] : Prop :=
  ∀ (m : (ℓ : Loc Cert.PostLoss.nD Cert.PostLoss.τ Cert.PostLoss.sig) → Buf (Elt Bits) ℓ) (g : Dev Cert.PostLoss.nD → PrngReg), Pre_PostLoss m →
    θ_run (Cert.PostLoss.defs (F := Bits)) (onTc (τ := Cert.PostLoss.τ) (Cert.PostLoss.main (F := Bits))) ⟨m, fun _ => 0, g⟩ (fun r => (∀ c : Dev Cert.PostLoss.nD,
      r.2.mem ((c.tc : Thread Cert.PostLoss.nD Cert.PostLoss.τ).loc Cert.PostLoss.main_arg0) = m ((c.tc : Thread Cert.PostLoss.nD Cert.PostLoss.τ).loc Cert.PostLoss.main_arg0)
      ∧ r.2.mem ((c.tc : Thread Cert.PostLoss.nD Cert.PostLoss.τ).loc Cert.PostLoss.main_arg1) = m ((c.tc : Thread Cert.PostLoss.nD Cert.PostLoss.τ).loc Cert.PostLoss.main_arg1)
      ∧ r.2.mem ((c.tc : Thread Cert.PostLoss.nD Cert.PostLoss.τ).loc Cert.PostLoss.main_arg2) = m ((c.tc : Thread Cert.PostLoss.nD Cert.PostLoss.τ).loc Cert.PostLoss.main_arg2)
      ∧ r.2.mem ((c.tc : Thread Cert.PostLoss.nD Cert.PostLoss.τ).loc Cert.PostLoss.main_arg3) = m ((c.tc : Thread Cert.PostLoss.nD Cert.PostLoss.τ).loc Cert.PostLoss.main_arg3))
      ∧ r.2.sem = fun _ => 0)

def quiescent_PostLossIdeal [hPostLossIdeal : Cert.PostLossIdeal.Facts] : Prop :=
  ∀ (m : (ℓ : Loc Cert.PostLossIdeal.nD Cert.PostLossIdeal.τ Cert.PostLossIdeal.sig) → Buf (Elt Ideal) ℓ) (g : Dev Cert.PostLossIdeal.nD → PrngReg), Pre_PostLossIdeal m →
    θ_run (Cert.PostLossIdeal.defs (F := Ideal)) (onTc (τ := Cert.PostLossIdeal.τ) (Cert.PostLossIdeal.main (F := Ideal))) ⟨m, fun _ => 0, g⟩ (fun r => (∀ c : Dev Cert.PostLossIdeal.nD,
      r.2.mem ((c.tc : Thread Cert.PostLossIdeal.nD Cert.PostLossIdeal.τ).loc Cert.PostLossIdeal.main_arg0) = m ((c.tc : Thread Cert.PostLossIdeal.nD Cert.PostLossIdeal.τ).loc Cert.PostLossIdeal.main_arg0)
      ∧ r.2.mem ((c.tc : Thread Cert.PostLossIdeal.nD Cert.PostLossIdeal.τ).loc Cert.PostLossIdeal.main_arg1) = m ((c.tc : Thread Cert.PostLossIdeal.nD Cert.PostLossIdeal.τ).loc Cert.PostLossIdeal.main_arg1)
      ∧ r.2.mem ((c.tc : Thread Cert.PostLossIdeal.nD Cert.PostLossIdeal.τ).loc Cert.PostLossIdeal.main_arg2) = m ((c.tc : Thread Cert.PostLossIdeal.nD Cert.PostLossIdeal.τ).loc Cert.PostLossIdeal.main_arg2)
      ∧ r.2.mem ((c.tc : Thread Cert.PostLossIdeal.nD Cert.PostLossIdeal.τ).loc Cert.PostLossIdeal.main_arg3) = m ((c.tc : Thread Cert.PostLossIdeal.nD Cert.PostLossIdeal.τ).loc Cert.PostLossIdeal.main_arg3))
      ∧ r.2.sem = fun _ => 0)

def quiescent_PostLossIdeal_pre_post_loss_finite [hPostLossIdeal : Cert.PostLossIdeal.Facts] [hPre_post_loss_finite : Cert.Pre_post_loss_finite.Facts] : Prop :=
  ∀ (m : (ℓ : Loc Cert.PostLossIdeal.nD Cert.PostLossIdeal.τ Cert.PostLossIdeal.sig) → Buf (Elt Ideal) ℓ) (g : Dev Cert.PostLossIdeal.nD → PrngReg), Pre_PostLossIdeal_post_loss_finite m →
    θ_run (Cert.PostLossIdeal.defs (F := Ideal)) (onTc (τ := Cert.PostLossIdeal.τ) (Cert.PostLossIdeal.main (F := Ideal))) ⟨m, fun _ => 0, g⟩ (fun r => (∀ c : Dev Cert.PostLossIdeal.nD,
      r.2.mem ((c.tc : Thread Cert.PostLossIdeal.nD Cert.PostLossIdeal.τ).loc Cert.PostLossIdeal.main_arg0) = m ((c.tc : Thread Cert.PostLossIdeal.nD Cert.PostLossIdeal.τ).loc Cert.PostLossIdeal.main_arg0)
      ∧ r.2.mem ((c.tc : Thread Cert.PostLossIdeal.nD Cert.PostLossIdeal.τ).loc Cert.PostLossIdeal.main_arg1) = m ((c.tc : Thread Cert.PostLossIdeal.nD Cert.PostLossIdeal.τ).loc Cert.PostLossIdeal.main_arg1)
      ∧ r.2.mem ((c.tc : Thread Cert.PostLossIdeal.nD Cert.PostLossIdeal.τ).loc Cert.PostLossIdeal.main_arg2) = m ((c.tc : Thread Cert.PostLossIdeal.nD Cert.PostLossIdeal.τ).loc Cert.PostLossIdeal.main_arg2)
      ∧ r.2.mem ((c.tc : Thread Cert.PostLossIdeal.nD Cert.PostLossIdeal.τ).loc Cert.PostLossIdeal.main_arg3) = m ((c.tc : Thread Cert.PostLossIdeal.nD Cert.PostLossIdeal.τ).loc Cert.PostLossIdeal.main_arg3))
      ∧ r.2.sem = fun _ => 0)

def quiescent_PostLossRefIdeal [hPostLossRefIdeal : Cert.PostLossRefIdeal.Facts] : Prop :=
  ∀ (m : (ℓ : Loc Cert.PostLossRefIdeal.nD Cert.PostLossRefIdeal.τ Cert.PostLossRefIdeal.sig) → Buf (Elt Ideal) ℓ) (g : Dev Cert.PostLossRefIdeal.nD → PrngReg), Pre_PostLossRefIdeal m →
    θ_run (Cert.PostLossRefIdeal.defs (F := Ideal)) (onTc (τ := Cert.PostLossRefIdeal.τ) (Cert.PostLossRefIdeal.main (F := Ideal))) ⟨m, fun _ => 0, g⟩ (fun r => (∀ c : Dev Cert.PostLossRefIdeal.nD,
      r.2.mem ((c.tc : Thread Cert.PostLossRefIdeal.nD Cert.PostLossRefIdeal.τ).loc Cert.PostLossRefIdeal.main_arg0) = m ((c.tc : Thread Cert.PostLossRefIdeal.nD Cert.PostLossRefIdeal.τ).loc Cert.PostLossRefIdeal.main_arg0)
      ∧ r.2.mem ((c.tc : Thread Cert.PostLossRefIdeal.nD Cert.PostLossRefIdeal.τ).loc Cert.PostLossRefIdeal.main_arg1) = m ((c.tc : Thread Cert.PostLossRefIdeal.nD Cert.PostLossRefIdeal.τ).loc Cert.PostLossRefIdeal.main_arg1)
      ∧ r.2.mem ((c.tc : Thread Cert.PostLossRefIdeal.nD Cert.PostLossRefIdeal.τ).loc Cert.PostLossRefIdeal.main_arg2) = m ((c.tc : Thread Cert.PostLossRefIdeal.nD Cert.PostLossRefIdeal.τ).loc Cert.PostLossRefIdeal.main_arg2)
      ∧ r.2.mem ((c.tc : Thread Cert.PostLossRefIdeal.nD Cert.PostLossRefIdeal.τ).loc Cert.PostLossRefIdeal.main_arg3) = m ((c.tc : Thread Cert.PostLossRefIdeal.nD Cert.PostLossRefIdeal.τ).loc Cert.PostLossRefIdeal.main_arg3))
      ∧ r.2.sem = fun _ => 0)

def quiescent_PostLossRefIdeal_pre_post_loss_finite [hPostLossRefIdeal : Cert.PostLossRefIdeal.Facts] [hPre_post_loss_finite : Cert.Pre_post_loss_finite.Facts] : Prop :=
  ∀ (m : (ℓ : Loc Cert.PostLossRefIdeal.nD Cert.PostLossRefIdeal.τ Cert.PostLossRefIdeal.sig) → Buf (Elt Ideal) ℓ) (g : Dev Cert.PostLossRefIdeal.nD → PrngReg), Pre_PostLossRefIdeal_post_loss_finite m →
    θ_run (Cert.PostLossRefIdeal.defs (F := Ideal)) (onTc (τ := Cert.PostLossRefIdeal.τ) (Cert.PostLossRefIdeal.main (F := Ideal))) ⟨m, fun _ => 0, g⟩ (fun r => (∀ c : Dev Cert.PostLossRefIdeal.nD,
      r.2.mem ((c.tc : Thread Cert.PostLossRefIdeal.nD Cert.PostLossRefIdeal.τ).loc Cert.PostLossRefIdeal.main_arg0) = m ((c.tc : Thread Cert.PostLossRefIdeal.nD Cert.PostLossRefIdeal.τ).loc Cert.PostLossRefIdeal.main_arg0)
      ∧ r.2.mem ((c.tc : Thread Cert.PostLossRefIdeal.nD Cert.PostLossRefIdeal.τ).loc Cert.PostLossRefIdeal.main_arg1) = m ((c.tc : Thread Cert.PostLossRefIdeal.nD Cert.PostLossRefIdeal.τ).loc Cert.PostLossRefIdeal.main_arg1)
      ∧ r.2.mem ((c.tc : Thread Cert.PostLossRefIdeal.nD Cert.PostLossRefIdeal.τ).loc Cert.PostLossRefIdeal.main_arg2) = m ((c.tc : Thread Cert.PostLossRefIdeal.nD Cert.PostLossRefIdeal.τ).loc Cert.PostLossRefIdeal.main_arg2)
      ∧ r.2.mem ((c.tc : Thread Cert.PostLossRefIdeal.nD Cert.PostLossRefIdeal.τ).loc Cert.PostLossRefIdeal.main_arg3) = m ((c.tc : Thread Cert.PostLossRefIdeal.nD Cert.PostLossRefIdeal.τ).loc Cert.PostLossRefIdeal.main_arg3))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1))
      ∧ r.2.sem = fun _ => 0)

def quiescent_NormFirstIdeal_pre_norm_first_finite [hNormFirstIdeal : Cert.NormFirstIdeal.Facts] [hPre_norm_first_finite : Cert.Pre_norm_first_finite.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal_norm_first_finite m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1))
      ∧ r.2.sem = fun _ => 0)

def quiescent_NormFirstRefIdeal_pre_norm_first_finite [hNormFirstRefIdeal : Cert.NormFirstRefIdeal.Facts] [hPre_norm_first_finite : Cert.Pre_norm_first_finite.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal_norm_first_finite m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1))
      ∧ r.2.sem = fun _ => 0)

def quiescent_PostPre [hPostPre : Cert.PostPre.Facts] : Prop :=
  ∀ (m : (ℓ : Loc Cert.PostPre.nD Cert.PostPre.τ Cert.PostPre.sig) → Buf (Elt Bits) ℓ) (g : Dev Cert.PostPre.nD → PrngReg), Pre_PostPre m →
    θ_run (Cert.PostPre.defs (F := Bits)) (onTc (τ := Cert.PostPre.τ) (Cert.PostPre.main (F := Bits))) ⟨m, fun _ => 0, g⟩ (fun r => (∀ c : Dev Cert.PostPre.nD,
      r.2.mem ((c.tc : Thread Cert.PostPre.nD Cert.PostPre.τ).loc Cert.PostPre.main_arg0) = m ((c.tc : Thread Cert.PostPre.nD Cert.PostPre.τ).loc Cert.PostPre.main_arg0)
      ∧ r.2.mem ((c.tc : Thread Cert.PostPre.nD Cert.PostPre.τ).loc Cert.PostPre.main_arg1) = m ((c.tc : Thread Cert.PostPre.nD Cert.PostPre.τ).loc Cert.PostPre.main_arg1)
      ∧ r.2.mem ((c.tc : Thread Cert.PostPre.nD Cert.PostPre.τ).loc Cert.PostPre.main_arg2) = m ((c.tc : Thread Cert.PostPre.nD Cert.PostPre.τ).loc Cert.PostPre.main_arg2)
      ∧ r.2.mem ((c.tc : Thread Cert.PostPre.nD Cert.PostPre.τ).loc Cert.PostPre.main_arg3) = m ((c.tc : Thread Cert.PostPre.nD Cert.PostPre.τ).loc Cert.PostPre.main_arg3))
      ∧ r.2.sem = fun _ => 0)

def quiescent_PostPreIdeal [hPostPreIdeal : Cert.PostPreIdeal.Facts] : Prop :=
  ∀ (m : (ℓ : Loc Cert.PostPreIdeal.nD Cert.PostPreIdeal.τ Cert.PostPreIdeal.sig) → Buf (Elt Ideal) ℓ) (g : Dev Cert.PostPreIdeal.nD → PrngReg), Pre_PostPreIdeal m →
    θ_run (Cert.PostPreIdeal.defs (F := Ideal)) (onTc (τ := Cert.PostPreIdeal.τ) (Cert.PostPreIdeal.main (F := Ideal))) ⟨m, fun _ => 0, g⟩ (fun r => (∀ c : Dev Cert.PostPreIdeal.nD,
      r.2.mem ((c.tc : Thread Cert.PostPreIdeal.nD Cert.PostPreIdeal.τ).loc Cert.PostPreIdeal.main_arg0) = m ((c.tc : Thread Cert.PostPreIdeal.nD Cert.PostPreIdeal.τ).loc Cert.PostPreIdeal.main_arg0)
      ∧ r.2.mem ((c.tc : Thread Cert.PostPreIdeal.nD Cert.PostPreIdeal.τ).loc Cert.PostPreIdeal.main_arg1) = m ((c.tc : Thread Cert.PostPreIdeal.nD Cert.PostPreIdeal.τ).loc Cert.PostPreIdeal.main_arg1)
      ∧ r.2.mem ((c.tc : Thread Cert.PostPreIdeal.nD Cert.PostPreIdeal.τ).loc Cert.PostPreIdeal.main_arg2) = m ((c.tc : Thread Cert.PostPreIdeal.nD Cert.PostPreIdeal.τ).loc Cert.PostPreIdeal.main_arg2)
      ∧ r.2.mem ((c.tc : Thread Cert.PostPreIdeal.nD Cert.PostPreIdeal.τ).loc Cert.PostPreIdeal.main_arg3) = m ((c.tc : Thread Cert.PostPreIdeal.nD Cert.PostPreIdeal.τ).loc Cert.PostPreIdeal.main_arg3))
      ∧ r.2.sem = fun _ => 0)

def quiescent_PostPreIdeal_pre_post_pre_finite [hPostPreIdeal : Cert.PostPreIdeal.Facts] [hPre_post_pre_finite : Cert.Pre_post_pre_finite.Facts] : Prop :=
  ∀ (m : (ℓ : Loc Cert.PostPreIdeal.nD Cert.PostPreIdeal.τ Cert.PostPreIdeal.sig) → Buf (Elt Ideal) ℓ) (g : Dev Cert.PostPreIdeal.nD → PrngReg), Pre_PostPreIdeal_post_pre_finite m →
    θ_run (Cert.PostPreIdeal.defs (F := Ideal)) (onTc (τ := Cert.PostPreIdeal.τ) (Cert.PostPreIdeal.main (F := Ideal))) ⟨m, fun _ => 0, g⟩ (fun r => (∀ c : Dev Cert.PostPreIdeal.nD,
      r.2.mem ((c.tc : Thread Cert.PostPreIdeal.nD Cert.PostPreIdeal.τ).loc Cert.PostPreIdeal.main_arg0) = m ((c.tc : Thread Cert.PostPreIdeal.nD Cert.PostPreIdeal.τ).loc Cert.PostPreIdeal.main_arg0)
      ∧ r.2.mem ((c.tc : Thread Cert.PostPreIdeal.nD Cert.PostPreIdeal.τ).loc Cert.PostPreIdeal.main_arg1) = m ((c.tc : Thread Cert.PostPreIdeal.nD Cert.PostPreIdeal.τ).loc Cert.PostPreIdeal.main_arg1)
      ∧ r.2.mem ((c.tc : Thread Cert.PostPreIdeal.nD Cert.PostPreIdeal.τ).loc Cert.PostPreIdeal.main_arg2) = m ((c.tc : Thread Cert.PostPreIdeal.nD Cert.PostPreIdeal.τ).loc Cert.PostPreIdeal.main_arg2)
      ∧ r.2.mem ((c.tc : Thread Cert.PostPreIdeal.nD Cert.PostPreIdeal.τ).loc Cert.PostPreIdeal.main_arg3) = m ((c.tc : Thread Cert.PostPreIdeal.nD Cert.PostPreIdeal.τ).loc Cert.PostPreIdeal.main_arg3))
      ∧ r.2.sem = fun _ => 0)

def quiescent_PostPreRefIdeal [hPostPreRefIdeal : Cert.PostPreRefIdeal.Facts] : Prop :=
  ∀ (m : (ℓ : Loc Cert.PostPreRefIdeal.nD Cert.PostPreRefIdeal.τ Cert.PostPreRefIdeal.sig) → Buf (Elt Ideal) ℓ) (g : Dev Cert.PostPreRefIdeal.nD → PrngReg), Pre_PostPreRefIdeal m →
    θ_run (Cert.PostPreRefIdeal.defs (F := Ideal)) (onTc (τ := Cert.PostPreRefIdeal.τ) (Cert.PostPreRefIdeal.main (F := Ideal))) ⟨m, fun _ => 0, g⟩ (fun r => (∀ c : Dev Cert.PostPreRefIdeal.nD,
      r.2.mem ((c.tc : Thread Cert.PostPreRefIdeal.nD Cert.PostPreRefIdeal.τ).loc Cert.PostPreRefIdeal.main_arg0) = m ((c.tc : Thread Cert.PostPreRefIdeal.nD Cert.PostPreRefIdeal.τ).loc Cert.PostPreRefIdeal.main_arg0)
      ∧ r.2.mem ((c.tc : Thread Cert.PostPreRefIdeal.nD Cert.PostPreRefIdeal.τ).loc Cert.PostPreRefIdeal.main_arg1) = m ((c.tc : Thread Cert.PostPreRefIdeal.nD Cert.PostPreRefIdeal.τ).loc Cert.PostPreRefIdeal.main_arg1)
      ∧ r.2.mem ((c.tc : Thread Cert.PostPreRefIdeal.nD Cert.PostPreRefIdeal.τ).loc Cert.PostPreRefIdeal.main_arg2) = m ((c.tc : Thread Cert.PostPreRefIdeal.nD Cert.PostPreRefIdeal.τ).loc Cert.PostPreRefIdeal.main_arg2)
      ∧ r.2.mem ((c.tc : Thread Cert.PostPreRefIdeal.nD Cert.PostPreRefIdeal.τ).loc Cert.PostPreRefIdeal.main_arg3) = m ((c.tc : Thread Cert.PostPreRefIdeal.nD Cert.PostPreRefIdeal.τ).loc Cert.PostPreRefIdeal.main_arg3))
      ∧ r.2.sem = fun _ => 0)

def quiescent_PostPreRefIdeal_pre_post_pre_finite [hPostPreRefIdeal : Cert.PostPreRefIdeal.Facts] [hPre_post_pre_finite : Cert.Pre_post_pre_finite.Facts] : Prop :=
  ∀ (m : (ℓ : Loc Cert.PostPreRefIdeal.nD Cert.PostPreRefIdeal.τ Cert.PostPreRefIdeal.sig) → Buf (Elt Ideal) ℓ) (g : Dev Cert.PostPreRefIdeal.nD → PrngReg), Pre_PostPreRefIdeal_post_pre_finite m →
    θ_run (Cert.PostPreRefIdeal.defs (F := Ideal)) (onTc (τ := Cert.PostPreRefIdeal.τ) (Cert.PostPreRefIdeal.main (F := Ideal))) ⟨m, fun _ => 0, g⟩ (fun r => (∀ c : Dev Cert.PostPreRefIdeal.nD,
      r.2.mem ((c.tc : Thread Cert.PostPreRefIdeal.nD Cert.PostPreRefIdeal.τ).loc Cert.PostPreRefIdeal.main_arg0) = m ((c.tc : Thread Cert.PostPreRefIdeal.nD Cert.PostPreRefIdeal.τ).loc Cert.PostPreRefIdeal.main_arg0)
      ∧ r.2.mem ((c.tc : Thread Cert.PostPreRefIdeal.nD Cert.PostPreRefIdeal.τ).loc Cert.PostPreRefIdeal.main_arg1) = m ((c.tc : Thread Cert.PostPreRefIdeal.nD Cert.PostPreRefIdeal.τ).loc Cert.PostPreRefIdeal.main_arg1)
      ∧ r.2.mem ((c.tc : Thread Cert.PostPreRefIdeal.nD Cert.PostPreRefIdeal.τ).loc Cert.PostPreRefIdeal.main_arg2) = m ((c.tc : Thread Cert.PostPreRefIdeal.nD Cert.PostPreRefIdeal.τ).loc Cert.PostPreRefIdeal.main_arg2)
      ∧ r.2.mem ((c.tc : Thread Cert.PostPreRefIdeal.nD Cert.PostPreRefIdeal.τ).loc Cert.PostPreRefIdeal.main_arg3) = m ((c.tc : Thread Cert.PostPreRefIdeal.nD Cert.PostPreRefIdeal.τ).loc Cert.PostPreRefIdeal.main_arg3))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdIdeal_pre_swa_fwd_finite [hSwaFwdIdeal : Cert.SwaFwdIdeal.Facts] [hPre_swa_fwd_finite : Cert.Pre_swa_fwd_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_swa_fwd_finite m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2))
      ∧ r.2.sem = fun _ => 0)

def quiescent_SwaFwdRefIdeal_pre_swa_fwd_finite [hSwaFwdRefIdeal : Cert.SwaFwdRefIdeal.Facts] [hPre_swa_fwd_finite : Cert.Pre_swa_fwd_finite.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_swa_fwd_finite m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1))
      ∧ r.2.sem = fun _ => 0)

def quiescent_MmUpD [hMmUpD : Cert.MmUpD.Facts] : Prop :=
  ∀ (m : (ℓ : Loc Cert.MmUpD.nD Cert.MmUpD.τ Cert.MmUpD.sig) → Buf (Elt Bits) ℓ) (g : Dev Cert.MmUpD.nD → PrngReg), Pre_MmUpD m →
    θ_run (Cert.MmUpD.defs (F := Bits)) (onTc (τ := Cert.MmUpD.τ) (Cert.MmUpD.main (F := Bits))) ⟨m, fun _ => 0, g⟩ (fun r => (∀ c : Dev Cert.MmUpD.nD,
      r.2.mem ((c.tc : Thread Cert.MmUpD.nD Cert.MmUpD.τ).loc Cert.MmUpD.main_arg0) = m ((c.tc : Thread Cert.MmUpD.nD Cert.MmUpD.τ).loc Cert.MmUpD.main_arg0)
      ∧ r.2.mem ((c.tc : Thread Cert.MmUpD.nD Cert.MmUpD.τ).loc Cert.MmUpD.main_arg1) = m ((c.tc : Thread Cert.MmUpD.nD Cert.MmUpD.τ).loc Cert.MmUpD.main_arg1))
      ∧ r.2.sem = fun _ => 0)

def quiescent_MmUpDIdeal [hMmUpDIdeal : Cert.MmUpDIdeal.Facts] : Prop :=
  ∀ (m : (ℓ : Loc Cert.MmUpDIdeal.nD Cert.MmUpDIdeal.τ Cert.MmUpDIdeal.sig) → Buf (Elt Ideal) ℓ) (g : Dev Cert.MmUpDIdeal.nD → PrngReg), Pre_MmUpDIdeal m →
    θ_run (Cert.MmUpDIdeal.defs (F := Ideal)) (onTc (τ := Cert.MmUpDIdeal.τ) (Cert.MmUpDIdeal.main (F := Ideal))) ⟨m, fun _ => 0, g⟩ (fun r => (∀ c : Dev Cert.MmUpDIdeal.nD,
      r.2.mem ((c.tc : Thread Cert.MmUpDIdeal.nD Cert.MmUpDIdeal.τ).loc Cert.MmUpDIdeal.main_arg0) = m ((c.tc : Thread Cert.MmUpDIdeal.nD Cert.MmUpDIdeal.τ).loc Cert.MmUpDIdeal.main_arg0)
      ∧ r.2.mem ((c.tc : Thread Cert.MmUpDIdeal.nD Cert.MmUpDIdeal.τ).loc Cert.MmUpDIdeal.main_arg1) = m ((c.tc : Thread Cert.MmUpDIdeal.nD Cert.MmUpDIdeal.τ).loc Cert.MmUpDIdeal.main_arg1))
      ∧ r.2.sem = fun _ => 0)

def quiescent_MmUpDRefIdeal [hMmUpDRefIdeal : Cert.MmUpDRefIdeal.Facts] : Prop :=
  ∀ (m : (ℓ : Loc Cert.MmUpDRefIdeal.nD Cert.MmUpDRefIdeal.τ Cert.MmUpDRefIdeal.sig) → Buf (Elt Ideal) ℓ) (g : Dev Cert.MmUpDRefIdeal.nD → PrngReg), Pre_MmUpDRefIdeal m →
    θ_run (Cert.MmUpDRefIdeal.defs (F := Ideal)) (onTc (τ := Cert.MmUpDRefIdeal.τ) (Cert.MmUpDRefIdeal.main (F := Ideal))) ⟨m, fun _ => 0, g⟩ (fun r => (∀ c : Dev Cert.MmUpDRefIdeal.nD,
      r.2.mem ((c.tc : Thread Cert.MmUpDRefIdeal.nD Cert.MmUpDRefIdeal.τ).loc Cert.MmUpDRefIdeal.main_arg0) = m ((c.tc : Thread Cert.MmUpDRefIdeal.nD Cert.MmUpDRefIdeal.τ).loc Cert.MmUpDRefIdeal.main_arg0)
      ∧ r.2.mem ((c.tc : Thread Cert.MmUpDRefIdeal.nD Cert.MmUpDRefIdeal.τ).loc Cert.MmUpDRefIdeal.main_arg1) = m ((c.tc : Thread Cert.MmUpDRefIdeal.nD Cert.MmUpDRefIdeal.τ).loc Cert.MmUpDRefIdeal.main_arg1))
      ∧ r.2.sem = fun _ => 0)

def quiescent_MmUpW [hMmUpW : Cert.MmUpW.Facts] : Prop :=
  ∀ (m : (ℓ : Loc Cert.MmUpW.nD Cert.MmUpW.τ Cert.MmUpW.sig) → Buf (Elt Bits) ℓ) (g : Dev Cert.MmUpW.nD → PrngReg), Pre_MmUpW m →
    θ_run (Cert.MmUpW.defs (F := Bits)) (onTc (τ := Cert.MmUpW.τ) (Cert.MmUpW.main (F := Bits))) ⟨m, fun _ => 0, g⟩ (fun r => (∀ c : Dev Cert.MmUpW.nD,
      r.2.mem ((c.tc : Thread Cert.MmUpW.nD Cert.MmUpW.τ).loc Cert.MmUpW.main_arg0) = m ((c.tc : Thread Cert.MmUpW.nD Cert.MmUpW.τ).loc Cert.MmUpW.main_arg0)
      ∧ r.2.mem ((c.tc : Thread Cert.MmUpW.nD Cert.MmUpW.τ).loc Cert.MmUpW.main_arg1) = m ((c.tc : Thread Cert.MmUpW.nD Cert.MmUpW.τ).loc Cert.MmUpW.main_arg1))
      ∧ r.2.sem = fun _ => 0)

def quiescent_MmUpWIdeal [hMmUpWIdeal : Cert.MmUpWIdeal.Facts] : Prop :=
  ∀ (m : (ℓ : Loc Cert.MmUpWIdeal.nD Cert.MmUpWIdeal.τ Cert.MmUpWIdeal.sig) → Buf (Elt Ideal) ℓ) (g : Dev Cert.MmUpWIdeal.nD → PrngReg), Pre_MmUpWIdeal m →
    θ_run (Cert.MmUpWIdeal.defs (F := Ideal)) (onTc (τ := Cert.MmUpWIdeal.τ) (Cert.MmUpWIdeal.main (F := Ideal))) ⟨m, fun _ => 0, g⟩ (fun r => (∀ c : Dev Cert.MmUpWIdeal.nD,
      r.2.mem ((c.tc : Thread Cert.MmUpWIdeal.nD Cert.MmUpWIdeal.τ).loc Cert.MmUpWIdeal.main_arg0) = m ((c.tc : Thread Cert.MmUpWIdeal.nD Cert.MmUpWIdeal.τ).loc Cert.MmUpWIdeal.main_arg0)
      ∧ r.2.mem ((c.tc : Thread Cert.MmUpWIdeal.nD Cert.MmUpWIdeal.τ).loc Cert.MmUpWIdeal.main_arg1) = m ((c.tc : Thread Cert.MmUpWIdeal.nD Cert.MmUpWIdeal.τ).loc Cert.MmUpWIdeal.main_arg1))
      ∧ r.2.sem = fun _ => 0)

def quiescent_MmUpWRefIdeal [hMmUpWRefIdeal : Cert.MmUpWRefIdeal.Facts] : Prop :=
  ∀ (m : (ℓ : Loc Cert.MmUpWRefIdeal.nD Cert.MmUpWRefIdeal.τ Cert.MmUpWRefIdeal.sig) → Buf (Elt Ideal) ℓ) (g : Dev Cert.MmUpWRefIdeal.nD → PrngReg), Pre_MmUpWRefIdeal m →
    θ_run (Cert.MmUpWRefIdeal.defs (F := Ideal)) (onTc (τ := Cert.MmUpWRefIdeal.τ) (Cert.MmUpWRefIdeal.main (F := Ideal))) ⟨m, fun _ => 0, g⟩ (fun r => (∀ c : Dev Cert.MmUpWRefIdeal.nD,
      r.2.mem ((c.tc : Thread Cert.MmUpWRefIdeal.nD Cert.MmUpWRefIdeal.τ).loc Cert.MmUpWRefIdeal.main_arg0) = m ((c.tc : Thread Cert.MmUpWRefIdeal.nD Cert.MmUpWRefIdeal.τ).loc Cert.MmUpWRefIdeal.main_arg0)
      ∧ r.2.mem ((c.tc : Thread Cert.MmUpWRefIdeal.nD Cert.MmUpWRefIdeal.τ).loc Cert.MmUpWRefIdeal.main_arg1) = m ((c.tc : Thread Cert.MmUpWRefIdeal.nD Cert.MmUpWRefIdeal.τ).loc Cert.MmUpWRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_SumSlabs [hSumSlabs : Cert.SumSlabs.Facts] : Prop :=
  ∀ (m : (ℓ : Loc Cert.SumSlabs.nD Cert.SumSlabs.τ Cert.SumSlabs.sig) → Buf (Elt Bits) ℓ) (g : Dev Cert.SumSlabs.nD → PrngReg), Pre_SumSlabs m →
    θ_run (Cert.SumSlabs.defs (F := Bits)) (onTc (τ := Cert.SumSlabs.τ) (Cert.SumSlabs.main (F := Bits))) ⟨m, fun _ => 0, g⟩ (fun r => (∀ c : Dev Cert.SumSlabs.nD,
      r.2.mem ((c.tc : Thread Cert.SumSlabs.nD Cert.SumSlabs.τ).loc Cert.SumSlabs.main_arg0) = m ((c.tc : Thread Cert.SumSlabs.nD Cert.SumSlabs.τ).loc Cert.SumSlabs.main_arg0))
      ∧ r.2.sem = fun _ => 0)

def quiescent_SumSlabsIdeal [hSumSlabsIdeal : Cert.SumSlabsIdeal.Facts] : Prop :=
  ∀ (m : (ℓ : Loc Cert.SumSlabsIdeal.nD Cert.SumSlabsIdeal.τ Cert.SumSlabsIdeal.sig) → Buf (Elt Ideal) ℓ) (g : Dev Cert.SumSlabsIdeal.nD → PrngReg), Pre_SumSlabsIdeal m →
    θ_run (Cert.SumSlabsIdeal.defs (F := Ideal)) (onTc (τ := Cert.SumSlabsIdeal.τ) (Cert.SumSlabsIdeal.main (F := Ideal))) ⟨m, fun _ => 0, g⟩ (fun r => (∀ c : Dev Cert.SumSlabsIdeal.nD,
      r.2.mem ((c.tc : Thread Cert.SumSlabsIdeal.nD Cert.SumSlabsIdeal.τ).loc Cert.SumSlabsIdeal.main_arg0) = m ((c.tc : Thread Cert.SumSlabsIdeal.nD Cert.SumSlabsIdeal.τ).loc Cert.SumSlabsIdeal.main_arg0))
      ∧ r.2.sem = fun _ => 0)

def quiescent_SumSlabsRefIdeal [hSumSlabsRefIdeal : Cert.SumSlabsRefIdeal.Facts] : Prop :=
  ∀ (m : (ℓ : Loc Cert.SumSlabsRefIdeal.nD Cert.SumSlabsRefIdeal.τ Cert.SumSlabsRefIdeal.sig) → Buf (Elt Ideal) ℓ) (g : Dev Cert.SumSlabsRefIdeal.nD → PrngReg), Pre_SumSlabsRefIdeal m →
    θ_run (Cert.SumSlabsRefIdeal.defs (F := Ideal)) (onTc (τ := Cert.SumSlabsRefIdeal.τ) (Cert.SumSlabsRefIdeal.main (F := Ideal))) ⟨m, fun _ => 0, g⟩ (fun r => (∀ c : Dev Cert.SumSlabsRefIdeal.nD,
      r.2.mem ((c.tc : Thread Cert.SumSlabsRefIdeal.nD Cert.SumSlabsRefIdeal.τ).loc Cert.SumSlabsRefIdeal.main_arg0) = m ((c.tc : Thread Cert.SumSlabsRefIdeal.nD Cert.SumSlabsRefIdeal.τ).loc Cert.SumSlabsRefIdeal.main_arg0))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1)
      ∧ r.2.mem ((c.tc : Thread Cert.Pack.nD Cert.Pack.τ).loc Cert.Pack.main_arg2) = m ((c.tc : Thread Cert.Pack.nD Cert.Pack.τ).loc Cert.Pack.main_arg2)
      ∧ r.2.mem ((c.tc : Thread Cert.Pack.nD Cert.Pack.τ).loc Cert.Pack.main_arg3) = m ((c.tc : Thread Cert.Pack.nD Cert.Pack.τ).loc Cert.Pack.main_arg3)
      ∧ r.2.mem ((c.tc : Thread Cert.Pack.nD Cert.Pack.τ).loc Cert.Pack.main_arg4) = m ((c.tc : Thread Cert.Pack.nD Cert.Pack.τ).loc Cert.Pack.main_arg4)
      ∧ r.2.mem ((c.tc : Thread Cert.Pack.nD Cert.Pack.τ).loc Cert.Pack.main_arg5) = m ((c.tc : Thread Cert.Pack.nD Cert.Pack.τ).loc Cert.Pack.main_arg5)
      ∧ r.2.mem ((c.tc : Thread Cert.Pack.nD Cert.Pack.τ).loc Cert.Pack.main_arg6) = m ((c.tc : Thread Cert.Pack.nD Cert.Pack.τ).loc Cert.Pack.main_arg6)
      ∧ r.2.mem ((c.tc : Thread Cert.Pack.nD Cert.Pack.τ).loc Cert.Pack.main_arg7) = m ((c.tc : Thread Cert.Pack.nD Cert.Pack.τ).loc Cert.Pack.main_arg7)
      ∧ r.2.mem ((c.tc : Thread Cert.Pack.nD Cert.Pack.τ).loc Cert.Pack.main_arg8) = m ((c.tc : Thread Cert.Pack.nD Cert.Pack.τ).loc Cert.Pack.main_arg8)
      ∧ r.2.mem ((c.tc : Thread Cert.Pack.nD Cert.Pack.τ).loc Cert.Pack.main_arg9) = m ((c.tc : Thread Cert.Pack.nD Cert.Pack.τ).loc Cert.Pack.main_arg9)
      ∧ r.2.mem ((c.tc : Thread Cert.Pack.nD Cert.Pack.τ).loc Cert.Pack.main_arg10) = m ((c.tc : Thread Cert.Pack.nD Cert.Pack.τ).loc Cert.Pack.main_arg10)
      ∧ r.2.mem ((c.tc : Thread Cert.Pack.nD Cert.Pack.τ).loc Cert.Pack.main_arg11) = m ((c.tc : Thread Cert.Pack.nD Cert.Pack.τ).loc Cert.Pack.main_arg11)
      ∧ r.2.mem ((c.tc : Thread Cert.Pack.nD Cert.Pack.τ).loc Cert.Pack.main_arg12) = m ((c.tc : Thread Cert.Pack.nD Cert.Pack.τ).loc Cert.Pack.main_arg12)
      ∧ r.2.mem ((c.tc : Thread Cert.Pack.nD Cert.Pack.τ).loc Cert.Pack.main_arg13) = m ((c.tc : Thread Cert.Pack.nD Cert.Pack.τ).loc Cert.Pack.main_arg13)
      ∧ r.2.mem ((c.tc : Thread Cert.Pack.nD Cert.Pack.τ).loc Cert.Pack.main_arg14) = m ((c.tc : Thread Cert.Pack.nD Cert.Pack.τ).loc Cert.Pack.main_arg14)
      ∧ r.2.mem ((c.tc : Thread Cert.Pack.nD Cert.Pack.τ).loc Cert.Pack.main_arg15) = m ((c.tc : Thread Cert.Pack.nD Cert.Pack.τ).loc Cert.Pack.main_arg15)
      ∧ r.2.mem ((c.tc : Thread Cert.Pack.nD Cert.Pack.τ).loc Cert.Pack.main_arg16) = m ((c.tc : Thread Cert.Pack.nD Cert.Pack.τ).loc Cert.Pack.main_arg16)
      ∧ r.2.mem ((c.tc : Thread Cert.Pack.nD Cert.Pack.τ).loc Cert.Pack.main_arg17) = m ((c.tc : Thread Cert.Pack.nD Cert.Pack.τ).loc Cert.Pack.main_arg17)
      ∧ r.2.mem ((c.tc : Thread Cert.Pack.nD Cert.Pack.τ).loc Cert.Pack.main_arg18) = m ((c.tc : Thread Cert.Pack.nD Cert.Pack.τ).loc Cert.Pack.main_arg18)
      ∧ r.2.mem ((c.tc : Thread Cert.Pack.nD Cert.Pack.τ).loc Cert.Pack.main_arg19) = m ((c.tc : Thread Cert.Pack.nD Cert.Pack.τ).loc Cert.Pack.main_arg19)
      ∧ r.2.mem ((c.tc : Thread Cert.Pack.nD Cert.Pack.τ).loc Cert.Pack.main_arg20) = m ((c.tc : Thread Cert.Pack.nD Cert.Pack.τ).loc Cert.Pack.main_arg20)
      ∧ r.2.mem ((c.tc : Thread Cert.Pack.nD Cert.Pack.τ).loc Cert.Pack.main_arg21) = m ((c.tc : Thread Cert.Pack.nD Cert.Pack.τ).loc Cert.Pack.main_arg21)
      ∧ r.2.mem ((c.tc : Thread Cert.Pack.nD Cert.Pack.τ).loc Cert.Pack.main_arg22) = m ((c.tc : Thread Cert.Pack.nD Cert.Pack.τ).loc Cert.Pack.main_arg22)
      ∧ r.2.mem ((c.tc : Thread Cert.Pack.nD Cert.Pack.τ).loc Cert.Pack.main_arg23) = m ((c.tc : Thread Cert.Pack.nD Cert.Pack.τ).loc Cert.Pack.main_arg23)
      ∧ r.2.mem ((c.tc : Thread Cert.Pack.nD Cert.Pack.τ).loc Cert.Pack.main_arg24) = m ((c.tc : Thread Cert.Pack.nD Cert.Pack.τ).loc Cert.Pack.main_arg24)
      ∧ r.2.mem ((c.tc : Thread Cert.Pack.nD Cert.Pack.τ).loc Cert.Pack.main_arg25) = m ((c.tc : Thread Cert.Pack.nD Cert.Pack.τ).loc Cert.Pack.main_arg25)
      ∧ r.2.mem ((c.tc : Thread Cert.Pack.nD Cert.Pack.τ).loc Cert.Pack.main_arg26) = m ((c.tc : Thread Cert.Pack.nD Cert.Pack.τ).loc Cert.Pack.main_arg26)
      ∧ r.2.mem ((c.tc : Thread Cert.Pack.nD Cert.Pack.τ).loc Cert.Pack.main_arg27) = m ((c.tc : Thread Cert.Pack.nD Cert.Pack.τ).loc Cert.Pack.main_arg27)
      ∧ r.2.mem ((c.tc : Thread Cert.Pack.nD Cert.Pack.τ).loc Cert.Pack.main_arg28) = m ((c.tc : Thread Cert.Pack.nD Cert.Pack.τ).loc Cert.Pack.main_arg28)
      ∧ r.2.mem ((c.tc : Thread Cert.Pack.nD Cert.Pack.τ).loc Cert.Pack.main_arg29) = m ((c.tc : Thread Cert.Pack.nD Cert.Pack.τ).loc Cert.Pack.main_arg29)
      ∧ r.2.mem ((c.tc : Thread Cert.Pack.nD Cert.Pack.τ).loc Cert.Pack.main_arg30) = m ((c.tc : Thread Cert.Pack.nD Cert.Pack.τ).loc Cert.Pack.main_arg30)
      ∧ r.2.mem ((c.tc : Thread Cert.Pack.nD Cert.Pack.τ).loc Cert.Pack.main_arg31) = m ((c.tc : Thread Cert.Pack.nD Cert.Pack.τ).loc Cert.Pack.main_arg31)
      ∧ r.2.mem ((c.tc : Thread Cert.Pack.nD Cert.Pack.τ).loc Cert.Pack.main_arg32) = m ((c.tc : Thread Cert.Pack.nD Cert.Pack.τ).loc Cert.Pack.main_arg32)
      ∧ r.2.mem ((c.tc : Thread Cert.Pack.nD Cert.Pack.τ).loc Cert.Pack.main_arg33) = m ((c.tc : Thread Cert.Pack.nD Cert.Pack.τ).loc Cert.Pack.main_arg33)
      ∧ r.2.mem ((c.tc : Thread Cert.Pack.nD Cert.Pack.τ).loc Cert.Pack.main_arg34) = m ((c.tc : Thread Cert.Pack.nD Cert.Pack.τ).loc Cert.Pack.main_arg34)
      ∧ r.2.mem ((c.tc : Thread Cert.Pack.nD Cert.Pack.τ).loc Cert.Pack.main_arg35) = m ((c.tc : Thread Cert.Pack.nD Cert.Pack.τ).loc Cert.Pack.main_arg35)
      ∧ r.2.mem ((c.tc : Thread Cert.Pack.nD Cert.Pack.τ).loc Cert.Pack.main_arg36) = m ((c.tc : Thread Cert.Pack.nD Cert.Pack.τ).loc Cert.Pack.main_arg36)
      ∧ r.2.mem ((c.tc : Thread Cert.Pack.nD Cert.Pack.τ).loc Cert.Pack.main_arg37) = m ((c.tc : Thread Cert.Pack.nD Cert.Pack.τ).loc Cert.Pack.main_arg37)
      ∧ r.2.mem ((c.tc : Thread Cert.Pack.nD Cert.Pack.τ).loc Cert.Pack.main_arg38) = m ((c.tc : Thread Cert.Pack.nD Cert.Pack.τ).loc Cert.Pack.main_arg38)
      ∧ r.2.mem ((c.tc : Thread Cert.Pack.nD Cert.Pack.τ).loc Cert.Pack.main_arg39) = m ((c.tc : Thread Cert.Pack.nD Cert.Pack.τ).loc Cert.Pack.main_arg39)
      ∧ r.2.mem ((c.tc : Thread Cert.Pack.nD Cert.Pack.τ).loc Cert.Pack.main_arg40) = m ((c.tc : Thread Cert.Pack.nD Cert.Pack.τ).loc Cert.Pack.main_arg40)
      ∧ r.2.mem ((c.tc : Thread Cert.Pack.nD Cert.Pack.τ).loc Cert.Pack.main_arg41) = m ((c.tc : Thread Cert.Pack.nD Cert.Pack.τ).loc Cert.Pack.main_arg41)
      ∧ r.2.mem ((c.tc : Thread Cert.Pack.nD Cert.Pack.τ).loc Cert.Pack.main_arg42) = m ((c.tc : Thread Cert.Pack.nD Cert.Pack.τ).loc Cert.Pack.main_arg42)
      ∧ r.2.mem ((c.tc : Thread Cert.Pack.nD Cert.Pack.τ).loc Cert.Pack.main_arg43) = m ((c.tc : Thread Cert.Pack.nD Cert.Pack.τ).loc Cert.Pack.main_arg43)
      ∧ r.2.mem ((c.tc : Thread Cert.Pack.nD Cert.Pack.τ).loc Cert.Pack.main_arg44) = m ((c.tc : Thread Cert.Pack.nD Cert.Pack.τ).loc Cert.Pack.main_arg44)
      ∧ r.2.mem ((c.tc : Thread Cert.Pack.nD Cert.Pack.τ).loc Cert.Pack.main_arg45) = m ((c.tc : Thread Cert.Pack.nD Cert.Pack.τ).loc Cert.Pack.main_arg45)
      ∧ r.2.mem ((c.tc : Thread Cert.Pack.nD Cert.Pack.τ).loc Cert.Pack.main_arg46) = m ((c.tc : Thread Cert.Pack.nD Cert.Pack.τ).loc Cert.Pack.main_arg46)
      ∧ r.2.mem ((c.tc : Thread Cert.Pack.nD Cert.Pack.τ).loc Cert.Pack.main_arg47) = m ((c.tc : Thread Cert.Pack.nD Cert.Pack.τ).loc Cert.Pack.main_arg47)
      ∧ r.2.mem ((c.tc : Thread Cert.Pack.nD Cert.Pack.τ).loc Cert.Pack.main_arg48) = m ((c.tc : Thread Cert.Pack.nD Cert.Pack.τ).loc Cert.Pack.main_arg48)
      ∧ r.2.mem ((c.tc : Thread Cert.Pack.nD Cert.Pack.τ).loc Cert.Pack.main_arg49) = m ((c.tc : Thread Cert.Pack.nD Cert.Pack.τ).loc Cert.Pack.main_arg49)
      ∧ r.2.mem ((c.tc : Thread Cert.Pack.nD Cert.Pack.τ).loc Cert.Pack.main_arg50) = m ((c.tc : Thread Cert.Pack.nD Cert.Pack.τ).loc Cert.Pack.main_arg50)
      ∧ r.2.mem ((c.tc : Thread Cert.Pack.nD Cert.Pack.τ).loc Cert.Pack.main_arg51) = m ((c.tc : Thread Cert.Pack.nD Cert.Pack.τ).loc Cert.Pack.main_arg51))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
      ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
      ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
      ∧ r.2.mem ((c.tc : Thread Cert.PackIdeal.nD Cert.PackIdeal.τ).loc Cert.PackIdeal.main_arg6) = m ((c.tc : Thread Cert.PackIdeal.nD Cert.PackIdeal.τ).loc Cert.PackIdeal.main_arg6)
      ∧ r.2.mem ((c.tc : Thread Cert.PackIdeal.nD Cert.PackIdeal.τ).loc Cert.PackIdeal.main_arg7) = m ((c.tc : Thread Cert.PackIdeal.nD Cert.PackIdeal.τ).loc Cert.PackIdeal.main_arg7)
      ∧ r.2.mem ((c.tc : Thread Cert.PackIdeal.nD Cert.PackIdeal.τ).loc Cert.PackIdeal.main_arg8) = m ((c.tc : Thread Cert.PackIdeal.nD Cert.PackIdeal.τ).loc Cert.PackIdeal.main_arg8)
      ∧ r.2.mem ((c.tc : Thread Cert.PackIdeal.nD Cert.PackIdeal.τ).loc Cert.PackIdeal.main_arg9) = m ((c.tc : Thread Cert.PackIdeal.nD Cert.PackIdeal.τ).loc Cert.PackIdeal.main_arg9)
      ∧ r.2.mem ((c.tc : Thread Cert.PackIdeal.nD Cert.PackIdeal.τ).loc Cert.PackIdeal.main_arg10) = m ((c.tc : Thread Cert.PackIdeal.nD Cert.PackIdeal.τ).loc Cert.PackIdeal.main_arg10)
      ∧ r.2.mem ((c.tc : Thread Cert.PackIdeal.nD Cert.PackIdeal.τ).loc Cert.PackIdeal.main_arg11) = m ((c.tc : Thread Cert.PackIdeal.nD Cert.PackIdeal.τ).loc Cert.PackIdeal.main_arg11)
      ∧ r.2.mem ((c.tc : Thread Cert.PackIdeal.nD Cert.PackIdeal.τ).loc Cert.PackIdeal.main_arg12) = m ((c.tc : Thread Cert.PackIdeal.nD Cert.PackIdeal.τ).loc Cert.PackIdeal.main_arg12)
      ∧ r.2.mem ((c.tc : Thread Cert.PackIdeal.nD Cert.PackIdeal.τ).loc Cert.PackIdeal.main_arg13) = m ((c.tc : Thread Cert.PackIdeal.nD Cert.PackIdeal.τ).loc Cert.PackIdeal.main_arg13)
      ∧ r.2.mem ((c.tc : Thread Cert.PackIdeal.nD Cert.PackIdeal.τ).loc Cert.PackIdeal.main_arg14) = m ((c.tc : Thread Cert.PackIdeal.nD Cert.PackIdeal.τ).loc Cert.PackIdeal.main_arg14)
      ∧ r.2.mem ((c.tc : Thread Cert.PackIdeal.nD Cert.PackIdeal.τ).loc Cert.PackIdeal.main_arg15) = m ((c.tc : Thread Cert.PackIdeal.nD Cert.PackIdeal.τ).loc Cert.PackIdeal.main_arg15)
      ∧ r.2.mem ((c.tc : Thread Cert.PackIdeal.nD Cert.PackIdeal.τ).loc Cert.PackIdeal.main_arg16) = m ((c.tc : Thread Cert.PackIdeal.nD Cert.PackIdeal.τ).loc Cert.PackIdeal.main_arg16)
      ∧ r.2.mem ((c.tc : Thread Cert.PackIdeal.nD Cert.PackIdeal.τ).loc Cert.PackIdeal.main_arg17) = m ((c.tc : Thread Cert.PackIdeal.nD Cert.PackIdeal.τ).loc Cert.PackIdeal.main_arg17)
      ∧ r.2.mem ((c.tc : Thread Cert.PackIdeal.nD Cert.PackIdeal.τ).loc Cert.PackIdeal.main_arg18) = m ((c.tc : Thread Cert.PackIdeal.nD Cert.PackIdeal.τ).loc Cert.PackIdeal.main_arg18)
      ∧ r.2.mem ((c.tc : Thread Cert.PackIdeal.nD Cert.PackIdeal.τ).loc Cert.PackIdeal.main_arg19) = m ((c.tc : Thread Cert.PackIdeal.nD Cert.PackIdeal.τ).loc Cert.PackIdeal.main_arg19)
      ∧ r.2.mem ((c.tc : Thread Cert.PackIdeal.nD Cert.PackIdeal.τ).loc Cert.PackIdeal.main_arg20) = m ((c.tc : Thread Cert.PackIdeal.nD Cert.PackIdeal.τ).loc Cert.PackIdeal.main_arg20)
      ∧ r.2.mem ((c.tc : Thread Cert.PackIdeal.nD Cert.PackIdeal.τ).loc Cert.PackIdeal.main_arg21) = m ((c.tc : Thread Cert.PackIdeal.nD Cert.PackIdeal.τ).loc Cert.PackIdeal.main_arg21)
      ∧ r.2.mem ((c.tc : Thread Cert.PackIdeal.nD Cert.PackIdeal.τ).loc Cert.PackIdeal.main_arg22) = m ((c.tc : Thread Cert.PackIdeal.nD Cert.PackIdeal.τ).loc Cert.PackIdeal.main_arg22)
      ∧ r.2.mem ((c.tc : Thread Cert.PackIdeal.nD Cert.PackIdeal.τ).loc Cert.PackIdeal.main_arg23) = m ((c.tc : Thread Cert.PackIdeal.nD Cert.PackIdeal.τ).loc Cert.PackIdeal.main_arg23)
      ∧ r.2.mem ((c.tc : Thread Cert.PackIdeal.nD Cert.PackIdeal.τ).loc Cert.PackIdeal.main_arg24) = m ((c.tc : Thread Cert.PackIdeal.nD Cert.PackIdeal.τ).loc Cert.PackIdeal.main_arg24)
      ∧ r.2.mem ((c.tc : Thread Cert.PackIdeal.nD Cert.PackIdeal.τ).loc Cert.PackIdeal.main_arg25) = m ((c.tc : Thread Cert.PackIdeal.nD Cert.PackIdeal.τ).loc Cert.PackIdeal.main_arg25)
      ∧ r.2.mem ((c.tc : Thread Cert.PackIdeal.nD Cert.PackIdeal.τ).loc Cert.PackIdeal.main_arg26) = m ((c.tc : Thread Cert.PackIdeal.nD Cert.PackIdeal.τ).loc Cert.PackIdeal.main_arg26)
      ∧ r.2.mem ((c.tc : Thread Cert.PackIdeal.nD Cert.PackIdeal.τ).loc Cert.PackIdeal.main_arg27) = m ((c.tc : Thread Cert.PackIdeal.nD Cert.PackIdeal.τ).loc Cert.PackIdeal.main_arg27)
      ∧ r.2.mem ((c.tc : Thread Cert.PackIdeal.nD Cert.PackIdeal.τ).loc Cert.PackIdeal.main_arg28) = m ((c.tc : Thread Cert.PackIdeal.nD Cert.PackIdeal.τ).loc Cert.PackIdeal.main_arg28)
      ∧ r.2.mem ((c.tc : Thread Cert.PackIdeal.nD Cert.PackIdeal.τ).loc Cert.PackIdeal.main_arg29) = m ((c.tc : Thread Cert.PackIdeal.nD Cert.PackIdeal.τ).loc Cert.PackIdeal.main_arg29)
      ∧ r.2.mem ((c.tc : Thread Cert.PackIdeal.nD Cert.PackIdeal.τ).loc Cert.PackIdeal.main_arg30) = m ((c.tc : Thread Cert.PackIdeal.nD Cert.PackIdeal.τ).loc Cert.PackIdeal.main_arg30)
      ∧ r.2.mem ((c.tc : Thread Cert.PackIdeal.nD Cert.PackIdeal.τ).loc Cert.PackIdeal.main_arg31) = m ((c.tc : Thread Cert.PackIdeal.nD Cert.PackIdeal.τ).loc Cert.PackIdeal.main_arg31)
      ∧ r.2.mem ((c.tc : Thread Cert.PackIdeal.nD Cert.PackIdeal.τ).loc Cert.PackIdeal.main_arg32) = m ((c.tc : Thread Cert.PackIdeal.nD Cert.PackIdeal.τ).loc Cert.PackIdeal.main_arg32)
      ∧ r.2.mem ((c.tc : Thread Cert.PackIdeal.nD Cert.PackIdeal.τ).loc Cert.PackIdeal.main_arg33) = m ((c.tc : Thread Cert.PackIdeal.nD Cert.PackIdeal.τ).loc Cert.PackIdeal.main_arg33)
      ∧ r.2.mem ((c.tc : Thread Cert.PackIdeal.nD Cert.PackIdeal.τ).loc Cert.PackIdeal.main_arg34) = m ((c.tc : Thread Cert.PackIdeal.nD Cert.PackIdeal.τ).loc Cert.PackIdeal.main_arg34)
      ∧ r.2.mem ((c.tc : Thread Cert.PackIdeal.nD Cert.PackIdeal.τ).loc Cert.PackIdeal.main_arg35) = m ((c.tc : Thread Cert.PackIdeal.nD Cert.PackIdeal.τ).loc Cert.PackIdeal.main_arg35)
      ∧ r.2.mem ((c.tc : Thread Cert.PackIdeal.nD Cert.PackIdeal.τ).loc Cert.PackIdeal.main_arg36) = m ((c.tc : Thread Cert.PackIdeal.nD Cert.PackIdeal.τ).loc Cert.PackIdeal.main_arg36)
      ∧ r.2.mem ((c.tc : Thread Cert.PackIdeal.nD Cert.PackIdeal.τ).loc Cert.PackIdeal.main_arg37) = m ((c.tc : Thread Cert.PackIdeal.nD Cert.PackIdeal.τ).loc Cert.PackIdeal.main_arg37)
      ∧ r.2.mem ((c.tc : Thread Cert.PackIdeal.nD Cert.PackIdeal.τ).loc Cert.PackIdeal.main_arg38) = m ((c.tc : Thread Cert.PackIdeal.nD Cert.PackIdeal.τ).loc Cert.PackIdeal.main_arg38)
      ∧ r.2.mem ((c.tc : Thread Cert.PackIdeal.nD Cert.PackIdeal.τ).loc Cert.PackIdeal.main_arg39) = m ((c.tc : Thread Cert.PackIdeal.nD Cert.PackIdeal.τ).loc Cert.PackIdeal.main_arg39)
      ∧ r.2.mem ((c.tc : Thread Cert.PackIdeal.nD Cert.PackIdeal.τ).loc Cert.PackIdeal.main_arg40) = m ((c.tc : Thread Cert.PackIdeal.nD Cert.PackIdeal.τ).loc Cert.PackIdeal.main_arg40)
      ∧ r.2.mem ((c.tc : Thread Cert.PackIdeal.nD Cert.PackIdeal.τ).loc Cert.PackIdeal.main_arg41) = m ((c.tc : Thread Cert.PackIdeal.nD Cert.PackIdeal.τ).loc Cert.PackIdeal.main_arg41)
      ∧ r.2.mem ((c.tc : Thread Cert.PackIdeal.nD Cert.PackIdeal.τ).loc Cert.PackIdeal.main_arg42) = m ((c.tc : Thread Cert.PackIdeal.nD Cert.PackIdeal.τ).loc Cert.PackIdeal.main_arg42)
      ∧ r.2.mem ((c.tc : Thread Cert.PackIdeal.nD Cert.PackIdeal.τ).loc Cert.PackIdeal.main_arg43) = m ((c.tc : Thread Cert.PackIdeal.nD Cert.PackIdeal.τ).loc Cert.PackIdeal.main_arg43)
      ∧ r.2.mem ((c.tc : Thread Cert.PackIdeal.nD Cert.PackIdeal.τ).loc Cert.PackIdeal.main_arg44) = m ((c.tc : Thread Cert.PackIdeal.nD Cert.PackIdeal.τ).loc Cert.PackIdeal.main_arg44)
      ∧ r.2.mem ((c.tc : Thread Cert.PackIdeal.nD Cert.PackIdeal.τ).loc Cert.PackIdeal.main_arg45) = m ((c.tc : Thread Cert.PackIdeal.nD Cert.PackIdeal.τ).loc Cert.PackIdeal.main_arg45)
      ∧ r.2.mem ((c.tc : Thread Cert.PackIdeal.nD Cert.PackIdeal.τ).loc Cert.PackIdeal.main_arg46) = m ((c.tc : Thread Cert.PackIdeal.nD Cert.PackIdeal.τ).loc Cert.PackIdeal.main_arg46)
      ∧ r.2.mem ((c.tc : Thread Cert.PackIdeal.nD Cert.PackIdeal.τ).loc Cert.PackIdeal.main_arg47) = m ((c.tc : Thread Cert.PackIdeal.nD Cert.PackIdeal.τ).loc Cert.PackIdeal.main_arg47)
      ∧ r.2.mem ((c.tc : Thread Cert.PackIdeal.nD Cert.PackIdeal.τ).loc Cert.PackIdeal.main_arg48) = m ((c.tc : Thread Cert.PackIdeal.nD Cert.PackIdeal.τ).loc Cert.PackIdeal.main_arg48)
      ∧ r.2.mem ((c.tc : Thread Cert.PackIdeal.nD Cert.PackIdeal.τ).loc Cert.PackIdeal.main_arg49) = m ((c.tc : Thread Cert.PackIdeal.nD Cert.PackIdeal.τ).loc Cert.PackIdeal.main_arg49)
      ∧ r.2.mem ((c.tc : Thread Cert.PackIdeal.nD Cert.PackIdeal.τ).loc Cert.PackIdeal.main_arg50) = m ((c.tc : Thread Cert.PackIdeal.nD Cert.PackIdeal.τ).loc Cert.PackIdeal.main_arg50)
      ∧ r.2.mem ((c.tc : Thread Cert.PackIdeal.nD Cert.PackIdeal.τ).loc Cert.PackIdeal.main_arg51) = m ((c.tc : Thread Cert.PackIdeal.nD Cert.PackIdeal.τ).loc Cert.PackIdeal.main_arg51))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3)
      ∧ r.2.mem ((c.tc : Thread Cert.PackRefIdeal.nD Cert.PackRefIdeal.τ).loc Cert.PackRefIdeal.main_arg4) = m ((c.tc : Thread Cert.PackRefIdeal.nD Cert.PackRefIdeal.τ).loc Cert.PackRefIdeal.main_arg4)
      ∧ r.2.mem ((c.tc : Thread Cert.PackRefIdeal.nD Cert.PackRefIdeal.τ).loc Cert.PackRefIdeal.main_arg5) = m ((c.tc : Thread Cert.PackRefIdeal.nD Cert.PackRefIdeal.τ).loc Cert.PackRefIdeal.main_arg5)
      ∧ r.2.mem ((c.tc : Thread Cert.PackRefIdeal.nD Cert.PackRefIdeal.τ).loc Cert.PackRefIdeal.main_arg6) = m ((c.tc : Thread Cert.PackRefIdeal.nD Cert.PackRefIdeal.τ).loc Cert.PackRefIdeal.main_arg6)
      ∧ r.2.mem ((c.tc : Thread Cert.PackRefIdeal.nD Cert.PackRefIdeal.τ).loc Cert.PackRefIdeal.main_arg7) = m ((c.tc : Thread Cert.PackRefIdeal.nD Cert.PackRefIdeal.τ).loc Cert.PackRefIdeal.main_arg7)
      ∧ r.2.mem ((c.tc : Thread Cert.PackRefIdeal.nD Cert.PackRefIdeal.τ).loc Cert.PackRefIdeal.main_arg8) = m ((c.tc : Thread Cert.PackRefIdeal.nD Cert.PackRefIdeal.τ).loc Cert.PackRefIdeal.main_arg8)
      ∧ r.2.mem ((c.tc : Thread Cert.PackRefIdeal.nD Cert.PackRefIdeal.τ).loc Cert.PackRefIdeal.main_arg9) = m ((c.tc : Thread Cert.PackRefIdeal.nD Cert.PackRefIdeal.τ).loc Cert.PackRefIdeal.main_arg9)
      ∧ r.2.mem ((c.tc : Thread Cert.PackRefIdeal.nD Cert.PackRefIdeal.τ).loc Cert.PackRefIdeal.main_arg10) = m ((c.tc : Thread Cert.PackRefIdeal.nD Cert.PackRefIdeal.τ).loc Cert.PackRefIdeal.main_arg10)
      ∧ r.2.mem ((c.tc : Thread Cert.PackRefIdeal.nD Cert.PackRefIdeal.τ).loc Cert.PackRefIdeal.main_arg11) = m ((c.tc : Thread Cert.PackRefIdeal.nD Cert.PackRefIdeal.τ).loc Cert.PackRefIdeal.main_arg11)
      ∧ r.2.mem ((c.tc : Thread Cert.PackRefIdeal.nD Cert.PackRefIdeal.τ).loc Cert.PackRefIdeal.main_arg12) = m ((c.tc : Thread Cert.PackRefIdeal.nD Cert.PackRefIdeal.τ).loc Cert.PackRefIdeal.main_arg12)
      ∧ r.2.mem ((c.tc : Thread Cert.PackRefIdeal.nD Cert.PackRefIdeal.τ).loc Cert.PackRefIdeal.main_arg13) = m ((c.tc : Thread Cert.PackRefIdeal.nD Cert.PackRefIdeal.τ).loc Cert.PackRefIdeal.main_arg13)
      ∧ r.2.mem ((c.tc : Thread Cert.PackRefIdeal.nD Cert.PackRefIdeal.τ).loc Cert.PackRefIdeal.main_arg14) = m ((c.tc : Thread Cert.PackRefIdeal.nD Cert.PackRefIdeal.τ).loc Cert.PackRefIdeal.main_arg14)
      ∧ r.2.mem ((c.tc : Thread Cert.PackRefIdeal.nD Cert.PackRefIdeal.τ).loc Cert.PackRefIdeal.main_arg15) = m ((c.tc : Thread Cert.PackRefIdeal.nD Cert.PackRefIdeal.τ).loc Cert.PackRefIdeal.main_arg15)
      ∧ r.2.mem ((c.tc : Thread Cert.PackRefIdeal.nD Cert.PackRefIdeal.τ).loc Cert.PackRefIdeal.main_arg16) = m ((c.tc : Thread Cert.PackRefIdeal.nD Cert.PackRefIdeal.τ).loc Cert.PackRefIdeal.main_arg16)
      ∧ r.2.mem ((c.tc : Thread Cert.PackRefIdeal.nD Cert.PackRefIdeal.τ).loc Cert.PackRefIdeal.main_arg17) = m ((c.tc : Thread Cert.PackRefIdeal.nD Cert.PackRefIdeal.τ).loc Cert.PackRefIdeal.main_arg17)
      ∧ r.2.mem ((c.tc : Thread Cert.PackRefIdeal.nD Cert.PackRefIdeal.τ).loc Cert.PackRefIdeal.main_arg18) = m ((c.tc : Thread Cert.PackRefIdeal.nD Cert.PackRefIdeal.τ).loc Cert.PackRefIdeal.main_arg18)
      ∧ r.2.mem ((c.tc : Thread Cert.PackRefIdeal.nD Cert.PackRefIdeal.τ).loc Cert.PackRefIdeal.main_arg19) = m ((c.tc : Thread Cert.PackRefIdeal.nD Cert.PackRefIdeal.τ).loc Cert.PackRefIdeal.main_arg19)
      ∧ r.2.mem ((c.tc : Thread Cert.PackRefIdeal.nD Cert.PackRefIdeal.τ).loc Cert.PackRefIdeal.main_arg20) = m ((c.tc : Thread Cert.PackRefIdeal.nD Cert.PackRefIdeal.τ).loc Cert.PackRefIdeal.main_arg20)
      ∧ r.2.mem ((c.tc : Thread Cert.PackRefIdeal.nD Cert.PackRefIdeal.τ).loc Cert.PackRefIdeal.main_arg21) = m ((c.tc : Thread Cert.PackRefIdeal.nD Cert.PackRefIdeal.τ).loc Cert.PackRefIdeal.main_arg21)
      ∧ r.2.mem ((c.tc : Thread Cert.PackRefIdeal.nD Cert.PackRefIdeal.τ).loc Cert.PackRefIdeal.main_arg22) = m ((c.tc : Thread Cert.PackRefIdeal.nD Cert.PackRefIdeal.τ).loc Cert.PackRefIdeal.main_arg22)
      ∧ r.2.mem ((c.tc : Thread Cert.PackRefIdeal.nD Cert.PackRefIdeal.τ).loc Cert.PackRefIdeal.main_arg23) = m ((c.tc : Thread Cert.PackRefIdeal.nD Cert.PackRefIdeal.τ).loc Cert.PackRefIdeal.main_arg23)
      ∧ r.2.mem ((c.tc : Thread Cert.PackRefIdeal.nD Cert.PackRefIdeal.τ).loc Cert.PackRefIdeal.main_arg24) = m ((c.tc : Thread Cert.PackRefIdeal.nD Cert.PackRefIdeal.τ).loc Cert.PackRefIdeal.main_arg24)
      ∧ r.2.mem ((c.tc : Thread Cert.PackRefIdeal.nD Cert.PackRefIdeal.τ).loc Cert.PackRefIdeal.main_arg25) = m ((c.tc : Thread Cert.PackRefIdeal.nD Cert.PackRefIdeal.τ).loc Cert.PackRefIdeal.main_arg25)
      ∧ r.2.mem ((c.tc : Thread Cert.PackRefIdeal.nD Cert.PackRefIdeal.τ).loc Cert.PackRefIdeal.main_arg26) = m ((c.tc : Thread Cert.PackRefIdeal.nD Cert.PackRefIdeal.τ).loc Cert.PackRefIdeal.main_arg26)
      ∧ r.2.mem ((c.tc : Thread Cert.PackRefIdeal.nD Cert.PackRefIdeal.τ).loc Cert.PackRefIdeal.main_arg27) = m ((c.tc : Thread Cert.PackRefIdeal.nD Cert.PackRefIdeal.τ).loc Cert.PackRefIdeal.main_arg27)
      ∧ r.2.mem ((c.tc : Thread Cert.PackRefIdeal.nD Cert.PackRefIdeal.τ).loc Cert.PackRefIdeal.main_arg28) = m ((c.tc : Thread Cert.PackRefIdeal.nD Cert.PackRefIdeal.τ).loc Cert.PackRefIdeal.main_arg28)
      ∧ r.2.mem ((c.tc : Thread Cert.PackRefIdeal.nD Cert.PackRefIdeal.τ).loc Cert.PackRefIdeal.main_arg29) = m ((c.tc : Thread Cert.PackRefIdeal.nD Cert.PackRefIdeal.τ).loc Cert.PackRefIdeal.main_arg29)
      ∧ r.2.mem ((c.tc : Thread Cert.PackRefIdeal.nD Cert.PackRefIdeal.τ).loc Cert.PackRefIdeal.main_arg30) = m ((c.tc : Thread Cert.PackRefIdeal.nD Cert.PackRefIdeal.τ).loc Cert.PackRefIdeal.main_arg30)
      ∧ r.2.mem ((c.tc : Thread Cert.PackRefIdeal.nD Cert.PackRefIdeal.τ).loc Cert.PackRefIdeal.main_arg31) = m ((c.tc : Thread Cert.PackRefIdeal.nD Cert.PackRefIdeal.τ).loc Cert.PackRefIdeal.main_arg31)
      ∧ r.2.mem ((c.tc : Thread Cert.PackRefIdeal.nD Cert.PackRefIdeal.τ).loc Cert.PackRefIdeal.main_arg32) = m ((c.tc : Thread Cert.PackRefIdeal.nD Cert.PackRefIdeal.τ).loc Cert.PackRefIdeal.main_arg32)
      ∧ r.2.mem ((c.tc : Thread Cert.PackRefIdeal.nD Cert.PackRefIdeal.τ).loc Cert.PackRefIdeal.main_arg33) = m ((c.tc : Thread Cert.PackRefIdeal.nD Cert.PackRefIdeal.τ).loc Cert.PackRefIdeal.main_arg33)
      ∧ r.2.mem ((c.tc : Thread Cert.PackRefIdeal.nD Cert.PackRefIdeal.τ).loc Cert.PackRefIdeal.main_arg34) = m ((c.tc : Thread Cert.PackRefIdeal.nD Cert.PackRefIdeal.τ).loc Cert.PackRefIdeal.main_arg34)
      ∧ r.2.mem ((c.tc : Thread Cert.PackRefIdeal.nD Cert.PackRefIdeal.τ).loc Cert.PackRefIdeal.main_arg35) = m ((c.tc : Thread Cert.PackRefIdeal.nD Cert.PackRefIdeal.τ).loc Cert.PackRefIdeal.main_arg35)
      ∧ r.2.mem ((c.tc : Thread Cert.PackRefIdeal.nD Cert.PackRefIdeal.τ).loc Cert.PackRefIdeal.main_arg36) = m ((c.tc : Thread Cert.PackRefIdeal.nD Cert.PackRefIdeal.τ).loc Cert.PackRefIdeal.main_arg36)
      ∧ r.2.mem ((c.tc : Thread Cert.PackRefIdeal.nD Cert.PackRefIdeal.τ).loc Cert.PackRefIdeal.main_arg37) = m ((c.tc : Thread Cert.PackRefIdeal.nD Cert.PackRefIdeal.τ).loc Cert.PackRefIdeal.main_arg37)
      ∧ r.2.mem ((c.tc : Thread Cert.PackRefIdeal.nD Cert.PackRefIdeal.τ).loc Cert.PackRefIdeal.main_arg38) = m ((c.tc : Thread Cert.PackRefIdeal.nD Cert.PackRefIdeal.τ).loc Cert.PackRefIdeal.main_arg38)
      ∧ r.2.mem ((c.tc : Thread Cert.PackRefIdeal.nD Cert.PackRefIdeal.τ).loc Cert.PackRefIdeal.main_arg39) = m ((c.tc : Thread Cert.PackRefIdeal.nD Cert.PackRefIdeal.τ).loc Cert.PackRefIdeal.main_arg39)
      ∧ r.2.mem ((c.tc : Thread Cert.PackRefIdeal.nD Cert.PackRefIdeal.τ).loc Cert.PackRefIdeal.main_arg40) = m ((c.tc : Thread Cert.PackRefIdeal.nD Cert.PackRefIdeal.τ).loc Cert.PackRefIdeal.main_arg40)
      ∧ r.2.mem ((c.tc : Thread Cert.PackRefIdeal.nD Cert.PackRefIdeal.τ).loc Cert.PackRefIdeal.main_arg41) = m ((c.tc : Thread Cert.PackRefIdeal.nD Cert.PackRefIdeal.τ).loc Cert.PackRefIdeal.main_arg41)
      ∧ r.2.mem ((c.tc : Thread Cert.PackRefIdeal.nD Cert.PackRefIdeal.τ).loc Cert.PackRefIdeal.main_arg42) = m ((c.tc : Thread Cert.PackRefIdeal.nD Cert.PackRefIdeal.τ).loc Cert.PackRefIdeal.main_arg42)
      ∧ r.2.mem ((c.tc : Thread Cert.PackRefIdeal.nD Cert.PackRefIdeal.τ).loc Cert.PackRefIdeal.main_arg43) = m ((c.tc : Thread Cert.PackRefIdeal.nD Cert.PackRefIdeal.τ).loc Cert.PackRefIdeal.main_arg43)
      ∧ r.2.mem ((c.tc : Thread Cert.PackRefIdeal.nD Cert.PackRefIdeal.τ).loc Cert.PackRefIdeal.main_arg44) = m ((c.tc : Thread Cert.PackRefIdeal.nD Cert.PackRefIdeal.τ).loc Cert.PackRefIdeal.main_arg44)
      ∧ r.2.mem ((c.tc : Thread Cert.PackRefIdeal.nD Cert.PackRefIdeal.τ).loc Cert.PackRefIdeal.main_arg45) = m ((c.tc : Thread Cert.PackRefIdeal.nD Cert.PackRefIdeal.τ).loc Cert.PackRefIdeal.main_arg45)
      ∧ r.2.mem ((c.tc : Thread Cert.PackRefIdeal.nD Cert.PackRefIdeal.τ).loc Cert.PackRefIdeal.main_arg46) = m ((c.tc : Thread Cert.PackRefIdeal.nD Cert.PackRefIdeal.τ).loc Cert.PackRefIdeal.main_arg46)
      ∧ r.2.mem ((c.tc : Thread Cert.PackRefIdeal.nD Cert.PackRefIdeal.τ).loc Cert.PackRefIdeal.main_arg47) = m ((c.tc : Thread Cert.PackRefIdeal.nD Cert.PackRefIdeal.τ).loc Cert.PackRefIdeal.main_arg47)
      ∧ r.2.mem ((c.tc : Thread Cert.PackRefIdeal.nD Cert.PackRefIdeal.τ).loc Cert.PackRefIdeal.main_arg48) = m ((c.tc : Thread Cert.PackRefIdeal.nD Cert.PackRefIdeal.τ).loc Cert.PackRefIdeal.main_arg48)
      ∧ r.2.mem ((c.tc : Thread Cert.PackRefIdeal.nD Cert.PackRefIdeal.τ).loc Cert.PackRefIdeal.main_arg49) = m ((c.tc : Thread Cert.PackRefIdeal.nD Cert.PackRefIdeal.τ).loc Cert.PackRefIdeal.main_arg49)
      ∧ r.2.mem ((c.tc : Thread Cert.PackRefIdeal.nD Cert.PackRefIdeal.τ).loc Cert.PackRefIdeal.main_arg50) = m ((c.tc : Thread Cert.PackRefIdeal.nD Cert.PackRefIdeal.τ).loc Cert.PackRefIdeal.main_arg50)
      ∧ r.2.mem ((c.tc : Thread Cert.PackRefIdeal.nD Cert.PackRefIdeal.τ).loc Cert.PackRefIdeal.main_arg51) = m ((c.tc : Thread Cert.PackRefIdeal.nD Cert.PackRefIdeal.τ).loc Cert.PackRefIdeal.main_arg51))
      ∧ r.2.sem = fun _ => 0)

def preserves_PostNorm_PostNormIdeal : Prop :=
  True

def algebraic_PostNormIdeal_PostNormRefIdeal_pre_post_norm_finite [hPostNormIdeal : Cert.PostNormIdeal.Facts] [hPostNormRefIdeal : Cert.PostNormRefIdeal.Facts] [hPre_post_norm_finite : Cert.Pre_post_norm_finite.Facts] : Prop :=
  ∀ (m : (ℓ : Loc Cert.PostNormIdeal.nD Cert.PostNormIdeal.τ Cert.PostNormIdeal.sig) → Buf (Elt Ideal) ℓ) (g : Dev Cert.PostNormIdeal.nD → PrngReg)
    (m' : (ℓ : Loc Cert.PostNormRefIdeal.nD Cert.PostNormRefIdeal.τ Cert.PostNormRefIdeal.sig) → Buf (Elt Ideal) ℓ) (g' : Dev Cert.PostNormRefIdeal.nD → PrngReg), Pre_PostNormIdeal_post_norm_finite m →
    (∀ c : Dev Cert.PostNormIdeal.nD,
      m' ((c.tc : Thread Cert.PostNormRefIdeal.nD Cert.PostNormRefIdeal.τ).loc Cert.PostNormRefIdeal.main_arg0) = m ((c.tc : Thread Cert.PostNormIdeal.nD Cert.PostNormIdeal.τ).loc Cert.PostNormIdeal.main_arg0)
      ∧ m' ((c.tc : Thread Cert.PostNormRefIdeal.nD Cert.PostNormRefIdeal.τ).loc Cert.PostNormRefIdeal.main_arg1) = m ((c.tc : Thread Cert.PostNormIdeal.nD Cert.PostNormIdeal.τ).loc Cert.PostNormIdeal.main_arg1)
      ∧ m' ((c.tc : Thread Cert.PostNormRefIdeal.nD Cert.PostNormRefIdeal.τ).loc Cert.PostNormRefIdeal.main_arg2) = m ((c.tc : Thread Cert.PostNormIdeal.nD Cert.PostNormIdeal.τ).loc Cert.PostNormIdeal.main_arg2)) →
    ∃ (v0 : (c : Dev Cert.PostNormIdeal.nD) → Buf (Elt Ideal) ((c.tc : Thread Cert.PostNormIdeal.nD Cert.PostNormIdeal.τ).loc Cert.PostNormIdeal.main_v1_0)) (v1 : (c : Dev Cert.PostNormIdeal.nD) → Buf (Elt Ideal) ((c.tc : Thread Cert.PostNormIdeal.nD Cert.PostNormIdeal.τ).loc Cert.PostNormIdeal.main_v1_1)),
      θ_run (Cert.PostNormIdeal.defs (F := Ideal)) (onTc (τ := Cert.PostNormIdeal.τ) (Cert.PostNormIdeal.main (F := Ideal))) ⟨m, fun _ => 0, g⟩ (fun r => ∀ c : Dev Cert.PostNormIdeal.nD,
          r.2.mem ((c.tc : Thread Cert.PostNormIdeal.nD Cert.PostNormIdeal.τ).loc Cert.PostNormIdeal.main_v1_0) = v0 c
          ∧ r.2.mem ((c.tc : Thread Cert.PostNormIdeal.nD Cert.PostNormIdeal.τ).loc Cert.PostNormIdeal.main_v1_1) = v1 c
          ∧ r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
          ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
          ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ θ_run (Cert.PostNormRefIdeal.defs (F := Ideal)) (onTc (τ := Cert.PostNormRefIdeal.τ) (Cert.PostNormRefIdeal.main (F := Ideal))) ⟨m', fun _ => 0, g'⟩ (fun r => ∀ c : Dev Cert.PostNormRefIdeal.nD,
          r.2.mem ((c.tc : Thread Cert.PostNormRefIdeal.nD Cert.PostNormRefIdeal.τ).loc Cert.PostNormRefIdeal.main_v36) = v0 c
          ∧ r.2.mem ((c.tc : Thread Cert.PostNormRefIdeal.nD Cert.PostNormRefIdeal.τ).loc Cert.PostNormRefIdeal.main_v37) = v1 c
          ∧ r.2.mem ((c.tc : Thread Cert.PostNormRefIdeal.nD Cert.PostNormRefIdeal.τ).loc Cert.PostNormRefIdeal.main_arg0) = m' ((c.tc : Thread Cert.PostNormRefIdeal.nD Cert.PostNormRefIdeal.τ).loc Cert.PostNormRefIdeal.main_arg0)
          ∧ r.2.mem ((c.tc : Thread Cert.PostNormRefIdeal.nD Cert.PostNormRefIdeal.τ).loc Cert.PostNormRefIdeal.main_arg1) = m' ((c.tc : Thread Cert.PostNormRefIdeal.nD Cert.PostNormRefIdeal.τ).loc Cert.PostNormRefIdeal.main_arg1)
          ∧ r.2.mem ((c.tc : Thread Cert.PostNormRefIdeal.nD Cert.PostNormRefIdeal.τ).loc Cert.PostNormRefIdeal.main_arg2) = m' ((c.tc : Thread Cert.PostNormRefIdeal.nD Cert.PostNormRefIdeal.τ).loc Cert.PostNormRefIdeal.main_arg2))

def preserves_PreNorm_PreNormIdeal : Prop :=
  True

def algebraic_PreNormIdeal_PreNormRefIdeal_pre_pre_norm_finite [hPreNormIdeal : Cert.PreNormIdeal.Facts] [hPreNormRefIdeal : Cert.PreNormRefIdeal.Facts] [hPre_pre_norm_finite : Cert.Pre_pre_norm_finite.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal_pre_norm_finite m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)
      ∧ m' ((c.tc : Thread Cert.PreNormRefIdeal.nD Cert.PreNormRefIdeal.τ).loc Cert.PreNormRefIdeal.main_arg3) = m ((c.tc : Thread Cert.PreNormIdeal.nD Cert.PreNormIdeal.τ).loc Cert.PreNormIdeal.main_arg3)) →
    ∃ (v0 : (c : Dev Cert.PreNormIdeal.nD) → Buf (Elt Ideal) ((c.tc : Thread Cert.PreNormIdeal.nD Cert.PreNormIdeal.τ).loc Cert.PreNormIdeal.main_v1_0)) (v1 : (c : Dev Cert.PreNormIdeal.nD) → Buf (Elt Ideal) ((c.tc : Thread Cert.PreNormIdeal.nD Cert.PreNormIdeal.τ).loc Cert.PreNormIdeal.main_v1_1)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v1_0) = v0 c
          ∧ r.2.mem ((c.tc : Thread Cert.PreNormIdeal.nD Cert.PreNormIdeal.τ).loc Cert.PreNormIdeal.main_v1_1) = v1 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
          ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v36) = v0 c
          ∧ r.2.mem ((c.tc : Thread Cert.PreNormRefIdeal.nD Cert.PreNormRefIdeal.τ).loc Cert.PreNormRefIdeal.main_v37) = v1 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2)
          ∧ r.2.mem ((c.tc : Thread Cert.PreNormRefIdeal.nD Cert.PreNormRefIdeal.τ).loc Cert.PreNormRefIdeal.main_arg3) = m' ((c.tc : Thread Cert.PreNormRefIdeal.nD Cert.PreNormRefIdeal.τ).loc Cert.PreNormRefIdeal.main_arg3))

def preserves_SwaBwd_SwaBwdIdeal : Prop :=
  IdealRules.named_const.Statement Cert.SwaBwdIdeal.κ "mask" .f32 0xF149F2CA#32 ⊥

def algebraic_SwaBwdIdeal_SwaBwdRefIdeal_pre_swa_bwd_finite [hSwaBwdIdeal : Cert.SwaBwdIdeal.Facts] [hSwaBwdRefIdeal : Cert.SwaBwdRefIdeal.Facts] [hPre_swa_bwd_finite : Cert.Pre_swa_bwd_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg)
    (m' : (ℓ : Loc Cert.SwaBwdRefIdeal.nD Cert.SwaBwdRefIdeal.τ Cert.SwaBwdRefIdeal.sig) → Buf (Elt Ideal) ℓ) (g' : Dev Cert.SwaBwdRefIdeal.nD → PrngReg), Pre_SwaBwdIdeal_swa_bwd_finite m →
    (∀ c : Dev Cert.SwaBwdIdeal.nD,
      m' ((c.tc : Thread Cert.SwaBwdRefIdeal.nD Cert.SwaBwdRefIdeal.τ).loc Cert.SwaBwdRefIdeal.main_arg0) = m ((c.tc : Thread Cert.SwaBwdIdeal.nD Cert.SwaBwdIdeal.τ).loc Cert.SwaBwdIdeal.main_arg0)
      ∧ m' ((c.tc : Thread Cert.SwaBwdRefIdeal.nD Cert.SwaBwdRefIdeal.τ).loc Cert.SwaBwdRefIdeal.main_arg1) = m ((c.tc : Thread Cert.SwaBwdIdeal.nD Cert.SwaBwdIdeal.τ).loc Cert.SwaBwdIdeal.main_arg1)
      ∧ m' ((c.tc : Thread Cert.SwaBwdRefIdeal.nD Cert.SwaBwdRefIdeal.τ).loc Cert.SwaBwdRefIdeal.main_arg2) = m ((c.tc : Thread Cert.SwaBwdIdeal.nD Cert.SwaBwdIdeal.τ).loc Cert.SwaBwdIdeal.main_arg2)
      ∧ m' ((c.tc : Thread Cert.SwaBwdRefIdeal.nD Cert.SwaBwdRefIdeal.τ).loc Cert.SwaBwdRefIdeal.main_arg3) = m ((c.tc : Thread Cert.SwaBwdIdeal.nD Cert.SwaBwdIdeal.τ).loc Cert.SwaBwdIdeal.main_arg3)) →
    ∃ (v0 : (c : Dev Cert.SwaBwdIdeal.nD) → Buf (Elt Ideal) ((c.tc : Thread Cert.SwaBwdIdeal.nD Cert.SwaBwdIdeal.τ).loc Cert.SwaBwdIdeal.main_v38_0)) (v1 : (c : Dev Cert.SwaBwdIdeal.nD) → Buf (Elt Ideal) ((c.tc : Thread Cert.SwaBwdIdeal.nD Cert.SwaBwdIdeal.τ).loc Cert.SwaBwdIdeal.main_v38_1)) (v2 : (c : Dev Cert.SwaBwdIdeal.nD) → Buf (Elt Ideal) ((c.tc : Thread Cert.SwaBwdIdeal.nD Cert.SwaBwdIdeal.τ).loc Cert.SwaBwdIdeal.main_v38_2)) (v3 : (c : Dev Cert.SwaBwdIdeal.nD) → Buf (Elt Ideal) ((c.tc : Thread Cert.SwaBwdIdeal.nD Cert.SwaBwdIdeal.τ).loc Cert.SwaBwdIdeal.main_v38_3)),
      θ_run (Cert.SwaBwdIdeal.defs (F := Ideal)) (onTc (τ := Cert.SwaBwdIdeal.τ) (Cert.SwaBwdIdeal.main (F := Ideal))) ⟨m, fun _ => 0, g⟩ (fun r => ∀ c : Dev Cert.SwaBwdIdeal.nD,
          r.2.mem ((c.tc : Thread Cert.SwaBwdIdeal.nD Cert.SwaBwdIdeal.τ).loc Cert.SwaBwdIdeal.main_v38_0) = v0 c
          ∧ r.2.mem ((c.tc : Thread Cert.SwaBwdIdeal.nD Cert.SwaBwdIdeal.τ).loc Cert.SwaBwdIdeal.main_v38_1) = v1 c
          ∧ r.2.mem ((c.tc : Thread Cert.SwaBwdIdeal.nD Cert.SwaBwdIdeal.τ).loc Cert.SwaBwdIdeal.main_v38_2) = v2 c
          ∧ r.2.mem ((c.tc : Thread Cert.SwaBwdIdeal.nD Cert.SwaBwdIdeal.τ).loc Cert.SwaBwdIdeal.main_v38_3) = v3 c
          ∧ r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
          ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
          ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2)
          ∧ r.2.mem ((c.tc : Thread Cert.SwaBwdIdeal.nD Cert.SwaBwdIdeal.τ).loc Cert.SwaBwdIdeal.main_arg3) = m ((c.tc : Thread Cert.SwaBwdIdeal.nD Cert.SwaBwdIdeal.τ).loc Cert.SwaBwdIdeal.main_arg3))
      ∧ θ_run (Cert.SwaBwdRefIdeal.defs (F := Ideal)) (onTc (τ := Cert.SwaBwdRefIdeal.τ) (Cert.SwaBwdRefIdeal.main (F := Ideal))) ⟨m', fun _ => 0, g'⟩ (fun r => ∀ c : Dev Cert.SwaBwdRefIdeal.nD,
          r.2.mem ((c.tc : Thread Cert.SwaBwdRefIdeal.nD Cert.SwaBwdRefIdeal.τ).loc Cert.SwaBwdRefIdeal.main_v225) = v0 c
          ∧ r.2.mem ((c.tc : Thread Cert.SwaBwdRefIdeal.nD Cert.SwaBwdRefIdeal.τ).loc Cert.SwaBwdRefIdeal.main_v227) = v1 c
          ∧ r.2.mem ((c.tc : Thread Cert.SwaBwdRefIdeal.nD Cert.SwaBwdRefIdeal.τ).loc Cert.SwaBwdRefIdeal.main_v229) = v2 c
          ∧ r.2.mem ((c.tc : Thread Cert.SwaBwdRefIdeal.nD Cert.SwaBwdRefIdeal.τ).loc Cert.SwaBwdRefIdeal.main_v231) = v3 c
          ∧ r.2.mem ((c.tc : Thread Cert.SwaBwdRefIdeal.nD Cert.SwaBwdRefIdeal.τ).loc Cert.SwaBwdRefIdeal.main_arg0) = m' ((c.tc : Thread Cert.SwaBwdRefIdeal.nD Cert.SwaBwdRefIdeal.τ).loc Cert.SwaBwdRefIdeal.main_arg0)
          ∧ r.2.mem ((c.tc : Thread Cert.SwaBwdRefIdeal.nD Cert.SwaBwdRefIdeal.τ).loc Cert.SwaBwdRefIdeal.main_arg1) = m' ((c.tc : Thread Cert.SwaBwdRefIdeal.nD Cert.SwaBwdRefIdeal.τ).loc Cert.SwaBwdRefIdeal.main_arg1)
          ∧ r.2.mem ((c.tc : Thread Cert.SwaBwdRefIdeal.nD Cert.SwaBwdRefIdeal.τ).loc Cert.SwaBwdRefIdeal.main_arg2) = m' ((c.tc : Thread Cert.SwaBwdRefIdeal.nD Cert.SwaBwdRefIdeal.τ).loc Cert.SwaBwdRefIdeal.main_arg2)
          ∧ r.2.mem ((c.tc : Thread Cert.SwaBwdRefIdeal.nD Cert.SwaBwdRefIdeal.τ).loc Cert.SwaBwdRefIdeal.main_arg3) = m' ((c.tc : Thread Cert.SwaBwdRefIdeal.nD Cert.SwaBwdRefIdeal.τ).loc Cert.SwaBwdRefIdeal.main_arg3))

def preserves_PoolBwd_PoolBwdIdeal : Prop :=
  True

def algebraic_PoolBwdIdeal_PoolBwdRefIdeal_pre_pool_bwd_finite [hPoolBwdIdeal : Cert.PoolBwdIdeal.Facts] [hPoolBwdRefIdeal : Cert.PoolBwdRefIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_bwd_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v13_0)) (v1 : (c : Dev Cert.PoolBwdIdeal.nD) → Buf (Elt Ideal) ((c.tc : Thread Cert.PoolBwdIdeal.nD Cert.PoolBwdIdeal.τ).loc Cert.PoolBwdIdeal.main_v13_1)) (v2 : (c : Dev Cert.PoolBwdIdeal.nD) → Buf (Elt Ideal) ((c.tc : Thread Cert.PoolBwdIdeal.nD Cert.PoolBwdIdeal.τ).loc Cert.PoolBwdIdeal.main_v13_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v13_0) = v0 c
          ∧ r.2.mem ((c.tc : Thread Cert.PoolBwdIdeal.nD Cert.PoolBwdIdeal.τ).loc Cert.PoolBwdIdeal.main_v13_1) = v1 c
          ∧ r.2.mem ((c.tc : Thread Cert.PoolBwdIdeal.nD Cert.PoolBwdIdeal.τ).loc Cert.PoolBwdIdeal.main_v13_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v168) = v0 c
          ∧ r.2.mem ((c.tc : Thread Cert.PoolBwdRefIdeal.nD Cert.PoolBwdRefIdeal.τ).loc Cert.PoolBwdRefIdeal.main_v101) = v1 c
          ∧ r.2.mem ((c.tc : Thread Cert.PoolBwdRefIdeal.nD Cert.PoolBwdRefIdeal.τ).loc Cert.PoolBwdRefIdeal.main_v169) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_MidNorm_MidNormIdeal : Prop :=
  True

def algebraic_MidNormIdeal_MidNormRefIdeal_pre_mid_norm_finite [hMidNormIdeal : Cert.MidNormIdeal.Facts] [hMidNormRefIdeal : Cert.MidNormRefIdeal.Facts] [hPre_mid_norm_finite : Cert.Pre_mid_norm_finite.Facts] : Prop :=
  ∀ (m : (ℓ : Loc Cert.MidNormIdeal.nD Cert.MidNormIdeal.τ Cert.MidNormIdeal.sig) → Buf (Elt Ideal) ℓ) (g : Dev Cert.MidNormIdeal.nD → PrngReg)
    (m' : (ℓ : Loc Cert.MidNormRefIdeal.nD Cert.MidNormRefIdeal.τ Cert.MidNormRefIdeal.sig) → Buf (Elt Ideal) ℓ) (g' : Dev Cert.MidNormRefIdeal.nD → PrngReg), Pre_MidNormIdeal_mid_norm_finite m →
    (∀ c : Dev Cert.MidNormIdeal.nD,
      m' ((c.tc : Thread Cert.MidNormRefIdeal.nD Cert.MidNormRefIdeal.τ).loc Cert.MidNormRefIdeal.main_arg0) = m ((c.tc : Thread Cert.MidNormIdeal.nD Cert.MidNormIdeal.τ).loc Cert.MidNormIdeal.main_arg0)
      ∧ m' ((c.tc : Thread Cert.MidNormRefIdeal.nD Cert.MidNormRefIdeal.τ).loc Cert.MidNormRefIdeal.main_arg1) = m ((c.tc : Thread Cert.MidNormIdeal.nD Cert.MidNormIdeal.τ).loc Cert.MidNormIdeal.main_arg1)
      ∧ m' ((c.tc : Thread Cert.MidNormRefIdeal.nD Cert.MidNormRefIdeal.τ).loc Cert.MidNormRefIdeal.main_arg2) = m ((c.tc : Thread Cert.MidNormIdeal.nD Cert.MidNormIdeal.τ).loc Cert.MidNormIdeal.main_arg2)
      ∧ m' ((c.tc : Thread Cert.MidNormRefIdeal.nD Cert.MidNormRefIdeal.τ).loc Cert.MidNormRefIdeal.main_arg3) = m ((c.tc : Thread Cert.MidNormIdeal.nD Cert.MidNormIdeal.τ).loc Cert.MidNormIdeal.main_arg3)
      ∧ m' ((c.tc : Thread Cert.MidNormRefIdeal.nD Cert.MidNormRefIdeal.τ).loc Cert.MidNormRefIdeal.main_arg4) = m ((c.tc : Thread Cert.MidNormIdeal.nD Cert.MidNormIdeal.τ).loc Cert.MidNormIdeal.main_arg4)
      ∧ m' ((c.tc : Thread Cert.MidNormRefIdeal.nD Cert.MidNormRefIdeal.τ).loc Cert.MidNormRefIdeal.main_arg5) = m ((c.tc : Thread Cert.MidNormIdeal.nD Cert.MidNormIdeal.τ).loc Cert.MidNormIdeal.main_arg5)) →
    ∃ (v0 : (c : Dev Cert.MidNormIdeal.nD) → Buf (Elt Ideal) ((c.tc : Thread Cert.MidNormIdeal.nD Cert.MidNormIdeal.τ).loc Cert.MidNormIdeal.main_v3_0)) (v1 : (c : Dev Cert.MidNormIdeal.nD) → Buf (Elt Ideal) ((c.tc : Thread Cert.MidNormIdeal.nD Cert.MidNormIdeal.τ).loc Cert.MidNormIdeal.main_v3_1)) (v2 : (c : Dev Cert.MidNormIdeal.nD) → Buf (Elt Ideal) ((c.tc : Thread Cert.MidNormIdeal.nD Cert.MidNormIdeal.τ).loc Cert.MidNormIdeal.main_v3_2)) (v3 : (c : Dev Cert.MidNormIdeal.nD) → Buf (Elt Ideal) ((c.tc : Thread Cert.MidNormIdeal.nD Cert.MidNormIdeal.τ).loc Cert.MidNormIdeal.main_v3_3)),
      θ_run (Cert.MidNormIdeal.defs (F := Ideal)) (onTc (τ := Cert.MidNormIdeal.τ) (Cert.MidNormIdeal.main (F := Ideal))) ⟨m, fun _ => 0, g⟩ (fun r => ∀ c : Dev Cert.MidNormIdeal.nD,
          r.2.mem ((c.tc : Thread Cert.MidNormIdeal.nD Cert.MidNormIdeal.τ).loc Cert.MidNormIdeal.main_v3_0) = v0 c
          ∧ r.2.mem ((c.tc : Thread Cert.MidNormIdeal.nD Cert.MidNormIdeal.τ).loc Cert.MidNormIdeal.main_v3_1) = v1 c
          ∧ r.2.mem ((c.tc : Thread Cert.MidNormIdeal.nD Cert.MidNormIdeal.τ).loc Cert.MidNormIdeal.main_v3_2) = v2 c
          ∧ r.2.mem ((c.tc : Thread Cert.MidNormIdeal.nD Cert.MidNormIdeal.τ).loc Cert.MidNormIdeal.main_v3_3) = v3 c
          ∧ r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
          ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
          ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
          ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3)
          ∧ r.2.mem ((c.tc : Thread Cert.MidNormIdeal.nD Cert.MidNormIdeal.τ).loc Cert.MidNormIdeal.main_arg4) = m ((c.tc : Thread Cert.MidNormIdeal.nD Cert.MidNormIdeal.τ).loc Cert.MidNormIdeal.main_arg4)
          ∧ r.2.mem ((c.tc : Thread Cert.MidNormIdeal.nD Cert.MidNormIdeal.τ).loc Cert.MidNormIdeal.main_arg5) = m ((c.tc : Thread Cert.MidNormIdeal.nD Cert.MidNormIdeal.τ).loc Cert.MidNormIdeal.main_arg5))
      ∧ θ_run (Cert.MidNormRefIdeal.defs (F := Ideal)) (onTc (τ := Cert.MidNormRefIdeal.τ) (Cert.MidNormRefIdeal.main (F := Ideal))) ⟨m', fun _ => 0, g'⟩ (fun r => ∀ c : Dev Cert.MidNormRefIdeal.nD,
          r.2.mem ((c.tc : Thread Cert.MidNormRefIdeal.nD Cert.MidNormRefIdeal.τ).loc Cert.MidNormRefIdeal.main_v53) = v0 c
          ∧ r.2.mem ((c.tc : Thread Cert.MidNormRefIdeal.nD Cert.MidNormRefIdeal.τ).loc Cert.MidNormRefIdeal.main_v75) = v1 c
          ∧ r.2.mem ((c.tc : Thread Cert.MidNormRefIdeal.nD Cert.MidNormRefIdeal.τ).loc Cert.MidNormRefIdeal.main_v76) = v2 c
          ∧ r.2.mem ((c.tc : Thread Cert.MidNormRefIdeal.nD Cert.MidNormRefIdeal.τ).loc Cert.MidNormRefIdeal.main_v77) = v3 c
          ∧ r.2.mem ((c.tc : Thread Cert.MidNormRefIdeal.nD Cert.MidNormRefIdeal.τ).loc Cert.MidNormRefIdeal.main_arg0) = m' ((c.tc : Thread Cert.MidNormRefIdeal.nD Cert.MidNormRefIdeal.τ).loc Cert.MidNormRefIdeal.main_arg0)
          ∧ r.2.mem ((c.tc : Thread Cert.MidNormRefIdeal.nD Cert.MidNormRefIdeal.τ).loc Cert.MidNormRefIdeal.main_arg1) = m' ((c.tc : Thread Cert.MidNormRefIdeal.nD Cert.MidNormRefIdeal.τ).loc Cert.MidNormRefIdeal.main_arg1)
          ∧ r.2.mem ((c.tc : Thread Cert.MidNormRefIdeal.nD Cert.MidNormRefIdeal.τ).loc Cert.MidNormRefIdeal.main_arg2) = m' ((c.tc : Thread Cert.MidNormRefIdeal.nD Cert.MidNormRefIdeal.τ).loc Cert.MidNormRefIdeal.main_arg2)
          ∧ r.2.mem ((c.tc : Thread Cert.MidNormRefIdeal.nD Cert.MidNormRefIdeal.τ).loc Cert.MidNormRefIdeal.main_arg3) = m' ((c.tc : Thread Cert.MidNormRefIdeal.nD Cert.MidNormRefIdeal.τ).loc Cert.MidNormRefIdeal.main_arg3)
          ∧ r.2.mem ((c.tc : Thread Cert.MidNormRefIdeal.nD Cert.MidNormRefIdeal.τ).loc Cert.MidNormRefIdeal.main_arg4) = m' ((c.tc : Thread Cert.MidNormRefIdeal.nD Cert.MidNormRefIdeal.τ).loc Cert.MidNormRefIdeal.main_arg4)
          ∧ r.2.mem ((c.tc : Thread Cert.MidNormRefIdeal.nD Cert.MidNormRefIdeal.τ).loc Cert.MidNormRefIdeal.main_arg5) = m' ((c.tc : Thread Cert.MidNormRefIdeal.nD Cert.MidNormRefIdeal.τ).loc Cert.MidNormRefIdeal.main_arg5))

def preserves_PostLoss_PostLossIdeal : Prop :=
  True

def algebraic_PostLossIdeal_PostLossRefIdeal_pre_post_loss_finite [hPostLossIdeal : Cert.PostLossIdeal.Facts] [hPostLossRefIdeal : Cert.PostLossRefIdeal.Facts] [hPre_post_loss_finite : Cert.Pre_post_loss_finite.Facts] : Prop :=
  ∀ (m : (ℓ : Loc Cert.PostLossIdeal.nD Cert.PostLossIdeal.τ Cert.PostLossIdeal.sig) → Buf (Elt Ideal) ℓ) (g : Dev Cert.PostLossIdeal.nD → PrngReg)
    (m' : (ℓ : Loc Cert.PostLossRefIdeal.nD Cert.PostLossRefIdeal.τ Cert.PostLossRefIdeal.sig) → Buf (Elt Ideal) ℓ) (g' : Dev Cert.PostLossRefIdeal.nD → PrngReg), Pre_PostLossIdeal_post_loss_finite m →
    (∀ c : Dev Cert.PostLossIdeal.nD,
      m' ((c.tc : Thread Cert.PostLossRefIdeal.nD Cert.PostLossRefIdeal.τ).loc Cert.PostLossRefIdeal.main_arg0) = m ((c.tc : Thread Cert.PostLossIdeal.nD Cert.PostLossIdeal.τ).loc Cert.PostLossIdeal.main_arg0)
      ∧ m' ((c.tc : Thread Cert.PostLossRefIdeal.nD Cert.PostLossRefIdeal.τ).loc Cert.PostLossRefIdeal.main_arg1) = m ((c.tc : Thread Cert.PostLossIdeal.nD Cert.PostLossIdeal.τ).loc Cert.PostLossIdeal.main_arg1)
      ∧ m' ((c.tc : Thread Cert.PostLossRefIdeal.nD Cert.PostLossRefIdeal.τ).loc Cert.PostLossRefIdeal.main_arg2) = m ((c.tc : Thread Cert.PostLossIdeal.nD Cert.PostLossIdeal.τ).loc Cert.PostLossIdeal.main_arg2)
      ∧ m' ((c.tc : Thread Cert.PostLossRefIdeal.nD Cert.PostLossRefIdeal.τ).loc Cert.PostLossRefIdeal.main_arg3) = m ((c.tc : Thread Cert.PostLossIdeal.nD Cert.PostLossIdeal.τ).loc Cert.PostLossIdeal.main_arg3)) →
    ∃ (v0 : (c : Dev Cert.PostLossIdeal.nD) → Buf (Elt Ideal) ((c.tc : Thread Cert.PostLossIdeal.nD Cert.PostLossIdeal.τ).loc Cert.PostLossIdeal.main_v1_0)) (v1 : (c : Dev Cert.PostLossIdeal.nD) → Buf (Elt Ideal) ((c.tc : Thread Cert.PostLossIdeal.nD Cert.PostLossIdeal.τ).loc Cert.PostLossIdeal.main_v1_1)),
      θ_run (Cert.PostLossIdeal.defs (F := Ideal)) (onTc (τ := Cert.PostLossIdeal.τ) (Cert.PostLossIdeal.main (F := Ideal))) ⟨m, fun _ => 0, g⟩ (fun r => ∀ c : Dev Cert.PostLossIdeal.nD,
          r.2.mem ((c.tc : Thread Cert.PostLossIdeal.nD Cert.PostLossIdeal.τ).loc Cert.PostLossIdeal.main_v1_0) = v0 c
          ∧ r.2.mem ((c.tc : Thread Cert.PostLossIdeal.nD Cert.PostLossIdeal.τ).loc Cert.PostLossIdeal.main_v1_1) = v1 c
          ∧ r.2.mem ((c.tc : Thread Cert.PostLossIdeal.nD Cert.PostLossIdeal.τ).loc Cert.PostLossIdeal.main_arg0) = m ((c.tc : Thread Cert.PostLossIdeal.nD Cert.PostLossIdeal.τ).loc Cert.PostLossIdeal.main_arg0)
          ∧ r.2.mem ((c.tc : Thread Cert.PostLossIdeal.nD Cert.PostLossIdeal.τ).loc Cert.PostLossIdeal.main_arg1) = m ((c.tc : Thread Cert.PostLossIdeal.nD Cert.PostLossIdeal.τ).loc Cert.PostLossIdeal.main_arg1)
          ∧ r.2.mem ((c.tc : Thread Cert.PostLossIdeal.nD Cert.PostLossIdeal.τ).loc Cert.PostLossIdeal.main_arg2) = m ((c.tc : Thread Cert.PostLossIdeal.nD Cert.PostLossIdeal.τ).loc Cert.PostLossIdeal.main_arg2)
          ∧ r.2.mem ((c.tc : Thread Cert.PostLossIdeal.nD Cert.PostLossIdeal.τ).loc Cert.PostLossIdeal.main_arg3) = m ((c.tc : Thread Cert.PostLossIdeal.nD Cert.PostLossIdeal.τ).loc Cert.PostLossIdeal.main_arg3))
      ∧ θ_run (Cert.PostLossRefIdeal.defs (F := Ideal)) (onTc (τ := Cert.PostLossRefIdeal.τ) (Cert.PostLossRefIdeal.main (F := Ideal))) ⟨m', fun _ => 0, g'⟩ (fun r => ∀ c : Dev Cert.PostLossRefIdeal.nD,
          r.2.mem ((c.tc : Thread Cert.PostLossRefIdeal.nD Cert.PostLossRefIdeal.τ).loc Cert.PostLossRefIdeal.main_v28) = v0 c
          ∧ r.2.mem ((c.tc : Thread Cert.PostLossRefIdeal.nD Cert.PostLossRefIdeal.τ).loc Cert.PostLossRefIdeal.main_v29) = v1 c
          ∧ r.2.mem ((c.tc : Thread Cert.PostLossRefIdeal.nD Cert.PostLossRefIdeal.τ).loc Cert.PostLossRefIdeal.main_arg0) = m' ((c.tc : Thread Cert.PostLossRefIdeal.nD Cert.PostLossRefIdeal.τ).loc Cert.PostLossRefIdeal.main_arg0)
          ∧ r.2.mem ((c.tc : Thread Cert.PostLossRefIdeal.nD Cert.PostLossRefIdeal.τ).loc Cert.PostLossRefIdeal.main_arg1) = m' ((c.tc : Thread Cert.PostLossRefIdeal.nD Cert.PostLossRefIdeal.τ).loc Cert.PostLossRefIdeal.main_arg1)
          ∧ r.2.mem ((c.tc : Thread Cert.PostLossRefIdeal.nD Cert.PostLossRefIdeal.τ).loc Cert.PostLossRefIdeal.main_arg2) = m' ((c.tc : Thread Cert.PostLossRefIdeal.nD Cert.PostLossRefIdeal.τ).loc Cert.PostLossRefIdeal.main_arg2)
          ∧ r.2.mem ((c.tc : Thread Cert.PostLossRefIdeal.nD Cert.PostLossRefIdeal.τ).loc Cert.PostLossRefIdeal.main_arg3) = m' ((c.tc : Thread Cert.PostLossRefIdeal.nD Cert.PostLossRefIdeal.τ).loc Cert.PostLossRefIdeal.main_arg3))

def preserves_NormFirst_NormFirstIdeal : Prop :=
  True

def algebraic_NormFirstIdeal_NormFirstRefIdeal_pre_norm_first_finite [hNormFirstIdeal : Cert.NormFirstIdeal.Facts] [hNormFirstRefIdeal : Cert.NormFirstRefIdeal.Facts] [hPre_norm_first_finite : Cert.Pre_norm_first_finite.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal_norm_first_finite m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)) →
    ∃ (v0 : (c : Dev Cert.NormFirstIdeal.nD) → Buf (Elt Ideal) ((c.tc : Thread Cert.NormFirstIdeal.nD Cert.NormFirstIdeal.τ).loc Cert.NormFirstIdeal.main_v1)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v1) = v0 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v13) = v0 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1))

def preserves_PostPre_PostPreIdeal : Prop :=
  True

def algebraic_PostPreIdeal_PostPreRefIdeal_pre_post_pre_finite [hPostPreIdeal : Cert.PostPreIdeal.Facts] [hPostPreRefIdeal : Cert.PostPreRefIdeal.Facts] [hPre_post_pre_finite : Cert.Pre_post_pre_finite.Facts] : Prop :=
  ∀ (m : (ℓ : Loc Cert.PostPreIdeal.nD Cert.PostPreIdeal.τ Cert.PostPreIdeal.sig) → Buf (Elt Ideal) ℓ) (g : Dev Cert.PostPreIdeal.nD → PrngReg)
    (m' : (ℓ : Loc Cert.PostPreRefIdeal.nD Cert.PostPreRefIdeal.τ Cert.PostPreRefIdeal.sig) → Buf (Elt Ideal) ℓ) (g' : Dev Cert.PostPreRefIdeal.nD → PrngReg), Pre_PostPreIdeal_post_pre_finite m →
    (∀ c : Dev Cert.PostPreIdeal.nD,
      m' ((c.tc : Thread Cert.PostPreRefIdeal.nD Cert.PostPreRefIdeal.τ).loc Cert.PostPreRefIdeal.main_arg0) = m ((c.tc : Thread Cert.PostPreIdeal.nD Cert.PostPreIdeal.τ).loc Cert.PostPreIdeal.main_arg0)
      ∧ m' ((c.tc : Thread Cert.PostPreRefIdeal.nD Cert.PostPreRefIdeal.τ).loc Cert.PostPreRefIdeal.main_arg1) = m ((c.tc : Thread Cert.PostPreIdeal.nD Cert.PostPreIdeal.τ).loc Cert.PostPreIdeal.main_arg1)
      ∧ m' ((c.tc : Thread Cert.PostPreRefIdeal.nD Cert.PostPreRefIdeal.τ).loc Cert.PostPreRefIdeal.main_arg2) = m ((c.tc : Thread Cert.PostPreIdeal.nD Cert.PostPreIdeal.τ).loc Cert.PostPreIdeal.main_arg2)
      ∧ m' ((c.tc : Thread Cert.PostPreRefIdeal.nD Cert.PostPreRefIdeal.τ).loc Cert.PostPreRefIdeal.main_arg3) = m ((c.tc : Thread Cert.PostPreIdeal.nD Cert.PostPreIdeal.τ).loc Cert.PostPreIdeal.main_arg3)) →
    ∃ (v0 : (c : Dev Cert.PostPreIdeal.nD) → Buf (Elt Ideal) ((c.tc : Thread Cert.PostPreIdeal.nD Cert.PostPreIdeal.τ).loc Cert.PostPreIdeal.main_v2_0)) (v1 : (c : Dev Cert.PostPreIdeal.nD) → Buf (Elt Ideal) ((c.tc : Thread Cert.PostPreIdeal.nD Cert.PostPreIdeal.τ).loc Cert.PostPreIdeal.main_v2_1)),
      θ_run (Cert.PostPreIdeal.defs (F := Ideal)) (onTc (τ := Cert.PostPreIdeal.τ) (Cert.PostPreIdeal.main (F := Ideal))) ⟨m, fun _ => 0, g⟩ (fun r => ∀ c : Dev Cert.PostPreIdeal.nD,
          r.2.mem ((c.tc : Thread Cert.PostPreIdeal.nD Cert.PostPreIdeal.τ).loc Cert.PostPreIdeal.main_v2_0) = v0 c
          ∧ r.2.mem ((c.tc : Thread Cert.PostPreIdeal.nD Cert.PostPreIdeal.τ).loc Cert.PostPreIdeal.main_v2_1) = v1 c
          ∧ r.2.mem ((c.tc : Thread Cert.PostPreIdeal.nD Cert.PostPreIdeal.τ).loc Cert.PostPreIdeal.main_arg0) = m ((c.tc : Thread Cert.PostPreIdeal.nD Cert.PostPreIdeal.τ).loc Cert.PostPreIdeal.main_arg0)
          ∧ r.2.mem ((c.tc : Thread Cert.PostPreIdeal.nD Cert.PostPreIdeal.τ).loc Cert.PostPreIdeal.main_arg1) = m ((c.tc : Thread Cert.PostPreIdeal.nD Cert.PostPreIdeal.τ).loc Cert.PostPreIdeal.main_arg1)
          ∧ r.2.mem ((c.tc : Thread Cert.PostPreIdeal.nD Cert.PostPreIdeal.τ).loc Cert.PostPreIdeal.main_arg2) = m ((c.tc : Thread Cert.PostPreIdeal.nD Cert.PostPreIdeal.τ).loc Cert.PostPreIdeal.main_arg2)
          ∧ r.2.mem ((c.tc : Thread Cert.PostPreIdeal.nD Cert.PostPreIdeal.τ).loc Cert.PostPreIdeal.main_arg3) = m ((c.tc : Thread Cert.PostPreIdeal.nD Cert.PostPreIdeal.τ).loc Cert.PostPreIdeal.main_arg3))
      ∧ θ_run (Cert.PostPreRefIdeal.defs (F := Ideal)) (onTc (τ := Cert.PostPreRefIdeal.τ) (Cert.PostPreRefIdeal.main (F := Ideal))) ⟨m', fun _ => 0, g'⟩ (fun r => ∀ c : Dev Cert.PostPreRefIdeal.nD,
          r.2.mem ((c.tc : Thread Cert.PostPreRefIdeal.nD Cert.PostPreRefIdeal.τ).loc Cert.PostPreRefIdeal.main_v13) = v0 c
          ∧ r.2.mem ((c.tc : Thread Cert.PostPreRefIdeal.nD Cert.PostPreRefIdeal.τ).loc Cert.PostPreRefIdeal.main_v27) = v1 c
          ∧ r.2.mem ((c.tc : Thread Cert.PostPreRefIdeal.nD Cert.PostPreRefIdeal.τ).loc Cert.PostPreRefIdeal.main_arg0) = m' ((c.tc : Thread Cert.PostPreRefIdeal.nD Cert.PostPreRefIdeal.τ).loc Cert.PostPreRefIdeal.main_arg0)
          ∧ r.2.mem ((c.tc : Thread Cert.PostPreRefIdeal.nD Cert.PostPreRefIdeal.τ).loc Cert.PostPreRefIdeal.main_arg1) = m' ((c.tc : Thread Cert.PostPreRefIdeal.nD Cert.PostPreRefIdeal.τ).loc Cert.PostPreRefIdeal.main_arg1)
          ∧ r.2.mem ((c.tc : Thread Cert.PostPreRefIdeal.nD Cert.PostPreRefIdeal.τ).loc Cert.PostPreRefIdeal.main_arg2) = m' ((c.tc : Thread Cert.PostPreRefIdeal.nD Cert.PostPreRefIdeal.τ).loc Cert.PostPreRefIdeal.main_arg2)
          ∧ r.2.mem ((c.tc : Thread Cert.PostPreRefIdeal.nD Cert.PostPreRefIdeal.τ).loc Cert.PostPreRefIdeal.main_arg3) = m' ((c.tc : Thread Cert.PostPreRefIdeal.nD Cert.PostPreRefIdeal.τ).loc Cert.PostPreRefIdeal.main_arg3))

def preserves_SwaFwd_SwaFwdIdeal : Prop :=
  IdealRules.named_const.Statement Cert.SwaFwdIdeal.κ "mask" .f32 0xF149F2CA#32 ⊥

def algebraic_SwaFwdIdeal_SwaFwdRefIdeal_pre_swa_fwd_finite [hSwaFwdIdeal : Cert.SwaFwdIdeal.Facts] [hSwaFwdRefIdeal : Cert.SwaFwdRefIdeal.Facts] [hPre_swa_fwd_finite : Cert.Pre_swa_fwd_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_swa_fwd_finite m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)) →
    ∃ (v0 : (c : Dev Cert.SwaFwdIdeal.nD) → Buf (Elt Ideal) ((c.tc : Thread Cert.SwaFwdIdeal.nD Cert.SwaFwdIdeal.τ).loc Cert.SwaFwdIdeal.main_v34)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v34) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v123) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v9)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v9) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v85) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v9)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v9) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v33) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)) →
    ∃ (v0 : (c : Dev Cert.MmNnIdeal.nD) → Buf (Elt Ideal) ((c.tc : Thread Cert.MmNnIdeal.nD Cert.MmNnIdeal.τ).loc Cert.MmNnIdeal.main_v2)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v2) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v0) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v2)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v2) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v2) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v2)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v2) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v4) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_MmUp_MmUpIdeal : Prop :=
  True

def algebraic_MmUpIdeal_MmUpRefIdeal [hMmUpIdeal : Cert.MmUpIdeal.Facts] [hMmUpRefIdeal : Cert.MmUpRefIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v4)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v4) = v0 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          r.2.mem ((c.tc : Thread Cert.MmUpRefIdeal.nD Cert.MmUpRefIdeal.τ).loc Cert.MmUpRefIdeal.main_v5) = v0 c
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1))

def preserves_MmUpD_MmUpDIdeal : Prop :=
  True

def algebraic_MmUpDIdeal_MmUpDRefIdeal [hMmUpDIdeal : Cert.MmUpDIdeal.Facts] [hMmUpDRefIdeal : Cert.MmUpDRefIdeal.Facts] : Prop :=
  ∀ (m : (ℓ : Loc Cert.MmUpDIdeal.nD Cert.MmUpDIdeal.τ Cert.MmUpDIdeal.sig) → Buf (Elt Ideal) ℓ) (g : Dev Cert.MmUpDIdeal.nD → PrngReg)
    (m' : (ℓ : Loc Cert.MmUpDRefIdeal.nD Cert.MmUpDRefIdeal.τ Cert.MmUpDRefIdeal.sig) → Buf (Elt Ideal) ℓ) (g' : Dev Cert.MmUpDRefIdeal.nD → PrngReg), Pre_MmUpDIdeal m →
    (∀ c : Dev Cert.MmUpDIdeal.nD,
      m' ((c.tc : Thread Cert.MmUpDRefIdeal.nD Cert.MmUpDRefIdeal.τ).loc Cert.MmUpDRefIdeal.main_arg0) = m ((c.tc : Thread Cert.MmUpDIdeal.nD Cert.MmUpDIdeal.τ).loc Cert.MmUpDIdeal.main_arg0)
      ∧ m' ((c.tc : Thread Cert.MmUpDRefIdeal.nD Cert.MmUpDRefIdeal.τ).loc Cert.MmUpDRefIdeal.main_arg1) = m ((c.tc : Thread Cert.MmUpDIdeal.nD Cert.MmUpDIdeal.τ).loc Cert.MmUpDIdeal.main_arg1)) →
    ∃ (v0 : (c : Dev Cert.MmUpDIdeal.nD) → Buf (Elt Ideal) ((c.tc : Thread Cert.MmUpDIdeal.nD Cert.MmUpDIdeal.τ).loc Cert.MmUpDIdeal.main_v9)),
      θ_run (Cert.MmUpDIdeal.defs (F := Ideal)) (onTc (τ := Cert.MmUpDIdeal.τ) (Cert.MmUpDIdeal.main (F := Ideal))) ⟨m, fun _ => 0, g⟩ (fun r => ∀ c : Dev Cert.MmUpDIdeal.nD,
          r.2.mem ((c.tc : Thread Cert.MmUpDIdeal.nD Cert.MmUpDIdeal.τ).loc Cert.MmUpDIdeal.main_v9) = v0 c
          ∧ r.2.mem ((c.tc : Thread Cert.MmUpDIdeal.nD Cert.MmUpDIdeal.τ).loc Cert.MmUpDIdeal.main_arg0) = m ((c.tc : Thread Cert.MmUpDIdeal.nD Cert.MmUpDIdeal.τ).loc Cert.MmUpDIdeal.main_arg0)
          ∧ r.2.mem ((c.tc : Thread Cert.MmUpDIdeal.nD Cert.MmUpDIdeal.τ).loc Cert.MmUpDIdeal.main_arg1) = m ((c.tc : Thread Cert.MmUpDIdeal.nD Cert.MmUpDIdeal.τ).loc Cert.MmUpDIdeal.main_arg1))
      ∧ θ_run (Cert.MmUpDRefIdeal.defs (F := Ideal)) (onTc (τ := Cert.MmUpDRefIdeal.τ) (Cert.MmUpDRefIdeal.main (F := Ideal))) ⟨m', fun _ => 0, g'⟩ (fun r => ∀ c : Dev Cert.MmUpDRefIdeal.nD,
          r.2.mem ((c.tc : Thread Cert.MmUpDRefIdeal.nD Cert.MmUpDRefIdeal.τ).loc Cert.MmUpDRefIdeal.main_v2) = v0 c
          ∧ r.2.mem ((c.tc : Thread Cert.MmUpDRefIdeal.nD Cert.MmUpDRefIdeal.τ).loc Cert.MmUpDRefIdeal.main_arg0) = m' ((c.tc : Thread Cert.MmUpDRefIdeal.nD Cert.MmUpDRefIdeal.τ).loc Cert.MmUpDRefIdeal.main_arg0)
          ∧ r.2.mem ((c.tc : Thread Cert.MmUpDRefIdeal.nD Cert.MmUpDRefIdeal.τ).loc Cert.MmUpDRefIdeal.main_arg1) = m' ((c.tc : Thread Cert.MmUpDRefIdeal.nD Cert.MmUpDRefIdeal.τ).loc Cert.MmUpDRefIdeal.main_arg1))

def preserves_MmUpW_MmUpWIdeal : Prop :=
  True

def algebraic_MmUpWIdeal_MmUpWRefIdeal [hMmUpWIdeal : Cert.MmUpWIdeal.Facts] [hMmUpWRefIdeal : Cert.MmUpWRefIdeal.Facts] : Prop :=
  ∀ (m : (ℓ : Loc Cert.MmUpWIdeal.nD Cert.MmUpWIdeal.τ Cert.MmUpWIdeal.sig) → Buf (Elt Ideal) ℓ) (g : Dev Cert.MmUpWIdeal.nD → PrngReg)
    (m' : (ℓ : Loc Cert.MmUpWRefIdeal.nD Cert.MmUpWRefIdeal.τ Cert.MmUpWRefIdeal.sig) → Buf (Elt Ideal) ℓ) (g' : Dev Cert.MmUpWRefIdeal.nD → PrngReg), Pre_MmUpWIdeal m →
    (∀ c : Dev Cert.MmUpWIdeal.nD,
      m' ((c.tc : Thread Cert.MmUpWRefIdeal.nD Cert.MmUpWRefIdeal.τ).loc Cert.MmUpWRefIdeal.main_arg0) = m ((c.tc : Thread Cert.MmUpWIdeal.nD Cert.MmUpWIdeal.τ).loc Cert.MmUpWIdeal.main_arg0)
      ∧ m' ((c.tc : Thread Cert.MmUpWRefIdeal.nD Cert.MmUpWRefIdeal.τ).loc Cert.MmUpWRefIdeal.main_arg1) = m ((c.tc : Thread Cert.MmUpWIdeal.nD Cert.MmUpWIdeal.τ).loc Cert.MmUpWIdeal.main_arg1)) →
    ∃ (v0 : (c : Dev Cert.MmUpWIdeal.nD) → Buf (Elt Ideal) ((c.tc : Thread Cert.MmUpWIdeal.nD Cert.MmUpWIdeal.τ).loc Cert.MmUpWIdeal.main_v7)),
      θ_run (Cert.MmUpWIdeal.defs (F := Ideal)) (onTc (τ := Cert.MmUpWIdeal.τ) (Cert.MmUpWIdeal.main (F := Ideal))) ⟨m, fun _ => 0, g⟩ (fun r => ∀ c : Dev Cert.MmUpWIdeal.nD,
          r.2.mem ((c.tc : Thread Cert.MmUpWIdeal.nD Cert.MmUpWIdeal.τ).loc Cert.MmUpWIdeal.main_v7) = v0 c
          ∧ r.2.mem ((c.tc : Thread Cert.MmUpWIdeal.nD Cert.MmUpWIdeal.τ).loc Cert.MmUpWIdeal.main_arg0) = m ((c.tc : Thread Cert.MmUpWIdeal.nD Cert.MmUpWIdeal.τ).loc Cert.MmUpWIdeal.main_arg0)
          ∧ r.2.mem ((c.tc : Thread Cert.MmUpWIdeal.nD Cert.MmUpWIdeal.τ).loc Cert.MmUpWIdeal.main_arg1) = m ((c.tc : Thread Cert.MmUpWIdeal.nD Cert.MmUpWIdeal.τ).loc Cert.MmUpWIdeal.main_arg1))
      ∧ θ_run (Cert.MmUpWRefIdeal.defs (F := Ideal)) (onTc (τ := Cert.MmUpWRefIdeal.τ) (Cert.MmUpWRefIdeal.main (F := Ideal))) ⟨m', fun _ => 0, g'⟩ (fun r => ∀ c : Dev Cert.MmUpWRefIdeal.nD,
          r.2.mem ((c.tc : Thread Cert.MmUpWRefIdeal.nD Cert.MmUpWRefIdeal.τ).loc Cert.MmUpWRefIdeal.main_v6) = v0 c
          ∧ r.2.mem ((c.tc : Thread Cert.MmUpWRefIdeal.nD Cert.MmUpWRefIdeal.τ).loc Cert.MmUpWRefIdeal.main_arg0) = m' ((c.tc : Thread Cert.MmUpWRefIdeal.nD Cert.MmUpWRefIdeal.τ).loc Cert.MmUpWRefIdeal.main_arg0)
          ∧ r.2.mem ((c.tc : Thread Cert.MmUpWRefIdeal.nD Cert.MmUpWRefIdeal.τ).loc Cert.MmUpWRefIdeal.main_arg1) = m' ((c.tc : Thread Cert.MmUpWRefIdeal.nD Cert.MmUpWRefIdeal.τ).loc Cert.MmUpWRefIdeal.main_arg1))

def preserves_Adamw_AdamwIdeal : Prop :=
  IdealRules.named_const.Statement Cert.AdamwIdeal.κ "c1" .f32 0x3FC48605#32 ((8388608 / 5463681 : ℝ) : EReal)
  ∧ IdealRules.named_const.Statement Cert.AdamwIdeal.κ "c2" .f32 0x42C8E6D3#32 ((268435456 / 2672307 : ℝ) : EReal)

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v4_0)) (v1 : (c : Dev Cert.AdamwIdeal.nD) → Buf (Elt Ideal) ((c.tc : Thread Cert.AdamwIdeal.nD Cert.AdamwIdeal.τ).loc Cert.AdamwIdeal.main_v4_1)) (v2 : (c : Dev Cert.AdamwIdeal.nD) → Buf (Elt Ideal) ((c.tc : Thread Cert.AdamwIdeal.nD Cert.AdamwIdeal.τ).loc Cert.AdamwIdeal.main_v4_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v4_0) = v0 c
          ∧ r.2.mem ((c.tc : Thread Cert.AdamwIdeal.nD Cert.AdamwIdeal.τ).loc Cert.AdamwIdeal.main_v4_1) = v1 c
          ∧ r.2.mem ((c.tc : Thread Cert.AdamwIdeal.nD Cert.AdamwIdeal.τ).loc Cert.AdamwIdeal.main_v4_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v24) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v26) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_SumSlabs_SumSlabsIdeal : Prop :=
  True

def algebraic_SumSlabsIdeal_SumSlabsRefIdeal [hSumSlabsIdeal : Cert.SumSlabsIdeal.Facts] [hSumSlabsRefIdeal : Cert.SumSlabsRefIdeal.Facts] : Prop :=
  ∀ (m : (ℓ : Loc Cert.SumSlabsIdeal.nD Cert.SumSlabsIdeal.τ Cert.SumSlabsIdeal.sig) → Buf (Elt Ideal) ℓ) (g : Dev Cert.SumSlabsIdeal.nD → PrngReg)
    (m' : (ℓ : Loc Cert.SumSlabsRefIdeal.nD Cert.SumSlabsRefIdeal.τ Cert.SumSlabsRefIdeal.sig) → Buf (Elt Ideal) ℓ) (g' : Dev Cert.SumSlabsRefIdeal.nD → PrngReg), Pre_SumSlabsIdeal m →
    (∀ c : Dev Cert.SumSlabsIdeal.nD,
      m' ((c.tc : Thread Cert.SumSlabsRefIdeal.nD Cert.SumSlabsRefIdeal.τ).loc Cert.SumSlabsRefIdeal.main_arg0) = m ((c.tc : Thread Cert.SumSlabsIdeal.nD Cert.SumSlabsIdeal.τ).loc Cert.SumSlabsIdeal.main_arg0)) →
    ∃ (v0 : (c : Dev Cert.SumSlabsIdeal.nD) → Buf (Elt Ideal) ((c.tc : Thread Cert.SumSlabsIdeal.nD Cert.SumSlabsIdeal.τ).loc Cert.SumSlabsIdeal.main_v0)),
      θ_run (Cert.SumSlabsIdeal.defs (F := Ideal)) (onTc (τ := Cert.SumSlabsIdeal.τ) (Cert.SumSlabsIdeal.main (F := Ideal))) ⟨m, fun _ => 0, g⟩ (fun r => ∀ c : Dev Cert.SumSlabsIdeal.nD,
          r.2.mem ((c.tc : Thread Cert.SumSlabsIdeal.nD Cert.SumSlabsIdeal.τ).loc Cert.SumSlabsIdeal.main_v0) = v0 c
          ∧ r.2.mem ((c.tc : Thread Cert.SumSlabsIdeal.nD Cert.SumSlabsIdeal.τ).loc Cert.SumSlabsIdeal.main_arg0) = m ((c.tc : Thread Cert.SumSlabsIdeal.nD Cert.SumSlabsIdeal.τ).loc Cert.SumSlabsIdeal.main_arg0))
      ∧ θ_run (Cert.SumSlabsRefIdeal.defs (F := Ideal)) (onTc (τ := Cert.SumSlabsRefIdeal.τ) (Cert.SumSlabsRefIdeal.main (F := Ideal))) ⟨m', fun _ => 0, g'⟩ (fun r => ∀ c : Dev Cert.SumSlabsRefIdeal.nD,
          r.2.mem ((c.tc : Thread Cert.SumSlabsRefIdeal.nD Cert.SumSlabsRefIdeal.τ).loc Cert.SumSlabsRefIdeal.main_v0) = v0 c
          ∧ r.2.mem ((c.tc : Thread Cert.SumSlabsRefIdeal.nD Cert.SumSlabsRefIdeal.τ).loc Cert.SumSlabsRefIdeal.main_arg0) = m' ((c.tc : Thread Cert.SumSlabsRefIdeal.nD Cert.SumSlabsRefIdeal.τ).loc Cert.SumSlabsRefIdeal.main_arg0))

def preserves_Pack_PackIdeal : Prop :=
  IdealRules.named_const.Statement Cert.PackIdeal.κ "c1" .f32 0x3FC48605#32 ((8388608 / 5463681 : ℝ) : EReal)
  ∧ IdealRules.named_const.Statement Cert.PackIdeal.κ "c2" .f32 0x42C8E6D3#32 ((268435456 / 2672307 : ℝ) : EReal)

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)
      ∧ m' ((c.tc : Thread Cert.PackRefIdeal.nD Cert.PackRefIdeal.τ).loc Cert.PackRefIdeal.main_arg2) = m ((c.tc : Thread Cert.PackIdeal.nD Cert.PackIdeal.τ).loc Cert.PackIdeal.main_arg2)
      ∧ m' ((c.tc : Thread Cert.PackRefIdeal.nD Cert.PackRefIdeal.τ).loc Cert.PackRefIdeal.main_arg3) = m ((c.tc : Thread Cert.PackIdeal.nD Cert.PackIdeal.τ).loc Cert.PackIdeal.main_arg3)
      ∧ m' ((c.tc : Thread Cert.PackRefIdeal.nD Cert.PackRefIdeal.τ).loc Cert.PackRefIdeal.main_arg4) = m ((c.tc : Thread Cert.PackIdeal.nD Cert.PackIdeal.τ).loc Cert.PackIdeal.main_arg4)
      ∧ m' ((c.tc : Thread Cert.PackRefIdeal.nD Cert.PackRefIdeal.τ).loc Cert.PackRefIdeal.main_arg5) = m ((c.tc : Thread Cert.PackIdeal.nD Cert.PackIdeal.τ).loc Cert.PackIdeal.main_arg5)
      ∧ m' ((c.tc : Thread Cert.PackRefIdeal.nD Cert.PackRefIdeal.τ).loc Cert.PackRefIdeal.main_arg6) = m ((c.tc : Thread Cert.PackIdeal.nD Cert.PackIdeal.τ).loc Cert.PackIdeal.main_arg6)
      ∧ m' ((c.tc : Thread Cert.PackRefIdeal.nD Cert.PackRefIdeal.τ).loc Cert.PackRefIdeal.main_arg7) = m ((c.tc : Thread Cert.PackIdeal.nD Cert.PackIdeal.τ).loc Cert.PackIdeal.main_arg7)
      ∧ m' ((c.tc : Thread Cert.PackRefIdeal.nD Cert.PackRefIdeal.τ).loc Cert.PackRefIdeal.main_arg8) = m ((c.tc : Thread Cert.PackIdeal.nD Cert.PackIdeal.τ).loc Cert.PackIdeal.main_arg8)
      ∧ m' ((c.tc : Thread Cert.PackRefIdeal.nD Cert.PackRefIdeal.τ).loc Cert.PackRefIdeal.main_arg9) = m ((c.tc : Thread Cert.PackIdeal.nD Cert.PackIdeal.τ).loc Cert.PackIdeal.main_arg9)
      ∧ m' ((c.tc : Thread Cert.PackRefIdeal.nD Cert.PackRefIdeal.τ).loc Cert.PackRefIdeal.main_arg10) = m ((c.tc : Thread Cert.PackIdeal.nD Cert.PackIdeal.τ).loc Cert.PackIdeal.main_arg10)
      ∧ m' ((c.tc : Thread Cert.PackRefIdeal.nD Cert.PackRefIdeal.τ).loc Cert.PackRefIdeal.main_arg11) = m ((c.tc : Thread Cert.PackIdeal.nD Cert.PackIdeal.τ).loc Cert.PackIdeal.main_arg11)
      ∧ m' ((c.tc : Thread Cert.PackRefIdeal.nD Cert.PackRefIdeal.τ).loc Cert.PackRefIdeal.main_arg12) = m ((c.tc : Thread Cert.PackIdeal.nD Cert.PackIdeal.τ).loc Cert.PackIdeal.main_arg12)
      ∧ m' ((c.tc : Thread Cert.PackRefIdeal.nD Cert.PackRefIdeal.τ).loc Cert.PackRefIdeal.main_arg13) = m ((c.tc : Thread Cert.PackIdeal.nD Cert.PackIdeal.τ).loc Cert.PackIdeal.main_arg13)
      ∧ m' ((c.tc : Thread Cert.PackRefIdeal.nD Cert.PackRefIdeal.τ).loc Cert.PackRefIdeal.main_arg14) = m ((c.tc : Thread Cert.PackIdeal.nD Cert.PackIdeal.τ).loc Cert.PackIdeal.main_arg14)
      ∧ m' ((c.tc : Thread Cert.PackRefIdeal.nD Cert.PackRefIdeal.τ).loc Cert.PackRefIdeal.main_arg15) = m ((c.tc : Thread Cert.PackIdeal.nD Cert.PackIdeal.τ).loc Cert.PackIdeal.main_arg15)
      ∧ m' ((c.tc : Thread Cert.PackRefIdeal.nD Cert.PackRefIdeal.τ).loc Cert.PackRefIdeal.main_arg16) = m ((c.tc : Thread Cert.PackIdeal.nD Cert.PackIdeal.τ).loc Cert.PackIdeal.main_arg16)
      ∧ m' ((c.tc : Thread Cert.PackRefIdeal.nD Cert.PackRefIdeal.τ).loc Cert.PackRefIdeal.main_arg17) = m ((c.tc : Thread Cert.PackIdeal.nD Cert.PackIdeal.τ).loc Cert.PackIdeal.main_arg17)
      ∧ m' ((c.tc : Thread Cert.PackRefIdeal.nD Cert.PackRefIdeal.τ).loc Cert.PackRefIdeal.main_arg18) = m ((c.tc : Thread Cert.PackIdeal.nD Cert.PackIdeal.τ).loc Cert.PackIdeal.main_arg18)
      ∧ m' ((c.tc : Thread Cert.PackRefIdeal.nD Cert.PackRefIdeal.τ).loc Cert.PackRefIdeal.main_arg19) = m ((c.tc : Thread Cert.PackIdeal.nD Cert.PackIdeal.τ).loc Cert.PackIdeal.main_arg19)
      ∧ m' ((c.tc : Thread Cert.PackRefIdeal.nD Cert.PackRefIdeal.τ).loc Cert.PackRefIdeal.main_arg20) = m ((c.tc : Thread Cert.PackIdeal.nD Cert.PackIdeal.τ).loc Cert.PackIdeal.main_arg20)
      ∧ m' ((c.tc : Thread Cert.PackRefIdeal.nD Cert.PackRefIdeal.τ).loc Cert.PackRefIdeal.main_arg21) = m ((c.tc : Thread Cert.PackIdeal.nD Cert.PackIdeal.τ).loc Cert.PackIdeal.main_arg21)
      ∧ m' ((c.tc : Thread Cert.PackRefIdeal.nD Cert.PackRefIdeal.τ).loc Cert.PackRefIdeal.main_arg22) = m ((c.tc : Thread Cert.PackIdeal.nD Cert.PackIdeal.τ).loc Cert.PackIdeal.main_arg22)
      ∧ m' ((c.tc : Thread Cert.PackRefIdeal.nD Cert.PackRefIdeal.τ).loc Cert.PackRefIdeal.main_arg23) = m ((c.tc : Thread Cert.PackIdeal.nD Cert.PackIdeal.τ).loc Cert.PackIdeal.main_arg23)
      ∧ m' ((c.tc : Thread Cert.PackRefIdeal.nD Cert.PackRefIdeal.τ).loc Cert.PackRefIdeal.main_arg24) = m ((c.tc : Thread Cert.PackIdeal.nD Cert.PackIdeal.τ).loc Cert.PackIdeal.main_arg24)
      ∧ m' ((c.tc : Thread Cert.PackRefIdeal.nD Cert.PackRefIdeal.τ).loc Cert.PackRefIdeal.main_arg25) = m ((c.tc : Thread Cert.PackIdeal.nD Cert.PackIdeal.τ).loc Cert.PackIdeal.main_arg25)
      ∧ m' ((c.tc : Thread Cert.PackRefIdeal.nD Cert.PackRefIdeal.τ).loc Cert.PackRefIdeal.main_arg26) = m ((c.tc : Thread Cert.PackIdeal.nD Cert.PackIdeal.τ).loc Cert.PackIdeal.main_arg26)
      ∧ m' ((c.tc : Thread Cert.PackRefIdeal.nD Cert.PackRefIdeal.τ).loc Cert.PackRefIdeal.main_arg27) = m ((c.tc : Thread Cert.PackIdeal.nD Cert.PackIdeal.τ).loc Cert.PackIdeal.main_arg27)
      ∧ m' ((c.tc : Thread Cert.PackRefIdeal.nD Cert.PackRefIdeal.τ).loc Cert.PackRefIdeal.main_arg28) = m ((c.tc : Thread Cert.PackIdeal.nD Cert.PackIdeal.τ).loc Cert.PackIdeal.main_arg28)
      ∧ m' ((c.tc : Thread Cert.PackRefIdeal.nD Cert.PackRefIdeal.τ).loc Cert.PackRefIdeal.main_arg29) = m ((c.tc : Thread Cert.PackIdeal.nD Cert.PackIdeal.τ).loc Cert.PackIdeal.main_arg29)
      ∧ m' ((c.tc : Thread Cert.PackRefIdeal.nD Cert.PackRefIdeal.τ).loc Cert.PackRefIdeal.main_arg30) = m ((c.tc : Thread Cert.PackIdeal.nD Cert.PackIdeal.τ).loc Cert.PackIdeal.main_arg30)
      ∧ m' ((c.tc : Thread Cert.PackRefIdeal.nD Cert.PackRefIdeal.τ).loc Cert.PackRefIdeal.main_arg31) = m ((c.tc : Thread Cert.PackIdeal.nD Cert.PackIdeal.τ).loc Cert.PackIdeal.main_arg31)
      ∧ m' ((c.tc : Thread Cert.PackRefIdeal.nD Cert.PackRefIdeal.τ).loc Cert.PackRefIdeal.main_arg32) = m ((c.tc : Thread Cert.PackIdeal.nD Cert.PackIdeal.τ).loc Cert.PackIdeal.main_arg32)
      ∧ m' ((c.tc : Thread Cert.PackRefIdeal.nD Cert.PackRefIdeal.τ).loc Cert.PackRefIdeal.main_arg33) = m ((c.tc : Thread Cert.PackIdeal.nD Cert.PackIdeal.τ).loc Cert.PackIdeal.main_arg33)
      ∧ m' ((c.tc : Thread Cert.PackRefIdeal.nD Cert.PackRefIdeal.τ).loc Cert.PackRefIdeal.main_arg34) = m ((c.tc : Thread Cert.PackIdeal.nD Cert.PackIdeal.τ).loc Cert.PackIdeal.main_arg34)
      ∧ m' ((c.tc : Thread Cert.PackRefIdeal.nD Cert.PackRefIdeal.τ).loc Cert.PackRefIdeal.main_arg35) = m ((c.tc : Thread Cert.PackIdeal.nD Cert.PackIdeal.τ).loc Cert.PackIdeal.main_arg35)
      ∧ m' ((c.tc : Thread Cert.PackRefIdeal.nD Cert.PackRefIdeal.τ).loc Cert.PackRefIdeal.main_arg36) = m ((c.tc : Thread Cert.PackIdeal.nD Cert.PackIdeal.τ).loc Cert.PackIdeal.main_arg36)
      ∧ m' ((c.tc : Thread Cert.PackRefIdeal.nD Cert.PackRefIdeal.τ).loc Cert.PackRefIdeal.main_arg37) = m ((c.tc : Thread Cert.PackIdeal.nD Cert.PackIdeal.τ).loc Cert.PackIdeal.main_arg37)
      ∧ m' ((c.tc : Thread Cert.PackRefIdeal.nD Cert.PackRefIdeal.τ).loc Cert.PackRefIdeal.main_arg38) = m ((c.tc : Thread Cert.PackIdeal.nD Cert.PackIdeal.τ).loc Cert.PackIdeal.main_arg38)
      ∧ m' ((c.tc : Thread Cert.PackRefIdeal.nD Cert.PackRefIdeal.τ).loc Cert.PackRefIdeal.main_arg39) = m ((c.tc : Thread Cert.PackIdeal.nD Cert.PackIdeal.τ).loc Cert.PackIdeal.main_arg39)
      ∧ m' ((c.tc : Thread Cert.PackRefIdeal.nD Cert.PackRefIdeal.τ).loc Cert.PackRefIdeal.main_arg40) = m ((c.tc : Thread Cert.PackIdeal.nD Cert.PackIdeal.τ).loc Cert.PackIdeal.main_arg40)
      ∧ m' ((c.tc : Thread Cert.PackRefIdeal.nD Cert.PackRefIdeal.τ).loc Cert.PackRefIdeal.main_arg41) = m ((c.tc : Thread Cert.PackIdeal.nD Cert.PackIdeal.τ).loc Cert.PackIdeal.main_arg41)
      ∧ m' ((c.tc : Thread Cert.PackRefIdeal.nD Cert.PackRefIdeal.τ).loc Cert.PackRefIdeal.main_arg42) = m ((c.tc : Thread Cert.PackIdeal.nD Cert.PackIdeal.τ).loc Cert.PackIdeal.main_arg42)
      ∧ m' ((c.tc : Thread Cert.PackRefIdeal.nD Cert.PackRefIdeal.τ).loc Cert.PackRefIdeal.main_arg43) = m ((c.tc : Thread Cert.PackIdeal.nD Cert.PackIdeal.τ).loc Cert.PackIdeal.main_arg43)
      ∧ m' ((c.tc : Thread Cert.PackRefIdeal.nD Cert.PackRefIdeal.τ).loc Cert.PackRefIdeal.main_arg44) = m ((c.tc : Thread Cert.PackIdeal.nD Cert.PackIdeal.τ).loc Cert.PackIdeal.main_arg44)
      ∧ m' ((c.tc : Thread Cert.PackRefIdeal.nD Cert.PackRefIdeal.τ).loc Cert.PackRefIdeal.main_arg45) = m ((c.tc : Thread Cert.PackIdeal.nD Cert.PackIdeal.τ).loc Cert.PackIdeal.main_arg45)
      ∧ m' ((c.tc : Thread Cert.PackRefIdeal.nD Cert.PackRefIdeal.τ).loc Cert.PackRefIdeal.main_arg46) = m ((c.tc : Thread Cert.PackIdeal.nD Cert.PackIdeal.τ).loc Cert.PackIdeal.main_arg46)
      ∧ m' ((c.tc : Thread Cert.PackRefIdeal.nD Cert.PackRefIdeal.τ).loc Cert.PackRefIdeal.main_arg47) = m ((c.tc : Thread Cert.PackIdeal.nD Cert.PackIdeal.τ).loc Cert.PackIdeal.main_arg47)
      ∧ m' ((c.tc : Thread Cert.PackRefIdeal.nD Cert.PackRefIdeal.τ).loc Cert.PackRefIdeal.main_arg48) = m ((c.tc : Thread Cert.PackIdeal.nD Cert.PackIdeal.τ).loc Cert.PackIdeal.main_arg48)
      ∧ m' ((c.tc : Thread Cert.PackRefIdeal.nD Cert.PackRefIdeal.τ).loc Cert.PackRefIdeal.main_arg49) = m ((c.tc : Thread Cert.PackIdeal.nD Cert.PackIdeal.τ).loc Cert.PackIdeal.main_arg49)
      ∧ m' ((c.tc : Thread Cert.PackRefIdeal.nD Cert.PackRefIdeal.τ).loc Cert.PackRefIdeal.main_arg50) = m ((c.tc : Thread Cert.PackIdeal.nD Cert.PackIdeal.τ).loc Cert.PackIdeal.main_arg50)
      ∧ m' ((c.tc : Thread Cert.PackRefIdeal.nD Cert.PackRefIdeal.τ).loc Cert.PackRefIdeal.main_arg51) = m ((c.tc : Thread Cert.PackIdeal.nD Cert.PackIdeal.τ).loc Cert.PackIdeal.main_arg51)) →
    ∃ (v0 : (c : Dev Cert.PackIdeal.nD) → Buf (Elt Ideal) ((c.tc : Thread Cert.PackIdeal.nD Cert.PackIdeal.τ).loc Cert.PackIdeal.main_v64_0)) (v1 : (c : Dev Cert.PackIdeal.nD) → Buf (Elt Ideal) ((c.tc : Thread Cert.PackIdeal.nD Cert.PackIdeal.τ).loc Cert.PackIdeal.main_v64_1)) (v2 : (c : Dev Cert.PackIdeal.nD) → Buf (Elt Ideal) ((c.tc : Thread Cert.PackIdeal.nD Cert.PackIdeal.τ).loc Cert.PackIdeal.main_v64_2)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v64_0) = v0 c
          ∧ r.2.mem ((c.tc : Thread Cert.PackIdeal.nD Cert.PackIdeal.τ).loc Cert.PackIdeal.main_v64_1) = v1 c
          ∧ r.2.mem ((c.tc : Thread Cert.PackIdeal.nD Cert.PackIdeal.τ).loc Cert.PackIdeal.main_v64_2) = v2 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
          ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
          ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
          ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
          ∧ r.2.mem ((c.tc : Thread Cert.PackIdeal.nD Cert.PackIdeal.τ).loc Cert.PackIdeal.main_arg6) = m ((c.tc : Thread Cert.PackIdeal.nD Cert.PackIdeal.τ).loc Cert.PackIdeal.main_arg6)
          ∧ r.2.mem ((c.tc : Thread Cert.PackIdeal.nD Cert.PackIdeal.τ).loc Cert.PackIdeal.main_arg7) = m ((c.tc : Thread Cert.PackIdeal.nD Cert.PackIdeal.τ).loc Cert.PackIdeal.main_arg7)
          ∧ r.2.mem ((c.tc : Thread Cert.PackIdeal.nD Cert.PackIdeal.τ).loc Cert.PackIdeal.main_arg8) = m ((c.tc : Thread Cert.PackIdeal.nD Cert.PackIdeal.τ).loc Cert.PackIdeal.main_arg8)
          ∧ r.2.mem ((c.tc : Thread Cert.PackIdeal.nD Cert.PackIdeal.τ).loc Cert.PackIdeal.main_arg9) = m ((c.tc : Thread Cert.PackIdeal.nD Cert.PackIdeal.τ).loc Cert.PackIdeal.main_arg9)
          ∧ r.2.mem ((c.tc : Thread Cert.PackIdeal.nD Cert.PackIdeal.τ).loc Cert.PackIdeal.main_arg10) = m ((c.tc : Thread Cert.PackIdeal.nD Cert.PackIdeal.τ).loc Cert.PackIdeal.main_arg10)
          ∧ r.2.mem ((c.tc : Thread Cert.PackIdeal.nD Cert.PackIdeal.τ).loc Cert.PackIdeal.main_arg11) = m ((c.tc : Thread Cert.PackIdeal.nD Cert.PackIdeal.τ).loc Cert.PackIdeal.main_arg11)
          ∧ r.2.mem ((c.tc : Thread Cert.PackIdeal.nD Cert.PackIdeal.τ).loc Cert.PackIdeal.main_arg12) = m ((c.tc : Thread Cert.PackIdeal.nD Cert.PackIdeal.τ).loc Cert.PackIdeal.main_arg12)
          ∧ r.2.mem ((c.tc : Thread Cert.PackIdeal.nD Cert.PackIdeal.τ).loc Cert.PackIdeal.main_arg13) = m ((c.tc : Thread Cert.PackIdeal.nD Cert.PackIdeal.τ).loc Cert.PackIdeal.main_arg13)
          ∧ r.2.mem ((c.tc : Thread Cert.PackIdeal.nD Cert.PackIdeal.τ).loc Cert.PackIdeal.main_arg14) = m ((c.tc : Thread Cert.PackIdeal.nD Cert.PackIdeal.τ).loc Cert.PackIdeal.main_arg14)
          ∧ r.2.mem ((c.tc : Thread Cert.PackIdeal.nD Cert.PackIdeal.τ).loc Cert.PackIdeal.main_arg15) = m ((c.tc : Thread Cert.PackIdeal.nD Cert.PackIdeal.τ).loc Cert.PackIdeal.main_arg15)
          ∧ r.2.mem ((c.tc : Thread Cert.PackIdeal.nD Cert.PackIdeal.τ).loc Cert.PackIdeal.main_arg16) = m ((c.tc : Thread Cert.PackIdeal.nD Cert.PackIdeal.τ).loc Cert.PackIdeal.main_arg16)
          ∧ r.2.mem ((c.tc : Thread Cert.PackIdeal.nD Cert.PackIdeal.τ).loc Cert.PackIdeal.main_arg17) = m ((c.tc : Thread Cert.PackIdeal.nD Cert.PackIdeal.τ).loc Cert.PackIdeal.main_arg17)
          ∧ r.2.mem ((c.tc : Thread Cert.PackIdeal.nD Cert.PackIdeal.τ).loc Cert.PackIdeal.main_arg18) = m ((c.tc : Thread Cert.PackIdeal.nD Cert.PackIdeal.τ).loc Cert.PackIdeal.main_arg18)
          ∧ r.2.mem ((c.tc : Thread Cert.PackIdeal.nD Cert.PackIdeal.τ).loc Cert.PackIdeal.main_arg19) = m ((c.tc : Thread Cert.PackIdeal.nD Cert.PackIdeal.τ).loc Cert.PackIdeal.main_arg19)
          ∧ r.2.mem ((c.tc : Thread Cert.PackIdeal.nD Cert.PackIdeal.τ).loc Cert.PackIdeal.main_arg20) = m ((c.tc : Thread Cert.PackIdeal.nD Cert.PackIdeal.τ).loc Cert.PackIdeal.main_arg20)
          ∧ r.2.mem ((c.tc : Thread Cert.PackIdeal.nD Cert.PackIdeal.τ).loc Cert.PackIdeal.main_arg21) = m ((c.tc : Thread Cert.PackIdeal.nD Cert.PackIdeal.τ).loc Cert.PackIdeal.main_arg21)
          ∧ r.2.mem ((c.tc : Thread Cert.PackIdeal.nD Cert.PackIdeal.τ).loc Cert.PackIdeal.main_arg22) = m ((c.tc : Thread Cert.PackIdeal.nD Cert.PackIdeal.τ).loc Cert.PackIdeal.main_arg22)
          ∧ r.2.mem ((c.tc : Thread Cert.PackIdeal.nD Cert.PackIdeal.τ).loc Cert.PackIdeal.main_arg23) = m ((c.tc : Thread Cert.PackIdeal.nD Cert.PackIdeal.τ).loc Cert.PackIdeal.main_arg23)
          ∧ r.2.mem ((c.tc : Thread Cert.PackIdeal.nD Cert.PackIdeal.τ).loc Cert.PackIdeal.main_arg24) = m ((c.tc : Thread Cert.PackIdeal.nD Cert.PackIdeal.τ).loc Cert.PackIdeal.main_arg24)
          ∧ r.2.mem ((c.tc : Thread Cert.PackIdeal.nD Cert.PackIdeal.τ).loc Cert.PackIdeal.main_arg25) = m ((c.tc : Thread Cert.PackIdeal.nD Cert.PackIdeal.τ).loc Cert.PackIdeal.main_arg25)
          ∧ r.2.mem ((c.tc : Thread Cert.PackIdeal.nD Cert.PackIdeal.τ).loc Cert.PackIdeal.main_arg26) = m ((c.tc : Thread Cert.PackIdeal.nD Cert.PackIdeal.τ).loc Cert.PackIdeal.main_arg26)
          ∧ r.2.mem ((c.tc : Thread Cert.PackIdeal.nD Cert.PackIdeal.τ).loc Cert.PackIdeal.main_arg27) = m ((c.tc : Thread Cert.PackIdeal.nD Cert.PackIdeal.τ).loc Cert.PackIdeal.main_arg27)
          ∧ r.2.mem ((c.tc : Thread Cert.PackIdeal.nD Cert.PackIdeal.τ).loc Cert.PackIdeal.main_arg28) = m ((c.tc : Thread Cert.PackIdeal.nD Cert.PackIdeal.τ).loc Cert.PackIdeal.main_arg28)
          ∧ r.2.mem ((c.tc : Thread Cert.PackIdeal.nD Cert.PackIdeal.τ).loc Cert.PackIdeal.main_arg29) = m ((c.tc : Thread Cert.PackIdeal.nD Cert.PackIdeal.τ).loc Cert.PackIdeal.main_arg29)
          ∧ r.2.mem ((c.tc : Thread Cert.PackIdeal.nD Cert.PackIdeal.τ).loc Cert.PackIdeal.main_arg30) = m ((c.tc : Thread Cert.PackIdeal.nD Cert.PackIdeal.τ).loc Cert.PackIdeal.main_arg30)
          ∧ r.2.mem ((c.tc : Thread Cert.PackIdeal.nD Cert.PackIdeal.τ).loc Cert.PackIdeal.main_arg31) = m ((c.tc : Thread Cert.PackIdeal.nD Cert.PackIdeal.τ).loc Cert.PackIdeal.main_arg31)
          ∧ r.2.mem ((c.tc : Thread Cert.PackIdeal.nD Cert.PackIdeal.τ).loc Cert.PackIdeal.main_arg32) = m ((c.tc : Thread Cert.PackIdeal.nD Cert.PackIdeal.τ).loc Cert.PackIdeal.main_arg32)
          ∧ r.2.mem ((c.tc : Thread Cert.PackIdeal.nD Cert.PackIdeal.τ).loc Cert.PackIdeal.main_arg33) = m ((c.tc : Thread Cert.PackIdeal.nD Cert.PackIdeal.τ).loc Cert.PackIdeal.main_arg33)
          ∧ r.2.mem ((c.tc : Thread Cert.PackIdeal.nD Cert.PackIdeal.τ).loc Cert.PackIdeal.main_arg34) = m ((c.tc : Thread Cert.PackIdeal.nD Cert.PackIdeal.τ).loc Cert.PackIdeal.main_arg34)
          ∧ r.2.mem ((c.tc : Thread Cert.PackIdeal.nD Cert.PackIdeal.τ).loc Cert.PackIdeal.main_arg35) = m ((c.tc : Thread Cert.PackIdeal.nD Cert.PackIdeal.τ).loc Cert.PackIdeal.main_arg35)
          ∧ r.2.mem ((c.tc : Thread Cert.PackIdeal.nD Cert.PackIdeal.τ).loc Cert.PackIdeal.main_arg36) = m ((c.tc : Thread Cert.PackIdeal.nD Cert.PackIdeal.τ).loc Cert.PackIdeal.main_arg36)
          ∧ r.2.mem ((c.tc : Thread Cert.PackIdeal.nD Cert.PackIdeal.τ).loc Cert.PackIdeal.main_arg37) = m ((c.tc : Thread Cert.PackIdeal.nD Cert.PackIdeal.τ).loc Cert.PackIdeal.main_arg37)
          ∧ r.2.mem ((c.tc : Thread Cert.PackIdeal.nD Cert.PackIdeal.τ).loc Cert.PackIdeal.main_arg38) = m ((c.tc : Thread Cert.PackIdeal.nD Cert.PackIdeal.τ).loc Cert.PackIdeal.main_arg38)
          ∧ r.2.mem ((c.tc : Thread Cert.PackIdeal.nD Cert.PackIdeal.τ).loc Cert.PackIdeal.main_arg39) = m ((c.tc : Thread Cert.PackIdeal.nD Cert.PackIdeal.τ).loc Cert.PackIdeal.main_arg39)
          ∧ r.2.mem ((c.tc : Thread Cert.PackIdeal.nD Cert.PackIdeal.τ).loc Cert.PackIdeal.main_arg40) = m ((c.tc : Thread Cert.PackIdeal.nD Cert.PackIdeal.τ).loc Cert.PackIdeal.main_arg40)
          ∧ r.2.mem ((c.tc : Thread Cert.PackIdeal.nD Cert.PackIdeal.τ).loc Cert.PackIdeal.main_arg41) = m ((c.tc : Thread Cert.PackIdeal.nD Cert.PackIdeal.τ).loc Cert.PackIdeal.main_arg41)
          ∧ r.2.mem ((c.tc : Thread Cert.PackIdeal.nD Cert.PackIdeal.τ).loc Cert.PackIdeal.main_arg42) = m ((c.tc : Thread Cert.PackIdeal.nD Cert.PackIdeal.τ).loc Cert.PackIdeal.main_arg42)
          ∧ r.2.mem ((c.tc : Thread Cert.PackIdeal.nD Cert.PackIdeal.τ).loc Cert.PackIdeal.main_arg43) = m ((c.tc : Thread Cert.PackIdeal.nD Cert.PackIdeal.τ).loc Cert.PackIdeal.main_arg43)
          ∧ r.2.mem ((c.tc : Thread Cert.PackIdeal.nD Cert.PackIdeal.τ).loc Cert.PackIdeal.main_arg44) = m ((c.tc : Thread Cert.PackIdeal.nD Cert.PackIdeal.τ).loc Cert.PackIdeal.main_arg44)
          ∧ r.2.mem ((c.tc : Thread Cert.PackIdeal.nD Cert.PackIdeal.τ).loc Cert.PackIdeal.main_arg45) = m ((c.tc : Thread Cert.PackIdeal.nD Cert.PackIdeal.τ).loc Cert.PackIdeal.main_arg45)
          ∧ r.2.mem ((c.tc : Thread Cert.PackIdeal.nD Cert.PackIdeal.τ).loc Cert.PackIdeal.main_arg46) = m ((c.tc : Thread Cert.PackIdeal.nD Cert.PackIdeal.τ).loc Cert.PackIdeal.main_arg46)
          ∧ r.2.mem ((c.tc : Thread Cert.PackIdeal.nD Cert.PackIdeal.τ).loc Cert.PackIdeal.main_arg47) = m ((c.tc : Thread Cert.PackIdeal.nD Cert.PackIdeal.τ).loc Cert.PackIdeal.main_arg47)
          ∧ r.2.mem ((c.tc : Thread Cert.PackIdeal.nD Cert.PackIdeal.τ).loc Cert.PackIdeal.main_arg48) = m ((c.tc : Thread Cert.PackIdeal.nD Cert.PackIdeal.τ).loc Cert.PackIdeal.main_arg48)
          ∧ r.2.mem ((c.tc : Thread Cert.PackIdeal.nD Cert.PackIdeal.τ).loc Cert.PackIdeal.main_arg49) = m ((c.tc : Thread Cert.PackIdeal.nD Cert.PackIdeal.τ).loc Cert.PackIdeal.main_arg49)
          ∧ r.2.mem ((c.tc : Thread Cert.PackIdeal.nD Cert.PackIdeal.τ).loc Cert.PackIdeal.main_arg50) = m ((c.tc : Thread Cert.PackIdeal.nD Cert.PackIdeal.τ).loc Cert.PackIdeal.main_arg50)
          ∧ r.2.mem ((c.tc : Thread Cert.PackIdeal.nD Cert.PackIdeal.τ).loc Cert.PackIdeal.main_arg51) = m ((c.tc : Thread Cert.PackIdeal.nD Cert.PackIdeal.τ).loc Cert.PackIdeal.main_arg51))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v327) = v0 c
          ∧ r.2.mem ((c.tc : Thread Cert.PackRefIdeal.nD Cert.PackRefIdeal.τ).loc Cert.PackRefIdeal.main_v343) = v1 c
          ∧ r.2.mem ((c.tc : Thread Cert.PackRefIdeal.nD Cert.PackRefIdeal.τ).loc Cert.PackRefIdeal.main_v359) = v2 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2)
          ∧ r.2.mem ((c.tc : Thread Cert.PackRefIdeal.nD Cert.PackRefIdeal.τ).loc Cert.PackRefIdeal.main_arg3) = m' ((c.tc : Thread Cert.PackRefIdeal.nD Cert.PackRefIdeal.τ).loc Cert.PackRefIdeal.main_arg3)
          ∧ r.2.mem ((c.tc : Thread Cert.PackRefIdeal.nD Cert.PackRefIdeal.τ).loc Cert.PackRefIdeal.main_arg4) = m' ((c.tc : Thread Cert.PackRefIdeal.nD Cert.PackRefIdeal.τ).loc Cert.PackRefIdeal.main_arg4)
          ∧ r.2.mem ((c.tc : Thread Cert.PackRefIdeal.nD Cert.PackRefIdeal.τ).loc Cert.PackRefIdeal.main_arg5) = m' ((c.tc : Thread Cert.PackRefIdeal.nD Cert.PackRefIdeal.τ).loc Cert.PackRefIdeal.main_arg5)
          ∧ r.2.mem ((c.tc : Thread Cert.PackRefIdeal.nD Cert.PackRefIdeal.τ).loc Cert.PackRefIdeal.main_arg6) = m' ((c.tc : Thread Cert.PackRefIdeal.nD Cert.PackRefIdeal.τ).loc Cert.PackRefIdeal.main_arg6)
          ∧ r.2.mem ((c.tc : Thread Cert.PackRefIdeal.nD Cert.PackRefIdeal.τ).loc Cert.PackRefIdeal.main_arg7) = m' ((c.tc : Thread Cert.PackRefIdeal.nD Cert.PackRefIdeal.τ).loc Cert.PackRefIdeal.main_arg7)
          ∧ r.2.mem ((c.tc : Thread Cert.PackRefIdeal.nD Cert.PackRefIdeal.τ).loc Cert.PackRefIdeal.main_arg8) = m' ((c.tc : Thread Cert.PackRefIdeal.nD Cert.PackRefIdeal.τ).loc Cert.PackRefIdeal.main_arg8)
          ∧ r.2.mem ((c.tc : Thread Cert.PackRefIdeal.nD Cert.PackRefIdeal.τ).loc Cert.PackRefIdeal.main_arg9) = m' ((c.tc : Thread Cert.PackRefIdeal.nD Cert.PackRefIdeal.τ).loc Cert.PackRefIdeal.main_arg9)
          ∧ r.2.mem ((c.tc : Thread Cert.PackRefIdeal.nD Cert.PackRefIdeal.τ).loc Cert.PackRefIdeal.main_arg10) = m' ((c.tc : Thread Cert.PackRefIdeal.nD Cert.PackRefIdeal.τ).loc Cert.PackRefIdeal.main_arg10)
          ∧ r.2.mem ((c.tc : Thread Cert.PackRefIdeal.nD Cert.PackRefIdeal.τ).loc Cert.PackRefIdeal.main_arg11) = m' ((c.tc : Thread Cert.PackRefIdeal.nD Cert.PackRefIdeal.τ).loc Cert.PackRefIdeal.main_arg11)
          ∧ r.2.mem ((c.tc : Thread Cert.PackRefIdeal.nD Cert.PackRefIdeal.τ).loc Cert.PackRefIdeal.main_arg12) = m' ((c.tc : Thread Cert.PackRefIdeal.nD Cert.PackRefIdeal.τ).loc Cert.PackRefIdeal.main_arg12)
          ∧ r.2.mem ((c.tc : Thread Cert.PackRefIdeal.nD Cert.PackRefIdeal.τ).loc Cert.PackRefIdeal.main_arg13) = m' ((c.tc : Thread Cert.PackRefIdeal.nD Cert.PackRefIdeal.τ).loc Cert.PackRefIdeal.main_arg13)
          ∧ r.2.mem ((c.tc : Thread Cert.PackRefIdeal.nD Cert.PackRefIdeal.τ).loc Cert.PackRefIdeal.main_arg14) = m' ((c.tc : Thread Cert.PackRefIdeal.nD Cert.PackRefIdeal.τ).loc Cert.PackRefIdeal.main_arg14)
          ∧ r.2.mem ((c.tc : Thread Cert.PackRefIdeal.nD Cert.PackRefIdeal.τ).loc Cert.PackRefIdeal.main_arg15) = m' ((c.tc : Thread Cert.PackRefIdeal.nD Cert.PackRefIdeal.τ).loc Cert.PackRefIdeal.main_arg15)
          ∧ r.2.mem ((c.tc : Thread Cert.PackRefIdeal.nD Cert.PackRefIdeal.τ).loc Cert.PackRefIdeal.main_arg16) = m' ((c.tc : Thread Cert.PackRefIdeal.nD Cert.PackRefIdeal.τ).loc Cert.PackRefIdeal.main_arg16)
          ∧ r.2.mem ((c.tc : Thread Cert.PackRefIdeal.nD Cert.PackRefIdeal.τ).loc Cert.PackRefIdeal.main_arg17) = m' ((c.tc : Thread Cert.PackRefIdeal.nD Cert.PackRefIdeal.τ).loc Cert.PackRefIdeal.main_arg17)
          ∧ r.2.mem ((c.tc : Thread Cert.PackRefIdeal.nD Cert.PackRefIdeal.τ).loc Cert.PackRefIdeal.main_arg18) = m' ((c.tc : Thread Cert.PackRefIdeal.nD Cert.PackRefIdeal.τ).loc Cert.PackRefIdeal.main_arg18)
          ∧ r.2.mem ((c.tc : Thread Cert.PackRefIdeal.nD Cert.PackRefIdeal.τ).loc Cert.PackRefIdeal.main_arg19) = m' ((c.tc : Thread Cert.PackRefIdeal.nD Cert.PackRefIdeal.τ).loc Cert.PackRefIdeal.main_arg19)
          ∧ r.2.mem ((c.tc : Thread Cert.PackRefIdeal.nD Cert.PackRefIdeal.τ).loc Cert.PackRefIdeal.main_arg20) = m' ((c.tc : Thread Cert.PackRefIdeal.nD Cert.PackRefIdeal.τ).loc Cert.PackRefIdeal.main_arg20)
          ∧ r.2.mem ((c.tc : Thread Cert.PackRefIdeal.nD Cert.PackRefIdeal.τ).loc Cert.PackRefIdeal.main_arg21) = m' ((c.tc : Thread Cert.PackRefIdeal.nD Cert.PackRefIdeal.τ).loc Cert.PackRefIdeal.main_arg21)
          ∧ r.2.mem ((c.tc : Thread Cert.PackRefIdeal.nD Cert.PackRefIdeal.τ).loc Cert.PackRefIdeal.main_arg22) = m' ((c.tc : Thread Cert.PackRefIdeal.nD Cert.PackRefIdeal.τ).loc Cert.PackRefIdeal.main_arg22)
          ∧ r.2.mem ((c.tc : Thread Cert.PackRefIdeal.nD Cert.PackRefIdeal.τ).loc Cert.PackRefIdeal.main_arg23) = m' ((c.tc : Thread Cert.PackRefIdeal.nD Cert.PackRefIdeal.τ).loc Cert.PackRefIdeal.main_arg23)
          ∧ r.2.mem ((c.tc : Thread Cert.PackRefIdeal.nD Cert.PackRefIdeal.τ).loc Cert.PackRefIdeal.main_arg24) = m' ((c.tc : Thread Cert.PackRefIdeal.nD Cert.PackRefIdeal.τ).loc Cert.PackRefIdeal.main_arg24)
          ∧ r.2.mem ((c.tc : Thread Cert.PackRefIdeal.nD Cert.PackRefIdeal.τ).loc Cert.PackRefIdeal.main_arg25) = m' ((c.tc : Thread Cert.PackRefIdeal.nD Cert.PackRefIdeal.τ).loc Cert.PackRefIdeal.main_arg25)
          ∧ r.2.mem ((c.tc : Thread Cert.PackRefIdeal.nD Cert.PackRefIdeal.τ).loc Cert.PackRefIdeal.main_arg26) = m' ((c.tc : Thread Cert.PackRefIdeal.nD Cert.PackRefIdeal.τ).loc Cert.PackRefIdeal.main_arg26)
          ∧ r.2.mem ((c.tc : Thread Cert.PackRefIdeal.nD Cert.PackRefIdeal.τ).loc Cert.PackRefIdeal.main_arg27) = m' ((c.tc : Thread Cert.PackRefIdeal.nD Cert.PackRefIdeal.τ).loc Cert.PackRefIdeal.main_arg27)
          ∧ r.2.mem ((c.tc : Thread Cert.PackRefIdeal.nD Cert.PackRefIdeal.τ).loc Cert.PackRefIdeal.main_arg28) = m' ((c.tc : Thread Cert.PackRefIdeal.nD Cert.PackRefIdeal.τ).loc Cert.PackRefIdeal.main_arg28)
          ∧ r.2.mem ((c.tc : Thread Cert.PackRefIdeal.nD Cert.PackRefIdeal.τ).loc Cert.PackRefIdeal.main_arg29) = m' ((c.tc : Thread Cert.PackRefIdeal.nD Cert.PackRefIdeal.τ).loc Cert.PackRefIdeal.main_arg29)
          ∧ r.2.mem ((c.tc : Thread Cert.PackRefIdeal.nD Cert.PackRefIdeal.τ).loc Cert.PackRefIdeal.main_arg30) = m' ((c.tc : Thread Cert.PackRefIdeal.nD Cert.PackRefIdeal.τ).loc Cert.PackRefIdeal.main_arg30)
          ∧ r.2.mem ((c.tc : Thread Cert.PackRefIdeal.nD Cert.PackRefIdeal.τ).loc Cert.PackRefIdeal.main_arg31) = m' ((c.tc : Thread Cert.PackRefIdeal.nD Cert.PackRefIdeal.τ).loc Cert.PackRefIdeal.main_arg31)
          ∧ r.2.mem ((c.tc : Thread Cert.PackRefIdeal.nD Cert.PackRefIdeal.τ).loc Cert.PackRefIdeal.main_arg32) = m' ((c.tc : Thread Cert.PackRefIdeal.nD Cert.PackRefIdeal.τ).loc Cert.PackRefIdeal.main_arg32)
          ∧ r.2.mem ((c.tc : Thread Cert.PackRefIdeal.nD Cert.PackRefIdeal.τ).loc Cert.PackRefIdeal.main_arg33) = m' ((c.tc : Thread Cert.PackRefIdeal.nD Cert.PackRefIdeal.τ).loc Cert.PackRefIdeal.main_arg33)
          ∧ r.2.mem ((c.tc : Thread Cert.PackRefIdeal.nD Cert.PackRefIdeal.τ).loc Cert.PackRefIdeal.main_arg34) = m' ((c.tc : Thread Cert.PackRefIdeal.nD Cert.PackRefIdeal.τ).loc Cert.PackRefIdeal.main_arg34)
          ∧ r.2.mem ((c.tc : Thread Cert.PackRefIdeal.nD Cert.PackRefIdeal.τ).loc Cert.PackRefIdeal.main_arg35) = m' ((c.tc : Thread Cert.PackRefIdeal.nD Cert.PackRefIdeal.τ).loc Cert.PackRefIdeal.main_arg35)
          ∧ r.2.mem ((c.tc : Thread Cert.PackRefIdeal.nD Cert.PackRefIdeal.τ).loc Cert.PackRefIdeal.main_arg36) = m' ((c.tc : Thread Cert.PackRefIdeal.nD Cert.PackRefIdeal.τ).loc Cert.PackRefIdeal.main_arg36)
          ∧ r.2.mem ((c.tc : Thread Cert.PackRefIdeal.nD Cert.PackRefIdeal.τ).loc Cert.PackRefIdeal.main_arg37) = m' ((c.tc : Thread Cert.PackRefIdeal.nD Cert.PackRefIdeal.τ).loc Cert.PackRefIdeal.main_arg37)
          ∧ r.2.mem ((c.tc : Thread Cert.PackRefIdeal.nD Cert.PackRefIdeal.τ).loc Cert.PackRefIdeal.main_arg38) = m' ((c.tc : Thread Cert.PackRefIdeal.nD Cert.PackRefIdeal.τ).loc Cert.PackRefIdeal.main_arg38)
          ∧ r.2.mem ((c.tc : Thread Cert.PackRefIdeal.nD Cert.PackRefIdeal.τ).loc Cert.PackRefIdeal.main_arg39) = m' ((c.tc : Thread Cert.PackRefIdeal.nD Cert.PackRefIdeal.τ).loc Cert.PackRefIdeal.main_arg39)
          ∧ r.2.mem ((c.tc : Thread Cert.PackRefIdeal.nD Cert.PackRefIdeal.τ).loc Cert.PackRefIdeal.main_arg40) = m' ((c.tc : Thread Cert.PackRefIdeal.nD Cert.PackRefIdeal.τ).loc Cert.PackRefIdeal.main_arg40)
          ∧ r.2.mem ((c.tc : Thread Cert.PackRefIdeal.nD Cert.PackRefIdeal.τ).loc Cert.PackRefIdeal.main_arg41) = m' ((c.tc : Thread Cert.PackRefIdeal.nD Cert.PackRefIdeal.τ).loc Cert.PackRefIdeal.main_arg41)
          ∧ r.2.mem ((c.tc : Thread Cert.PackRefIdeal.nD Cert.PackRefIdeal.τ).loc Cert.PackRefIdeal.main_arg42) = m' ((c.tc : Thread Cert.PackRefIdeal.nD Cert.PackRefIdeal.τ).loc Cert.PackRefIdeal.main_arg42)
          ∧ r.2.mem ((c.tc : Thread Cert.PackRefIdeal.nD Cert.PackRefIdeal.τ).loc Cert.PackRefIdeal.main_arg43) = m' ((c.tc : Thread Cert.PackRefIdeal.nD Cert.PackRefIdeal.τ).loc Cert.PackRefIdeal.main_arg43)
          ∧ r.2.mem ((c.tc : Thread Cert.PackRefIdeal.nD Cert.PackRefIdeal.τ).loc Cert.PackRefIdeal.main_arg44) = m' ((c.tc : Thread Cert.PackRefIdeal.nD Cert.PackRefIdeal.τ).loc Cert.PackRefIdeal.main_arg44)
          ∧ r.2.mem ((c.tc : Thread Cert.PackRefIdeal.nD Cert.PackRefIdeal.τ).loc Cert.PackRefIdeal.main_arg45) = m' ((c.tc : Thread Cert.PackRefIdeal.nD Cert.PackRefIdeal.τ).loc Cert.PackRefIdeal.main_arg45)
          ∧ r.2.mem ((c.tc : Thread Cert.PackRefIdeal.nD Cert.PackRefIdeal.τ).loc Cert.PackRefIdeal.main_arg46) = m' ((c.tc : Thread Cert.PackRefIdeal.nD Cert.PackRefIdeal.τ).loc Cert.PackRefIdeal.main_arg46)
          ∧ r.2.mem ((c.tc : Thread Cert.PackRefIdeal.nD Cert.PackRefIdeal.τ).loc Cert.PackRefIdeal.main_arg47) = m' ((c.tc : Thread Cert.PackRefIdeal.nD Cert.PackRefIdeal.τ).loc Cert.PackRefIdeal.main_arg47)
          ∧ r.2.mem ((c.tc : Thread Cert.PackRefIdeal.nD Cert.PackRefIdeal.τ).loc Cert.PackRefIdeal.main_arg48) = m' ((c.tc : Thread Cert.PackRefIdeal.nD Cert.PackRefIdeal.τ).loc Cert.PackRefIdeal.main_arg48)
          ∧ r.2.mem ((c.tc : Thread Cert.PackRefIdeal.nD Cert.PackRefIdeal.τ).loc Cert.PackRefIdeal.main_arg49) = m' ((c.tc : Thread Cert.PackRefIdeal.nD Cert.PackRefIdeal.τ).loc Cert.PackRefIdeal.main_arg49)
          ∧ r.2.mem ((c.tc : Thread Cert.PackRefIdeal.nD Cert.PackRefIdeal.τ).loc Cert.PackRefIdeal.main_arg50) = m' ((c.tc : Thread Cert.PackRefIdeal.nD Cert.PackRefIdeal.τ).loc Cert.PackRefIdeal.main_arg50)
          ∧ r.2.mem ((c.tc : Thread Cert.PackRefIdeal.nD Cert.PackRefIdeal.τ).loc Cert.PackRefIdeal.main_arg51) = m' ((c.tc : Thread Cert.PackRefIdeal.nD Cert.PackRefIdeal.τ).loc Cert.PackRefIdeal.main_arg51))

def Claim : Prop :=
  ∃ (hPostNorm : Cert.PostNorm.Facts) (hPostNormIdeal : Cert.PostNormIdeal.Facts) (hPostNormRefIdeal : Cert.PostNormRefIdeal.Facts) (hPreNorm : Cert.PreNorm.Facts) (hPreNormIdeal : Cert.PreNormIdeal.Facts) (hPreNormRefIdeal : Cert.PreNormRefIdeal.Facts) (hSwaBwd : Cert.SwaBwd.Facts) (hSwaBwdIdeal : Cert.SwaBwdIdeal.Facts) (hSwaBwdRefIdeal : Cert.SwaBwdRefIdeal.Facts) (hPoolBwd : Cert.PoolBwd.Facts) (hPoolBwdIdeal : Cert.PoolBwdIdeal.Facts) (hPoolBwdRefIdeal : Cert.PoolBwdRefIdeal.Facts) (hMidNorm : Cert.MidNorm.Facts) (hMidNormIdeal : Cert.MidNormIdeal.Facts) (hMidNormRefIdeal : Cert.MidNormRefIdeal.Facts) (hPostLoss : Cert.PostLoss.Facts) (hPostLossIdeal : Cert.PostLossIdeal.Facts) (hPostLossRefIdeal : Cert.PostLossRefIdeal.Facts) (hNormFirst : Cert.NormFirst.Facts) (hNormFirstIdeal : Cert.NormFirstIdeal.Facts) (hNormFirstRefIdeal : Cert.NormFirstRefIdeal.Facts) (hPostPre : Cert.PostPre.Facts) (hPostPreIdeal : Cert.PostPreIdeal.Facts) (hPostPreRefIdeal : Cert.PostPreRefIdeal.Facts) (hSwaFwd : Cert.SwaFwd.Facts) (hSwaFwdIdeal : Cert.SwaFwdIdeal.Facts) (hSwaFwdRefIdeal : Cert.SwaFwdRefIdeal.Facts) (hPoolFwd : Cert.PoolFwd.Facts) (hPoolFwdIdeal : Cert.PoolFwdIdeal.Facts) (hPoolFwdRefIdeal : Cert.PoolFwdRefIdeal.Facts) (hGluFwd : Cert.GluFwd.Facts) (hGluFwdIdeal : Cert.GluFwdIdeal.Facts) (hGluFwdRefIdeal : Cert.GluFwdRefIdeal.Facts) (hMmNn : Cert.MmNn.Facts) (hMmNnIdeal : Cert.MmNnIdeal.Facts) (hMmNnRefIdeal : Cert.MmNnRefIdeal.Facts) (hMmNt : Cert.MmNt.Facts) (hMmNtIdeal : Cert.MmNtIdeal.Facts) (hMmNtRefIdeal : Cert.MmNtRefIdeal.Facts) (hMmTn : Cert.MmTn.Facts) (hMmTnIdeal : Cert.MmTnIdeal.Facts) (hMmTnRefIdeal : Cert.MmTnRefIdeal.Facts) (hMmUp : Cert.MmUp.Facts) (hMmUpIdeal : Cert.MmUpIdeal.Facts) (hMmUpRefIdeal : Cert.MmUpRefIdeal.Facts) (hMmUpD : Cert.MmUpD.Facts) (hMmUpDIdeal : Cert.MmUpDIdeal.Facts) (hMmUpDRefIdeal : Cert.MmUpDRefIdeal.Facts) (hMmUpW : Cert.MmUpW.Facts) (hMmUpWIdeal : Cert.MmUpWIdeal.Facts) (hMmUpWRefIdeal : Cert.MmUpWRefIdeal.Facts) (hAdamw : Cert.Adamw.Facts) (hAdamwIdeal : Cert.AdamwIdeal.Facts) (hAdamwRefIdeal : Cert.AdamwRefIdeal.Facts) (hSumSlabs : Cert.SumSlabs.Facts) (hSumSlabsIdeal : Cert.SumSlabsIdeal.Facts) (hSumSlabsRefIdeal : Cert.SumSlabsRefIdeal.Facts) (hPack : Cert.Pack.Facts) (hPackIdeal : Cert.PackIdeal.Facts) (hPackRefIdeal : Cert.PackRefIdeal.Facts) (hPre_post_norm_finite : Cert.Pre_post_norm_finite.Facts) (hPre_pre_norm_finite : Cert.Pre_pre_norm_finite.Facts) (hPre_swa_bwd_finite : Cert.Pre_swa_bwd_finite.Facts) (hPre_pool_bwd_finite : Cert.Pre_pool_bwd_finite.Facts) (hPre_mid_norm_finite : Cert.Pre_mid_norm_finite.Facts) (hPre_post_loss_finite : Cert.Pre_post_loss_finite.Facts) (hPre_norm_first_finite : Cert.Pre_norm_first_finite.Facts) (hPre_post_pre_finite : Cert.Pre_post_pre_finite.Facts) (hPre_swa_fwd_finite : Cert.Pre_swa_fwd_finite.Facts) (hPre_pool_fwd_finite : Cert.Pre_pool_fwd_finite.Facts),
    quiescent_PostNorm (hPostNorm := hPostNorm)
    ∧ quiescent_PostNormIdeal (hPostNormIdeal := hPostNormIdeal)
    ∧ quiescent_PostNormIdeal_pre_post_norm_finite (hPostNormIdeal := hPostNormIdeal) (hPre_post_norm_finite := hPre_post_norm_finite)
    ∧ quiescent_PostNormRefIdeal (hPostNormRefIdeal := hPostNormRefIdeal)
    ∧ quiescent_PostNormRefIdeal_pre_post_norm_finite (hPostNormRefIdeal := hPostNormRefIdeal) (hPre_post_norm_finite := hPre_post_norm_finite)
    ∧ quiescent_PreNorm (hPreNorm := hPreNorm)
    ∧ quiescent_PreNormIdeal (hPreNormIdeal := hPreNormIdeal)
    ∧ quiescent_PreNormIdeal_pre_pre_norm_finite (hPreNormIdeal := hPreNormIdeal) (hPre_pre_norm_finite := hPre_pre_norm_finite)
    ∧ quiescent_PreNormRefIdeal (hPreNormRefIdeal := hPreNormRefIdeal)
    ∧ quiescent_PreNormRefIdeal_pre_pre_norm_finite (hPreNormRefIdeal := hPreNormRefIdeal) (hPre_pre_norm_finite := hPre_pre_norm_finite)
    ∧ quiescent_SwaBwd (hSwaBwd := hSwaBwd)
    ∧ quiescent_SwaBwdIdeal (hSwaBwdIdeal := hSwaBwdIdeal)
    ∧ quiescent_SwaBwdIdeal_pre_swa_bwd_finite (hSwaBwdIdeal := hSwaBwdIdeal) (hPre_swa_bwd_finite := hPre_swa_bwd_finite)
    ∧ quiescent_SwaBwdRefIdeal (hSwaBwdRefIdeal := hSwaBwdRefIdeal)
    ∧ quiescent_SwaBwdRefIdeal_pre_swa_bwd_finite (hSwaBwdRefIdeal := hSwaBwdRefIdeal) (hPre_swa_bwd_finite := hPre_swa_bwd_finite)
    ∧ quiescent_PoolBwd (hPoolBwd := hPoolBwd)
    ∧ quiescent_PoolBwdIdeal (hPoolBwdIdeal := hPoolBwdIdeal)
    ∧ quiescent_PoolBwdIdeal_pre_pool_bwd_finite (hPoolBwdIdeal := hPoolBwdIdeal) (hPre_pool_bwd_finite := hPre_pool_bwd_finite)
    ∧ quiescent_PoolBwdRefIdeal (hPoolBwdRefIdeal := hPoolBwdRefIdeal)
    ∧ quiescent_PoolBwdRefIdeal_pre_pool_bwd_finite (hPoolBwdRefIdeal := hPoolBwdRefIdeal) (hPre_pool_bwd_finite := hPre_pool_bwd_finite)
    ∧ quiescent_MidNorm (hMidNorm := hMidNorm)
    ∧ quiescent_MidNormIdeal (hMidNormIdeal := hMidNormIdeal)
    ∧ quiescent_MidNormIdeal_pre_mid_norm_finite (hMidNormIdeal := hMidNormIdeal) (hPre_mid_norm_finite := hPre_mid_norm_finite)
    ∧ quiescent_MidNormRefIdeal (hMidNormRefIdeal := hMidNormRefIdeal)
    ∧ quiescent_MidNormRefIdeal_pre_mid_norm_finite (hMidNormRefIdeal := hMidNormRefIdeal) (hPre_mid_norm_finite := hPre_mid_norm_finite)
    ∧ quiescent_PostLoss (hPostLoss := hPostLoss)
    ∧ quiescent_PostLossIdeal (hPostLossIdeal := hPostLossIdeal)
    ∧ quiescent_PostLossIdeal_pre_post_loss_finite (hPostLossIdeal := hPostLossIdeal) (hPre_post_loss_finite := hPre_post_loss_finite)
    ∧ quiescent_PostLossRefIdeal (hPostLossRefIdeal := hPostLossRefIdeal)
    ∧ quiescent_PostLossRefIdeal_pre_post_loss_finite (hPostLossRefIdeal := hPostLossRefIdeal) (hPre_post_loss_finite := hPre_post_loss_finite)
    ∧ quiescent_NormFirst (hNormFirst := hNormFirst)
    ∧ quiescent_NormFirstIdeal (hNormFirstIdeal := hNormFirstIdeal)
    ∧ quiescent_NormFirstIdeal_pre_norm_first_finite (hNormFirstIdeal := hNormFirstIdeal) (hPre_norm_first_finite := hPre_norm_first_finite)
    ∧ quiescent_NormFirstRefIdeal (hNormFirstRefIdeal := hNormFirstRefIdeal)
    ∧ quiescent_NormFirstRefIdeal_pre_norm_first_finite (hNormFirstRefIdeal := hNormFirstRefIdeal) (hPre_norm_first_finite := hPre_norm_first_finite)
    ∧ quiescent_PostPre (hPostPre := hPostPre)
    ∧ quiescent_PostPreIdeal (hPostPreIdeal := hPostPreIdeal)
    ∧ quiescent_PostPreIdeal_pre_post_pre_finite (hPostPreIdeal := hPostPreIdeal) (hPre_post_pre_finite := hPre_post_pre_finite)
    ∧ quiescent_PostPreRefIdeal (hPostPreRefIdeal := hPostPreRefIdeal)
    ∧ quiescent_PostPreRefIdeal_pre_post_pre_finite (hPostPreRefIdeal := hPostPreRefIdeal) (hPre_post_pre_finite := hPre_post_pre_finite)
    ∧ quiescent_SwaFwd (hSwaFwd := hSwaFwd)
    ∧ quiescent_SwaFwdIdeal (hSwaFwdIdeal := hSwaFwdIdeal)
    ∧ quiescent_SwaFwdIdeal_pre_swa_fwd_finite (hSwaFwdIdeal := hSwaFwdIdeal) (hPre_swa_fwd_finite := hPre_swa_fwd_finite)
    ∧ quiescent_SwaFwdRefIdeal (hSwaFwdRefIdeal := hSwaFwdRefIdeal)
    ∧ quiescent_SwaFwdRefIdeal_pre_swa_fwd_finite (hSwaFwdRefIdeal := hSwaFwdRefIdeal) (hPre_swa_fwd_finite := hPre_swa_fwd_finite)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmUpD (hMmUpD := hMmUpD)
    ∧ quiescent_MmUpDIdeal (hMmUpDIdeal := hMmUpDIdeal)
    ∧ quiescent_MmUpDRefIdeal (hMmUpDRefIdeal := hMmUpDRefIdeal)
    ∧ quiescent_MmUpW (hMmUpW := hMmUpW)
    ∧ quiescent_MmUpWIdeal (hMmUpWIdeal := hMmUpWIdeal)
    ∧ quiescent_MmUpWRefIdeal (hMmUpWRefIdeal := hMmUpWRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_SumSlabs (hSumSlabs := hSumSlabs)
    ∧ quiescent_SumSlabsIdeal (hSumSlabsIdeal := hSumSlabsIdeal)
    ∧ quiescent_SumSlabsRefIdeal (hSumSlabsRefIdeal := hSumSlabsRefIdeal)
    ∧ quiescent_Pack (hPack := hPack)
    ∧ quiescent_PackIdeal (hPackIdeal := hPackIdeal)
    ∧ quiescent_PackRefIdeal (hPackRefIdeal := hPackRefIdeal)
    ∧ preserves_PostNorm_PostNormIdeal
    ∧ algebraic_PostNormIdeal_PostNormRefIdeal_pre_post_norm_finite (hPostNormIdeal := hPostNormIdeal) (hPostNormRefIdeal := hPostNormRefIdeal) (hPre_post_norm_finite := hPre_post_norm_finite)
    ∧ preserves_PreNorm_PreNormIdeal
    ∧ algebraic_PreNormIdeal_PreNormRefIdeal_pre_pre_norm_finite (hPreNormIdeal := hPreNormIdeal) (hPreNormRefIdeal := hPreNormRefIdeal) (hPre_pre_norm_finite := hPre_pre_norm_finite)
    ∧ preserves_SwaBwd_SwaBwdIdeal
    ∧ algebraic_SwaBwdIdeal_SwaBwdRefIdeal_pre_swa_bwd_finite (hSwaBwdIdeal := hSwaBwdIdeal) (hSwaBwdRefIdeal := hSwaBwdRefIdeal) (hPre_swa_bwd_finite := hPre_swa_bwd_finite)
    ∧ preserves_PoolBwd_PoolBwdIdeal
    ∧ algebraic_PoolBwdIdeal_PoolBwdRefIdeal_pre_pool_bwd_finite (hPoolBwdIdeal := hPoolBwdIdeal) (hPoolBwdRefIdeal := hPoolBwdRefIdeal) (hPre_pool_bwd_finite := hPre_pool_bwd_finite)
    ∧ preserves_MidNorm_MidNormIdeal
    ∧ algebraic_MidNormIdeal_MidNormRefIdeal_pre_mid_norm_finite (hMidNormIdeal := hMidNormIdeal) (hMidNormRefIdeal := hMidNormRefIdeal) (hPre_mid_norm_finite := hPre_mid_norm_finite)
    ∧ preserves_PostLoss_PostLossIdeal
    ∧ algebraic_PostLossIdeal_PostLossRefIdeal_pre_post_loss_finite (hPostLossIdeal := hPostLossIdeal) (hPostLossRefIdeal := hPostLossRefIdeal) (hPre_post_loss_finite := hPre_post_loss_finite)
    ∧ preserves_NormFirst_NormFirstIdeal
    ∧ algebraic_NormFirstIdeal_NormFirstRefIdeal_pre_norm_first_finite (hNormFirstIdeal := hNormFirstIdeal) (hNormFirstRefIdeal := hNormFirstRefIdeal) (hPre_norm_first_finite := hPre_norm_first_finite)
    ∧ preserves_PostPre_PostPreIdeal
    ∧ algebraic_PostPreIdeal_PostPreRefIdeal_pre_post_pre_finite (hPostPreIdeal := hPostPreIdeal) (hPostPreRefIdeal := hPostPreRefIdeal) (hPre_post_pre_finite := hPre_post_pre_finite)
    ∧ preserves_SwaFwd_SwaFwdIdeal
    ∧ algebraic_SwaFwdIdeal_SwaFwdRefIdeal_pre_swa_fwd_finite (hSwaFwdIdeal := hSwaFwdIdeal) (hSwaFwdRefIdeal := hSwaFwdRefIdeal) (hPre_swa_fwd_finite := hPre_swa_fwd_finite)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
    ∧ preserves_GluFwd_GluFwdIdeal
    ∧ algebraic_GluFwdIdeal_GluFwdRefIdeal (hGluFwdIdeal := hGluFwdIdeal) (hGluFwdRefIdeal := hGluFwdRefIdeal)
    ∧ preserves_MmNn_MmNnIdeal
    ∧ algebraic_MmNnIdeal_MmNnRefIdeal (hMmNnIdeal := hMmNnIdeal) (hMmNnRefIdeal := hMmNnRefIdeal)
    ∧ preserves_MmNt_MmNtIdeal
    ∧ algebraic_MmNtIdeal_MmNtRefIdeal (hMmNtIdeal := hMmNtIdeal) (hMmNtRefIdeal := hMmNtRefIdeal)
    ∧ preserves_MmTn_MmTnIdeal
    ∧ algebraic_MmTnIdeal_MmTnRefIdeal (hMmTnIdeal := hMmTnIdeal) (hMmTnRefIdeal := hMmTnRefIdeal)
    ∧ preserves_MmUp_MmUpIdeal
    ∧ algebraic_MmUpIdeal_MmUpRefIdeal (hMmUpIdeal := hMmUpIdeal) (hMmUpRefIdeal := hMmUpRefIdeal)
    ∧ preserves_MmUpD_MmUpDIdeal
    ∧ algebraic_MmUpDIdeal_MmUpDRefIdeal (hMmUpDIdeal := hMmUpDIdeal) (hMmUpDRefIdeal := hMmUpDRefIdeal)
    ∧ preserves_MmUpW_MmUpWIdeal
    ∧ algebraic_MmUpWIdeal_MmUpWRefIdeal (hMmUpWIdeal := hMmUpWIdeal) (hMmUpWRefIdeal := hMmUpWRefIdeal)
    ∧ preserves_Adamw_AdamwIdeal
    ∧ algebraic_AdamwIdeal_AdamwRefIdeal (hAdamwIdeal := hAdamwIdeal) (hAdamwRefIdeal := hAdamwRefIdeal)
    ∧ preserves_SumSlabs_SumSlabsIdeal
    ∧ algebraic_SumSlabsIdeal_SumSlabsRefIdeal (hSumSlabsIdeal := hSumSlabsIdeal) (hSumSlabsRefIdeal := hSumSlabsRefIdeal)
    ∧ preserves_Pack_PackIdeal
    ∧ algebraic_PackIdeal_PackRefIdeal (hPackIdeal := hPackIdeal) (hPackRefIdeal := hPackRefIdeal)
-- ==== Pre_mid_norm_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S2048 .f32) (main_arg5 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_v13 main_v16
-- ==== Pre_norm_first_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Pre_pool_bwd_finite.lean ====
abbrev S4096x4876 : Shape := ⟨2, ![4096, 4876]⟩
abbrev S4096x2048 : Shape := ⟨2, ![4096, 2048]⟩
abbrev S4x128x128 : Shape := ⟨3, ![4, 128, 128]⟩
abbrev S512 : Shape := ⟨1, ![512]⟩
abbrev S_ : Shape := ⟨0, ![]⟩

class Facts : Prop where
  bcast_S_S4096x4876 : S_.BroadcastsInDim S4096x4876 (![] : Fin 0 → Fin S4096x4876.rank)
  reducesTo_S4096x4876_S_d0_1 : S4096x4876.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4096x4876 .f32) (main_arg1 : FVec F S4096x2048 .f32) (main_arg2 : FVec F S4x128x128 .f32) (main_arg3 : FVec F S512 .f32) : IVec S_ 1 :=
  let main_v0 : FVec F S4096x4876 .f32 := Host.absf main_arg0
  let main_cst : FVec F S_ .f32 := constant S_ .f32 0x7F800000#32
  let main_v1 : FVec F S4096x4876 .f32 := broadcastInDim S4096x4876 ![] bcast_S_S4096x4876 main_cst
  let main_v2 : IVec S4096x4876 1 := cmpf .olt main_v0 main_v1
  let main_c : IVec S_ 1 := constantI S_ 1 1#1
  let main_v3 : IVec S_ 1 := (fun x v => Host.reduce IntOp.andi x v reducesTo_S4096x4876_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Pre_pool_fwd_finite.lean ====
abbrev S4096x4876 : Shape := ⟨2, ![4096, 4876]⟩
abbrev S4x128x128 : Shape := ⟨3, ![4, 128, 128]⟩
abbrev S512 : Shape := ⟨1, ![512]⟩
abbrev S_ : Shape := ⟨0, ![]⟩

class Facts : Prop where
  bcast_S_S4096x4876 : S_.BroadcastsInDim S4096x4876 (![] : Fin 0 → Fin S4096x4876.rank)
  reducesTo_S4096x4876_S_d0_1 : S4096x4876.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_

variable [Facts]

def fn {F : FTy → Type} [FloatOps F] (main_arg0 : FVec F S4096x4876 .f32) (main_arg1 : FVec F S4x128x128 .f32) (main_arg2 : FVec F S512 .f32) : IVec S_ 1 :=
  let main_v0 : FVec F S4096x4876 .f32 := Host.absf main_arg0
  let main_cst : FVec F S_ .f32 := constant S_ .f32 0x7F800000#32
  let main_v1 : FVec F S4096x4876 .f32 := broadcastInDim S4096x4876 ![] bcast_S_S4096x4876 main_cst
  let main_v2 : IVec S4096x4876 1 := cmpf .olt main_v0 main_v1
  let main_c : IVec S_ 1 := constantI S_ 1 1#1
  let main_v3 : IVec S_ 1 := (fun x v => Host.reduce IntOp.andi x v reducesTo_S4096x4876_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Pre_post_loss_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2048 .f32) (main_arg1 : FVec F S4096x2048 .f32) (main_arg2 : FVec F S2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Pre_post_norm_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S4096x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Pre_post_pre_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4096x2048 .f32) (main_arg1 : FVec F S4096x2048 .f32) (main_arg2 : FVec F S2048 .f32) (main_arg3 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Pre_pre_norm_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4096x2048 .f32) (main_arg1 : FVec F S4096x2048 .f32) (main_arg2 : FVec F S4096x2048 .f32) (main_arg3 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Pre_swa_bwd_finite.lean ====
abbrev S4096x4876 : Shape := ⟨2, ![4096, 4876]⟩
abbrev S4096x2048 : Shape := ⟨2, ![4096, 2048]⟩
abbrev S4096 : Shape := ⟨1, ![4096]⟩
abbrev S6 : Shape := ⟨1, ![6]⟩
abbrev S_ : Shape := ⟨0, ![]⟩

class Facts : Prop where
  bcast_S_S4096x4876 : S_.BroadcastsInDim S4096x4876 (![] : Fin 0 → Fin S4096x4876.rank)
  reducesTo_S4096x4876_S_d0_1 : S4096x4876.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S6 : S_.BroadcastsInDim S6 (![] : Fin 0 → Fin S6.rank)
  reducesTo_S6_S_d0 : S6.ReducesTo [0] S_

variable [Facts]

def fn {F : FTy → Type} [FloatOps F] (main_arg0 : FVec F S4096x4876 .f32) (main_arg1 : FVec F S4096x2048 .f32) (main_arg2 : IVec S4096 32) (main_arg3 : FVec F S6 .f32) : IVec S_ 1 :=
  let main_v0 : FVec F S4096x4876 .f32 := Host.absf main_arg0
  let main_cst : FVec F S_ .f32 := constant S_ .f32 0x7F800000#32
  let main_v1 : FVec F S4096x4876 .f32 := broadcastInDim S4096x4876 ![] bcast_S_S4096x4876 main_cst
  let main_v2 : IVec S4096x4876 1 := cmpf .olt main_v0 main_v1
  let main_c : IVec S_ 1 := constantI S_ 1 1#1
  let main_v3 : IVec S_ 1 := (fun x v => Host.reduce IntOp.andi x v reducesTo_S4096x4876_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S6 .f32 := Host.absf main_arg3
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  main_v13
-- ==== Pre_swa_fwd_finite.lean ====
abbrev S4096x4876 : Shape := ⟨2, ![4096, 4876]⟩
abbrev S4096 : Shape := ⟨1, ![4096]⟩
abbrev S6 : Shape := ⟨1, ![6]⟩
abbrev S_ : Shape := ⟨0, ![]⟩

class Facts : Prop where
  bcast_S_S4096x4876 : S_.BroadcastsInDim S4096x4876 (![] : Fin 0 → Fin S4096x4876.rank)
  reducesTo_S4096x4876_S_d0_1 : S4096x4876.ReducesTo [0, 1] S_
  h_S_ : 0 < S_.numel
  bcast_S_S6 : S_.BroadcastsInDim S6 (![] : Fin 0 → Fin S6.rank)
  reducesTo_S6_S_d0 : S6.ReducesTo [0] S_

variable [Facts]

def fn {F : FTy → Type} [FloatOps F] (main_arg0 : FVec F S4096x4876 .f32) (main_arg1 : IVec S4096 32) (main_arg2 : FVec F S6 .f32) : IVec S_ 1 :=
  let main_v0 : FVec F S4096x4876 .f32 := Host.absf main_arg0
  let main_cst : FVec F S_ .f32 := constant S_ .f32 0x7F800000#32
  let main_v1 : FVec F S4096x4876 .f32 := broadcastInDim S4096x4876 ![] bcast_S_S4096x4876 main_cst
  let main_v2 : IVec S4096x4876 1 := cmpf .olt main_v0 main_v1
  let main_c : IVec S_ 1 := constantI S_ 1 1#1
  let main_v3 : IVec S_ 1 := (fun x v => Host.reduce IntOp.andi x v reducesTo_S4096x4876_S_d0_1 h_S_) main_v2 main_c
  let main_v4 : FVec F S6 .f32 := Host.absf main_arg2
  let main_cst_0 : FVec F S_ .f32 := constant S_ .f32 0x7F800000#32
  let main_v5 : FVec F S6 .f32 := broadcastInDim S6 ![] bcast_S_S6 main_cst_0
  let main_v6 : IVec S6 1 := cmpf .olt main_v4 main_v5
  let main_c_1 : IVec S_ 1 := constantI S_ 1 1#1
  let main_v7 : IVec S_ 1 := (fun x v => Host.reduce IntOp.andi x v reducesTo_S6_S_d0 h_S_) main_v6 main_c_1
  let main_v8 : IVec S_ 1 := andi main_v3 main_v7
  main_v8
-- ==== PostNorm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostNormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | .hbm, ⟨49, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== PreNorm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreNormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== SwaBwd.lean ====
abbrev S4096x4876 : Shape := ⟨2, ![4096, 4876]⟩
abbrev S4096x2048 : Shape := ⟨2, ![4096, 2048]⟩
abbrev S4096 : Shape := ⟨1, ![4096]⟩
abbrev S6 : Shape := ⟨1, ![6]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S128 : Shape := ⟨1, ![128]⟩
abbrev S1 : Shape := ⟨1, ![1]⟩
abbrev S1x128 : Shape := ⟨2, ![1, 128]⟩
abbrev S4096x116 : Shape := ⟨2, ![4096, 116]⟩
abbrev S4096x3072 : Shape := ⟨2, ![4096, 3072]⟩
abbrev S4096x768 : Shape := ⟨2, ![4096, 768]⟩
abbrev S4096x256 : Shape := ⟨2, ![4096, 256]⟩
abbrev S4096x512 : Shape := ⟨2, ![4096, 512]⟩
abbrev S4096x12 : Shape := ⟨2, ![4096, 12]⟩
abbrev S4096x4992 : Shape := ⟨2, ![4096, 4992]⟩
abbrev S128x768 : Shape := ⟨2, ![128, 768]⟩
abbrev S128x256 : Shape := ⟨2, ![128, 256]⟩
abbrev S128x128 : Shape := ⟨2, ![128, 128]⟩
abbrev S256x128 : Shape := ⟨2, ![256, 128]⟩
abbrev S384x128 : Shape := ⟨2, ![384, 128]⟩
abbrev S384x256 : Shape := ⟨2, ![384, 256]⟩
abbrev S1x1 : Shape := ⟨2, ![1, 1]⟩
abbrev S128x1 : Shape := ⟨2, ![128, 1]⟩
abbrev S384x1 : Shape := ⟨2, ![384, 1]⟩
abbrev S384 : Shape := ⟨1, ![384]⟩

abbrev nBuf : Space → Nat
  | .hbm => 54
  | .vmem => 30
  | .smem => 0
  | _ => 0

abbrev bufTy : (tb : Table) → Fin (tcTables nBuf tb) → BufTy
  | .hbm, ⟨0, _⟩ => ⟨S4096x4876, .f32⟩
  | .hbm, ⟨1, _⟩ => ⟨S4096x2048, .f32⟩
  | .hbm, ⟨2, _⟩ => ⟨S4096, .i32⟩
  | .hbm, ⟨3, _⟩ => ⟨S6, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S4096, .f32⟩
  | .hbm, ⟨21, _⟩ => ⟨S4096x1, .f32⟩
  | .hbm, ⟨22, _⟩ => ⟨S1x64, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S4096x128, .f32⟩
  | .hbm, ⟨29, _⟩ => ⟨S4096x64, .f32⟩
  | .hbm, ⟨30, _⟩ => ⟨S4096x128, .f32⟩
  | .hbm, ⟨31, _⟩ => ⟨S_, .f32⟩
  | .hbm, ⟨32, _⟩ => ⟨S128, .f32⟩
  | .hbm, ⟨33, _⟩ => ⟨S_, .i32⟩
  | .hbm, ⟨34, _⟩ => ⟨S1, .i32⟩
  | .hbm, ⟨35, _⟩ => ⟨S128, .f32⟩
  | .hbm, ⟨36, _⟩ => ⟨S1x128, .f32⟩
  | .hbm, ⟨37, _⟩ => ⟨S_, .f32⟩
  | .hbm, ⟨38, _⟩ => ⟨S4096x116, .f32⟩
  | .hbm, ⟨39, _⟩ => ⟨S4096x3072, .f32⟩
  | .hbm, ⟨40, _⟩ => ⟨S4096x768, .f32⟩
  | .hbm, ⟨41, _⟩ => ⟨S4096x256, .f32⟩
  | .hbm, ⟨42, _⟩ => ⟨S4096x256, .f32⟩
  | .hbm, ⟨43, _⟩ => ⟨S4096x512, .f32⟩
  | .hbm, ⟨44, _⟩ => ⟨S4096x12, .f32⟩
  | .hbm, ⟨45, _⟩ => ⟨S4096x4992, .f32⟩
  | .hbm, ⟨46, _⟩ => ⟨S4096x768, .f32⟩
  | .hbm, ⟨47, _⟩ => ⟨S4096x768, .f32⟩
  | .hbm, ⟨48, _⟩ => ⟨S4096x512, .f32⟩
  | .hbm, ⟨49, _⟩ => ⟨S4096x2048, .f32⟩
  | .hbm, ⟨50, _⟩ => ⟨S4096x768, .bf16⟩
  | .hbm, ⟨51, _⟩ => ⟨S4096x256, .bf16⟩
  | .hbm, ⟨52, _⟩ => ⟨S4096x256, .bf16⟩
  | .hbm, ⟨53, _⟩ => ⟨S1x128, .f32⟩
  | .local _ .vmem, ⟨0, _⟩ => ⟨S128x768, .f32⟩
  | .local _ .vmem, ⟨1, _⟩ => ⟨S128x768, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S128x768, .f32⟩
  | .local _ .vmem, ⟨20, _⟩ => ⟨S128x768, .f32⟩
  | .local _ .vmem, ⟨21, _⟩ => ⟨S128x768, .bf16⟩
  | .local _ .vmem, ⟨22, _⟩ => ⟨S128x768, .bf16⟩
  | .local _ .vmem, ⟨23, _⟩ => ⟨S128x256, .bf16⟩
  | .local _ .vmem, ⟨24, _⟩ => ⟨S128x256, .bf16⟩
  | .local _ .vmem, ⟨25, _⟩ => ⟨S128x256, .bf16⟩
  | .local _ .vmem, ⟨26, _⟩ => ⟨S128x256, .bf16⟩
  | .local _ .vmem, ⟨27, _⟩ => ⟨S1x128, .f32⟩
  | .local _ .vmem, ⟨28, _⟩ => ⟨S128x256, .f32⟩
  | .local _ .vmem, ⟨29, _⟩ => ⟨S128x256, .f32⟩
  | _, _ => ⟨S4096x4876, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c15_i32 : BitVec 32 := 15#32
  let c0_i32 : BitVec 32 := 0#32
  ![v0.toNat, c15_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c15_i32 : BitVec 32 := 15#32
  let c0_i32_0 : BitVec 32 := 0#32
  ![v2.toNat, c15_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let c0_i32 : BitVec 32 := 0#32
  ![v0.toNat, c16_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let c0_i32_0 : BitVec 32 := 0#32
  ![v2.toNat, c16_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SwaBwdIdeal.lean ====
variable {F : FTy → Type} [FloatOps F] [Named F]
def κ : String → Option EReal := fun
  | "mask" => some ⊥
  | _ => none
-- ==== SwaBwdRefIdeal.lean ====
abbrev S4096x4876 : Shape := ⟨2, ![4096, 4876]⟩
abbrev S4096x2048 : Shape := ⟨2, ![4096, 2048]⟩
abbrev S4096 : Shape := ⟨1, ![4096]⟩
abbrev S6 : Shape := ⟨1, ![6]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4096x768 : Shape := ⟨2, ![4096, 768]⟩
abbrev S1x4096x768 : Shape := ⟨3, ![1, 4096, 768]⟩
abbrev S4096x256 : Shape := ⟨2, ![4096, 256]⟩
abbrev S1x4096x256 : Shape := ⟨3, ![1, 4096, 256]⟩
abbrev S1x4096x6x128 : Shape := ⟨4, ![1, 4096, 6, 128]⟩
abbrev S1x4096x6x64 : Shape := ⟨4, ![1, 4096, 6, 64]⟩
abbrev S1x4096x2x128 : Shape := ⟨4, ![1, 4096, 2, 128]⟩
abbrev S1x4096x2x64 : Shape := ⟨4, ![1, 4096, 2, 64]⟩
abbrev S1x32x128x2x3x128 : Shape := ⟨6, ![1, 32, 128, 2, 3, 128]⟩
abbrev S1x128x2x128 : Shape := ⟨4, ![1, 128, 2, 128]⟩
abbrev S1x4224x2x128 : Shape := ⟨4, ![1, 4224, 2, 128]⟩
abbrev S1x33x128x2x128 : Shape := ⟨5, ![1, 33, 128, 2, 128]⟩
abbrev S1x32x128x2x128 : Shape := ⟨5, ![1, 32, 128, 2, 128]⟩
abbrev S1x32x256x2x128 : Shape := ⟨5, ![1, 32, 256, 2, 128]⟩
abbrev S1x32x2x256x128x3 : Shape := ⟨6, ![1, 32, 2, 256, 128, 3]⟩
abbrev S1x32x2x3x128x256 : Shape := ⟨6, ![1, 32, 2, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x3 : Shape := ⟨2, ![2, 3]⟩
abbrev S1x1x2x3x1x1 : Shape := ⟨6, ![1, 1, 2, 3, 1, 1]⟩
abbrev S1x32x2x3x128x1 : Shape := ⟨6, ![1, 32, 2, 3, 128, 1]⟩
abbrev S1x32x2x3x128x257 : Shape := ⟨6, ![1, 32, 2, 3, 128, 257]⟩
abbrev S1x32x2x3x128 : Shape := ⟨5, ![1, 32, 2, 3, 128]⟩
abbrev S1x32x2x128x3x128 : Shape := ⟨6, ![1, 32, 2, 128, 3, 128]⟩
abbrev S1x32x2x128x256 : Shape := ⟨5, ![1, 32, 2, 128, 256]⟩
abbrev S32x2x3x128 : Shape := ⟨4, ![32, 2, 3, 128]⟩
abbrev S1x32x2x256x128 : Shape := ⟨5, ![1, 32, 2, 256, 128]⟩
abbrev S1x128 : Shape := ⟨2, ![1, 128]⟩

abbrev nBuf : Space → Nat
  | .hbm => 281
  | .vmem => 0
  | .smem => 0
  | _ => 0

abbrev hbmTy0_0 (i : Nat) : BufTy := match i % 128 with
  | 0 => ⟨S4096x4876, .f32⟩
  | 1 => ⟨S4096x2048, .f32⟩
  | 2 => ⟨S4096, .i32⟩
  | 3 => ⟨S6, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S4096, .f32⟩
  | 21 => ⟨S4096x1, .f32⟩
  | 22 => ⟨S1x64, .f32⟩
  | 23 => ⟨S4096x64, .f32⟩
  | 24 => ⟨S4096x64, .f32⟩
  | 25 => ⟨S4096x64, .f32⟩
  | 26 => ⟨S4096x64, .f32⟩
  | 27 => ⟨S4096x64, .f32⟩
  | 28 => ⟨S1x4096x1x64, .f32⟩
  | 29 => ⟨S1x4096x1x64, .f32⟩
  | 30 => ⟨S4096x768, .f32⟩
  | 31 => ⟨S1x4096x768, .f32⟩
  | 32 => ⟨S4096x256, .f32⟩
  | 33 => ⟨S1x4096x256, .f32⟩
  | 34 => ⟨S4096x256, .f32⟩
  | 35 => ⟨S1x4096x256, .f32⟩
  | 36 => ⟨S1x4096x6x128, .f32⟩
  | 37 => ⟨S1x4096x6x64, .f32⟩
  | 38 => ⟨S1x4096x6x64, .f32⟩
  | 39 => ⟨S1x4096x6x64, .f32⟩
  | 40 => ⟨S1x4096x6x64, .f32⟩
  | 41 => ⟨S1x4096x6x64, .f32⟩
  | 42 => ⟨S1x4096x6x64, .f32⟩
  | 43 => ⟨S1x4096x6x64, .f32⟩
  | 44 => ⟨S1x4096x6x64, .f32⟩
  | 45 => ⟨S1x4096x6x64, .f32⟩
  | 46 => ⟨S1x4096x6x64, .f32⟩
  | 47 => ⟨S1x4096x6x64, .f32⟩
  | 48 => ⟨S1x4096x6x64, .f32⟩
  | 49 => ⟨S1x4096x6x128, .f32⟩
  | 50 => ⟨S1x4096x2x128, .f32⟩
  | 51 => ⟨S1x4096x2x64, .f32⟩
  | 52 => ⟨S1x4096x2x64, .f32⟩
  | 53 => ⟨S1x4096x2x64, .f32⟩
  | 54 => ⟨S1x4096x2x64, .f32⟩
  | 55 => ⟨S1x4096x2x64, .f32⟩
  | 56 => ⟨S1x4096x2x64, .f32⟩
  | 57 => ⟨S1x4096x2x64, .f32⟩
  | 58 => ⟨S1x4096x2x64, .f32⟩
  | 59 => ⟨S1x4096x2x64, .f32⟩
  | 60 => ⟨S1x4096x2x64, .f32⟩
  | 61 => ⟨S1x4096x2x64, .f32⟩
  | 62 => ⟨S1x4096x2x64, .f32⟩
  | 63 => ⟨S1x4096x2x128, .f32⟩
  | 64 => ⟨S1x4096x2x128, .f32⟩
  | 65 => ⟨S1x32x128x2x3x128, .f32⟩
  | 66 => ⟨S_, .f32⟩
  | 67 => ⟨S1x128x2x128, .f32⟩
  | 68 => ⟨S1x4224x2x128, .f32⟩
  | 69 => ⟨S_, .f32⟩
  | 70 => ⟨S1x128x2x128, .f32⟩
  | 71 => ⟨S1x33x128x2x128, .f32⟩
  | 72 => ⟨S1x32x128x2x128, .f32⟩
  | 73 => ⟨S1x32x128x2x128, .f32⟩
  | 74 => ⟨S1x32x256x2x128, .f32⟩
  | 75 => ⟨S_, .f32⟩
  | 76 => ⟨S1x128x2x128, .f32⟩
  | 77 => ⟨S1x4224x2x128, .f32⟩
  | 78 => ⟨S_, .f32⟩
  | 79 => ⟨S1x128x2x128, .f32⟩
  | 80 => ⟨S1x33x128x2x128, .f32⟩
  | 81 => ⟨S1x32x128x2x128, .f32⟩
  | 82 => ⟨S1x32x128x2x128, .f32⟩
  | 83 => ⟨S1x32x256x2x128, .f32⟩
  | 84 => ⟨S1x32x2x256x128x3, .f32⟩
  | 85 => ⟨S1x32x2x3x128x256, .f32⟩
  | 86 => ⟨S_, .f32⟩
  | 87 => ⟨S1x32x2x3x128x256, .f32⟩
  | 88 => ⟨S1x32x2x3x128x256, .f32⟩
  | 89 => ⟨S128, .i32⟩
  | 90 => ⟨S128x1, .i32⟩
  | 91 => ⟨S256, .i32⟩
  | 92 => ⟨S1x256, .i32⟩
  | 93 => ⟨S_, .i32⟩
  | 94 => ⟨S128x1, .i32⟩
  | 95 => ⟨S128x1, .i32⟩
  | 96 => ⟨S128x256, .i32⟩
  | 97 => ⟨S128x256, .i32⟩
  | 98 => ⟨S128x256, .i32⟩
  | 99 => ⟨S_, .i32⟩
  | 100 => ⟨S128x256, .i32⟩
  | 101 => ⟨S128x256, .i1⟩
  | 102 => ⟨S_, .i32⟩
  | 103 => ⟨S128x256, .i32⟩
  | 104 => ⟨S128x256, .i1⟩
  | 105 => ⟨S128x256, .i1⟩
  | 106 => ⟨S32, .i32⟩
  | 107 => ⟨S32x1x1, .i32⟩
  | 108 => ⟨S1x128x256, .i1⟩
  | 109 => ⟨S_, .i32⟩
  | 110 => ⟨S32x1x1, .i32⟩
  | 111 => ⟨S32x1x1, .i1⟩
  | 112 => ⟨S_, .i32⟩
  | 113 => ⟨S1x256, .i32⟩
  | 114 => ⟨S1x256, .i1⟩
  | 115 => ⟨S1x1x256, .i1⟩
  | 116 => ⟨S32x1x256, .i1⟩
  | 117 => ⟨S32x1x256, .i1⟩
  | 118 => ⟨S32x1x256, .i1⟩
  | 119 => ⟨S32x128x256, .i1⟩
  | 120 => ⟨S32x128x256, .i1⟩
  | 121 => ⟨S32x128x256, .i1⟩
  | 122 => ⟨S1x32x1x1x128x256, .i1⟩
  | 123 => ⟨S_, .f32⟩
  | 124 => ⟨S_, .f32⟩
  | 125 => ⟨S1x32x2x3x128x256, .i1⟩
  | 126 => ⟨S1x32x2x3x128x256, .f32⟩
  | 127 => ⟨S1x32x2x3x128x256, .f32⟩
  | _ => ⟨S4096x4876, .f32⟩

abbrev hbmTy0_1 (i : Nat) : BufTy := match i % 128 with
  | 0 => ⟨S_, .f32⟩
  | 1 => ⟨S1x32x2x3x128x256, .f32⟩
  | 2 => ⟨S2x3, .f32⟩
  | 3 => ⟨S1x1x2x3x1x1, .f32⟩
  | 4 => ⟨S1x32x2x3x128x1, .f32⟩
  | 5 => ⟨S1x32x2x3x128x257, .f32⟩
  | 6 => ⟨S_, .f32⟩
  | 7 => ⟨S1x32x2x3x128, .f32⟩
  | 8 => ⟨S1x32x2x3x128x1, .f32⟩
  | 9 => ⟨S1x32x2x3x128x257, .f32⟩
  | 10 => ⟨S1x32x2x3x128x257, .i1⟩
  | 11 => ⟨S1x32x2x3x128x257, .f32⟩
  | 12 => ⟨S_, .f32⟩
  | 13 => ⟨S1x32x2x3x128, .f32⟩
  | 14 => ⟨S_, .f32⟩
  | 15 => ⟨S1x32x2x3x128, .f32⟩
  | 16 => ⟨S1x32x2x3x128, .f32⟩
  | 17 => ⟨S_, .f32⟩
  | 18 => ⟨S1x32x2x3x128, .f32⟩
  | 19 => ⟨S1x32x2x3x128, .i1⟩
  | 20 => ⟨S_, .f32⟩
  | 21 => ⟨S1x32x2x3x128, .f32⟩
  | 22 => ⟨S1x32x2x3x128, .i1⟩
  | 23 => ⟨S_, .f32⟩
  | 24 => ⟨S1x32x2x3x128, .f32⟩
  | 25 => ⟨S_, .f32⟩
  | 26 => ⟨S1x32x2x3x128, .f32⟩
  | 27 => ⟨S_, .f32⟩
  | 28 => ⟨S1x32x2x3x128, .f32⟩
  | 29 => ⟨S1x32x2x3x128, .f32⟩
  | 30 => ⟨S1x32x2x3x128, .f32⟩
  | 31 => ⟨S1x32x2x3x128x1, .f32⟩
  | 32 => ⟨S1x32x2x3x128x257, .f32⟩
  | 33 => ⟨S1x32x2x3x128x257, .f32⟩
  | 34 => ⟨S1x32x2x3x128x257, .f32⟩
  | 35 => ⟨S_, .f32⟩
  | 36 => ⟨S1x32x2x3x128, .f32⟩
  | 37 => ⟨S1x32x2x3x128x1, .f32⟩
  | 38 => ⟨S1x32x2x3x128x257, .f32⟩
  | 39 => ⟨S1x32x2x3x128x257, .f32⟩
  | 40 => ⟨S1x32x2x3x128x1, .f32⟩
  | 41 => ⟨S_, .f32⟩
  | 42 => ⟨S1x32x2x3x128x1, .f32⟩
  | 43 => ⟨S1x32x2x3x128x1, .f32⟩
  | 44 => ⟨S1x32x2x3x128x256, .f32⟩
  | 45 => ⟨S1x32x2x128x3x128, .f32⟩
  | 46 => ⟨S1x32x128x2x3x128, .f32⟩
  | 47 => ⟨S1x4096x768, .f32⟩
  | 48 => ⟨S4096x768, .f32⟩
  | 49 => ⟨S1x4096x768, .f32⟩
  | 50 => ⟨S1x32x128x2x3x128, .f32⟩
  | 51 => ⟨S1x32x2x128x3x128, .f32⟩
  | 52 => ⟨S1x32x2x3x128x256, .f32⟩
  | 53 => ⟨S1x32x2x128x256, .f32⟩
  | 54 => ⟨S1x32x256x2x128, .f32⟩
  | 55 => ⟨S_, .f32⟩
  | 56 => ⟨S1x32x2x3x128x257, .f32⟩
  | 57 => ⟨S1x32x2x3x128x257, .f32⟩
  | 58 => ⟨S1x32x2x3x128x257, .f32⟩
  | 59 => ⟨S1x32x2x3x128x257, .f32⟩
  | 60 => ⟨S_, .f32⟩
  | 61 => ⟨S1x32x2x3x128, .f32⟩
  | 62 => ⟨S1x32x2x3x128x1, .f32⟩
  | 63 => ⟨S1x32x2x3x128x1, .f32⟩
  | 64 => ⟨S1x32x2x3x128x257, .f32⟩
  | 65 => ⟨S1x32x2x3x128x257, .f32⟩
  | 66 => ⟨S_, .f32⟩
  | 67 => ⟨S32x2x3x128, .f32⟩
  | 68 => ⟨S1x32x2x3x128, .f32⟩
  | 69 => ⟨S1x32x2x3x128x257, .f32⟩
  | 70 => ⟨S1x32x2x3x128x257, .f32⟩
  | 71 => ⟨S1x32x2x3x128x257, .f32⟩
  | 72 => ⟨S1x32x2x3x128x256, .f32⟩
  | 73 => ⟨S1x32x2x3x128x1, .f32⟩
  | 74 => ⟨S_, .f32⟩
  | 75 => ⟨S2x3, .f32⟩
  | 76 => ⟨S1x1x2x3x1x1, .f32⟩
  | 77 => ⟨S_, .f32⟩
  | 78 => ⟨S2x3, .f32⟩
  | 79 => ⟨S6, .f32⟩
  | 80 => ⟨S_, .f32⟩
  | 81 => ⟨S1x32x2x3x128x256, .f32⟩
  | 82 => ⟨S1x32x2x3x128x256, .f32⟩
  | 83 => ⟨S_, .f32⟩
  | 84 => ⟨S1x32x2x3x128x256, .f32⟩
  | 85 => ⟨S1x32x2x3x128x256, .f32⟩
  | 86 => ⟨S1x32x2x256x128x3, .f32⟩
  | 87 => ⟨S1x32x2x128x3x128, .f32⟩
  | 88 => ⟨S1x32x128x2x3x128, .f32⟩
  | 89 => ⟨S1x32x2x256x128, .f32⟩
  | 90 => ⟨S1x32x256x2x128, .f32⟩
  | 91 => ⟨S1x32x128x2x128, .f32⟩
  | 92 => ⟨S1x32x128x2x128, .f32⟩
  | 93 => ⟨S_, .f32⟩
  | 94 => ⟨S1x33x128x2x128, .f32⟩
  | 95 => ⟨S_, .f32⟩
  | 96 => ⟨S1x33x128x2x128, .f32⟩
  | 97 => ⟨S1x33x128x2x128, .f32⟩
  | 98 => ⟨S1x4224x2x128, .f32⟩
  | 99 => ⟨S1x128x2x128, .f32⟩
  | 100 => ⟨S1x4096x2x128, .f32⟩
  | 101 => ⟨S1x32x128x2x128, .f32⟩
  | 102 => ⟨S1x32x128x2x128, .f32⟩
  | 103 => ⟨S_, .f32⟩
  | 104 => ⟨S1x33x128x2x128, .f32⟩
  | 105 => ⟨S_, .f32⟩
  | 106 => ⟨S1x33x128x2x128, .f32⟩
  | 107 => ⟨S1x33x128x2x128, .f32⟩
  | 108 => ⟨S1x4224x2x128, .f32⟩
  | 109 => ⟨S1x128x2x128, .f32⟩
  | 110 => ⟨S1x4096x2x128, .f32⟩
  | 111 => ⟨S1x4096x6x128, .f32⟩
  | 112 => ⟨S1x4096x256, .f32⟩
  | 113 => ⟨S1x4096x2x64, .f32⟩
  | 114 => ⟨S1x4096x2x64, .f32⟩
  | 115 => ⟨S1x4096x2x64, .f32⟩
  | 116 => ⟨S1x4096x2x64, .f32⟩
  | 117 => ⟨S1x4096x2x64, .f32⟩
  | 118 => ⟨S1x4096x2x64, .f32⟩
  | 119 => ⟨S1x4096x2x64, .f32⟩
  | 120 => ⟨S1x4096x2x64, .f32⟩
  | 121 => ⟨S1x4096x2x64, .f32⟩
  | 122 => ⟨S1x4096x2x64, .f32⟩
  | 123 => ⟨S1x4096x2x64, .f32⟩
  | 124 => ⟨S1x4096x2x64, .f32⟩
  | 125 => ⟨S1x4096x2x64, .f32⟩
  | 126 => ⟨S1x4096x2x128, .f32⟩
  | 127 => ⟨S1x4096x256, .f32⟩
  | _ => ⟨S4096x4876, .f32⟩

abbrev hbmTy0_2 (i : Nat) : BufTy := match i % 128 with
  | 0 => ⟨S1x4096x6x64, .f32⟩
  | 1 => ⟨S1x4096x6x64, .f32⟩
  | 2 => ⟨S1x4096x6x64, .f32⟩
  | 3 => ⟨S1x4096x6x64, .f32⟩
  | 4 => ⟨S1x4096x6x64, .f32⟩
  | 5 => ⟨S1x4096x6x64, .f32⟩
  | 6 => ⟨S1x4096x6x64, .f32⟩
  | 7 => ⟨S1x4096x6x64, .f32⟩
  | 8 => ⟨S1x4096x6x64, .f32⟩
  | 9 => ⟨S1x4096x6x64, .f32⟩
  | 10 => ⟨S1x4096x6x64, .f32⟩
  | 11 => ⟨S1x4096x6x64, .f32⟩
  | 12 => ⟨S1x4096x6x64, .f32⟩
  | 13 => ⟨S1x4096x6x128, .f32⟩
  | 14 => ⟨S1x4096x768, .f32⟩
  | 15 => ⟨S4096x768, .f32⟩
  | 16 => ⟨S4096x768, .bf16⟩
  | 17 => ⟨S4096x256, .f32⟩
  | 18 => ⟨S4096x256, .bf16⟩
  | 19 => ⟨S4096x256, .f32⟩
  | 20 => ⟨S4096x256, .bf16⟩
  | 21 => ⟨S_, .i32⟩
  | 22 => ⟨S_, .f32⟩
  | 23 => ⟨S128, .f32⟩
  | 24 => ⟨S1x128, .f32⟩
  | _ => ⟨S4096x4876, .f32⟩

abbrev hbmTy (i : Nat) : BufTy := match i / 128 with
  | 0 => hbmTy0_0 i
  | 1 => hbmTy0_1 i
  | 2 => hbmTy0_2 i
  | _ => ⟨S4096x4876, .f32⟩

abbrev bufTy : (tb : Table) → Fin (tcTables nBuf tb) → BufTy
  | .hbm, ⟨i, _⟩ => hbmTy i
  | _, _ => ⟨S4096x4876, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_4 : Ref sig .tc := ⟨.hbm, 66, rfl⟩
abbrev main_v57 : Ref sig .tc := ⟨.hbm, 67, rfl⟩
abbrev main_v58 : Ref sig .tc := ⟨.hbm, 68, rfl⟩
abbrev main_cst_5 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_8 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_c : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_c_9 : Ref sig .tc := ⟨.hbm, 99, rfl⟩
abbrev main_v84 : Ref sig .tc := ⟨.hbm, 100, rfl⟩
abbrev main_v85 : Ref sig .tc := ⟨.hbm, 101, rfl⟩
abbrev main_c_10 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_c_11 : Ref sig .tc := ⟨.hbm, 109, rfl⟩
abbrev main_v92 : Ref sig .tc := ⟨.hbm, 110, rfl⟩
abbrev main_v93 : Ref sig .tc := ⟨.hbm, 111, rfl⟩
abbrev main_c_12 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_13 : Ref sig .tc := ⟨.hbm, 123, rfl⟩
abbrev main_call0_v0 : Ref sig .tc := ⟨.hbm, 124, rfl⟩
abbrev main_v104_1 : Ref sig .tc := ⟨.hbm, 125, rfl⟩
abbrev main_call0_v2 : Ref sig .tc := ⟨.hbm, 126, rfl⟩
abbrev main_v104_0 : Ref sig .tc := ⟨.hbm, 127, rfl⟩
abbrev main_call0_cst : Ref sig .tc := ⟨.hbm, 128, rfl⟩
abbrev main_v104_2 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_14 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_cst_15 : Ref sig .tc := ⟨.hbm, 140, rfl⟩
abbrev main_v114 : Ref sig .tc := ⟨.hbm, 141, rfl⟩
abbrev main_cst_16 : Ref sig .tc := ⟨.hbm, 142, rfl⟩
abbrev main_v115 : Ref sig .tc := ⟨.hbm, 143, rfl⟩
abbrev main_v116 : Ref sig .tc := ⟨.hbm, 144, rfl⟩
abbrev main_cst_17 : Ref sig .tc := ⟨.hbm, 145, rfl⟩
abbrev main_v117 : Ref sig .tc := ⟨.hbm, 146, rfl⟩
abbrev main_v118 : Ref sig .tc := ⟨.hbm, 147, rfl⟩
abbrev main_cst_18 : Ref sig .tc := ⟨.hbm, 148, rfl⟩
abbrev main_v119 : Ref sig .tc := ⟨.hbm, 149, rfl⟩
abbrev main_v120 : Ref sig .tc := ⟨.hbm, 150, rfl⟩
abbrev main_cst_19 : Ref sig .tc := ⟨.hbm, 151, rfl⟩
abbrev main_v121 : Ref sig .tc := ⟨.hbm, 152, rfl⟩
abbrev main_cst_20 : Ref sig .tc := ⟨.hbm, 153, rfl⟩
abbrev main_v122 : Ref sig .tc := ⟨.hbm, 154, rfl⟩
abbrev main_cst_21 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_22 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_23 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_24 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_25 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_cst_26 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_27 : Ref sig .tc := ⟨.hbm, 202, rfl⟩
abbrev main_v164 : Ref sig .tc := ⟨.hbm, 203, rfl⟩
abbrev main_v165 : Ref sig .tc := ⟨.hbm, 204, rfl⟩
abbrev main_cst_28 : Ref sig .tc := ⟨.hbm, 205, rfl⟩
abbrev main_v166 : Ref sig .tc := ⟨.hbm, 206, rfl⟩
abbrev main_v167 : Ref sig .tc := ⟨.hbm, 207, rfl⟩
abbrev main_call1_cst : Ref sig .tc := ⟨.hbm, 208, rfl⟩
abbrev main_call1_v0 : Ref sig .tc := ⟨.hbm, 209, rfl⟩
abbrev main_v168 : Ref sig .tc := ⟨.hbm, 210, rfl⟩
abbrev main_cst_29 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_cst_30 : Ref sig .tc := ⟨.hbm, 221, rfl⟩
abbrev main_v178 : Ref sig .tc := ⟨.hbm, 222, rfl⟩
abbrev main_cst_31 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_cst_32 : Ref sig .tc := ⟨.hbm, 231, rfl⟩
abbrev main_v186 : Ref sig .tc := ⟨.hbm, 232, rfl⟩
abbrev main_cst_33 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_c_34 : Ref sig .tc := ⟨.hbm, 277, rfl⟩
abbrev main_call2_v0 : Ref sig .tc := ⟨.hbm, 278, rfl⟩
abbrev main_v230 : Ref sig .tc := ⟨.hbm, 279, rfl⟩
abbrev main_v231 : Ref sig .tc := ⟨.hbm, 280, rfl⟩

abbrev nD : Nat := 1
abbrev τ : Topo := Topo.v7x

variable {F : FTy → Type} [FloatOps F]
-- ==== PoolBwd.lean ====
abbrev S4096x4876 : Shape := ⟨2, ![4096, 4876]⟩
abbrev S4096x2048 : Shape := ⟨2, ![4096, 2048]⟩
abbrev S4x128x128 : Shape := ⟨3, ![4, 128, 128]⟩
abbrev S512 : Shape := ⟨1, ![512]⟩
abbrev S_ : Shape := ⟨0, ![]⟩
abbrev S4096x116 : Shape := ⟨2, ![4096, 116]⟩
abbrev S4096x3072 : Shape := ⟨2, ![4096, 3072]⟩
abbrev S4096x768 : Shape := ⟨2, ![4096, 768]⟩
abbrev S4096x256 : Shape := ⟨2, ![4096, 256]⟩
abbrev S4096x512 : Shape := ⟨2, ![4096, 512]⟩
abbrev S4096x12 : Shape := ⟨2, ![4096, 12]⟩
abbrev S4096x4992 : Shape := ⟨2, ![4096, 4992]⟩
abbrev S1x512 : Shape := ⟨2, ![1, 512]⟩
abbrev S512x128 : Shape := ⟨2, ![512, 128]⟩
abbrev S16x128 : Shape := ⟨2, ![16, 128]⟩
abbrev S1x128x128 : Shape := ⟨3, ![1, 128, 128]⟩
abbrev S1x128 : Shape := ⟨2, ![1, 128]⟩
abbrev S528x128 : Shape := ⟨2, ![528, 128]⟩
abbrev S512x1 : Shape := ⟨2, ![512, 1]⟩
abbrev S128x128 : Shape := ⟨2, ![128, 128]⟩
abbrev S128 : Shape := ⟨1, ![128]⟩
abbrev S528x1 : Shape := ⟨2, ![528, 1]⟩

abbrev nBuf : Space → Nat
  | .hbm => 21
  | .vmem => 18
  | .smem => 0
  | _ => 0

abbrev bufTy : (tb : Table) → Fin (tcTables nBuf tb) → BufTy
  | .hbm, ⟨0, _⟩ => ⟨S4096x4876, .f32⟩
  | .hbm, ⟨1, _⟩ => ⟨S4096x2048, .f32⟩
  | .hbm, ⟨2, _⟩ => ⟨S4x128x128, .f32⟩
  | .hbm, ⟨3, _⟩ => ⟨S512, .f32⟩
  | .hbm, ⟨4, _⟩ => ⟨S_, .f32⟩
  | .hbm, ⟨5, _⟩ => ⟨S4096x116, .f32⟩
  | .hbm, ⟨6, _⟩ => ⟨S4096x3072, .f32⟩
  | .hbm, ⟨7, _⟩ => ⟨S4096x768, .f32⟩
  | .hbm, ⟨8, _⟩ => ⟨S4096x256, .f32⟩
  | .hbm, ⟨9, _⟩ => ⟨S4096x256, .f32⟩
  | .hbm, ⟨10, _⟩ => ⟨S4096x512, .f32⟩
  | .hbm, ⟨11, _⟩ => ⟨S4096x12, .f32⟩
  | .hbm, ⟨12, _⟩ => ⟨S4096x4992, .f32⟩
  | .hbm, ⟨13, _⟩ => ⟨S4096x768, .f32⟩
  | .hbm, ⟨14, _⟩ => ⟨S4096x768, .f32⟩
  | .hbm, ⟨15, _⟩ => ⟨S4096x512, .f32⟩
  | .hbm, ⟨16, _⟩ => ⟨S4096x2048, .f32⟩
  | .hbm, ⟨17, _⟩ => ⟨S1x512, .f32⟩
  | .hbm, ⟨18, _⟩ => ⟨S4096x512, .bf16⟩
  | .hbm, ⟨19, _⟩ => ⟨S4x128x128, .f32⟩
  | .hbm, ⟨20, _⟩ => ⟨S1x512, .f32⟩
  | .local _ .vmem, ⟨0, _⟩ => ⟨S512x128, .f32⟩
  | .local _ .vmem, ⟨1, _⟩ => ⟨S512x128, .f32⟩
  | .local _ .vmem, ⟨2, _⟩ => ⟨S16x128, .f32⟩
  | .local _ .vmem, ⟨3, _⟩ => ⟨S16x128, .f32⟩
  | .local _ .vmem, ⟨4, _⟩ => ⟨S512x128, .f32⟩
  | .local _ .vmem, ⟨5, _⟩ => ⟨S512x128, .f32⟩
  | .local _ .vmem, ⟨6, _⟩ => ⟨S16x128, .f32⟩
  | .local _ .vmem, ⟨7, _⟩ => ⟨S16x128, .f32⟩
  | .local _ .vmem, ⟨8, _⟩ => ⟨S1x128x128, .f32⟩
  | .local _ .vmem, ⟨9, _⟩ => ⟨S1x128x128, .f32⟩
  | .local _ .vmem, ⟨10, _⟩ => ⟨S1x128, .f32⟩
  | .local _ .vmem, ⟨11, _⟩ => ⟨S1x128, .f32⟩
  | .local _ .vmem, ⟨12, _⟩ => ⟨S512x128, .bf16⟩
  | .local _ .vmem, ⟨13, _⟩ => ⟨S512x128, .bf16⟩
  | .local _ .vmem, ⟨14, _⟩ => ⟨S1x128x128, .f32⟩
  | .local _ .vmem, ⟨15, _⟩ => ⟨S1x128x128, .f32⟩
  | .local _ .vmem, ⟨16, _⟩ => ⟨S1x128, .f32⟩
  | .local _ .vmem, ⟨17, _⟩ => ⟨S1x128, .f32⟩
  | _, _ => ⟨S4096x4876, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c34_i32 : BitVec 32 := 34#32
  let v3 : BitVec 32 := Scalar.addi c34_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c12_i32 : BitVec 32 := 12#32
  let v3 : BitVec 32 := Scalar.addi c12_i32 arg0
  let c0_i32 : BitVec 32 := 0#32
  ![v2.toNat, v3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== PoolBwdRefIdeal.lean ====
abbrev S4096x4876 : Shape := ⟨2, ![4096, 4876]⟩
abbrev S4096x2048 : Shape := ⟨2, ![4096, 2048]⟩
abbrev S4x128x128 : Shape := ⟨3, ![4, 128, 128]⟩
abbrev S512 : Shape := ⟨1, ![512]⟩
abbrev S4096x512 : Shape := ⟨2, ![4096, 512]⟩
abbrev S1x4096x512 : Shape := ⟨3, ![1, 4096, 512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4098x128 : Shape := ⟨3, ![1, 4098, 128]⟩
abbrev S1x4096x1 : Shape := ⟨3, ![1, 4096, 1]⟩
abbrev S1x4x128 : Shape := ⟨3, ![1, 4, 128]⟩
abbrev S1x4100x128 : Shape := ⟨3, ![1, 4100, 128]⟩
abbrev S1x8x128 : Shape := ⟨3, ![1, 8, 128]⟩
abbrev S1x4104x128 : Shape := ⟨3, ![1, 4104, 128]⟩
abbrev S1x16x128 : Shape := ⟨3, ![1, 16, 128]⟩
abbrev S1x4112x128 : Shape := ⟨3, ![1, 4112, 128]⟩
abbrev S4x128x1x4096 : Shape := ⟨4, ![4, 128, 1, 4096]⟩
abbrev S1x1x512 : Shape := ⟨3, ![1, 1, 512]⟩
abbrev S1x512 : Shape := ⟨2, ![1, 512]⟩
abbrev S4x1x4096x128 : Shape := ⟨4, ![4, 1, 4096, 128]⟩

abbrev nBuf : Space → Nat
  | .hbm => 208
  | .vmem => 0
  | .smem => 0
  | _ => 0

abbrev hbmTy0_0 (i : Nat) : BufTy := match i % 128 with
  | 0 => ⟨S4096x4876, .f32⟩
  | 1 => ⟨S4096x2048, .f32⟩
  | 2 => ⟨S4x128x128, .f32⟩
  | 3 => ⟨S512, .f32⟩
  | 4 => ⟨S4096x512, .f32⟩
  | 5 => ⟨S1x4096x512, .f32⟩
  | 6 => ⟨S1x4096x4x128, .f32⟩
  | 7 => ⟨S_, .f32⟩
  | 8 => ⟨S_, .f32⟩
  | 9 => ⟨S1x4096x4x128, .f32⟩
  | 10 => ⟨S4096, .i32⟩
  | 11 => ⟨S1x4096x1x128, .f32⟩
  | 12 => ⟨S1x4096x128, .f32⟩
  | 13 => ⟨S_, .f32⟩
  | 14 => ⟨S1x2x128, .f32⟩
  | 15 => ⟨S1x4098x128, .f32⟩
  | 16 => ⟨S_, .f32⟩
  | 17 => ⟨S1x2x128, .f32⟩
  | 18 => ⟨S1x4096x128, .f32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .f32⟩
  | 26 => ⟨S1x4096x128, .f32⟩
  | 27 => ⟨S1x4096x1, .f32⟩
  | 28 => ⟨S1x4096x128, .f32⟩
  | 29 => ⟨S1x4096x128, .f32⟩
  | 30 => ⟨S1x4096x1x128, .f32⟩
  | 31 => ⟨S1x4096x128, .f32⟩
  | 32 => ⟨S1x4096x128, .f32⟩
  | 33 => ⟨S1x4096x1x128, .f32⟩
  | 34 => ⟨S1x4096x128, .f32⟩
  | 35 => ⟨S_, .f32⟩
  | 36 => ⟨S1x4x128, .f32⟩
  | 37 => ⟨S1x4100x128, .f32⟩
  | 38 => ⟨S_, .f32⟩
  | 39 => ⟨S1x4x128, .f32⟩
  | 40 => ⟨S1x4096x128, .f32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .f32⟩
  | 48 => ⟨S1x4096x128, .f32⟩
  | 49 => ⟨S1x4096x1, .f32⟩
  | 50 => ⟨S1x4096x128, .f32⟩
  | 51 => ⟨S1x4096x128, .f32⟩
  | 52 => ⟨S1x4096x1x128, .f32⟩
  | 53 => ⟨S1x4096x128, .f32⟩
  | 54 => ⟨S1x4096x128, .f32⟩
  | 55 => ⟨S1x4096x1x128, .f32⟩
  | 56 => ⟨S1x4096x128, .f32⟩
  | 57 => ⟨S_, .f32⟩
  | 58 => ⟨S1x8x128, .f32⟩
  | 59 => ⟨S1x4104x128, .f32⟩
  | 60 => ⟨S_, .f32⟩
  | 61 => ⟨S1x8x128, .f32⟩
  | 62 => ⟨S1x4096x128, .f32⟩
  | 63 => ⟨S_, .i32⟩
  | 64 => ⟨S4096, .i32⟩
  | 65 => ⟨S4096, .i32⟩
  | 66 => ⟨S_, .i32⟩
  | 67 => ⟨S4096, .i32⟩
  | 68 => ⟨S4096, .i32⟩
  | 69 => ⟨S4096, .f32⟩
  | 70 => ⟨S1x4096x128, .f32⟩
  | 71 => ⟨S1x4096x1, .f32⟩
  | 72 => ⟨S1x4096x128, .f32⟩
  | 73 => ⟨S1x4096x128, .f32⟩
  | 74 => ⟨S1x4096x1x128, .f32⟩
  | 75 => ⟨S1x4096x128, .f32⟩
  | 76 => ⟨S1x4096x128, .f32⟩
  | 77 => ⟨S1x4096x1x128, .f32⟩
  | 78 => ⟨S1x4096x128, .f32⟩
  | 79 => ⟨S_, .f32⟩
  | 80 => ⟨S1x16x128, .f32⟩
  | 81 => ⟨S1x4112x128, .f32⟩
  | 82 => ⟨S_, .f32⟩
  | 83 => ⟨S1x16x128, .f32⟩
  | 84 => ⟨S1x4096x128, .f32⟩
  | 85 => ⟨S_, .i32⟩
  | 86 => ⟨S4096, .i32⟩
  | 87 => ⟨S4096, .i32⟩
  | 88 => ⟨S_, .i32⟩
  | 89 => ⟨S4096, .i32⟩
  | 90 => ⟨S4096, .i32⟩
  | 91 => ⟨S4096, .f32⟩
  | 92 => ⟨S1x4096x128, .f32⟩
  | 93 => ⟨S1x4096x1, .f32⟩
  | 94 => ⟨S1x4096x128, .f32⟩
  | 95 => ⟨S1x4096x128, .f32⟩
  | 96 => ⟨S1x4096x1x128, .f32⟩
  | 97 => ⟨S1x4096x128, .f32⟩
  | 98 => ⟨S1x4096x128, .f32⟩
  | 99 => ⟨S1x4096x1x128, .f32⟩
  | 100 => ⟨S1x4096x1x128, .f32⟩
  | 101 => ⟨S1x4096x1x128, .f32⟩
  | 102 => ⟨S1x4096x1x128, .f32⟩
  | 103 => ⟨S1x4096x4x128, .f32⟩
  | 104 => ⟨S4x128x1x4096, .f32⟩
  | 105 => ⟨S1x4096x4x128, .f32⟩
  | 106 => ⟨S1x4096x512, .f32⟩
  | 107 => ⟨S1x1x512, .f32⟩
  | 108 => ⟨S1x4096x512, .f32⟩
  | 109 => ⟨S1x4096x512, .f32⟩
  | 110 => ⟨S4096x512, .f32⟩
  | 111 => ⟨S1x4096x512, .f32⟩
  | 112 => ⟨S1x4096x512, .f32⟩
  | 113 => ⟨S_, .f32⟩
  | 114 => ⟨S1x512, .f32⟩
  | 115 => ⟨S1x1x512, .f32⟩
  | 116 => ⟨S1x4096x512, .f32⟩
  | 117 => ⟨S1x4096x512, .f32⟩
  | 118 => ⟨S_, .f32⟩
  | 119 => ⟨S512, .f32⟩
  | 120 => ⟨S1x4096x4x128, .f32⟩
  | 121 => ⟨S4x128x1x4096, .f32⟩
  | 122 => ⟨S4x1x4096x128, .f32⟩
  | 123 => ⟨S1x4096x4x128, .f32⟩
  | 124 => ⟨S4x128x128, .f32⟩
  | 125 => ⟨S4x128x128, .f32⟩
  | 126 => ⟨S1x4096x1x128, .f32⟩
  | 127 => ⟨S1x4096x128, .f32⟩
  | _ => ⟨S4096x4876, .f32⟩

abbrev hbmTy0_1 (i : Nat) : BufTy := match i % 128 with
  | 0 => ⟨S1x4096x1x128, .f32⟩
  | 1 => ⟨S1x4096x128, .f32⟩
  | 2 => ⟨S1x4096x1x128, .f32⟩
  | 3 => ⟨S1x4096x128, .f32⟩
  | 4 => ⟨S1x4096x1x128, .f32⟩
  | 5 => ⟨S1x4096x128, .f32⟩
  | 6 => ⟨S1x4096x128, .f32⟩
  | 7 => ⟨S1x4096x1x128, .f32⟩
  | 8 => ⟨S_, .f32⟩
  | 9 => ⟨S1x4096x4x128, .f32⟩
  | 10 => ⟨S1x4096x128, .f32⟩
  | 11 => ⟨S1x4096x128, .f32⟩
  | 12 => ⟨S1x4096x128, .f32⟩
  | 13 => ⟨S_, .f32⟩
  | 14 => ⟨S1x4112x128, .f32⟩
  | 15 => ⟨S1x16x128, .f32⟩
  | 16 => ⟨S1x4096x128, .f32⟩
  | 17 => ⟨S1x4096x128, .f32⟩
  | 18 => ⟨S1x4096x1x128, .f32⟩
  | 19 => ⟨S_, .f32⟩
  | 20 => ⟨S1x4096x4x128, .f32⟩
  | 21 => ⟨S1x4096x128, .f32⟩
  | 22 => ⟨S1x4096x1x128, .f32⟩
  | 23 => ⟨S_, .f32⟩
  | 24 => ⟨S1x4096x4x128, .f32⟩
  | 25 => ⟨S1x4096x4x128, .f32⟩
  | 26 => ⟨S1x4096x128, .f32⟩
  | 27 => ⟨S1x4096x128, .f32⟩
  | 28 => ⟨S1x4096x128, .f32⟩
  | 29 => ⟨S_, .f32⟩
  | 30 => ⟨S1x4104x128, .f32⟩
  | 31 => ⟨S1x8x128, .f32⟩
  | 32 => ⟨S1x4096x128, .f32⟩
  | 33 => ⟨S1x4096x128, .f32⟩
  | 34 => ⟨S1x4096x1x128, .f32⟩
  | 35 => ⟨S_, .f32⟩
  | 36 => ⟨S1x4096x4x128, .f32⟩
  | 37 => ⟨S1x4096x4x128, .f32⟩
  | 38 => ⟨S1x4096x128, .f32⟩
  | 39 => ⟨S1x4096x1x128, .f32⟩
  | 40 => ⟨S_, .f32⟩
  | 41 => ⟨S1x4096x4x128, .f32⟩
  | 42 => ⟨S1x4096x4x128, .f32⟩
  | 43 => ⟨S1x4096x128, .f32⟩
  | 44 => ⟨S1x4096x128, .f32⟩
  | 45 => ⟨S1x4096x128, .f32⟩
  | 46 => ⟨S_, .f32⟩
  | 47 => ⟨S1x4100x128, .f32⟩
  | 48 => ⟨S1x4x128, .f32⟩
  | 49 => ⟨S1x4096x128, .f32⟩
  | 50 => ⟨S1x4096x128, .f32⟩
  | 51 => ⟨S1x4096x1x128, .f32⟩
  | 52 => ⟨S_, .f32⟩
  | 53 => ⟨S1x4096x4x128, .f32⟩
  | 54 => ⟨S1x4096x4x128, .f32⟩
  | 55 => ⟨S1x4096x128, .f32⟩
  | 56 => ⟨S1x4096x1x128, .f32⟩
  | 57 => ⟨S_, .f32⟩
  | 58 => ⟨S1x4096x4x128, .f32⟩
  | 59 => ⟨S1x4096x4x128, .f32⟩
  | 60 => ⟨S1x4096x128, .f32⟩
  | 61 => ⟨S1x4096x128, .f32⟩
  | 62 => ⟨S1x4096x128, .f32⟩
  | 63 => ⟨S_, .f32⟩
  | 64 => ⟨S1x4098x128, .f32⟩
  | 65 => ⟨S1x2x128, .f32⟩
  | 66 => ⟨S1x4096x128, .f32⟩
  | 67 => ⟨S1x4096x128, .f32⟩
  | 68 => ⟨S1x4096x1x128, .f32⟩
  | 69 => ⟨S_, .f32⟩
  | 70 => ⟨S1x4096x4x128, .f32⟩
  | 71 => ⟨S1x4096x4x128, .f32⟩
  | 72 => ⟨S_, .f32⟩
  | 73 => ⟨S_, .f32⟩
  | 74 => ⟨S1x4096x4x128, .f32⟩
  | 75 => ⟨S1x4096x4x128, .f32⟩
  | 76 => ⟨S1x4096x512, .f32⟩
  | 77 => ⟨S4096x512, .f32⟩
  | 78 => ⟨S4096x512, .bf16⟩
  | 79 => ⟨S1x512, .f32⟩
  | _ => ⟨S4096x4876, .f32⟩

abbrev hbmTy (i : Nat) : BufTy := match i / 128 with
  | 0 => hbmTy0_0 i
  | 1 => hbmTy0_1 i
  | _ => ⟨S4096x4876, .f32⟩

abbrev bufTy : (tb : Table) → Fin (tcTables nBuf tb) → BufTy
  | .hbm, ⟨i, _⟩ => hbmTy i
  | _, _ => ⟨S4096x4876, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_c_12 : Ref sig .tc := ⟨.hbm, 85, rfl⟩
abbrev main_v65 : Ref sig .tc := ⟨.hbm, 86, rfl⟩
abbrev main_v66 : Ref sig .tc := ⟨.hbm, 87, rfl⟩
abbrev main_c_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_14 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_15 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_16 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_17 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_18 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_19 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_20 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_21 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_22 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_23 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_24 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_25 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_26 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_27 : Ref sig .tc := ⟨.hbm, 197, rfl⟩
abbrev main_v162 : Ref sig .tc := ⟨.hbm, 198, rfl⟩
abbrev main_v163 : Ref sig .tc := ⟨.hbm, 199, rfl⟩
abbrev main_call1_call0_cst : Ref sig .tc := ⟨.hbm, 200, rfl⟩
abbrev main_call1_call0_v0 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩

abbrev nD : Nat := 1
abbrev τ : Topo := Topo.v7x

variable {F : FTy → Type} [FloatOps F]
-- ==== MidNorm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S4096x2048, .f32⟩
  | .hbm, ⟨11, _⟩ => ⟨S1x2048, .f32⟩
  | .hbm, ⟨12, _⟩ => ⟨S4096x2048, .bf16⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S1x2048, .f32⟩
  | .local _ .vmem, ⟨20, _⟩ => ⟨S256x2048, .f32⟩
  | .local _ .vmem, ⟨21, _⟩ => ⟨S256x2048, .f32⟩
  | .local _ .vmem, ⟨22, _⟩ => ⟨S1x2048, .f32⟩
  | .local _ .vmem, ⟨23, _⟩ => ⟨S256x2048, .bf16⟩
  | .local _ .vmem, ⟨24, _⟩ => ⟨S256x2048, .bf16⟩
  | .local _ .vmem, ⟨25, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem8_0 : DmaSem sig := 23
abbrev cc1_sem8_1 : DmaSem sig := 24
abbrev cc1_sem9_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== MidNormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 102
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S2048, .f32⟩
  | .hbm, ⟨82, _⟩ => ⟨S4096x2048, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x2048, .f32⟩
  | .hbm, ⟨87, _⟩ => ⟨S4096x2048, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S4096x2048, .f32⟩
  | .hbm, ⟨99, _⟩ => ⟨S1x2048, .f32⟩
  | .hbm, ⟨100, _⟩ => ⟨S4096x2048, .bf16⟩
  | .hbm, ⟨101, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== PostLoss.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PostLossRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== NormFirst.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFirstRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PostPre.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostPreRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== SwaFwd.lean ====
abbrev S4096x4876 : Shape := ⟨2, ![4096, 4876]⟩
abbrev S4096 : Shape := ⟨1, ![4096]⟩
abbrev S6 : Shape := ⟨1, ![6]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S128 : Shape := ⟨1, ![128]⟩
abbrev S1 : Shape := ⟨1, ![1]⟩
abbrev S1x128 : Shape := ⟨2, ![1, 128]⟩
abbrev S4096x116 : Shape := ⟨2, ![4096, 116]⟩
abbrev S4096x3072 : Shape := ⟨2, ![4096, 3072]⟩
abbrev S4096x768 : Shape := ⟨2, ![4096, 768]⟩
abbrev S4096x256 : Shape := ⟨2, ![4096, 256]⟩
abbrev S4096x512 : Shape := ⟨2, ![4096, 512]⟩
abbrev S4096x12 : Shape := ⟨2, ![4096, 12]⟩
abbrev S4096x4992 : Shape := ⟨2, ![4096, 4992]⟩
abbrev S128x768 : Shape := ⟨2, ![128, 768]⟩
abbrev S128x256 : Shape := ⟨2, ![128, 256]⟩
abbrev S128x128 : Shape := ⟨2, ![128, 128]⟩
abbrev S256x128 : Shape := ⟨2, ![256, 128]⟩
abbrev S384x128 : Shape := ⟨2, ![384, 128]⟩
abbrev S384x256 : Shape := ⟨2, ![384, 256]⟩
abbrev S1x1 : Shape := ⟨2, ![1, 1]⟩
abbrev S128x1 : Shape := ⟨2, ![128, 1]⟩
abbrev S384x1 : Shape := ⟨2, ![384, 1]⟩
abbrev S384 : Shape := ⟨1, ![384]⟩

abbrev nBuf : Space → Nat
  | .hbm => 46
  | .vmem => 21
  | .smem => 0
  | _ => 0

abbrev bufTy : (tb : Table) → Fin (tcTables nBuf tb) → BufTy
  | .hbm, ⟨0, _⟩ => ⟨S4096x4876, .f32⟩
  | .hbm, ⟨1, _⟩ => ⟨S4096, .i32⟩
  | .hbm, ⟨2, _⟩ => ⟨S6, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S4096, .f32⟩
  | .hbm, ⟨20, _⟩ => ⟨S4096x1, .f32⟩
  | .hbm, ⟨21, _⟩ => ⟨S1x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S4096x128, .f32⟩
  | .hbm, ⟨28, _⟩ => ⟨S4096x64, .f32⟩
  | .hbm, ⟨29, _⟩ => ⟨S4096x128, .f32⟩
  | .hbm, ⟨30, _⟩ => ⟨S_, .f32⟩
  | .hbm, ⟨31, _⟩ => ⟨S128, .f32⟩
  | .hbm, ⟨32, _⟩ => ⟨S_, .i32⟩
  | .hbm, ⟨33, _⟩ => ⟨S1, .i32⟩
  | .hbm, ⟨34, _⟩ => ⟨S128, .f32⟩
  | .hbm, ⟨35, _⟩ => ⟨S1x128, .f32⟩
  | .hbm, ⟨36, _⟩ => ⟨S_, .f32⟩
  | .hbm, ⟨37, _⟩ => ⟨S4096x116, .f32⟩
  | .hbm, ⟨38, _⟩ => ⟨S4096x3072, .f32⟩
  | .hbm, ⟨39, _⟩ => ⟨S4096x768, .f32⟩
  | .hbm, ⟨40, _⟩ => ⟨S4096x256, .f32⟩
  | .hbm, ⟨41, _⟩ => ⟨S4096x256, .f32⟩
  | .hbm, ⟨42, _⟩ => ⟨S4096x512, .f32⟩
  | .hbm, ⟨43, _⟩ => ⟨S4096x12, .f32⟩
  | .hbm, ⟨44, _⟩ => ⟨S4096x4992, .f32⟩
  | .hbm, ⟨45, _⟩ => ⟨S4096x768, .bf16⟩
  | .local _ .vmem, ⟨0, _⟩ => ⟨S128x768, .f32⟩
  | .local _ .vmem, ⟨1, _⟩ => ⟨S128x768, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S128x768, .bf16⟩
  | .local _ .vmem, ⟨20, _⟩ => ⟨S128x768, .bf16⟩
  | _, _ => ⟨S4096x4876, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c15_i32 : BitVec 32 := 15#32
  let c0_i32_0 : BitVec 32 := 0#32
  ![v1.toNat, c15_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  ![v1.toNat, c16_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SwaFwdIdeal.lean ====
variable {F : FTy → Type} [FloatOps F] [Named F]
def κ : String → Option EReal := fun
  | "mask" => some ⊥
  | _ => none
-- ==== SwaFwdRefIdeal.lean ====
abbrev S4096x4876 : Shape := ⟨2, ![4096, 4876]⟩
abbrev S4096 : Shape := ⟨1, ![4096]⟩
abbrev S6 : Shape := ⟨1, ![6]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4096x768 : Shape := ⟨2, ![4096, 768]⟩
abbrev S1x4096x768 : Shape := ⟨3, ![1, 4096, 768]⟩
abbrev S4096x256 : Shape := ⟨2, ![4096, 256]⟩
abbrev S1x4096x256 : Shape := ⟨3, ![1, 4096, 256]⟩
abbrev S1x4096x6x128 : Shape := ⟨4, ![1, 4096, 6, 128]⟩
abbrev S1x4096x6x64 : Shape := ⟨4, ![1, 4096, 6, 64]⟩
abbrev S1x4096x2x128 : Shape := ⟨4, ![1, 4096, 2, 128]⟩
abbrev S1x4096x2x64 : Shape := ⟨4, ![1, 4096, 2, 64]⟩
abbrev S1x32x128x2x3x128 : Shape := ⟨6, ![1, 32, 128, 2, 3, 128]⟩
abbrev S1x128x2x128 : Shape := ⟨4, ![1, 128, 2, 128]⟩
abbrev S1x4224x2x128 : Shape := ⟨4, ![1, 4224, 2, 128]⟩
abbrev S1x33x128x2x128 : Shape := ⟨5, ![1, 33, 128, 2, 128]⟩
abbrev S1x32x128x2x128 : Shape := ⟨5, ![1, 32, 128, 2, 128]⟩
abbrev S1x32x256x2x128 : Shape := ⟨5, ![1, 32, 256, 2, 128]⟩
abbrev S1x32x2x256x128x3 : Shape := ⟨6, ![1, 32, 2, 256, 128, 3]⟩
abbrev S1x32x2x3x128x256 : Shape := ⟨6, ![1, 32, 2, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x3 : Shape := ⟨2, ![2, 3]⟩
abbrev S1x1x2x3x1x1 : Shape := ⟨6, ![1, 1, 2, 3, 1, 1]⟩
abbrev S1x32x2x3x128x1 : Shape := ⟨6, ![1, 32, 2, 3, 128, 1]⟩
abbrev S1x32x2x3x128x257 : Shape := ⟨6, ![1, 32, 2, 3, 128, 257]⟩
abbrev S1x32x2x3x128 : Shape := ⟨5, ![1, 32, 2, 3, 128]⟩
abbrev S1x32x2x128x3x128 : Shape := ⟨6, ![1, 32, 2, 128, 3, 128]⟩

abbrev nBuf : Space → Nat
  | .hbm => 147
  | .vmem => 0
  | .smem => 0
  | _ => 0

abbrev hbmTy0_0 (i : Nat) : BufTy := match i % 128 with
  | 0 => ⟨S4096x4876, .f32⟩
  | 1 => ⟨S4096, .i32⟩
  | 2 => ⟨S6, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S4096, .f32⟩
  | 20 => ⟨S4096x1, .f32⟩
  | 21 => ⟨S1x64, .f32⟩
  | 22 => ⟨S4096x64, .f32⟩
  | 23 => ⟨S4096x64, .f32⟩
  | 24 => ⟨S4096x64, .f32⟩
  | 25 => ⟨S4096x64, .f32⟩
  | 26 => ⟨S4096x64, .f32⟩
  | 27 => ⟨S1x4096x1x64, .f32⟩
  | 28 => ⟨S1x4096x1x64, .f32⟩
  | 29 => ⟨S4096x768, .f32⟩
  | 30 => ⟨S1x4096x768, .f32⟩
  | 31 => ⟨S4096x256, .f32⟩
  | 32 => ⟨S1x4096x256, .f32⟩
  | 33 => ⟨S4096x256, .f32⟩
  | 34 => ⟨S1x4096x256, .f32⟩
  | 35 => ⟨S1x4096x6x128, .f32⟩
  | 36 => ⟨S1x4096x6x64, .f32⟩
  | 37 => ⟨S1x4096x6x64, .f32⟩
  | 38 => ⟨S1x4096x6x64, .f32⟩
  | 39 => ⟨S1x4096x6x64, .f32⟩
  | 40 => ⟨S1x4096x6x64, .f32⟩
  | 41 => ⟨S1x4096x6x64, .f32⟩
  | 42 => ⟨S1x4096x6x64, .f32⟩
  | 43 => ⟨S1x4096x6x64, .f32⟩
  | 44 => ⟨S1x4096x6x64, .f32⟩
  | 45 => ⟨S1x4096x6x64, .f32⟩
  | 46 => ⟨S1x4096x6x64, .f32⟩
  | 47 => ⟨S1x4096x6x64, .f32⟩
  | 48 => ⟨S1x4096x6x128, .f32⟩
  | 49 => ⟨S1x4096x2x128, .f32⟩
  | 50 => ⟨S1x4096x2x64, .f32⟩
  | 51 => ⟨S1x4096x2x64, .f32⟩
  | 52 => ⟨S1x4096x2x64, .f32⟩
  | 53 => ⟨S1x4096x2x64, .f32⟩
  | 54 => ⟨S1x4096x2x64, .f32⟩
  | 55 => ⟨S1x4096x2x64, .f32⟩
  | 56 => ⟨S1x4096x2x64, .f32⟩
  | 57 => ⟨S1x4096x2x64, .f32⟩
  | 58 => ⟨S1x4096x2x64, .f32⟩
  | 59 => ⟨S1x4096x2x64, .f32⟩
  | 60 => ⟨S1x4096x2x64, .f32⟩
  | 61 => ⟨S1x4096x2x64, .f32⟩
  | 62 => ⟨S1x4096x2x128, .f32⟩
  | 63 => ⟨S1x4096x2x128, .f32⟩
  | 64 => ⟨S1x32x128x2x3x128, .f32⟩
  | 65 => ⟨S_, .f32⟩
  | 66 => ⟨S1x128x2x128, .f32⟩
  | 67 => ⟨S1x4224x2x128, .f32⟩
  | 68 => ⟨S1x33x128x2x128, .f32⟩
  | 69 => ⟨S1x32x128x2x128, .f32⟩
  | 70 => ⟨S1x32x128x2x128, .f32⟩
  | 71 => ⟨S1x32x256x2x128, .f32⟩
  | 72 => ⟨S_, .f32⟩
  | 73 => ⟨S1x128x2x128, .f32⟩
  | 74 => ⟨S1x4224x2x128, .f32⟩
  | 75 => ⟨S1x33x128x2x128, .f32⟩
  | 76 => ⟨S1x32x128x2x128, .f32⟩
  | 77 => ⟨S1x32x128x2x128, .f32⟩
  | 78 => ⟨S1x32x256x2x128, .f32⟩
  | 79 => ⟨S1x32x2x256x128x3, .f32⟩
  | 80 => ⟨S1x32x2x3x128x256, .f32⟩
  | 81 => ⟨S_, .f32⟩
  | 82 => ⟨S1x32x2x3x128x256, .f32⟩
  | 83 => ⟨S1x32x2x3x128x256, .f32⟩
  | 84 => ⟨S128, .i32⟩
  | 85 => ⟨S128x1, .i32⟩
  | 86 => ⟨S256, .i32⟩
  | 87 => ⟨S1x256, .i32⟩
  | 88 => ⟨S_, .i32⟩
  | 89 => ⟨S128x1, .i32⟩
  | 90 => ⟨S128x1, .i32⟩
  | 91 => ⟨S128x256, .i32⟩
  | 92 => ⟨S128x256, .i32⟩
  | 93 => ⟨S128x256, .i32⟩
  | 94 => ⟨S_, .i32⟩
  | 95 => ⟨S128x256, .i32⟩
  | 96 => ⟨S128x256, .i1⟩
  | 97 => ⟨S_, .i32⟩
  | 98 => ⟨S128x256, .i32⟩
  | 99 => ⟨S128x256, .i1⟩
  | 100 => ⟨S128x256, .i1⟩
  | 101 => ⟨S32, .i32⟩
  | 102 => ⟨S32x1x1, .i32⟩
  | 103 => ⟨S1x128x256, .i1⟩
  | 104 => ⟨S_, .i32⟩
  | 105 => ⟨S32x1x1, .i32⟩
  | 106 => ⟨S32x1x1, .i1⟩
  | 107 => ⟨S_, .i32⟩
  | 108 => ⟨S1x256, .i32⟩
  | 109 => ⟨S1x256, .i1⟩
  | 110 => ⟨S1x1x256, .i1⟩
  | 111 => ⟨S32x1x256, .i1⟩
  | 112 => ⟨S32x1x256, .i1⟩
  | 113 => ⟨S32x1x256, .i1⟩
  | 114 => ⟨S32x128x256, .i1⟩
  | 115 => ⟨S32x128x256, .i1⟩
  | 116 => ⟨S32x128x256, .i1⟩
  | 117 => ⟨S1x32x1x1x128x256, .i1⟩
  | 118 => ⟨S_, .f32⟩
  | 119 => ⟨S_, .f32⟩
  | 120 => ⟨S1x32x2x3x128x256, .i1⟩
  | 121 => ⟨S1x32x2x3x128x256, .f32⟩
  | 122 => ⟨S1x32x2x3x128x256, .f32⟩
  | 123 => ⟨S2x3, .f32⟩
  | 124 => ⟨S1x1x2x3x1x1, .f32⟩
  | 125 => ⟨S1x32x2x3x128x1, .f32⟩
  | 126 => ⟨S1x32x2x3x128x257, .f32⟩
  | 127 => ⟨S_, .f32⟩
  | _ => ⟨S4096x4876, .f32⟩

abbrev hbmTy0_1 (i : Nat) : BufTy := match i % 128 with
  | 0 => ⟨S1x32x2x3x128, .f32⟩
  | 1 => ⟨S_, .f32⟩
  | 2 => ⟨S1x32x2x3x128, .f32⟩
  | 3 => ⟨S1x32x2x3x128, .f32⟩
  | 4 => ⟨S1x32x2x3x128x1, .f32⟩
  | 5 => ⟨S1x32x2x3x128x257, .f32⟩
  | 6 => ⟨S1x32x2x3x128x257, .f32⟩
  | 7 => ⟨S1x32x2x3x128x257, .f32⟩
  | 8 => ⟨S_, .f32⟩
  | 9 => ⟨S1x32x2x3x128, .f32⟩
  | 10 => ⟨S1x32x2x3x128x1, .f32⟩
  | 11 => ⟨S1x32x2x3x128x257, .f32⟩
  | 12 => ⟨S1x32x2x3x128x257, .f32⟩
  | 13 => ⟨S1x32x2x3x128x256, .f32⟩
  | 14 => ⟨S1x32x2x128x3x128, .f32⟩
  | 15 => ⟨S1x32x128x2x3x128, .f32⟩
  | 16 => ⟨S1x4096x768, .f32⟩
  | 17 => ⟨S4096x768, .f32⟩
  | 18 => ⟨S4096x768, .bf16⟩
  | _ => ⟨S4096x4876, .f32⟩

abbrev hbmTy (i : Nat) : BufTy := match i / 128 with
  | 0 => hbmTy0_0 i
  | 1 => hbmTy0_1 i
  | _ => ⟨S4096x4876, .f32⟩

abbrev bufTy : (tb : Table) → Fin (tcTables nBuf tb) → BufTy
  | .hbm, ⟨i, _⟩ => hbmTy i
  | _, _ => ⟨S4096x4876, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_4 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_6 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_c : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_c_7 : Ref sig .tc := ⟨.hbm, 94, rfl⟩
abbrev main_v82 : Ref sig .tc := ⟨.hbm, 95, rfl⟩
abbrev main_v83 : Ref sig .tc := ⟨.hbm, 96, rfl⟩
abbrev main_c_8 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_c_9 : Ref sig .tc := ⟨.hbm, 104, rfl⟩
abbrev main_v90 : Ref sig .tc := ⟨.hbm, 105, rfl⟩
abbrev main_v91 : Ref sig .tc := ⟨.hbm, 106, rfl⟩
abbrev main_c_10 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_11 : Ref sig .tc := ⟨.hbm, 118, rfl⟩
abbrev main_call0_v0 : Ref sig .tc := ⟨.hbm, 119, rfl⟩
abbrev main_call0_v1 : Ref sig .tc := ⟨.hbm, 120, rfl⟩
abbrev main_call0_v2 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_12 : Ref sig .tc := ⟨.hbm, 127, rfl⟩
abbrev main_v107 : Ref sig .tc := ⟨.hbm, 128, rfl⟩
abbrev main_cst_13 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_14 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩

abbrev nD : Nat := 1
abbrev τ : Topo := Topo.v7x

variable {F : FTy → Type} [FloatOps F]
-- ==== PoolFwd.lean ====
abbrev S4096x4876 : Shape := ⟨2, ![4096, 4876]⟩
abbrev S4x128x128 : Shape := ⟨3, ![4, 128, 128]⟩
abbrev S512 : Shape := ⟨1, ![512]⟩
abbrev S_ : Shape := ⟨0, ![]⟩
abbrev S4096x116 : Shape := ⟨2, ![4096, 116]⟩
abbrev S4096x3072 : Shape := ⟨2, ![4096, 3072]⟩
abbrev S4096x768 : Shape := ⟨2, ![4096, 768]⟩
abbrev S4096x256 : Shape := ⟨2, ![4096, 256]⟩
abbrev S4096x512 : Shape := ⟨2, ![4096, 512]⟩
abbrev S4096x12 : Shape := ⟨2, ![4096, 12]⟩
abbrev S4096x4992 : Shape := ⟨2, ![4096, 4992]⟩
abbrev S1x512 : Shape := ⟨2, ![1, 512]⟩
abbrev S512x128 : Shape := ⟨2, ![512, 128]⟩
abbrev S16x128 : Shape := ⟨2, ![16, 128]⟩
abbrev S1x128x128 : Shape := ⟨3, ![1, 128, 128]⟩
abbrev S1x128 : Shape := ⟨2, ![1, 128]⟩
abbrev S528x128 : Shape := ⟨2, ![528, 128]⟩
abbrev S512x1 : Shape := ⟨2, ![512, 1]⟩
abbrev S128x128 : Shape := ⟨2, ![128, 128]⟩

abbrev nBuf : Space → Nat
  | .hbm => 14
  | .vmem => 10
  | .smem => 0
  | _ => 0

abbrev bufTy : (tb : Table) → Fin (tcTables nBuf tb) → BufTy
  | .hbm, ⟨0, _⟩ => ⟨S4096x4876, .f32⟩
  | .hbm, ⟨1, _⟩ => ⟨S4x128x128, .f32⟩
  | .hbm, ⟨2, _⟩ => ⟨S512, .f32⟩
  | .hbm, ⟨3, _⟩ => ⟨S_, .f32⟩
  | .hbm, ⟨4, _⟩ => ⟨S4096x116, .f32⟩
  | .hbm, ⟨5, _⟩ => ⟨S4096x3072, .f32⟩
  | .hbm, ⟨6, _⟩ => ⟨S4096x768, .f32⟩
  | .hbm, ⟨7, _⟩ => ⟨S4096x256, .f32⟩
  | .hbm, ⟨8, _⟩ => ⟨S4096x256, .f32⟩
  | .hbm, ⟨9, _⟩ => ⟨S4096x512, .f32⟩
  | .hbm, ⟨10, _⟩ => ⟨S4096x12, .f32⟩
  | .hbm, ⟨11, _⟩ => ⟨S4096x4992, .f32⟩
  | .hbm, ⟨12, _⟩ => ⟨S1x512, .f32⟩
  | .hbm, ⟨13, _⟩ => ⟨S4096x512, .bf16⟩
  | .local _ .vmem, ⟨0, _⟩ => ⟨S512x128, .f32⟩
  | .local _ .vmem, ⟨1, _⟩ => ⟨S512x128, .f32⟩
  | .local _ .vmem, ⟨2, _⟩ => ⟨S16x128, .f32⟩
  | .local _ .vmem, ⟨3, _⟩ => ⟨S16x128, .f32⟩
  | .local _ .vmem, ⟨4, _⟩ => ⟨S1x128x128, .f32⟩
  | .local _ .vmem, ⟨5, _⟩ => ⟨S1x128x128, .f32⟩
  | .local _ .vmem, ⟨6, _⟩ => ⟨S1x128, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | _, _ => ⟨S4096x4876, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c34_i32 : BitVec 32 := 34#32
  let v3 : BitVec 32 := Scalar.addi c34_i32 arg1
  let c0_i32_0 : BitVec 32 := 0#32
  ![v2.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolFwdRefIdeal.lean ====
abbrev S4096x4876 : Shape := ⟨2, ![4096, 4876]⟩
abbrev S4x128x128 : Shape := ⟨3, ![4, 128, 128]⟩
abbrev S512 : Shape := ⟨1, ![512]⟩
abbrev S4096x512 : Shape := ⟨2, ![4096, 512]⟩
abbrev S1x4096x512 : Shape := ⟨3, ![1, 4096, 512]⟩
abbrev S1x4096x4x128 : Shape := ⟨4, ![1, 4096, 4, 128]⟩
abbrev S_ : Shape := ⟨0, ![]⟩
abbrev S4096 : Shape := ⟨1, ![4096]⟩
abbrev S1x4096x1x128 : Shape := ⟨4, ![1, 4096, 1, 128]⟩
abbrev S1x4096x128 : Shape := ⟨3, ![1, 4096, 128]⟩
abbrev S1x2x128 : Shape := ⟨3, ![1, 2, 128]⟩
abbrev S1x4098x128 : Shape := ⟨3, ![1, 4098, 128]⟩
abbrev S1x4096x1 : Shape := ⟨3, ![1, 4096, 1]⟩
abbrev S1x4x128 : Shape := ⟨3, ![1, 4, 128]⟩
abbrev S1x4100x128 : Shape := ⟨3, ![1, 4100, 128]⟩
abbrev S1x8x128 : Shape := ⟨3, ![1, 8, 128]⟩
abbrev S1x4104x128 : Shape := ⟨3, ![1, 4104, 128]⟩
abbrev S1x16x128 : Shape := ⟨3, ![1, 16, 128]⟩
abbrev S1x4112x128 : Shape := ⟨3, ![1, 4112, 128]⟩
abbrev S4x128x1x4096 : Shape := ⟨4, ![4, 128, 1, 4096]⟩
abbrev S1x1x512 : Shape := ⟨3, ![1, 1, 512]⟩

abbrev nBuf : Space → Nat
  | .hbm => 103
  | .vmem => 0
  | .smem => 0
  | _ => 0

abbrev bufTy : (tb : Table) → Fin (tcTables nBuf tb) → BufTy
  | .hbm, ⟨0, _⟩ => ⟨S4096x4876, .f32⟩
  | .hbm, ⟨1, _⟩ => ⟨S4x128x128, .f32⟩
  | .hbm, ⟨2, _⟩ => ⟨S512, .f32⟩
  | .hbm, ⟨3, _⟩ => ⟨S4096x512, .f32⟩
  | .hbm, ⟨4, _⟩ => ⟨S1x4096x512, .f32⟩
  | .hbm, ⟨5, _⟩ => ⟨S1x4096x4x128, .f32⟩
  | .hbm, ⟨6, _⟩ => ⟨S_, .f32⟩
  | .hbm, ⟨7, _⟩ => ⟨S_, .f32⟩
  | .hbm, ⟨8, _⟩ => ⟨S1x4096x4x128, .f32⟩
  | .hbm, ⟨9, _⟩ => ⟨S4096, .i32⟩
  | .hbm, ⟨10, _⟩ => ⟨S1x4096x1x128, .f32⟩
  | .hbm, ⟨11, _⟩ => ⟨S1x4096x128, .f32⟩
  | .hbm, ⟨12, _⟩ => ⟨S_, .f32⟩
  | .hbm, ⟨13, _⟩ => ⟨S1x2x128, .f32⟩
  | .hbm, ⟨14, _⟩ => ⟨S1x4098x128, .f32⟩
  | .hbm, ⟨15, _⟩ => ⟨S1x4096x128, .f32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S1x4096x128, .f32⟩
  | .hbm, ⟨24, _⟩ => ⟨S1x4096x1, .f32⟩
  | .hbm, ⟨25, _⟩ => ⟨S1x4096x128, .f32⟩
  | .hbm, ⟨26, _⟩ => ⟨S1x4096x128, .f32⟩
  | .hbm, ⟨27, _⟩ => ⟨S1x4096x1x128, .f32⟩
  | .hbm, ⟨28, _⟩ => ⟨S1x4096x128, .f32⟩
  | .hbm, ⟨29, _⟩ => ⟨S1x4096x128, .f32⟩
  | .hbm, ⟨30, _⟩ => ⟨S1x4096x1x128, .f32⟩
  | .hbm, ⟨31, _⟩ => ⟨S1x4096x128, .f32⟩
  | .hbm, ⟨32, _⟩ => ⟨S_, .f32⟩
  | .hbm, ⟨33, _⟩ => ⟨S1x4x128, .f32⟩
  | .hbm, ⟨34, _⟩ => ⟨S1x4100x128, .f32⟩
  | .hbm, ⟨35, _⟩ => ⟨S1x4096x128, .f32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .f32⟩
  | .hbm, ⟨43, _⟩ => ⟨S1x4096x128, .f32⟩
  | .hbm, ⟨44, _⟩ => ⟨S1x4096x1, .f32⟩
  | .hbm, ⟨45, _⟩ => ⟨S1x4096x128, .f32⟩
  | .hbm, ⟨46, _⟩ => ⟨S1x4096x128, .f32⟩
  | .hbm, ⟨47, _⟩ => ⟨S1x4096x1x128, .f32⟩
  | .hbm, ⟨48, _⟩ => ⟨S1x4096x128, .f32⟩
  | .hbm, ⟨49, _⟩ => ⟨S1x4096x128, .f32⟩
  | .hbm, ⟨50, _⟩ => ⟨S1x4096x1x128, .f32⟩
  | .hbm, ⟨51, _⟩ => ⟨S1x4096x128, .f32⟩
  | .hbm, ⟨52, _⟩ => ⟨S_, .f32⟩
  | .hbm, ⟨53, _⟩ => ⟨S1x8x128, .f32⟩
  | .hbm, ⟨54, _⟩ => ⟨S1x4104x128, .f32⟩
  | .hbm, ⟨55, _⟩ => ⟨S1x4096x128, .f32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .f32⟩
  | .hbm, ⟨63, _⟩ => ⟨S1x4096x128, .f32⟩
  | .hbm, ⟨64, _⟩ => ⟨S1x4096x1, .f32⟩
  | .hbm, ⟨65, _⟩ => ⟨S1x4096x128, .f32⟩
  | .hbm, ⟨66, _⟩ => ⟨S1x4096x128, .f32⟩
  | .hbm, ⟨67, _⟩ => ⟨S1x4096x1x128, .f32⟩
  | .hbm, ⟨68, _⟩ => ⟨S1x4096x128, .f32⟩
  | .hbm, ⟨69, _⟩ => ⟨S1x4096x128, .f32⟩
  | .hbm, ⟨70, _⟩ => ⟨S1x4096x1x128, .f32⟩
  | .hbm, ⟨71, _⟩ => ⟨S1x4096x128, .f32⟩
  | .hbm, ⟨72, _⟩ => ⟨S_, .f32⟩
  | .hbm, ⟨73, _⟩ => ⟨S1x16x128, .f32⟩
  | .hbm, ⟨74, _⟩ => ⟨S1x4112x128, .f32⟩
  | .hbm, ⟨75, _⟩ => ⟨S1x4096x128, .f32⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .f32⟩
  | .hbm, ⟨83, _⟩ => ⟨S1x4096x128, .f32⟩
  | .hbm, ⟨84, _⟩ => ⟨S1x4096x1, .f32⟩
  | .hbm, ⟨85, _⟩ => ⟨S1x4096x128, .f32⟩
  | .hbm, ⟨86, _⟩ => ⟨S1x4096x128, .f32⟩
  | .hbm, ⟨87, _⟩ => ⟨S1x4096x1x128, .f32⟩
  | .hbm, ⟨88, _⟩ => ⟨S1x4096x128, .f32⟩
  | .hbm, ⟨89, _⟩ => ⟨S1x4096x128, .f32⟩
  | .hbm, ⟨90, _⟩ => ⟨S1x4096x1x128, .f32⟩
  | .hbm, ⟨91, _⟩ => ⟨S1x4096x1x128, .f32⟩
  | .hbm, ⟨92, _⟩ => ⟨S1x4096x1x128, .f32⟩
  | .hbm, ⟨93, _⟩ => ⟨S1x4096x1x128, .f32⟩
  | .hbm, ⟨94, _⟩ => ⟨S1x4096x4x128, .f32⟩
  | .hbm, ⟨95, _⟩ => ⟨S4x128x1x4096, .f32⟩
  | .hbm, ⟨96, _⟩ => ⟨S1x4096x4x128, .f32⟩
  | .hbm, ⟨97, _⟩ => ⟨S1x4096x512, .f32⟩
  | .hbm, ⟨98, _⟩ => ⟨S1x1x512, .f32⟩
  | .hbm, ⟨99, _⟩ => ⟨S1x4096x512, .f32⟩
  | .hbm, ⟨100, _⟩ => ⟨S1x4096x512, .f32⟩
  | .hbm, ⟨101, _⟩ => ⟨S4096x512, .f32⟩
  | .hbm, ⟨102, _⟩ => ⟨S4096x512, .bf16⟩
  | _, _ => ⟨S4096x4876, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_8 : Ref sig .tc := ⟨.hbm, 76, rfl⟩
abbrev main_v61 : Ref sig .tc := ⟨.hbm, 77, rfl⟩
abbrev main_v62 : Ref sig .tc := ⟨.hbm, 78, rfl⟩
abbrev main_c_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== GluFwd.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S3x8x1408 : Shape := ⟨3, ![3, 8, 1408]⟩
abbrev S8x3x1408 : Shape := ⟨3, ![8, 3, 1408]⟩
abbrev S2x4x3x1408 : Shape := ⟨4, ![2, 4, 3, 1408]⟩
abbrev S2x4x1x1408 : Shape := ⟨4, ![2, 4, 1, 1408]⟩
abbrev S2x512x1408 : Shape := ⟨3, ![2, 512, 1408]⟩
abbrev S2x8x1408 : Shape := ⟨3, ![2, 8, 1408]⟩
abbrev S2x1x3x1408 : Shape := ⟨4, ![2, 1, 3, 1408]⟩
abbrev S2x1x1x1408 : Shape := ⟨4, ![2, 1, 1, 1408]⟩
abbrev S512x1408 : Shape := ⟨2, ![512, 1408]⟩
abbrev S2x520x1408 : Shape := ⟨3, ![2, 520, 1408]⟩
abbrev S2x3x1408 : Shape := ⟨3, ![2, 3, 1408]⟩
abbrev S2x1x1408 : Shape := ⟨3, ![2, 1, 1408]⟩
abbrev S2x136x128 : Shape := ⟨3, ![2, 136, 128]⟩
abbrev S2x3x128 : Shape := ⟨3, ![2, 3, 128]⟩
abbrev S2x1x128 : Shape := ⟨3, ![2, 1, 128]⟩
abbrev S2x128x128 : Shape := ⟨3, ![2, 128, 128]⟩
abbrev S1x128x128 : Shape := ⟨3, ![1, 128, 128]⟩
abbrev S128x128 : Shape := ⟨2, ![128, 128]⟩

abbrev nBuf : Space → Nat
  | .hbm => 13
  | .vmem => 11
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S4096x5632, .f32⟩
  | .hbm, ⟨4, _⟩ => ⟨S4096x5632, .f32⟩
  | .hbm, ⟨5, _⟩ => ⟨S1x4096x5632, .f32⟩
  | .hbm, ⟨6, _⟩ => ⟨S1x4096x5632, .f32⟩
  | .hbm, ⟨7, _⟩ => ⟨S2x4096x5632, .f32⟩
  | .hbm, ⟨8, _⟩ => ⟨S3x8x1408, .f32⟩
  | .hbm, ⟨9, _⟩ => ⟨S8x3x1408, .f32⟩
  | .hbm, ⟨10, _⟩ => ⟨S2x4x3x1408, .f32⟩
  | .hbm, ⟨11, _⟩ => ⟨S2x4x1x1408, .f32⟩
  | .hbm, ⟨12, _⟩ => ⟨S4096x5632, .bf16⟩
  | .local _ .vmem, ⟨0, _⟩ => ⟨S2x512x1408, .f32⟩
  | .local _ .vmem, ⟨1, _⟩ => ⟨S2x512x1408, .f32⟩
  | .local _ .vmem, ⟨2, _⟩ => ⟨S2x8x1408, .f32⟩
  | .local _ .vmem, ⟨3, _⟩ => ⟨S2x8x1408, .f32⟩
  | .local _ .vmem, ⟨4, _⟩ => ⟨S2x1x3x1408, .f32⟩
  | .local _ .vmem, ⟨5, _⟩ => ⟨S2x1x3x1408, .f32⟩
  | .local _ .vmem, ⟨6, _⟩ => ⟨S2x1x1x1408, .f32⟩
  | .local _ .vmem, ⟨7, _⟩ => ⟨S2x1x1x1408, .f32⟩
  | .local _ .vmem, ⟨8, _⟩ => ⟨S512x1408, .bf16⟩
  | .local _ .vmem, ⟨9, _⟩ => ⟨S512x1408, .bf16⟩
  | .local _ .vmem, ⟨10, _⟩ => ⟨S2x520x1408, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_18 : BitVec 32 := 0#32
  let c4_i32 : BitVec 32 := 4#32
  let v17 : BitVec 32 := Scalar.addi c0_i32_18 c4_i32
  let c1_i32 : BitVec 32 := 1#32
  ⟨c0_i32_18, v17, c1_i32⟩
def k0_mult1 (k0_t1 : Fin k0_t1_loop.trips) : BitVec 32 :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  v18
def k0_off1 (k0_t1 : Fin k0_t1_loop.trips) : Fin 3 → Nat :=
  let c0_20 : Index := 0#32
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v20 : Index := Scalar.indexCast v19
  let c0_21 : Index := 0#32
  ![0, v20.toNat, 0]
def k0_off2 (k0_t1 : Fin k0_t1_loop.trips) : Fin 2 → Nat :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v48 : Index := Scalar.indexCast v19
  let c0_22 : Index := 0#32
  ![v48.toNat, 0]
def k0_off3 (k0_t1 : Fin k0_t1_loop.trips) : Fin 3 → Nat :=
  let c0_23 : Index := 0#32
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v50 : Index := Scalar.indexCast v19
  let c128 : Index := 128#32
  ![0, v50.toNat, 128]
def k0_off4 (k0_t1 : Fin k0_t1_loop.trips) : Fin 2 → Nat :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v78 : Index := Scalar.indexCast v19
  let c128_24 : Index := 128#32
  ![v78.toNat, 128]
def k0_off5 (k0_t1 : Fin k0_t1_loop.trips) : Fin 3 → Nat :=
  let c0_25 : Index := 0#32
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v80 : Index := Scalar.indexCast v19
  let c256 : Index := 256#32
  ![0, v80.toNat, 256]
def k0_off6 (k0_t1 : Fin k0_t1_loop.trips) : Fin 2 → Nat :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v108 : Index := Scalar.indexCast v19
  let c256_26 : Index := 256#32
  ![v108.toNat, 256]
def k0_off7 (k0_t1 : Fin k0_t1_loop.trips) : Fin 3 → Nat :=
  let c0_27 : Index := 0#32
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v110 : Index := Scalar.indexCast v19
  let c384 : Index := 384#32
  ![0, v110.toNat, 384]
def k0_off8 (k0_t1 : Fin k0_t1_loop.trips) : Fin 2 → Nat :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v138 : Index := Scalar.indexCast v19
  let c384_28 : Index := 384#32
  ![v138.toNat, 384]
def k0_off9 (k0_t1 : Fin k0_t1_loop.trips) : Fin 3 → Nat :=
  let c0_29 : Index := 0#32
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v140 : Index := Scalar.indexCast v19
  let c512 : Index := 512#32
  ![0, v140.toNat, 512]
def k0_off10 (k0_t1 : Fin k0_t1_loop.trips) : Fin 2 → Nat :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v168 : Index := Scalar.indexCast v19
  let c512_30 : Index := 512#32
  ![v168.toNat, 512]
def k0_off11 (k0_t1 : Fin k0_t1_loop.trips) : Fin 3 → Nat :=
  let c0_31 : Index := 0#32
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v170 : Index := Scalar.indexCast v19
  let c640 : Index := 640#32
  ![0, v170.toNat, 640]
def k0_off12 (k0_t1 : Fin k0_t1_loop.trips) : Fin 2 → Nat :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v198 : Index := Scalar.indexCast v19
  let c640_32 : Index := 640#32
  ![v198.toNat, 640]
def k0_off13 (k0_t1 : Fin k0_t1_loop.trips) : Fin 3 → Nat :=
  let c0_33 : Index := 0#32
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v200 : Index := Scalar.indexCast v19
  let c768 : Index := 768#32
  ![0, v200.toNat, 768]
def k0_off14 (k0_t1 : Fin k0_t1_loop.trips) : Fin 2 → Nat :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v228 : Index := Scalar.indexCast v19
  let c768_34 : Index := 768#32
  ![v228.toNat, 768]
def k0_off15 (k0_t1 : Fin k0_t1_loop.trips) : Fin 3 → Nat :=
  let c0_35 : Index := 0#32
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v230 : Index := Scalar.indexCast v19
  let c896 : Index := 896#32
  ![0, v230.toNat, 896]
def k0_off16 (k0_t1 : Fin k0_t1_loop.trips) : Fin 2 → Nat :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v258 : Index := Scalar.indexCast v19
  let c896_36 : Index := 896#32
  ![v258.toNat, 896]
def k0_off17 (k0_t1 : Fin k0_t1_loop.trips) : Fin 3 → Nat :=
  let c0_37 : Index := 0#32
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v260 : Index := Scalar.indexCast v19
  let c1024 : Index := 1024#32
  ![0, v260.toNat, 1024]
def k0_off18 (k0_t1 : Fin k0_t1_loop.trips) : Fin 2 → Nat :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v288 : Index := Scalar.indexCast v19
  let c1024_38 : Index := 1024#32
  ![v288.toNat, 1024]
def k0_off19 (k0_t1 : Fin k0_t1_loop.trips) : Fin 3 → Nat :=
  let c0_39 : Index := 0#32
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v290 : Index := Scalar.indexCast v19
  let c1152 : Index := 1152#32
  ![0, v290.toNat, 1152]
def k0_off20 (k0_t1 : Fin k0_t1_loop.trips) : Fin 2 → Nat :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v318 : Index := Scalar.indexCast v19
  let c1152_40 : Index := 1152#32
  ![v318.toNat, 1152]
def k0_off21 (k0_t1 : Fin k0_t1_loop.trips) : Fin 3 → Nat :=
  let c0_41 : Index := 0#32
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v320 : Index := Scalar.indexCast v19
  let c1280 : Index := 1280#32
  ![0, v320.toNat, 1280]
def k0_off22 (k0_t1 : Fin k0_t1_loop.trips) : Fin 2 → Nat :=
  let c0_i32_18 : BitVec 32 := 0#32
  let c1_i32 : BitVec 32 := 1#32
  let arg8 : BitVec 32 := Scf.iv c0_i32_18 c1_i32 k0_t1
  let c128_i32 : BitVec 32 := 128#32
  let v18 : BitVec 32 := Scalar.muli arg8 c128_i32
  let v19 : BitVec 32 := v18
  let v348 : Index := Scalar.indexCast v19
  let c1280_42 : Index := 1280#32
  ![v348.toNat, 1280]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x1x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluFwdRefIdeal.lean ====
abbrev S4096x11264 : Shape := ⟨2, ![4096, 11264]⟩
abbrev S3x11264 : Shape := ⟨2, ![3, 11264]⟩
abbrev S11264 : Shape := ⟨1, ![11264]⟩
abbrev S1x4096x11264 : Shape := ⟨3, ![1, 4096, 11264]⟩
abbrev S_ : Shape := ⟨0, ![]⟩
abbrev S1x2x11264 : Shape := ⟨3, ![1, 2, 11264]⟩
abbrev S1x4098x11264 : Shape := ⟨3, ![1, 4098, 11264]⟩
abbrev S1x11264 : Shape := ⟨2, ![1, 11264]⟩
abbrev S1x1x11264 : Shape := ⟨3, ![1, 1, 11264]⟩
abbrev S1x4096x5632 : Shape := ⟨3, ![1, 4096, 5632]⟩
abbrev S4096x5632 : Shape := ⟨2, ![4096, 5632]⟩

abbrev nBuf : Space → Nat
  | .hbm => 47
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S1x4096x11264, .f32⟩
  | .hbm, ⟨4, _⟩ => ⟨S_, .f32⟩
  | .hbm, ⟨5, _⟩ => ⟨S1x2x11264, .f32⟩
  | .hbm, ⟨6, _⟩ => ⟨S1x4098x11264, .f32⟩
  | .hbm, ⟨7, _⟩ => ⟨S1x4096x11264, .f32⟩
  | .hbm, ⟨8, _⟩ => ⟨S1x11264, .f32⟩
  | .hbm, ⟨9, _⟩ => ⟨S11264, .f32⟩
  | .hbm, ⟨10, _⟩ => ⟨S1x1x11264, .f32⟩
  | .hbm, ⟨11, _⟩ => ⟨S1x4096x11264, .f32⟩
  | .hbm, ⟨12, _⟩ => ⟨S1x4096x11264, .f32⟩
  | .hbm, ⟨13, _⟩ => ⟨S_, .f32⟩
  | .hbm, ⟨14, _⟩ => ⟨S1x4096x11264, .f32⟩
  | .hbm, ⟨15, _⟩ => ⟨S1x4096x11264, .f32⟩
  | .hbm, ⟨16, _⟩ => ⟨S1x4096x11264, .f32⟩
  | .hbm, ⟨17, _⟩ => ⟨S1x11264, .f32⟩
  | .hbm, ⟨18, _⟩ => ⟨S11264, .f32⟩
  | .hbm, ⟨19, _⟩ => ⟨S1x1x11264, .f32⟩
  | .hbm, ⟨20, _⟩ => ⟨S1x4096x11264, .f32⟩
  | .hbm, ⟨21, _⟩ => ⟨S1x4096x11264, .f32⟩
  | .hbm, ⟨22, _⟩ => ⟨S1x4096x11264, .f32⟩
  | .hbm, ⟨23, _⟩ => ⟨S1x4096x11264, .f32⟩
  | .hbm, ⟨24, _⟩ => ⟨S1x11264, .f32⟩
  | .hbm, ⟨25, _⟩ => ⟨S11264, .f32⟩
  | .hbm, ⟨26, _⟩ => ⟨S1x1x11264, .f32⟩
  | .hbm, ⟨27, _⟩ => ⟨S1x4096x11264, .f32⟩
  | .hbm, ⟨28, _⟩ => ⟨S1x4096x11264, .f32⟩
  | .hbm, ⟨29, _⟩ => ⟨S1x4096x11264, .f32⟩
  | .hbm, ⟨30, _⟩ => ⟨S1x1x11264, .f32⟩
  | .hbm, ⟨31, _⟩ => ⟨S1x4096x11264, .f32⟩
  | .hbm, ⟨32, _⟩ => ⟨S1x4096x11264, .f32⟩
  | .hbm, ⟨33, _⟩ => ⟨S1x4096x5632, .f32⟩
  | .hbm, ⟨34, _⟩ => ⟨S1x4096x5632, .f32⟩
  | .hbm, ⟨35, _⟩ => ⟨S1x4096x5632, .f32⟩
  | .hbm, ⟨36, _⟩ => ⟨S1x4096x5632, .f32⟩
  | .hbm, ⟨37, _⟩ => ⟨S_, .f32⟩
  | .hbm, ⟨38, _⟩ => ⟨S1x4096x5632, .f32⟩
  | .hbm, ⟨39, _⟩ => ⟨S1x4096x5632, .f32⟩
  | .hbm, ⟨40, _⟩ => ⟨S_, .f32⟩
  | .hbm, ⟨41, _⟩ => ⟨S1x4096x5632, .f32⟩
  | .hbm, ⟨42, _⟩ => ⟨S1x4096x5632, .f32⟩
  | .hbm, ⟨43, _⟩ => ⟨S1x4096x5632, .f32⟩
  | .hbm, ⟨44, _⟩ => ⟨S1x4096x5632, .f32⟩
  | .hbm, ⟨45, _⟩ => ⟨S4096x5632, .f32⟩
  | .hbm, ⟨46, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== MmNn.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x5632, .bf16⟩
  | .hbm, ⟨3, _⟩ => ⟨S5632x2048, .bf16⟩
  | .hbm, ⟨4, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmNnRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmNt.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S4096x2048, .bf16⟩
  | .hbm, ⟨3, _⟩ => ⟨S5632x2048, .bf16⟩
  | .hbm, ⟨4, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmNtRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MmTn.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x2048, .bf16⟩
  | .hbm, ⟨4, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmTnRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmUp.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S2x4096x5632 : Shape := ⟨3, ![2, 4096, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x2048, .bf16⟩
  | .hbm, ⟨3, _⟩ => ⟨S2048x11264, .bf16⟩
  | .hbm, ⟨4, _⟩ => ⟨S2048x8x1408, .bf16⟩
  | .hbm, ⟨5, _⟩ => ⟨S8x2048x1408, .bf16⟩
  | .hbm, ⟨6, _⟩ => ⟨S2x4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x5632, .f32⟩
  | .hbm, ⟨4, _⟩ => ⟨S4096x5632, .f32⟩
  | .hbm, ⟨5, _⟩ => ⟨S1x4096x5632, .f32⟩
  | .hbm, ⟨6, _⟩ => ⟨S1x4096x5632, .f32⟩
  | .hbm, ⟨7, _⟩ => ⟨S2x4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MmUpD.lean ====
abbrev S4096x11264 : Shape := ⟨2, ![4096, 11264]⟩
abbrev S2048x11264 : Shape := ⟨2, ![2048, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S2048x8x1408 : Shape := ⟨3, ![2048, 8, 1408]⟩
abbrev S8x2048x1408 : Shape := ⟨3, ![8, 2048, 1408]⟩
abbrev S4096x2048 : Shape := ⟨2, ![4096, 2048]⟩
abbrev S1x1024x1408 : Shape := ⟨3, ![1, 1024, 1408]⟩
abbrev S1x2048x1408 : Shape := ⟨3, ![1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 12
  | .vmem => 7
  | .smem => 0
  | _ => 0

abbrev bufTy : (tb : Table) → Fin (tcTables nBuf tb) → BufTy
  | .hbm, ⟨0, _⟩ => ⟨S4096x11264, .f32⟩
  | .hbm, ⟨1, _⟩ => ⟨S2048x11264, .f32⟩
  | .hbm, ⟨2, _⟩ => ⟨S4096x5632, .f32⟩
  | .hbm, ⟨3, _⟩ => ⟨S4096x5632, .f32⟩
  | .hbm, ⟨4, _⟩ => ⟨S1x4096x5632, .f32⟩
  | .hbm, ⟨5, _⟩ => ⟨S1x4096x5632, .f32⟩
  | .hbm, ⟨6, _⟩ => ⟨S2x4096x5632, .f32⟩
  | .hbm, ⟨7, _⟩ => ⟨S2x4096x5632, .bf16⟩
  | .hbm, ⟨8, _⟩ => ⟨S2048x11264, .bf16⟩
  | .hbm, ⟨9, _⟩ => ⟨S2048x8x1408, .bf16⟩
  | .hbm, ⟨10, _⟩ => ⟨S8x2048x1408, .bf16⟩
  | .hbm, ⟨11, _⟩ => ⟨S4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpDRefIdeal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S2048x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x2048, .f32⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MmUpW.lean ====
abbrev S4096x2048 : Shape := ⟨2, ![4096, 2048]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 10
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S4096x2048, .bf16⟩
  | .hbm, ⟨3, _⟩ => ⟨S4096x5632, .f32⟩
  | .hbm, ⟨4, _⟩ => ⟨S4096x5632, .f32⟩
  | .hbm, ⟨5, _⟩ => ⟨S1x4096x5632, .f32⟩
  | .hbm, ⟨6, _⟩ => ⟨S1x4096x5632, .f32⟩
  | .hbm, ⟨7, _⟩ => ⟨S2x4096x5632, .f32⟩
  | .hbm, ⟨8, _⟩ => ⟨S2x4096x5632, .bf16⟩
  | .hbm, ⟨9, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmUpWRefIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S_, .f32⟩
  | .hbm, ⟨3, _⟩ => ⟨S2048x11264, .f32⟩
  | .hbm, ⟨4, _⟩ => ⟨S4096x11264, .f32⟩
  | .hbm, ⟨5, _⟩ => ⟨S11264x2048, .f32⟩
  | .hbm, ⟨6, _⟩ => ⟨S2048x11264, .f32⟩
  | .hbm, ⟨7, _⟩ => ⟨S2048x8x1408, .f32⟩
  | .hbm, ⟨8, _⟩ => ⟨S8x2048x1408, .f32⟩
  | .hbm, ⟨9, _⟩ => ⟨S8x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adamw.lean ====
abbrev S4x256x4876 : Shape := ⟨3, ![4, 256, 4876]⟩
abbrev S1024x4876 : Shape := ⟨2, ![1024, 4876]⟩
abbrev S32x4876 : Shape := ⟨2, ![32, 4876]⟩

abbrev nBuf : Space → Nat
  | .hbm => 11
  | .vmem => 14
  | .smem => 0
  | _ => 0

abbrev bufTy : (tb : Table) → Fin (tcTables nBuf tb) → BufTy
  | .hbm, ⟨0, _⟩ => ⟨S4x256x4876, .f32⟩
  | .hbm, ⟨1, _⟩ => ⟨S4x256x4876, .f32⟩
  | .hbm, ⟨2, _⟩ => ⟨S4x256x4876, .f32⟩
  | .hbm, ⟨3, _⟩ => ⟨S4x256x4876, .f32⟩
  | .hbm, ⟨4, _⟩ => ⟨S1024x4876, .f32⟩
  | .hbm, ⟨5, _⟩ => ⟨S1024x4876, .f32⟩
  | .hbm, ⟨6, _⟩ => ⟨S1024x4876, .f32⟩
  | .hbm, ⟨7, _⟩ => ⟨S1024x4876, .f32⟩
  | .hbm, ⟨8, _⟩ => ⟨S1024x4876, .f32⟩
  | .hbm, ⟨9, _⟩ => ⟨S1024x4876, .f32⟩
  | .hbm, ⟨10, _⟩ => ⟨S1024x4876, .f32⟩
  | .local _ .vmem, ⟨0, _⟩ => ⟨S32x4876, .f32⟩
  | .local _ .vmem, ⟨1, _⟩ => ⟨S32x4876, .f32⟩
  | .local _ .vmem, ⟨2, _⟩ => ⟨S32x4876, .f32⟩
  | .local _ .vmem, ⟨3, _⟩ => ⟨S32x4876, .f32⟩
  | .local _ .vmem, ⟨4, _⟩ => ⟨S32x4876, .f32⟩
  | .local _ .vmem, ⟨5, _⟩ => ⟨S32x4876, .f32⟩
  | .local _ .vmem, ⟨6, _⟩ => ⟨S32x4876, .f32⟩
  | .local _ .vmem, ⟨7, _⟩ => ⟨S32x4876, .f32⟩
  | .local _ .vmem, ⟨8, _⟩ => ⟨S32x4876, .f32⟩
  | .local _ .vmem, ⟨9, _⟩ => ⟨S32x4876, .f32⟩
  | .local _ .vmem, ⟨10, _⟩ => ⟨S32x4876, .f32⟩
  | .local _ .vmem, ⟨11, _⟩ => ⟨S32x4876, .f32⟩
  | .local _ .vmem, ⟨12, _⟩ => ⟨S32x4876, .f32⟩
  | .local _ .vmem, ⟨13, _⟩ => ⟨S32x4876, .f32⟩
  | _, _ => ⟨S4x256x4876, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4876 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4876 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4876 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4876 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4876 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4876 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4876 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamwRefIdeal.lean ====
abbrev S4x256x4876 : Shape := ⟨3, ![4, 256, 4876]⟩
abbrev S_ : Shape := ⟨0, ![]⟩
abbrev S1024x4876 : Shape := ⟨2, ![1024, 4876]⟩

abbrev nBuf : Space → Nat
  | .hbm => 40
  | .vmem => 0
  | .smem => 0
  | _ => 0

abbrev bufTy : (tb : Table) → Fin (tcTables nBuf tb) → BufTy
  | .hbm, ⟨0, _⟩ => ⟨S4x256x4876, .f32⟩
  | .hbm, ⟨1, _⟩ => ⟨S4x256x4876, .f32⟩
  | .hbm, ⟨2, _⟩ => ⟨S4x256x4876, .f32⟩
  | .hbm, ⟨3, _⟩ => ⟨S4x256x4876, .f32⟩
  | .hbm, ⟨4, _⟩ => ⟨S_, .f32⟩
  | .hbm, ⟨5, _⟩ => ⟨S4x256x4876, .f32⟩
  | .hbm, ⟨6, _⟩ => ⟨S4x256x4876, .f32⟩
  | .hbm, ⟨7, _⟩ => ⟨S_, .f32⟩
  | .hbm, ⟨8, _⟩ => ⟨S4x256x4876, .f32⟩
  | .hbm, ⟨9, _⟩ => ⟨S4x256x4876, .f32⟩
  | .hbm, ⟨10, _⟩ => ⟨S4x256x4876, .f32⟩
  | .hbm, ⟨11, _⟩ => ⟨S_, .f32⟩
  | .hbm, ⟨12, _⟩ => ⟨S4x256x4876, .f32⟩
  | .hbm, ⟨13, _⟩ => ⟨S4x256x4876, .f32⟩
  | .hbm, ⟨14, _⟩ => ⟨S4x256x4876, .f32⟩
  | .hbm, ⟨15, _⟩ => ⟨S_, .f32⟩
  | .hbm, ⟨16, _⟩ => ⟨S4x256x4876, .f32⟩
  | .hbm, ⟨17, _⟩ => ⟨S4x256x4876, .f32⟩
  | .hbm, ⟨18, _⟩ => ⟨S4x256x4876, .f32⟩
  | .hbm, ⟨19, _⟩ => ⟨S_, .f32⟩
  | .hbm, ⟨20, _⟩ => ⟨S4x256x4876, .f32⟩
  | .hbm, ⟨21, _⟩ => ⟨S4x256x4876, .f32⟩
  | .hbm, ⟨22, _⟩ => ⟨S_, .f32⟩
  | .hbm, ⟨23, _⟩ => ⟨S4x256x4876, .f32⟩
  | .hbm, ⟨24, _⟩ => ⟨S4x256x4876, .f32⟩
  | .hbm, ⟨25, _⟩ => ⟨S4x256x4876, .f32⟩
  | .hbm, ⟨26, _⟩ => ⟨S_, .f32⟩
  | .hbm, ⟨27, _⟩ => ⟨S4x256x4876, .f32⟩
  | .hbm, ⟨28, _⟩ => ⟨S4x256x4876, .f32⟩
  | .hbm, ⟨29, _⟩ => ⟨S4x256x4876, .f32⟩
  | .hbm, ⟨30, _⟩ => ⟨S_, .f32⟩
  | .hbm, ⟨31, _⟩ => ⟨S4x256x4876, .f32⟩
  | .hbm, ⟨32, _⟩ => ⟨S4x256x4876, .f32⟩
  | .hbm, ⟨33, _⟩ => ⟨S4x256x4876, .f32⟩
  | .hbm, ⟨34, _⟩ => ⟨S_, .f32⟩
  | .hbm, ⟨35, _⟩ => ⟨S4x256x4876, .f32⟩
  | .hbm, ⟨36, _⟩ => ⟨S4x256x4876, .f32⟩
  | .hbm, ⟨37, _⟩ => ⟨S1024x4876, .f32⟩
  | .hbm, ⟨38, _⟩ => ⟨S1024x4876, .f32⟩
  | .hbm, ⟨39, _⟩ => ⟨S1024x4876, .f32⟩
  | _, _ => ⟨S4x256x4876, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== SumSlabs.lean ====
abbrev S8x6144x128 : Shape := ⟨3, ![8, 6144, 128]⟩
abbrev S6144x128 : Shape := ⟨2, ![6144, 128]⟩
abbrev S8x3072x128 : Shape := ⟨3, ![8, 3072, 128]⟩
abbrev S3072x128 : Shape := ⟨2, ![3072, 128]⟩
abbrev S1x3072x128 : Shape := ⟨3, ![1, 3072, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x6144x128, .f32⟩
  | .hbm, ⟨1, _⟩ => ⟨S6144x128, .f32⟩
  | .local _ .vmem, ⟨0, _⟩ => ⟨S8x3072x128, .f32⟩
  | .local _ .vmem, ⟨1, _⟩ => ⟨S8x3072x128, .f32⟩
  | .local _ .vmem, ⟨2, _⟩ => ⟨S3072x128, .f32⟩
  | .local _ .vmem, ⟨3, _⟩ => ⟨S3072x128, .f32⟩
  | _, _ => ⟨S8x6144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x3072x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSlabsRefIdeal.lean ====
abbrev S8x6144x128 : Shape := ⟨3, ![8, 6144, 128]⟩
abbrev S_ : Shape := ⟨0, ![]⟩
abbrev S6144x128 : Shape := ⟨2, ![6144, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x6144x128, .f32⟩
  | .hbm, ⟨1, _⟩ => ⟨S_, .f32⟩
  | .hbm, ⟨2, _⟩ => ⟨S6144x128, .f32⟩
  | _, _ => ⟨S8x6144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Pack.lean ====
abbrev S4x2048 : Shape := ⟨2, ![4, 2048]⟩
abbrev S4x4x288 : Shape := ⟨3, ![4, 4, 288]⟩
abbrev S4x6 : Shape := ⟨2, ![4, 6]⟩
abbrev S4x128 : Shape := ⟨2, ![4, 128]⟩
abbrev S4x4x128x128 : Shape := ⟨4, ![4, 4, 128, 128]⟩
abbrev S4x512 : Shape := ⟨2, ![4, 512]⟩
abbrev S4x3x1408 : Shape := ⟨3, ![4, 3, 1408]⟩
abbrev S4x11264 : Shape := ⟨2, ![4, 11264]⟩
abbrev S8192 : Shape := ⟨1, ![8192]⟩
abbrev S4608 : Shape := ⟨1, ![4608]⟩
abbrev S24 : Shape := ⟨1, ![24]⟩
abbrev S512 : Shape := ⟨1, ![512]⟩
abbrev S262144 : Shape := ⟨1, ![262144]⟩
abbrev S2048 : Shape := ⟨1, ![2048]⟩
abbrev S16896 : Shape := ⟨1, ![16896]⟩
abbrev S45056 : Shape := ⟨1, ![45056]⟩
abbrev S364104 : Shape := ⟨1, ![364104]⟩
abbrev S_ : Shape := ⟨0, ![]⟩
abbrev S393216 : Shape := ⟨1, ![393216]⟩
abbrev S3072x128 : Shape := ⟨2, ![3072, 128]⟩
abbrev S1536x128 : Shape := ⟨2, ![1536, 128]⟩

abbrev nBuf : Space → Nat
  | .hbm => 127
  | .vmem => 14
  | .smem => 0
  | _ => 0

abbrev bufTy : (tb : Table) → Fin (tcTables nBuf tb) → BufTy
  | .hbm, ⟨0, _⟩ => ⟨S4x2048, .f32⟩
  | .hbm, ⟨1, _⟩ => ⟨S4x4x288, .f32⟩
  | .hbm, ⟨2, _⟩ => ⟨S4x6, .f32⟩
  | .hbm, ⟨3, _⟩ => ⟨S4x6, .f32⟩
  | .hbm, ⟨4, _⟩ => ⟨S4x128, .f32⟩
  | .hbm, ⟨5, _⟩ => ⟨S4x4x128x128, .f32⟩
  | .hbm, ⟨6, _⟩ => ⟨S4x512, .f32⟩
  | .hbm, ⟨7, _⟩ => ⟨S4x6, .f32⟩
  | .hbm, ⟨8, _⟩ => ⟨S4x2048, .f32⟩
  | .hbm, ⟨9, _⟩ => ⟨S4x2048, .f32⟩
  | .hbm, ⟨10, _⟩ => ⟨S4x3x1408, .f32⟩
  | .hbm, ⟨11, _⟩ => ⟨S4x11264, .f32⟩
  | .hbm, ⟨12, _⟩ => ⟨S4x2048, .f32⟩
  | .hbm, ⟨13, _⟩ => ⟨S4x2048, .f32⟩
  | .hbm, ⟨14, _⟩ => ⟨S4x4x288, .f32⟩
  | .hbm, ⟨15, _⟩ => ⟨S4x6, .f32⟩
  | .hbm, ⟨16, _⟩ => ⟨S4x6, .f32⟩
  | .hbm, ⟨17, _⟩ => ⟨S4x128, .f32⟩
  | .hbm, ⟨18, _⟩ => ⟨S4x4x128x128, .f32⟩
  | .hbm, ⟨19, _⟩ => ⟨S4x512, .f32⟩
  | .hbm, ⟨20, _⟩ => ⟨S4x6, .f32⟩
  | .hbm, ⟨21, _⟩ => ⟨S4x2048, .f32⟩
  | .hbm, ⟨22, _⟩ => ⟨S4x2048, .f32⟩
  | .hbm, ⟨23, _⟩ => ⟨S4x3x1408, .f32⟩
  | .hbm, ⟨24, _⟩ => ⟨S4x11264, .f32⟩
  | .hbm, ⟨25, _⟩ => ⟨S4x2048, .f32⟩
  | .hbm, ⟨26, _⟩ => ⟨S4x2048, .f32⟩
  | .hbm, ⟨27, _⟩ => ⟨S4x4x288, .f32⟩
  | .hbm, ⟨28, _⟩ => ⟨S4x6, .f32⟩
  | .hbm, ⟨29, _⟩ => ⟨S4x6, .f32⟩
  | .hbm, ⟨30, _⟩ => ⟨S4x128, .f32⟩
  | .hbm, ⟨31, _⟩ => ⟨S4x4x128x128, .f32⟩
  | .hbm, ⟨32, _⟩ => ⟨S4x512, .f32⟩
  | .hbm, ⟨33, _⟩ => ⟨S4x6, .f32⟩
  | .hbm, ⟨34, _⟩ => ⟨S4x2048, .f32⟩
  | .hbm, ⟨35, _⟩ => ⟨S4x2048, .f32⟩
  | .hbm, ⟨36, _⟩ => ⟨S4x3x1408, .f32⟩
  | .hbm, ⟨37, _⟩ => ⟨S4x11264, .f32⟩
  | .hbm, ⟨38, _⟩ => ⟨S4x2048, .f32⟩
  | .hbm, ⟨39, _⟩ => ⟨S4x2048, .f32⟩
  | .hbm, ⟨40, _⟩ => ⟨S4x4x288, .f32⟩
  | .hbm, ⟨41, _⟩ => ⟨S4x6, .f32⟩
  | .hbm, ⟨42, _⟩ => ⟨S4x6, .f32⟩
  | .hbm, ⟨43, _⟩ => ⟨S4x128, .f32⟩
  | .hbm, ⟨44, _⟩ => ⟨S4x4x128x128, .f32⟩
  | .hbm, ⟨45, _⟩ => ⟨S4x512, .f32⟩
  | .hbm, ⟨46, _⟩ => ⟨S4x6, .f32⟩
  | .hbm, ⟨47, _⟩ => ⟨S4x2048, .f32⟩
  | .hbm, ⟨48, _⟩ => ⟨S4x2048, .f32⟩
  | .hbm, ⟨49, _⟩ => ⟨S4x3x1408, .f32⟩
  | .hbm, ⟨50, _⟩ => ⟨S4x11264, .f32⟩
  | .hbm, ⟨51, _⟩ => ⟨S4x2048, .f32⟩
  | .hbm, ⟨52, _⟩ => ⟨S8192, .f32⟩
  | .hbm, ⟨53, _⟩ => ⟨S4608, .f32⟩
  | .hbm, ⟨54, _⟩ => ⟨S24, .f32⟩
  | .hbm, ⟨55, _⟩ => ⟨S24, .f32⟩
  | .hbm, ⟨56, _⟩ => ⟨S512, .f32⟩
  | .hbm, ⟨57, _⟩ => ⟨S262144, .f32⟩
  | .hbm, ⟨58, _⟩ => ⟨S2048, .f32⟩
  | .hbm, ⟨59, _⟩ => ⟨S24, .f32⟩
  | .hbm, ⟨60, _⟩ => ⟨S8192, .f32⟩
  | .hbm, ⟨61, _⟩ => ⟨S8192, .f32⟩
  | .hbm, ⟨62, _⟩ => ⟨S16896, .f32⟩
  | .hbm, ⟨63, _⟩ => ⟨S45056, .f32⟩
  | .hbm, ⟨64, _⟩ => ⟨S8192, .f32⟩
  | .hbm, ⟨65, _⟩ => ⟨S364104, .f32⟩
  | .hbm, ⟨66, _⟩ => ⟨S_, .i32⟩
  | .hbm, ⟨67, _⟩ => ⟨S_, .f32⟩
  | .hbm, ⟨68, _⟩ => ⟨S393216, .f32⟩
  | .hbm, ⟨69, _⟩ => ⟨S3072x128, .f32⟩
  | .hbm, ⟨70, _⟩ => ⟨S8192, .f32⟩
  | .hbm, ⟨71, _⟩ => ⟨S4608, .f32⟩
  | .hbm, ⟨72, _⟩ => ⟨S24, .f32⟩
  | .hbm, ⟨73, _⟩ => ⟨S24, .f32⟩
  | .hbm, ⟨74, _⟩ => ⟨S512, .f32⟩
  | .hbm, ⟨75, _⟩ => ⟨S262144, .f32⟩
  | .hbm, ⟨76, _⟩ => ⟨S2048, .f32⟩
  | .hbm, ⟨77, _⟩ => ⟨S24, .f32⟩
  | .hbm, ⟨78, _⟩ => ⟨S8192, .f32⟩
  | .hbm, ⟨79, _⟩ => ⟨S8192, .f32⟩
  | .hbm, ⟨80, _⟩ => ⟨S16896, .f32⟩
  | .hbm, ⟨81, _⟩ => ⟨S45056, .f32⟩
  | .hbm, ⟨82, _⟩ => ⟨S8192, .f32⟩
  | .hbm, ⟨83, _⟩ => ⟨S364104, .f32⟩
  | .hbm, ⟨84, _⟩ => ⟨S_, .i32⟩
  | .hbm, ⟨85, _⟩ => ⟨S_, .f32⟩
  | .hbm, ⟨86, _⟩ => ⟨S393216, .f32⟩
  | .hbm, ⟨87, _⟩ => ⟨S3072x128, .f32⟩
  | .hbm, ⟨88, _⟩ => ⟨S8192, .f32⟩
  | .hbm, ⟨89, _⟩ => ⟨S4608, .f32⟩
  | .hbm, ⟨90, _⟩ => ⟨S24, .f32⟩
  | .hbm, ⟨91, _⟩ => ⟨S24, .f32⟩
  | .hbm, ⟨92, _⟩ => ⟨S512, .f32⟩
  | .hbm, ⟨93, _⟩ => ⟨S262144, .f32⟩
  | .hbm, ⟨94, _⟩ => ⟨S2048, .f32⟩
  | .hbm, ⟨95, _⟩ => ⟨S24, .f32⟩
  | .hbm, ⟨96, _⟩ => ⟨S8192, .f32⟩
  | .hbm, ⟨97, _⟩ => ⟨S8192, .f32⟩
  | .hbm, ⟨98, _⟩ => ⟨S16896, .f32⟩
  | .hbm, ⟨99, _⟩ => ⟨S45056, .f32⟩
  | .hbm, ⟨100, _⟩ => ⟨S8192, .f32⟩
  | .hbm, ⟨101, _⟩ => ⟨S364104, .f32⟩
  | .hbm, ⟨102, _⟩ => ⟨S_, .i32⟩
  | .hbm, ⟨103, _⟩ => ⟨S_, .f32⟩
  | .hbm, ⟨104, _⟩ => ⟨S393216, .f32⟩
  | .hbm, ⟨105, _⟩ => ⟨S3072x128, .f32⟩
  | .hbm, ⟨106, _⟩ => ⟨S8192, .f32⟩
  | .hbm, ⟨107, _⟩ => ⟨S4608, .f32⟩
  | .hbm, ⟨108, _⟩ => ⟨S24, .f32⟩
  | .hbm, ⟨109, _⟩ => ⟨S24, .f32⟩
  | .hbm, ⟨110, _⟩ => ⟨S512, .f32⟩
  | .hbm, ⟨111, _⟩ => ⟨S262144, .f32⟩
  | .hbm, ⟨112, _⟩ => ⟨S2048, .f32⟩
  | .hbm, ⟨113, _⟩ => ⟨S24, .f32⟩
  | .hbm, ⟨114, _⟩ => ⟨S8192, .f32⟩
  | .hbm, ⟨115, _⟩ => ⟨S8192, .f32⟩
  | .hbm, ⟨116, _⟩ => ⟨S16896, .f32⟩
  | .hbm, ⟨117, _⟩ => ⟨S45056, .f32⟩
  | .hbm, ⟨118, _⟩ => ⟨S8192, .f32⟩
  | .hbm, ⟨119, _⟩ => ⟨S364104, .f32⟩
  | .hbm, ⟨120, _⟩ => ⟨S_, .i32⟩
  | .hbm, ⟨121, _⟩ => ⟨S_, .f32⟩
  | .hbm, ⟨122, _⟩ => ⟨S393216, .f32⟩
  | .hbm, ⟨123, _⟩ => ⟨S3072x128, .f32⟩
  | .hbm, ⟨124, _⟩ => ⟨S3072x128, .f32⟩
  | .hbm, ⟨125, _⟩ => ⟨S3072x128, .f32⟩
  | .hbm, ⟨126, _⟩ => ⟨S3072x128, .f32⟩
  | .local _ .vmem, ⟨0, _⟩ => ⟨S1536x128, .f32⟩
  | .local _ .vmem, ⟨1, _⟩ => ⟨S1536x128, .f32⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | .local _ .vmem, ⟨7, _⟩ => ⟨S1536x128, .f32⟩
  | .local _ .vmem, ⟨8, _⟩ => ⟨S1536x128, .f32⟩
  | .local _ .vmem, ⟨9, _⟩ => ⟨S1536x128, .f32⟩
  | .local _ .vmem, ⟨10, _⟩ => ⟨S1536x128, .f32⟩
  | .local _ .vmem, ⟨11, _⟩ => ⟨S1536x128, .f32⟩
  | .local _ .vmem, ⟨12, _⟩ => ⟨S1536x128, .f32⟩
  | .local _ .vmem, ⟨13, _⟩ => ⟨S1536x128, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_c : Ref sig .tc := ⟨.hbm, 66, rfl⟩
abbrev main_call0_v0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c_0 : Ref sig .tc := ⟨.hbm, 84, rfl⟩
abbrev main_call1_v0 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_c_1 : Ref sig .tc := ⟨.hbm, 102, rfl⟩
abbrev main_call2_v0 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_c_2 : Ref sig .tc := ⟨.hbm, 120, rfl⟩
abbrev main_call3_v0 : Ref sig .tc := ⟨.hbm, 121, rfl⟩
abbrev main_v62 : Ref sig .tc := ⟨.hbm, 122, rfl⟩
abbrev main_v63 : Ref sig .tc := ⟨.hbm, 123, rfl⟩
abbrev main_v64_0 : Ref sig .tc := ⟨.hbm, 124, rfl⟩
abbrev main_v64_1 : Ref sig .tc := ⟨.hbm, 125, rfl⟩
abbrev main_v64_2 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PackIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== PackRefIdeal.lean ====
abbrev S4x2048 : Shape := ⟨2, ![4, 2048]⟩
abbrev S4x4x288 : Shape := ⟨3, ![4, 4, 288]⟩
abbrev S4x6 : Shape := ⟨2, ![4, 6]⟩
abbrev S4x128 : Shape := ⟨2, ![4, 128]⟩
abbrev S4x4x128x128 : Shape := ⟨4, ![4, 4, 128, 128]⟩
abbrev S4x512 : Shape := ⟨2, ![4, 512]⟩
abbrev S4x3x1408 : Shape := ⟨3, ![4, 3, 1408]⟩
abbrev S4x11264 : Shape := ⟨2, ![4, 11264]⟩
abbrev S_ : Shape := ⟨0, ![]⟩
abbrev S8192 : Shape := ⟨1, ![8192]⟩
abbrev S4608 : Shape := ⟨1, ![4608]⟩
abbrev S24 : Shape := ⟨1, ![24]⟩
abbrev S512 : Shape := ⟨1, ![512]⟩
abbrev S262144 : Shape := ⟨1, ![262144]⟩
abbrev S2048 : Shape := ⟨1, ![2048]⟩
abbrev S16896 : Shape := ⟨1, ![16896]⟩
abbrev S45056 : Shape := ⟨1, ![45056]⟩
abbrev S364104 : Shape := ⟨1, ![364104]⟩
abbrev S393216 : Shape := ⟨1, ![393216]⟩
abbrev S3072x128 : Shape := ⟨2, ![3072, 128]⟩

abbrev nBuf : Space → Nat
  | .hbm => 535
  | .vmem => 0
  | .smem => 0
  | _ => 0

abbrev hbmTy0_0 (i : Nat) : BufTy := match i % 128 with
  | 0 => ⟨S4x2048, .f32⟩
  | 1 => ⟨S4x4x288, .f32⟩
  | 2 => ⟨S4x6, .f32⟩
  | 3 => ⟨S4x6, .f32⟩
  | 4 => ⟨S4x128, .f32⟩
  | 5 => ⟨S4x4x128x128, .f32⟩
  | 6 => ⟨S4x512, .f32⟩
  | 7 => ⟨S4x6, .f32⟩
  | 8 => ⟨S4x2048, .f32⟩
  | 9 => ⟨S4x2048, .f32⟩
  | 10 => ⟨S4x3x1408, .f32⟩
  | 11 => ⟨S4x11264, .f32⟩
  | 12 => ⟨S4x2048, .f32⟩
  | 13 => ⟨S4x2048, .f32⟩
  | 14 => ⟨S4x4x288, .f32⟩
  | 15 => ⟨S4x6, .f32⟩
  | 16 => ⟨S4x6, .f32⟩
  | 17 => ⟨S4x128, .f32⟩
  | 18 => ⟨S4x4x128x128, .f32⟩
  | 19 => ⟨S4x512, .f32⟩
  | 20 => ⟨S4x6, .f32⟩
  | 21 => ⟨S4x2048, .f32⟩
  | 22 => ⟨S4x2048, .f32⟩
  | 23 => ⟨S4x3x1408, .f32⟩
  | 24 => ⟨S4x11264, .f32⟩
  | 25 => ⟨S4x2048, .f32⟩
  | 26 => ⟨S4x2048, .f32⟩
  | 27 => ⟨S4x4x288, .f32⟩
  | 28 => ⟨S4x6, .f32⟩
  | 29 => ⟨S4x6, .f32⟩
  | 30 => ⟨S4x128, .f32⟩
  | 31 => ⟨S4x4x128x128, .f32⟩
  | 32 => ⟨S4x512, .f32⟩
  | 33 => ⟨S4x6, .f32⟩
  | 34 => ⟨S4x2048, .f32⟩
  | 35 => ⟨S4x2048, .f32⟩
  | 36 => ⟨S4x3x1408, .f32⟩
  | 37 => ⟨S4x11264, .f32⟩
  | 38 => ⟨S4x2048, .f32⟩
  | 39 => ⟨S4x2048, .f32⟩
  | 40 => ⟨S4x4x288, .f32⟩
  | 41 => ⟨S4x6, .f32⟩
  | 42 => ⟨S4x6, .f32⟩
  | 43 => ⟨S4x128, .f32⟩
  | 44 => ⟨S4x4x128x128, .f32⟩
  | 45 => ⟨S4x512, .f32⟩
  | 46 => ⟨S4x6, .f32⟩
  | 47 => ⟨S4x2048, .f32⟩
  | 48 => ⟨S4x2048, .f32⟩
  | 49 => ⟨S4x3x1408, .f32⟩
  | 50 => ⟨S4x11264, .f32⟩
  | 51 => ⟨S4x2048, .f32⟩
  | 52 => ⟨S_, .f32⟩
  | 53 => ⟨S4x2048, .f32⟩
  | 54 => ⟨S4x2048, .f32⟩
  | 55 => ⟨S_, .f32⟩
  | 56 => ⟨S4x2048, .f32⟩
  | 57 => ⟨S4x2048, .f32⟩
  | 58 => ⟨S4x2048, .f32⟩
  | 59 => ⟨S_, .f32⟩
  | 60 => ⟨S4x2048, .f32⟩
  | 61 => ⟨S4x2048, .f32⟩
  | 62 => ⟨S4x2048, .f32⟩
  | 63 => ⟨S_, .f32⟩
  | 64 => ⟨S4x2048, .f32⟩
  | 65 => ⟨S4x2048, .f32⟩
  | 66 => ⟨S4x2048, .f32⟩
  | 67 => ⟨S_, .f32⟩
  | 68 => ⟨S4x2048, .f32⟩
  | 69 => ⟨S4x2048, .f32⟩
  | 70 => ⟨S_, .f32⟩
  | 71 => ⟨S4x2048, .f32⟩
  | 72 => ⟨S4x2048, .f32⟩
  | 73 => ⟨S4x2048, .f32⟩
  | 74 => ⟨S_, .f32⟩
  | 75 => ⟨S4x2048, .f32⟩
  | 76 => ⟨S4x2048, .f32⟩
  | 77 => ⟨S4x2048, .f32⟩
  | 78 => ⟨S_, .f32⟩
  | 79 => ⟨S4x2048, .f32⟩
  | 80 => ⟨S4x2048, .f32⟩
  | 81 => ⟨S4x2048, .f32⟩
  | 82 => ⟨S_, .f32⟩
  | 83 => ⟨S4x2048, .f32⟩
  | 84 => ⟨S4x2048, .f32⟩
  | 85 => ⟨S_, .f32⟩
  | 86 => ⟨S4x4x288, .f32⟩
  | 87 => ⟨S4x4x288, .f32⟩
  | 88 => ⟨S_, .f32⟩
  | 89 => ⟨S4x4x288, .f32⟩
  | 90 => ⟨S4x4x288, .f32⟩
  | 91 => ⟨S4x4x288, .f32⟩
  | 92 => ⟨S_, .f32⟩
  | 93 => ⟨S4x4x288, .f32⟩
  | 94 => ⟨S4x4x288, .f32⟩
  | 95 => ⟨S4x4x288, .f32⟩
  | 96 => ⟨S_, .f32⟩
  | 97 => ⟨S4x4x288, .f32⟩
  | 98 => ⟨S4x4x288, .f32⟩
  | 99 => ⟨S4x4x288, .f32⟩
  | 100 => ⟨S_, .f32⟩
  | 101 => ⟨S4x4x288, .f32⟩
  | 102 => ⟨S4x4x288, .f32⟩
  | 103 => ⟨S_, .f32⟩
  | 104 => ⟨S4x4x288, .f32⟩
  | 105 => ⟨S4x4x288, .f32⟩
  | 106 => ⟨S4x4x288, .f32⟩
  | 107 => ⟨S_, .f32⟩
  | 108 => ⟨S4x4x288, .f32⟩
  | 109 => ⟨S4x4x288, .f32⟩
  | 110 => ⟨S4x4x288, .f32⟩
  | 111 => ⟨S_, .f32⟩
  | 112 => ⟨S4x4x288, .f32⟩
  | 113 => ⟨S4x4x288, .f32⟩
  | 114 => ⟨S4x4x288, .f32⟩
  | 115 => ⟨S_, .f32⟩
  | 116 => ⟨S4x4x288, .f32⟩
  | 117 => ⟨S4x4x288, .f32⟩
  | 118 => ⟨S_, .f32⟩
  | 119 => ⟨S4x6, .f32⟩
  | 120 => ⟨S4x6, .f32⟩
  | 121 => ⟨S_, .f32⟩
  | 122 => ⟨S4x6, .f32⟩
  | 123 => ⟨S4x6, .f32⟩
  | 124 => ⟨S4x6, .f32⟩
  | 125 => ⟨S_, .f32⟩
  | 126 => ⟨S4x6, .f32⟩
  | 127 => ⟨S4x6, .f32⟩
  | _ => ⟨S4x2048, .f32⟩

abbrev hbmTy0_1 (i : Nat) : BufTy := match i % 128 with
  | 0 => ⟨S4x6, .f32⟩
  | 1 => ⟨S_, .f32⟩
  | 2 => ⟨S4x6, .f32⟩
  | 3 => ⟨S4x6, .f32⟩
  | 4 => ⟨S4x6, .f32⟩
  | 5 => ⟨S_, .f32⟩
  | 6 => ⟨S4x6, .f32⟩
  | 7 => ⟨S4x6, .f32⟩
  | 8 => ⟨S_, .f32⟩
  | 9 => ⟨S4x6, .f32⟩
  | 10 => ⟨S4x6, .f32⟩
  | 11 => ⟨S4x6, .f32⟩
  | 12 => ⟨S_, .f32⟩
  | 13 => ⟨S4x6, .f32⟩
  | 14 => ⟨S4x6, .f32⟩
  | 15 => ⟨S4x6, .f32⟩
  | 16 => ⟨S_, .f32⟩
  | 17 => ⟨S4x6, .f32⟩
  | 18 => ⟨S4x6, .f32⟩
  | 19 => ⟨S4x6, .f32⟩
  | 20 => ⟨S_, .f32⟩
  | 21 => ⟨S4x6, .f32⟩
  | 22 => ⟨S4x6, .f32⟩
  | 23 => ⟨S_, .f32⟩
  | 24 => ⟨S4x6, .f32⟩
  | 25 => ⟨S4x6, .f32⟩
  | 26 => ⟨S_, .f32⟩
  | 27 => ⟨S4x6, .f32⟩
  | 28 => ⟨S4x6, .f32⟩
  | 29 => ⟨S4x6, .f32⟩
  | 30 => ⟨S_, .f32⟩
  | 31 => ⟨S4x6, .f32⟩
  | 32 => ⟨S4x6, .f32⟩
  | 33 => ⟨S4x6, .f32⟩
  | 34 => ⟨S_, .f32⟩
  | 35 => ⟨S4x6, .f32⟩
  | 36 => ⟨S4x6, .f32⟩
  | 37 => ⟨S4x6, .f32⟩
  | 38 => ⟨S_, .f32⟩
  | 39 => ⟨S4x6, .f32⟩
  | 40 => ⟨S4x6, .f32⟩
  | 41 => ⟨S_, .f32⟩
  | 42 => ⟨S4x6, .f32⟩
  | 43 => ⟨S4x6, .f32⟩
  | 44 => ⟨S4x6, .f32⟩
  | 45 => ⟨S_, .f32⟩
  | 46 => ⟨S4x6, .f32⟩
  | 47 => ⟨S4x6, .f32⟩
  | 48 => ⟨S4x6, .f32⟩
  | 49 => ⟨S_, .f32⟩
  | 50 => ⟨S4x6, .f32⟩
  | 51 => ⟨S4x6, .f32⟩
  | 52 => ⟨S4x6, .f32⟩
  | 53 => ⟨S_, .f32⟩
  | 54 => ⟨S4x6, .f32⟩
  | 55 => ⟨S4x6, .f32⟩
  | 56 => ⟨S_, .f32⟩
  | 57 => ⟨S4x128, .f32⟩
  | 58 => ⟨S4x128, .f32⟩
  | 59 => ⟨S_, .f32⟩
  | 60 => ⟨S4x128, .f32⟩
  | 61 => ⟨S4x128, .f32⟩
  | 62 => ⟨S4x128, .f32⟩
  | 63 => ⟨S_, .f32⟩
  | 64 => ⟨S4x128, .f32⟩
  | 65 => ⟨S4x128, .f32⟩
  | 66 => ⟨S4x128, .f32⟩
  | 67 => ⟨S_, .f32⟩
  | 68 => ⟨S4x128, .f32⟩
  | 69 => ⟨S4x128, .f32⟩
  | 70 => ⟨S4x128, .f32⟩
  | 71 => ⟨S_, .f32⟩
  | 72 => ⟨S4x128, .f32⟩
  | 73 => ⟨S4x128, .f32⟩
  | 74 => ⟨S_, .f32⟩
  | 75 => ⟨S4x128, .f32⟩
  | 76 => ⟨S4x128, .f32⟩
  | 77 => ⟨S4x128, .f32⟩
  | 78 => ⟨S_, .f32⟩
  | 79 => ⟨S4x128, .f32⟩
  | 80 => ⟨S4x128, .f32⟩
  | 81 => ⟨S4x128, .f32⟩
  | 82 => ⟨S_, .f32⟩
  | 83 => ⟨S4x128, .f32⟩
  | 84 => ⟨S4x128, .f32⟩
  | 85 => ⟨S4x128, .f32⟩
  | 86 => ⟨S_, .f32⟩
  | 87 => ⟨S4x128, .f32⟩
  | 88 => ⟨S4x128, .f32⟩
  | 89 => ⟨S_, .f32⟩
  | 90 => ⟨S4x4x128x128, .f32⟩
  | 91 => ⟨S4x4x128x128, .f32⟩
  | 92 => ⟨S_, .f32⟩
  | 93 => ⟨S4x4x128x128, .f32⟩
  | 94 => ⟨S4x4x128x128, .f32⟩
  | 95 => ⟨S4x4x128x128, .f32⟩
  | 96 => ⟨S_, .f32⟩
  | 97 => ⟨S4x4x128x128, .f32⟩
  | 98 => ⟨S4x4x128x128, .f32⟩
  | 99 => ⟨S4x4x128x128, .f32⟩
  | 100 => ⟨S_, .f32⟩
  | 101 => ⟨S4x4x128x128, .f32⟩
  | 102 => ⟨S4x4x128x128, .f32⟩
  | 103 => ⟨S4x4x128x128, .f32⟩
  | 104 => ⟨S_, .f32⟩
  | 105 => ⟨S4x4x128x128, .f32⟩
  | 106 => ⟨S4x4x128x128, .f32⟩
  | 107 => ⟨S_, .f32⟩
  | 108 => ⟨S4x4x128x128, .f32⟩
  | 109 => ⟨S4x4x128x128, .f32⟩
  | 110 => ⟨S4x4x128x128, .f32⟩
  | 111 => ⟨S_, .f32⟩
  | 112 => ⟨S4x4x128x128, .f32⟩
  | 113 => ⟨S4x4x128x128, .f32⟩
  | 114 => ⟨S4x4x128x128, .f32⟩
  | 115 => ⟨S_, .f32⟩
  | 116 => ⟨S4x4x128x128, .f32⟩
  | 117 => ⟨S4x4x128x128, .f32⟩
  | 118 => ⟨S4x4x128x128, .f32⟩
  | 119 => ⟨S_, .f32⟩
  | 120 => ⟨S4x4x128x128, .f32⟩
  | 121 => ⟨S4x4x128x128, .f32⟩
  | 122 => ⟨S_, .f32⟩
  | 123 => ⟨S4x512, .f32⟩
  | 124 => ⟨S4x512, .f32⟩
  | 125 => ⟨S_, .f32⟩
  | 126 => ⟨S4x512, .f32⟩
  | 127 => ⟨S4x512, .f32⟩
  | _ => ⟨S4x2048, .f32⟩

abbrev hbmTy0_2 (i : Nat) : BufTy := match i % 128 with
  | 0 => ⟨S4x512, .f32⟩
  | 1 => ⟨S_, .f32⟩
  | 2 => ⟨S4x512, .f32⟩
  | 3 => ⟨S4x512, .f32⟩
  | 4 => ⟨S4x512, .f32⟩
  | 5 => ⟨S_, .f32⟩
  | 6 => ⟨S4x512, .f32⟩
  | 7 => ⟨S4x512, .f32⟩
  | 8 => ⟨S4x512, .f32⟩
  | 9 => ⟨S_, .f32⟩
  | 10 => ⟨S4x512, .f32⟩
  | 11 => ⟨S4x512, .f32⟩
  | 12 => ⟨S_, .f32⟩
  | 13 => ⟨S4x512, .f32⟩
  | 14 => ⟨S4x512, .f32⟩
  | 15 => ⟨S4x512, .f32⟩
  | 16 => ⟨S_, .f32⟩
  | 17 => ⟨S4x512, .f32⟩
  | 18 => ⟨S4x512, .f32⟩
  | 19 => ⟨S4x512, .f32⟩
  | 20 => ⟨S_, .f32⟩
  | 21 => ⟨S4x512, .f32⟩
  | 22 => ⟨S4x512, .f32⟩
  | 23 => ⟨S4x512, .f32⟩
  | 24 => ⟨S_, .f32⟩
  | 25 => ⟨S4x512, .f32⟩
  | 26 => ⟨S4x512, .f32⟩
  | 27 => ⟨S_, .f32⟩
  | 28 => ⟨S4x6, .f32⟩
  | 29 => ⟨S4x6, .f32⟩
  | 30 => ⟨S_, .f32⟩
  | 31 => ⟨S4x6, .f32⟩
  | 32 => ⟨S4x6, .f32⟩
  | 33 => ⟨S4x6, .f32⟩
  | 34 => ⟨S_, .f32⟩
  | 35 => ⟨S4x6, .f32⟩
  | 36 => ⟨S4x6, .f32⟩
  | 37 => ⟨S4x6, .f32⟩
  | 38 => ⟨S_, .f32⟩
  | 39 => ⟨S4x6, .f32⟩
  | 40 => ⟨S4x6, .f32⟩
  | 41 => ⟨S4x6, .f32⟩
  | 42 => ⟨S_, .f32⟩
  | 43 => ⟨S4x6, .f32⟩
  | 44 => ⟨S4x6, .f32⟩
  | 45 => ⟨S_, .f32⟩
  | 46 => ⟨S4x6, .f32⟩
  | 47 => ⟨S4x6, .f32⟩
  | 48 => ⟨S4x6, .f32⟩
  | 49 => ⟨S_, .f32⟩
  | 50 => ⟨S4x6, .f32⟩
  | 51 => ⟨S4x6, .f32⟩
  | 52 => ⟨S4x6, .f32⟩
  | 53 => ⟨S_, .f32⟩
  | 54 => ⟨S4x6, .f32⟩
  | 55 => ⟨S4x6, .f32⟩
  | 56 => ⟨S4x6, .f32⟩
  | 57 => ⟨S_, .f32⟩
  | 58 => ⟨S4x6, .f32⟩
  | 59 => ⟨S4x6, .f32⟩
  | 60 => ⟨S_, .f32⟩
  | 61 => ⟨S4x2048, .f32⟩
  | 62 => ⟨S4x2048, .f32⟩
  | 63 => ⟨S_, .f32⟩
  | 64 => ⟨S4x2048, .f32⟩
  | 65 => ⟨S4x2048, .f32⟩
  | 66 => ⟨S4x2048, .f32⟩
  | 67 => ⟨S_, .f32⟩
  | 68 => ⟨S4x2048, .f32⟩
  | 69 => ⟨S4x2048, .f32⟩
  | 70 => ⟨S4x2048, .f32⟩
  | 71 => ⟨S_, .f32⟩
  | 72 => ⟨S4x2048, .f32⟩
  | 73 => ⟨S4x2048, .f32⟩
  | 74 => ⟨S4x2048, .f32⟩
  | 75 => ⟨S_, .f32⟩
  | 76 => ⟨S4x2048, .f32⟩
  | 77 => ⟨S4x2048, .f32⟩
  | 78 => ⟨S_, .f32⟩
  | 79 => ⟨S4x2048, .f32⟩
  | 80 => ⟨S4x2048, .f32⟩
  | 81 => ⟨S4x2048, .f32⟩
  | 82 => ⟨S_, .f32⟩
  | 83 => ⟨S4x2048, .f32⟩
  | 84 => ⟨S4x2048, .f32⟩
  | 85 => ⟨S4x2048, .f32⟩
  | 86 => ⟨S_, .f32⟩
  | 87 => ⟨S4x2048, .f32⟩
  | 88 => ⟨S4x2048, .f32⟩
  | 89 => ⟨S4x2048, .f32⟩
  | 90 => ⟨S_, .f32⟩
  | 91 => ⟨S4x2048, .f32⟩
  | 92 => ⟨S4x2048, .f32⟩
  | 93 => ⟨S_, .f32⟩
  | 94 => ⟨S4x2048, .f32⟩
  | 95 => ⟨S4x2048, .f32⟩
  | 96 => ⟨S_, .f32⟩
  | 97 => ⟨S4x2048, .f32⟩
  | 98 => ⟨S4x2048, .f32⟩
  | 99 => ⟨S4x2048, .f32⟩
  | 100 => ⟨S_, .f32⟩
  | 101 => ⟨S4x2048, .f32⟩
  | 102 => ⟨S4x2048, .f32⟩
  | 103 => ⟨S4x2048, .f32⟩
  | 104 => ⟨S_, .f32⟩
  | 105 => ⟨S4x2048, .f32⟩
  | 106 => ⟨S4x2048, .f32⟩
  | 107 => ⟨S4x2048, .f32⟩
  | 108 => ⟨S_, .f32⟩
  | 109 => ⟨S4x2048, .f32⟩
  | 110 => ⟨S4x2048, .f32⟩
  | 111 => ⟨S_, .f32⟩
  | 112 => ⟨S4x2048, .f32⟩
  | 113 => ⟨S4x2048, .f32⟩
  | 114 => ⟨S4x2048, .f32⟩
  | 115 => ⟨S_, .f32⟩
  | 116 => ⟨S4x2048, .f32⟩
  | 117 => ⟨S4x2048, .f32⟩
  | 118 => ⟨S4x2048, .f32⟩
  | 119 => ⟨S_, .f32⟩
  | 120 => ⟨S4x2048, .f32⟩
  | 121 => ⟨S4x2048, .f32⟩
  | 122 => ⟨S4x2048, .f32⟩
  | 123 => ⟨S_, .f32⟩
  | 124 => ⟨S4x2048, .f32⟩
  | 125 => ⟨S4x2048, .f32⟩
  | 126 => ⟨S_, .f32⟩
  | 127 => ⟨S4x3x1408, .f32⟩
  | _ => ⟨S4x2048, .f32⟩

abbrev hbmTy0_3 (i : Nat) : BufTy := match i % 128 with
  | 0 => ⟨S4x3x1408, .f32⟩
  | 1 => ⟨S_, .f32⟩
  | 2 => ⟨S4x3x1408, .f32⟩
  | 3 => ⟨S4x3x1408, .f32⟩
  | 4 => ⟨S4x3x1408, .f32⟩
  | 5 => ⟨S_, .f32⟩
  | 6 => ⟨S4x3x1408, .f32⟩
  | 7 => ⟨S4x3x1408, .f32⟩
  | 8 => ⟨S4x3x1408, .f32⟩
  | 9 => ⟨S_, .f32⟩
  | 10 => ⟨S4x3x1408, .f32⟩
  | 11 => ⟨S4x3x1408, .f32⟩
  | 12 => ⟨S4x3x1408, .f32⟩
  | 13 => ⟨S_, .f32⟩
  | 14 => ⟨S4x3x1408, .f32⟩
  | 15 => ⟨S4x3x1408, .f32⟩
  | 16 => ⟨S_, .f32⟩
  | 17 => ⟨S4x3x1408, .f32⟩
  | 18 => ⟨S4x3x1408, .f32⟩
  | 19 => ⟨S4x3x1408, .f32⟩
  | 20 => ⟨S_, .f32⟩
  | 21 => ⟨S4x3x1408, .f32⟩
  | 22 => ⟨S4x3x1408, .f32⟩
  | 23 => ⟨S4x3x1408, .f32⟩
  | 24 => ⟨S_, .f32⟩
  | 25 => ⟨S4x3x1408, .f32⟩
  | 26 => ⟨S4x3x1408, .f32⟩
  | 27 => ⟨S4x3x1408, .f32⟩
  | 28 => ⟨S_, .f32⟩
  | 29 => ⟨S4x3x1408, .f32⟩
  | 30 => ⟨S4x3x1408, .f32⟩
  | 31 => ⟨S_, .f32⟩
  | 32 => ⟨S4x11264, .f32⟩
  | 33 => ⟨S4x11264, .f32⟩
  | 34 => ⟨S_, .f32⟩
  | 35 => ⟨S4x11264, .f32⟩
  | 36 => ⟨S4x11264, .f32⟩
  | 37 => ⟨S4x11264, .f32⟩
  | 38 => ⟨S_, .f32⟩
  | 39 => ⟨S4x11264, .f32⟩
  | 40 => ⟨S4x11264, .f32⟩
  | 41 => ⟨S4x11264, .f32⟩
  | 42 => ⟨S_, .f32⟩
  | 43 => ⟨S4x11264, .f32⟩
  | 44 => ⟨S4x11264, .f32⟩
  | 45 => ⟨S4x11264, .f32⟩
  | 46 => ⟨S_, .f32⟩
  | 47 => ⟨S4x11264, .f32⟩
  | 48 => ⟨S4x11264, .f32⟩
  | 49 => ⟨S_, .f32⟩
  | 50 => ⟨S4x11264, .f32⟩
  | 51 => ⟨S4x11264, .f32⟩
  | 52 => ⟨S4x11264, .f32⟩
  | 53 => ⟨S_, .f32⟩
  | 54 => ⟨S4x11264, .f32⟩
  | 55 => ⟨S4x11264, .f32⟩
  | 56 => ⟨S4x11264, .f32⟩
  | 57 => ⟨S_, .f32⟩
  | 58 => ⟨S4x11264, .f32⟩
  | 59 => ⟨S4x11264, .f32⟩
  | 60 => ⟨S4x11264, .f32⟩
  | 61 => ⟨S_, .f32⟩
  | 62 => ⟨S4x11264, .f32⟩
  | 63 => ⟨S4x11264, .f32⟩
  | 64 => ⟨S_, .f32⟩
  | 65 => ⟨S4x2048, .f32⟩
  | 66 => ⟨S4x2048, .f32⟩
  | 67 => ⟨S_, .f32⟩
  | 68 => ⟨S4x2048, .f32⟩
  | 69 => ⟨S4x2048, .f32⟩
  | 70 => ⟨S4x2048, .f32⟩
  | 71 => ⟨S_, .f32⟩
  | 72 => ⟨S4x2048, .f32⟩
  | 73 => ⟨S4x2048, .f32⟩
  | 74 => ⟨S4x2048, .f32⟩
  | 75 => ⟨S_, .f32⟩
  | 76 => ⟨S4x2048, .f32⟩
  | 77 => ⟨S4x2048, .f32⟩
  | 78 => ⟨S4x2048, .f32⟩
  | 79 => ⟨S_, .f32⟩
  | 80 => ⟨S4x2048, .f32⟩
  | 81 => ⟨S4x2048, .f32⟩
  | 82 => ⟨S_, .f32⟩
  | 83 => ⟨S4x2048, .f32⟩
  | 84 => ⟨S4x2048, .f32⟩
  | 85 => ⟨S4x2048, .f32⟩
  | 86 => ⟨S_, .f32⟩
  | 87 => ⟨S4x2048, .f32⟩
  | 88 => ⟨S4x2048, .f32⟩
  | 89 => ⟨S4x2048, .f32⟩
  | 90 => ⟨S_, .f32⟩
  | 91 => ⟨S4x2048, .f32⟩
  | 92 => ⟨S4x2048, .f32⟩
  | 93 => ⟨S4x2048, .f32⟩
  | 94 => ⟨S_, .f32⟩
  | 95 => ⟨S4x2048, .f32⟩
  | 96 => ⟨S4x2048, .f32⟩
  | 97 => ⟨S8192, .f32⟩
  | 98 => ⟨S4608, .f32⟩
  | 99 => ⟨S24, .f32⟩
  | 100 => ⟨S24, .f32⟩
  | 101 => ⟨S512, .f32⟩
  | 102 => ⟨S262144, .f32⟩
  | 103 => ⟨S2048, .f32⟩
  | 104 => ⟨S24, .f32⟩
  | 105 => ⟨S8192, .f32⟩
  | 106 => ⟨S8192, .f32⟩
  | 107 => ⟨S16896, .f32⟩
  | 108 => ⟨S45056, .f32⟩
  | 109 => ⟨S8192, .f32⟩
  | 110 => ⟨S364104, .f32⟩
  | 111 => ⟨S_, .i32⟩
  | 112 => ⟨S_, .f32⟩
  | 113 => ⟨S393216, .f32⟩
  | 114 => ⟨S3072x128, .f32⟩
  | 115 => ⟨S8192, .f32⟩
  | 116 => ⟨S4608, .f32⟩
  | 117 => ⟨S24, .f32⟩
  | 118 => ⟨S24, .f32⟩
  | 119 => ⟨S512, .f32⟩
  | 120 => ⟨S262144, .f32⟩
  | 121 => ⟨S2048, .f32⟩
  | 122 => ⟨S24, .f32⟩
  | 123 => ⟨S8192, .f32⟩
  | 124 => ⟨S8192, .f32⟩
  | 125 => ⟨S16896, .f32⟩
  | 126 => ⟨S45056, .f32⟩
  | 127 => ⟨S8192, .f32⟩
  | _ => ⟨S4x2048, .f32⟩

abbrev hbmTy0_4 (i : Nat) : BufTy := match i % 128 with
  | 0 => ⟨S364104, .f32⟩
  | 1 => ⟨S_, .i32⟩
  | 2 => ⟨S_, .f32⟩
  | 3 => ⟨S393216, .f32⟩
  | 4 => ⟨S3072x128, .f32⟩
  | 5 => ⟨S8192, .f32⟩
  | 6 => ⟨S4608, .f32⟩
  | 7 => ⟨S24, .f32⟩
  | 8 => ⟨S24, .f32⟩
  | 9 => ⟨S512, .f32⟩
  | 10 => ⟨S262144, .f32⟩
  | 11 => ⟨S2048, .f32⟩
  | 12 => ⟨S24, .f32⟩
  | 13 => ⟨S8192, .f32⟩
  | 14 => ⟨S8192, .f32⟩
  | 15 => ⟨S16896, .f32⟩
  | 16 => ⟨S45056, .f32⟩
  | 17 => ⟨S8192, .f32⟩
  | 18 => ⟨S364104, .f32⟩
  | 19 => ⟨S_, .i32⟩
  | 20 => ⟨S_, .f32⟩
  | 21 => ⟨S393216, .f32⟩
  | 22 => ⟨S3072x128, .f32⟩
  | _ => ⟨S4x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩
abbrev main_v312 : Ref sig .tc := ⟨.hbm, 481, rfl⟩
abbrev main_v313 : Ref sig .tc := ⟨.hbm, 482, rfl⟩
abbrev main_v314 : Ref sig .tc := ⟨.hbm, 483, rfl⟩
abbrev main_v315 : Ref sig .tc := ⟨.hbm, 484, rfl⟩
abbrev main_v316 : Ref sig .tc := ⟨.hbm, 485, rfl⟩
abbrev main_v317 : Ref sig .tc := ⟨.hbm, 486, rfl⟩
abbrev main_v318 : Ref sig .tc := ⟨.hbm, 487, rfl⟩
abbrev main_v319 : Ref sig .tc := ⟨.hbm, 488, rfl⟩
abbrev main_v320 : Ref sig .tc := ⟨.hbm, 489, rfl⟩
abbrev main_v321 : Ref sig .tc := ⟨.hbm, 490, rfl⟩
abbrev main_v322 : Ref sig .tc := ⟨.hbm, 491, rfl⟩
abbrev main_v323 : Ref sig .tc := ⟨.hbm, 492, rfl⟩
abbrev main_v324 : Ref sig .tc := ⟨.hbm, 493, rfl⟩
abbrev main_v325 : Ref sig .tc := ⟨.hbm, 494, rfl⟩
abbrev main_c : Ref sig .tc := ⟨.hbm, 495, rfl⟩
abbrev main_call0_v0 : Ref sig .tc := ⟨.hbm, 496, rfl⟩
abbrev main_v326 : Ref sig .tc := ⟨.hbm, 497, rfl⟩
abbrev main_v327 : Ref sig .tc := ⟨.hbm, 498, rfl⟩
abbrev main_v328 : Ref sig .tc := ⟨.hbm, 499, rfl⟩
abbrev main_v329 : Ref sig .tc := ⟨.hbm, 500, rfl⟩
abbrev main_v330 : Ref sig .tc := ⟨.hbm, 501, rfl⟩
abbrev main_v331 : Ref sig .tc := ⟨.hbm, 502, rfl⟩
abbrev main_v332 : Ref sig .tc := ⟨.hbm, 503, rfl⟩
abbrev main_v333 : Ref sig .tc := ⟨.hbm, 504, rfl⟩
abbrev main_v334 : Ref sig .tc := ⟨.hbm, 505, rfl⟩
abbrev main_v335 : Ref sig .tc := ⟨.hbm, 506, rfl⟩
abbrev main_v336 : Ref sig .tc := ⟨.hbm, 507, rfl⟩
abbrev main_v337 : Ref sig .tc := ⟨.hbm, 508, rfl⟩
abbrev main_v338 : Ref sig .tc := ⟨.hbm, 509, rfl⟩
abbrev main_v339 : Ref sig .tc := ⟨.hbm, 510, rfl⟩
abbrev main_v340 : Ref sig .tc := ⟨.hbm, 511, rfl⟩
abbrev main_v341 : Ref sig .tc := ⟨.hbm, 512, rfl⟩
abbrev main_c_116 : Ref sig .tc := ⟨.hbm, 513, rfl⟩
abbrev main_call1_v0 : Ref sig .tc := ⟨.hbm, 514, rfl⟩
abbrev main_v342 : Ref sig .tc := ⟨.hbm, 515, rfl⟩
abbrev main_v343 : Ref sig .tc := ⟨.hbm, 516, rfl⟩
abbrev main_v344 : Ref sig .tc := ⟨.hbm, 517, rfl⟩
abbrev main_v345 : Ref sig .tc := ⟨.hbm, 518, rfl⟩
abbrev main_v346 : Ref sig .tc := ⟨.hbm, 519, rfl⟩
abbrev main_v347 : Ref sig .tc := ⟨.hbm, 520, rfl⟩
abbrev main_v348 : Ref sig .tc := ⟨.hbm, 521, rfl⟩
abbrev main_v349 : Ref sig .tc := ⟨.hbm, 522, rfl⟩
abbrev main_v350 : Ref sig .tc := ⟨.hbm, 523, rfl⟩
abbrev main_v351 : Ref sig .tc := ⟨.hbm, 524, rfl⟩
abbrev main_v352 : Ref sig .tc := ⟨.hbm, 525, rfl⟩
abbrev main_v353 : Ref sig .tc := ⟨.hbm, 526, rfl⟩
abbrev main_v354 : Ref sig .tc := ⟨.hbm, 527, rfl⟩
abbrev main_v355 : Ref sig .tc := ⟨.hbm, 528, rfl⟩
abbrev main_v356 : Ref sig .tc := ⟨.hbm, 529, rfl⟩
abbrev main_v357 : Ref sig .tc := ⟨.hbm, 530, rfl⟩
abbrev main_c_117 : Ref sig .tc := ⟨.hbm, 531, rfl⟩
abbrev main_call2_v0 : Ref sig .tc := ⟨.hbm, 532, rfl⟩
abbrev main_v358 : Ref sig .tc := ⟨.hbm, 533, rfl⟩
abbrev main_v359 : Ref sig .tc := ⟨.hbm, 534, rfl⟩

abbrev nD : Nat := 1
abbrev τ : Topo := Topo.v7x

variable {F : FTy → Type} [FloatOps F]
-- ==== Proof.RealLift.lean ====
/- Arrays of extended reals whose every element is a real number: how the operations of the two programs
   act on them, and how a finiteness precondition gives one. -/
module

public import Idealize.ShloMosaic.Lib.Pointwise
public import Idealize.ShloMosaic.Lib.ReduceAll
public import Idealize.ShloMosaic.Lib.IdealHost
public import Idealize.ShloMosaic.Lib.ValueIdx

@[expose] public section

set_option maxRecDepth 16384

noncomputable section

namespace Cert.RealLift

open Idealize.ShloMosaic

/-- A finite sum of reals, as an extended real, is the sum of the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals with a divisor other than zero. -/
theorem div_real {a b : ℝ} (h : b ≠ 0) : Ideal.div (a : EReal) (b : EReal) = ((a / b : ℝ) : EReal) := by
  rw [Ideal.div_coe h, ← EReal.coe_mul, mul_one_div]

/-- The reciprocal square root of a positive real. -/
theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- An extended real whose absolute value is below the largest one is a real. -/
theorem exists_real {x : EReal} (h : max x (-x) < ⊤) : ∃ r : ℝ, x = (r : EReal) := by
  induction x using EReal.rec with
  | bot => simp at h
  | top => simp at h
  | coe r => exact ⟨r, rfl⟩

/-- Every element of the array is a real. -/
abbrev IsLift {s : Shape} (x : s.Idx → EReal) : Prop := ∃ r : s.Idx → ℝ, x = fun i => ((r i : ℝ) : EReal)

/-- An array every element of which is a real is the lift of an array of reals. -/
theorem exists_lift {ι : Type*} {x : ι → EReal} (h : ∀ i, max (x i) (-(x i)) < ⊤) : ∃ r : ι → ℝ, x = fun i => ((r i : ℝ) : EReal) :=
  ⟨fun i => (exists_real (h i)).choose, funext fun i => (exists_real (h i)).choose_spec⟩

theorem ofBits_inf : Ideal.ofBits .f32 0x7F800000#32 = ⊤ := by
  simp [Ideal.ofBits, Ideal.ieee]

/-- A conjunction of two truth values that holds. -/
theorem and_one {s : Shape} {x y : IVec s 1} (h : andi x y = fun _ => 1#1) : (x = fun _ => 1#1) ∧ y = fun _ => 1#1 := by
  have key : ∀ a b : BitVec 1, a &&& b = 1#1 → a = 1#1 ∧ b = 1#1 := by decide
  exact ⟨funext fun i => (key _ _ (congrFun h i)).1, funext fun i => (key _ _ (congrFun h i)).2⟩

/-- Of an array all of whose absolute values compare below infinity, every element is a real. -/
theorem lift_of_all {s t u : Shape} {axes : List (Fin s.rank)} [Subsingleton t.Idx] [Inhabited t.Idx] (x : FVec Ideal s .f32)
    (b : (⟨0, ![]⟩ : Shape).BroadcastsInDim s (![] : Fin 0 → Fin s.rank)) (init : u.Idx → BitVec 1) (h : s.ReducesTo axes t) (hu : 0 < u.numel)
    (e : Host.reduce IntOp.andi (cmpf .olt (Host.absf x) (broadcastInDim s ![] b (constant ⟨0, ![]⟩ .f32 0x7F800000#32))) init h hu = fun _ => 1#1) : IsLift x := by
  refine exists_lift fun i => ?_
  have := Host.reduce_andi_all _ init h hu default (congrFun e _) i
  pointwise at this
  rw [ofBits_inf] at this
  change BitVec.ofBool (decide (max (x i) (-(x i)) < ⊤)) = 1#1 at this
  by_contra hn
  rw [decide_eq_false hn] at this
  exact absurd this (by decide)

theorem ofBits_2048 : Ideal.ofBits .f32 0x45000000#32 = ((2048 : ℝ) : EReal) := by
  simp [Ideal.ofBits, Ideal.ieee, -EReal.coe_mul]
  norm_num

end Cert.RealLift

end
-- ==== Proof.NormReal.lean ====
/- The mathematics of the norm's gradient over the reals: the formula that the kernels compute, and its equality with the one that
   differentiating the forward lines gives. -/
module

public import proofs.«01_k».proof.Proof.RealLift

@[expose] public section

set_option maxRecDepth 16384

noncomputable section

namespace Cert.RealLift

open Idealize.ShloMosaic

/-- A row of a matrix. -/
abbrev rowOf {T n : ℕ} (x : (Shape.mk 2 ![T, n]).Idx → ℝ) (r : Fin T) : Fin n → ℝ := fun k => x (ix2 r k)

/-- The lanes of a vector. -/
abbrev laneOf {n : ℕ} (x : (Shape.mk 1 ![n]).Idx → ℝ) : Fin n → ℝ := fun k => x (ix1 k)

/-- The constant that the norm adds to the mean of squares. -/
def eps : ℝ := 8796093 / 2 ^ 43

theorem eps_pos : 0 < eps := by unfold eps; norm_num

theorem ofBits_eps : Ideal.ofBits .f32 0x358637BD#32 = ((eps : ℝ) : EReal) := by
  simp [Ideal.ofBits, Ideal.ieee, -EReal.coe_mul, eps]
  norm_num

theorem ofBits_neg_half : Ideal.ofBits .f32 0xBF000000#32 = ((-(1 / 2) : ℝ) : EReal) := by
  simp [Ideal.ofBits, Ideal.ieee, -EReal.coe_mul, -EReal.coe_neg]
  norm_num

theorem ofBits_half : Ideal.ofBits .f32 0x3F000000#32 = ((1 / 2 : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_inv_2048 : Ideal.ofBits .f32 0x3A000000#32 = ((1 / 2048 : ℝ) : EReal) := by
  simp [Ideal.ofBits, Ideal.ieee, -EReal.coe_mul]
  norm_num

/-- The mean of squares of a row, with the constant. -/
def ms {n : ℕ} (y : Fin n → ℝ) : ℝ := (∑ k, y k * y k) / 2048 + eps

theorem ms_pos {n : ℕ} (y : Fin n → ℝ) : 0 < ms y :=
  add_pos_of_nonneg_of_pos (div_nonneg (Finset.sum_nonneg fun k _ => mul_self_nonneg (y k)) (by norm_num)) eps_pos

/-- The norm's factor of a row. -/
def rs {n : ℕ} (y : Fin n → ℝ) : ℝ := (Real.sqrt (ms y))⁻¹

theorem rsqrt_ms {n : ℕ} (y : Fin n → ℝ) : Ideal.rsqrt (((∑ k, y k * y k) / 2048 + eps : ℝ) : EReal) = ((rs y : ℝ) : EReal) :=
  rsqrt_real (ms_pos y)

theorem div_ms {n : ℕ} (a : ℝ) (y : Fin n → ℝ) :
    Ideal.div ((a : ℝ) : EReal) (((∑ k, y k * y k) / 2048 + eps : ℝ) : EReal) = ((a / ms y : ℝ) : EReal) :=
  div_real (ms_pos y).ne'

theorem div_2048 (a : ℝ) : Ideal.div ((a : ℝ) : EReal) ((2048 : ℝ) : EReal) = ((a / 2048 : ℝ) : EReal) :=
  div_real (by norm_num)

theorem rs_sq {n : ℕ} (y : Fin n → ℝ) : rs y / ms y = rs y * rs y * rs y := by
  have h := ms_pos y
  have h2 : Real.sqrt (ms y) * Real.sqrt (ms y) = ms y := Real.mul_self_sqrt h.le
  have h3 : Real.sqrt (ms y) ≠ 0 := (Real.sqrt_pos.mpr h).ne'
  rw [div_eq_iff h.ne']
  unfold rs
  calc (Real.sqrt (ms y))⁻¹ = (Real.sqrt (ms y))⁻¹ * (Real.sqrt (ms y))⁻¹ * (Real.sqrt (ms y))⁻¹ * (Real.sqrt (ms y) * Real.sqrt (ms y)) := by field_simp
    _ = _ := by rw [h2]

/-- The gradient of a row that is normed, at one lane. -/
def dyRow {n : ℕ} (d y w : Fin n → ℝ) (l : Fin n) : ℝ :=
  rs y * (d l * w l - y l * rs y * ((∑ k, d k * w k * (y k * rs y)) / 2048))

/-- The gradient of the norm's weight, at one lane: the sum over the rows. -/
def dwLane {n m : ℕ} (d y : Fin m → Fin n → ℝ) (l : Fin n) : ℝ := ∑ t, d t l * (y t l * rs (y t))

/-- A row plus the norm of another, at one lane. -/
def postRow {n : ℕ} (x y w : Fin n → ℝ) (l : Fin n) : ℝ := x l + y l * rs y * w l

/-- A row plus the gradient of a row that is normed, at one lane. -/
def preRow {n : ℕ} (u d y w : Fin n → ℝ) (l : Fin n) : ℝ := u l + dyRow d y w l

/-- What differentiating the forward lines gives for it. -/
theorem dyRow_eq {n : ℕ} (d y w : Fin n → ℝ) (l : Fin n) :
    d l * w l * rs y + y l * ((∑ k, y k * (d k * w k)) * (-(1 / 2) * (rs y / ms y)) / 2048)
      + (∑ k, y k * (d k * w k)) * (-(1 / 2) * (rs y / ms y)) / 2048 * y l = dyRow d y w l := by
  have e : ∑ k, d k * w k * (y k * rs y) = (∑ k, y k * (d k * w k)) * rs y := by
    rw [Finset.sum_mul]; exact Finset.sum_congr rfl fun k _ => by ring
  unfold dyRow
  rw [e, rs_sq]
  ring

/-- The norm of a matrix, row by row. -/
def normA {T n : ℕ} (x : (Shape.mk 2 ![T, n]).Idx → ℝ) (w : (Shape.mk 1 ![n]).Idx → ℝ) : (Shape.mk 2 ![T, n]).Idx → ℝ :=
  fun i => x (ix2 (i 0) (i 1)) * rs (rowOf x (i 0)) * w (ix1 (i 1))

/-- The mean over the lanes of the squares of a matrix, summed over the rows and halved. -/
def lossOf {T n : ℕ} (e : (Shape.mk 2 ![T, n]).Idx → ℝ) : ℝ := ∑ t, 1 / 2 * ((∑ l, e (ix2 t l) * e (ix2 t l)) / 2048)

/-- A matrix plus the norm of another, row by row. -/
def x1A {T n : ℕ} (x y : (Shape.mk 2 ![T, n]).Idx → ℝ) (w : (Shape.mk 1 ![n]).Idx → ℝ) : (Shape.mk 2 ![T, n]).Idx → ℝ :=
  fun i => postRow (rowOf x (i 0)) (rowOf y (i 0)) (laneOf w) (i 1)

/-- A matrix plus the gradient of one that is normed, row by row. -/
def dx1A {T n : ℕ} (u d x : (Shape.mk 2 ![T, n]).Idx → ℝ) (q : (Shape.mk 1 ![n]).Idx → ℝ) : (Shape.mk 2 ![T, n]).Idx → ℝ :=
  fun i => preRow (rowOf u (i 0)) (rowOf d (i 0)) (rowOf x (i 0)) (laneOf q) (i 1)

/-- The gradient of a matrix that is normed, row by row. -/
def dmixA {T n : ℕ} (g y : (Shape.mk 2 ![T, n]).Idx → ℝ) (w : (Shape.mk 1 ![n]).Idx → ℝ) : (Shape.mk 2 ![T, n]).Idx → ℝ :=
  fun i => dyRow (rowOf g (i 0)) (rowOf y (i 0)) (laneOf w) (i 1)

end Cert.RealLift

end
-- ==== Proof.PostNorm.lean ====
/- The kernel `bwd_norms` after a sub-layer, over the reals: what its grid leaves in the two result arrays. -/
module

public import proofs.«01_k».proof.Proof.NormReal
public import proofs.«01_k».proof.Proof.Gen.PostNormIdeal.Value
public import Idealize.ShloMosaic.Lib.Pipeline.ValueKit

@[expose] public section

set_option maxRecDepth 16384

noncomputable section

namespace Cert.PostNormIdeal.Real

open Idealize.ShloMosaic Cert.RealLift Cert.PostNormIdeal Cert.PostNormIdeal.Gen Idealize.SL.Sem Idealize.ShloMosaic.TcCoe

theorem pay3_eq (d y : S256x2048.Idx → ℝ) (w : S1x2048.Idx → ℝ) (r : Fin 256) (l : Fin 2048) :
    k0_pay3 (F := Ideal) (fun i => ((d i : ℝ) : EReal)) (fun i => ((y i : ℝ) : EReal)) (fun i => ((w i : ℝ) : EReal)) (ix2 r l)
      = ((dyRow (rowOf d r) (rowOf y r) (rowOf w 0) l : ℝ) : EReal) := by
  pointwise [k0_pay3, k0_pay2, k0_pay1]
  simp only [ofBits_2048, ofBits_eps, ← EReal.coe_mul, ← EReal.coe_add, ← EReal.coe_sub, coe_sum, div_2048, rsqrt_ms]
  rfl

theorem pay5_eq (a : S1x2048.Idx → EReal) (d y : S256x2048.Idx → ℝ) (l : Fin 2048) :
    k0_pay5 (F := Ideal) (fun i => ((d i : ℝ) : EReal)) (fun i => ((y i : ℝ) : EReal)) a (ix2 0 l)
      = a (ix2 0 l) + ((∑ r, d (ix2 r l) * (y (ix2 r l) * rs (rowOf y r)) : ℝ) : EReal) := by
  pointwise [k0_pay5, k0_pay2, k0_pay1]
  simp only [ofBits_2048, ofBits_eps, ← EReal.coe_mul, ← EReal.coe_add, ← EReal.coe_sub, coe_sum, div_2048, rsqrt_ms]

variable (m : (ℓ : Loc nD τ sig) → Buf (Elt Ideal) ℓ) (c : Dev nD)
variable (d y : S4096x2048.Idx → ℝ) (w : S2048.Idx → ℝ)
variable (hd : m ((c : Thread nD τ).loc main_arg0) = fun i => ((d i : ℝ) : EReal))
variable (hy : m ((c : Thread nD τ).loc main_arg1) = fun i => ((y i : ℝ) : EReal))
variable (hw : m ((c : Thread nD τ).loc main_arg2) = fun i => ((w i : ℝ) : EReal))

/-- The rows of a matrix that a grid point reads. -/
def row (t : Fin cfg0.N) (r : Fin 256) : Fin 4096 := ⟨256 * t.val + r.val, by
  have h1 : t.val < 16 := t.isLt
  omega⟩

/-- The block of a matrix that a grid point reads. -/
def blkR (x : S4096x2048.Idx → ℝ) (t : Fin cfg0.N) : S256x2048.Idx → ℝ := fun i => x (ix2 (row t (i 0)) (i 1))

theorem idx0 (t : Fin cfg0.N) : win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, win0_0.index t = ![t.val, 0] ∧ win0_1.index t = ![t.val, 0] ∧ win0_2.index t = ![0, 0] ∧ win0_3.index t = ![t.val, 0] ∧ win0_4.index t = ![0, 0]) t

include hd in
theorem iblk_d (t : Fin cfg0.N) : iblk m c 0 t = fun i => ((blkR d t i : ℝ) : EReal) := by
  funext i
  have : iblk m c 0 t i = m ((c : Thread nD τ).loc main_arg0) (ix2 (row t (i 0)) (i 1)) := by
    blk_ext [iblk, V, idx0 t, row]
  rw [this, hd]
  rfl

include hy in
theorem iblk_y (t : Fin cfg0.N) : iblk m c 1 t = fun i => ((blkR y t i : ℝ) : EReal) := by
  funext i
  have : iblk m c 1 t i = m ((c : Thread nD τ).loc main_arg1) (ix2 (row t (i 0)) (i 1)) := by
    blk_ext [iblk, V, idx0 t, row]
  rw [this, hy]
  rfl

include hw in
theorem iblk_w (t : Fin cfg0.N) : iblk m c 2 t = fun i => ((w (ix1 (i 1)) : ℝ) : EReal) := by
  funext i
  have : iblk m c 2 t i = V m c main_v0 i := by
    blk_ext [iblk, idx0 t]
  rw [this]
  entry_read
  rw [hw]
  idx_vars i
  pointwise

include hd hy hw in
theorem arr3 : (dats m 0 c).arrAt 3 cfg0.N = fun i => ((dyRow (rowOf d (i 0)) (rowOf y (i 0)) (laneOf w) (i 1) : ℝ) : EReal) := by
  refine (dats m 0 c).arrAt_eq_of_covers 3 _ (by decide +kernel) fun t hf i => ?_
  blk_simp
  rw [after0_3]
  have key : (outsAt0 m c t.val t.isLt).1 = k0_pay3 (F := Ideal) (iblk m c 0 t) (iblk m c 1 t) (iblk m c 2 t) := by
    by_cases h : t.val % 16 = 0
    · rw [outsAt0_A m c t h]; frame_out
    · rw [outsAt0_B m c t h]; frame_out
  rw [key, iblk_d m c d hd, iblk_y m c y hy, iblk_w m c w hw]
  idx_vars i
  have e : ((View.whole main_v1_0).slice (win0_3.rect t)).emb (ix2 i0 i1) = ix2 (row t i0) i1 := by blk_ext [idx0 t, row]
  have g : ∀ j : S4096x2048.Idx, j = ix2 (row t i0) i1 →
      ((dyRow (rowOf (blkR d t) i0) (rowOf (blkR y t) i0) (rowOf (fun i : S1x2048.Idx => w (ix1 (i 1))) 0) i1 : ℝ) : EReal) = ((dyRow (rowOf d (j 0)) (rowOf y (j 0)) (laneOf w) (j 1) : ℝ) : EReal) := by
    rintro _ rfl
    rfl
  exact (pay3_eq (blkR d t) (blkR y t) (fun i => w (ix1 (i 1))) i0 i1).trans (g _ e)

/-- What a grid point adds to the weight's gradient. -/
def term (t : Fin cfg0.N) (i : S1x2048.Idx) : EReal := ((∑ r, d (ix2 (row t r) (i 1)) * (y (ix2 (row t r) (i 1)) * rs (rowOf y (row t r))) : ℝ) : EReal)

include hd hy in
theorem step (a : S1x2048.Idx → EReal) (t : Fin cfg0.N) (i : S1x2048.Idx) :
    k0_pay5 (F := Ideal) (iblk m c 0 t) (iblk m c 1 t) a i = a i + term d y t i := by
  rw [iblk_d m c d hd, iblk_y m c y hy]
  idx_vars i
  have e : i0 = 0 := by omega
  subst e
  exact pay5_eq a _ _ i1

include hd hy in
theorem arr4 : (dats m 0 c).arrAt 4 cfg0.N = fun i => ((dwLane (rowOf d) (rowOf y) (i 1) : ℝ) : EReal) := by
  refine (dats m 0 c).arrAt_eq_of_covers 4 _ (by decide +kernel) fun t hf i => ?_
  blk_simp
  rw [after0_4]
  idx_vars i
  rw [Pipeline.eq_sum_fin_of_reset_step_apply_of_flush (fun n h => (outsAt0 m c n h).2) 16 (fun _ => 0) (term d y)
    (fun t h i => ?_) (fun t h i => ?_) t ((flush0_4 t).mp hf)]
  · have e : ((View.whole main_v1_1).slice (win0_4.rect t)).emb (ix2 i0 i1) = ix2 i0 i1 := by blk_ext [idx0 t]
    refine Eq.trans ?_ (congrArg (fun i : S1x2048.Idx => ((dwLane (rowOf d) (rowOf y) (i 1) : ℝ) : EReal)) e.symm)
    rw [zero_add]
    refine (coe_sum _ _).trans (congrArg _ ?_)
    refine Fin.sum_mul_add_congr (L := 4096) fun s k hl => ?_
    have ht : t.val < 16 := t.isLt
    have er : row ⟨16 * (t.val / 16) + s.val, Pipeline.run_point_lt_of_flush t ((flush0_4 t).mp hf) s⟩ k = ⟨s.val * 256 + k.val, hl⟩ := by
      apply Fin.ext
      show 256 * (16 * (t.val / 16) + s.val) + k.val = s.val * 256 + k.val
      omega
    rw [er]
  · show (outsAt0 m c t.val t.isLt).2 i = _
    rw [outsAt0_A m c t h]
    frame_out
    refine (step m c d y hd hy _ t i).trans (congrArg (· + _) ?_)
    idx_vars i
    pointwise [k0_pay4]
  · show (outsAt0 m c t.val t.isLt).2 i = _
    rw [outsAt0_B m c t h]
    frame_out
    exact step m c d y hd hy _ t i

end Cert.PostNormIdeal.Real
-- ==== Proof.PostNormRef.lean ====
/- The reference of `bwd_norms` after a sub-layer, run over the reals: its results are the formulas of `NormReal`. -/
module

public import proofs.«01_k».proof.Proof.NormReal
public import proofs.«01_k».proof.Proof.Gen.PostNormRefIdeal.Run

@[expose] public section

set_option maxRecDepth 16384

noncomputable section

namespace Cert.PostNormRefIdeal.Real

open Idealize.ShloMosaic Cert.RealLift Cert.PostNormRefIdeal Idealize.SL.Sem Idealize.ShloMosaic.TcCoe

theorem run (m : (ℓ : Loc nD τ sig) → Buf (Elt Ideal) ℓ) (ρ : Dev nD → PrngReg)
    (d y : Dev nD → S4096x2048.Idx → ℝ) (w : Dev nD → S2048.Idx → ℝ)
    (hd : ∀ c : Dev nD, m ((c : Thread nD τ).loc main_arg0) = fun i => ((d c i : ℝ) : EReal))
    (hy : ∀ c : Dev nD, m ((c : Thread nD τ).loc main_arg1) = fun i => ((y c i : ℝ) : EReal))
    (hw : ∀ c : Dev nD, m ((c : Thread nD τ).loc main_arg2) = fun i => ((w c i : ℝ) : EReal)) :
    θ_run defs (onTc (τ := τ) (main (F := Ideal))) ⟨m, fun _ => 0, ρ⟩ fun r => ∀ c : Dev nD,
      r.2.mem ((c.tc : Thread nD τ).loc main_v36) = (fun i => ((dyRow (rowOf (d c) (i 0)) (rowOf (y c) (i 0)) (laneOf (w c)) (i 1) : ℝ) : EReal))
      ∧ r.2.mem ((c.tc : Thread nD τ).loc main_v37) = (fun i => ((dwLane (rowOf (d c)) (rowOf (y c)) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, (h c).2.2⟩) (Value.run (F := Ideal) m ρ)
  · refine (h c).1.trans ?_
    clear h
    rw [hd c, hy c, hw c]
    funext i
    idx_vars i
    pointwise
    simp only [ofBits_2048, ofBits_eps, ofBits_neg_half, ← EReal.coe_mul, ← EReal.coe_add, coe_sum, div_2048, rsqrt_ms, div_ms, Fin.sum_univ_one]
    exact congrArg _ (dyRow_eq (rowOf (d c) i0) (rowOf (y c) i0) (laneOf (w c)) i1)
  · refine (h c).2.1.trans ?_
    clear h
    rw [hd c, hy c]
    funext i
    idx_vars i
    pointwise
    simp only [ofBits_2048, ofBits_eps, ← EReal.coe_mul, ← EReal.coe_add, coe_sum, div_2048, rsqrt_ms, Fin.sum_univ_one]
    exact congrArg _ (Finset.sum_congr rfl fun t _ => mul_comm _ _)

end Cert.PostNormRefIdeal.Real
-- ==== Proof.PostNormClaim.lean ====
/- The claims about `bwd_norms` after a sub-layer. -/
module

public import proofs.«01_k».proof.Defs
public import proofs.«01_k».proof.Proof.PostNorm
public import proofs.«01_k».proof.Proof.PostNormRef
public import proofs.«01_k».proof.Proof.Gen.PostNorm.Frame
public import proofs.«01_k».proof.Proof.Gen.Pre_post_norm_finite

@[expose] public section

set_option maxRecDepth 16384

noncomputable section

namespace Cert.Proof.PostNorm

open Idealize.ShloMosaic Idealize.SL.Sem Idealize.ShloMosaic.TcCoe Cert.RealLift

theorem lifts (d y : FVec Ideal Cert.Pre_post_norm_finite.S4096x2048 .f32) (w : FVec Ideal Cert.Pre_post_norm_finite.S2048 .f32)
    (h : Cert.Pre_post_norm_finite.fn (F := Ideal) d y w = fun _ => 1#1) :
    IsLift d ∧ IsLift y ∧ IsLift w := by
  obtain ⟨h12, h3⟩ := and_one h
  obtain ⟨h1, h2⟩ := and_one h12
  exact ⟨lift_of_all d _ _ _ _ h1, lift_of_all y _ _ _ _ h2, lift_of_all w _ _ _ _ h3⟩

theorem q1 : quiescent_PostNorm := fun m g _ => Cert.PostNorm.Gen.frame m g
theorem q2 : quiescent_PostNormIdeal := fun m g _ => Cert.PostNormIdeal.Gen.frame m g
theorem q3 : quiescent_PostNormIdeal_pre_post_norm_finite := fun m g _ => Cert.PostNormIdeal.Gen.frame m g
theorem q4 : quiescent_PostNormRefIdeal := fun m g _ =>
  (θ_run _ _ _).mono (fun r h => And.intro (fun c => (h c).2.2) (sem_eq_zero_of_no_sems (by decide) r.2)) (Cert.PostNormRefIdeal.Value.run (F := Ideal) m g)
theorem q5 : quiescent_PostNormRefIdeal_pre_post_norm_finite := fun m g _ => q4 m g trivial

theorem value : algebraic_PostNormIdeal_PostNormRefIdeal_pre_post_norm_finite := by
  intro m g m' g' hpre hag
  choose d hd using fun c => (lifts _ _ _ (hpre c)).1
  choose y hy using fun c => (lifts _ _ _ (hpre c)).2.1
  choose w hw using fun c => (lifts _ _ _ (hpre c)).2.2
  refine ⟨_, _, ?_, Cert.PostNormRefIdeal.Real.run m' g' d y w (fun c => (hag c).1.trans (hd c)) (fun c => (hag c).2.1.trans (hy c)) (fun c => (hag c).2.2.trans (hw c))⟩
  exact (θ_run _ _ _).mono (fun r h c => ⟨(h c).1.trans (Cert.PostNormIdeal.Real.arr3 m c (d c) (y c) (w c) (hd c) (hy c) (hw c)),
    (h c).2.1.trans (Cert.PostNormIdeal.Real.arr4 m c (d c) (y c) (hd c) (hy c)), (h c).2.2⟩) (Cert.PostNormIdeal.Value.run_blocks (F := Ideal) m g)

end Cert.Proof.PostNorm

end
-- ==== Proof.PreNorm.lean ====
/- The kernel `bwd_norms` before a sub-layer, over the reals: what its grid leaves in the two result arrays. -/
module

public import proofs.«01_k».proof.Proof.NormReal
public import proofs.«01_k».proof.Proof.Gen.PreNormIdeal.Value
public import Idealize.ShloMosaic.Lib.Pipeline.ValueKit

@[expose] public section

set_option maxRecDepth 16384

noncomputable section

namespace Cert.PreNormIdeal.Real

open Idealize.ShloMosaic Cert.RealLift Cert.PreNormIdeal Cert.PreNormIdeal.Gen Idealize.SL.Sem Idealize.ShloMosaic.TcCoe

theorem pay5_eq (u d y : S256x2048.Idx → ℝ) (w : S1x2048.Idx → ℝ) (r : Fin 256) (l : Fin 2048) :
    k0_pay5 (F := Ideal) (fun i => ((u i : ℝ) : EReal)) (fun i => ((d i : ℝ) : EReal)) (fun i => ((y i : ℝ) : EReal)) (fun i => ((w i : ℝ) : EReal)) (ix2 r l)
      = ((u (ix2 r l) + dyRow (rowOf d r) (rowOf y r) (rowOf w 0) l : ℝ) : EReal) := by
  pointwise [k0_pay5, k0_pay3, k0_pay2]
  simp only [ofBits_2048, ofBits_eps, ← EReal.coe_mul, ← EReal.coe_add, ← EReal.coe_sub, coe_sum, div_2048, rsqrt_ms]
  rfl

theorem pay1_eq (a : S1x2048.Idx → EReal) (d y : S256x2048.Idx → ℝ) (l : Fin 2048) :
    k0_pay1 (F := Ideal) (k0_pay4 (fun i => ((d i : ℝ) : EReal)) (fun i => ((y i : ℝ) : EReal))) (k0_pay7 a) (ix2 0 l)
      = a (ix2 0 l) + ((∑ r, d (ix2 r l) * (y (ix2 r l) * rs (rowOf y r)) : ℝ) : EReal) := by
  pointwise [k0_pay1, k0_pay4, k0_pay7, k0_pay3, k0_pay2]
  simp only [ofBits_2048, ofBits_eps, ← EReal.coe_mul, ← EReal.coe_add, ← EReal.coe_sub, coe_sum, div_2048, rsqrt_ms]

variable (m : (ℓ : Loc nD τ sig) → Buf (Elt Ideal) ℓ) (c : Dev nD)
variable (u d y : S4096x2048.Idx → ℝ) (w : S2048.Idx → ℝ)
variable (hu : m ((c : Thread nD τ).loc main_arg0) = fun i => ((u i : ℝ) : EReal))
variable (hd : m ((c : Thread nD τ).loc main_arg1) = fun i => ((d i : ℝ) : EReal))
variable (hy : m ((c : Thread nD τ).loc main_arg2) = fun i => ((y i : ℝ) : EReal))
variable (hw : m ((c : Thread nD τ).loc main_arg3) = fun i => ((w i : ℝ) : EReal))

/-- The rows of a matrix that a grid point reads. -/
def row (t : Fin cfg0.N) (r : Fin 256) : Fin 4096 := ⟨256 * t.val + r.val, by
  have h1 : t.val < 16 := t.isLt
  omega⟩

/-- The block of a matrix that a grid point reads. -/
def blkR (x : S4096x2048.Idx → ℝ) (t : Fin cfg0.N) : S256x2048.Idx → ℝ := fun i => x (ix2 (row t (i 0)) (i 1))

theorem idx0 (t : Fin cfg0.N) : win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0] ∧ win0_5.index t = ![0, 0]) t

include hu in
theorem iblk_u (t : Fin cfg0.N) : iblk m c 0 t = fun i => ((blkR u t i : ℝ) : EReal) := by
  funext i
  have : iblk m c 0 t i = m ((c : Thread nD τ).loc main_arg0) (ix2 (row t (i 0)) (i 1)) := by
    blk_ext [iblk, V, idx0 t, row]
  rw [this, hu]
  rfl

include hd in
theorem iblk_d (t : Fin cfg0.N) : iblk m c 1 t = fun i => ((blkR d t i : ℝ) : EReal) := by
  funext i
  have : iblk m c 1 t i = m ((c : Thread nD τ).loc main_arg1) (ix2 (row t (i 0)) (i 1)) := by
    blk_ext [iblk, V, idx0 t, row]
  rw [this, hd]
  rfl

include hy in
theorem iblk_y (t : Fin cfg0.N) : iblk m c 2 t = fun i => ((blkR y t i : ℝ) : EReal) := by
  funext i
  have : iblk m c 2 t i = m ((c : Thread nD τ).loc main_arg2) (ix2 (row t (i 0)) (i 1)) := by
    blk_ext [iblk, V, idx0 t, row]
  rw [this, hy]
  rfl

include hw in
theorem iblk_w (t : Fin cfg0.N) : iblk m c 3 t = fun i => ((w (ix1 (i 1)) : ℝ) : EReal) := by
  funext i
  have : iblk m c 3 t i = V m c main_v0 i := by
    blk_ext [iblk, idx0 t]
  rw [this]
  entry_read
  rw [hw]
  idx_vars i
  pointwise

include hu hd hy hw in
theorem arr4 : (dats m 0 c).arrAt 4 cfg0.N = fun i => ((u (ix2 (i 0) (i 1)) + dyRow (rowOf d (i 0)) (rowOf y (i 0)) (laneOf w) (i 1) : ℝ) : EReal) := by
  refine (dats m 0 c).arrAt_eq_of_covers 4 _ (by decide +kernel) fun t hf i => ?_
  blk_simp
  rw [after0_4]
  have key : (outsAt0 m c t.val t.isLt).1 = k0_pay5 (F := Ideal) (iblk m c 0 t) (iblk m c 1 t) (iblk m c 2 t) (iblk m c 3 t) := by
    by_cases h : t.val % 16 = 0
    · rw [outsAt0_A m c t h]; frame_out
    · rw [outsAt0_B m c t h]; frame_out
  rw [key, iblk_u m c u hu, iblk_d m c d hd, iblk_y m c y hy, iblk_w m c w hw]
  idx_vars i
  have e : ((View.whole main_v1_0).slice (win0_4.rect t)).emb (ix2 i0 i1) = ix2 (row t i0) i1 := by blk_ext [idx0 t, row]
  have g : ∀ j : S4096x2048.Idx, j = ix2 (row t i0) i1 →
      ((blkR u t (ix2 i0 i1) + dyRow (rowOf (blkR d t) i0) (rowOf (blkR y t) i0) (rowOf (fun i : S1x2048.Idx => w (ix1 (i 1))) 0) i1 : ℝ) : EReal) = ((u (ix2 (j 0) (j 1)) + dyRow (rowOf d (j 0)) (rowOf y (j 0)) (laneOf w) (j 1) : ℝ) : EReal) := by
    rintro _ rfl
    rfl
  exact (pay5_eq (blkR u t) (blkR d t) (blkR y t) (fun i => w (ix1 (i 1))) i0 i1).trans (g _ e)

/-- What a grid point adds to the weight's gradient. -/
def term (t : Fin cfg0.N) (i : S1x2048.Idx) : EReal := ((∑ r, d (ix2 (row t r) (i 1)) * (y (ix2 (row t r) (i 1)) * rs (rowOf y (row t r))) : ℝ) : EReal)

include hd hy in
theorem step (a : S1x2048.Idx → EReal) (t : Fin cfg0.N) (i : S1x2048.Idx) :
    k0_pay1 (F := Ideal) (k0_pay4 (iblk m c 1 t) (iblk m c 2 t)) (k0_pay7 a) i = a i + term d y t i := by
  rw [iblk_d m c d hd, iblk_y m c y hy]
  idx_vars i
  have e : i0 = 0 := by omega
  subst e
  exact pay1_eq a _ _ i1

include hd hy in
theorem arr5 : (dats m 0 c).arrAt 5 cfg0.N = fun i => ((dwLane (rowOf d) (rowOf y) (i 1) : ℝ) : EReal) := by
  refine (dats m 0 c).arrAt_eq_of_covers 5 _ (by decide +kernel) fun t hf i => ?_
  blk_simp
  rw [after0_5]
  idx_vars i
  rw [Pipeline.eq_sum_fin_of_reset_step_apply_of_flush (fun n h => (outsAt0 m c n h).2) 16 (fun _ => 0) (term d y)
    (fun t h i => ?_) (fun t h i => ?_) t ((flush0_5 t).mp hf)]
  · have e : ((View.whole main_v1_1).slice (win0_5.rect t)).emb (ix2 i0 i1) = ix2 i0 i1 := by blk_ext [idx0 t]
    refine Eq.trans ?_ (congrArg (fun i : S1x2048.Idx => ((dwLane (rowOf d) (rowOf y) (i 1) : ℝ) : EReal)) e.symm)
    rw [zero_add]
    refine (coe_sum _ _).trans (congrArg _ ?_)
    refine Fin.sum_mul_add_congr (L := 4096) fun s k hl => ?_
    have ht : t.val < 16 := t.isLt
    have er : row ⟨16 * (t.val / 16) + s.val, Pipeline.run_point_lt_of_flush t ((flush0_5 t).mp hf) s⟩ k = ⟨s.val * 256 + k.val, hl⟩ := by
      apply Fin.ext
      show 256 * (16 * (t.val / 16) + s.val) + k.val = s.val * 256 + k.val
      omega
    rw [er]
  · show (outsAt0 m c t.val t.isLt).2 i = _
    rw [outsAt0_A m c t h]
    frame_out
    refine (step m c d y hd hy _ t i).trans (congrArg (· + _) ?_)
    idx_vars i
    pointwise [k0_pay6]
  · show (outsAt0 m c t.val t.isLt).2 i = _
    rw [outsAt0_B m c t h]
    frame_out
    exact step m c d y hd hy _ t i

end Cert.PreNormIdeal.Real
-- ==== Proof.PreNormRef.lean ====
/- The reference of `bwd_norms` before a sub-layer, run over the reals: its results are the formulas of `NormReal`. -/
module

public import proofs.«01_k».proof.Proof.NormReal
public import proofs.«01_k».proof.Proof.Gen.PreNormRefIdeal.Run

@[expose] public section

set_option maxRecDepth 16384

noncomputable section

namespace Cert.PreNormRefIdeal.Real

open Idealize.ShloMosaic Cert.RealLift Cert.PreNormRefIdeal Idealize.SL.Sem Idealize.ShloMosaic.TcCoe

theorem run (m : (ℓ : Loc nD τ sig) → Buf (Elt Ideal) ℓ) (ρ : Dev nD → PrngReg)
    (u d y : Dev nD → S4096x2048.Idx → ℝ) (w : Dev nD → S2048.Idx → ℝ)
    (hu : ∀ c : Dev nD, m ((c : Thread nD τ).loc main_arg0) = fun i => ((u c i : ℝ) : EReal))
    (hd : ∀ c : Dev nD, m ((c : Thread nD τ).loc main_arg1) = fun i => ((d c i : ℝ) : EReal))
    (hy : ∀ c : Dev nD, m ((c : Thread nD τ).loc main_arg2) = fun i => ((y c i : ℝ) : EReal))
    (hw : ∀ c : Dev nD, m ((c : Thread nD τ).loc main_arg3) = fun i => ((w c i : ℝ) : EReal)) :
    θ_run defs (onTc (τ := τ) (main (F := Ideal))) ⟨m, fun _ => 0, ρ⟩ fun r => ∀ c : Dev nD,
      r.2.mem ((c.tc : Thread nD τ).loc main_v36) = (fun i => ((u c (ix2 (i 0) (i 1)) + dyRow (rowOf (d c) (i 0)) (rowOf (y c) (i 0)) (laneOf (w c)) (i 1) : ℝ) : EReal))
      ∧ r.2.mem ((c.tc : Thread nD τ).loc main_v37) = (fun i => ((dwLane (rowOf (d c)) (rowOf (y c)) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, ?_, (h c).2.2⟩) (Value.run (F := Ideal) m ρ)
  · refine (h c).1.trans ?_
    clear h
    rw [hu c, hd c, hy c, hw c]
    funext i
    idx_vars i
    pointwise
    simp only [ofBits_2048, ofBits_eps, ofBits_neg_half, ← EReal.coe_mul, ← EReal.coe_add, coe_sum, div_2048, rsqrt_ms, div_ms, Fin.sum_univ_one]
    refine congrArg _ (Eq.trans ?_ (congrArg (u c (ix2 i0 i1) + ·) (dyRow_eq (rowOf (d c) i0) (rowOf (y c) i0) (laneOf (w c)) i1)))
    simp only [add_assoc]
  · refine (h c).2.1.trans ?_
    clear h
    rw [hd c, hy c]
    funext i
    idx_vars i
    pointwise
    simp only [ofBits_2048, ofBits_eps, ← EReal.coe_mul, ← EReal.coe_add, coe_sum, div_2048, rsqrt_ms, Fin.sum_univ_one]
    exact congrArg _ (Finset.sum_congr rfl fun t _ => mul_comm _ _)

end Cert.PreNormRefIdeal.Real
-- ==== Proof.PreNormClaim.lean ====
/- The claims about `bwd_norms` before a sub-layer. -/
module

public import proofs.«01_k».proof.Defs
public import proofs.«01_k».proof.Proof.PreNorm
public import proofs.«01_k».proof.Proof.PreNormRef
public import proofs.«01_k».proof.Proof.Gen.PreNorm.Frame
public import proofs.«01_k».proof.Proof.Gen.Pre_pre_norm_finite

@[expose] public section

set_option maxRecDepth 16384

noncomputable section

namespace Cert.Proof.PreNorm

open Idealize.ShloMosaic Idealize.SL.Sem Idealize.ShloMosaic.TcCoe Cert.RealLift

theorem lifts (u d y : FVec Ideal Cert.Pre_pre_norm_finite.S4096x2048 .f32) (w : FVec Ideal Cert.Pre_pre_norm_finite.S2048 .f32)
    (h : Cert.Pre_pre_norm_finite.fn (F := Ideal) u d y w = fun _ => 1#1) :
    IsLift u ∧ IsLift d ∧ IsLift y ∧ IsLift w := by
  obtain ⟨h123, h4⟩ := and_one h
  obtain ⟨h12, h3⟩ := and_one h123
  obtain ⟨h1, h2⟩ := and_one h12
  exact ⟨lift_of_all u _ _ _ _ h1, lift_of_all d _ _ _ _ h2, lift_of_all y _ _ _ _ h3, lift_of_all w _ _ _ _ h4⟩

theorem q1 : quiescent_PreNorm := fun m g _ => Cert.PreNorm.Gen.frame m g
theorem q2 : quiescent_PreNormIdeal := fun m g _ => Cert.PreNormIdeal.Gen.frame m g
theorem q3 : quiescent_PreNormIdeal_pre_pre_norm_finite := fun m g _ => Cert.PreNormIdeal.Gen.frame m g
theorem q4 : quiescent_PreNormRefIdeal := fun m g _ =>
  (θ_run _ _ _).mono (fun r h => And.intro (fun c => (h c).2.2) (sem_eq_zero_of_no_sems (by decide) r.2)) (Cert.PreNormRefIdeal.Value.run (F := Ideal) m g)
theorem q5 : quiescent_PreNormRefIdeal_pre_pre_norm_finite := fun m g _ => q4 m g trivial

theorem value : algebraic_PreNormIdeal_PreNormRefIdeal_pre_pre_norm_finite := by
  intro m g m' g' hpre hag
  choose u hu using fun c => (lifts _ _ _ _ (hpre c)).1
  choose d hd using fun c => (lifts _ _ _ _ (hpre c)).2.1
  choose y hy using fun c => (lifts _ _ _ _ (hpre c)).2.2.1
  choose w hw using fun c => (lifts _ _ _ _ (hpre c)).2.2.2
  refine ⟨_, _, ?_, Cert.PreNormRefIdeal.Real.run m' g' u d y w (fun c => (hag c).1.trans (hu c)) (fun c => (hag c).2.1.trans (hd c)) (fun c => (hag c).2.2.1.trans (hy c)) (fun c => (hag c).2.2.2.trans (hw c))⟩
  exact (θ_run _ _ _).mono (fun r h c => ⟨(h c).1.trans (Cert.PreNormIdeal.Real.arr4 m c (u c) (d c) (y c) (w c) (hu c) (hd c) (hy c) (hw c)),
    (h c).2.1.trans (Cert.PreNormIdeal.Real.arr5 m c (d c) (y c) (hd c) (hy c)), (h c).2.2⟩) (Cert.PreNormIdeal.Value.run_blocks (F := Ideal) m g)

end Cert.Proof.PreNorm

end
-- ==== Proof.SwaReal.lean ====
/- The windowed attention with sinks over the reals: one block of queries against its band of keys, and the gradients
   of its queries, keys, values and sinks; the position rotation. -/
module

public import proofs.«01_k».proof.Proof.RealLift

@[expose] public section

set_option maxRecDepth 16384

noncomputable section

namespace Cert.Swa

open Idealize.ShloMosaic Cert.RealLift

/-- The other half's lane. -/
def swap (d : Fin 128) : Fin 128 := ⟨(d.val + 64) % 128, Nat.mod_lt _ (by decide)⟩

/-- The position rotation of one head's row: cosines `c`, signed sines `s`. -/
def rot (c s x : Fin 128 → ℝ) (d : Fin 128) : ℝ := x d * c d + x (swap d) * s d

/-- Its transpose. -/
def rotT (c s x : Fin 128 → ℝ) (d : Fin 128) : ℝ := x d * c d + x (swap d) * s (swap d)

theorem rotT_add (c s x y : Fin 128 → ℝ) (d : Fin 128) : rotT c s (fun d => x d + y d) d = rotT c s x d + rotT c s y d := by
  unfold rotT
  ring

/-- Query `i` of a block may see key `j` of its band: its own block's keys up to itself and the block before's from it on;
    the first block has no block before. -/
def ok (n : ℕ) (i : Fin 128) (j : Fin 256) : Bool := decide (i.val < j.val ∧ j.val ≤ i.val + 128 ∧ (0 < n ∨ 128 ≤ j.val))

/-- The scale of the scores, the float constant's exact value. -/
def scale : ℝ := 11863283 / 134217728

theorem ofBits_scale : Ideal.ofBits .f32 0x3DB504F3#32 = ((scale : ℝ) : EReal) := by
  simp [Ideal.ofBits, Ideal.ieee, scale, -EReal.coe_mul]
  norm_num

section Block

variable (q o : Fin 3 → Fin 128 → Fin 128 → ℝ) (k v : Fin 256 → Fin 128 → ℝ) (sk : Fin 3 → ℝ) (n : ℕ)

def score (g : Fin 3) (i : Fin 128) (j : Fin 256) : ℝ := (∑ d, q g i d * k j d) * scale

def wt (g : Fin 3) (i : Fin 128) (j : Fin 256) : ℝ := if ok n i j then Real.exp (score q k g i j) else 0

def tot (g : Fin 3) (i : Fin 128) : ℝ := ∑ j, wt q k n g i j + Real.exp (sk g)

/-- The probabilities. -/
def pn (g : Fin 3) (i : Fin 128) (j : Fin 256) : ℝ := wt q k n g i j / tot q k sk n g i

def dp (g : Fin 3) (i : Fin 128) (j : Fin 256) : ℝ := ∑ d, o g i d * v j d

def del (g : Fin 3) (i : Fin 128) : ℝ := ∑ j, pn q k sk n g i j * dp o v g i j

/-- The gradient of the scores. -/
def ds (g : Fin 3) (i : Fin 128) (j : Fin 256) : ℝ := pn q k sk n g i j * (dp o v g i j - del q o k v sk n g i)

def dq (g : Fin 3) (i : Fin 128) (d : Fin 128) : ℝ := (∑ j, ds q o k v sk n g i j * k j d) * scale

def dk (j : Fin 256) (d : Fin 128) : ℝ := (∑ g, ∑ i, ds q o k v sk n g i j * q g i d) * scale

def dv (j : Fin 256) (d : Fin 128) : ℝ := ∑ g, ∑ i, pn q k sk n g i j * o g i d

def dsk (g : Fin 3) : ℝ := ∑ i, -(Real.exp (sk g) / tot q k sk n g i) * del q o k v sk n g i

theorem tot_pos (g : Fin 3) (i : Fin 128) : 0 < tot q k sk n g i := by
  have h : 0 ≤ ∑ j, wt q k n g i j := Finset.sum_nonneg fun j _ => by
    unfold wt
    split
    · exact (Real.exp_pos _).le
    · exact le_rfl
  exact add_pos_of_nonneg_of_pos h (Real.exp_pos _)

/-- The weight of a key in the softmax shifted by `M`. -/
def wtM (M : ℝ) (g : Fin 3) (i : Fin 128) (j : Fin 256) : ℝ := if ok n i j then Real.exp (score q k g i j - M) else 0

theorem wtM_eq (M : ℝ) (g : Fin 3) (i : Fin 128) (j : Fin 256) : wtM q k n M g i j = wt q k n g i j / Real.exp M := by
  unfold wtM wt
  split
  · exact Real.exp_sub _ _
  · exact (zero_div _).symm

theorem totM_eq (M : ℝ) (g : Fin 3) (i : Fin 128) : ∑ j, wtM q k n M g i j + Real.exp (sk g - M) = tot q k sk n g i / Real.exp M := by
  simp only [wtM_eq]
  rw [← Finset.sum_div, Real.exp_sub, ← add_div, tot]

theorem totM_pos (M : ℝ) (g : Fin 3) (i : Fin 128) : 0 < ∑ j, wtM q k n M g i j + Real.exp (sk g - M) := by
  rw [totM_eq]
  exact div_pos (tot_pos q k sk n g i) (Real.exp_pos _)

theorem pn_shift (M : ℝ) (g : Fin 3) (i : Fin 128) (j : Fin 256) :
    wtM q k n M g i j / (∑ j, wtM q k n M g i j + Real.exp (sk g - M)) = pn q k sk n g i j := by
  rw [totM_eq, wtM_eq, div_div_div_cancel_right₀ (Real.exp_pos M).ne', pn]

theorem sink_shift (M : ℝ) (g : Fin 3) (i : Fin 128) :
    Real.exp (sk g - M) / (∑ j, wtM q k n M g i j + Real.exp (sk g - M)) = Real.exp (sk g) / tot q k sk n g i := by
  rw [totM_eq, Real.exp_sub, div_div_div_cancel_right₀ (Real.exp_pos M).ne']

theorem pn_zero (g : Fin 3) (i : Fin 128) (j : Fin 256) (h : ok n i j = false) : pn q k sk n g i j = 0 := by
  simp [pn, wt, h]

theorem ds_zero (g : Fin 3) (i : Fin 128) (j : Fin 256) (h : ok n i j = false) : ds q o k v sk n g i j = 0 := by
  simp [ds, pn_zero q k sk n g i j h]

end Block

section Congr

variable (q o : Fin 3 → Fin 128 → Fin 128 → ℝ) {k v k' v' : Fin 256 → Fin 128 → ℝ} (sk : Fin 3 → ℝ) (n : ℕ)
variable (hk : ∀ j : Fin 256, (0 < n ∨ 128 ≤ j.val) → k j = k' j) (hv : ∀ j : Fin 256, (0 < n ∨ 128 ≤ j.val) → v j = v' j)

theorem ok_iff {n : ℕ} {i : Fin 128} {j : Fin 256} : ok n i j = true ↔ i.val < j.val ∧ j.val ≤ i.val + 128 ∧ (0 < n ∨ 128 ≤ j.val) := by
  simp [ok]

include hk in
theorem wt_congr (g : Fin 3) (i : Fin 128) (j : Fin 256) : wt q k n g i j = wt q k' n g i j := by
  unfold wt score
  split
  · rename_i h
    rw [hk j (ok_iff.mp h).2.2]
  · rfl

include hk in
theorem pn_congr (g : Fin 3) (i : Fin 128) (j : Fin 256) : pn q k sk n g i j = pn q k' sk n g i j := by
  simp only [pn, tot, wt_congr q n hk]

include hk hv in
theorem pn_mul_congr (g : Fin 3) (i : Fin 128) (j : Fin 256) : pn q k sk n g i j * dp o v g i j = pn q k' sk n g i j * dp o v' g i j := by
  by_cases h : ok n i j = true
  · rw [pn_congr q sk n hk, dp, dp, hv j (ok_iff.mp h).2.2]
  · rw [Bool.not_eq_true] at h
    rw [pn_zero _ _ _ _ _ _ _ h, pn_zero _ _ _ _ _ _ _ h, zero_mul, zero_mul]

include hk hv in
theorem del_congr (g : Fin 3) (i : Fin 128) : del q o k v sk n g i = del q o k' v' sk n g i :=
  Finset.sum_congr rfl fun j _ => pn_mul_congr q o sk n hk hv g i j

include hk hv in
theorem ds_congr (g : Fin 3) (i : Fin 128) (j : Fin 256) : ds q o k v sk n g i j = ds q o k' v' sk n g i j := by
  unfold ds
  rw [mul_sub, mul_sub, pn_mul_congr q o sk n hk hv, pn_congr q sk n hk, del_congr q o sk n hk hv]

include hk hv in
theorem dq_congr (g : Fin 3) (i d : Fin 128) : dq q o k v sk n g i d = dq q o k' v' sk n g i d := by
  refine congrArg (· * scale) (Finset.sum_congr rfl fun j _ => ?_)
  by_cases h : ok n i j = true
  · rw [ds_congr q o sk n hk hv, hk j (ok_iff.mp h).2.2]
  · rw [Bool.not_eq_true] at h
    rw [ds_zero _ _ _ _ _ _ _ _ _ h, ds_zero _ _ _ _ _ _ _ _ _ h, zero_mul, zero_mul]

include hk hv in
theorem dk_congr (j : Fin 256) (d : Fin 128) : dk q o k v sk n j d = dk q o k' v' sk n j d := by
  simp only [dk, ds_congr q o sk n hk hv]

include hk in
theorem dv_congr (j : Fin 256) (d : Fin 128) : dv q o k sk n j d = dv q o k' sk n j d := by
  simp only [dv, pn_congr q sk n hk]

include hk hv in
theorem dsk_congr (g : Fin 3) : dsk q o k v sk n g = dsk q o k' v' sk n g := by
  simp only [dsk, tot, wt_congr q n hk, del_congr q o sk n hk hv]

end Congr

/-- A real matrix as an array of the kernel's. -/
def upf {a b : ℕ} (f : Fin a → Fin b → ℝ) : (⟨2, ![a, b]⟩ : Shape).Idx → EReal := fun i => ((f (i 0) (i 1) : ℝ) : EReal)

theorem upf_ix2 {a b : ℕ} (f : Fin a → Fin b → ℝ) (i : Fin a) (j : Fin b) : upf f (ix2 i j) = ((f i j : ℝ) : EReal) := rfl

theorem eq_upf {a b : ℕ} {x : (⟨2, ![a, b]⟩ : Shape).Idx → EReal} {f : Fin a → Fin b → ℝ} (h : ∀ i j, x (ix2 i j) = ((f i j : ℝ) : EReal)) : x = upf f := by
  funext i
  exact (congrArg x (funext fun d => by fin_cases d <;> rfl)).trans (h (i 0) (i 1))

/-- The query head of its group and the query of row `r` of the stacked queries. -/
def gOf (r : Fin 384) : Fin 3 := ⟨r.val / 128, by omega⟩
def iOf (r : Fin 384) : Fin 128 := ⟨r.val % 128, Nat.mod_lt _ (by decide)⟩

/-- Three matrices, one per query head, stacked. -/
abbrev st {b : ℕ} (f : Fin 3 → Fin 128 → Fin b → ℝ) : Fin 384 → Fin b → ℝ := fun r => f (gOf r) (iOf r)

theorem sum_rows (f : Fin 384 → ℝ) (h : Fin 3 → Fin 128 → ℝ) (e : ∀ r, f r = h (gOf r) (iOf r)) : ∑ r, f r = ∑ g, ∑ i, h g i := by
  rw [← Fintype.sum_prod_type' (f := h)]
  refine (Fintype.sum_equiv (finProdFinEquiv (m := 3) (n := 128)) _ _ fun x => ?_).symm
  obtain ⟨g, i⟩ := x
  rw [e]
  refine congrArg₂ h (Fin.ext ?_) (Fin.ext ?_) <;> simp [gOf, iOf, finProdFinEquiv] <;> omega

/-- Column block `b` of a matrix of the kernel's blocks. -/
def cb {a : ℕ} {n : ℕ} (x : Fin a → Fin (n * 128) → ℝ) (b : Fin n) (r : Fin a) (d : Fin 128) : ℝ := x r ⟨b.val * 128 + d.val, by omega⟩

/-- The band of one head: the rows before, then the block's own. -/
def band (p o : Fin 128 → Fin 128 → ℝ) (j : Fin 256) : Fin 128 → ℝ := if h : j.val < 128 then p ⟨j.val, h⟩ else o ⟨j.val - 128, by omega⟩

/-- The three query heads of a group, out of the six. -/
def hd (h : Fin 2) (g : Fin 3) : Fin 6 := ⟨h.val * 3 + g.val, by omega⟩

/-- A stacked row, told by the three pieces. -/
theorem st_cases {α : Type} (r : Fin 384) (a : Fin 3 → Fin 128 → α) :
    (if h : r.val < 128 then a 0 ⟨r.val, h⟩ else if h' : r.val - 128 < 128 then a 1 ⟨r.val - 128, h'⟩ else a 2 ⟨r.val - 128 - 128, by omega⟩) = a (gOf r) (iOf r) := by
  split_ifs <;> refine congrArg₂ a (Fin.ext ?_) (Fin.ext ?_) <;> simp [gOf, iOf] <;> omega

theorem st0 {b : ℕ} (f : Fin 3 → Fin 128 → Fin b → ℝ) (x : Fin 128) (h : x.val < 384) : st f ⟨x.val, h⟩ = f 0 x :=
  congrArg₂ f (Fin.ext (by simp [gOf])) (Fin.ext (by simp [iOf]))

theorem st1 {b : ℕ} (f : Fin 3 → Fin 128 → Fin b → ℝ) (x : Fin 128) (h : 128 + x.val < 384) : st f ⟨128 + x.val, h⟩ = f 1 x :=
  congrArg₂ f (Fin.ext (by simp [gOf]; try omega)) (Fin.ext (by simp [iOf]))

theorem st2 {b : ℕ} (f : Fin 3 → Fin 128 → Fin b → ℝ) (x : Fin 128) (h : 256 + x.val < 384) : st f ⟨256 + x.val, h⟩ = f 2 x :=
  congrArg₂ f (Fin.ext (by simp [gOf]; omega)) (Fin.ext (by simp [iOf]; omega))

/-- The six heads' sums over a block's rows, one head to a lane; the other lanes are nought. -/
def lanes (f : Fin 2 → Fin 3 → Fin 128 → ℝ) (l : Fin 128) : ℝ := if h : l.val < 6 then ∑ i, f ⟨l.val / 3, by omega⟩ ⟨l.val % 3, by omega⟩ i else 0

theorem lanes_hd (f : Fin 2 → Fin 3 → Fin 128 → ℝ) (h : Fin 2) (g : Fin 3) : lanes f ((hd h g).castLE (by decide)) = ∑ i, f h g i := by
  have e : h.val * 3 + g.val < 6 := (hd h g).isLt
  refine (dif_pos e).trans (Finset.sum_congr rfl fun i _ => ?_)
  exact congrArg₂ (fun a b => f a b i) (Fin.ext (by simp only [hd, Fin.val_castLE]; omega)) (Fin.ext (by simp only [hd, Fin.val_castLE]; omega))

end Cert.Swa

end
-- ==== Proof.SwaOps.lean ====
/- The kernel's products, reductions and selections on arrays of reals: what each of its payloads stores. -/
module

public import proofs.«01_k».proof.Proof.SwaReal
public import proofs.«01_k».proof.Proof.Gen.SwaBwdIdeal.Skeleton
public import Idealize.ShloMosaic.Lib.WordCmp

@[expose] public section

set_option maxRecDepth 16384

noncomputable section

namespace Cert.SwaBwdIdeal.Real

open Idealize.ShloMosaic Cert.RealLift Cert.SwaBwdIdeal Cert.SwaBwdIdeal.Gen Cert.Swa Idealize.ShloMosaic.WordCmp

theorem kb0 (kc kp : Fin 128 → Fin 256 → ℝ) (cc sc cp sp : Fin 128 → Fin 128 → ℝ) :
    k0_pay19 (F := Ideal) (k0_pay9 (upf kc)) (k0_pay12 (upf cc)) (k0_pay13 (upf sc)) (k0_pay14 (upf sp)) (k0_pay17 (upf kp) (upf cp)) (k0_pay18 (upf kp))
      = upf (band (fun r => rot (cp r) (sp r) (cb (n := 2) kp 0 r)) (fun r => rot (cc r) (sc r) (cb (n := 2) kc 0 r))) := by
  refine eq_upf fun j d => ?_
  pointwise [k0_pay19, k0_pay9, k0_pay12, k0_pay13, k0_pay14, k0_pay17, k0_pay18, k0_pay16]
  rw [band]
  split <;> simp [upf_ix2, rot, cb, swap, EReal.coe_add, EReal.coe_mul]

theorem kb1 (kc kp : Fin 128 → Fin 256 → ℝ) (cc sc cp sp : Fin 128 → Fin 128 → ℝ) :
    k0_pay31 (F := Ideal) (k0_pay24 (upf kc)) (k0_pay25 (upf kp)) (upf cc) (upf sc) (upf cp) (upf sp)
      = upf (band (fun r => rot (cp r) (sp r) (cb (n := 2) kp 1 r)) (fun r => rot (cc r) (sc r) (cb (n := 2) kc 1 r))) := by
  refine eq_upf fun j d => ?_
  pointwise [k0_pay31, k0_pay24, k0_pay25, k0_pay28, k0_pay29]
  rw [band]
  split <;> simp [upf_ix2, rot, cb, swap, EReal.coe_add, EReal.coe_mul]

theorem vb0 (vc vp : Fin 128 → Fin 256 → ℝ) :
    k0_pay20 (F := Ideal) (k0_pay10 (upf vc)) (k0_pay11 (upf vp)) = upf (band (cb (n := 2) vp 0) (cb (n := 2) vc 0)) := by
  refine eq_upf fun j d => ?_
  pointwise [k0_pay20, k0_pay10, k0_pay11]
  rw [band]
  split <;> simp [upf_ix2, cb]

theorem vb1 (vc vp : Fin 128 → Fin 256 → ℝ) :
    k0_pay32 (F := Ideal) (k0_pay26 (upf vc)) (k0_pay27 (upf vp)) = upf (band (cb (n := 2) vp 1) (cb (n := 2) vc 1)) := by
  refine eq_upf fun j d => ?_
  pointwise [k0_pay32, k0_pay26, k0_pay27]
  rw [band]
  split <;> simp [upf_ix2, cb]

theorem qb0 (q : Fin 128 → Fin 768 → ℝ) (cc sc : Fin 128 → Fin 128 → ℝ) :
    k0_pay21 (F := Ideal) (k0_pay8 (upf q)) (k0_pay12 (upf cc)) (k0_pay13 (upf sc)) = upf (st fun g r => rot (cc r) (sc r) (cb (n := 6) q (hd 0 g) r)) := by
  refine eq_upf fun j d => ?_
  pointwise [k0_pay21, k0_pay8, k0_pay12, k0_pay13]
  refine Eq.trans ?_ (st_cases j fun g r => ((rot (cc r) (sc r) (cb (n := 6) q (hd 0 g) r) d : ℝ) : EReal))
  split_ifs <;> simp [upf_ix2, rot, cb, hd, swap, EReal.coe_add, EReal.coe_mul]

theorem qb1 (q : Fin 128 → Fin 768 → ℝ) (cc sc : Fin 128 → Fin 128 → ℝ) :
    k0_pay33 (F := Ideal) (k0_pay23 (upf q)) (upf cc) (upf sc) = upf (st fun g r => rot (cc r) (sc r) (cb (n := 6) q (hd 1 g) r)) := by
  refine eq_upf fun j d => ?_
  pointwise [k0_pay33, k0_pay23, k0_pay28, k0_pay29]
  refine Eq.trans ?_ (st_cases j fun g r => ((rot (cc r) (sc r) (cb (n := 6) q (hd 1 g) r) d : ℝ) : EReal))
  split_ifs <;> simp [upf_ix2, rot, cb, hd, swap, EReal.coe_add, EReal.coe_mul]

theorem ob0 (o : Fin 128 → Fin 768 → ℝ) : k0_pay42 (F := Ideal) (k0_pay7 (upf o)) = upf (st fun g r => cb (n := 6) o (hd 0 g) r) := by
  refine eq_upf fun j d => ?_
  pointwise [k0_pay42, k0_pay7]
  refine Eq.trans ?_ (st_cases j fun g r => ((cb (n := 6) o (hd 0 g) r d : ℝ) : EReal))
  split_ifs <;> simp [upf_ix2, cb, hd]

theorem ob1 (o : Fin 128 → Fin 768 → ℝ) : k0_pay52 (F := Ideal) (k0_pay7 (upf o)) = upf (st fun g r => cb (n := 6) o (hd 1 g) r) := by
  refine eq_upf fun j d => ?_
  pointwise [k0_pay52, k0_pay7]
  refine Eq.trans ?_ (st_cases j fun g r => ((cb (n := 6) o (hd 1 g) r d : ℝ) : EReal))
  split_ifs <;> simp [upf_ix2, cb, hd]

/-- The sinks of a group, one for each of its rows. -/
theorem sk0 (sk : Fin 1 → Fin 128 → ℝ) : k0_pay36 (F := Ideal) (k0_pay15 (upf sk)) = upf (st fun g _ _ => sk 0 ((hd 0 g).castLE (by decide))) := by
  refine eq_upf fun j d => ?_
  pointwise [k0_pay36, k0_pay15]
  refine Eq.trans ?_ (st_cases j fun g _ => ((sk 0 ((hd 0 g).castLE (by decide)) : ℝ) : EReal))
  split_ifs <;> simp [upf_ix2, hd] <;> rfl

theorem sk1 (sk : Fin 1 → Fin 128 → ℝ) : k0_pay46 (F := Ideal) (k0_pay30 (upf sk)) = upf (st fun g _ _ => sk 0 ((hd 1 g).castLE (by decide))) := by
  refine eq_upf fun j d => ?_
  pointwise [k0_pay46, k0_pay30]
  refine Eq.trans ?_ (st_cases j fun g _ => ((sk 0 ((hd 1 g).castLE (by decide)) : ℝ) : EReal))
  split_ifs <;> simp [upf_ix2, hd] <;> rfl

theorem mm_nt (x : Fin 384 → Fin 128 → ℝ) (y : Fin 256 → Fin 128 → ℝ) :
    matmul (F := Ideal) dot_S384x128_S256x128_S384x256_1_1_0_0_n_n none (truncf .bf16 (upf x) bitsLt_bf16_f32) (truncf .bf16 (upf y) bitsLt_bf16_f32) (constant S384x256 .f32 0x00000000#32)
      = upf fun r j => ∑ d, x r d * y j d := by
  refine eq_upf fun r j => ?_
  pointwise
  simp only [upf_ix2, ← EReal.coe_mul, coe_sum]

theorem mm_tn (x : Fin 384 → Fin 256 → ℝ) (y : Fin 384 → Fin 128 → ℝ) :
    matmul (F := Ideal) dot_S384x256_S384x128_S256x128_0_0_1_1_n_n none (truncf .bf16 (upf x) bitsLt_bf16_f32) (truncf .bf16 (upf y) bitsLt_bf16_f32) (constant S256x128 .f32 0x00000000#32)
      = upf fun j d => ∑ r, x r j * y r d := by
  refine eq_upf fun r j => ?_
  pointwise
  simp only [upf_ix2, ← EReal.coe_mul, coe_sum]

theorem mm_nn (x : Fin 384 → Fin 256 → ℝ) (y : Fin 256 → Fin 128 → ℝ) :
    matmul (F := Ideal) dot_S384x256_S256x128_S384x128_1_0_0_1_n_n none (truncf .bf16 (upf x) bitsLt_bf16_f32) (truncf .bf16 (upf y) bitsLt_bf16_f32) (constant S384x128 .f32 0x00000000#32)
      = upf fun r d => ∑ j, x r j * y j d := by
  refine eq_upf fun r j => ?_
  pointwise
  simp only [upf_ix2, ← EReal.coe_mul, coe_sum]

theorem masked (n : Fin 32) (x : Fin 384 → Fin 256 → ℝ) (r : Fin 384) (j : Fin 256) :
    k0_pay35 (F := Ideal) (BitVec.ofNat 32 n) (upf x) (ix2 r j) = if ok n (iOf r) j then ((x r j : ℝ) : EReal) else ⊥ := by
  pointwise [k0_pay35]
  have e : BitVec.ofNat 32 r.val &&& 127#32 = BitVec.ofNat 32 (iOf r).val := (by decide +kernel : ∀ r : Fin 384, BitVec.ofNat 32 r.val &&& 127#32 = BitVec.ofNat 32 (iOf r).val) r
  have z : ∀ a b : ℕ, a < 1000 → b < 1000 → (IntOp.cmpi .sgt (BitVec.ofNat 32 a) (BitVec.ofNat 32 b) = BitVec.ofBool (decide (b < a))) ∧
      (IntOp.cmpi .sle (BitVec.ofNat 32 a) (BitVec.ofNat 32 b) = BitVec.ofBool (decide (a ≤ b))) ∧
      (IntOp.cmpi .sge (BitVec.ofNat 32 a) (BitVec.ofNat 32 b) = BitVec.ofBool (decide (b ≤ a))) := fun a b ha hb =>
    ⟨cmpi_sgt_ofNat (by omega) (by omega), cmpi_sle_ofNat (by omega) (by omega), cmpi_sge_ofNat (by omega) (by omega)⟩
  have a1 : IntOp.addi (BitVec.ofNat 32 (iOf r).val) 128#32 = BitVec.ofNat 32 ((iOf r).val + 128) := (BitVec.ofNat_add _ _).symm
  have s1 : Scalar.select (Scalar.cmpi CmpIPredicate.sgt (BitVec.ofNat 32 n.val) 0#32) 0#32 128#32 = BitVec.ofNat 32 (if 0 < n.val then 0 else 128) := by
    rw [show Scalar.cmpi CmpIPredicate.sgt (BitVec.ofNat 32 n.val) 0#32 = BitVec.ofBool (decide (0 < n.val)) from (z n.val 0 (by omega) (by omega)).1, select_ofBool]
    by_cases h : 0 < n.val <;> simp [h]
  have hi := (iOf r).isLt
  rw [show IntOp.andi (BitVec.ofNat 32 r.val) 127#32 = _ from e, a1, s1, (z _ _ (by omega) (by omega)).1, (z _ _ (by omega) (by omega)).2.1,
    (z _ _ (by omega) (by split <;> omega)).2.2]
  have two : ∀ a b : Bool, IntOp.andi (BitVec.ofBool a) (BitVec.ofBool b) = BitVec.ofBool (a && b) := by decide
  rw [two, two, select_ofBool]
  have hk : (decide ((iOf r).val < j.val) && decide (j.val ≤ (iOf r).val + 128) && decide ((if 0 < n.val then 0 else 128) ≤ j.val)) = ok n (iOf r) j := by
    rw [Bool.eq_iff_iff, ok_iff]
    by_cases h : 0 < n.val <;> simp [h, and_assoc]
  rw [hk]
  rfl

/-- A row's softmax with a sink, as the kernel forms it: the shift, the weights, the sink's weight, their total, the quotients. -/
def mx (X : FVec Ideal S384x256 .f32) (S : FVec Ideal S384x1 .f32) : FVec Ideal S384x1 .f32 :=
  maximumf (shapeCast S384x1 (multiReduction .maximumf [1] S384 X 0xFF800000#32 reduces_S384x256_S384 (.inl rfl) rfl) shapeCasts_S384_S384x1) S
def ex (X : FVec Ideal S384x256 .f32) (S : FVec Ideal S384x1 .f32) : FVec Ideal S384x256 .f32 := exp (subf X (broadcastTo S384x256 (mx X S) broadcasts_S384x1_S384x256))
def es (X : FVec Ideal S384x256 .f32) (S : FVec Ideal S384x1 .f32) : FVec Ideal S384x1 .f32 := exp (subf S (mx X S))
def tt (X : FVec Ideal S384x256 .f32) (S : FVec Ideal S384x1 .f32) : FVec Ideal S384x1 .f32 :=
  addf (shapeCast S384x1 (multiReduction .add [1] S384 (ex X S) 0x00000000#32 reduces_S384x256_S384 (.inl rfl) rfl) shapeCasts_S384_S384x1) (es X S)
def nrm (X : FVec Ideal S384x256 .f32) (S : FVec Ideal S384x1 .f32) : FVec Ideal S384x256 .f32 := divf (ex X S) (broadcastTo S384x256 (tt X S) broadcasts_S384x1_S384x256)

theorem real_max {ι : Type} [Fintype ι] (f : ι → EReal) (hf : ∀ i, f i ≠ ⊤) (s : ℝ) : ∃ M : ℝ, max (Finset.univ.fold max ⊥ f) (s : EReal) = (M : EReal) := by
  classical
  have h : ∀ u : Finset ι, u.fold max ⊥ f ≠ ⊤ := fun u => by
    induction u using Finset.induction_on with
    | empty => simp
    | insert a u ha ih =>
      rw [Finset.fold_insert ha]
      exact (max_lt (lt_top_iff_ne_top.mpr (hf a)) (lt_top_iff_ne_top.mpr ih)).ne
  refine ⟨(max (Finset.univ.fold max ⊥ f) (s : EReal)).toReal, (EReal.coe_toReal ?_ ?_).symm⟩
  · exact (max_lt (lt_top_iff_ne_top.mpr (h _)) (EReal.coe_lt_top s)).ne
  · exact (lt_of_lt_of_le (EReal.bot_lt_coe s) (le_max_right _ _)).ne'

section Soft

variable (q : Fin 3 → Fin 128 → Fin 128 → ℝ) (k : Fin 256 → Fin 128 → ℝ) (s : Fin 3 → ℝ) (n : ℕ)

/-- The masked scores. -/
def msc : FVec Ideal S384x256 .f32 := fun i => if ok n (iOf (i 0)) (i 1) then ((score q k (gOf (i 0)) (iOf (i 0)) (i 1) : ℝ) : EReal) else ⊥

theorem soft : ∃ M : Fin 384 → ℝ, (∀ r j, ex (msc q k n) (upf (st fun g _ _ => s g)) (ix2 r j) = ((wtM q k n (M r) (gOf r) (iOf r) j : ℝ) : EReal)) ∧
    (∀ r, es (msc q k n) (upf (st fun g _ _ => s g)) (ix2 r 0) = ((Real.exp (s (gOf r) - M r) : ℝ) : EReal)) ∧
    ∀ r, tt (msc q k n) (upf (st fun g _ _ => s g)) (ix2 r 0) = ((∑ j, wtM q k n (M r) (gOf r) (iOf r) j + Real.exp (s (gOf r) - M r) : ℝ) : EReal) := by
  have hm : ∀ r, ∃ M : ℝ, mx (msc q k n) (upf (st fun g _ _ => s g)) (ix2 r 0) = (M : EReal) := fun r => by
    pointwise [mx]
    rw [show Ideal.ofBits .f32 4286578688#32 = ⊥ by simp [Ideal.ofBits, Ideal.ieee], upf_ix2]
    refine real_max _ (fun j => ?_) _
    change (if _ then _ else _) ≠ _
    split
    · exact EReal.coe_ne_top _
    · exact bot_ne_top
  choose M hM using hm
  have h1 : ∀ r j, ex (msc q k n) (upf (st fun g _ _ => s g)) (ix2 r j) = ((wtM q k n (M r) (gOf r) (iOf r) j : ℝ) : EReal) := fun r j => by
    pointwise [ex]
    rw [hM, wtM]
    change Ideal.exp ((if ok n (iOf r) j then ((score q k (gOf r) (iOf r) j : ℝ) : EReal) else ⊥) - _) = _
    split
    · rw [← EReal.coe_sub, Ideal.exp_coe]
    · rw [EReal.bot_sub, Ideal.exp_bot, EReal.coe_zero]
  have h2 : ∀ r, es (msc q k n) (upf (st fun g _ _ => s g)) (ix2 r 0) = ((Real.exp (s (gOf r) - M r) : ℝ) : EReal) := fun r => by
    pointwise [es]
    rw [hM, upf_ix2, ← EReal.coe_sub, Ideal.exp_coe]
  refine ⟨M, h1, h2, fun r => ?_⟩
  pointwise [tt]
  simp only [h1, h2, coe_sum, ← EReal.coe_add]

theorem nrm_eq : nrm (msc q k n) (upf (st fun g _ _ => s g)) = upf (st (pn q k s n)) := by
  obtain ⟨M, h1, -, h3⟩ := soft q k s n
  refine eq_upf fun r j => ?_
  pointwise [nrm]
  rw [h1, h3, div_real (totM_pos q k s n (M r) _ _).ne', pn_shift]

theorem snk_eq : divf (es (msc q k n) (upf (st fun g _ _ => s g))) (tt (msc q k n) (upf (st fun g _ _ => s g))) = upf (st fun g i (_ : Fin 1) => Real.exp (s g) / tot q k s n g i) := by
  obtain ⟨M, -, h2, h3⟩ := soft q k s n
  refine eq_upf fun r j => ?_
  obtain rfl : j = 0 := Subsingleton.elim _ _
  pointwise
  rw [h2, h3, div_real (totM_pos q k s n (M r) _ _).ne', sink_shift]

end Soft

/-- Both groups of heads are masked the same way. -/
theorem masked_eq (n : Fin 32) (q : Fin 3 → Fin 128 → Fin 128 → ℝ) (k : Fin 256 → Fin 128 → ℝ) :
    k0_pay35 (F := Ideal) (BitVec.ofNat 32 n) (upf (st (score q k))) = msc q k n := by
  funext i
  idx_vars i
  exact masked n _ _ _

section Grads

variable (q o : Fin 3 → Fin 128 → Fin 128 → ℝ) (k v : Fin 256 → Fin 128 → ℝ) (s : Fin 3 → ℝ) (n : ℕ)

/-- The scaled scores. -/
theorem score_eq : mulf (matmul (F := Ideal) dot_S384x128_S256x128_S384x256_1_1_0_0_n_n none (truncf .bf16 (upf (st q)) bitsLt_bf16_f32) (truncf .bf16 (upf k) bitsLt_bf16_f32) (constant S384x256 .f32 0x00000000#32))
    (broadcast S384x256 (Scalar.ofBits .f32 0x3DB504F3#32)) = upf (st (score q k)) := by
  rw [mm_nt]
  refine eq_upf fun r j => ?_
  pointwise
  rw [upf_ix2, ofBits_scale, ← EReal.coe_mul]
  rfl

theorem dp_eq : matmul (F := Ideal) dot_S384x128_S256x128_S384x256_1_1_0_0_n_n none (truncf .bf16 (upf (st o)) bitsLt_bf16_f32) (truncf .bf16 (upf v) bitsLt_bf16_f32) (constant S384x256 .f32 0x00000000#32)
    = upf (st (dp o v)) := mm_nt _ _

theorem dv_eq : matmul (F := Ideal) dot_S384x256_S384x128_S256x128_0_0_1_1_n_n none (truncf .bf16 (upf (st (pn q k s n))) bitsLt_bf16_f32) (truncf .bf16 (upf (st o)) bitsLt_bf16_f32) (constant S256x128 .f32 0x00000000#32)
    = upf (dv q o k s n) := by
  rw [mm_tn]
  exact congrArg upf (funext fun j => funext fun d => sum_rows _ _ fun r => rfl)

/-- The row sums of the products of the probabilities and their gradients. -/
theorem del_eq : k0_pay56 (F := Ideal) (k0_pay55 (upf (st (pn q k s n))) (upf (st (dp o v)))) = upf (st fun g i (_ : Fin 1) => del q o k v s n g i) := by
  refine eq_upf fun r j => ?_
  obtain rfl : j = 0 := Subsingleton.elim _ _
  pointwise [k0_pay56, k0_pay55]
  simp only [upf_ix2, ← EReal.coe_mul, coe_sum]
  rfl

theorem ds_eq : k0_pay57 (F := Ideal) (upf (st (pn q k s n))) (upf (st (dp o v))) (k0_pay55 (upf (st (pn q k s n))) (upf (st (dp o v)))) = upf (st (ds q o k v s n)) := by
  unfold k0_pay57
  rw [del_eq]
  refine eq_upf fun r j => ?_
  pointwise
  simp only [upf_ix2, ← EReal.coe_mul, ← EReal.coe_sub]
  rfl

theorem dq_eq : k0_pay58 (F := Ideal) (upf k) (upf (st (pn q k s n))) (upf (st (dp o v))) (k0_pay55 (upf (st (pn q k s n))) (upf (st (dp o v)))) = upf (st (dq q o k v s n)) := by
  unfold k0_pay58
  dsimp only
  rw [ds_eq, mm_nn]
  refine eq_upf fun r j => ?_
  pointwise
  rw [upf_ix2, ofBits_scale, ← EReal.coe_mul]
  rfl

theorem dk_eq : k0_pay59 (F := Ideal) (upf (st q)) (upf (st (pn q k s n))) (upf (st (dp o v))) (k0_pay55 (upf (st (pn q k s n))) (upf (st (dp o v)))) = upf (dk q o k v s n) := by
  unfold k0_pay59
  dsimp only
  rw [ds_eq, mm_tn]
  refine eq_upf fun r j => ?_
  pointwise
  rw [upf_ix2, ofBits_scale, ← EReal.coe_mul]
  exact congrArg (fun x : ℝ => ((x * scale : ℝ) : EReal)) (sum_rows _ _ fun r => rfl)

theorem snk_row : k0_pay64 (F := Ideal) (es (msc q k n) (upf (st fun g _ _ => s g))) (tt (msc q k n) (upf (st fun g _ _ => s g))) (k0_pay55 (upf (st (pn q k s n))) (upf (st (dp o v))))
    = upf (st fun g i (_ : Fin 1) => -(Real.exp (s g) / tot q k s n g i) * del q o k v s n g i) := by
  unfold k0_pay64
  rw [del_eq, snk_eq]
  refine eq_upf fun r j => ?_
  pointwise
  simp only [upf_ix2, Ideal.ofBits_zero, zero_sub, ← EReal.coe_mul, ← EReal.coe_neg]

end Grads

section Store

variable (a : Fin 384 → Fin 128 → ℝ) (b : Fin 256 → Fin 128 → ℝ) (c s y : Fin 128 → Fin 128 → ℝ) (r d : Fin 128)

theorem put_q0 : k0_pay69 (F := Ideal) (upf a) (upf c) (upf s) (ix2 r d) = ((rotT (c r) (s r) (a ⟨r.val, by omega⟩) d : ℝ) : EReal) := by
  pointwise [k0_pay69]
  simp [upf_ix2, rotT, swap, EReal.coe_add, EReal.coe_mul]

theorem put_q1 : k0_pay73 (F := Ideal) (k0_pay71 (upf a) (upf c)) (k0_pay72 (upf a) (upf s)) 64#32 (ix2 r d) = ((rotT (c r) (s r) (a ⟨128 + r.val, by omega⟩) d : ℝ) : EReal) := by
  pointwise [k0_pay73, k0_pay71, k0_pay72, k0_pay70]
  simp [upf_ix2, rotT, swap, EReal.coe_add, EReal.coe_mul]

theorem put_q2 : k0_pay74 (F := Ideal) (upf a) (upf c) (upf s) (ix2 r d) = ((rotT (c r) (s r) (a ⟨256 + r.val, by omega⟩) d : ℝ) : EReal) := by
  pointwise [k0_pay74]
  simp [upf_ix2, rotT, swap, EReal.coe_add, EReal.coe_mul]

theorem put_k : k0_pay75 (F := Ideal) (upf b) (upf c) (upf s) (upf y) (ix2 r d) = ((rotT (c r) (s r) (b ⟨128 + r.val, by omega⟩) d + y r d : ℝ) : EReal) := by
  pointwise [k0_pay75]
  simp [upf_ix2, rotT, swap, EReal.coe_add, EReal.coe_mul]

theorem put_v : k0_pay76 (F := Ideal) (upf b) (upf y) (ix2 r d) = ((b ⟨128 + r.val, by omega⟩ d + y r d : ℝ) : EReal) := by
  pointwise [k0_pay76]
  simp [upf_ix2, EReal.coe_add]

theorem keep_k : k0_pay78 (F := Ideal) (k0_pay77 (upf b)) (upf c) (upf s) (ix2 r d) = ((rotT (c r) (s r) (b ⟨r.val, by omega⟩) d : ℝ) : EReal) := by
  pointwise [k0_pay78, k0_pay77]
  simp [upf_ix2, rotT, swap, EReal.coe_add, EReal.coe_mul]

theorem keep_v : k0_pay79 (F := Ideal) (upf b) (ix2 r d) = ((b ⟨r.val, by omega⟩ d : ℝ) : EReal) := by
  pointwise [k0_pay79]
  simp [upf_ix2]

/-- A lane's choice. -/
theorem lane (a b : ℕ) (ha : a < 1000) (hb : b < 1000) (x : EReal) : Scalar.select (IntOp.cmpi .eq (BitVec.ofNat 32 a) (BitVec.ofNat 32 b)) x 0 = if a = b then x else 0 := by
  rw [cmpi_eq_ofNat (by omega) (by omega), select_ofBool]
  simp

/-- The sinks' gradients, lane by lane, added to what the block found. -/
theorem put_s (f : Fin 2 → Fin 3 → Fin 128 → ℝ) (y : FVec Ideal S1x128 .f32) (a b : FVec Ideal S384x1 .f32) (p : FVec Ideal S384x256 .f32)
    (e : k0_pay64 a b p = upf (st fun g i (_ : Fin 1) => f 0 g i)) (h : Fin 2) (g : Fin 3) :
    k0_pay2 (F := Ideal) (k0_pay83 (k0_pay80 (iota .tc S1x128 32 [1] iota_S1x128_d1_w32) (upf (st fun g i (_ : Fin 1) => f 1 g i))
        (k0_pay68 (iota .tc S1x128 32 [1] iota_S1x128_d1_w32) k0_pay6 (upf (st fun g i (_ : Fin 1) => f 0 g i)) (k0_pay66 (iota .tc S1x128 32 [1] iota_S1x128_d1_w32)) (Scalar.ofBits .f32 0x00000000#32) (k0_pay67 a b p)))
      (k0_pay81 (upf (st fun g i (_ : Fin 1) => f 1 g i))) (k0_pay82 (iota .tc S1x128 32 [1] iota_S1x128_d1_w32)) (Scalar.ofBits .f32 0x00000000#32)) y (ix2 0 ((hd h g).castLE (by decide)))
    = y (ix2 0 ((hd h g).castLE (by decide))) + ((∑ i, f h g i : ℝ) : EReal) := by
  pointwise [k0_pay2, k0_pay83, k0_pay80, k0_pay68, k0_pay66, k0_pay67, k0_pay81, k0_pay82, k0_pay6]
  rw [e]
  have l : ∀ (b : ℕ) (x : EReal), b < 6 → Scalar.select (IntOp.cmpi .eq (BitVec.ofNat 32 (h.val * 3 + g.val)) (BitVec.ofNat 32 b)) x 0 = if h.val * 3 + g.val = b then x else 0 :=
    fun b x hb => lane _ _ (by omega) (by omega) x
  simp only [hd, Fin.val_castLE, upf_ix2, st0, st1, st2, coe_sum, l _ _ (show 0 < 6 by decide), l _ _ (show 1 < 6 by decide), l _ _ (show 2 < 6 by decide),
    l _ _ (show 3 < 6 by decide), l _ _ (show 4 < 6 by decide), l _ _ (show 5 < 6 by decide)]
  refine congrArg₂ (· + ·) (congrArg y ?_) ?_
  · rfl
  · fin_cases h <;> fin_cases g <;> simp

/-- The same on every lane. -/
theorem put_l (f : Fin 2 → Fin 3 → Fin 128 → ℝ) (y : FVec Ideal S1x128 .f32) (a b : FVec Ideal S384x1 .f32) (p : FVec Ideal S384x256 .f32)
    (e : k0_pay64 a b p = upf (st fun g i (_ : Fin 1) => f 0 g i)) (l : Fin 128) :
    k0_pay2 (F := Ideal) (k0_pay83 (k0_pay80 (iota .tc S1x128 32 [1] iota_S1x128_d1_w32) (upf (st fun g i (_ : Fin 1) => f 1 g i))
        (k0_pay68 (iota .tc S1x128 32 [1] iota_S1x128_d1_w32) k0_pay6 (upf (st fun g i (_ : Fin 1) => f 0 g i)) (k0_pay66 (iota .tc S1x128 32 [1] iota_S1x128_d1_w32)) (Scalar.ofBits .f32 0x00000000#32) (k0_pay67 a b p)))
      (k0_pay81 (upf (st fun g i (_ : Fin 1) => f 1 g i))) (k0_pay82 (iota .tc S1x128 32 [1] iota_S1x128_d1_w32)) (Scalar.ofBits .f32 0x00000000#32)) y (ix2 0 l)
    = y (ix2 0 l) + ((lanes f l : ℝ) : EReal) := by
  by_cases h : l.val < 6
  · obtain ⟨u, g, rfl⟩ : ∃ (u : Fin 2) (g : Fin 3), l = (hd u g).castLE (by decide) :=
      ⟨⟨l.val / 3, by omega⟩, ⟨l.val % 3, by omega⟩, Fin.ext (by simp only [hd, Fin.val_castLE]; omega)⟩
    rw [lanes_hd]
    exact put_s f y a b p e _ _
  · rw [lanes, dif_neg h]
    pointwise [k0_pay2, k0_pay83, k0_pay80, k0_pay68, k0_pay66, k0_pay67, k0_pay81, k0_pay82, k0_pay6]
    have z : ∀ (b : ℕ) (x : EReal), b < 6 → Scalar.select (IntOp.cmpi .eq (BitVec.ofNat 32 l.val) (BitVec.ofNat 32 b)) x 0 = 0 :=
      fun b x hb => (lane _ _ (by omega) (by omega) x).trans (if_neg (by omega))
    simp [z _ _ (show 0 < 6 by decide), z _ _ (show 1 < 6 by decide), z _ _ (show 2 < 6 by decide), z _ _ (show 3 < 6 by decide), z _ _ (show 4 < 6 by decide), z _ _ (show 5 < 6 by decide)]

end Store

end Cert.SwaBwdIdeal.Real
end
-- ==== Proof.SwaAngle.lean ====
/- The position tables: cosines and sines of the positions' angles, real numbers. -/
module

public import proofs.«01_k».proof.Proof.SwaReal

@[expose] public section

noncomputable section

namespace Cert.Swa

open Idealize.ShloMosaic Cert.RealLift

/-- The angle of position `x` on lane `d` of a half, as both programs compute it. -/
def ang (x : BitVec 32) (d : ℕ) : EReal :=
  FloatOps.sitofp (F := Ideal) .f32 x * Ideal.div 1 (Ideal.pow (Ideal.ofBits .f32 1176256512#32)
    (Ideal.div (Ideal.ofBits .f32 1073741824#32 * FloatOps.sitofp (F := Ideal) .f32 (BitVec.ofNat 32 d)) (Ideal.ofBits .f32 1124073472#32)))

theorem ang_real (x : BitVec 32) (d : ℕ) : ∃ a : ℝ, ang x d = ((a : ℝ) : EReal) := by
  have h1 : Ideal.ofBits .f32 1176256512#32 = ((10000 : ℝ) : EReal) := by
    simp [Ideal.ofBits, Ideal.ieee, -EReal.coe_mul]
    norm_num
  have h2 : Ideal.ofBits .f32 1073741824#32 = ((2 : ℝ) : EReal) := by
    simp [Ideal.ofBits, Ideal.ieee, -EReal.coe_mul]
    norm_num
  have h3 : Ideal.ofBits .f32 1124073472#32 = ((128 : ℝ) : EReal) := by
    simp [Ideal.ofBits, Ideal.ieee, -EReal.coe_mul]
    norm_num
  have h4 : ∀ w : BitVec 32, FloatOps.sitofp (F := Ideal) .f32 w = ((w.toInt : ℝ) : EReal) := fun w => rfl
  have h5 : ∀ y : ℝ, (10000 : ℝ).rpow y ≠ 0 := fun y => (Real.rpow_pos_of_pos (by norm_num) y).ne'
  refine ⟨(x.toInt : ℝ) * (1 / (10000 : ℝ).rpow (2 * ((BitVec.ofNat 32 d).toInt : ℝ) / 128)), ?_⟩
  unfold ang
  rw [h1, h2, h3, h4, h4, ← EReal.coe_mul, div_real (by norm_num), Ideal.pow_coe_coe, ← EReal.coe_one, div_real (h5 _), ← EReal.coe_mul]

/-- The angle's value. -/
def angle (x : BitVec 32) (d : ℕ) : ℝ := (ang_real x d).choose

theorem ang_eq (x : BitVec 32) (d : ℕ) : ang x d = ((angle x d : ℝ) : EReal) := (ang_real x d).choose_spec

/-- The cosines of a position on all lanes, and its sines with the first half's negated. -/
def cosT (x : BitVec 32) (d : Fin 128) : ℝ := Real.cos (angle x (d.val % 64))
def sinT (x : BitVec 32) (d : Fin 128) : ℝ := if d.val < 64 then -Real.sin (angle x (d.val % 64)) else Real.sin (angle x (d.val % 64))

end Cert.Swa

end
-- ==== Proof.SwaSpec.lean ====
/- The windowed attention's gradients over the reals, from the projections' and the cotangent's arrays: what the kernel's
   results and the reference's both are. -/
module

public import proofs.«01_k».proof.Proof.SwaReal
public import proofs.«01_k».proof.Proof.SwaAngle

@[expose] public section

noncomputable section

namespace Cert.Swa

/-- The block before a block (the first one's is itself), and a block's rows. -/
def prv (n : Fin 32) : Fin 32 := ⟨n.val - 1, by omega⟩
def row (n : Fin 32) (i : Fin 128) : Fin 4096 := ⟨128 * n.val + i.val, by omega⟩

/-- A row's block, and its place there. -/
def bOf (r : Fin 4096) : Fin 32 := ⟨r.val / 128, by omega⟩
def rOf (r : Fin 4096) : Fin 128 := ⟨r.val % 128, Nat.mod_lt _ (by decide)⟩

theorem bOf_row (n : Fin 32) (i : Fin 128) : bOf (row n i) = n := Fin.ext (by simp only [bOf, row]; omega)
theorem rOf_row (n : Fin 32) (i : Fin 128) : rOf (row n i) = i := Fin.ext (by simp only [rOf, row]; omega)

/-- The group, the head of the group and the lane of a column of the queries' and of the keys'. -/
def jh (j : Fin 768) : Fin 2 := ⟨j.val / 384, by omega⟩
def jg (j : Fin 768) : Fin 3 := ⟨j.val / 128 % 3, Nat.mod_lt _ (by decide)⟩
def jd (j : Fin 768) : Fin 128 := ⟨j.val % 128, Nat.mod_lt _ (by decide)⟩
def kh (j : Fin 256) : Fin 2 := ⟨j.val / 128, by omega⟩
def kd (j : Fin 256) : Fin 128 := ⟨j.val % 128, Nat.mod_lt _ (by decide)⟩

variable (p : Fin 4096 → Fin 4876 → ℝ) (dc : Fin 4096 → Fin 2048 → ℝ) (x : Fin 4096 → BitVec 32) (s : Fin 6 → ℝ)

/-- A row's query of one head, key and value of one group, and cotangent of one head. -/
def qr (r : Fin 4096) (h : Fin 2) (g : Fin 3) : Fin 128 → ℝ := rot (cosT (x r)) (sinT (x r)) fun d => p r ⟨3596 + ((hd h g).val * 128 + d.val), by omega⟩
def kr (r : Fin 4096) (h : Fin 2) : Fin 128 → ℝ := rot (cosT (x r)) (sinT (x r)) fun d => p r ⟨4364 + (h.val * 128 + d.val), by omega⟩
def vr (r : Fin 4096) (h : Fin 2) (d : Fin 128) : ℝ := p r ⟨4620 + (h.val * 128 + d.val), by omega⟩
def cr (r : Fin 4096) (h : Fin 2) (g : Fin 3) (d : Fin 128) : ℝ := dc r ⟨1280 + ((hd h g).val * 128 + d.val), by omega⟩

/-- The same by blocks, the keys and values with the block before's in front. -/
def Qb (n : Fin 32) (h : Fin 2) (g : Fin 3) (i : Fin 128) : Fin 128 → ℝ := qr p x (row n i) h g
def Kb (n : Fin 32) (h : Fin 2) : Fin 256 → Fin 128 → ℝ := band (fun i => kr p x (row (prv n) i) h) (fun i => kr p x (row n i) h)
def Vb (n : Fin 32) (h : Fin 2) : Fin 256 → Fin 128 → ℝ := band (fun i => vr p (row (prv n) i) h) (fun i => vr p (row n i) h)
def Ob (n : Fin 32) (h : Fin 2) (g : Fin 3) (i : Fin 128) : Fin 128 → ℝ := cr dc (row n i) h g
def Sb (h : Fin 2) (g : Fin 3) : ℝ := s (hd h g)

/-- One block's gradients. -/
def BQ (n : Fin 32) (h : Fin 2) : Fin 3 → Fin 128 → Fin 128 → ℝ := dq (Qb p x n h) (Ob dc n h) (Kb p x n h) (Vb p n h) (Sb s h) n
def BK (n : Fin 32) (h : Fin 2) : Fin 256 → Fin 128 → ℝ := dk (Qb p x n h) (Ob dc n h) (Kb p x n h) (Vb p n h) (Sb s h) n
def BV (n : Fin 32) (h : Fin 2) : Fin 256 → Fin 128 → ℝ := dv (Qb p x n h) (Ob dc n h) (Kb p x n h) (Sb s h) n
def BS (n : Fin 32) (h : Fin 2) (g : Fin 3) (i : Fin 128) : ℝ :=
  -(Real.exp (Sb s h g) / tot (Qb p x n h) (Kb p x n h) (Sb s h) n g i) * del (Qb p x n h) (Ob dc n h) (Kb p x n h) (Vb p n h) (Sb s h) n g i

/-- The gradients of the queries, keys, values and sinks. -/
def gQ (n : Fin 32) (i : Fin 128) (h : Fin 2) (g : Fin 3) (d : Fin 128) : ℝ :=
  rotT (cosT (x (row n i))) (sinT (x (row n i))) (BQ p dc x s n h g i) d
/-- What the block after a block gives the block's keys and values. -/
def nK (n : Fin 32) (i : Fin 128) (h : Fin 2) (d : Fin 128) : ℝ :=
  if e : n.val + 1 < 32 then rotT (cosT (x (row n i))) (sinT (x (row n i))) (BK p dc x s ⟨n.val + 1, e⟩ h ⟨i.val, by omega⟩) d else 0
def nV (n : Fin 32) (i : Fin 128) (h : Fin 2) (d : Fin 128) : ℝ := if e : n.val + 1 < 32 then BV p dc x s ⟨n.val + 1, e⟩ h ⟨i.val, by omega⟩ d else 0
def gK (n : Fin 32) (i : Fin 128) (h : Fin 2) (d : Fin 128) : ℝ :=
  rotT (cosT (x (row n i))) (sinT (x (row n i))) (BK p dc x s n h ⟨128 + i.val, by omega⟩) d + nK p dc x s n i h d
def gV (n : Fin 32) (i : Fin 128) (h : Fin 2) (d : Fin 128) : ℝ := BV p dc x s n h ⟨128 + i.val, by omega⟩ d + nV p dc x s n i h d
def gS (l : Fin 128) : ℝ := ∑ n, lanes (BS p dc x s n) l

end Cert.Swa

end
-- ==== Proof.SwaBwdFrame.lean ====
/- The frame of the windowed attention's backward kernel, written by hand: what one grid point leaves in the four
   result blocks and in the two carried scratch buffers (`stepA` at the first point, `stepB` over what the point
   before left), the recursion over the points, and the whole run. -/
module

public import proofs.«01_k».proof.Proof.Gen.SwaBwdIdeal.Frame.RunB
public import Idealize.ShloMosaic.Lib.Claim

@[expose] public section

set_option maxRecDepth 16384

noncomputable section

namespace Cert.SwaBwdIdeal.Hand

open Cert.SwaBwdIdeal Cert.SwaBwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a list of stores leaves in a buffer. -/
def readBack {s : Shape} {e : EltTy} (v : View sig .tc .vmem s e) (ps : List (View.Piece (Elt F) s e)) : Vec F s e :=
  v.read (Elt F) (v.writes (Elt F) v.junk ps)

/-- The four result blocks and the two carried buffers. -/
abbrev Res (F : FTy → Type) : Type := Vec F S128x768 .bf16 × Vec F S128x256 .bf16 × Vec F S128x256 .bf16 × Vec F S1x128 .f32 × Vec F S128x256 .f32 × Vec F S128x256 .f32

/-- The run of the body at a point, the first of the grid. -/
abbrev runA (c : Dev nD) (t : Fin cfg0.N) (h : t.val % 32 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h) (X0_0 m c t) (X0_1 m c t) (X0_2 m c t) (X0_3 m c t) (X0_4 m c t) (iblk m c 5 t) (iblk m c 6 t) (iblk m c 7 t) (iblk m c 8 t) (iblk m c 9 t) (X0_10 m c t)

/-- The run of the body at a later point, over the sink gradient and the carries it finds. -/
abbrev runB (c : Dev nD) (t : Fin cfg0.N) (h : ¬t.val % 32 = 0) (o : Vec F S1x128 .f32) (a b : Vec F S128x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun e => h ((hcond0_0 t).mp e)) (X0_0 m c t) (X0_1 m c t) (X0_2 m c t) (X0_3 m c t) (X0_4 m c t) (iblk m c 5 t) (iblk m c 6 t) (iblk m c 7 t) (iblk m c 8 t) (iblk m c 9 t) (X0_10 m c t) o a b

def stepA (c : Dev nD) (t : Fin cfg0.N) (h : t.val % 32 = 0) : Res F :=
  (readBack VO0_11 (runA m c t h).1,
    readBack VO0_12 (runA m c t h).2.1,
    readBack VO0_13 (runA m c t h).2.2.1,
    readBack VO0_14 (runA m c t h).2.2.2.1,
    readBack VS0_0 (runA m c t h).2.2.2.2.1,
    readBack VS0_1 (runA m c t h).2.2.2.2.2.1)

def stepB (c : Dev nD) (t : Fin cfg0.N) (h : ¬t.val % 32 = 0) (o : Vec F S1x128 .f32) (a b : Vec F S128x256 .f32) : Res F :=
  (readBack VO0_11 (runB m c t h o a b).1,
    readBack VO0_12 (runB m c t h o a b).2.1,
    readBack VO0_13 (runB m c t h o a b).2.2.1,
    readBack VO0_14 (runB m c t h o a b).2.2.2.1,
    readBack VS0_0 (runB m c t h o a b).2.2.2.2.1,
    readBack VS0_1 (runB m c t h o a b).2.2.2.2.2.1)

section Covers

variable (c : Dev nD) (t : Fin cfg0.N)

theorem coverA0 (h : t.val % 32 = 0) (y : S128x768.Idx) : ∃ pc ∈ (runA m c t h).1, y ∈ pc.1.set :=
  View.cover_of_tiledL (runA m c t h).1 S128x128.size (by sl_kernel_rfl) y

theorem coverA1 (h : t.val % 32 = 0) (y : S128x256.Idx) : ∃ pc ∈ (runA m c t h).2.1, y ∈ pc.1.set :=
  View.cover_of_tiledL (runA m c t h).2.1 S128x128.size (by sl_kernel_rfl) y

theorem coverA2 (h : t.val % 32 = 0) (y : S128x256.Idx) : ∃ pc ∈ (runA m c t h).2.2.1, y ∈ pc.1.set :=
  View.cover_of_tiledL (runA m c t h).2.2.1 S128x128.size (by sl_kernel_rfl) y

theorem coverA3 (h : t.val % 32 = 0) (y : S1x128.Idx) : ∃ pc ∈ (runA m c t h).2.2.2.1, y ∈ pc.1.set :=
  View.cover_of_tiledL (runA m c t h).2.2.2.1 S1x128.size (by sl_kernel_rfl) y

theorem coverA4 (h : t.val % 32 = 0) (y : S128x256.Idx) : ∃ pc ∈ (runA m c t h).2.2.2.2.1, y ∈ pc.1.set :=
  View.cover_of_wholeMem (runA m c t h).2.2.2.2.1 (by sl_whole_mem) y

theorem coverA5 (h : t.val % 32 = 0) (y : S128x256.Idx) : ∃ pc ∈ (runA m c t h).2.2.2.2.2.1, y ∈ pc.1.set :=
  View.cover_of_wholeMem (runA m c t h).2.2.2.2.2.1 (by sl_whole_mem) y

theorem coverB0 (h : ¬t.val % 32 = 0) (o : Vec F S1x128 .f32) (a b : Vec F S128x256 .f32) (y : S128x768.Idx) : ∃ pc ∈ (runB m c t h o a b).1, y ∈ pc.1.set :=
  View.cover_of_tiledL (runB m c t h o a b).1 S128x128.size (by sl_kernel_rfl) y

theorem coverB1 (h : ¬t.val % 32 = 0) (o : Vec F S1x128 .f32) (a b : Vec F S128x256 .f32) (y : S128x256.Idx) : ∃ pc ∈ (runB m c t h o a b).2.1, y ∈ pc.1.set :=
  View.cover_of_tiledL (runB m c t h o a b).2.1 S128x128.size (by sl_kernel_rfl) y

theorem coverB2 (h : ¬t.val % 32 = 0) (o : Vec F S1x128 .f32) (a b : Vec F S128x256 .f32) (y : S128x256.Idx) : ∃ pc ∈ (runB m c t h o a b).2.2.1, y ∈ pc.1.set :=
  View.cover_of_tiledL (runB m c t h o a b).2.2.1 S128x128.size (by sl_kernel_rfl) y

theorem coverB3 (h : ¬t.val % 32 = 0) (o : Vec F S1x128 .f32) (a b : Vec F S128x256 .f32) (y : S1x128.Idx) : ∃ pc ∈ (runB m c t h o a b).2.2.2.1, y ∈ pc.1.set :=
  View.cover_of_tiledL (runB m c t h o a b).2.2.2.1 S1x128.size (by sl_kernel_rfl) y

theorem coverB4 (h : ¬t.val % 32 = 0) (o : Vec F S1x128 .f32) (a b : Vec F S128x256 .f32) (y : S128x256.Idx) : ∃ pc ∈ (runB m c t h o a b).2.2.2.2.1, y ∈ pc.1.set :=
  View.cover_of_tiledL (runB m c t h o a b).2.2.2.2.1 S128x128.size (by sl_kernel_rfl) y

theorem coverB5 (h : ¬t.val % 32 = 0) (o : Vec F S1x128 .f32) (a b : Vec F S128x256 .f32) (y : S128x256.Idx) : ∃ pc ∈ (runB m c t h o a b).2.2.2.2.2.1, y ∈ pc.1.set :=
  View.cover_of_tiledL (runB m c t h o a b).2.2.2.2.2.1 S128x128.size (by sl_kernel_rfl) y

end Covers

/-- What the buffers hold after each point. -/
def after (c : Dev nD) : (n : ℕ) → n < cfg0.N → Res F
  | 0, hn => stepA m c ⟨0, hn⟩ (Nat.zero_mod _)
  | n + 1, hn =>
    if h : (n + 1) % 32 = 0 then stepA m c ⟨n + 1, hn⟩ h
    else stepB m c ⟨n + 1, hn⟩ h (after c n (Nat.lt_of_succ_lt hn)).2.2.2.1 (after c n (Nat.lt_of_succ_lt hn)).2.2.2.2.1 (after c n (Nat.lt_of_succ_lt hn)).2.2.2.2.2

theorem after_A (c : Dev nD) (t : Fin cfg0.N) (h : t.val % 32 = 0) : after m c t.val t.isLt = stepA m c t h := by
  obtain ⟨n, hn⟩ := t
  cases n with
  | zero => rfl
  | succ n => exact dif_pos h

/-- What the point before left. -/
abbrev prev (c : Dev nD) (t : Fin cfg0.N) : Res F := after m c (t.val - 1) (Nat.lt_of_le_of_lt (Nat.sub_le _ _) t.isLt)

theorem after_B (c : Dev nD) (t : Fin cfg0.N) (h : ¬t.val % 32 = 0) :
    after m c t.val t.isLt = stepB m c t h (prev m c t).2.2.2.1 (prev m c t).2.2.2.2.1 (prev m c t).2.2.2.2.2 := by
  obtain ⟨n, hn⟩ := t
  cases n with
  | zero => exact absurd (Nat.zero_mod _) h
  | succ n => exact dif_neg h

/-- The two carried buffers at given contents, the random state at any. -/
def carried (c : Dev nD) (x : Res F) : sProp 𝕄 :=
  iprop(iprop(owns (c : Thread nD τ) scM0_0 fullShare x.2.2.2.2.1 ∗ owns (c : Thread nD τ) scM0_1 fullShare x.2.2.2.2.2) ∗ (∃ r, prngReg c r))

/-- What holds between the points. -/
def inv (c : Dev nD) : (n : ℕ) → n ≤ cfg0.N → sProp 𝕄
  | 0, _ => Pipeline.ΦA spec0 c
  | n + 1, hn => carried c (after m c n hn)

theorem inv_zero (c : Dev nD) (n : ℕ) (h : n ≤ cfg0.N) (e : n = 0) : inv m c n h = Pipeline.ΦA spec0 c := by
  subst e; rfl

theorem inv_pos (c : Dev nD) (n : ℕ) (h : n ≤ cfg0.N) (e : n ≠ 0) : inv m c n h = carried c (after m c (n - 1) (by omega)) := by
  cases n with
  | zero => exact absurd rfl e
  | succ n => rfl

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => X0_10 m c t
    | ⟨11, _⟩ => (after m c t.val t.isLt).1
    | ⟨12, _⟩ => (after m c t.val t.isLt).2.1
    | ⟨13, _⟩ => (after m c t.val t.isLt).2.2.1
    | ⟨14, _⟩ => (after m c t.val t.isLt).2.2.2.1
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = X0_0 m c t := by dsimp only [dats]
theorem after1 (c : Dev nD) (t : Fin cfg0.N) : (dats m 0 c).after 1 t = X0_1 m c t := by dsimp only [dats]
theorem after2 (c : Dev nD) (t : Fin cfg0.N) : (dats m 0 c).after 2 t = X0_2 m c t := by dsimp only [dats]
theorem after3 (c : Dev nD) (t : Fin cfg0.N) : (dats m 0 c).after 3 t = X0_3 m c t := by dsimp only [dats]
theorem after4 (c : Dev nD) (t : Fin cfg0.N) : (dats m 0 c).after 4 t = X0_4 m c t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = X0_10 m c t := by dsimp only [dats]
theorem after11 (c : Dev nD) (t : Fin cfg0.N) : (dats m 0 c).after 11 t = (after m c t.val t.isLt).1 := by dsimp only [dats]
theorem after12 (c : Dev nD) (t : Fin cfg0.N) : (dats m 0 c).after 12 t = (after m c t.val t.isLt).2.1 := by dsimp only [dats]
theorem after13 (c : Dev nD) (t : Fin cfg0.N) : (dats m 0 c).after 13 t = (after m c t.val t.isLt).2.2.1 := by dsimp only [dats]
theorem after14 (c : Dev nD) (t : Fin cfg0.N) : (dats m 0 c).after 14 t = (after m c t.val t.isLt).2.2.2.1 := by dsimp only [dats]
theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = X0_3 m c t :=
  before0_3_of m (dats m 0 c) (A_eq m c 3) (after3 m c) t d
theorem before4 (c : Dev nD) (t : Fin cfg0.N) (d) : (dats m 0 c).before 4 t d = X0_4 m c t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = X0_10 m c t :=
  before0_10_of m (dats m 0 c) (A_eq m c 10) (after10 m c) t d

theorem lt32 (t : Fin cfg0.N) : t.val < 32 := lt_of_lt_of_eq t.isLt (show cfg0.N = 32 from N_0)

/-- The sink gradient's buffer is not written back between the points. -/
theorem before14 (c : Dev nD) (t : Fin cfg0.N) (h : ¬t.val % 32 = 0) (d) : (dats m 0 c).before 14 t d = (prev m c t).2.2.2.1 := by
  have hN := lt32 t
  rw [Dat.before_out_kept _ 14 rfl t (by omega) (Bool.eq_false_iff.mpr fun e => by have := (flush0_14 _).mp e; dsimp only at this; omega)
    (fun _ => rfl) (fun _ _ => rfl)]
  dsimp only [dats]

/-- A buffer after stores that cover it holds what they leave. -/
theorem owns_of_writes {c : Dev nD} {s : Shape} {e : EltTy} {M : Memref sig .tc .vmem s e} {v : View sig .tc .vmem s e}
    {f : M.view.ref.ty.Idx → Elt F M.view.ref.ty.elt} {ps : List (View.Piece (Elt F) s e)} (h : ∀ y : s.Idx, ∃ pc ∈ ps, y ∈ pc.1.set) :
    (M.view.loc (c : Thread nD τ) ↦[M.view.set]{fullShare} M.view.writes (Elt F) f ps : sProp 𝕄) ⊢ owns (c : Thread nD τ) M fullShare (readBack v ps) := by
  unfold owns
  iintro H
  iexists _
  isplitr
  swap
  · iexact H
  ipureintro
  exact View.read_writes_of_cover _ _ _ _ _ h

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 12800000 in
/-- The body at any point keeps the invariant and leaves each buffer at its contents. -/
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl,
    after0, after1, after2, after3, after4, after5, after6, after7, after8, after9, after10, after11, after12, after13, after14]
  rw [show (dats m 0 c).Φ t.succ = carried c (after m c t.val t.isLt) from rfl, inv_castSucc m c t]
  have hN := lt32 t
  by_cases h : t.val % 32 = 0
  · rw [inv_zero m c _ _ (by omega), PhiA0_eq, after_A m c t h]
    unfold stepA carried; dsimp only
    · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runA m c t h).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · iapply owns_of_writes (coverA4 m c t h) $$ HS0
          iapply owns_of_writes (coverA5 m c t h) $$ HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iapply owns_of_writes (coverA0 m c t h) $$ H11
      isplitl [H12]; · iapply owns_of_writes (coverA1 m c t h) $$ H12
      isplitl [H13]; · iapply owns_of_writes (coverA2 m c t h) $$ H13
      iapply owns_of_writes (coverA3 m c t h) $$ H14
  · simp only [before14 m c t h]
    rw [inv_pos m c _ _ (by omega), after_B m c t h]
    unfold stepB carried; dsimp only
    · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runB m c t h _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexact H14
      isplitl [HS0]; · iexact HS0
      isplitl [HS1]; · iexact HS1
      iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · iapply owns_of_writes (coverB4 m c t h _ _ _) $$ HS0
          iapply owns_of_writes (coverB5 m c t h _ _ _) $$ HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iapply owns_of_writes (coverB0 m c t h _ _ _) $$ H11
      isplitl [H12]; · iapply owns_of_writes (coverB1 m c t h _ _ _) $$ H12
      isplitl [H13]; · iapply owns_of_writes (coverB2 m c t h _ _ _) $$ H13
      iapply owns_of_writes (coverB3 m c t h _ _ _) $$ H14

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound m c t) rfl .rfl fun _ => .rfl

theorem enter (c : Dev nD) : Pipeline.ΦA spec0 c ⊢ (dats m 0 c).Φ 0 := by
  rw [show (dats m 0 c).Φ 0 = inv m c 0 (Nat.zero_le _) from rfl, inv_zero m c 0 _ rfl]

/-- The carried buffers' contents are forgotten after the last point. -/
theorem leave (c : Dev nD) : (dats m 0 c).Φ (Fin.last cfg0.N) ⊢ Pipeline.ΦA spec0 c := by
  rw [show (dats m 0 c).Φ (Fin.last cfg0.N) = inv m c cfg0.N le_rfl from rfl, inv_pos m c _ _ (by have : cfg0.N = 32 := N_0; omega), PhiA0_eq]
  unfold carried
  iintro ⟨⟨HS0, HS1⟩, Hg⟩
  isplitl [HS0 HS1]
  · isplitl [HS0]
    · iexists _; iexact HS0
    iexists _; iexact HS1
  iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.SwaBwdIdeal.Hand

end
-- ==== Proof.SwaBlocks.lean ====
/- What the windowed-attention gradient's blocks hold, over the reals. -/
module

public import proofs.«01_k».proof.Proof.SwaOps
public import proofs.«01_k».proof.Proof.SwaSpec
public import proofs.«01_k».proof.Proof.SwaBwdFrame
public import Idealize.ShloMosaic.Lib.Pipeline.ValueKit
public import Idealize.ShloMosaic.Lib.Routing.OpsSet
public import Idealize.ShloMosaic.Lib.StableHlo.ReadAt

@[expose] public section

set_option maxRecDepth 16384

noncomputable section

namespace Cert.SwaBwdIdeal.Real

open Idealize.ShloMosaic Cert.RealLift Cert.SwaBwdIdeal Cert.SwaBwdIdeal.Gen Cert.Swa Idealize.SL.Sem Idealize.ShloMosaic.TcCoe

variable (m : (ℓ : Loc nD τ sig) → Buf (Elt Ideal) ℓ) (c : Dev nD)
variable (p : Fin 4096 → Fin 4876 → ℝ) (dc : Fin 4096 → Fin 2048 → ℝ) (s : Fin 6 → ℝ)
variable (hp : m ((c : Thread nD τ).loc main_arg0) = upf p)
variable (hdc : m ((c : Thread nD τ).loc main_arg1) = upf dc)
variable (hs : m ((c : Thread nD τ).loc main_arg3) = fun i => ((s (i 0) : ℝ) : EReal))

/-- The positions. -/
def posn (r : Fin 4096) : BitVec 32 := (m ((c : Thread nD τ).loc main_arg2) : S4096.Idx → BitVec 32) (ix1 r)

theorem v19 (r : Fin 4096) (d : Fin 128) : (V m c main_v19 : S4096x128.Idx → EReal) (ix2 r d) = ((cosT (posn m c r) d : ℝ) : EReal) := by
  entry_read
  pointwise
  by_cases h : d.val < 64
  · rw [dif_pos h]
    refine Eq.trans (congrArg Ideal.cos (ang_eq (posn m c r) d.val)) ?_
    rw [Ideal.cos_coe, cosT, Nat.mod_eq_of_lt h]
  · rw [dif_neg h]
    refine Eq.trans (congrArg Ideal.cos (ang_eq (posn m c r) (d.val - 64))) ?_
    rw [Ideal.cos_coe, cosT, show d.val % 64 = d.val - 64 by omega]

theorem v21 (r : Fin 4096) (d : Fin 128) : (V m c main_v21 : S4096x128.Idx → EReal) (ix2 r d) = ((sinT (posn m c r) d : ℝ) : EReal) := by
  entry_read
  pointwise
  by_cases h : d.val < 64
  · rw [dif_pos h]
    refine Eq.trans (congrArg (fun x => -Ideal.sin x) (ang_eq (posn m c r) d.val)) ?_
    rw [Ideal.sin_coe, sinT, Nat.mod_eq_of_lt h, if_pos h, EReal.coe_neg]
  · rw [dif_neg h]
    refine Eq.trans (congrArg Ideal.sin (ang_eq (posn m c r) (d.val - 64))) ?_
    rw [Ideal.sin_coe, sinT, show d.val % 64 = d.val - 64 by omega, if_neg h]

/-- The sinks on a row of lanes, zeros behind them. -/
def wide (l : Fin 128) : ℝ := if h : l.val < 6 then s ⟨l.val, h⟩ else 0

include hs in
theorem v25 (d : Fin 128) : (V m c main_v25 : S1x128.Idx → EReal) (ix2 0 d) = ((wide s d : ℝ) : EReal) := by
  entry_read
  pointwise
  have e : ∀ k : S6.Idx, scatter_S128_S1_S6_0_n_0_0.resultIdx? k (broadcastInDim S1 ![] bcast_S_S1 (constantI S_ 32 0#32)) = some (ix1 d) ↔ (k 0).val = d.val := fun k => by
    refine (Routing.resultIdx?_ix1 _ k _ d).trans ?_
    have h1 : scatter_S128_S1_S6_0_n_0_0.start k (broadcastInDim S1 ![] bcast_S_S1 (constantI S_ 32 0#32)) 0 = 0 := rfl
    have h2 : scatter_S128_S1_S6_0_n_0_0.window k 0 = (k 0).val := rfl
    rw [h1, h2]
    omega
  rw [hs, wide]
  split
  · rename_i h
    refine Routing.scatter_set_hit _ _ _ _ _ _ (fun k hk => ?_) (ix1 ⟨d.val, h⟩) ((e _).mpr rfl)
    exact congrArg (fun i => ((s i : ℝ) : EReal)) (Fin.ext ((e k).mp hk))
  · rename_i h
    refine (Routing.scatter_set_miss _ _ _ _ _ fun k hk => h ?_).trans ?_
    · rw [← (e k).mp hk]
      exact (k 0).isLt
    · pointwise
      rfl

include hp in
theorem v33 (r : Fin 4096) (j : Fin 4992) (h : 3072 ≤ j.val) (h' : j.val < 4352) : (V m c main_v33 : S4096x4992.Idx → EReal) (ix2 r j) = ((p r ⟨j.val + 524, by omega⟩ : ℝ) : EReal) := by
  unfold V
  after_reads_at
  rw [dif_neg (by omega)]
  have e : ∀ k : Fin 4876, k.val = j.val + 524 → (m ((c : Thread nD τ).loc main_arg0) : S4096x4876.Idx → EReal) (ix2 r k) = ((p r ⟨j.val + 524, by omega⟩ : ℝ) : EReal) := fun k hk => by
    rw [hp]
    exact congrArg (fun k => ((p r k : ℝ) : EReal)) (Fin.ext hk)
  by_cases h1 : j.val - 3072 < 768
  · rw [dif_pos h1]
    refine (congrFun (StableHlo.unary_result' _ _ _ _) _).trans ?_
    after_reads_at
    refine e _ ?_
    dsimp only
    omega
  · rw [dif_neg h1]
    by_cases h2 : j.val - 3072 - 768 < 256
    · rw [dif_pos h2]
      refine (congrFun (StableHlo.unary_result' _ _ _ _) _).trans ?_
      after_reads_at
      refine e _ ?_
      dsimp only
      omega
    · rw [dif_neg h2, dif_pos (by omega)]
      refine (congrFun (StableHlo.unary_result' _ _ _ _) _).trans ?_
      after_reads_at
      refine e _ ?_
      dsimp only
      omega

include hdc in
theorem v37 (r : Fin 4096) (j : Fin 2048) (h : 768 ≤ j.val) (h' : j.val < 1536) : (V m c main_v37 : S4096x2048.Idx → EReal) (ix2 r j) = ((dc r ⟨j.val + 512, by omega⟩ : ℝ) : EReal) := by
  unfold V
  after_reads_at
  rw [dif_neg (by omega), dif_pos (by omega)]
  refine (congrFun (StableHlo.unary_result' _ _ _ _) _).trans ?_
  after_reads_at
  have e : ∀ k : Fin 2048, k.val = j.val + 512 → (m ((c : Thread nD τ).loc main_arg1) : S4096x2048.Idx → EReal) (ix2 r k) = ((dc r ⟨j.val + 512, by omega⟩ : ℝ) : EReal) := fun k hk => by
    rw [hdc]
    exact congrArg (fun k => ((dc r k : ℝ) : EReal)) (Fin.ext hk)
  refine e _ ?_
  dsimp only
  omega

/-- The block of a grid point, last first. -/
def blkOf (t : Fin cfg0.N) : Fin 32 := ⟨31 - t.val, by omega⟩

theorem idx0 (t : Fin cfg0.N) : win0_0.index t = ![(blkOf t).val, 4] ∧ win0_1.index t = ![(blkOf t).val, 15] ∧ win0_2.index t = ![(prv (blkOf t)).val, 15] ∧
    win0_3.index t = ![(blkOf t).val, 16] ∧ win0_4.index t = ![(prv (blkOf t)).val, 16] ∧ win0_5.index t = ![(blkOf t).val, 0] ∧ win0_6.index t = ![(blkOf t).val, 0] ∧
    win0_7.index t = ![(prv (blkOf t)).val, 0] ∧ win0_8.index t = ![(prv (blkOf t)).val, 0] ∧ win0_9.index t = ![0, 0] ∧ win0_10.index t = ![(blkOf t).val, 1] :=
  (by decide +kernel : ∀ t : Fin grid0.N, win0_0.index t = ![(blkOf t).val, 4] ∧ win0_1.index t = ![(blkOf t).val, 15] ∧ win0_2.index t = ![(prv (blkOf t)).val, 15] ∧
    win0_3.index t = ![(blkOf t).val, 16] ∧ win0_4.index t = ![(prv (blkOf t)).val, 16] ∧ win0_5.index t = ![(blkOf t).val, 0] ∧ win0_6.index t = ![(blkOf t).val, 0] ∧
    win0_7.index t = ![(prv (blkOf t)).val, 0] ∧ win0_8.index t = ![(prv (blkOf t)).val, 0] ∧ win0_9.index t = ![0, 0] ∧ win0_10.index t = ![(blkOf t).val, 1]) t

include hp in
theorem in_q (t : Fin cfg0.N) : (X0_0 m c t : S128x768.Idx → EReal) = upf fun i d => p (row (blkOf t) i) ⟨3596 + d.val, by omega⟩ := by
  refine eq_upf fun i d => ?_
  unfold X0_0 Pipeline.Window.fill
  rw [dif_pos (moved0_0 t _)]
  refine Eq.trans ?_ ((v33 m c p hp (row (blkOf t) i) ⟨3072 + d.val, by omega⟩ (by dsimp only; omega) (by dsimp only; omega)).trans
    (congrArg (fun k => ((p (row (blkOf t) i) k : ℝ) : EReal)) (Fin.ext (by dsimp only; omega))))
  blk_ext [iblk, idx0 t, row]

include hp in
theorem in_kc (t : Fin cfg0.N) : (X0_1 m c t : S128x256.Idx → EReal) = upf fun i d => p (row (blkOf t) i) ⟨4364 + d.val, by omega⟩ := by
  refine eq_upf fun i d => ?_
  unfold X0_1 Pipeline.Window.fill
  rw [dif_pos (moved0_1 t _)]
  refine Eq.trans ?_ ((v33 m c p hp (row (blkOf t) i) ⟨3840 + d.val, by omega⟩ (by dsimp only; omega) (by dsimp only; omega)).trans
    (congrArg (fun k => ((p (row (blkOf t) i) k : ℝ) : EReal)) (Fin.ext (by dsimp only; omega))))
  blk_ext [iblk, idx0 t, row]

include hp in
theorem in_kp (t : Fin cfg0.N) : (X0_2 m c t : S128x256.Idx → EReal) = upf fun i d => p (row (prv (blkOf t)) i) ⟨4364 + d.val, by omega⟩ := by
  refine eq_upf fun i d => ?_
  unfold X0_2 Pipeline.Window.fill
  rw [dif_pos (moved0_2 t _)]
  refine Eq.trans ?_ ((v33 m c p hp (row (prv (blkOf t)) i) ⟨3840 + d.val, by omega⟩ (by dsimp only; omega) (by dsimp only; omega)).trans
    (congrArg (fun k => ((p (row (prv (blkOf t)) i) k : ℝ) : EReal)) (Fin.ext (by dsimp only; omega))))
  blk_ext [iblk, idx0 t, row]

include hp in
theorem in_vc (t : Fin cfg0.N) : (X0_3 m c t : S128x256.Idx → EReal) = upf fun i d => p (row (blkOf t) i) ⟨4620 + d.val, by omega⟩ := by
  refine eq_upf fun i d => ?_
  unfold X0_3 Pipeline.Window.fill
  rw [dif_pos (moved0_3 t _)]
  refine Eq.trans ?_ ((v33 m c p hp (row (blkOf t) i) ⟨4096 + d.val, by omega⟩ (by dsimp only; omega) (by dsimp only; omega)).trans
    (congrArg (fun k => ((p (row (blkOf t) i) k : ℝ) : EReal)) (Fin.ext (by dsimp only; omega))))
  blk_ext [iblk, idx0 t, row]

include hp in
theorem in_vp (t : Fin cfg0.N) : (X0_4 m c t : S128x256.Idx → EReal) = upf fun i d => p (row (prv (blkOf t)) i) ⟨4620 + d.val, by omega⟩ := by
  refine eq_upf fun i d => ?_
  unfold X0_4 Pipeline.Window.fill
  rw [dif_pos (moved0_4 t _)]
  refine Eq.trans ?_ ((v33 m c p hp (row (prv (blkOf t)) i) ⟨4096 + d.val, by omega⟩ (by dsimp only; omega) (by dsimp only; omega)).trans
    (congrArg (fun k => ((p (row (prv (blkOf t)) i) k : ℝ) : EReal)) (Fin.ext (by dsimp only; omega))))
  blk_ext [iblk, idx0 t, row]

include hdc in
theorem in_o (t : Fin cfg0.N) : (X0_10 m c t : S128x768.Idx → EReal) = upf fun i d => dc (row (blkOf t) i) ⟨1280 + d.val, by omega⟩ := by
  refine eq_upf fun i d => ?_
  unfold X0_10 Pipeline.Window.fill
  rw [dif_pos (moved0_10 t _)]
  refine Eq.trans ?_ ((v37 m c dc hdc (row (blkOf t) i) ⟨768 + d.val, by omega⟩ (by dsimp only; omega) (by dsimp only; omega)).trans
    (congrArg (fun k => ((dc (row (blkOf t) i) k : ℝ) : EReal)) (Fin.ext (by dsimp only; omega))))
  blk_ext [iblk, idx0 t, row]

theorem in_cc (t : Fin cfg0.N) : (iblk m c 5 t : S128x128.Idx → EReal) = upf fun i => cosT (posn m c (row (blkOf t) i)) := by
  refine eq_upf fun i d => Eq.trans ?_ (v19 m c (row (blkOf t) i) d)
  blk_ext [iblk, idx0 t, row]

theorem in_sc (t : Fin cfg0.N) : (iblk m c 6 t : S128x128.Idx → EReal) = upf fun i => sinT (posn m c (row (blkOf t) i)) := by
  refine eq_upf fun i d => Eq.trans ?_ (v21 m c (row (blkOf t) i) d)
  blk_ext [iblk, idx0 t, row]

theorem in_cp (t : Fin cfg0.N) : (iblk m c 7 t : S128x128.Idx → EReal) = upf fun i => cosT (posn m c (row (prv (blkOf t)) i)) := by
  refine eq_upf fun i d => Eq.trans ?_ (v19 m c (row (prv (blkOf t)) i) d)
  blk_ext [iblk, idx0 t, row]

theorem in_sp (t : Fin cfg0.N) : (iblk m c 8 t : S128x128.Idx → EReal) = upf fun i => sinT (posn m c (row (prv (blkOf t)) i)) := by
  refine eq_upf fun i d => Eq.trans ?_ (v21 m c (row (prv (blkOf t)) i) d)
  blk_ext [iblk, idx0 t, row]

include hs in
theorem in_sk (t : Fin cfg0.N) : (iblk m c 9 t : S1x128.Idx → EReal) = upf fun _ => wide s := by
  refine eq_upf fun i d => Eq.trans ?_ (v25 m c s hs d)
  obtain rfl : i = 0 := Subsingleton.elim _ _
  blk_ext [iblk, idx0 t]

end Cert.SwaBwdIdeal.Real
end
-- ==== Proof.SwaHeads.lean ====
/- The gradient kernel's arithmetic for its two groups of heads, from blocks of reals. -/
module

public import proofs.«01_k».proof.Proof.SwaOps

@[expose] public section

set_option maxRecDepth 16384

noncomputable section

namespace Cert.SwaBwdIdeal.Real

open Idealize.ShloMosaic Cert.RealLift Cert.SwaBwdIdeal Cert.SwaBwdIdeal.Gen Cert.Swa

variable (q o : Fin 128 → Fin 768 → ℝ) (kc kp vc vp : Fin 128 → Fin 256 → ℝ) (cc sc cp sp : Fin 128 → Fin 128 → ℝ) (sk : Fin 1 → Fin 128 → ℝ) (n : Fin 32)

/-- A group's queries, keys, values, cotangents and sinks. -/
abbrev hq (h : Fin 2) (g : Fin 3) (r : Fin 128) : Fin 128 → ℝ := rot (cc r) (sc r) (cb (n := 6) q (hd h g) r)
abbrev hk (h : Fin 2) : Fin 256 → Fin 128 → ℝ := band (fun r => rot (cp r) (sp r) (cb (n := 2) kp h r)) (fun r => rot (cc r) (sc r) (cb (n := 2) kc h r))
abbrev hv (h : Fin 2) : Fin 256 → Fin 128 → ℝ := band (cb (n := 2) vp h) (cb (n := 2) vc h)
abbrev ho (h : Fin 2) (g : Fin 3) (r : Fin 128) : Fin 128 → ℝ := cb (n := 6) o (hd h g) r
abbrev hz (h : Fin 2) (g : Fin 3) : ℝ := sk 0 ((hd h g).castLE (by decide))

/-- The scores, as each group computes them. -/
abbrev sc0 : FVec Ideal S384x256 .f32 :=
  k0_pay22 (k0_pay8 (upf q)) (k0_pay9 (upf kc)) (k0_pay12 (upf cc)) (k0_pay13 (upf sc)) (k0_pay14 (upf sp)) (k0_pay17 (upf kp) (upf cp)) (k0_pay18 (upf kp))
abbrev sc1 : FVec Ideal S384x256 .f32 := k0_pay34 (k0_pay23 (upf q)) (k0_pay24 (upf kc)) (k0_pay25 (upf kp)) (upf cc) (upf sc) (upf cp) (upf sp)

theorem sc0_eq : sc0 q kc kp cc sc cp sp = upf (st (score (hq q cc sc 0) (hk kc kp cc sc cp sp 0))) := by
  unfold sc0 k0_pay22
  dsimp only
  rw [qb0, kb0]
  exact score_eq _ _

theorem sc1_eq : sc1 q kc kp cc sc cp sp = upf (st (score (hq q cc sc 1) (hk kc kp cc sc cp sp 1))) := by
  unfold sc1 k0_pay34
  dsimp only
  rw [qb1, kb1]
  exact score_eq _ _

abbrev io : IVec S384x256 32 := iota .tc S384x256 32 [0] iota_S384x256_d0_w32
abbrev bw : BitVec 32 := BitVec.ofNat 32 n

theorem msk0 : k0_pay35 (F := Ideal) (bw n) (sc0 q kc kp cc sc cp sp) = msc (hq q cc sc 0) (hk kc kp cc sc cp sp 0) n := by
  rw [sc0_eq]
  exact masked_eq n _ _

theorem msk1 : k0_pay45 (F := Ideal) (bw n) (sc1 q kc kp cc sc cp sp) io = msc (hq q cc sc 1) (hk kc kp cc sc cp sp 1) n := by
  rw [sc1_eq]
  exact masked_eq n _ _

/-- The probabilities. -/
abbrev pr0 : FVec Ideal S384x256 .f32 := k0_pay41 (bw n) (k0_pay15 (upf sk)) (sc0 q kc kp cc sc cp sp)
abbrev pr1 : FVec Ideal S384x256 .f32 := k0_pay51 (bw n) (k0_pay30 (upf sk)) (sc1 q kc kp cc sc cp sp) io

theorem pr0_eq : pr0 q kc kp cc sc cp sp sk n = upf (st (pn (hq q cc sc 0) (hk kc kp cc sc cp sp 0) (hz sk 0) n)) := by
  refine Eq.trans (b := nrm (k0_pay35 (bw n) (sc0 q kc kp cc sc cp sp)) (k0_pay36 (k0_pay15 (upf sk)))) rfl ?_
  rw [msk0, sk0]
  exact nrm_eq _ _ _ _

theorem pr1_eq : pr1 q kc kp cc sc cp sp sk n = upf (st (pn (hq q cc sc 1) (hk kc kp cc sc cp sp 1) (hz sk 1) n)) := by
  refine Eq.trans (b := nrm (k0_pay45 (bw n) (sc1 q kc kp cc sc cp sp) io) (k0_pay46 (k0_pay30 (upf sk)))) rfl ?_
  rw [msk1, sk1]
  exact nrm_eq _ _ _ _

/-- The gradients of the probabilities. -/
abbrev dp0 : FVec Ideal S384x256 .f32 := k0_pay43 (k0_pay7 (upf o)) (k0_pay20 (k0_pay10 (upf vc)) (k0_pay11 (upf vp)))
abbrev dp1 : FVec Ideal S384x256 .f32 := k0_pay53 (k0_pay7 (upf o)) (k0_pay32 (k0_pay26 (upf vc)) (k0_pay27 (upf vp)))

theorem dp0_eq : dp0 o vc vp = upf (st (dp (ho o 0) (hv vc vp 0))) := by
  unfold dp0 k0_pay43
  dsimp only
  rw [ob0, vb0]
  exact dp_eq _ _

theorem dp1_eq : dp1 o vc vp = upf (st (dp (ho o 1) (hv vc vp 1))) := by
  unfold dp1 k0_pay53
  dsimp only
  rw [ob1, vb1]
  exact dp_eq _ _

/-- The gradients: queries. -/
theorem q0 : k0_pay58 (k0_pay19 (k0_pay9 (upf kc)) (k0_pay12 (upf cc)) (k0_pay13 (upf sc)) (k0_pay14 (upf sp)) (k0_pay17 (upf kp) (upf cp)) (k0_pay18 (upf kp)))
    (pr0 q kc kp cc sc cp sp sk n) (dp0 o vc vp) (k0_pay55 (pr0 q kc kp cc sc cp sp sk n) (dp0 o vc vp))
    = upf (st (dq (hq q cc sc 0) (ho o 0) (hk kc kp cc sc cp sp 0) (hv vc vp 0) (hz sk 0) n)) := by
  rw [pr0_eq, dp0_eq, kb0]
  exact dq_eq _ _ _ _ _ _

theorem q1 : k0_pay62 (k0_pay31 (k0_pay24 (upf kc)) (k0_pay25 (upf kp)) (upf cc) (upf sc) (upf cp) (upf sp)) (pr1 q kc kp cc sc cp sp sk n) (dp1 o vc vp)
    = upf (st (dq (hq q cc sc 1) (ho o 1) (hk kc kp cc sc cp sp 1) (hv vc vp 1) (hz sk 1) n)) := by
  rw [pr1_eq, dp1_eq, kb1]
  exact dq_eq _ _ _ _ _ _

/-- Keys. -/
theorem k0 : k0_pay59 (k0_pay21 (k0_pay8 (upf q)) (k0_pay12 (upf cc)) (k0_pay13 (upf sc)))
    (pr0 q kc kp cc sc cp sp sk n) (dp0 o vc vp) (k0_pay55 (pr0 q kc kp cc sc cp sp sk n) (dp0 o vc vp))
    = upf (dk (hq q cc sc 0) (ho o 0) (hk kc kp cc sc cp sp 0) (hv vc vp 0) (hz sk 0) n) := by
  rw [pr0_eq, dp0_eq, qb0]
  exact dk_eq _ _ _ _ _ _

theorem k1 : k0_pay63 (k0_pay33 (k0_pay23 (upf q)) (upf cc) (upf sc)) (pr1 q kc kp cc sc cp sp sk n) (dp1 o vc vp)
    = upf (dk (hq q cc sc 1) (ho o 1) (hk kc kp cc sc cp sp 1) (hv vc vp 1) (hz sk 1) n) := by
  rw [pr1_eq, dp1_eq, qb1]
  exact dk_eq _ _ _ _ _ _

/-- Values. -/
theorem v0 : k0_pay44 (bw n) (k0_pay7 (upf o)) (k0_pay15 (upf sk)) (sc0 q kc kp cc sc cp sp) = upf (dv (hq q cc sc 0) (ho o 0) (hk kc kp cc sc cp sp 0) (hz sk 0) n) := by
  unfold k0_pay44
  dsimp only
  rw [show k0_pay41 (bw n) (k0_pay15 (upf sk)) (sc0 q kc kp cc sc cp sp) = _ from pr0_eq q kc kp cc sc cp sp sk n, ob0]
  exact dv_eq _ _ _ _ _

theorem v1 : k0_pay54 (bw n) (k0_pay7 (upf o)) (k0_pay30 (upf sk)) (sc1 q kc kp cc sc cp sp) io = upf (dv (hq q cc sc 1) (ho o 1) (hk kc kp cc sc cp sp 1) (hz sk 1) n) := by
  unfold k0_pay54
  dsimp only
  rw [show k0_pay51 (bw n) (k0_pay30 (upf sk)) (sc1 q kc kp cc sc cp sp) io = _ from pr1_eq q kc kp cc sc cp sp sk n, ob1]
  exact dv_eq _ _ _ _ _

/-- A group's rows of the sinks' gradients. -/
abbrev hg (h : Fin 2) (g : Fin 3) (i : Fin 128) : ℝ := -(Real.exp (hz sk h g) / tot (hq q cc sc h) (hk kc kp cc sc cp sp h) (hz sk h) n g i) *
  del (hq q cc sc h) (ho o h) (hk kc kp cc sc cp sp h) (hv vc vp h) (hz sk h) n g i

theorem s0 : k0_pay64 (k0_pay39 (bw n) (k0_pay15 (upf sk)) (sc0 q kc kp cc sc cp sp)) (k0_pay40 (bw n) (k0_pay15 (upf sk)) (sc0 q kc kp cc sc cp sp))
    (k0_pay55 (pr0 q kc kp cc sc cp sp sk n) (dp0 o vc vp)) = upf (st fun g i (_ : Fin 1) => hg q o kc kp vc vp cc sc cp sp sk n 0 g i) := by
  rw [pr0_eq, dp0_eq]
  refine Eq.trans (b := k0_pay64 (es (k0_pay35 (bw n) (sc0 q kc kp cc sc cp sp)) (k0_pay36 (k0_pay15 (upf sk))))
    (tt (k0_pay35 (bw n) (sc0 q kc kp cc sc cp sp)) (k0_pay36 (k0_pay15 (upf sk)))) _) rfl ?_
  rw [msk0, sk0]
  exact snk_row _ _ _ _ _ _

theorem s1 : k0_pay65 (k0_pay49 (bw n) (k0_pay30 (upf sk)) (sc1 q kc kp cc sc cp sp) io) (k0_pay50 (bw n) (k0_pay30 (upf sk)) (sc1 q kc kp cc sc cp sp) io)
    (pr1 q kc kp cc sc cp sp sk n) (dp1 o vc vp) = upf (st fun g i (_ : Fin 1) => hg q o kc kp vc vp cc sc cp sp sk n 1 g i) := by
  rw [pr1_eq, dp1_eq]
  refine Eq.trans (b := k0_pay64 (es (k0_pay45 (bw n) (sc1 q kc kp cc sc cp sp) io) (k0_pay46 (k0_pay30 (upf sk))))
    (tt (k0_pay45 (bw n) (sc1 q kc kp cc sc cp sp) io) (k0_pay46 (k0_pay30 (upf sk)))) (k0_pay55 _ _)) rfl ?_
  rw [msk1, sk1]
  exact snk_row _ _ _ _ _ _

end Cert.SwaBwdIdeal.Real
end
-- ==== Proof.SwaStore.lean ====
/- What the gradient kernel's stores leave in its result blocks, from the arithmetic's arrays of reals. -/
module

public import proofs.«01_k».proof.Proof.SwaHeads
public import proofs.«01_k».proof.Proof.SwaSpec
public import Idealize.ShloMosaic.Lib.Pipeline.ValueKit

@[expose] public section

set_option maxRecDepth 16384

noncomputable section

namespace Cert.SwaBwdIdeal.Real

open Idealize.ShloMosaic Cert.RealLift Cert.SwaBwdIdeal Cert.SwaBwdIdeal.Gen Cert.Swa

variable (cc sc cp sp : Fin 128 → Fin 128 → ℝ)

theorem tile_q (f : Fin 2 → Fin 3 → Fin 128 → Fin 128 → ℝ) (h : Fin 2) (g : Fin 3) (r d i : Fin 128) (j : Fin 768) (h0 : i.val = r.val) (h1 : j.val = h.val * 384 + g.val * 128 + d.val) :
    ((rotT (cc r) (sc r) (f h g r) d : ℝ) : EReal) = ((rotT (cc i) (sc i) (f (jh j) (jg j) i) (jd j) : ℝ) : EReal) := by
  obtain rfl : i = r := Fin.ext h0
  obtain rfl : jh j = h := Fin.ext (by simp only [jh]; omega)
  obtain rfl : jg j = g := Fin.ext (by simp only [jg]; omega)
  obtain rfl : jd j = d := Fin.ext (by simp only [jd]; omega)
  rfl

theorem tile_k (F : Fin 128 → Fin 2 → Fin 128 → ℝ) (h : Fin 2) (r d i : Fin 128) (j : Fin 256) (h0 : i.val = r.val) (h1 : j.val = h.val * 128 + d.val) :
    ((F r h d : ℝ) : EReal) = ((F i (kh j) (kd j) : ℝ) : EReal) := by
  obtain rfl : i = r := Fin.ext h0
  obtain rfl : kh j = h := Fin.ext (by simp only [kh]; omega)
  obtain rfl : kd j = d := Fin.ext (by simp only [kd]; omega)
  rfl

/-- The queries' block. -/
theorem canQ (f : Fin 2 → Fin 3 → Fin 128 → Fin 128 → ℝ) :
    View.canon (Val := Elt Ideal) (s := S128x768) (e := .bf16) [⟨Rect.unit ![0, 640] ![128, 128] inb_S128x768_S128x128_0_640, k0_pay86 (F := Ideal) (upf (st (f 1))) (upf cc) (upf sc)⟩,
      ⟨Rect.unit ![0, 512] ![128, 128] inb_S128x768_S128x128_0_512, k0_pay85 (F := Ideal) (upf (st (f 1))) (upf cc) (upf sc)⟩,
      ⟨Rect.unit ![0, 384] ![128, 128] inb_S128x768_S128x128_0_384, k0_pay84 (F := Ideal) (upf (st (f 1))) (upf cc) (upf sc)⟩,
      ⟨Rect.unit ![0, 256] ![128, 128] inb_S128x768_S128x128_0_256, k0_pay74 (F := Ideal) (upf (st (f 0))) (upf cc) (upf sc)⟩,
      ⟨Rect.unit ![0, 128] ![128, 128] inb_S128x768_S128x128_0_128, k0_pay73 (F := Ideal) (k0_pay71 (upf (st (f 0))) (upf cc)) (k0_pay72 (upf (st (f 0))) (upf sc)) 64#32⟩,
      ⟨Rect.unit ![0, 0] ![128, 128] inb_S128x768_S128x128_0_0, k0_pay69 (F := Ideal) (upf (st (f 0))) (upf cc) (upf sc)⟩]
    = upf fun i j => rotT (cc i) (sc i) (f (jh j) (jg j) i) (jd j) := by
  funext y
  canon_tiles x h
  all_goals idx_vars x; idx_vars y
  · exact (put_q2 _ _ _ _ _).trans ((congrArg (fun z => ((rotT _ _ z _ : ℝ) : EReal)) (st2 (f 1) _ _)).trans (tile_q cc sc f 1 2 _ _ _ _ h0 h1))
  · exact (put_q1 _ _ _ _ _).trans ((congrArg (fun z => ((rotT _ _ z _ : ℝ) : EReal)) (st1 (f 1) _ _)).trans (tile_q cc sc f 1 1 _ _ _ _ h0 h1))
  · exact (put_q0 _ _ _ _ _).trans ((congrArg (fun z => ((rotT _ _ z _ : ℝ) : EReal)) (st0 (f 1) _ _)).trans (tile_q cc sc f 1 0 _ _ _ _ h0 h1))
  · exact (put_q2 _ _ _ _ _).trans ((congrArg (fun z => ((rotT _ _ z _ : ℝ) : EReal)) (st2 (f 0) _ _)).trans (tile_q cc sc f 0 2 _ _ _ _ h0 h1))
  · exact (put_q1 _ _ _ _ _).trans ((congrArg (fun z => ((rotT _ _ z _ : ℝ) : EReal)) (st1 (f 0) _ _)).trans (tile_q cc sc f 0 1 _ _ _ _ h0 h1))
  · exact (put_q0 _ _ _ _ _).trans ((congrArg (fun z => ((rotT _ _ z _ : ℝ) : EReal)) (st0 (f 0) _ _)).trans (tile_q cc sc f 0 0 _ _ _ _ h0 (h1.trans (Nat.zero_add _).symm)))

/-- A group's columns of a block of the keys'. -/
def half (y : Fin 128 → Fin 256 → ℝ) (h : Fin 2) (i d : Fin 128) : ℝ := y i ⟨h.val * 128 + d.val, by omega⟩

theorem half_eq (y : Fin 128 → Fin 256 → ℝ) (i : Fin 128) (j : Fin 256) : half y (kh j) i (kd j) = y i j :=
  congrArg (y i) (Fin.ext (by simp only [kh, kd]; omega))

/-- The keys' and the values' blocks. -/
theorem canK (b : Fin 2 → Fin 256 → Fin 128 → ℝ) (y : Fin 128 → Fin 256 → ℝ) :
    View.canon (Val := Elt Ideal) (s := S128x256) (e := .bf16) [⟨Rect.unit ![0, 128] ![128, 128] inb_S128x256_S128x128_0_128, k0_pay87 (F := Ideal) (upf (b 1)) (upf cc) (upf sc) (upf (half y 1))⟩,
      ⟨Rect.unit ![0, 0] ![128, 128] inb_S128x256_S128x128_0_0, k0_pay75 (F := Ideal) (upf (b 0)) (upf cc) (upf sc) (upf (half y 0))⟩]
    = upf fun i j => rotT (cc i) (sc i) (b (kh j) ⟨128 + i.val, by omega⟩) (kd j) + y i j := by
  funext z
  canon_tiles x h
  all_goals idx_vars x; idx_vars z
  · refine (put_k _ _ _ _ _ _).trans ((tile_k (fun i h d => rotT (cc i) (sc i) (b h ⟨128 + i.val, by omega⟩) d + half y h i d) 1 _ _ _ _ h0 h1).trans ?_)
    rw [half_eq]
    rfl
  · refine (put_k _ _ _ _ _ _).trans ((tile_k (fun i h d => rotT (cc i) (sc i) (b h ⟨128 + i.val, by omega⟩) d + half y h i d) 0 _ _ _ _ h0 (h1.trans (Nat.zero_add _).symm)).trans ?_)
    rw [half_eq]
    rfl

theorem canV (b : Fin 2 → Fin 256 → Fin 128 → ℝ) (y : Fin 128 → Fin 256 → ℝ) :
    View.canon (Val := Elt Ideal) (s := S128x256) (e := .bf16) [⟨Rect.unit ![0, 128] ![128, 128] inb_S128x256_S128x128_0_128, k0_pay88 (F := Ideal) (upf (b 1)) (upf (half y 1))⟩,
      ⟨Rect.unit ![0, 0] ![128, 128] inb_S128x256_S128x128_0_0, k0_pay76 (F := Ideal) (upf (b 0)) (upf (half y 0))⟩]
    = upf fun i j => b (kh j) ⟨128 + i.val, by omega⟩ (kd j) + y i j := by
  funext z
  canon_tiles x h
  all_goals idx_vars x; idx_vars z
  · refine (put_v _ _ _ _).trans ((tile_k (fun i h d => b h ⟨128 + i.val, by omega⟩ d + half y h i d) 1 _ _ _ _ h0 h1).trans ?_)
    rw [half_eq]
    rfl
  · refine (put_v _ _ _ _).trans ((tile_k (fun i h d => b h ⟨128 + i.val, by omega⟩ d + half y h i d) 0 _ _ _ _ h0 (h1.trans (Nat.zero_add _).symm)).trans ?_)
    rw [half_eq]
    rfl

/-- Two stores that cover a block hide what was stored before them. -/
theorem canon_two {S : Shape} {e : EltTy} (a b : View.Piece (Elt Ideal) S e) (L : List (View.Piece (Elt Ideal) S e)) (y : S.Idx) (hc : ∃ p ∈ [a, b], y ∈ p.1.set) :
    View.canon (a :: b :: L) y = View.canon [a, b] y := by
  by_cases h1 : y ∈ a.1.set
  · obtain ⟨x, rfl⟩ := a.1.exists_idx_of_mem h1
    exact (View.canon_cons_emb a.1 a.2 _ x).trans (View.canon_cons_emb a.1 a.2 _ x).symm
  · rw [View.canon_cons_of_not_mem a _ h1, View.canon_cons_of_not_mem a _ h1]
    by_cases h2 : y ∈ b.1.set
    · obtain ⟨x, rfl⟩ := b.1.exists_idx_of_mem h2
      exact (View.canon_cons_emb b.1 b.2 _ x).trans (View.canon_cons_emb b.1 b.2 _ x).symm
    · obtain ⟨q, hq, hy⟩ := hc
      rcases List.mem_pair.mp hq with rfl | rfl
      · exact absurd hy h1
      · exact absurd hy h2

/-- What is carried to the block before. -/
theorem canCK (b : Fin 2 → Fin 256 → Fin 128 → ℝ) :
    View.canon (Val := Elt Ideal) (s := S128x256) (e := .f32) [⟨Rect.unit ![0, 128] ![128, 128] inb_S128x256_S128x128_0_128, k0_pay89 (F := Ideal) (upf (b 1)) (upf cp) (upf sp)⟩,
      ⟨Rect.unit ![0, 0] ![128, 128] inb_S128x256_S128x128_0_0, k0_pay78 (F := Ideal) (k0_pay77 (upf (b 0))) (upf cp) (upf sp)⟩]
    = upf fun i j => rotT (cp i) (sp i) (b (kh j) ⟨i.val, by omega⟩) (kd j) := by
  funext z
  canon_tiles x h
  all_goals idx_vars x; idx_vars z
  · exact (keep_k _ _ _ _ _).trans (tile_k (fun i h d => rotT (cp i) (sp i) (b h ⟨i.val, by omega⟩) d) 1 _ _ _ _ h0 h1)
  · exact (keep_k _ _ _ _ _).trans (tile_k (fun i h d => rotT (cp i) (sp i) (b h ⟨i.val, by omega⟩) d) 0 _ _ _ _ h0 (h1.trans (Nat.zero_add _).symm))

theorem canCV (b : Fin 2 → Fin 256 → Fin 128 → ℝ) :
    View.canon (Val := Elt Ideal) (s := S128x256) (e := .f32) [⟨Rect.unit ![0, 128] ![128, 128] inb_S128x256_S128x128_0_128, k0_pay1 (F := Ideal) (k0_pay90 (upf (b 1)))⟩,
      ⟨Rect.unit ![0, 0] ![128, 128] inb_S128x256_S128x128_0_0, k0_pay79 (F := Ideal) (upf (b 0))⟩]
    = upf fun i j => b (kh j) ⟨i.val, by omega⟩ (kd j) := by
  funext z
  canon_tiles x h
  all_goals idx_vars x; idx_vars z
  · exact (keep_v _ _ _).trans (tile_k (fun i h d => b h ⟨i.val, by omega⟩ d) 1 _ _ _ _ h0 h1)
  · exact (keep_v _ _ _).trans (tile_k (fun i h d => b h ⟨i.val, by omega⟩ d) 0 _ _ _ _ h0 (h1.trans (Nat.zero_add _).symm))

/-- The two groups' columns loaded from a carried block. -/
theorem ld_half1 (y : Fin 128 → Fin 256 → ℝ) : View.ld (Val := Elt Ideal) (e' := .f32) (upf y : S128x256.Idx → EReal) (Rect.unit ![0, 128] ![128, 128] inb_S128x256_S128x128_0_128) = upf (half y 1) := by
  refine eq_upf fun i d => ?_
  refine (View.ld_unit_apply_of _ _ _ _ _ (ix2 i ⟨128 + d.val, by omega⟩) fun a => ?_).trans (congrArg (fun k => ((y i k : ℝ) : EReal)) (Fin.ext rfl))
  fin_cases a
  · exact (Nat.zero_add _).symm
  · rfl

theorem ld_half0 (y : Fin 128 → Fin 256 → ℝ) : View.ld (Val := Elt Ideal) (e' := .f32) (upf y : S128x256.Idx → EReal) (Rect.unit ![0, 0] ![128, 128] inb_S128x256_S128x128_0_0) = upf (half y 0) := by
  refine eq_upf fun i d => ?_
  refine (View.ld_unit_apply_of _ _ _ _ _ (ix2 i ⟨0 + d.val, by omega⟩) fun a => ?_).trans (congrArg (fun k => ((y i k : ℝ) : EReal)) (Fin.ext rfl))
  fin_cases a
  · exact (Nat.zero_add _).symm
  · rfl

/-- What the first grid point carries. -/
theorem zero_k : k0_pay3 (F := Ideal) = upf fun _ _ => 0 := by
  refine eq_upf fun i d => ?_
  pointwise [k0_pay3]
  simp

theorem zero_v : k0_pay4 (F := Ideal) = upf fun _ _ => 0 := by
  refine eq_upf fun i d => ?_
  pointwise [k0_pay4]
  simp

end Cert.SwaBwdIdeal.Real
end
-- ==== Proof.SwaBwd.lean ====
/- The windowed-attention gradient's kernel over the reals: every grid point's blocks and carries, and the arrays they make. -/
module

public import proofs.«01_k».proof.Proof.SwaBlocks
public import proofs.«01_k».proof.Proof.SwaStore
public import Idealize.ShloMosaic.Lib.Pipeline.ReadBack

@[expose] public section

set_option maxRecDepth 16384

noncomputable section

namespace Cert.SwaBwdIdeal.Real

open Idealize.ShloMosaic Cert.RealLift Cert.SwaBwdIdeal Cert.SwaBwdIdeal.Gen Cert.SwaBwdIdeal.Hand Cert.Swa Idealize.SL.Sem Idealize.ShloMosaic.TcCoe

variable (m : (ℓ : Loc nD τ sig) → Buf (Elt Ideal) ℓ) (c : Dev nD)
variable (p : Fin 4096 → Fin 4876 → ℝ) (dc : Fin 4096 → Fin 2048 → ℝ) (s : Fin 6 → ℝ)
variable (hp : m ((c : Thread nD τ).loc main_arg0) = upf p)
variable (hdc : m ((c : Thread nD τ).loc main_arg1) = upf dc)
variable (hs : m ((c : Thread nD τ).loc main_arg3) = fun i => ((s (i 0) : ℝ) : EReal))

theorem word (t : Fin cfg0.N) : Scalar.subi 31#32 (BitVec.ofNat 32 (grid0.coords t 0)) = bw (blkOf t) :=
  (by decide +kernel : ∀ t : Fin grid0.N, Scalar.subi 31#32 (BitVec.ofNat 32 (grid0.coords t 0)) = bw (blkOf t)) t

theorem sinks_eq (h : Fin 2) : hz (fun _ => wide s) h = Sb s h := funext fun g => dif_pos (hd h g).isLt

theorem hg_eq (x : Fin 4096 → BitVec 32) (n : Fin 32) (u : Fin 2) :
    hg (fun i d => p (row n i) ⟨3596 + d.val, by omega⟩) (fun i d => dc (row n i) ⟨1280 + d.val, by omega⟩) (fun i d => p (row n i) ⟨4364 + d.val, by omega⟩)
      (fun i d => p (row (prv n) i) ⟨4364 + d.val, by omega⟩) (fun i d => p (row n i) ⟨4620 + d.val, by omega⟩) (fun i d => p (row (prv n) i) ⟨4620 + d.val, by omega⟩)
      (fun i => cosT (x (row n i))) (fun i => sinT (x (row n i))) (fun i => cosT (x (row (prv n) i))) (fun i => sinT (x (row (prv n) i))) (fun _ => wide s) n u = BS p dc x s n u := by
  unfold hg
  rw [sinks_eq]
  rfl

/-- A grid point's gradients of its queries, keys and values. -/
def pq (t : Fin cfg0.N) (i : Fin 128) (j : Fin 768) : ℝ := gQ p dc (posn m c) s (blkOf t) i (jh j) (jg j) (jd j)
def pk (t : Fin cfg0.N) (i : Fin 128) (j : Fin 256) : ℝ :=
  rotT (cosT (posn m c (row (blkOf t) i))) (sinT (posn m c (row (blkOf t) i))) (BK p dc (posn m c) s (blkOf t) (kh j) ⟨128 + i.val, by omega⟩) (kd j)
def pv (t : Fin cfg0.N) (i : Fin 128) (j : Fin 256) : ℝ := BV p dc (posn m c) s (blkOf t) (kh j) ⟨128 + i.val, by omega⟩ (kd j)
/-- What it carries to the next. -/
def ck (t : Fin cfg0.N) (i : Fin 128) (j : Fin 256) : ℝ :=
  rotT (cosT (posn m c (row (prv (blkOf t)) i))) (sinT (posn m c (row (prv (blkOf t)) i))) (BK p dc (posn m c) s (blkOf t) (kh j) ⟨i.val, by omega⟩) (kd j)
def cv (t : Fin cfg0.N) (i : Fin 128) (j : Fin 256) : ℝ := BV p dc (posn m c) s (blkOf t) (kh j) ⟨i.val, by omega⟩ (kd j)

include hp hdc hs in
theorem A0 (t : Fin cfg0.N) (h : t.val % 32 = 0) : (stepA m c t h).1 = upf (pq m c p dc s t) := by
  funext y
  unfold stepA readBack runA
  frame_out
  rw [in_q m c p hp, in_kc m c p hp, in_kp m c p hp, in_vc m c p hp, in_vp m c p hp, in_o m c dc hdc, in_cc, in_sc, in_cp, in_sp, in_sk m c s hs, word, q0, q1, sinks_eq, sinks_eq]
  exact congrFun (canQ _ _ (BQ p dc (posn m c) s (blkOf t))) y

include hp hdc hs in
theorem B0 (t : Fin cfg0.N) (h : ¬t.val % 32 = 0) (o a b) : (stepB m c t h o a b).1 = upf (pq m c p dc s t) := by
  funext y
  unfold stepB readBack runB
  frame_out
  rw [in_q m c p hp, in_kc m c p hp, in_kp m c p hp, in_vc m c p hp, in_vp m c p hp, in_o m c dc hdc, in_cc, in_sc, in_cp, in_sp, in_sk m c s hs, word, q0, q1, sinks_eq, sinks_eq]
  exact congrFun (canQ _ _ (BQ p dc (posn m c) s (blkOf t))) y

include hp hdc hs in
theorem A1 (t : Fin cfg0.N) (h : t.val % 32 = 0) : (stepA m c t h).2.1 = upf fun i j => pk m c p dc s t i j + 0 := by
  funext y
  unfold stepA readBack runA
  frame_out
  simp (disch := decide) only [↓ View.readCov_skip, ↓ View.readCov_cons_toLoadRect, ↓ View.readCov_fill]
  rw [zero_k, ld_half0, ld_half1, in_q m c p hp, in_kc m c p hp, in_kp m c p hp, in_vc m c p hp, in_vp m c p hp, in_o m c dc hdc, in_cc, in_sc, in_cp, in_sp, in_sk m c s hs, word, k0, k1, sinks_eq, sinks_eq]
  exact congrFun (canK _ _ (BK p dc (posn m c) s (blkOf t)) _) y

include hp hdc hs in
theorem B1 (t : Fin cfg0.N) (h : ¬t.val % 32 = 0) (o a b) (y) (ha : a = upf y) : (stepB m c t h o a b).2.1 = upf fun i j => pk m c p dc s t i j + y i j := by
  subst ha
  funext y
  unfold stepB readBack runB
  frame_out
  rw [read_unread_whole, ld_half0, ld_half1, in_q m c p hp, in_kc m c p hp, in_kp m c p hp, in_vc m c p hp, in_vp m c p hp, in_o m c dc hdc, in_cc, in_sc, in_cp, in_sp, in_sk m c s hs, word, k0, k1, sinks_eq, sinks_eq]
  exact congrFun (canK _ _ (BK p dc (posn m c) s (blkOf t)) _) y

include hp hdc hs in
theorem A2 (t : Fin cfg0.N) (h : t.val % 32 = 0) : (stepA m c t h).2.2.1 = upf fun i j => pv m c p dc s t i j + 0 := by
  funext y
  unfold stepA readBack runA
  frame_out
  simp (disch := decide) only [↓ View.readCov_skip, ↓ View.readCov_cons_toLoadRect, ↓ View.readCov_fill]
  rw [zero_v, ld_half0, ld_half1, in_q m c p hp, in_kc m c p hp, in_kp m c p hp, in_o m c dc hdc, in_cc, in_sc, in_cp, in_sp, in_sk m c s hs, word, v0, v1, sinks_eq, sinks_eq]
  exact congrFun (canV (BV p dc (posn m c) s (blkOf t)) _) y

include hp hdc hs in
theorem B2 (t : Fin cfg0.N) (h : ¬t.val % 32 = 0) (o a b) (y) (hb : b = upf y) : (stepB m c t h o a b).2.2.1 = upf fun i j => pv m c p dc s t i j + y i j := by
  subst hb
  funext y
  unfold stepB readBack runB
  frame_out
  rw [read_unread_whole, ld_half0, ld_half1, in_q m c p hp, in_kc m c p hp, in_kp m c p hp, in_o m c dc hdc, in_cc, in_sc, in_cp, in_sp, in_sk m c s hs, word, v0, v1, sinks_eq, sinks_eq]
  exact congrFun (canV (BV p dc (posn m c) s (blkOf t)) _) y

include hp hdc hs in
theorem A4 (t : Fin cfg0.N) (h : t.val % 32 = 0) : (stepA m c t h).2.2.2.2.1 = upf (ck m c p dc s t) := by
  funext y
  unfold stepA readBack runA
  frame_out
  rw [in_q m c p hp, in_kc m c p hp, in_kp m c p hp, in_vc m c p hp, in_vp m c p hp, in_o m c dc hdc, in_cc, in_sc, in_cp, in_sp, in_sk m c s hs, word, k0, k1, sinks_eq, sinks_eq]
  refine (canon_two (S := S128x256) _ _ _ _ ?_).trans ?_
  · exact View.cover_of_tiledL (s := S128x256) _ S128x128.size (by sl_kernel_rfl) y
  exact congrFun (canCK _ _ (BK p dc (posn m c) s (blkOf t))) y

include hp hdc hs in
theorem A5 (t : Fin cfg0.N) (h : t.val % 32 = 0) : (stepA m c t h).2.2.2.2.2 = upf (cv m c p dc s t) := by
  funext y
  unfold stepA readBack runA
  frame_out
  rw [in_q m c p hp, in_kc m c p hp, in_kp m c p hp, in_o m c dc hdc, in_cc, in_sc, in_cp, in_sp, in_sk m c s hs, word, v0, v1, sinks_eq, sinks_eq]
  refine (canon_two (S := S128x256) _ _ _ _ ?_).trans ?_
  · exact View.cover_of_tiledL (s := S128x256) _ S128x128.size (by sl_kernel_rfl) y
  exact congrFun (canCV (BV p dc (posn m c) s (blkOf t))) y

include hp hdc hs in
theorem B4 (t : Fin cfg0.N) (h : ¬t.val % 32 = 0) (o a b) : (stepB m c t h o a b).2.2.2.2.1 = upf (ck m c p dc s t) := by
  funext y
  unfold stepB readBack runB
  frame_out
  rw [in_q m c p hp, in_kc m c p hp, in_kp m c p hp, in_vc m c p hp, in_vp m c p hp, in_o m c dc hdc, in_cc, in_sc, in_cp, in_sp, in_sk m c s hs, word, k0, k1, sinks_eq, sinks_eq]
  exact congrFun (canCK _ _ (BK p dc (posn m c) s (blkOf t))) y

include hp hdc hs in
theorem B5 (t : Fin cfg0.N) (h : ¬t.val % 32 = 0) (o a b) : (stepB m c t h o a b).2.2.2.2.2 = upf (cv m c p dc s t) := by
  funext y
  unfold stepB readBack runB
  frame_out
  rw [in_q m c p hp, in_kc m c p hp, in_kp m c p hp, in_o m c dc hdc, in_cc, in_sc, in_cp, in_sp, in_sk m c s hs, word, v0, v1, sinks_eq, sinks_eq]
  exact congrFun (canCV (BV p dc (posn m c) s (blkOf t))) y

include hp hdc hs in
theorem A3 (t : Fin cfg0.N) (h : t.val % 32 = 0) (l : Fin 128) : (stepA m c t h).2.2.2.1 (ix2 0 l) = ((lanes (BS p dc (posn m c) s (blkOf t)) l : ℝ) : EReal) := by
  unfold stepA readBack runA
  frame_out
  rw [in_q m c p hp, in_kc m c p hp, in_kp m c p hp, in_vc m c p hp, in_vp m c p hp, in_o m c dc hdc, in_cc, in_sc, in_cp, in_sp, in_sk m c s hs, word, s1, s0, hg_eq, hg_eq]
  refine (put_l (BS p dc (posn m c) s (blkOf t)) k0_pay5 _ _ _ ?_ l).trans ?_
  · rw [s0, hg_eq]
  · pointwise [k0_pay5]

include hp hdc hs in
theorem B3 (t : Fin cfg0.N) (h : ¬t.val % 32 = 0) (o a b) (l : Fin 128) : (stepB m c t h o a b).2.2.2.1 (ix2 0 l) =
    o (ix2 0 l) + ((lanes (BS p dc (posn m c) s (blkOf t)) l : ℝ) : EReal) := by
  unfold stepB readBack runB
  frame_out
  rw [in_q m c p hp, in_kc m c p hp, in_kp m c p hp, in_vc m c p hp, in_vp m c p hp, in_o m c dc hdc, in_cc, in_sc, in_cp, in_sp, in_sk m c s hs, word, s1, s0, hg_eq, hg_eq]
  refine put_l (BS p dc (posn m c) s (blkOf t)) o _ _ _ ?_ l
  rw [s0, hg_eq]

section Points

theorem at0 (t : Fin cfg0.N) (h : t.val % 32 = 0) : t.val = 0 := by
  have : t.val < 32 := t.isLt
  omega

include hp hdc hs

theorem at_q (t : Fin cfg0.N) : (after m c t.val t.isLt).1 = upf (pq m c p dc s t) := by
  by_cases h : t.val % 32 = 0
  · rw [after_A m c t h, A0 m c p dc s hp hdc hs]
  · rw [after_B m c t h, B0 m c p dc s hp hdc hs]

theorem at_ck (t : Fin cfg0.N) : (after m c t.val t.isLt).2.2.2.2.1 = upf (ck m c p dc s t) := by
  by_cases h : t.val % 32 = 0
  · rw [after_A m c t h, A4 m c p dc s hp hdc hs]
  · rw [after_B m c t h, B4 m c p dc s hp hdc hs]

theorem at_cv (t : Fin cfg0.N) : (after m c t.val t.isLt).2.2.2.2.2 = upf (cv m c p dc s t) := by
  by_cases h : t.val % 32 = 0
  · rw [after_A m c t h, A5 m c p dc s hp hdc hs]
  · rw [after_B m c t h, B5 m c p dc s hp hdc hs]

/-- The grid point before. -/
def bef (t : Fin cfg0.N) : Fin cfg0.N := ⟨t.val - 1, Nat.lt_of_le_of_lt (Nat.sub_le _ _) t.isLt⟩

omit hp hdc hs in
theorem bef_blk (t : Fin cfg0.N) (h : ¬t.val % 32 = 0) : ∃ e : (blkOf t).val + 1 < 32, blkOf (bef t) = ⟨(blkOf t).val + 1, e⟩ ∧ prv (blkOf (bef t)) = blkOf t := by
  have : t.val < 32 := t.isLt
  refine ⟨?_, Fin.ext ?_, Fin.ext ?_⟩ <;> simp only [blkOf, bef, prv] <;> omega

omit hp hdc hs in
theorem last_blk (t : Fin cfg0.N) (h : t.val % 32 = 0) : ¬(blkOf t).val + 1 < 32 := by
  have := at0 t h
  simp only [blkOf]
  omega

theorem at_k (t : Fin cfg0.N) : (after m c t.val t.isLt).2.1 = upf fun i j => gK p dc (posn m c) s (blkOf t) i (kh j) (kd j) := by
  by_cases h : t.val % 32 = 0
  · rw [after_A m c t h, A1 m c p dc s hp hdc hs]
    refine congrArg upf (funext fun i => funext fun j => ?_)
    rw [gK, nK, dif_neg (last_blk t h), pk]
  · refine (congrArg (fun r : Res Ideal => r.2.1) (after_B m c t h)).trans ((B1 m c p dc s hp hdc hs t h _ _ _ _ (at_ck m c p dc s hp hdc hs (bef t))).trans ?_)
    refine congrArg upf (funext fun i => funext fun j => ?_)
    obtain ⟨e, e1, e2⟩ := bef_blk t h
    rw [gK, nK, dif_pos e, pk, ck, e2, e1]

theorem at_v (t : Fin cfg0.N) : (after m c t.val t.isLt).2.2.1 = upf fun i j => gV p dc (posn m c) s (blkOf t) i (kh j) (kd j) := by
  by_cases h : t.val % 32 = 0
  · rw [after_A m c t h, A2 m c p dc s hp hdc hs]
    refine congrArg upf (funext fun i => funext fun j => ?_)
    rw [gV, nV, dif_neg (last_blk t h), pv]
  · refine (congrArg (fun r : Res Ideal => r.2.2.1) (after_B m c t h)).trans ((B2 m c p dc s hp hdc hs t h _ _ _ _ (at_cv m c p dc s hp hdc hs (bef t))).trans ?_)
    refine congrArg upf (funext fun i => funext fun j => ?_)
    obtain ⟨e, e1, -⟩ := bef_blk t h
    rw [gV, nV, dif_pos e, pv, cv, e1]

/-- The sinks' sums so far: the blocks from the last down to the point's. -/
theorem at_s (l : Fin 128) (n : ℕ) (hn : n < cfg0.N) : (after m c n hn).2.2.2.1 (ix2 0 l) =
    ((∑ k ∈ Finset.range (n + 1), lanes (BS p dc (posn m c) s ⟨31 - k, by omega⟩) l : ℝ) : EReal) := by
  induction n with
  | zero =>
    rw [Finset.sum_range_one]
    exact (congrArg (fun r : Res Ideal => r.2.2.2.1 (ix2 0 l)) (after_A m c ⟨0, hn⟩ rfl)).trans (A3 m c p dc s hp hdc hs ⟨0, hn⟩ rfl l)
  | succ n ih =>
    have hN : n + 1 < 32 := hn
    have h : ¬(n + 1) % 32 = 0 := by omega
    rw [Finset.sum_range_succ, EReal.coe_add]
    exact (congrArg (fun r : Res Ideal => r.2.2.2.1 (ix2 0 l)) (after_B m c ⟨n + 1, hn⟩ h)).trans ((B3 m c p dc s hp hdc hs ⟨n + 1, hn⟩ h _ _ _ l).trans
      (congrArg (· + _) (ih (Nat.lt_of_succ_lt hn))))

omit hp hdc hs in
theorem idx1 (t : Fin cfg0.N) : win0_11.index t = ![(blkOf t).val, 0] ∧ win0_12.index t = ![(blkOf t).val, 0] ∧ win0_13.index t = ![(blkOf t).val, 0] ∧ win0_14.index t = ![0, 0] :=
  (by decide +kernel : ∀ t : Fin grid0.N, win0_11.index t = ![(blkOf t).val, 0] ∧ win0_12.index t = ![(blkOf t).val, 0] ∧ win0_13.index t = ![(blkOf t).val, 0] ∧ win0_14.index t = ![0, 0]) t

theorem arr11 : (dats m 0 c).arrAt 11 cfg0.N = upf fun r j => gQ p dc (posn m c) s (bOf r) (rOf r) (jh j) (jg j) (jd j) := by
  refine (dats m 0 c).arrAt_eq_of_covers 11 _ (by decide +kernel) fun t hf i => ?_
  blk_simp
  rw [after11, at_q m c p dc s hp hdc hs t]
  idx_vars i
  have e : ((View.whole main_v38_0).slice (win0_11.rect t)).emb (ix2 i0 i1) = ix2 (row (blkOf t) i0) i1 := by blk_ext [idx1 t, row]
  exact Eq.trans (b := upf (fun r j => gQ p dc (posn m c) s (bOf r) (rOf r) (jh j) (jg j) (jd j)) (ix2 (row (blkOf t) i0) i1)) (by rw [upf_ix2, upf_ix2, bOf_row, rOf_row]; rfl) (congrArg (upf _) e.symm)

theorem arr12 : (dats m 0 c).arrAt 12 cfg0.N = upf fun r j => gK p dc (posn m c) s (bOf r) (rOf r) (kh j) (kd j) := by
  refine (dats m 0 c).arrAt_eq_of_covers 12 _ (by decide +kernel) fun t hf i => ?_
  blk_simp
  rw [after12, at_k m c p dc s hp hdc hs t]
  idx_vars i
  have e : ((View.whole main_v38_1).slice (win0_12.rect t)).emb (ix2 i0 i1) = ix2 (row (blkOf t) i0) i1 := by blk_ext [idx1 t, row]
  exact Eq.trans (b := upf (fun r j => gK p dc (posn m c) s (bOf r) (rOf r) (kh j) (kd j)) (ix2 (row (blkOf t) i0) i1)) (by rw [upf_ix2, upf_ix2, bOf_row, rOf_row]) (congrArg (upf _) e.symm)

theorem arr13 : (dats m 0 c).arrAt 13 cfg0.N = upf fun r j => gV p dc (posn m c) s (bOf r) (rOf r) (kh j) (kd j) := by
  refine (dats m 0 c).arrAt_eq_of_covers 13 _ (by decide +kernel) fun t hf i => ?_
  blk_simp
  rw [after13, at_v m c p dc s hp hdc hs t]
  idx_vars i
  have e : ((View.whole main_v38_2).slice (win0_13.rect t)).emb (ix2 i0 i1) = ix2 (row (blkOf t) i0) i1 := by blk_ext [idx1 t, row]
  exact Eq.trans (b := upf (fun r j => gV p dc (posn m c) s (bOf r) (rOf r) (kh j) (kd j)) (ix2 (row (blkOf t) i0) i1)) (by rw [upf_ix2, upf_ix2, bOf_row, rOf_row]) (congrArg (upf _) e.symm)

omit hp hdc hs in
theorem sum_back (l : Fin 128) : ∑ k ∈ Finset.range (31 + 1), lanes (BS p dc (posn m c) s ⟨31 - k, by omega⟩) l = gS p dc (posn m c) s l := by
  rw [Finset.sum_range]
  exact Fintype.sum_equiv Fin.revPerm _ _ fun n => congrArg (fun n => lanes (BS p dc (posn m c) s n) l) (Fin.ext (by simp only [Fin.revPerm_apply, Fin.val_rev]; omega))

theorem arr14 : (dats m 0 c).arrAt 14 cfg0.N = upf fun _ l => gS p dc (posn m c) s l := by
  refine (dats m 0 c).arrAt_eq_of_covers 14 _ (by decide +kernel) fun t hf i => ?_
  blk_simp
  rw [after14]
  idx_vars i
  obtain rfl : i0 = 0 := Subsingleton.elim _ _
  have e : ((View.whole main_v38_3).slice (win0_14.rect t)).emb (ix2 0 i1) = ix2 0 i1 := by blk_ext [idx1 t]
  have ht : t.val = 31 := by
    have h1 : t.val < 32 := t.isLt
    have h2 := (flush0_14 t).mp hf
    omega
  refine Eq.trans ?_ (congrArg (upf fun (_ : Fin 1) l => gS p dc (posn m c) s l) e.symm)
  refine (at_s m c p dc s hp hdc hs i1 t.val t.isLt).trans ?_
  rw [upf_ix2, ← sum_back m c p dc s, ht]

end Points

/-- The run with its result arrays named. -/
theorem run_arrays (ρ : Dev nD → PrngReg) : θ_run defs (onTc (τ := τ) (main (F := Ideal))) ⟨m, fun _ => 0, ρ⟩ fun r => ∀ c : Dev nD,
      r.2.mem ((c : Thread nD τ).loc main_v38_0) = (dats m 0 c).arrAt 11 cfg0.N
      ∧ r.2.mem ((c : Thread nD τ).loc main_v38_1) = (dats m 0 c).arrAt 12 cfg0.N
      ∧ r.2.mem ((c : Thread nD τ).loc main_v38_2) = (dats m 0 c).arrAt 13 cfg0.N
      ∧ r.2.mem ((c : Thread nD τ).loc main_v38_3) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 11, (h.1 c).1 12, (h.1 c).1 13, (h.1 c).1 14, (h.2.1 c).1, (h.2.1 c).2.1, (h.2.1 c).2.2.1, (h.2.1 c).2.2.2⟩)
    (θ_run_and (run_main m ρ) (Hand.frame m ρ))

end Cert.SwaBwdIdeal.Real
end
-- ==== Proof.SwaBwdRefA.lean ====
/- The reference's rotated queries and keys, its bands and its masked scores, over the reals. -/
module

public import proofs.«01_k».proof.Proof.SwaSpec
public import proofs.«01_k».proof.Proof.Gen.SwaBwdRefIdeal.Run
public import Idealize.ShloMosaic.Lib.Pointwise
public import Idealize.ShloMosaic.Lib.WordCmp

@[expose] public section

set_option maxRecDepth 16384

noncomputable section

namespace Cert.SwaBwdRefIdeal.Real

open Idealize.ShloMosaic Idealize.ShloMosaic.WordCmp Cert.RealLift Cert.SwaBwdRefIdeal Cert.SwaBwdRefIdeal.Gen Cert.SwaBwdRefIdeal.Value Cert.Swa Idealize.ShloMosaic.StableHlo

variable (V0 : Valuation τ sig (Elt Ideal)) (p : Fin 4096 → Fin 4876 → ℝ) (dc : Fin 4096 → Fin 2048 → ℝ) (s : Fin 6 → ℝ)
variable (hp : V0 (Proc.devRef .tc main_arg0) = upf p) (hdc : V0 (Proc.devRef .tc main_arg1) = upf dc)
variable (hs : V0 (Proc.devRef .tc main_arg3) = fun i => ((s (i 0) : ℝ) : EReal))

/-- A device's positions. -/
abbrev posv (r : Fin 4096) : BitVec 32 := V0 (Proc.devRef .tc main_arg2) (ix1 r)

theorem v16_at (r : Fin 4096) (d : Fin 64) : res_main_v16 V0 (ix2 r d) = ((angle (posv V0 r) d : ℝ) : EReal) := by
  rw [← ang_eq]
  unfold res_main_v16
  pointwise
  rfl

/-- The rotation as the reference computes it, by halves. -/
theorem rot_lo (x : BitVec 32) (w : Fin 128 → ℝ) (d : Fin 128) (h : d.val < 64) :
    w d * Real.cos (angle x d.val) - w ⟨64 + d.val, by omega⟩ * Real.sin (angle x d.val) = rot (cosT x) (sinT x) w d := by
  unfold rot cosT sinT
  rw [if_pos h, show swap d = ⟨64 + d.val, by omega⟩ from Fin.ext (by simp only [swap]; omega), Nat.mod_eq_of_lt h, mul_neg, sub_eq_add_neg]

theorem rot_hi (x : BitVec 32) (w : Fin 128 → ℝ) (d : Fin 128) (h : ¬d.val < 64) :
    w ⟨64 + (d.val - 64), by omega⟩ * Real.cos (angle x (d.val - 64)) + w ⟨d.val - 64, by omega⟩ * Real.sin (angle x (d.val - 64)) = rot (cosT x) (sinT x) w d := by
  unfold rot cosT sinT
  rw [if_neg h, show swap d = ⟨d.val - 64, by omega⟩ from Fin.ext (by simp only [swap]; omega), show d.val % 64 = d.val - 64 by omega]
  exact congrArg (· + _) (congrArg₂ (· * ·) (congrArg w (Fin.ext (by simp only []; omega))) rfl)

/-- A choice whose two values are one real. -/
theorem dite_lift {c : Prop} [Decidable c] {a : c → EReal} {b : ¬c → EReal} {r : ℝ} (ha : ∀ h, a h = ((r : ℝ) : EReal)) (hb : ∀ h, b h = ((r : ℝ) : EReal)) :
    dite c a b = ((r : ℝ) : EReal) := by
  by_cases h : c
  · exact (dif_pos h).trans (ha h)
  · exact (dif_neg h).trans (hb h)

include hp in
theorem v56_at (n : Fin 32) (i : Fin 128) (h : Fin 2) (g : Fin 3) (d : Fin 128) :
    res_main_v56 V0 (ix6 0 n i h g d) = ((Qb p (posv V0) n h g i d : ℝ) : EReal) := by
  unfold res_main_v56
  pointwise [res_main_v28, res_main_v29, res_main_v27, res_main_v19, res_main_v20]
  have er : row n i = ⟨n.val * 128 + i.val, by omega⟩ := Fin.ext (by simp only [row]; omega)
  simp only [hp, upf_ix2, v16_at, Ideal.cos_coe, Ideal.sin_coe, ← EReal.coe_mul, ← EReal.coe_sub, ← EReal.coe_add, ← er]
  refine dite_lift (fun h => congrArg Real.toEReal ?_) (fun h => congrArg Real.toEReal ?_)
  · exact rot_lo _ (fun d => p (row n i) ⟨3596 + ((hd _ g).val * 128 + d.val), by omega⟩) d h
  · exact rot_hi _ (fun d => p (row n i) ⟨3596 + ((hd _ g).val * 128 + d.val), by omega⟩) d h

theorem dite_coe {c : Prop} [Decidable c] {a : c → ℝ} {b : ¬c → ℝ} :
    (if h : c then ((a h : ℝ) : EReal) else ((b h : ℝ) : EReal)) = (((if h : c then a h else b h) : ℝ) : EReal) := by
  split_ifs <;> rfl

/-- The keys and values with noughts before the first block. -/
def Kz (x : Fin 4096 → BitVec 32) (n : Fin 32) (h : Fin 2) (j : Fin 256) : Fin 128 → ℝ := if 0 < n.val ∨ 128 ≤ j.val then Kb p x n h j else fun _ => 0
def Vz (n : Fin 32) (h : Fin 2) (j : Fin 256) : Fin 128 → ℝ := if 0 < n.val ∨ 128 ≤ j.val then Vb p n h j else fun _ => 0

/-- A band out of 33 blocks, the first of them noughts. -/
theorem band_shift (w : Fin 32 → Fin 128 → Fin 128 → ℝ) (n : Fin 32) (j : Fin 256) (d : Fin 128) :
    (if h : j.val < 128 then (if n.val = 0 then 0 else w ⟨n.val - 1, by omega⟩ ⟨j.val, h⟩ d)
      else if 1 + n.val = 0 then 0 else w ⟨1 + n.val - 1, by omega⟩ ⟨j.val - 128, by omega⟩ d)
      = (if 0 < n.val ∨ 128 ≤ j.val then band (w (prv n)) (w n) j else fun _ => 0) d := by
  unfold band prv
  by_cases h : j.val < 128
  · by_cases h' : n.val = 0
    · rw [dif_pos h, if_pos h', if_neg (by omega)]
    · rw [dif_pos h, if_neg h', if_pos (by omega), dif_pos h]
  · rw [dif_neg h, if_neg (by omega), if_pos (by omega), dif_neg h]
    exact congrArg (fun b => w b _ d) (Fin.ext (by simp only []; omega))

include hp in
theorem v60_at (b : Fin 33) (i : Fin 128) (h : Fin 2) (d : Fin 128) :
    res_main_v60 V0 (ix5 0 b i h d) = (((if b.val = 0 then 0 else kr p (posv V0) (row ⟨b.val - 1, by omega⟩ i) h d) : ℝ) : EReal) := by
  unfold res_main_v60
  pointwise [res_main_v42, res_main_v43, res_main_v41, res_main_v19, res_main_v20]
  refine dite_lift (fun e => ?_) (fun e => ?_)
  · exact congrArg Real.toEReal (if_pos (show b.val = 0 by omega)).symm
  · have er : (⟨b.val * 128 + i.val - 128, by omega⟩ : Fin 4096) = row ⟨b.val - 1, by omega⟩ i := Fin.ext (by simp only [row]; omega)
    simp only [hp, upf_ix2, v16_at, Ideal.cos_coe, Ideal.sin_coe, ← EReal.coe_mul, ← EReal.coe_sub, ← EReal.coe_add, er]
    refine dite_lift (fun h => congrArg Real.toEReal ?_) (fun h => congrArg Real.toEReal ?_)
    · exact (rot_lo _ (fun d => p (row ⟨b.val - 1, by omega⟩ i) ⟨4364 + (Fin.val _ * 128 + d.val), by omega⟩) d h).trans (if_neg (show ¬b.val = 0 by omega)).symm
    · exact (rot_hi _ (fun d => p (row ⟨b.val - 1, by omega⟩ i) ⟨4364 + (Fin.val _ * 128 + d.val), by omega⟩) d h).trans (if_neg (show ¬b.val = 0 by omega)).symm

include hp in
theorem v67_at (b : Fin 33) (i : Fin 128) (h : Fin 2) (d : Fin 128) :
    res_main_v67 V0 (ix5 0 b i h d) = (((if b.val = 0 then 0 else vr p (row ⟨b.val - 1, by omega⟩ i) h d) : ℝ) : EReal) := by
  unfold res_main_v67
  pointwise
  refine dite_lift (fun e => ?_) (fun e => ?_)
  · exact congrArg Real.toEReal (if_pos (show b.val = 0 by omega)).symm
  · have er : (⟨b.val * 128 + i.val - 128, by omega⟩ : Fin 4096) = row ⟨b.val - 1, by omega⟩ i := Fin.ext (by simp only [row]; omega)
    rw [hp, er]
    exact congrArg Real.toEReal (if_neg (show ¬b.val = 0 by omega)).symm

include hp in
theorem v63_at (n : Fin 32) (j : Fin 256) (h : Fin 2) (d : Fin 128) :
    res_main_v63 V0 (ix5 0 n j h d) = ((Kz p (posv V0) n h j d : ℝ) : EReal) := by
  unfold res_main_v63
  pointwise
  simp only [v60_at V0 p hp]
  exact dite_coe.trans (congrArg Real.toEReal <| band_shift (fun n i => kr p (posv V0) (row n i) h) n j d)

include hp in
theorem v70_at (n : Fin 32) (j : Fin 256) (h : Fin 2) (d : Fin 128) :
    res_main_v70 V0 (ix5 0 n j h d) = ((Vz p n h j d : ℝ) : EReal) := by
  unfold res_main_v70
  pointwise
  simp only [v67_at V0 p hp]
  exact dite_coe.trans (congrArg Real.toEReal <| band_shift (fun n i => vr p (row n i) h) n j d)

theorem v104_at (n : Fin 32) (h : Fin 2) (g : Fin 3) (i : Fin 128) (j : Fin 256) :
    res_main_v104_1 V0 (ix6 0 n h g i j) = BitVec.ofBool (ok n i j) := by
  unfold res_main_v104_1
  pointwise [res_main_v83, res_main_v78]
  have hi := i.isLt
  have hj := j.isLt
  have hn := n.isLt
  have e0 : (IntOp.subi (IntOp.addi 128#32 (BitVec.ofNat 32 i.val)) (BitVec.ofNat 32 j.val)).toInt = 128 + (i.val : ℤ) - j.val := by
    simp only [IntOp.subi, IntOp.addi]
    rw [BitVec.toInt_sub, BitVec.toInt_add, toInt_ofNat_of_lt (by omega), toInt_ofNat_of_lt (by omega), toInt_ofNat_of_lt (by omega)]
    push_cast
    simp only [Int.bmod_def]
    omega
  have e1 : IntOp.cmpi CmpIPredicate.sge (IntOp.subi (IntOp.addi 128#32 (BitVec.ofNat 32 i.val)) (BitVec.ofNat 32 j.val)) 0#32 = BitVec.ofBool (decide (j.val ≤ i.val + 128)) := by
    show BitVec.ofBool (BitVec.sle 0#32 _) = _
    rw [BitVec.sle, e0]
    exact congrArg BitVec.ofBool (decide_eq_decide.mpr (by simp only [BitVec.toInt_zero]; omega))
  have e2 : IntOp.cmpi CmpIPredicate.slt (IntOp.subi (IntOp.addi 128#32 (BitVec.ofNat 32 i.val)) (BitVec.ofNat 32 j.val)) 128#32 = BitVec.ofBool (decide (i.val < j.val)) := by
    show BitVec.ofBool (BitVec.slt _ 128#32) = _
    rw [BitVec.slt, e0]
    exact congrArg BitVec.ofBool (decide_eq_decide.mpr (by rw [show (128#32).toInt = 128 from rfl]; omega))
  have e3 : IntOp.cmpi CmpIPredicate.sgt (BitVec.ofNat 32 n.val) 0#32 = BitVec.ofBool (decide (0 < n.val)) := cmpi_sgt_ofNat (b := 0) (by omega) (by omega)
  have e4 : IntOp.cmpi CmpIPredicate.sge (BitVec.ofNat 32 j.val) 128#32 = BitVec.ofBool (decide (128 ≤ j.val)) := cmpi_sge_ofNat (b := 128) (by omega) (by omega)
  rw [e1, e2, e3, e4]
  have key : ∀ a b c d : Bool, IntOp.andi (IntOp.andi (BitVec.ofBool a) (BitVec.ofBool b)) (IntOp.ori (BitVec.ofBool c) (BitVec.ofBool d)) = BitVec.ofBool (b && (a && (c || d))) := by decide
  rw [key, ok, Bool.decide_and, Bool.decide_and, Bool.decide_or]

theorem ofBits_bot : Ideal.ofBits .f32 0xFF800000#32 = ⊥ := by
  simp [Ideal.ofBits, Ideal.ieee]

/-- A row's scores, the masked ones minus infinity, the sink last. -/
def scz (x : Fin 4096 → BitVec 32) (n : Fin 32) (h : Fin 2) (g : Fin 3) (i : Fin 128) (j : Fin 257) : EReal :=
  if e : j.val < 256 then if ok n i ⟨j.val, e⟩ then ((score (Qb p x n h) (Kz p x n h) g i ⟨j.val, e⟩ : ℝ) : EReal) else ⊥ else ((Sb s h g : ℝ) : EReal)

include hp hs in
theorem v108_at (n : Fin 32) (h : Fin 2) (g : Fin 3) (i : Fin 128) (j : Fin 257) :
    res_main_v108 V0 (ix6 0 n h g i j) = scz p s (posv V0) n h g i j := by
  unfold res_main_v108
  pointwise
  by_cases e : j.val < 256
  · rw [dif_pos e, scz, dif_pos e, v104_at, ofBits_scale, select_ofBool]
    simp only [v63_at V0 p hp, v56_at V0 p hp, ← EReal.coe_mul, coe_sum]
    refine congrArg₂ (fun a b => if ok n i ⟨j.val, e⟩ then a else b) ?_ ofBits_bot
    exact congrArg (fun a => ((a * scale : ℝ) : EReal)) (Finset.sum_congr rfl fun d _ => mul_comm _ _)
  · rw [dif_neg e, scz, dif_neg e, hs]
    rfl

end Cert.SwaBwdRefIdeal.Real

end
-- ==== Proof.SwaBwdRefB.lean ====
/- The reference's softmax and its gradient with respect to the scores and the sinks, over the reals. -/
module

public import proofs.«01_k».proof.Proof.SwaBwdRefA

@[expose] public section

set_option maxRecDepth 16384

noncomputable section

namespace Cert.SwaBwdRefIdeal.Real

open Idealize.ShloMosaic Idealize.ShloMosaic.WordCmp Cert.RealLift Cert.SwaBwdRefIdeal Cert.SwaBwdRefIdeal.Gen Cert.SwaBwdRefIdeal.Value Cert.Swa Idealize.ShloMosaic.StableHlo

/-- The rows of the scores' array. -/
theorem fib (n : Fin 32) (h : Fin 2) (g : Fin 3) (i : Fin 128) (x : S1x32x2x3x128x257.Idx) :
    reducesTo_S1x32x2x3x128x257_S1x32x2x3x128_d5.drop x = ix5 0 n h g i ↔ ∃ j : Fin 257, ix6 0 n h g i j = x := by
  constructor
  · intro e
    refine ⟨x 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem row_sum (f : S1x32x2x3x128x257.Idx → EReal) (z : EReal) (n : Fin 32) (h : Fin 2) (g : Fin 3) (i : Fin 128) :
    Ideal.hostReduceAdd reducesTo_S1x32x2x3x128x257_S1x32x2x3x128_d5 f z (ix5 0 n h g i) = z + ∑ j : Fin 257, f (ix6 0 n h g i j) :=
  congrArg (z + ·) (Finset.sum_filter_eq_sum_of_fiber _ (fun j : Fin 257 => (ix6 0 n h g i j : S1x32x2x3x128x257.Idx)) (fun _ _ e => congrFun e 5) (fib n h g i) f)

theorem row_max (f : S1x32x2x3x128x257.Idx → EReal) (n : Fin 32) (h : Fin 2) (g : Fin 3) (i : Fin 128) :
    (Finset.univ.filter fun x => reducesTo_S1x32x2x3x128x257_S1x32x2x3x128_d5.drop x = ix5 0 n h g i).fold max (⊥ : EReal) f
      = Finset.univ.fold max ⊥ fun j : Fin 257 => f (ix6 0 n h g i j) :=
  Finset.fold_filter_eq_fold_of_fiber max _ (fun j : Fin 257 => (ix6 0 n h g i j : S1x32x2x3x128x257.Idx)) (fun _ _ e => congrFun e 5) (fib n h g i) ⊥ f

/-- The largest of finitely many values below infinity, one of them a real, is a real. -/
theorem real_fold {ι : Type} [Fintype ι] (f : ι → EReal) (hf : ∀ i, f i ≠ ⊤) (a : ι) (s : ℝ) (ha : f a = (s : EReal)) :
    ∃ M : ℝ, Finset.univ.fold max ⊥ f = (M : EReal) := by
  refine ⟨(Finset.univ.fold max ⊥ f).toReal, (EReal.coe_toReal ?_ ?_).symm⟩
  · exact ((Finset.fold_max_lt (s := Finset.univ) (b := (⊥ : EReal)) (f := f) (c := ⊤)).mpr ⟨bot_lt_top, fun i _ => lt_top_iff_ne_top.mpr (hf i)⟩).ne
  · exact ((Finset.lt_fold_max (s := Finset.univ) (b := (⊥ : EReal)) (f := f) (c := ⊥)).mpr (.inr ⟨a, Finset.mem_univ _, ha ▸ EReal.bot_lt_coe s⟩)).ne'

variable (V0 : Valuation τ sig (Elt Ideal)) (p : Fin 4096 → Fin 4876 → ℝ) (dc : Fin 4096 → Fin 2048 → ℝ) (s : Fin 6 → ℝ)
variable (hp : V0 (Proc.devRef .tc main_arg0) = upf p) (hdc : V0 (Proc.devRef .tc main_arg1) = upf dc)
variable (hs : V0 (Proc.devRef .tc main_arg3) = fun i => ((s (i 0) : ℝ) : EReal))

theorem scz_max (x : Fin 4096 → BitVec 32) (n : Fin 32) (h : Fin 2) (g : Fin 3) (i : Fin 128) :
    ∃ M : ℝ, Finset.univ.fold max ⊥ (scz p s x n h g i) = (M : EReal) := by
  refine real_fold _ (fun j => ?_) 256 (Sb s h g) (dif_neg (by decide))
  unfold scz
  split_ifs
  · exact EReal.coe_ne_top _
  · exact bot_ne_top
  · exact EReal.coe_ne_top _

/-- A row's largest score. -/
def mx (x : Fin 4096 → BitVec 32) (n : Fin 32) (h : Fin 2) (g : Fin 3) (i : Fin 128) : ℝ := (scz_max p s x n h g i).choose

include hp hs in
theorem v109_at (n : Fin 32) (h : Fin 2) (g : Fin 3) (i : Fin 128) :
    res_main_v109 V0 (ix5 0 n h g i) = ((mx p s (posv V0) n h g i : ℝ) : EReal) := by
  unfold res_main_v109
  have e : ∀ j, res_main_v108 V0 (ix6 0 n h g i j) = scz p s (posv V0) n h g i j := v108_at V0 p s hp hs n h g i
  generalize res_main_v108 V0 = X at e
  pointwise
  rw [ofBits_bot]
  refine (row_max X n h g i).trans ?_
  rw [show (fun j => X (ix6 0 n h g i j)) = scz p s (posv V0) n h g i from funext e]
  exact (scz_max p s (posv V0) n h g i).choose_spec

/-- A row's weights, the sink's last. -/
def wz (x : Fin 4096 → BitVec 32) (n : Fin 32) (h : Fin 2) (g : Fin 3) (i : Fin 128) (j : Fin 257) : ℝ :=
  if e : j.val < 256 then wtM (Qb p x n h) (Kz p x n h) n (mx p s x n h g i) g i ⟨j.val, e⟩ else Real.exp (Sb s h g - mx p s x n h g i)

/-- The weights' operations, read at an index. -/
theorem exp_read (X Y : S1x32x2x3x128x257.Idx → EReal) (n : Fin 32) (h : Fin 2) (g : Fin 3) (i : Fin 128) (j : Fin 257) :
    (Host.exp (F := Ideal) (φ := .f32) (subf X Y)) (ix6 0 n h g i j) = Ideal.exp (X (ix6 0 n h g i j) - Y (ix6 0 n h g i j)) := by
  pointwise

theorem spread_read (Y : S1x32x2x3x128.Idx → EReal) (n : Fin 32) (h : Fin 2) (g : Fin 3) (i : Fin 128) (j : Fin 257) :
    (broadcastInDim S1x32x2x3x128x257 ![0, 1, 2, 3, 4, 5] bcast_S1x32x2x3x128x1_S1x32x2x3x128x257_0_1_2_3_4_5
      (broadcastInDim S1x32x2x3x128x1 ![0, 1, 2, 3, 4] bcast_S1x32x2x3x128_S1x32x2x3x128x1_0_1_2_3_4 Y)) (ix6 0 n h g i j) = Y (ix5 0 n h g i) := by
  pointwise

theorem max_read (C : S_.Idx → EReal) (Y : S1x32x2x3x128.Idx → EReal) (n : Fin 32) (h : Fin 2) (g : Fin 3) (i : Fin 128) :
    (maximumf (F := Ideal) (φ := .f32) (broadcastInDim S1x32x2x3x128 ![] bcast_S_S1x32x2x3x128 C) Y) (ix5 0 n h g i) = max (C ix0) (Y (ix5 0 n h g i)) := by
  pointwise

theorem wz_scz (x : Fin 4096 → BitVec 32) (n : Fin 32) (h : Fin 2) (g : Fin 3) (i : Fin 128) (j : Fin 257) :
    Ideal.exp (scz p s x n h g i j - ((mx p s x n h g i : ℝ) : EReal)) = ((wz p s x n h g i j : ℝ) : EReal) := by
  unfold scz wz
  by_cases hj : j.val < 256
  · rw [dif_pos hj, dif_pos hj, wtM]
    by_cases hk : ok n i ⟨j.val, hj⟩ = true
    · rw [if_pos hk, if_pos hk, ← EReal.coe_sub, Ideal.exp_coe]
    · rw [if_neg hk, if_neg hk, EReal.bot_sub, Ideal.exp_bot, EReal.coe_zero]
  · rw [dif_neg hj, dif_neg hj, ← EReal.coe_sub, Ideal.exp_coe]

include hp hs in
theorem v129_at (n : Fin 32) (h : Fin 2) (g : Fin 3) (i : Fin 128) (j : Fin 257) :
    res_main_v129 V0 (ix6 0 n h g i j) = ((wz p s (posv V0) n h g i j : ℝ) : EReal) := by
  refine Eq.trans ?_ (wz_scz p s (posv V0) n h g i j)
  unfold res_main_v129
  refine (exp_read _ _ n h g i j).trans ?_
  rw [v108_at V0 p s hp hs]
  refine congrArg (fun a => Ideal.exp (scz p s (posv V0) n h g i j - a)) ?_
  refine (spread_read _ n h g i j).trans ((max_read _ _ n h g i).trans ?_)
  rw [v109_at V0 p s hp hs]
  exact (congrArg (max · _) ofBits_bot).trans (max_eq_right bot_le)

/-- A row's total. -/
def lz (x : Fin 4096 → BitVec 32) (n : Fin 32) (h : Fin 2) (g : Fin 3) (i : Fin 128) : ℝ :=
  ∑ j, wtM (Qb p x n h) (Kz p x n h) n (mx p s x n h g i) g i j + Real.exp (Sb s h g - mx p s x n h g i)

theorem lz_pos (x : Fin 4096 → BitVec 32) (n : Fin 32) (h : Fin 2) (g : Fin 3) (i : Fin 128) : lz p s x n h g i ≠ 0 :=
  (totM_pos (Qb p x n h) (Kz p x n h) (Sb s h) n (mx p s x n h g i) g i).ne'

theorem wz_lt (x : Fin 4096 → BitVec 32) (n : Fin 32) (h : Fin 2) (g : Fin 3) (i : Fin 128) (j : Fin 256) :
    wz p s x n h g i j.castSucc = wtM (Qb p x n h) (Kz p x n h) n (mx p s x n h g i) g i j := dif_pos j.isLt

theorem wz_last (x : Fin 4096 → BitVec 32) (n : Fin 32) (h : Fin 2) (g : Fin 3) (i : Fin 128) :
    wz p s x n h g i (Fin.last 256) = Real.exp (Sb s h g - mx p s x n h g i) := dif_neg (by decide)

include hp hs in
theorem v131_at (n : Fin 32) (h : Fin 2) (g : Fin 3) (i : Fin 128) :
    res_main_v131 V0 (ix6 0 n h g i 0) = ((lz p s (posv V0) n h g i : ℝ) : EReal) := by
  unfold res_main_v131
  have e : ∀ j, res_main_v129 V0 (ix6 0 n h g i j) = ((wz p s (posv V0) n h g i j : ℝ) : EReal) := v129_at V0 p s hp hs n h g i
  generalize res_main_v129 V0 = X at e
  pointwise
  refine (row_sum X 0 n h g i).trans ?_
  simp only [e, coe_sum, zero_add]
  refine congrArg Real.toEReal ?_
  rw [Fin.sum_univ_castSucc, wz_last]
  simp only [wz_lt]
  rfl

/-- The probabilities. -/
abbrev Pz (x : Fin 4096 → BitVec 32) (n : Fin 32) (h : Fin 2) : Fin 3 → Fin 128 → Fin 256 → ℝ := pn (Qb p x n h) (Kz p x n h) (Sb s h) n

theorem wz_div (x : Fin 4096 → BitVec 32) (n : Fin 32) (h : Fin 2) (g : Fin 3) (i : Fin 128) (j : Fin 256) :
    wz p s x n h g i j.castSucc / lz p s x n h g i = Pz p s x n h g i j := by
  rw [wz_lt]
  exact pn_shift (Qb p x n h) (Kz p x n h) (Sb s h) n (mx p s x n h g i) g i j

include hp hs in
theorem v137_at (n : Fin 32) (h : Fin 2) (g : Fin 3) (i : Fin 128) (j : Fin 256) :
    res_main_v137 V0 (ix6 0 n h g i j) = ((Pz p s (posv V0) n h g i j : ℝ) : EReal) := by
  unfold res_main_v137
  have e : ∀ j, res_main_v129 V0 (ix6 0 n h g i j) = ((wz p s (posv V0) n h g i j : ℝ) : EReal) := v129_at V0 p s hp hs n h g i
  have e' : res_main_v131 V0 (ix6 0 n h g i 0) = ((lz p s (posv V0) n h g i : ℝ) : EReal) := v131_at V0 p s hp hs n h g i
  generalize res_main_v129 V0 = X at e
  generalize res_main_v131 V0 = Y at e'
  pointwise
  rw [e, e', div_real (lz_pos p s _ n h g i)]
  exact congrArg Real.toEReal (wz_div p s _ n h g i j)

include hdc in
theorem v144_at (n : Fin 32) (h : Fin 2) (g : Fin 3) (i : Fin 128) (d : Fin 128) :
    res_main_v144 V0 (ix6 0 n h d g i) = ((Ob dc n h g i d : ℝ) : EReal) := by
  unfold res_main_v144
  pointwise
  rw [hdc]
  exact congrArg Real.toEReal (congrArg₂ dc (Fin.ext (Nat.add_right_cancel_iff.mpr (Nat.mul_comm _ _))) (Fin.ext (show 1280 + (h.val * 384 + g.val * 128 + d.val) = 1280 + ((h.val * 3 + g.val) * 128 + d.val) by omega)))

include hp hdc in
theorem v148_at (n : Fin 32) (h : Fin 2) (g : Fin 3) (i : Fin 128) (j : Fin 257) :
    res_main_v148 V0 (ix6 0 n h g i j) = (((if e : j.val < 256 then dp (Ob dc n h) (Vz p n h) g i ⟨j.val, e⟩ else 0) : ℝ) : EReal) := by
  unfold res_main_v148
  pointwise
  simp only [v144_at V0 dc hdc, v70_at V0 p hp, ← EReal.coe_mul, coe_sum]
  by_cases e : j.val < 256
  · rw [dif_pos e, dif_pos e]
    rfl
  · rw [dif_neg e, dif_neg e]
    rfl

/-- A row's gradient of the scores from the unnormalised weights. -/
theorem grad_row (D E : Fin 257 → ℝ) (L : ℝ) (hL : L ≠ 0) (j : Fin 257) :
    (D j / L + -(∑ j', D j' * (1 / (L * L)) * E j')) * E j = E j / L * (D j - ∑ j', E j' / L * D j') := by
  have h : ∑ j', D j' * (1 / (L * L)) * E j' = (∑ j', E j' / L * D j') / L := by
    rw [Finset.sum_div]
    refine Finset.sum_congr rfl fun j' _ => ?_
    field_simp
  rw [h]
  field_simp
  ring

/-- The inner total's array, read at a row. -/
theorem neg_row (f : S1x32x2x3x128x1.Idx → EReal) (z : EReal) (n : Fin 32) (h : Fin 2) (g : Fin 3) (i : Fin 128) :
    Ideal.hostReduceAdd reducesTo_S1x32x2x3x128x1_S32x2x3x128_d0_5 f z (ix4 n h g i) = z + f (ix6 0 n h g i 0) := by
  refine congrArg (z + ·) ((Finset.sum_filter_eq_sum_of_fiber _ (fun _ : Fin 1 => ix6 0 n h g i 0) (fun _ _ _ => Subsingleton.elim _ _) (fun x => ?_) f).trans (Fin.sum_univ_one _))
  constructor
  · intro e
    refine ⟨0, ?_⟩
    funext a
    apply Fin.ext
    match a with
    | ⟨0, _⟩ => exact (Nat.lt_one_iff.mp (x 0).isLt).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (Nat.lt_one_iff.mp (x 5).isLt).symm
  · rintro ⟨k, rfl⟩
    funext b
    apply Fin.ext
    match b with
    | ⟨0, _⟩ => rfl
    | ⟨1, _⟩ => rfl
    | ⟨2, _⟩ => rfl
    | ⟨3, _⟩ => rfl

/-- The reference's gradient of a row's scores, the sink's last. -/
def gz (x : Fin 4096 → BitVec 32) (n : Fin 32) (h : Fin 2) (g : Fin 3) (i : Fin 128) (j : Fin 257) : ℝ :=
  if e : j.val < 256 then ds (Qb p x n h) (Ob dc n h) (Kz p x n h) (Vz p n h) (Sb s h) n g i ⟨j.val, e⟩
  else -(Real.exp (Sb s h g) / tot (Qb p x n h) (Kz p x n h) (Sb s h) n g i) * del (Qb p x n h) (Ob dc n h) (Kz p x n h) (Vz p n h) (Sb s h) n g i

include hp hdc hs in
theorem v161_at (n : Fin 32) (h : Fin 2) (g : Fin 3) (i : Fin 128) (j : Fin 257) :
    res_main_v161 V0 (ix6 0 n h g i j) = ((gz p dc s (posv V0) n h g i j : ℝ) : EReal) := by
  unfold res_main_v161
  have e : ∀ j, res_main_v129 V0 (ix6 0 n h g i j) = ((wz p s (posv V0) n h g i j : ℝ) : EReal) := v129_at V0 p s hp hs n h g i
  have e' : res_main_v131 V0 (ix6 0 n h g i 0) = ((lz p s (posv V0) n h g i : ℝ) : EReal) := v131_at V0 p s hp hs n h g i
  have e2 := v148_at V0 p dc hp hdc n h g i
  generalize res_main_v129 V0 = X at e
  generalize res_main_v131 V0 = Y at e'
  generalize res_main_v148 V0 = Z at e2
  pointwise
  rw [neg_row]
  pointwise
  rw [row_sum]
  pointwise
  simp only [e, e', e2, ← EReal.coe_mul, Ideal.ofBits_one_f32, zero_add]
  rw [← EReal.coe_one, div_real (mul_ne_zero (lz_pos p s _ n h g i) (lz_pos p s _ n h g i)), div_real (lz_pos p s _ n h g i)]
  simp only [← EReal.coe_mul, coe_sum, ← EReal.coe_neg, ← EReal.coe_add]
  refine congrArg Real.toEReal ((grad_row (fun j => if e : j.val < 256 then dp (Ob dc n h) (Vz p n h) g i ⟨j.val, e⟩ else 0) (wz p s _ n h g i) _ (lz_pos p s _ n h g i) j).trans ?_)
  have hd : ∑ j' : Fin 257, wz p s (posv V0) n h g i j' / lz p s (posv V0) n h g i * (if e : j'.val < 256 then dp (Ob dc n h) (Vz p n h) g i ⟨j'.val, e⟩ else 0)
      = del (Qb p (posv V0) n h) (Ob dc n h) (Kz p (posv V0) n h) (Vz p n h) (Sb s h) n g i := by
    rw [Fin.sum_univ_castSucc, dif_neg (by decide), mul_zero, add_zero]
    refine Finset.sum_congr rfl fun j' _ => ?_
    rw [wz_div, dif_pos (show (j'.castSucc).val < 256 from j'.isLt)]
    rfl
  rw [hd]
  unfold gz
  by_cases hj : j.val < 256
  · rw [dif_pos hj, dif_pos hj]
    exact congrArg (· * _) (wz_div p s _ n h g i ⟨j.val, hj⟩)
  · obtain rfl : j = Fin.last 256 := Fin.ext (by simp only [Fin.val_last]; omega)
    rw [dif_neg hj, dif_neg hj, wz_last, zero_sub, mul_neg, neg_mul]
    refine congrArg (fun a => -(a * _)) ?_
    exact sink_shift (Qb p _ n h) (Kz p _ n h) (Sb s h) n (mx p s _ n h g i) g i

end Cert.SwaBwdRefIdeal.Real

end
-- ==== Proof.SwaBwdRef.lean ====
/- The reference of the windowed attention's gradients, run over the reals: its results are the formulas of `SwaSpec`. -/
module

public import proofs.«01_k».proof.Proof.SwaBwdRefB

@[expose] public section

set_option maxRecDepth 16384

noncomputable section

namespace Cert.SwaBwdRefIdeal.Real

open Idealize.ShloMosaic Idealize.ShloMosaic.WordCmp Cert.RealLift Cert.SwaBwdRefIdeal Cert.SwaBwdRefIdeal.Gen Cert.SwaBwdRefIdeal.Value Cert.Swa Idealize.ShloMosaic.StableHlo
open Idealize.SL.Sem Idealize.ShloMosaic.TcCoe

/-- The rows of the sinks' gradients, over the blocks and their rows. -/
theorem sink_sum (f : S1x32x2x3x128x1.Idx → EReal) (z : EReal) (h : Fin 2) (g : Fin 3) :
    Ideal.hostReduceAdd reducesTo_S1x32x2x3x128x1_S2x3_d0_1_4_5 f z (ix2 h g) = z + ∑ n : Fin 32, ∑ i : Fin 128, f (ix6 0 n h g i 0) := by
  refine congrArg (z + ·) ((Finset.sum_filter_eq_sum_of_fiber _ (fun k : Fin 32 × Fin 128 => (ix6 0 k.1 h g k.2 0 : S1x32x2x3x128x1.Idx))
    (fun _ _ e => Prod.ext (congrFun e 1) (congrFun e 4)) (fun x => ?_) f).trans (Fintype.sum_prod_type _))
  constructor
  · intro e
    refine ⟨(x 1, x 4), ?_⟩
    funext a
    apply Fin.ext
    match a with
    | ⟨0, _⟩ => exact (Nat.lt_one_iff.mp (x 0).isLt).symm
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => exact (Nat.lt_one_iff.mp (x 5).isLt).symm
  · rintro ⟨k, rfl⟩
    funext b
    apply Fin.ext
    match b with
    | ⟨0, _⟩ => rfl
    | ⟨1, _⟩ => rfl

theorem unit_sum (f : S1x1x2x3x1x1.Idx → EReal) (z : EReal) (h : Fin 2) (g : Fin 3) :
    Ideal.hostReduceAdd reducesTo_S1x1x2x3x1x1_S2x3_d0_1_4_5 f z (ix2 h g) = z + f (ix6 0 0 h g 0 0) := by
  refine congrArg (z + ·) ((Finset.sum_filter_eq_sum_of_fiber _ (fun _ : Fin 1 => (ix6 0 0 h g 0 0 : S1x1x2x3x1x1.Idx))
    (fun _ _ _ => Subsingleton.elim _ _) (fun x => ?_) f).trans (Fin.sum_univ_one _))
  constructor
  · intro e
    refine ⟨0, ?_⟩
    funext a
    apply Fin.ext
    match a with
    | ⟨0, _⟩ => exact (Nat.lt_one_iff.mp (x 0).isLt).symm
    | ⟨1, _⟩ => exact (Nat.lt_one_iff.mp (x 1).isLt).symm
    | ⟨2, _⟩ => exact (congrArg Fin.val (congrFun e 0)).symm
    | ⟨3, _⟩ => exact (congrArg Fin.val (congrFun e 1)).symm
    | ⟨4, _⟩ => exact (Nat.lt_one_iff.mp (x 4).isLt).symm
    | ⟨5, _⟩ => exact (Nat.lt_one_iff.mp (x 5).isLt).symm
  · rintro ⟨k, rfl⟩
    funext b
    apply Fin.ext
    match b with
    | ⟨0, _⟩ => rfl
    | ⟨1, _⟩ => rfl

variable (V0 : Valuation τ sig (Elt Ideal)) (p : Fin 4096 → Fin 4876 → ℝ) (dc : Fin 4096 → Fin 2048 → ℝ) (s : Fin 6 → ℝ)
variable (hp : V0 (Proc.devRef .tc main_arg0) = upf p) (hdc : V0 (Proc.devRef .tc main_arg1) = upf dc)
variable (hs : V0 (Proc.devRef .tc main_arg3) = fun i => ((s (i 0) : ℝ) : EReal))

theorem Kz_eq (x : Fin 4096 → BitVec 32) (n : Fin 32) (h : Fin 2) (j : Fin 256) (e : 0 < n.val ∨ 128 ≤ j.val) : Kz p x n h j = Kb p x n h j := if_pos e
theorem Vz_eq (n : Fin 32) (h : Fin 2) (j : Fin 256) (e : 0 < n.val ∨ 128 ≤ j.val) : Vz p n h j = Vb p n h j := if_pos e

include hp hdc hs in
theorem v147_at (n : Fin 32) (j : Fin 256) (h : Fin 2) (d : Fin 128) :
    res_main_v147 V0 (ix5 0 n j h d) = ((BV p dc (posv V0) s n h j d : ℝ) : EReal) := by
  unfold res_main_v147
  have e := fun g i => v137_at V0 p s hp hs n h g i j
  have e' := fun g i => v144_at V0 dc hdc n h g i d
  generalize res_main_v137 V0 = X at e
  generalize res_main_v144 V0 = Y at e'
  pointwise
  simp only [e, e', ← EReal.coe_mul, coe_sum]
  refine congrArg Real.toEReal (Eq.trans ?_ (dv_congr _ _ (Sb s h) n (Kz_eq p (posv V0) n h) j d))
  exact Finset.sum_congr rfl fun g _ => Finset.sum_congr rfl fun i _ => mul_comm _ _

include hp hdc hs in
theorem v171_at (n : Fin 32) (h : Fin 2) (g : Fin 3) (i : Fin 128) (j : Fin 256) :
    res_main_v171 V0 (ix6 0 n h j i g) = ((ds (Qb p (posv V0) n h) (Ob dc n h) (Kb p (posv V0) n h) (Vb p n h) (Sb s h) n g i j * scale : ℝ) : EReal) := by
  unfold res_main_v171
  have e := v161_at V0 p dc s hp hdc hs n h g i
  have e' := v104_at V0 n h g i j
  generalize res_main_v161 V0 = X at e
  generalize res_main_v104_1 V0 = Y at e'
  pointwise
  rw [← ds_congr (Qb p (posv V0) n h) (Ob dc n h) (Sb s h) n (Kz_eq p (posv V0) n h) (Vz_eq p n h) g i j, e', select_ofBool, ofBits_scale, e]
  cases hok : ok n i j
  · rw [ds_zero _ _ _ _ _ _ _ _ _ hok, zero_mul]
    exact EReal.coe_zero.symm
  · rw [gz, dif_pos (show (⟨j.val, _⟩ : Fin 257).val < 256 from j.isLt), ← EReal.coe_mul]
    rfl

include hp hdc hs in
theorem v175_at (n : Fin 32) (j : Fin 256) (h : Fin 2) (d : Fin 128) :
    res_main_v175 V0 (ix5 0 n j h d) = ((BK p dc (posv V0) s n h j d : ℝ) : EReal) := by
  unfold res_main_v175
  have e := fun g i => v171_at V0 p dc s hp hdc hs n h g i j
  have e' := fun g i => v56_at V0 p hp n i h g d
  generalize res_main_v171 V0 = X at e
  generalize res_main_v56 V0 = Y at e'
  pointwise
  simp only [e, e', ← EReal.coe_mul, coe_sum]
  refine congrArg Real.toEReal ?_
  unfold BK dk
  rw [Finset.sum_mul]
  refine (Finset.sum_comm.trans (Finset.sum_congr rfl fun g _ => ?_))
  rw [Finset.sum_mul]
  exact Finset.sum_congr rfl fun i _ => mul_right_comm _ _ _

/-- The head's group and place in it. -/
def h2 (h : Fin 6) : Fin 2 := ⟨h.val / 3, by omega⟩
def h3 (h : Fin 6) : Fin 3 := ⟨h.val % 3, by omega⟩

include hp hdc hs in
theorem v192_at (r : Fin 4096) (h : Fin 6) (d : Fin 128) :
    res_main_v192 V0 (ix4 0 r h d) = ((BQ p dc (posv V0) s (bOf r) (h2 h) (h3 h) (rOf r) d : ℝ) : EReal) := by
  unfold res_main_v192
  have e := fun j => v171_at V0 p dc s hp hdc hs (bOf r) (h2 h) (h3 h) (rOf r) j
  have e' := fun j => v63_at V0 p hp (bOf r) j (h2 h) d
  generalize res_main_v171 V0 = X at e
  generalize res_main_v63 V0 = Y at e'
  pointwise
  change ∑ j : Fin 256, @HMul.hMul EReal EReal EReal _ (X (ix6 0 (bOf r) (h2 h) j (rOf r) (h3 h))) (Y (ix5 0 (bOf r) j (h2 h) d)) = _
  simp only [e, e', ← EReal.coe_mul, coe_sum]
  refine congrArg Real.toEReal ?_
  unfold BQ
  rw [← dq_congr _ _ (Sb s (h2 h)) (bOf r) (Kz_eq p (posv V0) (bOf r) (h2 h)) (Vz_eq p (bOf r) (h2 h)), dq, Finset.sum_mul]
  refine Finset.sum_congr rfl fun j _ => ?_
  rw [← ds_congr _ _ (Sb s (h2 h)) (bOf r) (Kz_eq p (posv V0) (bOf r) (h2 h)) (Vz_eq p (bOf r) (h2 h))]
  exact mul_right_comm _ _ _

/-- What a row's own block and the block after it give. -/
def both (W : Fin 32 → Fin 256 → ℝ) (r : Fin 4096) : ℝ :=
  W (bOf r) ⟨128 + (rOf r).val, by omega⟩ + if e : (bOf r).val + 1 < 32 then W ⟨(bOf r).val + 1, e⟩ ⟨(rOf r).val, by omega⟩ else 0

/-- The two shifted arrays' sum, read at a row. -/
theorem both_read (W : Fin 32 → Fin 256 → ℝ) (r : Fin 4096) (A B : EReal) (cA cB : Prop) [Decidable cA] [Decidable cB] (a : cA → EReal) (b : cB → EReal)
    (hcA : cA) (hcB : cB ↔ (bOf r).val + 1 < 32) (ha : ∀ h, a h = ((W (bOf r) ⟨128 + (rOf r).val, by omega⟩ : ℝ) : EReal))
    (hb : ∀ (h : cB), b h = ((W ⟨(bOf r).val + 1, hcB.mp h⟩ ⟨(rOf r).val, by omega⟩ : ℝ) : EReal)) :
    (if h : cA then a h else 0) + (if h : cB then b h else 0) = ((both W r : ℝ) : EReal) := by
  rw [dif_pos hcA, ha, both, EReal.coe_add]
  by_cases h : cB
  · rw [dif_pos h, hb, dif_pos (hcB.mp h)]
  · rw [dif_neg h, dif_neg (fun e => h (hcB.mpr e)), EReal.coe_zero]

include hp hdc hs in
theorem v181_at (r : Fin 4096) (h : Fin 2) (d : Fin 128) :
    res_main_v181 V0 (ix4 0 ⟨128 + r.val, by omega⟩ h d) = ((both (fun n j => BV p dc (posv V0) s n h j d) r : ℝ) : EReal) := by
  unfold res_main_v181
  have e := fun n j => v147_at V0 p dc s hp hdc hs n j h d
  generalize res_main_v147 V0 = X at e
  pointwise
  refine both_read _ r 0 0 _ _ _ _ (by omega) (by simp only [bOf]; omega) (fun _ => (e _ _).trans ?_) (fun _ => (e _ _).trans ?_)
  · exact congrArg Real.toEReal (congrArg₂ (fun n j => BV p dc (posv V0) s n h j d) (Fin.ext (by simp only [bOf]; omega)) (Fin.ext (by simp only [rOf]; omega)))
  · exact congrArg Real.toEReal (congrArg₂ (fun n j => BV p dc (posv V0) s n h j d) (Fin.ext (by simp only [bOf]; omega)) (Fin.ext (by simp only [rOf]; omega)))

include hp hdc hs in
theorem v189_at (r : Fin 4096) (h : Fin 2) (d : Fin 128) :
    res_main_v189 V0 (ix4 0 ⟨128 + r.val, by omega⟩ h d) = ((both (fun n j => BK p dc (posv V0) s n h j d) r : ℝ) : EReal) := by
  unfold res_main_v189
  have e := fun n j => v175_at V0 p dc s hp hdc hs n j h d
  generalize res_main_v175 V0 = X at e
  pointwise
  refine both_read _ r 0 0 _ _ _ _ (by omega) (by simp only [bOf]; omega) (fun _ => (e _ _).trans ?_) (fun _ => (e _ _).trans ?_)
  · exact congrArg Real.toEReal (congrArg₂ (fun n j => BK p dc (posv V0) s n h j d) (Fin.ext (by simp only [bOf]; omega)) (Fin.ext (by simp only [rOf]; omega)))
  · exact congrArg Real.toEReal (congrArg₂ (fun n j => BK p dc (posv V0) s n h j d) (Fin.ext (by simp only [bOf]; omega)) (Fin.ext (by simp only [rOf]; omega)))

/-- The rotation's transpose as the reference computes it, by halves. -/
theorem rotT_lo (x : BitVec 32) (w : Fin 128 → ℝ) (d : Fin 128) (h : d.val < 64) :
    w ⟨64 + d.val, by omega⟩ * Real.sin (angle x d.val) + w d * Real.cos (angle x d.val) = rotT (cosT x) (sinT x) w d := by
  unfold rotT cosT sinT
  rw [show swap d = ⟨64 + d.val, by omega⟩ from Fin.ext (by simp only [swap]; omega), if_neg (by simp only []; omega), Nat.mod_eq_of_lt h, add_comm]
  exact congrArg (fun a => _ + _ * Real.sin (angle x a)) (by simp only []; omega)

theorem rotT_hi (x : BitVec 32) (w : Fin 128 → ℝ) (d : Fin 128) (h : ¬d.val < 64) :
    w ⟨64 + (d.val - 64), by omega⟩ * Real.cos (angle x (d.val - 64)) + -w ⟨d.val - 64, by omega⟩ * Real.sin (angle x (d.val - 64)) = rotT (cosT x) (sinT x) w d := by
  unfold rotT cosT sinT
  rw [show swap d = ⟨d.val - 64, by omega⟩ from Fin.ext (by simp only [swap]; omega), if_pos (by simp only []; omega), neg_mul, mul_neg,
    show (⟨64 + (d.val - 64), by omega⟩ : Fin 128) = d from Fin.ext (by simp only []; omega), show d.val % 64 = d.val - 64 by omega]
  exact congrArg (fun a => _ + -(_ * Real.sin (angle x a))) (by simp only []; omega)

theorem gV_both (x : Fin 4096 → BitVec 32) (r : Fin 4096) (h : Fin 2) (d : Fin 128) :
    both (fun n j => BV p dc x s n h j d) r = gV p dc x s (bOf r) (rOf r) h d := rfl

theorem row_of (r : Fin 4096) : row (bOf r) (rOf r) = r := Fin.ext (by simp only [row, bOf, rOf]; omega)

theorem gK_both (x : Fin 4096 → BitVec 32) (r : Fin 4096) (h : Fin 2) (d : Fin 128) :
    rotT (cosT (x r)) (sinT (x r)) (fun d => both (fun n j => BK p dc x s n h j d) r) d = gK p dc x s (bOf r) (rOf r) h d := by
  unfold both gK nK
  rw [rotT_add, row_of]
  refine congrArg (fun a => rotT (cosT (x r)) (sinT (x r)) (fun d => BK p dc x s (bOf r) h ⟨128 + (rOf r).val, by omega⟩ d) d + a) ?_
  by_cases e : (bOf r).val + 1 < 32
  · simp only [dif_pos e]
  · simp only [dif_neg e, rotT, zero_mul, add_zero]

include hp hdc hs in
theorem v191_at (r : Fin 4096) (h : Fin 2) (d : Fin 128) :
    res_main_v191 V0 (ix4 0 r h d) = ((both (fun n j => BK p dc (posv V0) s n h j d) r : ℝ) : EReal) := by
  refine Eq.trans ?_ (v189_at V0 p dc s hp hdc hs r h d)
  unfold res_main_v191
  generalize res_main_v189 V0 = X
  pointwise

end Cert.SwaBwdRefIdeal.Real

end
-- ==== Proof.SwaBwdRefRun.lean ====
/- The reference of the windowed attention's gradients, run over the reals: its results. -/
module

public import proofs.«01_k».proof.Proof.SwaBwdRef

@[expose] public section

set_option maxRecDepth 16384

noncomputable section

namespace Cert.SwaBwdRefIdeal.Real

open Idealize.ShloMosaic Idealize.ShloMosaic.WordCmp Cert.RealLift Cert.SwaBwdRefIdeal Cert.SwaBwdRefIdeal.Gen Cert.SwaBwdRefIdeal.Value Cert.Swa Idealize.ShloMosaic.StableHlo
open Idealize.SL.Sem Idealize.ShloMosaic.TcCoe

/-- A device's positions. -/
def posm (m : (ℓ : Loc nD τ sig) → Buf (Elt Ideal) ℓ) (c : Dev nD) (r : Fin 4096) : BitVec 32 := m ((c.tc : Thread nD τ).loc main_arg2) (ix1 r)

/-- The sink's column of the scores' gradient. -/
theorem gz_last (p : Fin 4096 → Fin 4876 → ℝ) (dc : Fin 4096 → Fin 2048 → ℝ) (s : Fin 6 → ℝ) (x : Fin 4096 → BitVec 32)
    (n : Fin 32) (h : Fin 2) (g : Fin 3) (i : Fin 128) : gz p dc s x n h g i 256 = BS p dc x s n h g i := by
  unfold gz BS
  rw [dif_neg (by decide)]
  simp only [tot, wt_congr _ n (Kz_eq p x n h), del_congr (Qb p x n h) (Ob dc n h) (Sb s h) n (Kz_eq p x n h) (Vz_eq p n h)]

set_option maxHeartbeats 2000000 in
theorem run (m : (ℓ : Loc nD τ sig) → Buf (Elt Ideal) ℓ) (ρ : Dev nD → PrngReg)
    (p : Dev nD → Fin 4096 → Fin 4876 → ℝ) (dc : Dev nD → Fin 4096 → Fin 2048 → ℝ) (s : Dev nD → Fin 6 → ℝ)
    (hp : ∀ c : Dev nD, m ((c : Thread nD τ).loc main_arg0) = upf (p c)) (hdc : ∀ c : Dev nD, m ((c : Thread nD τ).loc main_arg1) = upf (dc c))
    (hs : ∀ c : Dev nD, m ((c : Thread nD τ).loc main_arg3) = fun i => ((s c (i 0) : ℝ) : EReal)) :
    θ_run defs (onTc (τ := τ) (main (F := Ideal))) ⟨m, fun _ => 0, ρ⟩ fun r => ∀ c : Dev nD,
      r.2.mem ((c.tc : Thread nD τ).loc main_v225) = upf (fun r j => gQ (p c) (dc c) (posm m c) (s c) (bOf r) (rOf r) (jh j) (jg j) (jd j))
      ∧ r.2.mem ((c.tc : Thread nD τ).loc main_v227) = upf (fun r j => gK (p c) (dc c) (posm m c) (s c) (bOf r) (rOf r) (kh j) (kd j))
      ∧ r.2.mem ((c.tc : Thread nD τ).loc main_v229) = upf (fun r j => gV (p c) (dc c) (posm m c) (s c) (bOf r) (rOf r) (kh j) (kd j))
      ∧ r.2.mem ((c.tc : Thread nD τ).loc main_v231) = upf (fun _ l => gS (p c) (dc c) (posm m c) (s c) l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, ?_, ?_, ?_, (h c).2.2.2.2⟩) (Value.run (F := Ideal) m ρ)
  all_goals
    have h0 : launchContents m c (Proc.devRef .tc main_arg0) = upf (p c) := hp c
    have h1 : launchContents m c (Proc.devRef .tc main_arg1) = upf (dc c) := hdc c
    have h3 : launchContents m c (Proc.devRef .tc main_arg3) = fun i => ((s c (i 0) : ℝ) : EReal) := hs c
    have hx : posv (launchContents m c) = posm m c := rfl
  · refine (h c).1.trans ?_
    clear h
    have e := v192_at _ (p c) (dc c) (s c) h0 h1 h3
    have ea := v16_at (launchContents m c)
    rw [hx] at e ea
    unfold res_main_v209 res_main_v210 res_main_v19 res_main_v20
    generalize res_main_v192 (launchContents m c) = X at e
    generalize res_main_v16 (launchContents m c) = A at ea
    refine eq_upf fun r j => ?_
    pointwise
    simp only [e, ea, Ideal.cos_coe, Ideal.sin_coe, ← EReal.coe_mul, ← EReal.coe_neg, ← EReal.coe_add]
    have ej : h2 ⟨j.val / 128, by omega⟩ = jh j := Fin.ext (by simp only [h2, jh]; omega)
    rw [gQ, row_of, ← ej]
    refine dite_lift (fun h => congrArg Real.toEReal ?_) (fun h => congrArg Real.toEReal ?_)
    · exact rotT_lo _ (fun d => BQ (p c) (dc c) (posm m c) (s c) (bOf r) (h2 ⟨j.val / 128, by omega⟩) (jg j) (rOf r) d) (jd j) h
    · exact rotT_hi _ (fun d => BQ (p c) (dc c) (posm m c) (s c) (bOf r) (h2 ⟨j.val / 128, by omega⟩) (jg j) (rOf r) d) (jd j) h
  · refine (h c).2.1.trans ?_
    clear h
    have e := v191_at _ (p c) (dc c) (s c) h0 h1 h3
    have ea := v16_at (launchContents m c)
    rw [hx] at e ea
    unfold res_main_v194 res_main_v195 res_main_v19 res_main_v20
    generalize res_main_v191 (launchContents m c) = X at e
    generalize res_main_v16 (launchContents m c) = A at ea
    refine eq_upf fun r j => ?_
    pointwise
    simp only [e, ea, Ideal.cos_coe, Ideal.sin_coe, ← EReal.coe_mul, ← EReal.coe_neg, ← EReal.coe_add]
    rw [← gK_both]
    refine dite_lift (fun h => congrArg Real.toEReal ?_) (fun h => congrArg Real.toEReal ?_)
    · exact rotT_lo _ (fun d => both (fun n y => BK (p c) (dc c) (posm m c) (s c) n (kh j) y d) r) (kd j) h
    · exact rotT_hi _ (fun d => both (fun n y => BK (p c) (dc c) (posm m c) (s c) n (kh j) y d) r) (kd j) h
  · refine (h c).2.2.1.trans ?_
    clear h
    have e := v181_at _ (p c) (dc c) (s c) h0 h1 h3
    rw [hx] at e
    generalize res_main_v181 (launchContents m c) = X at e
    refine eq_upf fun r j => ?_
    pointwise
    exact e r (kh j) (kd j)
  · refine (h c).2.2.2.1.trans ?_
    clear h
    have e := v161_at _ (p c) (dc c) (s c) h0 h1 h3
    rw [hx] at e
    generalize res_main_v161 (launchContents m c) = X at e
    refine eq_upf fun r l => ?_
    pointwise
    unfold gS lanes
    by_cases hl : l.val < 6
    · simp only [dif_pos hl]
      refine (unit_sum _ _ _ _).trans ?_
      pointwise
      refine (sink_sum _ _ _ _).trans ?_
      pointwise
      simp only [zero_add, e, coe_sum, gz_last]
    · simp only [dif_neg hl, Finset.sum_const_zero]
      change (((0#32 : BitVec 32).toInt : ℝ) : EReal) = ((0 : ℝ) : EReal)
      rw [BitVec.toInt_zero, Int.cast_zero]

end Cert.SwaBwdRefIdeal.Real

end
-- ==== Proof.SwaBwdClaim.lean ====
/- The claims about `swa_bwd`. -/
module

public import proofs.«01_k».proof.Defs
public import proofs.«01_k».proof.Proof.SwaBwd
public import proofs.«01_k».proof.Proof.SwaBwdRefRun
public import proofs.«01_k».proof.Proof.Gen.SwaBwd
public import proofs.«01_k».proof.Proof.Gen.Pre_swa_bwd_finite

@[expose] public section

set_option maxRecDepth 16384

noncomputable section

namespace Cert.Proof.SwaBwd

open Idealize.ShloMosaic Idealize.SL.Sem Idealize.ShloMosaic.TcCoe Cert.RealLift Cert.Swa

theorem lifts (p : FVec Ideal Cert.Pre_swa_bwd_finite.S4096x4876 .f32) (dc : FVec Ideal Cert.Pre_swa_bwd_finite.S4096x2048 .f32)
    (x : IVec Cert.Pre_swa_bwd_finite.S4096 32) (s : FVec Ideal Cert.Pre_swa_bwd_finite.S6 .f32)
    (h : Cert.Pre_swa_bwd_finite.fn (F := Ideal) p dc x s = fun _ => 1#1) :
    IsLift p ∧ IsLift dc ∧ IsLift s := by
  obtain ⟨h12, h3⟩ := and_one h
  obtain ⟨h1, h2⟩ := and_one h12
  exact ⟨lift_of_all p _ _ _ _ h1, lift_of_all dc _ _ _ _ h2, lift_of_all s _ _ _ _ h3⟩

/-- A lifted matrix by its two indices, and a lifted row by its one. -/
theorem two {a b : ℕ} {x : (⟨2, ![a, b]⟩ : Shape).Idx → EReal} {f : (⟨2, ![a, b]⟩ : Shape).Idx → ℝ} (h : x = fun i => ((f i : ℝ) : EReal)) :
    x = upf fun i j => f (ix2 i j) := by
  rw [h]; funext i; exact congrArg (fun k => ((f k : ℝ) : EReal)) (funext fun a => match a with | ⟨0, _⟩ => rfl | ⟨1, _⟩ => rfl)
theorem one {a : ℕ} {x : (⟨1, ![a]⟩ : Shape).Idx → EReal} {f : (⟨1, ![a]⟩ : Shape).Idx → ℝ} (h : x = fun i => ((f i : ℝ) : EReal)) :
    x = fun i => ((f (ix1 (i 0)) : ℝ) : EReal) := by
  rw [h]; funext i; exact congrArg (fun k => ((f k : ℝ) : EReal)) (funext fun a => match a with | ⟨0, _⟩ => rfl)

/-- A named constant over words is the word itself: read so, the printed kernel is the one whose constants have names. -/
abbrev plain : Named Bits := ⟨fun _ _ φ b => FloatOps.ofBits φ b⟩

attribute [local instance] plain

theorem main_eq : Cert.SwaBwd.main (F := Bits) = Cert.SwaBwdIdeal.main (F := Bits) := by sl_kernel_rfl
theorem defs_eq : Cert.SwaBwd.defs (F := Bits) = Cert.SwaBwdIdeal.defs (F := Bits) := by sl_kernel_rfl

theorem q1 : quiescent_SwaBwd := by
  intro m g _
  rw [main_eq, defs_eq]
  exact Cert.SwaBwdIdeal.Hand.frame (F := Bits) m g
theorem q2 : quiescent_SwaBwdIdeal := fun m g _ => Cert.SwaBwdIdeal.Hand.frame m g
theorem q3 : quiescent_SwaBwdIdeal_pre_swa_bwd_finite := fun m g _ => Cert.SwaBwdIdeal.Hand.frame m g
theorem q4 : quiescent_SwaBwdRefIdeal := fun m g _ =>
  (θ_run _ _ _).mono (fun r h => And.intro (fun c => (h c).2.2.2.2) (sem_eq_zero_of_no_sems (by decide) r.2)) (Cert.SwaBwdRefIdeal.Value.run (F := Ideal) m g)
theorem q5 : quiescent_SwaBwdRefIdeal_pre_swa_bwd_finite := fun m g _ => q4 m g trivial
theorem kept : preserves_SwaBwd_SwaBwdIdeal := IdealRules.named_const.statement _ _ _ _ _ rfl

theorem value : algebraic_SwaBwdIdeal_SwaBwdRefIdeal_pre_swa_bwd_finite := by
  intro m g m' g' hpre hag
  choose p hp using fun c => (lifts _ _ _ _ (hpre c)).1
  choose d hd using fun c => (lifts _ _ _ _ (hpre c)).2.1
  choose s hs using fun c => (lifts _ _ _ _ (hpre c)).2.2
  refine ⟨_, _, _, _, ?_, Cert.SwaBwdRefIdeal.Real.run m' g' (fun c i j => p c (ix2 i j)) (fun c i j => d c (ix2 i j)) (fun c i => s c (ix1 i))
    (fun c => (hag c).1.trans (two (hp c))) (fun c => (hag c).2.1.trans (two (hd c))) (fun c => (hag c).2.2.2.trans (one (hs c)))⟩
  have hx : ∀ c : Dev Cert.SwaBwdIdeal.nD, Cert.SwaBwdRefIdeal.Real.posm m' c = Cert.SwaBwdIdeal.Real.posn m c :=
    fun c => funext fun r => congrFun (hag c).2.2.1 (ix1 r)
  refine (θ_run _ _ _).mono (fun r h c => ?_) (Cert.SwaBwdIdeal.Real.run_arrays m g)
  have e := hx c
  refine ⟨(h c).1.trans ?_, (h c).2.1.trans ?_, (h c).2.2.1.trans ?_, (h c).2.2.2.1.trans ?_, (h c).2.2.2.2⟩
  · exact (Cert.SwaBwdIdeal.Real.arr11 m c _ _ _ (two (hp c)) (two (hd c)) (one (hs c))).trans (by rw [e])
  · exact (Cert.SwaBwdIdeal.Real.arr12 m c _ _ _ (two (hp c)) (two (hd c)) (one (hs c))).trans (by rw [e])
  · exact (Cert.SwaBwdIdeal.Real.arr13 m c _ _ _ (two (hp c)) (two (hd c)) (one (hs c))).trans (by rw [e])
  · exact (Cert.SwaBwdIdeal.Real.arr14 m c _ _ _ (two (hp c)) (two (hd c)) (one (hs c))).trans (by rw [e])

end Cert.Proof.SwaBwd

end
-- ==== Proof.PoolSpec.lean ====
/- The multi-scale pooling and its gradients over the reals: what the kernel's results and the reference's both are. -/
module

public import proofs.«01_k».proof.Proof.RealLift
public import Idealize.ShloMosaic.Lib.WordCmp
public import Idealize.ShloMosaic.Lib.WordArith

@[expose] public section

noncomputable section

namespace Cert.Pool

open Idealize.ShloMosaic Idealize.ShloMosaic.WordCmp

/-- A group's window, and how many of its rows there are at a row. -/
def win (g : Fin 4) : ℕ := 2 ^ (g.val + 1)
def cnt (g : Fin 4) (n : ℕ) : ℝ := ((min (n + 1) (win g) : ℕ) : ℝ)

theorem win_pos (g : Fin 4) : 0 < win g := Nat.pow_pos (by decide)
theorem win_le (g : Fin 4) : win g ≤ 16 := (by decide : ∀ g : Fin 4, win g ≤ 16) g
theorem cnt_ne (g : Fin 4) (n : ℕ) : cnt g n ≠ 0 := by
  unfold cnt
  have := win_pos g
  exact_mod_cast (by omega : min (n + 1) (win g) ≠ 0)

/-- The number of rows as the programs compute it, in words. -/
theorem cnt_word (g : Fin 4) (n : ℕ) (hn : n < 8192) (x c : BitVec 32) (hx : x = BitVec.ofNat 32 (n + 1)) (hc : c = BitVec.ofNat 32 (win g)) :
    FloatOps.sitofp (F := Ideal) .f32 (IntOp.minsi x c) = ((cnt g n : ℝ) : EReal) := by
  have hw := win_le g
  have ex : x.toNat = n + 1 := by rw [hx, BitVec.toNat_ofNat]; omega
  have ec : c.toNat = win g := by rw [hc, BitVec.toNat_ofNat]; omega
  have e := WordArith.toNat_minsi_of_lt x c (by omega) (by omega)
  change (((IntOp.minsi x c).toInt : ℝ) : EReal) = _
  rw [BitVec.toInt_eq_toNat_of_lt (by omega), e, ex, ec, Int.cast_natCast]
  rfl

/-- The choice among four by the group. -/
theorem pick {α : Type} (g : Fin 4) (a b c d : α) :
    Scalar.select (Scalar.cmpi .eq (BitVec.ofNat 32 g.val) 0#32) a (Scalar.select (Scalar.cmpi .eq (BitVec.ofNat 32 g.val) 1#32) b
      (Scalar.select (Scalar.cmpi .eq (BitVec.ofNat 32 g.val) 2#32) c d)) = ![a, b, c, d] g := by
  match g with
  | 0 => rfl
  | 1 => rfl
  | 2 => rfl
  | 3 => rfl

theorem pick_win (g : Fin 4) : ![2#32, 4#32, 8#32, 16#32] g = BitVec.ofNat 32 (win g) :=
  (by decide : ∀ g : Fin 4, ![2#32, 4#32, 8#32, 16#32] g = BitVec.ofNat 32 (win g)) g

variable (p : Fin 4096 → Fin 4876 → ℝ) (dc : Fin 4096 → Fin 2048 → ℝ) (w : Fin 4 → Fin 128 → Fin 128 → ℝ) (s : Fin 512 → ℝ)

/-- A group's inputs, and the cotangent's part that is its own; noughts past the last row. -/
def X (g : Fin 4) (a : Fin 128) (n : ℕ) : ℝ := if h : n < 4096 then p ⟨n, h⟩ ⟨3084 + 128 * g.val + a.val, by omega⟩ else 0
def Y (g : Fin 4) (b : Fin 128) (n : ℕ) : ℝ := if h : n < 4096 then dc ⟨n, h⟩ ⟨768 + 128 * g.val + b.val, by omega⟩ else 0
def Sc (g : Fin 4) (b : Fin 128) : ℝ := s ⟨128 * g.val + b.val, by omega⟩

/-- The sum of the rows of a window that ends at a row, and of one that begins there. -/
def upto (f : ℕ → ℝ) (w n : ℕ) : ℝ := ∑ k ∈ Finset.range w, if k ≤ n then f (n - k) else 0
def from' (f : ℕ → ℝ) (w n : ℕ) : ℝ := ∑ k ∈ Finset.range w, f (n + k)

/-- The window's mean less the row itself. -/
def mean (g : Fin 4) (a : Fin 128) (n : ℕ) : ℝ := upto (X p g a) (win g) n / cnt g n - X p g a n

/-- The gradients of the weights, of the scales, of the means and of the inputs. -/
def gW (g : Fin 4) (a b : Fin 128) : ℝ := ∑ n : Fin 4096, mean p g a n * (Y dc g b n * Sc s g b)
def gSc (g : Fin 4) (b : Fin 128) : ℝ := ∑ n : Fin 4096, Y dc g b n * ∑ a, mean p g a n * w g a b
def gM (g : Fin 4) (a : Fin 128) (n : ℕ) : ℝ := ∑ b, Y dc g b n * Sc s g b * w g a b
def gX (g : Fin 4) (a : Fin 128) (n : ℕ) : ℝ := from' (fun k => gM dc w s g a k / cnt g k) (win g) n - gM dc w s g a n

theorem gM_past (g : Fin 4) (a : Fin 128) (n : ℕ) (h : 4096 ≤ n) : gM dc w s g a n = 0 := by
  unfold gM Y
  simp only [dif_neg (not_lt.mpr h), zero_mul, Finset.sum_const_zero]

/-- A running sum's difference is a window's sum. -/
theorem run_sub (f : ℕ → ℝ) (w n : ℕ) :
    ∑ k ∈ Finset.range (n + 1), f k - (if w ≤ n then ∑ k ∈ Finset.range (n - w + 1), f k else 0) = upto f w n := by
  unfold upto
  induction w with
  | zero => simp
  | succ w ih =>
    rw [Finset.sum_range_succ (fun k => if k ≤ n then f (n - k) else 0) w, ← ih]
    rcases lt_trichotomy w n with h | h | h
    · rw [if_pos h.le, if_pos (by omega : w + 1 ≤ n), if_pos h.le, show n - w + 1 = (n - (w + 1) + 1) + 1 by omega, Finset.sum_range_succ _ (n - (w + 1) + 1),
        show n - (w + 1) + 1 = n - w by omega]
      ring
    · subst h
      simp
    · rw [if_neg (by omega), if_neg (by omega), if_neg (by omega)]
      ring

/-- The same from the last row back. -/
theorem back_sub (f : ℕ → ℝ) (N w n : ℕ) (h : ∀ k, N ≤ k → f k = 0) :
    ∑ k ∈ Finset.range N, (f (n + k) - f (n + k + w)) = from' f w n := by
  have e : ∑ k ∈ Finset.range N, f (n + k) + ∑ k ∈ Finset.range w, f (n + N + k) = ∑ k ∈ Finset.range w, f (n + k) + ∑ k ∈ Finset.range N, f (n + k + w) := by
    rw [← Finset.sum_congr rfl (fun k _ => congrArg f (by omega : n + (N + k) = n + N + k)), ← Finset.sum_congr rfl (fun k _ => congrArg f (by omega : n + (w + k) = n + k + w)),
      ← Finset.sum_range_add (fun k => f (n + k)) N w, ← Finset.sum_range_add (fun k => f (n + k)) w N, Nat.add_comm]
  have z : ∑ k ∈ Finset.range w, f (n + N + k) = 0 := Finset.sum_eq_zero fun k _ => h _ (by omega)
  unfold from'
  rw [Finset.sum_sub_distrib]
  linarith

/-- Two turned copies' sum, each the sum of a window's rows, is the sum of twice as many. -/
theorem turn_add (f : ℕ → ℝ) (w r : ℕ) :
    ∑ k ∈ Finset.range w, f (r + k) + ∑ k ∈ Finset.range w, f (r + w + k) = ∑ k ∈ Finset.range (w + w), f (r + k) := by
  rw [Finset.sum_range_add]
  simp only [Nat.add_assoc]

end Cert.Pool

end
-- ==== Proof.PoolOps.lean ====
/- The pooling gradient's arithmetic over the reals: what each payload makes of a tile's blocks. -/
module

public import proofs.«01_k».proof.Proof.PoolSpec
public import proofs.«01_k».proof.Proof.SwaReal
public import proofs.«01_k».proof.Proof.Gen.PoolBwdIdeal.Value
public import Idealize.ShloMosaic.Lib.Pipeline.ValueKit

@[expose] public section

set_option maxRecDepth 16384

noncomputable section

namespace Cert.PoolBwdIdeal.Real

open Idealize.ShloMosaic Idealize.ShloMosaic.WordCmp Cert.RealLift Cert.PoolBwdIdeal Cert.PoolBwdIdeal.Gen Cert.Pool Cert.Swa Idealize.SL.Sem Idealize.ShloMosaic.TcCoe

/-- A turned copy added: from the sums of `w` rows up to a row to those of twice as many. -/
theorem up (w : ℕ) (X R : S528x128.Idx → EReal) (f : Fin 128 → ℕ → ℝ)
    (hX : ∀ (r : Fin 528) (c : Fin 128), w ≤ r.val + 1 → X (ix2 r c) = ((∑ k ∈ Finset.range w, f c (r.val - k) : ℝ) : EReal))
    (hR : ∀ (r : Fin 528) (c : Fin 128), R (ix2 r c) = X (ix2 ⟨(r.val + 528 - w) % 528, Nat.mod_lt _ (by decide)⟩ c)) (r : Fin 528) (c : Fin 128) (h : w + w ≤ r.val + 1) :
    (addf X R : FVec Ideal S528x128 .f32) (ix2 r c) = ((∑ k ∈ Finset.range (w + w), f c (r.val - k) : ℝ) : EReal) := by
  change X (ix2 r c) + R (ix2 r c) = _
  have e : (r.val + 528 - w) % 528 = r.val - w := by omega
  rw [hR, hX r c (by omega), hX _ c (by show w ≤ (r.val + 528 - w) % 528 + 1; omega), ← EReal.coe_add, Finset.sum_range_add]
  simp only [e, Nat.sub_sub]

/-- The same for the rows from a row on. -/
theorem down (w : ℕ) (X R : S528x128.Idx → EReal) (f : Fin 128 → ℕ → ℝ)
    (hX : ∀ (r : Fin 528) (c : Fin 128), r.val + w ≤ 528 → X (ix2 r c) = ((∑ k ∈ Finset.range w, f c (r.val + k) : ℝ) : EReal))
    (hR : ∀ (r : Fin 528) (c : Fin 128), R (ix2 r c) = X (ix2 ⟨(r.val + w) % 528, Nat.mod_lt _ (by decide)⟩ c)) (hw : 0 < w) (r : Fin 528) (c : Fin 128) (h : r.val + (w + w) ≤ 528) :
    (addf X R : FVec Ideal S528x128 .f32) (ix2 r c) = ((∑ k ∈ Finset.range (w + w), f c (r.val + k) : ℝ) : EReal) := by
  change X (ix2 r c) + R (ix2 r c) = _
  have e : (r.val + w) % 528 = r.val + w := by omega
  rw [hR, hX r c (by omega), hX _ c (by show (r.val + w) % 528 + w ≤ 528; omega), ← EReal.coe_add, Finset.sum_range_add]
  simp only [e, Nat.add_assoc]

/-- Two, four, eight and sixteen rows. -/
def s2 (e : FVec Ideal S528x128 .f32) : FVec Ideal S528x128 .f32 := addf e (dynamicRotate 0 1#32 none e rotates_S528x128_d0)
def s4 (e : FVec Ideal S528x128 .f32) : FVec Ideal S528x128 .f32 := addf (s2 e) (dynamicRotate 0 2#32 none (s2 e) rotates_S528x128_d0)
def s8 (e : FVec Ideal S528x128 .f32) : FVec Ideal S528x128 .f32 := addf (s4 e) (dynamicRotate 0 4#32 none (s4 e) rotates_S528x128_d0)
def s16 (e : FVec Ideal S528x128 .f32) : FVec Ideal S528x128 .f32 := addf (s8 e) (dynamicRotate 0 8#32 none (s8 e) rotates_S528x128_d0)

theorem ups (e : FVec Ideal S528x128 .f32) (f : Fin 128 → ℕ → ℝ) (he : ∀ (r : Fin 528) (c : Fin 128), e (ix2 r c) = ((f c r.val : ℝ) : EReal)) (g : Fin 4)
    (r : Fin 528) (c : Fin 128) (h : 16 ≤ r.val + 1) :
    (![s2 e, s4 e, s8 e, s16 e] g) (ix2 r c) = ((∑ k ∈ Finset.range (win g), f c (r.val - k) : ℝ) : EReal) := by
  have h1 := up 1 e (dynamicRotate 0 1#32 none e rotates_S528x128_d0) f (fun r c _ => (he r c).trans (by rw [Finset.sum_range_one]; rfl)) (fun r c => by pointwise)
  have h2 := up 2 (s2 e) (dynamicRotate 0 2#32 none (s2 e) rotates_S528x128_d0) f h1 (fun r c => by pointwise)
  have h4 := up 4 (s4 e) (dynamicRotate 0 4#32 none (s4 e) rotates_S528x128_d0) f h2 (fun r c => by pointwise)
  have h8 := up 8 (s8 e) (dynamicRotate 0 8#32 none (s8 e) rotates_S528x128_d0) f h4 (fun r c => by pointwise)
  match g with
  | 0 => exact h1 r c (by omega)
  | 1 => exact h2 r c (by omega)
  | 2 => exact h4 r c (by omega)
  | 3 => exact h8 r c (by omega)

def r2 (e : FVec Ideal S528x128 .f32) : FVec Ideal S528x128 .f32 := addf e (dynamicRotate 0 527#32 none e rotates_S528x128_d0)
def r4 (e : FVec Ideal S528x128 .f32) : FVec Ideal S528x128 .f32 := addf (r2 e) (dynamicRotate 0 526#32 none (r2 e) rotates_S528x128_d0)
def r8 (e : FVec Ideal S528x128 .f32) : FVec Ideal S528x128 .f32 := addf (r4 e) (dynamicRotate 0 524#32 none (r4 e) rotates_S528x128_d0)
def r16 (e : FVec Ideal S528x128 .f32) : FVec Ideal S528x128 .f32 := addf (r8 e) (dynamicRotate 0 520#32 none (r8 e) rotates_S528x128_d0)

theorem downs (e : FVec Ideal S528x128 .f32) (f : Fin 128 → ℕ → ℝ) (he : ∀ (r : Fin 528) (c : Fin 128), e (ix2 r c) = ((f c r.val : ℝ) : EReal)) (g : Fin 4)
    (r : Fin 528) (c : Fin 128) (h : r.val + 16 ≤ 528) :
    (![r2 e, r4 e, r8 e, r16 e] g) (ix2 r c) = ((∑ k ∈ Finset.range (win g), f c (r.val + k) : ℝ) : EReal) := by
  have h1 := down 1 e (dynamicRotate 0 527#32 none e rotates_S528x128_d0) f (fun r c _ => (he r c).trans (by rw [Finset.sum_range_one]; rfl))
    (fun r c => by pointwise; exact congrArg (fun k => e (ix2 k c)) (Fin.ext (by show (r.val + 528 - 527) % 528 = (r.val + 1) % 528; omega))) (by decide)
  have h2 := down 2 (r2 e) (dynamicRotate 0 526#32 none (r2 e) rotates_S528x128_d0) f h1
    (fun r c => by generalize r2 e = x; pointwise; exact congrArg (fun k => x (ix2 k c)) (Fin.ext (by show (r.val + 528 - 526) % 528 = (r.val + 2) % 528; omega))) (by decide)
  have h4 := down 4 (r4 e) (dynamicRotate 0 524#32 none (r4 e) rotates_S528x128_d0) f h2
    (fun r c => by generalize r4 e = x; pointwise; exact congrArg (fun k => x (ix2 k c)) (Fin.ext (by show (r.val + 528 - 524) % 528 = (r.val + 4) % 528; omega))) (by decide)
  have h8 := down 8 (r8 e) (dynamicRotate 0 520#32 none (r8 e) rotates_S528x128_d0) f h4
    (fun r c => by generalize r8 e = x; pointwise; exact congrArg (fun k => x (ix2 k c)) (Fin.ext (by show (r.val + 528 - 520) % 528 = (r.val + 8) % 528; omega))) (by decide)
  match g with
  | 0 => exact h1 r c (by omega)
  | 1 => exact h2 r c (by omega)
  | 2 => exact h4 r c (by omega)
  | 3 => exact h8 r c (by omega)

theorem pay3_def (i : grid0.Coords) (h : Vec Ideal S16x128 .f32) (x : Vec Ideal S512x128 .f32) :
    k0_pay3 (F := Ideal) i h x = extractStridedSlice S512x128 ![16, 0] (Scalar.select (Scalar.cmpi .eq (BitVec.ofNat 32 (i 0).val) 0#32) (s2 (k0_pay2 i h x))
      (Scalar.select (Scalar.cmpi .eq (BitVec.ofNat 32 (i 0).val) 1#32) (s4 (k0_pay2 i h x)) (Scalar.select (Scalar.cmpi .eq (BitVec.ofNat 32 (i 0).val) 2#32) (s8 (k0_pay2 i h x)) (s16 (k0_pay2 i h x)))))
      slices_S528x128_o16_0_S512x128 := rfl

/-- A grid point's group. -/
def gr (i : grid0.Coords) : Fin 4 := i 0

variable (p : Fin 4096 → Fin 4876 → ℝ) (dc : Fin 4096 → Fin 2048 → ℝ) (w : Fin 4 → Fin 128 → Fin 128 → ℝ) (s : Fin 512 → ℝ)

/-- A tile's blocks: the 16 rows before it (the first tile's are not read), its own, the cotangent's rows and the 16 after
    them (the last tile's are not read), the weights and the scales. -/
def hB (i : grid0.Coords) : S16x128.Idx → EReal := upf fun r c => X p (gr i) c (16 * (32 * (i 1).val - 1) + r.val)
def xB (i : grid0.Coords) : S512x128.Idx → EReal := upf fun r c => X p (gr i) c (512 * (i 1).val + r.val)
def dB (i : grid0.Coords) : S512x128.Idx → EReal := upf fun r c => Y dc (gr i) c (512 * (i 1).val + r.val)
def nB (i : grid0.Coords) : S16x128.Idx → EReal := upf fun r c => Y dc (gr i) c (16 * min (32 * (i 1).val + 32) 255 + r.val)
def wB (i : grid0.Coords) : S1x128x128.Idx → EReal := fun j => ((w (gr i) (j 1) (j 2) : ℝ) : EReal)
def sB (i : grid0.Coords) : S1x128.Idx → EReal := upf fun _ c => Sc s (gr i) c

theorem lt4 (i : grid0.Coords) : (i 0).val < 4 := (i 0).isLt
theorem lt8 (i : grid0.Coords) : (i 1).val < 8 := (i 1).isLt

theorem pay2_at (i : grid0.Coords) (r : Fin 528) (c : Fin 128) :
    k0_pay2 (F := Ideal) i (hB p i) (xB p i) (ix2 r c) = ((if 16 ≤ 512 * (i 1).val + r.val then X p (gr i) c (512 * (i 1).val + r.val - 16) else 0 : ℝ) : EReal) := by
  have h8 := lt8 i
  pointwise [k0_pay2]
  have e : Scalar.cmpi .sgt (BitVec.ofNat 32 (i 1).val) 0#32 = BitVec.ofBool (decide (0 < (i 1).val)) := cmpi_sgt_ofNat (b := 0) (by omega) (by decide)
  rw [e]
  split
  · rename_i h
    refine (select_ofBool _ _ _).trans ?_
    by_cases h0 : 0 < (i 1).val
    · rw [if_pos (by simpa using h0), if_pos (by omega)]
      exact congrArg (fun n => ((X p (gr i) c n : ℝ) : EReal)) (by show 16 * (32 * (i 1).val - 1) + r.val = 512 * (i 1).val + r.val - 16; omega)
    · rw [if_neg (by simpa using h0), if_neg (by omega)]
      rfl
  · rename_i h
    refine Eq.trans ?_ (congrArg Real.toEReal (if_pos (by omega))).symm
    exact congrArg (fun n => ((X p (gr i) c n : ℝ) : EReal)) (by show 512 * (i 1).val + (r.val - 16) = 512 * (i 1).val + r.val - 16; omega)

theorem pay3_at (i : grid0.Coords) (r : Fin 512) (c : Fin 128) :
    k0_pay3 (F := Ideal) i (hB p i) (xB p i) (ix2 r c) = ((upto (X p (gr i) c) (win (gr i)) (512 * (i 1).val + r.val) : ℝ) : EReal) := by
  have e := ups (k0_pay2 i (hB p i) (xB p i)) (fun c n => if 16 ≤ 512 * (i 1).val + n then X p (gr i) c (512 * (i 1).val + n - 16) else 0) (pay2_at p i) (gr i) ⟨16 + r.val, by omega⟩ c (by show 16 ≤ 16 + r.val + 1; omega)
  rw [pay3_def]
  refine Eq.trans (b := (Scalar.select (Scalar.cmpi .eq (BitVec.ofNat 32 (i 0).val) 0#32) (s2 (k0_pay2 i (hB p i) (xB p i)))
      (Scalar.select (Scalar.cmpi .eq (BitVec.ofNat 32 (i 0).val) 1#32) (s4 (k0_pay2 i (hB p i) (xB p i))) (Scalar.select (Scalar.cmpi .eq (BitVec.ofNat 32 (i 0).val) 2#32) (s8 (k0_pay2 i (hB p i) (xB p i))) (s16 (k0_pay2 i (hB p i) (xB p i)))))
      : FVec Ideal S528x128 .f32) (ix2 ⟨16 + r.val, by omega⟩ c)) ?_ ?_
  · generalize (Scalar.select (Scalar.cmpi .eq (BitVec.ofNat 32 (i 0).val) 0#32) (s2 (k0_pay2 i (hB p i) (xB p i))) _ : FVec Ideal S528x128 .f32) = x
    pointwise
  · refine (congrFun (pick (gr i) _ _ _ _) _).trans (e.trans (congrArg Real.toEReal ?_))
    have hw := win_le (gr i)
    refine Finset.sum_congr rfl fun k hk => ?_
    have hk := Finset.mem_range.mp hk
    refine if_congr (by show 16 ≤ 512 * (i 1).val + (16 + r.val - k) ↔ _; omega) (congrArg _ ?_) rfl
    show 512 * (i 1).val + (16 + r.val - k) - 16 = 512 * (i 1).val + r.val - k
    omega

theorem pay4_at (i : grid0.Coords) (r : Fin 512) : k0_pay4 i (ix2 r 0) = BitVec.ofNat 32 (512 * (i 1).val + r.val + 1) := by
  pointwise [k0_pay4]
  change IntOp.addi (IntOp.addi (IntOp.muli (BitVec.ofNat 32 (i 1).val) (BitVec.ofNat 32 512)) (BitVec.ofNat 32 r.val)) (BitVec.ofNat 32 1) = _
  rw [muli_ofNat, addi_ofNat, addi_ofNat, Nat.mul_comm]

theorem pay5_at (i : grid0.Coords) (r : Fin 512) : k0_pay5 i (ix2 r 0) = BitVec.ofNat 32 (win (gr i)) := by
  pointwise [k0_pay5]
  exact (pick (gr i) _ _ _ _).trans (pick_win (gr i))

theorem pay6_at (i : grid0.Coords) (r : Fin 512) (c : Fin 128) :
    k0_pay6 (F := Ideal) (k0_pay2 i (hB p i) (xB p i)) (k0_pay3 i (hB p i) (xB p i)) (k0_pay4 i) (k0_pay5 i) (ix2 r c)
      = ((mean p (gr i) c (512 * (i 1).val + r.val) : ℝ) : EReal) := by
  have h8 := lt8 i
  have e2 := pay2_at p i
  have e3 := pay3_at p i
  have e4 := cnt_word (gr i) (512 * (i 1).val + r.val) (by omega) _ _ (pay4_at i r) (pay5_at i r)
  generalize k0_pay2 (F := Ideal) i (hB p i) (xB p i) = x2 at e2
  generalize k0_pay3 (F := Ideal) i (hB p i) (xB p i) = x3 at e3
  generalize k0_pay4 i = x4 at e4
  generalize k0_pay5 i = x5 at e4
  pointwise [k0_pay6]
  rw [e2, e3, e4, div_real (cnt_ne _ _), ← EReal.coe_sub]
  refine congrArg Real.toEReal (congrArg _ ?_)
  rw [if_pos (by show 16 ≤ 512 * (i 1).val + (16 + r.val); omega)]
  exact congrArg _ (by show 512 * (i 1).val + (16 + r.val) - 16 = 512 * (i 1).val + r.val; omega)

/-- The cotangents' rows, masked. -/
def nx (i : grid0.Coords) (h : Vec Ideal S16x128 .f32) (d : Vec Ideal S512x128 .f32) : FVec Ideal S528x128 .f32 :=
  concatenate S528x128 0 [⟨S512x128, d⟩, ⟨S16x128, Scalar.select (Scalar.cmpi .slt (BitVec.ofNat 32 (i 1).val) 7#32) h (broadcast S16x128 (Scalar.ofBits .f32 0x00000000#32))⟩] concatenates_S512x128_S16x128_S528x128_d0

theorem nx_at (i : grid0.Coords) (r : Fin 528) (c : Fin 128) : nx i (nB dc i) (dB dc i) (ix2 r c) = ((Y dc (gr i) c (512 * (i 1).val + r.val) : ℝ) : EReal) := by
  have h8 := lt8 i
  pointwise [nx]
  have e : Scalar.cmpi .slt (BitVec.ofNat 32 (i 1).val) 7#32 = BitVec.ofBool (decide ((i 1).val < 7)) := cmpi_slt_ofNat (b := 7) (by omega) (by decide)
  rw [e]
  split
  · rfl
  · refine (select_ofBool _ _ _).trans ?_
    by_cases h0 : (i 1).val < 7
    · rw [if_pos (by simpa using h0)]
      exact congrArg (fun n => ((Y dc (gr i) c n : ℝ) : EReal)) (by show 16 * min (32 * (i 1).val + 32) 255 + (r.val - 512) = 512 * (i 1).val + r.val; omega)
    · rw [if_neg (by simpa using h0)]
      refine Eq.trans ?_ (congrArg Real.toEReal (show Y dc (gr i) c (512 * (i 1).val + r.val) = 0 from dif_neg (by omega))).symm
      rfl

theorem pay14_nx (i : grid0.Coords) (a b d h) : k0_pay14 (F := Ideal) (BitVec.ofNat 32 (i 1).val) a b d h =
    matmul dot_S528x128_S128x128_S528x128_1_1_0_0_n_n none (truncf .bf16 (mulf (nx i h d) (broadcastTo S528x128 b broadcasts_S1x128_S528x128)) bitsLt_bf16_f32) (truncf .bf16 a bitsLt_bf16_f32) (constant S528x128 .f32 0x00000000#32) := by
  unfold k0_pay14 nx
  rw [show (shapeCast S16x128 h shapeCasts_S16x128_S16x128 : FVec Ideal S16x128 .f32) = h from by funext j; idx_vars j; pointwise]

theorem pay9_eq (x : Vec Ideal S512x128 .f32) : k0_pay9 (F := Ideal) x = x := by
  funext j
  idx_vars j
  pointwise [k0_pay9]

theorem pay14_at (i : grid0.Coords) (r : Fin 528) (c : Fin 128) :
    k0_pay14 (F := Ideal) (BitVec.ofNat 32 (i 1).val) (k0_pay7 (wB w i)) (k0_pay8 (sB s i)) (k0_pay9 (dB dc i)) (nB dc i) (ix2 r c)
      = ((gM dc w s (gr i) c (512 * (i 1).val + r.val) : ℝ) : EReal) := by
  have e := nx_at dc i
  rw [pay9_eq, pay14_nx]
  generalize nx i (nB dc i) (dB dc i) = x at e
  pointwise [k0_pay7, k0_pay8]
  simp only [e]
  simp only [sB, wB, upf, ← EReal.coe_mul, coe_sum]
  rfl

/-- The sixteen rows' terms. -/
def zz (i : grid0.Coords) (y : FVec Ideal S528x128 .f32) : FVec Ideal S528x128 .f32 :=
  divf y (broadcastTo S528x128 (sitofp .f32 (minsi (addi (addi (broadcast S528x1 (Scalar.muli (BitVec.ofNat 32 (i 1).val) 512#32)) (iota .tc S528x1 32 [0] iota_S528x1_d0_w32)) (broadcast S528x1 1#32))
    (broadcast S528x1 (Scalar.select (Scalar.cmpi .eq (BitVec.ofNat 32 (i 0).val) 0#32) 2#32 (Scalar.select (Scalar.cmpi .eq (BitVec.ofNat 32 (i 0).val) 1#32) 4#32
      (Scalar.select (Scalar.cmpi .eq (BitVec.ofNat 32 (i 0).val) 2#32) 8#32 16#32)))))) broadcasts_S528x1_S528x128)

theorem zz_at (i : grid0.Coords) (y : FVec Ideal S528x128 .f32) (f : Fin 128 → ℕ → ℝ) (hy : ∀ (r : Fin 528) (c : Fin 128), y (ix2 r c) = ((f c (512 * (i 1).val + r.val) : ℝ) : EReal))
    (r : Fin 528) (c : Fin 128) : zz i y (ix2 r c) = ((f c (512 * (i 1).val + r.val) / cnt (gr i) (512 * (i 1).val + r.val) : ℝ) : EReal) := by
  have h8 := lt8 i
  pointwise [zz]
  rw [hy]
  refine (congrArg (Ideal.div _) (cnt_word (gr i) (512 * (i 1).val + r.val) (by omega) _ _ ?_ ((pick (gr i) _ _ _ _).trans (pick_win (gr i))))).trans (div_real (cnt_ne _ _))
  change IntOp.addi (IntOp.addi (IntOp.muli (BitVec.ofNat 32 (i 1).val) (BitVec.ofNat 32 512)) (BitVec.ofNat 32 r.val)) (BitVec.ofNat 32 1) = _
  rw [muli_ofNat, addi_ofNat, addi_ofNat, Nat.mul_comm]

/-- The gradient of a tile's rows. -/
theorem pay1_at (i : grid0.Coords) (r : Fin 512) (c : Fin 128) (a b d h) (ha : a = k0_pay7 (wB w i)) (hb : b = k0_pay8 (sB s i)) (hd : d = k0_pay9 (dB dc i)) (hh : h = nB dc i) :
    k0_pay1 (F := Ideal) (BitVec.ofNat 32 (i 0).val) (k0_pay14 (BitVec.ofNat 32 (i 1).val) a b d h) (k0_pay15 (BitVec.ofNat 32 (i 0).val) (BitVec.ofNat 32 (i 1).val) a b d h)
      (k0_pay16 (BitVec.ofNat 32 (i 0).val) (BitVec.ofNat 32 (i 1).val) a b d h) (k0_pay17 (BitVec.ofNat 32 (i 0).val) (BitVec.ofNat 32 (i 1).val) a b d h)
      (k0_pay18 (BitVec.ofNat 32 (i 0).val) (BitVec.ofNat 32 (i 1).val) a b d h) (Scalar.cmpi .eq (BitVec.ofNat 32 (i 0).val) 0#32) (Scalar.cmpi .eq (BitVec.ofNat 32 (i 0).val) 1#32) 2#32 (ix2 r c)
      = ((gX dc w s (gr i) c (512 * (i 1).val + r.val) : ℝ) : EReal) := by
  subst ha hb hd hh
  have e := pay14_at dc w s i
  have e15 : k0_pay15 (F := Ideal) (BitVec.ofNat 32 (i 0).val) (BitVec.ofNat 32 (i 1).val) (k0_pay7 (wB w i)) (k0_pay8 (sB s i)) (k0_pay9 (dB dc i)) (nB dc i)
      = r2 (zz i (k0_pay14 (BitVec.ofNat 32 (i 1).val) (k0_pay7 (wB w i)) (k0_pay8 (sB s i)) (k0_pay9 (dB dc i)) (nB dc i))) := rfl
  unfold k0_pay18 k0_pay17 k0_pay16
  rw [e15]
  generalize k0_pay14 (F := Ideal) (BitVec.ofNat 32 (i 1).val) (k0_pay7 (wB w i)) (k0_pay8 (sB s i)) (k0_pay9 (dB dc i)) (nB dc i) = y at e
  have ez := zz_at i y _ e
  generalize zz i y = z at ez
  have d4 := downs z (fun c n => gM dc w s (gr i) c (512 * (i 1).val + n) / cnt (gr i) (512 * (i 1).val + n)) ez (gr i) ⟨r.val, by omega⟩ c (by show r.val + 16 ≤ 528; omega)
  have d4 := (congrFun (pick (gr i) _ _ _ _) _).trans d4
  change k0_pay1 (F := Ideal) _ y (r2 z) (r4 z) (r8 z) (r16 z) _ _ _ _ = _
  unfold k0_pay1
  generalize r2 z = z2 at d4 ⊢
  generalize r4 z = z4 at d4 ⊢
  generalize r8 z = z8 at d4 ⊢
  generalize r16 z = z16 at d4 ⊢
  dsimp only
  change (Scalar.select (Scalar.cmpi .eq (BitVec.ofNat 32 (i 0).val) 0#32) z2 (Scalar.select (Scalar.cmpi .eq (BitVec.ofNat 32 (i 0).val) 1#32) z4 (Scalar.select (Scalar.cmpi .eq (BitVec.ofNat 32 (i 0).val) 2#32) z8 z16)) : FVec Ideal S528x128 .f32)
    (ix2 ⟨r.val, by omega⟩ c) = _ at d4
  generalize (Scalar.select (Scalar.cmpi .eq (BitVec.ofNat 32 (i 0).val) 0#32) z2 _ : FVec Ideal S528x128 .f32) = q at d4 ⊢
  pointwise
  refine (congrArg₂ (fun a b : EReal => a - b) d4 (e ⟨r.val, by omega⟩ c)).trans ?_
  rw [← EReal.coe_sub]
  refine congrArg Real.toEReal (congrArg₂ (fun a b : ℝ => a - b) (Finset.sum_congr rfl fun k _ => ?_) rfl)
  show gM dc w s (gr i) c (512 * (i 1).val + (r.val + k)) / cnt (gr i) (512 * (i 1).val + (r.val + k)) = gM dc w s (gr i) c (512 * (i 1).val + r.val + k) / cnt (gr i) (512 * (i 1).val + r.val + k)
  rw [Nat.add_assoc]

/-- What a tile adds to the scales' and to the weights' gradients. -/
theorem pay12_at (i : grid0.Coords) (a : S1x128.Idx → EReal) (b : Fin 128) :
    k0_pay12 (F := Ideal) (k0_pay2 i (hB p i) (xB p i)) (k0_pay3 i (hB p i) (xB p i)) (k0_pay4 i) (k0_pay5 i) (wB w i) (dB dc i) a (ix2 0 b)
      = a (ix2 0 b) + ((∑ r : Fin 512, Y dc (gr i) b (512 * (i 1).val + r.val) * ∑ l, mean p (gr i) l (512 * (i 1).val + r.val) * w (gr i) l b : ℝ) : EReal) := by
  have e := pay6_at p i
  unfold k0_pay12
  generalize k0_pay6 (F := Ideal) (k0_pay2 i (hB p i) (xB p i)) (k0_pay3 i (hB p i) (xB p i)) (k0_pay4 i) (k0_pay5 i) = x at e
  pointwise [k0_pay7, k0_pay9]
  simp only [e]
  simp only [dB, wB, upf, ← EReal.coe_mul, coe_sum]
  rfl

theorem pay13_at (i : grid0.Coords) (a : S1x128x128.Idx → EReal) (b c : Fin 128) :
    k0_pay13 (F := Ideal) (k0_pay2 i (hB p i) (xB p i)) (k0_pay3 i (hB p i) (xB p i)) (k0_pay4 i) (k0_pay5 i) (sB s i) (dB dc i) a (ix3 0 b c)
      = a (ix3 0 b c) + ((∑ r : Fin 512, mean p (gr i) b (512 * (i 1).val + r.val) * (Y dc (gr i) c (512 * (i 1).val + r.val) * Sc s (gr i) c) : ℝ) : EReal) := by
  have e := pay6_at p i
  unfold k0_pay13
  generalize k0_pay6 (F := Ideal) (k0_pay2 i (hB p i) (xB p i)) (k0_pay3 i (hB p i) (xB p i)) (k0_pay4 i) (k0_pay5 i) = x at e
  pointwise [k0_pay8, k0_pay9]
  simp only [e]
  simp only [dB, sB, upf, ← EReal.coe_mul, coe_sum]
  rfl

end Cert.PoolBwdIdeal.Real

end
-- ==== Proof.PoolBwd.lean ====
/- The pooling gradient's arrays over the reals: the blocks a grid point reads, and what the run leaves in the three results. -/
module

public import proofs.«01_k».proof.Proof.PoolOps
public import Idealize.ShloMosaic.Lib.StableHlo.ReadAt

@[expose] public section

set_option maxRecDepth 16384

noncomputable section

namespace Cert.PoolBwdIdeal.Real

open Idealize.ShloMosaic Idealize.ShloMosaic.WordCmp Cert.RealLift Cert.PoolBwdIdeal Cert.PoolBwdIdeal.Gen Cert.Pool Cert.Swa Idealize.SL.Sem Idealize.ShloMosaic.TcCoe

variable (m : (ℓ : Loc nD τ sig) → Buf (Elt Ideal) ℓ) (c : Dev nD)
variable (p : Fin 4096 → Fin 4876 → ℝ) (dc : Fin 4096 → Fin 2048 → ℝ) (w : Fin 4 → Fin 128 → Fin 128 → ℝ) (s : Fin 512 → ℝ)
variable (hp : m ((c : Thread nD τ).loc main_arg0) = upf p)
variable (hdc : m ((c : Thread nD τ).loc main_arg1) = upf dc)
variable (hw : m ((c : Thread nD τ).loc main_arg2) = fun j => ((w (j 0) (j 1) (j 2) : ℝ) : EReal))
variable (hs : m ((c : Thread nD τ).loc main_arg3) = fun i => ((s (i 0) : ℝ) : EReal))

include hp in
theorem v7 (r : Fin 4096) (j : Fin 4992) (h : 4352 ≤ j.val) (h' : j.val < 4864) : (V m c main_v7 : S4096x4992.Idx → EReal) (ix2 r j) = ((p r ⟨j.val - 1268, by omega⟩ : ℝ) : EReal) := by
  unfold V
  after_reads_at
  rw [dif_neg (by omega), dif_neg (by omega), dif_neg (by omega), dif_neg (by omega), dif_pos (by omega)]
  refine (congrFun (StableHlo.unary_result' _ _ _ _) _).trans ?_
  after_reads_at
  have e : ∀ k : Fin 4876, k.val = j.val - 1268 → (m ((c : Thread nD τ).loc main_arg0) : S4096x4876.Idx → EReal) (ix2 r k) = ((p r ⟨j.val - 1268, by omega⟩ : ℝ) : EReal) := fun k hk => by
    rw [hp]
    exact congrArg (fun k => ((p r k : ℝ) : EReal)) (Fin.ext hk)
  refine e _ ?_
  dsimp only
  omega

include hdc in
theorem v11 (r : Fin 4096) (j : Fin 2048) (h : 1536 ≤ j.val) : (V m c main_v11 : S4096x2048.Idx → EReal) (ix2 r j) = ((dc r ⟨j.val - 768, by omega⟩ : ℝ) : EReal) := by
  unfold V
  after_reads_at
  rw [dif_neg (by omega), dif_neg (by omega)]
  refine (congrFun (StableHlo.unary_result' _ _ _ _) _).trans ?_
  after_reads_at
  have e : ∀ k : Fin 2048, k.val = j.val - 768 → (m ((c : Thread nD τ).loc main_arg1) : S4096x2048.Idx → EReal) (ix2 r k) = ((dc r ⟨j.val - 768, by omega⟩ : ℝ) : EReal) := fun k hk => by
    rw [hdc]
    exact congrArg (fun k => ((dc r k : ℝ) : EReal)) (Fin.ext hk)
  refine e _ ?_
  dsimp only
  omega

theorem co (t : Fin cfg0.N) : ((grid0.coords t) 0).val = t.val / 8 ∧ ((grid0.coords t) 1).val = t.val % 8 :=
  (by decide +kernel : ∀ t : Fin grid0.N, ((grid0.coords t) 0).val = t.val / 8 ∧ ((grid0.coords t) 1).val = t.val % 8) t

theorem idx0 (t : Fin cfg0.N) : win0_0.index t = ![t.val % 8, 34 + t.val / 8] ∧ win0_1.index t = ![32 * (t.val % 8) - 1, 34 + t.val / 8] ∧ win0_2.index t = ![t.val % 8, 12 + t.val / 8]
    ∧ win0_3.index t = ![min (32 * (t.val % 8) + 32) 255, 12 + t.val / 8] ∧ win0_4.index t = ![t.val / 8, 0, 0] ∧ win0_5.index t = ![0, t.val / 8] ∧ win0_6.index t = ![t.val % 8, t.val / 8]
    ∧ win0_7.index t = ![t.val / 8, 0, 0] ∧ win0_8.index t = ![0, t.val / 8] :=
  (by decide +kernel : ∀ t : Fin grid0.N, win0_0.index t = ![t.val % 8, 34 + t.val / 8] ∧ win0_1.index t = ![32 * (t.val % 8) - 1, 34 + t.val / 8] ∧ win0_2.index t = ![t.val % 8, 12 + t.val / 8]
    ∧ win0_3.index t = ![min (32 * (t.val % 8) + 32) 255, 12 + t.val / 8] ∧ win0_4.index t = ![t.val / 8, 0, 0] ∧ win0_5.index t = ![0, t.val / 8] ∧ win0_6.index t = ![t.val % 8, t.val / 8]
    ∧ win0_7.index t = ![t.val / 8, 0, 0] ∧ win0_8.index t = ![0, t.val / 8]) t

theorem t32 (t : Fin cfg0.N) : t.val < 32 := t.isLt

/-- A grid point's rows and columns, in the arrays. -/
def rw0 (t : Fin cfg0.N) (r : Fin 512) : Fin 4096 := ⟨512 * (t.val % 8) + r.val, by omega⟩
def rw1 (t : Fin cfg0.N) (r : Fin 16) : Fin 4096 := ⟨16 * (32 * (t.val % 8) - 1) + r.val, by omega⟩
def rw3 (t : Fin cfg0.N) (r : Fin 16) : Fin 4096 := ⟨16 * min (32 * (t.val % 8) + 32) 255 + r.val, by omega⟩
def cx (t : Fin cfg0.N) (a : Fin 128) : Fin 4992 := ⟨128 * (34 + t.val / 8) + a.val, by have := t32 t; omega⟩
def cd (t : Fin cfg0.N) (a : Fin 128) : Fin 2048 := ⟨128 * (12 + t.val / 8) + a.val, by have := t32 t; omega⟩
def cs (t : Fin cfg0.N) (a : Fin 128) : Fin 512 := ⟨128 * (t.val / 8) + a.val, by have := t32 t; omega⟩
def gq (t : Fin cfg0.N) : Fin 4 := ⟨t.val / 8, by have := t32 t; omega⟩

theorem gr_eq (t : Fin cfg0.N) : gr (grid0.coords t) = gq t := Fin.ext (co t).1

/-- The inputs by their rows and columns. -/
theorem X_eq (t : Fin cfg0.N) (n : Fin 4096) (a : Fin 128) (k : Fin 4876) (hk : k.val = (cx t a).val - 1268) : X p (gr (grid0.coords t)) a n.val = p n k := by
  rw [gr_eq]
  unfold X
  rw [dif_pos n.isLt]
  refine congrArg (p n) (Fin.ext ?_)
  rw [hk]
  show 3084 + 128 * (t.val / 8) + a.val = 128 * (34 + t.val / 8) + a.val - 1268
  omega

theorem Y_eq (t : Fin cfg0.N) (n : Fin 4096) (a : Fin 128) (k : Fin 2048) (hk : k.val = (cd t a).val - 768) : Y dc (gr (grid0.coords t)) a n.val = dc n k := by
  rw [gr_eq]
  unfold Y
  rw [dif_pos n.isLt]
  refine congrArg (dc n) (Fin.ext ?_)
  rw [hk]
  show 768 + 128 * (t.val / 8) + a.val = 128 * (12 + t.val / 8) + a.val - 768
  omega

include hp in
theorem blk_x (t : Fin cfg0.N) : iblk m c 0 t = xB p (grid0.coords t) := by
  funext i
  have ht := t32 t
  have : iblk m c 0 t i = V m c main_v7 (ix2 (rw0 t (i 0)) (cx t (i 1))) := by blk_ext [iblk, idx0 t, rw0, cx]
  idx_vars i
  refine this.trans ((v7 m c p hp _ _ (by show 4352 ≤ 128 * (34 + t.val / 8) + i1.val; omega) (by show 128 * (34 + t.val / 8) + i1.val < 4864; omega)).trans (congrArg Real.toEReal ?_))
  refine (X_eq p t (rw0 t i0) i1 _ rfl).symm.trans (congrArg _ ?_)
  show 512 * (t.val % 8) + i0.val = 512 * (grid0.coords t 1).val + i0.val
  rw [(co t).2]

include hp in
theorem blk_h (t : Fin cfg0.N) : iblk m c 1 t = hB p (grid0.coords t) := by
  funext i
  have ht := t32 t
  have : iblk m c 1 t i = V m c main_v7 (ix2 (rw1 t (i 0)) (cx t (i 1))) := by blk_ext [iblk, idx0 t, rw1, cx]
  idx_vars i
  refine this.trans ((v7 m c p hp _ _ (by show 4352 ≤ 128 * (34 + t.val / 8) + i1.val; omega) (by show 128 * (34 + t.val / 8) + i1.val < 4864; omega)).trans (congrArg Real.toEReal ?_))
  refine (X_eq p t (rw1 t i0) i1 _ rfl).symm.trans (congrArg _ ?_)
  show 16 * (32 * (t.val % 8) - 1) + i0.val = 16 * (32 * (grid0.coords t 1).val - 1) + i0.val
  rw [(co t).2]

include hdc in
theorem blk_d (t : Fin cfg0.N) : iblk m c 2 t = dB dc (grid0.coords t) := by
  funext i
  have ht := t32 t
  have : iblk m c 2 t i = V m c main_v11 (ix2 (rw0 t (i 0)) (cd t (i 1))) := by blk_ext [iblk, idx0 t, rw0, cd]
  idx_vars i
  refine this.trans ((v11 m c dc hdc _ _ (by show 1536 ≤ 128 * (12 + t.val / 8) + i1.val; omega)).trans (congrArg Real.toEReal ?_))
  refine (Y_eq dc t (rw0 t i0) i1 _ rfl).symm.trans (congrArg _ ?_)
  show 512 * (t.val % 8) + i0.val = 512 * (grid0.coords t 1).val + i0.val
  rw [(co t).2]

include hdc in
theorem blk_n (t : Fin cfg0.N) : iblk m c 3 t = nB dc (grid0.coords t) := by
  funext i
  have ht := t32 t
  have : iblk m c 3 t i = V m c main_v11 (ix2 (rw3 t (i 0)) (cd t (i 1))) := by blk_ext [iblk, idx0 t, rw3, cd]
  idx_vars i
  refine this.trans ((v11 m c dc hdc _ _ (by show 1536 ≤ 128 * (12 + t.val / 8) + i1.val; omega)).trans (congrArg Real.toEReal ?_))
  refine (Y_eq dc t (rw3 t i0) i1 _ rfl).symm.trans (congrArg _ ?_)
  show 16 * min (32 * (t.val % 8) + 32) 255 + i0.val = 16 * min (32 * (grid0.coords t 1).val + 32) 255 + i0.val
  rw [(co t).2]

include hw in
theorem blk_w (t : Fin cfg0.N) : iblk m c 4 t = wB w (grid0.coords t) := by
  funext i
  have ht := t32 t
  have : iblk m c 4 t i = m ((c : Thread nD τ).loc main_arg2) (ix3 (gq t) (i 1) (i 2)) := by blk_ext [iblk, V, idx0 t, gq]
  rw [this, hw]
  show ((w (gq t) (i 1) (i 2) : ℝ) : EReal) = ((w (gr (grid0.coords t)) (i 1) (i 2) : ℝ) : EReal)
  rw [gr_eq]

include hs in
theorem blk_s (t : Fin cfg0.N) : iblk m c 5 t = sB s (grid0.coords t) := by
  funext i
  have ht := t32 t
  have : iblk m c 5 t i = V m c main_v12 (ix2 0 (cs t (i 1))) := by blk_ext [iblk, idx0 t, cs]
  rw [this]
  entry_read
  rw [hs]
  idx_vars i
  pointwise
  show _ = ((Sc s (gr (grid0.coords t)) i1 : ℝ) : EReal)
  rw [gr_eq]
  rfl

include hp hdc hw hs in
theorem arr6 : (dats m 0 c).arrAt 6 cfg0.N = (upf fun n k => gX dc w s ⟨k.val / 128, by omega⟩ ⟨k.val % 128, by omega⟩ n.val : S4096x512.Idx → EReal) := by
  refine (dats m 0 c).arrAt_eq_of_covers 6 _ (by decide +kernel) fun t hf i => ?_
  blk_simp
  rw [after0_6]
  have key : (outsAt0 m c t.val t.isLt).1 = k0_pay1 (F := Ideal) (BitVec.ofNat 32 (grid0.coords t 0).val)
      (k0_pay14 (BitVec.ofNat 32 (grid0.coords t 1).val) (k0_pay7 (iblk m c 4 t)) (k0_pay8 (iblk m c 5 t)) (k0_pay9 (iblk m c 2 t)) (iblk m c 3 t))
      (k0_pay15 (BitVec.ofNat 32 (grid0.coords t 0).val) (BitVec.ofNat 32 (grid0.coords t 1).val) (k0_pay7 (iblk m c 4 t)) (k0_pay8 (iblk m c 5 t)) (k0_pay9 (iblk m c 2 t)) (iblk m c 3 t))
      (k0_pay16 (BitVec.ofNat 32 (grid0.coords t 0).val) (BitVec.ofNat 32 (grid0.coords t 1).val) (k0_pay7 (iblk m c 4 t)) (k0_pay8 (iblk m c 5 t)) (k0_pay9 (iblk m c 2 t)) (iblk m c 3 t))
      (k0_pay17 (BitVec.ofNat 32 (grid0.coords t 0).val) (BitVec.ofNat 32 (grid0.coords t 1).val) (k0_pay7 (iblk m c 4 t)) (k0_pay8 (iblk m c 5 t)) (k0_pay9 (iblk m c 2 t)) (iblk m c 3 t))
      (k0_pay18 (BitVec.ofNat 32 (grid0.coords t 0).val) (BitVec.ofNat 32 (grid0.coords t 1).val) (k0_pay7 (iblk m c 4 t)) (k0_pay8 (iblk m c 5 t)) (k0_pay9 (iblk m c 2 t)) (iblk m c 3 t))
      (Scalar.cmpi .eq (BitVec.ofNat 32 (grid0.coords t 0).val) 0#32) (Scalar.cmpi .eq (BitVec.ofNat 32 (grid0.coords t 0).val) 1#32) 2#32 := by
    by_cases h : t.val % 8 = 0
    · rw [outsAt0_A m c t h]; frame_out
    · rw [outsAt0_B m c t h]; frame_out
  rw [key, blk_d m c dc hdc, blk_n m c dc hdc, blk_w m c w hw, blk_s m c s hs]
  idx_vars i
  have ht := t32 t
  have e : ((View.whole main_v13_0).slice (win0_6.rect t)).emb (ix2 i0 i1) = ix2 (rw0 t i0) (cs t i1) := by blk_ext [idx0 t, rw0, cs]
  have g : ∀ j : S4096x512.Idx, j = ix2 (rw0 t i0) (cs t i1) → ((gX dc w s (gr (grid0.coords t)) i1 (512 * (grid0.coords t 1).val + i0.val) : ℝ) : EReal)
      = (upf fun n k => gX dc w s ⟨k.val / 128, by omega⟩ ⟨k.val % 128, by omega⟩ n.val : S4096x512.Idx → EReal) j := by
    rintro _ rfl
    show _ = ((gX dc w s ⟨(cs t i1).val / 128, _⟩ ⟨(cs t i1).val % 128, _⟩ (rw0 t i0).val : ℝ) : EReal)
    rw [gr_eq, (co t).2]
    congr 2
    · exact Fin.ext (by show t.val / 8 = (128 * (t.val / 8) + i1.val) / 128; omega)
    · exact Fin.ext (by show i1.val = (128 * (t.val / 8) + i1.val) % 128; omega)
  exact (pay1_at dc w s (grid0.coords t) i0 i1 _ _ _ _ rfl rfl rfl rfl).trans (g _ e)

/-- What a grid point adds to the weights' and to the scales' gradients. -/
def term7 (t : Fin cfg0.N) (j : S1x128x128.Idx) : EReal :=
  ((∑ r : Fin 512, mean p (gr (grid0.coords t)) (j 1) (512 * (grid0.coords t 1).val + r.val) * (Y dc (gr (grid0.coords t)) (j 2) (512 * (grid0.coords t 1).val + r.val) * Sc s (gr (grid0.coords t)) (j 2)) : ℝ) : EReal)
def term8 (t : Fin cfg0.N) (j : S1x128.Idx) : EReal :=
  ((∑ r : Fin 512, Y dc (gr (grid0.coords t)) (j 1) (512 * (grid0.coords t 1).val + r.val) * ∑ l, mean p (gr (grid0.coords t)) l (512 * (grid0.coords t 1).val + r.val) * w (gr (grid0.coords t)) l (j 1) : ℝ) : EReal)

include hp hdc hs in
theorem step7 (a : S1x128x128.Idx → EReal) (t : Fin cfg0.N) (j : S1x128x128.Idx) :
    k0_pay13 (F := Ideal) (k0_pay2 (grid0.coords t) (iblk m c 1 t) (iblk m c 0 t)) (k0_pay3 (grid0.coords t) (iblk m c 1 t) (iblk m c 0 t)) (k0_pay4 (grid0.coords t)) (k0_pay5 (grid0.coords t))
      (iblk m c 5 t) (iblk m c 2 t) a j = a j + term7 p dc s t j := by
  rw [blk_d m c dc hdc, blk_x m c p hp, blk_h m c p hp, blk_s m c s hs]
  idx_vars j
  have e : j0 = 0 := by omega
  subst e
  exact pay13_at p dc s (grid0.coords t) a j1 j2

include hp hdc hw in
theorem step8 (a : S1x128.Idx → EReal) (t : Fin cfg0.N) (j : S1x128.Idx) :
    k0_pay12 (F := Ideal) (k0_pay2 (grid0.coords t) (iblk m c 1 t) (iblk m c 0 t)) (k0_pay3 (grid0.coords t) (iblk m c 1 t) (iblk m c 0 t)) (k0_pay4 (grid0.coords t)) (k0_pay5 (grid0.coords t))
      (iblk m c 4 t) (iblk m c 2 t) a j = a j + term8 p dc w t j := by
  rw [blk_d m c dc hdc, blk_x m c p hp, blk_h m c p hp, blk_w m c w hw]
  idx_vars j
  have e : j0 = 0 := by omega
  subst e
  exact pay12_at p dc w (grid0.coords t) a j1

/-- The eight tiles of a group are its rows. -/
theorem tiles (t : Fin cfg0.N) (hf : t.val % 8 = 7) (f : Fin 4 → ℕ → ℝ) (hl : ∀ q : Fin 8, 8 * (t.val / 8) + q.val < cfg0.N) :
    ∑ q : Fin 8, ∑ r : Fin 512, f (gr (grid0.coords ⟨8 * (t.val / 8) + q.val, hl q⟩)) (512 * (grid0.coords ⟨8 * (t.val / 8) + q.val, hl q⟩ 1).val + r.val) = ∑ n : Fin 4096, f (gq t) n.val := by
  refine Fin.sum_mul_add_congr (L := 4096) fun q r h => ?_
  have ht := t32 t
  rw [gr_eq, (co _).2]
  congr 1
  · exact Fin.ext (by show (8 * (t.val / 8) + q.val) / 8 = t.val / 8; omega)
  · show 512 * ((8 * (t.val / 8) + q.val) % 8) + r.val = q.val * 512 + r.val
    omega

include hp hdc hs in
theorem arr7 : (dats m 0 c).arrAt 7 cfg0.N = fun j : S4x128x128.Idx => ((gW p dc s (j 0) (j 1) (j 2) : ℝ) : EReal) := by
  refine (dats m 0 c).arrAt_eq_of_covers 7 _ (by decide +kernel) fun t hf i => ?_
  blk_simp
  rw [after0_7]
  idx_vars i
  have i00 : i0 = 0 := by omega
  subst i00
  have hf7 := (flush0_7 t).mp hf
  rw [Pipeline.eq_sum_fin_of_reset_step_apply_of_flush (fun n h => (outsAt0 m c n h).2.1) 8 (fun _ => 0) (term7 p dc s)
    (fun t h i => ?_) (fun t h i => ?_) t hf7]
  · have e : ((View.whole main_v13_1).slice (win0_7.rect t)).emb (ix3 0 i1 i2) = ix3 (gq t) i1 i2 := by blk_ext [idx0 t, gq]
    refine Eq.trans ?_ (congrArg (fun j : S4x128x128.Idx => ((gW p dc s (j 0) (j 1) (j 2) : ℝ) : EReal)) e.symm)
    rw [zero_add]
    refine (coe_sum _ _).trans (congrArg _ ?_)
    exact tiles t hf7 (fun g n => mean p g i1 n * (Y dc g i2 n * Sc s g i2)) (fun q => Pipeline.run_point_lt_of_flush t hf7 q)
  · show (outsAt0 m c t.val t.isLt).2.1 i = _
    rw [outsAt0_A m c t h]
    frame_out
    refine (step7 m c p dc s hp hdc hs _ t i).trans (congrArg (· + _) ?_)
    idx_vars i
    pointwise [k0_pay10]
  · show (outsAt0 m c t.val t.isLt).2.1 i = _
    rw [outsAt0_B m c t h]
    frame_out
    exact step7 m c p dc s hp hdc hs _ t i

include hp hdc hw in
theorem arr8 : (dats m 0 c).arrAt 8 cfg0.N = (upf fun _ k => gSc p dc w ⟨k.val / 128, by omega⟩ ⟨k.val % 128, by omega⟩ : S1x512.Idx → EReal) := by
  refine (dats m 0 c).arrAt_eq_of_covers 8 _ (by decide +kernel) fun t hf i => ?_
  blk_simp
  rw [after0_8]
  idx_vars i
  have hf8 := (flush0_8 t).mp hf
  have ht := t32 t
  rw [Pipeline.eq_sum_fin_of_reset_step_apply_of_flush (fun n h => (outsAt0 m c n h).2.2) 8 (fun _ => 0) (term8 p dc w)
    (fun t h i => ?_) (fun t h i => ?_) t hf8]
  · have e : ((View.whole main_v13_2).slice (win0_8.rect t)).emb (ix2 i0 i1) = ix2 i0 (cs t i1) := by blk_ext [idx0 t, cs]
    refine Eq.trans ?_ (congrArg (upf fun _ k => gSc p dc w ⟨k.val / 128, by omega⟩ ⟨k.val % 128, by omega⟩ : S1x512.Idx → EReal) e.symm)
    rw [zero_add]
    refine (coe_sum _ _).trans (congrArg _ ?_)
    refine (tiles t hf8 (fun g n => Y dc g i1 n * ∑ l, mean p g l n * w g l i1) (fun q => Pipeline.run_point_lt_of_flush t hf8 q)).trans ?_
    show gSc p dc w (gq t) i1 = gSc p dc w ⟨(cs t i1).val / 128, _⟩ ⟨(cs t i1).val % 128, _⟩
    congr 1
    · exact Fin.ext (by show t.val / 8 = (128 * (t.val / 8) + i1.val) / 128; omega)
    · exact Fin.ext (by show i1.val = (128 * (t.val / 8) + i1.val) % 128; omega)
  · show (outsAt0 m c t.val t.isLt).2.2 i = _
    rw [outsAt0_A m c t h]
    frame_out
    refine (step8 m c p dc w hp hdc hw _ t i).trans (congrArg (· + _) ?_)
    idx_vars i
    pointwise [k0_pay11]
  · show (outsAt0 m c t.val t.isLt).2.2 i = _
    rw [outsAt0_B m c t h]
    frame_out
    exact step8 m c p dc w hp hdc hw _ t i

end Cert.PoolBwdIdeal.Real

end
-- ==== Proof.PoolRef.lean ====
/- The pooling gradient of the reference over the reals: the running sums, the means and the stages of the result. -/
module

public import proofs.«01_k».proof.Proof.PoolSpec
public import proofs.«01_k».proof.Proof.SwaReal
public import proofs.«01_k».proof.Proof.Gen.PoolBwdRefIdeal.Run
public import Idealize.ShloMosaic.Lib.Pipeline.ValueKit
public import Idealize.ShloMosaic.Lib.KernelVsHost

@[expose] public section

set_option maxRecDepth 16384

noncomputable section

namespace Cert.PoolBwdRefIdeal.Real

open Idealize.ShloMosaic Cert.RealLift Cert.PoolBwdRefIdeal Cert.PoolBwdRefIdeal.Value Cert.Pool Cert.Swa Idealize.SL.Sem Idealize.ShloMosaic.TcCoe StableHlo Facts₀

/-- A fold of exact additions is a sum. -/
theorem foldl_add {N : ℕ} (f : Fin N → EReal) (v : EReal) : (List.finRange N).foldl (fun r n => r + f n) v = v + ∑ n, f n := by
  rw [Fin.sum_univ_def]
  generalize List.finRange N = l
  induction l generalizing v with
  | nil => simp
  | cons a l ih => rw [List.foldl_cons, ih, List.map_cons, List.sum_cons, add_assoc]

/-- A windowed sum is the sum over the window's positions. -/
theorem windowed {r : ℕ} {t u : Shape} (size window strides lo hi : Fin r → ℕ) (x : (⟨r, size⟩ : Shape).Idx → EReal) (v : u.Idx → EReal)
    (h : (⟨r, size⟩ : Shape).ReduceWindows window strides lo hi t) (hu : 0 < u.numel) (j : t.Idx) :
    Host.reduceWindowAdd (F := Ideal) (φ := .f32) (s := ⟨r, size⟩) window strides lo hi x v h hu j = v (Shape.Idx.first hu) + ∑ i : (⟨r, window⟩ : Shape).Idx,
      (if hin : ∀ a : Fin r, lo a ≤ (j (a.cast h.1.symm)).val * strides a + (i a).val ∧ (j (a.cast h.1.symm)).val * strides a + (i a).val - lo a < size a
        then x (fun a => ⟨(j (a.cast h.1.symm)).val * strides a + (i a).val - lo a, (hin a).2⟩) else v (Shape.Idx.first hu)) := by
  refine Eq.trans ?_ (congrArg (v (Shape.Idx.first hu) + ·) (Equiv.sum_comp (⟨r, window⟩ : Shape).rowMajor.symm _))
  unfold Host.reduceWindowAdd
  change Ideal.hostReduceWindowAdd (s := ⟨r, size⟩) window strides lo hi h x (v (Shape.Idx.first hu)) j = _
  unfold Ideal.hostReduceWindowAdd Host.reduceWindow
  dsimp only
  refine (foldl_add _ _).trans (congrArg (v (Shape.Idx.first hu) + ·) (Finset.sum_congr rfl fun n _ => ?_))
  split_ifs
  · rfl
  · rfl

/-- A window's sum down the rows: the window as tall as the array, `lo` rows of noughts before it. -/
theorem window_sum (lo hi : ℕ) (x : S1x4096x4x128.Idx → EReal) (v : S_.Idx → EReal) (hv : ∀ i, v i = 0) (f : ℕ → Fin 4 → Fin 128 → ℝ)
    (hx : ∀ (n : Fin 4096) (g : Fin 4) (a : Fin 128), x (ix4 0 n g a) = ((f n.val g a : ℝ) : EReal))
    (h : S1x4096x4x128.ReduceWindows (![1, 4096, 1, 1] : Fin 4 → ℕ) ![1, 1, 1, 1] ![0, lo, 0, 0] ![0, hi, 0, 0] S1x4096x4x128) (hu : 0 < S_.numel) (n : Fin 4096) (g : Fin 4) (a : Fin 128) :
    Host.reduceWindowAdd (F := Ideal) (φ := .f32) ![1, 4096, 1, 1] ![1, 1, 1, 1] ![0, lo, 0, 0] ![0, hi, 0, 0] x v h hu (ix4 0 n g a)
      = ((∑ k ∈ Finset.range 4096, if lo ≤ n.val + k ∧ n.val + k - lo < 4096 then f (n.val + k - lo) g a else 0 : ℝ) : EReal) := by
  refine (windowed _ _ _ _ _ x v h hu _).trans ?_
  rw [hv, zero_add]
  refine (sum_idx4 _).trans ((Fin.sum_univ_one _).trans ?_)
  rw [Finset.sum_range]
  refine Eq.trans ?_ (coe_sum _ _)
  refine Finset.sum_congr rfl fun k _ => ?_
  refine (Fin.sum_univ_one _).trans ((Fin.sum_univ_one _).trans ?_)
  have hn := n.isLt
  have hg := g.isLt
  have ha := a.isLt
  by_cases hk : lo ≤ n.val + k.val ∧ n.val + k.val - lo < 4096
  · rw [if_pos hk]
    refine (dif_pos fun b => ?_).trans ((congrArg x (funext fun b => Fin.ext ?_)).trans (hx ⟨n.val + k.val - lo, hk.2⟩ g a))
    · match b with
      | 0 => exact ⟨Nat.zero_le _, by show 0 * 1 + 0 - 0 < 1; omega⟩
      | 1 => exact ⟨by show lo ≤ n.val * 1 + k.val; omega, by show n.val * 1 + k.val - lo < 4096; omega⟩
      | 2 => exact ⟨Nat.zero_le _, by show g.val * 1 + 0 - 0 < 4; omega⟩
      | 3 => exact ⟨Nat.zero_le _, by show a.val * 1 + 0 - 0 < 128; omega⟩
    · match b with
      | 0 => rfl
      | 1 => show n.val * 1 + k.val - lo = n.val + k.val - lo; omega
      | 2 => show g.val * 1 + 0 - 0 = g.val; omega
      | 3 => show a.val * 1 + 0 - 0 = a.val; omega
  · rw [if_neg hk]
    refine (dif_neg fun hin => hk ?_).trans EReal.coe_zero.symm
    have h1 := hin 1
    change lo ≤ n.val * 1 + k.val ∧ n.val * 1 + k.val - lo < 4096 at h1
    omega

/-- One group's array among noughts. -/
theorem pad_group (h : Fin 4) (hi : ℕ) (y : S1x4096x1x128.Idx → EReal) (v : S_.Idx → EReal) (hv : ∀ i, v i = 0)
    (hp : Shape.Pads S1x4096x1x128 ![0, 0, h.val, 0] ![0, 0, hi, 0] ![0, 0, 0, 0] S1x4096x4x128) (hu : 0 < S_.numel) (n : Fin 4096) (g : Fin 4) (a : Fin 128) :
    pad S1x4096x4x128 ![0, 0, h.val, 0] ![0, 0, hi, 0] ![0, 0, 0, 0] y v hp hu (ix4 0 n g a) = if g = h then y (ix4 0 n 0 a) else 0 := by
  by_cases e : g = h
  · subst e
    rw [if_pos rfl]
    refine pad_apply_of_inside _ _ _ _ _ hp hu _ (ix4 0 n 0 a) fun b => ?_
    match b with
    | 0 => rfl
    | 1 => show n.val = 0 + n.val * 1; omega
    | 2 => show g.val = g.val + 0 * 1; omega
    | 3 => show a.val = 0 + a.val * 1; omega
  · rw [if_neg e]
    refine (pad_apply_of_not_inside _ _ _ _ _ hp hu _ 2 fun hin => e ?_).trans (hv _)
    change h.val ≤ g.val ∧ (g.val - h.val) % 1 = 0 ∧ (g.val - h.val) / 1 < 1 at hin
    exact Fin.ext (by omega)

/-- Rows of noughts after an array's. -/
theorem pad_rows (M e : ℕ) (y : S1x4096x128.Idx → EReal) (v : S_.Idx → EReal) (hv : ∀ i, v i = 0)
    (hp : Shape.Pads S1x4096x128 ![0, 0, 0] ![0, e, 0] ![0, 0, 0] ⟨3, ![1, M, 128]⟩) (hu : 0 < S_.numel) (n : Fin M) (a : Fin 128) :
    pad ⟨3, ![1, M, 128]⟩ ![0, 0, 0] ![0, e, 0] ![0, 0, 0] y v hp hu (ix3 (0 : Fin 1) n a) = if h : n.val < 4096 then y (ix3 0 ⟨n.val, h⟩ a) else 0 := by
  by_cases h : n.val < 4096
  · rw [dif_pos h]
    refine pad_apply_of_inside _ _ _ _ _ hp hu _ (ix3 0 ⟨n.val, h⟩ a) fun b => ?_
    match b with
    | 0 => rfl
    | 1 => show n.val = 0 + n.val * 1; omega
    | 2 => show a.val = 0 + a.val * 1; omega
  · rw [dif_neg h]
    refine (pad_apply_of_not_inside _ _ _ _ _ hp hu _ 1 fun hin => h ?_).trans (hv _)
    change 0 ≤ n.val ∧ (n.val - 0) % 1 = 0 ∧ (n.val - 0) / 1 < 4096 at hin
    omega

variable (V0 : Valuation τ sig (Elt Ideal))
variable (p : Fin 4096 → Fin 4876 → ℝ) (dc : Fin 4096 → Fin 2048 → ℝ) (w : Fin 4 → Fin 128 → Fin 128 → ℝ) (s : Fin 512 → ℝ)
variable (hp : V0 (Proc.devRef .tc main_arg0) = upf p)
variable (hdc : V0 (Proc.devRef .tc main_arg1) = upf dc)
variable (hw : V0 (Proc.devRef .tc main_arg2) = fun j => ((w (j 0) (j 1) (j 2) : ℝ) : EReal))
variable (hs : V0 (Proc.devRef .tc main_arg3) = fun i => ((s (i 0) : ℝ) : EReal))

include hp in
theorem v2_at (n : Fin 4096) (g : Fin 4) (a : Fin 128) : (res_main_v2 V0 : S1x4096x4x128.Idx → EReal) (ix4 0 n g a) = ((X p g a n.val : ℝ) : EReal) := by
  unfold res_main_v2
  pointwise
  rw [hp]
  unfold X
  rw [dif_pos n.isLt]
  refine congrArg (fun k => ((p n k : ℝ) : EReal)) (Fin.ext ?_)
  show 3084 + (g.val * 128 + a.val) = 3084 + 128 * g.val + a.val
  omega

include hp in
theorem v3_at (n : Fin 4096) (g : Fin 4) (a : Fin 128) : (res_main_v3 V0 : S1x4096x4x128.Idx → EReal) (ix4 0 n g a) = ((∑ k ∈ Finset.range (n.val + 1), X p g a k : ℝ) : EReal) := by
  unfold res_main_v3
  have e := v2_at V0 p hp
  generalize res_main_v2 V0 = x at e
  refine (window_sum 4095 0 x _ (fun _ => by pointwise) (fun n g a => X p g a n) e _ _ n g a).trans (congrArg Real.toEReal ?_)
  have hn := n.isLt
  rw [← Finset.sum_filter]
  refine Finset.sum_bij' (fun k _ => n.val + k - 4095) (fun k _ => k + 4095 - n.val) (fun k h => ?_) (fun k h => ?_) (fun k h => ?_) (fun k h => ?_) (fun k h => rfl) <;>
    simp only [Finset.mem_filter, Finset.mem_range] at h ⊢ <;> omega

theorem cnt_at (g : Fin 4) (n : Fin 4096) (x : BitVec 32) (hx : x = BitVec.ofNat 32 (win g)) :
    FloatOps.sitofp (F := Ideal) .f32 (IntOp.minsi (IntOp.addi (BitVec.ofNat 32 n.val) 1#32) x) = ((cnt g n.val : ℝ) : EReal) :=
  cnt_word g n.val (by omega) _ _ (WordCmp.addi_ofNat n.val 1) hx

theorem v17_at (n : Fin 4096) : (res_main_v17 V0 : S1x4096x1.Idx → EReal) (ix3 0 n 0) = ((cnt 0 n.val : ℝ) : EReal) := by
  unfold res_main_v17 res_main_v4
  pointwise
  exact cnt_at 0 n _ rfl
theorem v35_at (n : Fin 4096) : (res_main_v35 V0 : S1x4096x1.Idx → EReal) (ix3 0 n 0) = ((cnt 1 n.val : ℝ) : EReal) := by
  unfold res_main_v35 res_main_v4
  pointwise
  exact cnt_at 1 n _ rfl
theorem v53_at (n : Fin 4096) : (res_main_v53 V0 : S1x4096x1.Idx → EReal) (ix3 0 n 0) = ((cnt 2 n.val : ℝ) : EReal) := by
  unfold res_main_v53 res_main_v4
  pointwise
  exact cnt_at 2 n _ rfl
theorem v71_at (n : Fin 4096) : (res_main_v71 V0 : S1x4096x1.Idx → EReal) (ix3 0 n 0) = ((cnt 3 n.val : ℝ) : EReal) := by
  unfold res_main_v71 res_main_v4
  pointwise
  exact cnt_at 3 n _ rfl

/-- A group's mean from the running sums. -/
theorem mean_of (n : Fin 4096) (g : Fin 4) (a : Fin 128) (x2 x3 : S1x4096x4x128.Idx → EReal) (y : S1x4096x1.Idx → EReal) (e2 : ∀ (n : Fin 4096) (g : Fin 4) (a : Fin 128), x2 (ix4 0 n g a) = ((X p g a n.val : ℝ) : EReal))
    (e3 : ∀ (n : Fin 4096) (g : Fin 4) (a : Fin 128), x3 (ix4 0 n g a) = ((∑ k ∈ Finset.range (n.val + 1), X p g a k : ℝ) : EReal)) (e : ∀ n : Fin 4096, y (ix3 0 n 0) = ((cnt g n.val : ℝ) : EReal)) (z : EReal)
    (hz : z = if h : n.val < win g then 0 else x3 (ix4 0 ⟨n.val - win g, by omega⟩ g a)) :
    Ideal.div (x3 (ix4 0 n g a) - z) (y (ix3 0 n 0)) - x2 (ix4 0 n g a) = ((mean p g a n.val : ℝ) : EReal) := by
  have hz' : z = (((if win g ≤ n.val then ∑ k ∈ Finset.range (n.val - win g + 1), X p g a k else 0 : ℝ)) : EReal) := by
    rw [hz]
    by_cases h : n.val < win g
    · rw [dif_pos h, if_neg (by omega)]
      rfl
    · rw [dif_neg h, if_pos (by omega)]
      exact e3 _ _ _
  rw [hz', e3, e2, e, ← EReal.coe_sub, run_sub, div_real (cnt_ne _ _), ← EReal.coe_sub]
  rfl

include hp in
theorem v81_at (n : Fin 4096) (g : Fin 4) (a : Fin 128) : (res_main_v81 V0 : S1x4096x4x128.Idx → EReal) (ix4 0 n g a) = ((mean p g a n.val : ℝ) : EReal) := by
  unfold res_main_v81
  have e2 := v2_at V0 p hp
  have e3 := v3_at V0 p hp
  have c0 := v17_at V0
  have c1 := v35_at V0
  have c2 := v53_at V0
  have c3 := v71_at V0
  unfold res_main_v6 res_main_v24 res_main_v42 res_main_v60
  generalize res_main_v2 V0 = x2 at e2
  generalize res_main_v3 V0 = x3 at e3
  generalize res_main_v17 V0 = y0 at c0
  generalize res_main_v35 V0 = y1 at c1
  generalize res_main_v53 V0 = y2 at c2
  generalize res_main_v71 V0 = y3 at c3
  pointwise
  match g with
  | 0 => exact mean_of p n 0 a x2 x3 y0 e2 e3 c0 _ rfl
  | 1 => exact mean_of p n 1 a x2 x3 y1 e2 e3 c1 _ rfl
  | 2 => exact mean_of p n 2 a x2 x3 y2 e2 e3 c2 _ rfl
  | 3 => exact mean_of p n 3 a x2 x3 y3 e2 e3 c3 _ rfl

include hp hw in
theorem v84_at (n : Fin 4096) (k : Fin 512) : (res_main_v84 V0 : S1x4096x512.Idx → EReal) (ix3 0 n k)
    = ((∑ l, mean p ⟨k.val / 128, by omega⟩ l n.val * w ⟨k.val / 128, by omega⟩ l ⟨k.val % 128, by omega⟩ : ℝ) : EReal) := by
  unfold res_main_v84
  have e := v81_at V0 p hp
  generalize res_main_v81 V0 = x at e
  pointwise
  rw [hw]
  simp only [e, ← EReal.coe_mul, coe_sum]
  exact congrArg Real.toEReal (Finset.sum_congr rfl fun l _ => mul_comm _ _)

include hdc in
theorem v89_at (n : Fin 4096) (k : Fin 512) : (res_main_v89 V0 : S1x4096x512.Idx → EReal) (ix3 0 n k) = ((Y dc ⟨k.val / 128, by omega⟩ ⟨k.val % 128, by omega⟩ n.val : ℝ) : EReal) := by
  unfold res_main_v89
  pointwise
  rw [hdc]
  unfold Y
  rw [dif_pos n.isLt]
  refine congrArg (fun k => ((dc n k : ℝ) : EReal)) (Fin.ext ?_)
  show 768 + k.val = 768 + 128 * (k.val / 128) + k.val % 128
  omega

include hdc hs in
theorem v97_at (n : Fin 4096) (g : Fin 4) (b : Fin 128) : (res_main_v97 V0 : S4x128x1x4096.Idx → EReal) (ix4 g b 0 n) = ((Y dc g b n.val * Sc s g b : ℝ) : EReal) := by
  unfold res_main_v97 res_main_v85
  have e := v89_at V0 dc hdc
  generalize res_main_v89 V0 = x at e
  pointwise
  rw [e, hs, ← EReal.coe_mul]
  refine congrArg Real.toEReal (congrArg₂ (fun a b : ℝ => a * b) ?_ ?_)
  · congr 1
    · exact Fin.ext (by show (g.val * 128 + b.val) / 128 = g.val; omega)
    · exact Fin.ext (by show (g.val * 128 + b.val) % 128 = b.val; omega)
  · exact congrArg s (Fin.ext (by show g.val * 128 + b.val = 128 * g.val + b.val; omega))

include hdc hs hw in
theorem v99_at (n : Fin 4096) (g : Fin 4) (a : Fin 128) : (res_main_v99 V0 : S1x4096x4x128.Idx → EReal) (ix4 0 n g a) = ((gM dc w s g a n.val : ℝ) : EReal) := by
  unfold res_main_v99
  have e := v97_at V0 dc s hdc hs
  generalize res_main_v97 V0 = x at e
  pointwise
  rw [hw]
  simp only [e, ← EReal.coe_mul, coe_sum]
  rfl

/-- A mean's cotangent, shared among its rows. -/
def zf (g : Fin 4) (a : Fin 128) (k : ℕ) : ℝ := gM dc w s g a k / cnt g k

theorem zf_past (g : Fin 4) (a : Fin 128) (k : ℕ) (h : 4096 ≤ k) : zf dc w s g a k = 0 := by
  unfold zf
  rw [gM_past dc w s g a k h, zero_div]

include hdc hs hw in
theorem v103_at (n : Fin 4096) (a : Fin 128) : (res_main_v103 V0 : S1x4096x128.Idx → EReal) (ix3 0 n a) = ((gM dc w s 0 a n.val : ℝ) : EReal) := by
  unfold res_main_v103
  refine Eq.trans ?_ (v99_at V0 dc w s hdc hw hs n 0 a)
  pointwise
include hdc hs hw in
theorem v105_at (n : Fin 4096) (a : Fin 128) : (res_main_v105 V0 : S1x4096x128.Idx → EReal) (ix3 0 n a) = ((gM dc w s 1 a n.val : ℝ) : EReal) := by
  unfold res_main_v105
  refine Eq.trans ?_ (v99_at V0 dc w s hdc hw hs n 1 a)
  pointwise
include hdc hs hw in
theorem v107_at (n : Fin 4096) (a : Fin 128) : (res_main_v107 V0 : S1x4096x128.Idx → EReal) (ix3 0 n a) = ((gM dc w s 2 a n.val : ℝ) : EReal) := by
  unfold res_main_v107
  refine Eq.trans ?_ (v99_at V0 dc w s hdc hw hs n 2 a)
  pointwise
include hdc hs hw in
theorem v109_at (n : Fin 4096) (a : Fin 128) : (res_main_v109 V0 : S1x4096x128.Idx → EReal) (ix3 0 n a) = ((gM dc w s 3 a n.val : ℝ) : EReal) := by
  unfold res_main_v109
  refine Eq.trans ?_ (v99_at V0 dc w s hdc hw hs n 3 a)
  pointwise

/-- A group's cotangents divided by the counts; then their opposites with noughts behind. -/
theorem share (g : Fin 4) (x : S1x4096x128.Idx → EReal) (y : S1x4096x1.Idx → EReal) (e : ∀ (n : Fin 4096) (a : Fin 128), x (ix3 0 n a) = ((gM dc w s g a n.val : ℝ) : EReal))
    (c : ∀ n : Fin 4096, y (ix3 0 n 0) = ((cnt g n.val : ℝ) : EReal)) (n : Fin 4096) (a : Fin 128) :
    (Host.divf (F := Ideal) (φ := .f32) x (broadcastInDim S1x4096x128 ![0, 1, 2] bcast_S1x4096x1_S1x4096x128_0_1_2 y) : S1x4096x128.Idx → EReal) (ix3 0 n a) = ((zf dc w s g a n.val : ℝ) : EReal) := by
  pointwise
  rw [e, c, div_real (cnt_ne _ _)]
  rfl
theorem share_past (M h : ℕ) (g : Fin 4) (x : S1x4096x128.Idx → EReal) (e : ∀ (n : Fin 4096) (a : Fin 128), x (ix3 0 n a) = ((zf dc w s g a n.val : ℝ) : EReal))
    (hp : Shape.Pads S1x4096x128 ![0, 0, 0] ![0, h, 0] ![0, 0, 0] ⟨3, ![1, M, 128]⟩) (hu : 0 < S_.numel) (n : Fin M) (a : Fin 128) :
    pad ⟨3, ![1, M, 128]⟩ ![0, 0, 0] ![0, h, 0] ![0, 0, 0] (Host.negf (F := Ideal) (φ := .f32) x) (constant S_ .f32 0x00000000#32) hp hu (ix3 (0 : Fin 1) n a) = ((-zf dc w s g a n.val : ℝ) : EReal) := by
  refine (pad_rows M h _ _ (fun _ => by pointwise) hp hu n a).trans ?_
  by_cases hn : n.val < 4096
  · rw [dif_pos hn]
    change -x (ix3 0 ⟨n.val, hn⟩ a) = _
    rw [e, EReal.coe_neg]
  · rw [dif_neg hn, zf_past _ _ _ _ _ _ (by omega), neg_zero]
    rfl

/-- The four groups side by side. -/
theorem four (g : Fin 4) (y : Fin 4 → EReal) :
    (((if g = 3 then y 3 else 0) + (if g = 2 then y 2 else 0)) + (if g = 1 then y 1 else 0)) + (if g = 0 then y 0 else 0) = y g := by
  match g with
  | 0 => simp
  | 1 => simp
  | 2 => simp
  | 3 => simp

/-- The sum of the four padded groups. -/
def pads4 (y0 y1 y2 y3 : S1x4096x1x128.Idx → EReal) : FVec Ideal S1x4096x4x128 .f32 :=
  addf (addf (addf (pad S1x4096x4x128 ![0, 0, 3, 0] ![0, 0, 0, 0] ![0, 0, 0, 0] y3 (constant S_ .f32 0x00000000#32) pads_S1x4096x1x128_S1x4096x4x128_000_000_300_000 h_S_)
    (pad S1x4096x4x128 ![0, 0, 2, 0] ![0, 0, 1, 0] ![0, 0, 0, 0] y2 (constant S_ .f32 0x00000000#32) pads_S1x4096x1x128_S1x4096x4x128_000_000_210_000 h_S_))
    (pad S1x4096x4x128 ![0, 0, 1, 0] ![0, 0, 2, 0] ![0, 0, 0, 0] y1 (constant S_ .f32 0x00000000#32) pads_S1x4096x1x128_S1x4096x4x128_000_000_120_000 h_S_))
    (pad S1x4096x4x128 ![0, 0, 0, 0] ![0, 0, 3, 0] ![0, 0, 0, 0] y0 (constant S_ .f32 0x00000000#32) pads_S1x4096x1x128_S1x4096x4x128_000_000_030_000 h_S_)

theorem pads4_at (y0 y1 y2 y3 : S1x4096x1x128.Idx → EReal) (n : Fin 4096) (g : Fin 4) (a : Fin 128) (f : Fin 4 → EReal)
    (h0 : y0 (ix4 0 n 0 a) = f 0) (h1 : y1 (ix4 0 n 0 a) = f 1) (h2 : y2 (ix4 0 n 0 a) = f 2) (h3 : y3 (ix4 0 n 0 a) = f 3) : pads4 y0 y1 y2 y3 (ix4 0 n g a) = f g := by
  have z : ∀ i, (constant S_ .f32 0x00000000#32 : FVec Ideal S_ .f32) i = 0 := fun _ => by pointwise
  refine (congrArg₂ (fun a b : EReal => a + b) (congrArg₂ (fun a b : EReal => a + b) (congrArg₂ (fun a b : EReal => a + b) (pad_group 3 0 y3 _ z _ _ n g a) (pad_group 2 1 y2 _ z _ _ n g a))
    (pad_group 1 2 y1 _ z _ _ n g a)) (pad_group 0 3 y0 _ z _ _ n g a)).trans ?_
  rw [h0, h1, h2, h3]
  exact four g f

/-- A group's opposite. -/
theorem neg_group (x : S1x4096x128.Idx → EReal) (f : ℕ → Fin 128 → ℝ) (e : ∀ (n : Fin 4096) (a : Fin 128), x (ix3 0 n a) = ((f n.val a : ℝ) : EReal)) (n : Fin 4096) (a : Fin 128) :
    (broadcastInDim S1x4096x1x128 ![0, 1, 3] bcast_S1x4096x128_S1x4096x1x128_0_1_3 (Host.negf (F := Ideal) (φ := .f32) x) : S1x4096x1x128.Idx → EReal) (ix4 0 n 0 a) = ((-f n.val a : ℝ) : EReal) := by
  pointwise
  rw [e, EReal.coe_neg]

include hdc hs hw in
theorem inner_at (n : Fin 4096) (g : Fin 4) (a : Fin 128) :
    pads4 (broadcastInDim S1x4096x1x128 ![0, 1, 3] bcast_S1x4096x128_S1x4096x1x128_0_1_3 (addf (F := Ideal) (φ := .f32) (res_main_v155 V0) (extractStridedSlice S1x4096x128 ![0, 2, 0] (res_main_v157 V0) slices_S1x4098x128_S1x4096x128_0_2_0)))
      (broadcastInDim S1x4096x1x128 ![0, 1, 3] bcast_S1x4096x128_S1x4096x1x128_0_1_3 (addf (F := Ideal) (φ := .f32) (res_main_v141 V0) (extractStridedSlice S1x4096x128 ![0, 4, 0] (res_main_v143 V0) slices_S1x4100x128_S1x4096x128_0_4_0)))
      (broadcastInDim S1x4096x1x128 ![0, 1, 3] bcast_S1x4096x128_S1x4096x1x128_0_1_3 (addf (F := Ideal) (φ := .f32) (res_main_v127 V0) (extractStridedSlice S1x4096x128 ![0, 8, 0] (res_main_v129 V0) slices_S1x4104x128_S1x4096x128_0_8_0)))
      (broadcastInDim S1x4096x1x128 ![0, 1, 3] bcast_S1x4096x128_S1x4096x1x128_0_1_3 (addf (F := Ideal) (φ := .f32) (res_main_v114 V0) (extractStridedSlice S1x4096x128 ![0, 16, 0] (res_main_v116 V0) slices_S1x4112x128_S1x4096x128_0_16_0)))
      (ix4 0 n g a) = ((zf dc w s g a n.val - zf dc w s g a (n.val + win g) : ℝ) : EReal) := by
  have z0 := share dc w s 0 _ _ (v103_at V0 dc w s hdc hw hs) (v17_at V0)
  have z1 := share dc w s 1 _ _ (v105_at V0 dc w s hdc hw hs) (v35_at V0)
  have z2 := share dc w s 2 _ _ (v107_at V0 dc w s hdc hw hs) (v53_at V0)
  have z3 := share dc w s 3 _ _ (v109_at V0 dc w s hdc hw hs) (v71_at V0)
  have q0 : ∀ (n : Fin 4098) (a : Fin 128), (res_main_v157 V0 : S1x4098x128.Idx → EReal) (ix3 0 n a) = _ := share_past dc w s 4098 2 0 _ z0 _ _
  have q1 : ∀ (n : Fin 4100) (a : Fin 128), (res_main_v143 V0 : S1x4100x128.Idx → EReal) (ix3 0 n a) = _ := share_past dc w s 4100 4 1 _ z1 _ _
  have q2 : ∀ (n : Fin 4104) (a : Fin 128), (res_main_v129 V0 : S1x4104x128.Idx → EReal) (ix3 0 n a) = _ := share_past dc w s 4104 8 2 _ z2 _ _
  have q3 : ∀ (n : Fin 4112) (a : Fin 128), (res_main_v116 V0 : S1x4112x128.Idx → EReal) (ix3 0 n a) = _ := share_past dc w s 4112 16 3 _ z3 _ _
  change ∀ (n : Fin 4096) (a : Fin 128), (res_main_v155 V0 : S1x4096x128.Idx → EReal) (ix3 0 n a) = _ at z0
  change ∀ (n : Fin 4096) (a : Fin 128), (res_main_v141 V0 : S1x4096x128.Idx → EReal) (ix3 0 n a) = _ at z1
  change ∀ (n : Fin 4096) (a : Fin 128), (res_main_v127 V0 : S1x4096x128.Idx → EReal) (ix3 0 n a) = _ at z2
  change ∀ (n : Fin 4096) (a : Fin 128), (res_main_v114 V0 : S1x4096x128.Idx → EReal) (ix3 0 n a) = _ at z3
  generalize res_main_v155 V0 = x0 at z0 ⊢
  generalize res_main_v141 V0 = x1 at z1 ⊢
  generalize res_main_v127 V0 = x2 at z2 ⊢
  generalize res_main_v114 V0 = x3 at z3 ⊢
  generalize res_main_v157 V0 = y0 at q0 ⊢
  generalize res_main_v143 V0 = y1 at q1 ⊢
  generalize res_main_v129 V0 = y2 at q2 ⊢
  generalize res_main_v116 V0 = y3 at q3 ⊢
  have fin : ∀ (h : Fin 4) (k : ℕ), k = win h + n.val → ((zf dc w s h a n.val : ℝ) : EReal) + ((-zf dc w s h a k : ℝ) : EReal) = ((zf dc w s h a n.val - zf dc w s h a (n.val + win h) : ℝ) : EReal) := by
    rintro h _ rfl
    rw [← EReal.coe_add, ← sub_eq_add_neg, Nat.add_comm]
  refine pads4_at _ _ _ _ n g a (fun g => ((zf dc w s g a n.val - zf dc w s g a (n.val + win g) : ℝ) : EReal)) ?_ ?_ ?_ ?_
  · pointwise
    rw [z0, q0]
    exact fin 0 _ rfl
  · pointwise
    rw [z1, q1]
    exact fin 1 _ rfl
  · pointwise
    rw [z2, q2]
    exact fin 2 _ rfl
  · pointwise
    rw [z3, q3]
    exact fin 3 _ rfl

/-- The sum over the rows from one on. -/
theorem rows_from (f : ℕ → ℝ) (n : ℕ) (w : ℕ) (h : ∀ k, 4096 ≤ k → f k = 0) :
    (∑ k ∈ Finset.range 4096, if 0 ≤ n + k ∧ n + k - 0 < 4096 then f (n + k - 0) - f (n + k - 0 + w) else 0) = from' f w n := by
  rw [← back_sub f 4096 w n h]
  refine Finset.sum_congr rfl fun k _ => ?_
  rw [Nat.sub_zero]
  by_cases hk : n + k < 4096
  · rw [if_pos ⟨Nat.zero_le _, hk⟩]
  · rw [if_neg fun e => hk e.2, h _ (by omega), h _ (by omega), sub_zero]

/-- A sum's rows and columns run together. -/
theorem flat (x : S1x4096x4x128.Idx → EReal) (n : Fin 4096) (k : Fin 512) :
    (truncf (F := Ideal) (φ := .f32) .bf16 (shapeCast S4096x512 (shapeCast S1x4096x512 x shapeCasts_S1x4096x4x128_S1x4096x512) shapeCasts_S1x4096x512_S4096x512) : S4096x512.Idx → EReal) (ix2 n k)
      = x (ix4 0 n ⟨k.val / 128, by omega⟩ ⟨k.val % 128, by omega⟩) := by
  pointwise

/-- A sum over two axes of one. -/
theorem two_units (h : S1x1x512.ReducesTo [0, 1] S512) (f : S1x1x512.Idx → EReal) (z : EReal) (k : Fin 512) : Ideal.hostReduceAdd h f z (ix1 k) = z + f (ix3 0 0 k) := by
  refine congrArg (z + ·) ((Finset.sum_filter_eq_sum_of_fiber _ (fun _ : Fin 1 => (ix3 0 0 k : S1x1x512.Idx)) (fun _ _ _ => Subsingleton.elim _ _) (fun x => ?_) f).trans (Fin.sum_univ_one _))
  constructor
  · intro e
    refine ⟨0, ?_⟩
    funext a
    apply Fin.ext
    match a with
    | ⟨0, _⟩ => exact (Nat.lt_one_iff.mp (x 0).isLt).symm
    | ⟨1, _⟩ => exact (Nat.lt_one_iff.mp (x 1).isLt).symm
    | ⟨2, _⟩ => exact (congrArg Fin.val (congrFun e 0)).symm
  · rintro ⟨_, rfl⟩
    funext b
    apply Fin.ext
    match b with
    | ⟨0, _⟩ => rfl

variable (m : (ℓ : Loc nD τ sig) → Buf (Elt Ideal) ℓ) (ρ : Dev nD → PrngReg)

set_option maxHeartbeats 2000000 in
/-- Every run ends with the three gradients and the arguments as they were. -/
theorem run (p : Dev nD → Fin 4096 → Fin 4876 → ℝ) (dc : Dev nD → Fin 4096 → Fin 2048 → ℝ) (w : Dev nD → Fin 4 → Fin 128 → Fin 128 → ℝ) (s : Dev nD → Fin 512 → ℝ)
    (hp : ∀ c : Dev nD, m ((c.tc : Thread nD τ).loc main_arg0) = (upf (p c) : S4096x4876.Idx → EReal))
    (hdc : ∀ c : Dev nD, m ((c.tc : Thread nD τ).loc main_arg1) = (upf (dc c) : S4096x2048.Idx → EReal))
    (hw : ∀ c : Dev nD, m ((c.tc : Thread nD τ).loc main_arg2) = (fun j => ((w c (j 0) (j 1) (j 2) : ℝ) : EReal) : S4x128x128.Idx → EReal))
    (hs : ∀ c : Dev nD, m ((c.tc : Thread nD τ).loc main_arg3) = (fun i => ((s c (i 0) : ℝ) : EReal) : S512.Idx → EReal)) :
    θ_run defs (onTc (τ := τ) (main (F := Ideal))) ⟨m, fun _ => 0, ρ⟩ fun r => ∀ c : Dev nD,
      r.2.mem ((c.tc : Thread nD τ).loc main_v168) = (upf fun n k => gX (dc c) (w c) (s c) ⟨k.val / 128, by omega⟩ ⟨k.val % 128, by omega⟩ n.val : S4096x512.Idx → EReal)
      ∧ r.2.mem ((c.tc : Thread nD τ).loc main_v101) = (fun j : S4x128x128.Idx => ((gW (p c) (dc c) (s c) (j 0) (j 1) (j 2) : ℝ) : EReal))
      ∧ r.2.mem ((c.tc : Thread nD τ).loc main_v169) = (upf fun _ k => gSc (p c) (dc c) (w c) ⟨k.val / 128, by omega⟩ ⟨k.val % 128, by omega⟩ : S1x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m ρ)
  have h0 : launchContents m c (Proc.devRef .tc main_arg0) = upf (p c) := hp c
  have h1 : launchContents m c (Proc.devRef .tc main_arg1) = upf (dc c) := hdc c
  have h2 : launchContents m c (Proc.devRef .tc main_arg2) = (fun j => ((w c (j 0) (j 1) (j 2) : ℝ) : EReal) : S4x128x128.Idx → EReal) := hw c
  have h3 : launchContents m c (Proc.devRef .tc main_arg3) = (fun i => ((s c (i 0) : ℝ) : EReal) : S512.Idx → EReal) := hs c
  refine ⟨(h c).1.trans ?_, (h c).2.1.trans ?_, (h c).2.2.1.trans ?_, (h c).2.2.2⟩
  · clear h
    funext i
    idx_vars i
    refine (flat _ i0 i1).trans ?_
    show _ = ((gX (dc c) (w c) (s c) ⟨i1.val / 128, by omega⟩ ⟨i1.val % 128, by omega⟩ i0.val : ℝ) : EReal)
    generalize (⟨i1.val / 128, _⟩ : Fin 4) = g
    generalize (⟨i1.val % 128, _⟩ : Fin 128) = a
    have one := neg_group _ (fun k a => gM (dc c) (w c) (s c) 0 a k) (v103_at _ (dc c) (w c) (s c) h1 h2 h3) i0 a
    have two := neg_group _ (fun k a => gM (dc c) (w c) (s c) 1 a k) (v105_at _ (dc c) (w c) (s c) h1 h2 h3) i0 a
    have three := neg_group _ (fun k a => gM (dc c) (w c) (s c) 2 a k) (v107_at _ (dc c) (w c) (s c) h1 h2 h3) i0 a
    have four' := neg_group _ (fun k a => gM (dc c) (w c) (s c) 3 a k) (v109_at _ (dc c) (w c) (s c) h1 h2 h3) i0 a
    have out := pads4_at _ _ _ _ i0 g a (fun g => ((-gM (dc c) (w c) (s c) g a i0.val : ℝ) : EReal)) one two three four'
    have inn := window_sum 0 4095 _ (constant (F := Ideal) S_ .f32 0x00000000#32) (fun _ => by pointwise) (fun n g a => zf (dc c) (w c) (s c) g a n - zf (dc c) (w c) (s c) g a (n + win g))
      (inner_at _ (dc c) (w c) (s c) h1 h2 h3) reduceWindows_S1x4096x4x128_S1x4096x4x128_w1s1p0_0_w4096s1p0_4095_w1s1p0_0_w1s1p0_0 h_S_ i0 g a
    refine (congrArg₂ (fun a b : EReal => a + b) out inn).trans ?_
    rw [← EReal.coe_add, rows_from (zf (dc c) (w c) (s c) g a) i0.val (win g) (zf_past (dc c) (w c) (s c) g a), add_comm, ← sub_eq_add_neg]
    rfl
  · clear h
    have e := v97_at _ (dc c) (s c) h1 h3
    have e' := v81_at _ (p c) h0
    generalize res_main_v97 (launchContents m c) = x at e ⊢
    generalize res_main_v81 (launchContents m c) = y at e' ⊢
    funext i
    idx_vars i
    pointwise
    rw [Fin.sum_univ_one]
    simp only [e, e', ← EReal.coe_mul, coe_sum]
    exact congrArg Real.toEReal (Finset.sum_congr rfl fun _ _ => mul_comm _ _)
  · clear h
    have e := v84_at _ (p c) (w c) h0 h2
    have e' := v89_at _ (dc c) h1
    generalize res_main_v84 (launchContents m c) = x at e ⊢
    generalize res_main_v89 (launchContents m c) = y at e' ⊢
    funext i
    idx_vars i
    pointwise
    refine (two_units _ _ _ _).trans ?_
    pointwise
    simp only [e, e', ← EReal.coe_mul, coe_sum]
    exact congrArg Real.toEReal (Finset.sum_congr rfl fun _ _ => mul_comm _ _)

end Cert.PoolBwdRefIdeal.Real

end
-- ==== Proof.PoolBwdClaim.lean ====
/- The claims about `pool_bwd`. -/
module

public import proofs.«01_k».proof.Defs
public import proofs.«01_k».proof.Proof.PoolBwd
public import proofs.«01_k».proof.Proof.PoolRef
public import proofs.«01_k».proof.Proof.Gen.PoolBwd.Frame
public import proofs.«01_k».proof.Proof.Gen.Pre_pool_bwd_finite

@[expose] public section

set_option maxRecDepth 16384

noncomputable section

namespace Cert.Proof.PoolBwd

open Idealize.ShloMosaic Idealize.SL.Sem Idealize.ShloMosaic.TcCoe Cert.RealLift Cert.Swa

theorem lifts (p : FVec Ideal Cert.Pre_pool_bwd_finite.S4096x4876 .f32) (dc : FVec Ideal Cert.Pre_pool_bwd_finite.S4096x2048 .f32)
    (w : FVec Ideal Cert.Pre_pool_bwd_finite.S4x128x128 .f32) (s : FVec Ideal Cert.Pre_pool_bwd_finite.S512 .f32)
    (h : Cert.Pre_pool_bwd_finite.fn (F := Ideal) p dc w s = fun _ => 1#1) :
    IsLift p ∧ IsLift dc ∧ IsLift w ∧ IsLift s := by
  obtain ⟨h123, h4⟩ := and_one h
  obtain ⟨h12, h3⟩ := and_one h123
  obtain ⟨h1, h2⟩ := and_one h12
  exact ⟨lift_of_all p _ _ _ _ h1, lift_of_all dc _ _ _ _ h2, lift_of_all w _ _ _ _ h3, lift_of_all s _ _ _ _ h4⟩

/-- Lifted arrays by their one, two or three indices. -/
theorem one {a : ℕ} {x : (⟨1, ![a]⟩ : Shape).Idx → EReal} {f : (⟨1, ![a]⟩ : Shape).Idx → ℝ} (h : x = fun i => ((f i : ℝ) : EReal)) :
    x = fun i => ((f (ix1 (i 0)) : ℝ) : EReal) := by
  rw [h]; funext i; exact congrArg (fun k => ((f k : ℝ) : EReal)) (funext fun a => match a with | ⟨0, _⟩ => rfl)
theorem two {a b : ℕ} {x : (⟨2, ![a, b]⟩ : Shape).Idx → EReal} {f : (⟨2, ![a, b]⟩ : Shape).Idx → ℝ} (h : x = fun i => ((f i : ℝ) : EReal)) :
    x = upf fun i j => f (ix2 i j) := by
  rw [h]; funext i; exact congrArg (fun k => ((f k : ℝ) : EReal)) (funext fun a => match a with | ⟨0, _⟩ => rfl | ⟨1, _⟩ => rfl)
theorem three {a b d : ℕ} {x : (⟨3, ![a, b, d]⟩ : Shape).Idx → EReal} {f : (⟨3, ![a, b, d]⟩ : Shape).Idx → ℝ} (h : x = fun i => ((f i : ℝ) : EReal)) :
    x = fun i => ((f (ix3 (i 0) (i 1) (i 2)) : ℝ) : EReal) := by
  rw [h]; funext i; exact congrArg (fun k => ((f k : ℝ) : EReal)) (funext fun a => match a with | ⟨0, _⟩ => rfl | ⟨1, _⟩ => rfl | ⟨2, _⟩ => rfl)

theorem q1 : quiescent_PoolBwd := fun m g _ => Cert.PoolBwd.Gen.frame m g
theorem q2 : quiescent_PoolBwdIdeal := fun m g _ => Cert.PoolBwdIdeal.Gen.frame m g
theorem q3 : quiescent_PoolBwdIdeal_pre_pool_bwd_finite := fun m g _ => Cert.PoolBwdIdeal.Gen.frame m g
theorem q4 : quiescent_PoolBwdRefIdeal := fun m g _ =>
  (θ_run _ _ _).mono (fun r h => And.intro (fun c => (h c).2.2.2) (sem_eq_zero_of_no_sems (by decide) r.2)) (Cert.PoolBwdRefIdeal.Value.run (F := Ideal) m g)
theorem q5 : quiescent_PoolBwdRefIdeal_pre_pool_bwd_finite := fun m g _ => q4 m g trivial

theorem value : algebraic_PoolBwdIdeal_PoolBwdRefIdeal_pre_pool_bwd_finite := by
  intro m g m' g' hpre hag
  choose p hp using fun c => (lifts _ _ _ _ (hpre c)).1
  choose d hd using fun c => (lifts _ _ _ _ (hpre c)).2.1
  choose w hw using fun c => (lifts _ _ _ _ (hpre c)).2.2.1
  choose s hs using fun c => (lifts _ _ _ _ (hpre c)).2.2.2
  refine ⟨_, _, _, ?_, Cert.PoolBwdRefIdeal.Real.run m' g' (fun c i j => p c (ix2 i j)) (fun c i j => d c (ix2 i j)) (fun c i j k => w c (ix3 i j k)) (fun c i => s c (ix1 i))
    (fun c => (hag c).1.trans (two (hp c))) (fun c => (hag c).2.1.trans (two (hd c))) (fun c => (hag c).2.2.1.trans (three (hw c))) (fun c => (hag c).2.2.2.trans (one (hs c)))⟩
  refine (θ_run _ _ _).mono (fun r h c => ?_) (Cert.PoolBwdIdeal.Value.run_blocks (F := Ideal) m g)
  exact ⟨(h c).1.trans (Cert.PoolBwdIdeal.Real.arr6 m c _ _ _ _ (two (hp c)) (two (hd c)) (three (hw c)) (one (hs c))),
    (h c).2.1.trans (Cert.PoolBwdIdeal.Real.arr7 m c _ _ _ (two (hp c)) (two (hd c)) (one (hs c))),
    (h c).2.2.1.trans (Cert.PoolBwdIdeal.Real.arr8 m c _ _ _ (two (hp c)) (two (hd c)) (three (hw c))), (h c).2.2.2⟩

end Cert.Proof.PoolBwd

end
-- ==== Proof.MidNorm.lean ====
/- The kernels `post_pre` and `bwd_norms` between two sub-layers, over the reals: what their grids leave in the result arrays. -/
module

public import proofs.«01_k».proof.Proof.NormReal
public import proofs.«01_k».proof.Proof.Gen.MidNormIdeal.Frame
public import Idealize.ShloMosaic.Lib.Pipeline.ValueKit

@[expose] public section

set_option maxRecDepth 16384

noncomputable section

namespace Cert.MidNormIdeal.Real

open Idealize.ShloMosaic Cert.RealLift Cert.MidNormIdeal Cert.MidNormIdeal.Gen Idealize.SL Idealize.SL.Sem Idealize.ShloMosaic.TcCoe
open Idealize.ShloMosaic.Pipeline (Dat)

/-! ## The bodies' values -/

theorem xpay_eq (x y : S256x2048.Idx → ℝ) (w : S1x2048.Idx → ℝ) (r : Fin 256) (l : Fin 2048) :
    k0_pay1 (F := Ideal) (fun i => ((x i : ℝ) : EReal)) (fun i => ((y i : ℝ) : EReal)) (fun i => ((w i : ℝ) : EReal)) (ix2 r l)
      = ((postRow (rowOf x r) (rowOf y r) (rowOf w 0) l : ℝ) : EReal) := by
  pointwise [k0_pay1]
  simp only [ofBits_2048, ofBits_eps, ← EReal.coe_mul, ← EReal.coe_add, coe_sum, div_2048, rsqrt_ms]
  rfl

theorem dpay_eq (u d y : S256x2048.Idx → ℝ) (w : S1x2048.Idx → ℝ) (r : Fin 256) (l : Fin 2048) :
    k1_pay5 (F := Ideal) (fun i => ((u i : ℝ) : EReal)) (fun i => ((d i : ℝ) : EReal)) (fun i => ((y i : ℝ) : EReal)) (fun i => ((w i : ℝ) : EReal)) (ix2 r l)
      = ((preRow (rowOf u r) (rowOf d r) (rowOf y r) (rowOf w 0) l : ℝ) : EReal) := by
  pointwise [k1_pay5, k1_pay3, k1_pay2, k1_pay1]
  simp only [ofBits_2048, ofBits_eps, ← EReal.coe_mul, ← EReal.coe_add, ← EReal.coe_sub, coe_sum, div_2048, rsqrt_ms]
  rfl

theorem mpay_eq (d y : S256x2048.Idx → ℝ) (w : S1x2048.Idx → ℝ) (r : Fin 256) (l : Fin 2048) :
    k1_pay10 (F := Ideal) (fun i => ((d i : ℝ) : EReal)) (fun i => ((y i : ℝ) : EReal)) (fun i => ((w i : ℝ) : EReal)) (ix2 r l)
      = ((dyRow (rowOf d r) (rowOf y r) (rowOf w 0) l : ℝ) : EReal) := by
  pointwise [k1_pay10, k1_pay9, k1_pay8]
  simp only [ofBits_2048, ofBits_eps, ← EReal.coe_mul, ← EReal.coe_add, ← EReal.coe_sub, coe_sum, div_2048, rsqrt_ms]
  rfl

/-- What a block of rows adds to a weight's gradient. -/
def part (d y : S256x2048.Idx → ℝ) (i : S1x2048.Idx) : EReal := ((∑ r, d (ix2 r (i 1)) * (y (ix2 r (i 1)) * rs (rowOf y r)) : ℝ) : EReal)

theorem qpay_eq (a : S1x2048.Idx → EReal) (d y : S256x2048.Idx → ℝ) (i : S1x2048.Idx) :
    k1_pay7 (F := Ideal) (k1_pay4 (fun i => ((d i : ℝ) : EReal)) (fun i => ((y i : ℝ) : EReal))) a i = a i + part d y i := by
  idx_vars i
  obtain rfl : i0 = 0 := by omega
  pointwise [k1_pay7, k1_pay4, k1_pay3, k1_pay2, k1_pay1]
  simp only [ofBits_2048, ofBits_eps, ← EReal.coe_mul, ← EReal.coe_add, ← EReal.coe_sub, coe_sum, div_2048, rsqrt_ms]
  rfl

theorem wpay_eq (a : S1x2048.Idx → EReal) (d y : S256x2048.Idx → ℝ) (i : S1x2048.Idx) :
    k1_pay12 (F := Ideal) (fun i => ((d i : ℝ) : EReal)) (fun i => ((y i : ℝ) : EReal)) a i = a i + part d y i := by
  idx_vars i
  obtain rfl : i0 = 0 := by omega
  pointwise [k1_pay12, k1_pay9, k1_pay8]
  simp only [ofBits_2048, ofBits_eps, ← EReal.coe_mul, ← EReal.coe_add, ← EReal.coe_sub, coe_sum, div_2048, rsqrt_ms]
  rfl

/-! ## Blocks of rows -/

/-- The rows of a matrix that a grid point reads. -/
def row (t : Fin 16) (r : Fin 256) : Fin 4096 := ⟨256 * t.val + r.val, by omega⟩

/-- The block of a matrix that a grid point reads. -/
def blkR (x : S4096x2048.Idx → ℝ) (t : Fin 16) : S256x2048.Idx → ℝ := fun i => x (ix2 (row t (i 0)) (i 1))

/-- The sums over the blocks of rows together are the sum over the rows. -/
theorem parts_sum (d y : S4096x2048.Idx → ℝ) (i : S1x2048.Idx) :
    ∑ s : Fin 16, part (blkR d s) (blkR y s) i = ((dwLane (rowOf d) (rowOf y) (i 1) : ℝ) : EReal) := by
  refine (coe_sum _ _).trans (congrArg _ ?_)
  refine Fin.sum_mul_add_congr (L := 4096) fun s k hl => ?_
  have er : row s k = ⟨s.val * 256 + k.val, hl⟩ := Fin.ext (by show 256 * s.val + k.val = s.val * 256 + k.val; omega)
  rw [← er]
  rfl

/-! ## The forward call -/

section Forward

variable (V : (c : Dev nD) → (b : Ref sig .tc) → Buf (Elt Ideal) ((c : Thread nD τ).loc b)) (c : Dev nD)
variable (x y : S4096x2048.Idx → ℝ) (w : S2048.Idx → ℝ)
variable (hx : V c main_arg2 = fun i => ((x i : ℝ) : EReal)) (hy : V c main_arg3 = fun i => ((y i : ℝ) : EReal))
variable (hw : V c main_v0 = fun i => ((w (ix1 (i 1)) : ℝ) : EReal))

theorem idx0 (t : Fin cfg0.N) : win0_0.index t = ![t.val, 0] ∧ win0_1.index t = ![t.val, 0] ∧ win0_2.index t = ![0, 0] ∧ win0_4.index t = ![t.val, 0] :=
  (by decide +kernel : ∀ t : Fin grid0.N, win0_0.index t = ![t.val, 0] ∧ win0_1.index t = ![t.val, 0] ∧ win0_2.index t = ![0, 0] ∧ win0_4.index t = ![t.val, 0]) t

include hx in
theorem fblk_x (t : Fin cfg0.N) : iblk0 V c 0 t = fun i => ((blkR x t i : ℝ) : EReal) := by
  funext i
  have : iblk0 V c 0 t i = V c main_arg2 (ix2 (row t (i 0)) (i 1)) := by blk_ext [iblk0, idx0 t, row]
  rw [this, hx]
  rfl

include hy in
theorem fblk_y (t : Fin cfg0.N) : iblk0 V c 1 t = fun i => ((blkR y t i : ℝ) : EReal) := by
  funext i
  have : iblk0 V c 1 t i = V c main_arg3 (ix2 (row t (i 0)) (i 1)) := by blk_ext [iblk0, idx0 t, row]
  rw [this, hy]
  rfl

include hw in
theorem fblk_w (t : Fin cfg0.N) : iblk0 V c 2 t = fun i => ((w (ix1 (i 1)) : ℝ) : EReal) := by
  funext i
  have : iblk0 V c 2 t i = V c main_v0 i := by blk_ext [iblk0, idx0 t]
  rw [this, hw]

include hx hy hw in
theorem farr4 : (dat0 V c).arrAt 4 cfg0.N = fun i => ((x1A x y w i : ℝ) : EReal) := by
  refine (dat0 V c).arrAt_eq_of_covers 4 _ (by decide +kernel) fun t hf i => ?_
  blk_simp
  rw [after0_4]
  have key : out0_4 (iblk0 V c 0 t) (iblk0 V c 1 t) (iblk0 V c 2 t) (iblk0 V c 3 t) = k0_pay1 (F := Ideal) (iblk0 V c 0 t) (iblk0 V c 1 t) (iblk0 V c 2 t) := by
    unfold out0_4; frame_out
  rw [key, fblk_x V c x hx, fblk_y V c y hy, fblk_w V c w hw]
  idx_vars i
  have e : ((View.whole main_v2_0).slice (win0_4.rect t)).emb (ix2 i0 i1) = ix2 (row t i0) i1 := by blk_ext [idx0 t, row]
  exact (xpay_eq (blkR x t) (blkR y t) (fun i => w (ix1 (i 1))) i0 i1).trans (congrArg (fun j => ((x1A x y w j : ℝ) : EReal)) e.symm)

end Forward

/-! ## The backward call -/

section Backward

variable (V : (c : Dev nD) → (b : Ref sig .tc) → Buf (Elt Ideal) ((c : Thread nD τ).loc b)) (c : Dev nD)
variable (u d x y : S4096x2048.Idx → ℝ) (w q : S2048.Idx → ℝ)
variable (hu : V c main_arg0 = fun i => ((u i : ℝ) : EReal)) (hd : V c main_arg1 = fun i => ((d i : ℝ) : EReal))
variable (hx : V c main_v2_0 = fun i => ((x i : ℝ) : EReal)) (hy : V c main_arg3 = fun i => ((y i : ℝ) : EReal))
variable (hw : V c main_v0 = fun i => ((w (ix1 (i 1)) : ℝ) : EReal)) (hq : V c main_v1 = fun i => ((q (ix1 (i 1)) : ℝ) : EReal))

theorem mblk_eq (g y : S4096x2048.Idx → ℝ) (w : S2048.Idx → ℝ) (t : Fin 16) (r : Fin 256) (l : Fin 2048) :
    k1_pay10 (F := Ideal) (fun i => ((blkR g t i : ℝ) : EReal)) (fun i => ((blkR y t i : ℝ) : EReal)) (fun i => ((w (ix1 (i 1)) : ℝ) : EReal)) (ix2 r l)
      = ((dmixA g y w (ix2 (row t r) l) : ℝ) : EReal) :=
  mpay_eq (blkR g t) (blkR y t) (fun i => w (ix1 (i 1))) r l

theorem idx1 (t : Fin cfg1.N) : (win1_0.index t = ![t.val, 0] ∧ win1_1.index t = ![t.val, 0] ∧ win1_2.index t = ![t.val, 0] ∧ win1_3.index t = ![0, 0] ∧ win1_4.index t = ![t.val, 0] ∧ win1_5.index t = ![0, 0])
    ∧ win1_6.index t = ![t.val, 0] ∧ win1_7.index t = ![0, 0] ∧ win1_8.index t = ![t.val, 0] ∧ win1_9.index t = ![0, 0] :=
  (by decide +kernel : ∀ t : Fin grid1.N, (win1_0.index t = ![t.val, 0] ∧ win1_1.index t = ![t.val, 0] ∧ win1_2.index t = ![t.val, 0] ∧ win1_3.index t = ![0, 0] ∧ win1_4.index t = ![t.val, 0] ∧ win1_5.index t = ![0, 0])
    ∧ win1_6.index t = ![t.val, 0] ∧ win1_7.index t = ![0, 0] ∧ win1_8.index t = ![t.val, 0] ∧ win1_9.index t = ![0, 0]) t

include hu in
theorem iblk_u (t : Fin cfg1.N) : iblk1 V c 0 t = fun i => ((blkR u t i : ℝ) : EReal) := by
  funext i
  have : iblk1 V c 0 t i = V c main_arg0 (ix2 (row t (i 0)) (i 1)) := by blk_ext [iblk1, idx1 t, row]
  rw [this, hu]
  rfl

include hd in
theorem iblk_d (t : Fin cfg1.N) : iblk1 V c 1 t = fun i => ((blkR d t i : ℝ) : EReal) := by
  funext i
  have : iblk1 V c 1 t i = V c main_arg1 (ix2 (row t (i 0)) (i 1)) := by blk_ext [iblk1, idx1 t, row]
  rw [this, hd]
  rfl

include hx in
theorem iblk_x (t : Fin cfg1.N) : iblk1 V c 2 t = fun i => ((blkR x t i : ℝ) : EReal) := by
  funext i
  have : iblk1 V c 2 t i = V c main_v2_0 (ix2 (row t (i 0)) (i 1)) := by blk_ext [iblk1, idx1 t, row]
  rw [this, hx]
  rfl

include hq in
theorem iblk_q (t : Fin cfg1.N) : iblk1 V c 3 t = fun i => ((q (ix1 (i 1)) : ℝ) : EReal) := by
  funext i
  have : iblk1 V c 3 t i = V c main_v1 i := by blk_ext [iblk1, idx1 t]
  rw [this, hq]

include hy in
theorem iblk_y (t : Fin cfg1.N) : iblk1 V c 4 t = fun i => ((blkR y t i : ℝ) : EReal) := by
  funext i
  have : iblk1 V c 4 t i = V c main_arg3 (ix2 (row t (i 0)) (i 1)) := by blk_ext [iblk1, idx1 t, row]
  rw [this, hy]
  rfl

include hw in
theorem iblk_w (t : Fin cfg1.N) : iblk1 V c 5 t = fun i => ((w (ix1 (i 1)) : ℝ) : EReal) := by
  funext i
  have : iblk1 V c 5 t i = V c main_v0 i := by blk_ext [iblk1, idx1 t]
  rw [this, hw]

include hu hd hx hq in
theorem dx1_blk (t : Fin cfg1.N) : k1_pay5 (F := Ideal) (iblk1 V c 0 t) (iblk1 V c 1 t) (iblk1 V c 2 t) (iblk1 V c 3 t) = fun i => ((blkR (dx1A u d x q) t i : ℝ) : EReal) := by
  rw [iblk_u V c u hu, iblk_d V c d hd, iblk_x V c x hx, iblk_q V c q hq]
  funext i
  idx_vars i
  exact dpay_eq (blkR u t) (blkR d t) (blkR x t) (fun i => q (ix1 (i 1))) i0 i1

include hu hd hx hq in
theorem arr6 : (dat1 V c).arrAt 6 cfg1.N = fun i => ((dx1A u d x q i : ℝ) : EReal) := by
  refine (dat1 V c).arrAt_eq_of_covers 6 _ (by decide +kernel) fun t hf i => ?_
  blk_simp
  rw [after1_6]
  have key : (outsAt1 V c t.val t.isLt).1 = k1_pay5 (F := Ideal) (iblk1 V c 0 t) (iblk1 V c 1 t) (iblk1 V c 2 t) (iblk1 V c 3 t) := by
    by_cases h : t.val % 16 = 0
    · rw [outsAt1_A V c t h h]; frame_out
    · rw [outsAt1_B V c t h h]; frame_out
  rw [key, dx1_blk V c u d x q hu hd hx hq]
  idx_vars i
  have e : ((View.whole main_v3_0).slice (win1_6.rect t)).emb (ix2 i0 i1) = ix2 (row t i0) i1 := by blk_ext [idx1 t, row]
  exact congrArg (fun j => ((dx1A u d x q j : ℝ) : EReal)) e.symm

include hu hd hx hq hy hw in
theorem arr8 : (dat1 V c).arrAt 8 cfg1.N = fun i => ((dmixA (dx1A u d x q) y w i : ℝ) : EReal) := by
  refine (dat1 V c).arrAt_eq_of_covers 8 _ (by decide +kernel) fun t hf i => ?_
  blk_simp
  rw [after1_8]
  have key : (outsAt1 V c t.val t.isLt).2.2.1 = k1_pay10 (F := Ideal) (k1_pay5 (iblk1 V c 0 t) (iblk1 V c 1 t) (iblk1 V c 2 t) (iblk1 V c 3 t)) (iblk1 V c 4 t) (iblk1 V c 5 t) := by
    by_cases h : t.val % 16 = 0
    · rw [outsAt1_A V c t h h]; frame_out
    · rw [outsAt1_B V c t h h]; frame_out
  rw [key, dx1_blk V c u d x q hu hd hx hq, iblk_y V c y hy, iblk_w V c w hw]
  generalize dx1A u d x q = g
  idx_vars i
  have e : ((View.whole main_v3_2).slice (win1_8.rect t)).emb (ix2 i0 i1) = ix2 (row t i0) i1 := by blk_ext [idx1 t, row]
  exact (mblk_eq g y w t i0 i1).trans (congrArg (fun j => ((dmixA g y w j : ℝ) : EReal)) e.symm)

/-- The sixteen points of the grid that end at the one where an accumulated result is written are the whole grid. -/
theorem point_eq (t : Fin cfg1.N) (s : Fin 16) (h : 16 * (t.val / 16) + s.val < cfg1.N) : (⟨16 * (t.val / 16) + s.val, h⟩ : Fin cfg1.N) = s := by
  have ht : t.val < 16 := t.isLt
  exact Fin.ext (by show 16 * (t.val / 16) + s.val = s.val; omega)

include hd hx in
theorem arr7 : (dat1 V c).arrAt 7 cfg1.N = fun i => ((dwLane (rowOf d) (rowOf x) (i 1) : ℝ) : EReal) := by
  refine (dat1 V c).arrAt_eq_of_covers 7 _ (by decide +kernel) fun t hf i => ?_
  blk_simp
  rw [after1_7]
  idx_vars i
  rw [Pipeline.eq_sum_fin_of_reset_step_apply_of_flush (fun n h => (outsAt1 V c n h).2.1) 16 (fun _ => 0) (fun t => part (blkR d t) (blkR x t))
    (fun t h i => ?_) (fun t h i => ?_) t ((flush1_7 t).mp hf)]
  · have e : ((View.whole main_v3_1).slice (win1_7.rect t)).emb (ix2 i0 i1) = ix2 i0 i1 := by blk_ext [idx1 t]
    refine Eq.trans ?_ (congrArg (fun i : S1x2048.Idx => ((dwLane (rowOf d) (rowOf x) (i 1) : ℝ) : EReal)) e.symm)
    simp only [point_eq]
    exact (@zero_add EReal _ _).trans (parts_sum d x (ix2 i0 i1))
  · show (outsAt1 V c t.val t.isLt).2.1 i = _
    rw [outsAt1_A V c t h h]
    frame_out
    rw [iblk_d V c d hd, iblk_x V c x hx]
    refine (qpay_eq _ _ _ i).trans (congrArg (· + _) ?_)
    idx_vars i
    pointwise [k1_pay6]
  · show (outsAt1 V c t.val t.isLt).2.1 i = _
    rw [outsAt1_B V c t h h]
    frame_out
    rw [iblk_d V c d hd, iblk_x V c x hx]
    exact qpay_eq _ _ _ i

include hu hd hx hq hy in
theorem arr9 : (dat1 V c).arrAt 9 cfg1.N = fun i => ((dwLane (rowOf (dx1A u d x q)) (rowOf y) (i 1) : ℝ) : EReal) := by
  refine (dat1 V c).arrAt_eq_of_covers 9 _ (by decide +kernel) fun t hf i => ?_
  blk_simp
  rw [after1_9]
  idx_vars i
  rw [Pipeline.eq_sum_fin_of_reset_step_apply_of_flush (fun n h => (outsAt1 V c n h).2.2.2) 16 (fun _ => 0) (fun t => part (blkR (dx1A u d x q) t) (blkR y t))
    (fun t h i => ?_) (fun t h i => ?_) t ((flush1_9 t).mp hf)]
  · have e : ((View.whole main_v3_3).slice (win1_9.rect t)).emb (ix2 i0 i1) = ix2 i0 i1 := by blk_ext [idx1 t]
    refine Eq.trans ?_ (congrArg (fun i : S1x2048.Idx => ((dwLane (rowOf (dx1A u d x q)) (rowOf y) (i 1) : ℝ) : EReal)) e.symm)
    simp only [point_eq]
    exact (@zero_add EReal _ _).trans (parts_sum (dx1A u d x q) y (ix2 i0 i1))
  · show (outsAt1 V c t.val t.isLt).2.2.2 i = _
    rw [outsAt1_A V c t h h]
    frame_out
    rw [dx1_blk V c u d x q hu hd hx hq, iblk_y V c y hy]
    refine (wpay_eq _ _ _ i).trans (congrArg (· + _) ?_)
    idx_vars i
    pointwise [k1_pay11]
  · show (outsAt1 V c t.val t.isLt).2.2.2 i = _
    rw [outsAt1_B V c t h h]
    frame_out
    rw [dx1_blk V c u d x q hu hd hx hq, iblk_y V c y hy]
    exact wpay_eq _ _ _ i

end Backward

end Cert.MidNormIdeal.Real
-- ==== Proof.MidNormRun.lean ====
/- The two calls of the norms between two sub-layers, run: the four results over the reals. -/
module

public import proofs.«01_k».proof.Proof.MidNorm

@[expose] public section

set_option maxRecDepth 16384

noncomputable section

namespace Cert.MidNormIdeal.Real

open Idealize.ShloMosaic Cert.RealLift Cert.MidNormIdeal Cert.MidNormIdeal.Gen Idealize.SL Idealize.SL.Sem Idealize.ShloMosaic.TcCoe
open Idealize.SL.RA Idealize.SL.BI Idealize.SL.BI.BIBase Idealize.SL.BI.Laws Idealize.SL.ProofMode Idealize.ShloMosaic.Rounds
open scoped Idealize.SL.BI
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the two calls leaves the second one's arrays in the results, and the arguments as they were. -/
theorem run_arrs : θ_run defs (onTc (τ := τ) (main (F := Ideal))) ⟨m, fun _ => 0, ρ⟩ (fun r => ∀ c : Dev nD,
      r.2.mem ((c.tc : Thread nD τ).loc main_v3_0) = (dat1 (V2 m ρ) c).arrAt 6 cfg1.N
      ∧ r.2.mem ((c.tc : Thread nD τ).loc main_v3_1) = (dat1 (V2 m ρ) c).arrAt 7 cfg1.N
      ∧ r.2.mem ((c.tc : Thread nD τ).loc main_v3_2) = (dat1 (V2 m ρ) c).arrAt 8 cfg1.N
      ∧ r.2.mem ((c.tc : Thread nD τ).loc main_v3_3) = (dat1 (V2 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v3_0 (by decide))).trans (W3_arr m ρ c 6),
       (h c _ (mem_uc main_v3_1 (by decide))).trans (W3_arr m ρ c 7),
       (h c _ (mem_uc main_v3_2 (by decide))).trans (W3_arr m ρ c 8),
       (h c _ (mem_uc main_v3_3 (by decide))).trans (W3_arr m ρ c 9),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-- A vector laid out as a row by the host, at launch's contents. -/
theorem host_w (c : Dev nD) (w : S2048.Idx → ℝ) (h : m ((c : Thread nD τ).loc main_arg4) = fun i => ((w i : ℝ) : EReal)) :
    V1 m ρ c main_v0 = fun i => ((w (ix1 (i 1)) : ℝ) : EReal) := by
  funext i
  show StableHlo.after hostOps0 (W0 m ρ c) (Proc.devRef .tc main_v0) i = _
  entry_read
  show _ = _
  have e : W0 m ρ c (Proc.devRef .tc main_arg4) = fun i => ((w i : ℝ) : EReal) := h
  rw [e]
  idx_vars i
  pointwise

theorem host_q (c : Dev nD) (w : S2048.Idx → ℝ) (h : m ((c : Thread nD τ).loc main_arg5) = fun i => ((w i : ℝ) : EReal)) :
    V1 m ρ c main_v1 = fun i => ((w (ix1 (i 1)) : ℝ) : EReal) := by
  funext i
  show StableHlo.after hostOps0 (W0 m ρ c) (Proc.devRef .tc main_v1) i = _
  entry_read
  have e : W0 m ρ c (Proc.devRef .tc main_arg5) = fun i => ((w i : ℝ) : EReal) := h
  rw [e]
  idx_vars i
  pointwise

theorem run (u d x y : Dev nD → S4096x2048.Idx → ℝ) (w q : Dev nD → S2048.Idx → ℝ)
    (hu : ∀ c : Dev nD, m ((c : Thread nD τ).loc main_arg0) = fun i => ((u c i : ℝ) : EReal))
    (hd : ∀ c : Dev nD, m ((c : Thread nD τ).loc main_arg1) = fun i => ((d c i : ℝ) : EReal))
    (hx : ∀ c : Dev nD, m ((c : Thread nD τ).loc main_arg2) = fun i => ((x c i : ℝ) : EReal))
    (hy : ∀ c : Dev nD, m ((c : Thread nD τ).loc main_arg3) = fun i => ((y c i : ℝ) : EReal))
    (hw : ∀ c : Dev nD, m ((c : Thread nD τ).loc main_arg4) = fun i => ((w c i : ℝ) : EReal))
    (hq : ∀ c : Dev nD, m ((c : Thread nD τ).loc main_arg5) = fun i => ((q c i : ℝ) : EReal)) :
    θ_run defs (onTc (τ := τ) (main (F := Ideal))) ⟨m, fun _ => 0, ρ⟩ (fun r => ∀ c : Dev nD,
      r.2.mem ((c.tc : Thread nD τ).loc main_v3_0) = (fun i => ((dx1A (u c) (d c) (x1A (x c) (y c) (w c)) (q c) i : ℝ) : EReal))
      ∧ r.2.mem ((c.tc : Thread nD τ).loc main_v3_1) = (fun i => ((dwLane (rowOf (d c)) (rowOf (x1A (x c) (y c) (w c))) (i 1) : ℝ) : EReal))
      ∧ r.2.mem ((c.tc : Thread nD τ).loc main_v3_2) = (fun i => ((dmixA (dx1A (u c) (d c) (x1A (x c) (y c) (w c)) (q c)) (y c) (w c) i : ℝ) : EReal))
      ∧ r.2.mem ((c.tc : Thread nD τ).loc main_v3_3) = (fun i => ((dwLane (rowOf (dx1A (u c) (d c) (x1A (x c) (y c) (w c)) (q c))) (rowOf (y c)) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_arrs m ρ)
  have a0 : V2 m ρ c main_arg0 = fun i => ((u c i : ℝ) : EReal) := (W2_args m ρ c main_arg0 (by decide)).trans (hu c)
  have a1 : V2 m ρ c main_arg1 = fun i => ((d c i : ℝ) : EReal) := (W2_args m ρ c main_arg1 (by decide)).trans (hd c)
  have a3 : V2 m ρ c main_arg3 = fun i => ((y c i : ℝ) : EReal) := (W2_args m ρ c main_arg3 (by decide)).trans (hy c)
  have b0 : V2 m ρ c main_v0 = fun i => ((w c (ix1 (i 1)) : ℝ) : EReal) := (W2_of m ρ c main_v0 (by decide +kernel)).trans (host_w m ρ c (w c) (hw c))
  have b1 : V2 m ρ c main_v1 = fun i => ((q c (ix1 (i 1)) : ℝ) : EReal) := (W2_of m ρ c main_v1 (by decide +kernel)).trans (host_q m ρ c (q c) (hq c))
  have b2 : V2 m ρ c main_v2_0 = fun i => ((x1A (x c) (y c) (w c) i : ℝ) : EReal) :=
    (W2_arr m ρ c 4).trans (farr4 (V1 m ρ) c (x c) (y c) (w c) ((W1_args m ρ c main_arg2 (by decide)).trans (hx c)) ((W1_args m ρ c main_arg3 (by decide)).trans (hy c)) (host_w m ρ c (w c) (hw c)))
  exact ⟨(h c).1.trans (arr6 (V2 m ρ) c _ _ _ _ a0 a1 b2 b1), (h c).2.1.trans (arr7 (V2 m ρ) c _ _ a1 b2),
    (h c).2.2.1.trans (arr8 (V2 m ρ) c _ _ _ _ _ _ a0 a1 b2 a3 b0 b1), (h c).2.2.2.1.trans (arr9 (V2 m ρ) c _ _ _ _ _ a0 a1 b2 a3 b1), (h c).2.2.2.2⟩

end Cert.MidNormIdeal.Real
-- ==== Proof.MidNormRef.lean ====
/- The reference of the norms between two sub-layers, run over the reals: its results are the formulas of `NormReal`. -/
module

public import proofs.«01_k».proof.Proof.NormReal
public import proofs.«01_k».proof.Proof.Gen.MidNormRefIdeal.Run

@[expose] public section

set_option maxRecDepth 16384

noncomputable section

namespace Cert.MidNormRefIdeal.Real

open Idealize.ShloMosaic Cert.RealLift Cert.MidNormRefIdeal Cert.MidNormRefIdeal.Gen Idealize.SL.Sem Idealize.ShloMosaic.TcCoe

theorem x1_eq (m : (ℓ : Loc nD τ sig) → Buf (Elt Ideal) ℓ) (c : Dev nD) (x y : S4096x2048.Idx → ℝ) (w : S2048.Idx → ℝ)
    (hx : m ((c : Thread nD τ).loc main_arg2) = fun i => ((x i : ℝ) : EReal))
    (hy : m ((c : Thread nD τ).loc main_arg3) = fun i => ((y i : ℝ) : EReal))
    (hw : m ((c : Thread nD τ).loc main_arg4) = fun i => ((w i : ℝ) : EReal)) :
    (addf (m ((c.tc : Thread nD τ).loc main_arg2)) (mulf (mulf (m ((c.tc : Thread nD τ).loc main_arg3)) (broadcastInDim S4096x2048 ![0, 1] bcast_S4096x1_S4096x2048_0_1 (Host.rsqrt (addf (Host.divf (broadcastInDim S4096x1 ![0] bcast_S4096_S4096x1_0 (Host.reduceAdd (mulf (m ((c.tc : Thread nD τ).loc main_arg3)) (m ((c.tc : Thread nD τ).loc main_arg3))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 (broadcastInDim S1x2048 ![1] bcast_S2048_S1x2048_1 (m ((c.tc : Thread nD τ).loc main_arg4))))))
      = fun i => ((x1A x y w i : ℝ) : EReal) := by
  rw [hx, hy, hw]
  funext i
  idx_vars i
  pointwise
  simp only [ofBits_2048, ofBits_eps, ← EReal.coe_mul, ← EReal.coe_add, coe_sum, div_2048, rsqrt_ms]
  rfl

theorem dx1_eq (m : (ℓ : Loc nD τ sig) → Buf (Elt Ideal) ℓ) (c : Dev nD) (u d x y : S4096x2048.Idx → ℝ) (w q : S2048.Idx → ℝ)
    (hu : m ((c : Thread nD τ).loc main_arg0) = fun i => ((u i : ℝ) : EReal))
    (hd : m ((c : Thread nD τ).loc main_arg1) = fun i => ((d i : ℝ) : EReal))
    (hx : m ((c : Thread nD τ).loc main_arg2) = fun i => ((x i : ℝ) : EReal))
    (hy : m ((c : Thread nD τ).loc main_arg3) = fun i => ((y i : ℝ) : EReal))
    (hw : m ((c : Thread nD τ).loc main_arg4) = fun i => ((w i : ℝ) : EReal))
    (hq : m ((c : Thread nD τ).loc main_arg5) = fun i => ((q i : ℝ) : EReal)) :
    Value.res_main_v53 (F := Ideal) m c = fun i => ((dx1A u d (x1A x y w) q i : ℝ) : EReal) := by
  unfold Value.res_main_v53
  rw [x1_eq m c x y w hx hy hw, hu, hd, hq]
  generalize x1A x y w = z
  funext i
  idx_vars i
  pointwise
  simp only [ofBits_2048, ofBits_eps, ofBits_neg_half, ← EReal.coe_mul, ← EReal.coe_add, coe_sum, div_2048, rsqrt_ms, div_ms, Fin.sum_univ_one]
  refine congrArg _ (Eq.trans ?_ (congrArg (u (ix2 i0 i1) + ·) (dyRow_eq (rowOf d i0) (rowOf z i0) (laneOf q) i1)))
  simp only [add_assoc]

theorem run (m : (ℓ : Loc nD τ sig) → Buf (Elt Ideal) ℓ) (ρ : Dev nD → PrngReg)
    (u d x y : Dev nD → S4096x2048.Idx → ℝ) (w q : Dev nD → S2048.Idx → ℝ)
    (hu : ∀ c : Dev nD, m ((c : Thread nD τ).loc main_arg0) = fun i => ((u c i : ℝ) : EReal))
    (hd : ∀ c : Dev nD, m ((c : Thread nD τ).loc main_arg1) = fun i => ((d c i : ℝ) : EReal))
    (hx : ∀ c : Dev nD, m ((c : Thread nD τ).loc main_arg2) = fun i => ((x c i : ℝ) : EReal))
    (hy : ∀ c : Dev nD, m ((c : Thread nD τ).loc main_arg3) = fun i => ((y c i : ℝ) : EReal))
    (hw : ∀ c : Dev nD, m ((c : Thread nD τ).loc main_arg4) = fun i => ((w c i : ℝ) : EReal))
    (hq : ∀ c : Dev nD, m ((c : Thread nD τ).loc main_arg5) = fun i => ((q c i : ℝ) : EReal)) :
    θ_run defs (onTc (τ := τ) (main (F := Ideal))) ⟨m, fun _ => 0, ρ⟩ (fun r => ∀ c : Dev nD,
      r.2.mem ((c.tc : Thread nD τ).loc main_v53) = (fun i => ((dx1A (u c) (d c) (x1A (x c) (y c) (w c)) (q c) i : ℝ) : EReal))
      ∧ r.2.mem ((c.tc : Thread nD τ).loc main_v75) = (fun i => ((dwLane (rowOf (d c)) (rowOf (x1A (x c) (y c) (w c))) (i 1) : ℝ) : EReal))
      ∧ r.2.mem ((c.tc : Thread nD τ).loc main_v76) = (fun i => ((dmixA (dx1A (u c) (d c) (x1A (x c) (y c) (w c)) (q c)) (y c) (w c) i : ℝ) : EReal))
      ∧ r.2.mem ((c.tc : Thread nD τ).loc main_v77) = (fun i => ((dwLane (rowOf (dx1A (u c) (d c) (x1A (x c) (y c) (w c)) (q c))) (rowOf (y c)) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨?_, ?_, ?_, ?_, (h c).2.2.2.2⟩) (Value.run (F := Ideal) m ρ)
  · exact (h c).1.trans (dx1_eq m c (u c) (d c) (x c) (y c) (w c) (q c) (hu c) (hd c) (hx c) (hy c) (hw c) (hq c))
  · refine (h c).2.1.trans ?_
    clear h
    rw [x1_eq m c _ _ _ (hx c) (hy c) (hw c), hd c]
    generalize x1A (x c) (y c) (w c) = z
    funext i
    idx_vars i
    pointwise
    simp only [ofBits_2048, ofBits_eps, ← EReal.coe_mul, ← EReal.coe_add, coe_sum, div_2048, rsqrt_ms, Fin.sum_univ_one]
    exact congrArg _ (Finset.sum_congr rfl fun t _ => mul_comm _ _)
  · refine (h c).2.2.1.trans ?_
    clear h
    have e := dx1_eq m c (u c) (d c) (x c) (y c) (w c) (q c) (hu c) (hd c) (hx c) (hy c) (hw c) (hq c)
    unfold Value.res_main_v53 at e
    unfold Value.res_main_v76
    rw [e, hy c, hw c]
    generalize dx1A (u c) (d c) (x1A (x c) (y c) (w c)) (q c) = g
    clear e
    funext i
    idx_vars i
    pointwise
    simp only [ofBits_2048, ofBits_eps, ofBits_neg_half, ← EReal.coe_mul, ← EReal.coe_add, coe_sum, div_2048, rsqrt_ms, div_ms, Fin.sum_univ_one]
    exact congrArg _ (dyRow_eq (rowOf g i0) (rowOf (y c) i0) (laneOf (w c)) i1)
  · refine (h c).2.2.2.1.trans ?_
    clear h
    have e := dx1_eq m c (u c) (d c) (x c) (y c) (w c) (q c) (hu c) (hd c) (hx c) (hy c) (hw c) (hq c)
    unfold Value.res_main_v53 at e
    unfold Value.res_main_v77
    rw [e, hy c]
    generalize dx1A (u c) (d c) (x1A (x c) (y c) (w c)) (q c) = g
    clear e
    funext i
    idx_vars i
    pointwise
    simp only [ofBits_2048, ofBits_eps, ← EReal.coe_mul, ← EReal.coe_add, coe_sum, div_2048, rsqrt_ms, Fin.sum_univ_one]
    exact congrArg _ (Finset.sum_congr rfl fun t _ => mul_comm _ _)

end Cert.MidNormRefIdeal.Real
-- ==== Proof.MidNormClaim.lean ====
/- The claims about `bwd_norms` between two sub-layers. -/
module

public import proofs.«01_k».proof.Defs
public import proofs.«01_k».proof.Proof.MidNormRun
public import proofs.«01_k».proof.Proof.MidNormRef
public import proofs.«01_k».proof.Proof.Gen.MidNorm.Frame
public import proofs.«01_k».proof.Proof.Gen.Pre_mid_norm_finite

@[expose] public section

set_option maxRecDepth 16384

noncomputable section

namespace Cert.Proof.MidNorm

open Idealize.ShloMosaic Idealize.SL.Sem Idealize.ShloMosaic.TcCoe Cert.RealLift

theorem lifts (u d x y : FVec Ideal Cert.Pre_mid_norm_finite.S4096x2048 .f32) (w q : FVec Ideal Cert.Pre_mid_norm_finite.S2048 .f32)
    (h : Cert.Pre_mid_norm_finite.fn (F := Ideal) u d x y w q = fun _ => 1#1) :
    IsLift u ∧ IsLift d ∧ IsLift x ∧ IsLift y ∧ IsLift w ∧ IsLift q := by
  obtain ⟨h5, h6⟩ := and_one h
  obtain ⟨h4, h5⟩ := and_one h5
  obtain ⟨h3, h4⟩ := and_one h4
  obtain ⟨h2, h3⟩ := and_one h3
  obtain ⟨h1, h2⟩ := and_one h2
  exact ⟨lift_of_all u _ _ _ _ h1, lift_of_all d _ _ _ _ h2, lift_of_all x _ _ _ _ h3, lift_of_all y _ _ _ _ h4, lift_of_all w _ _ _ _ h5, lift_of_all q _ _ _ _ h6⟩

theorem q1 : quiescent_MidNorm := fun m g _ => Cert.MidNorm.Gen.frame m g
theorem q2 : quiescent_MidNormIdeal := fun m g _ => Cert.MidNormIdeal.Gen.frame m g
theorem q3 : quiescent_MidNormIdeal_pre_mid_norm_finite := fun m g _ => Cert.MidNormIdeal.Gen.frame m g
theorem q4 : quiescent_MidNormRefIdeal := fun m g _ =>
  (θ_run _ _ _).mono (fun r h => And.intro (fun c => (h c).2.2.2.2) (sem_eq_zero_of_no_sems (by decide) r.2)) (Cert.MidNormRefIdeal.Value.run (F := Ideal) m g)
theorem q5 : quiescent_MidNormRefIdeal_pre_mid_norm_finite := fun m g _ => q4 m g trivial

theorem value : algebraic_MidNormIdeal_MidNormRefIdeal_pre_mid_norm_finite := by
  intro m g m' g' hpre hag
  choose u hu d hd x hx y hy w hw q hq using fun c => (fun ⟨⟨u, hu⟩, ⟨d, hd⟩, ⟨x, hx⟩, ⟨y, hy⟩, ⟨w, hw⟩, ⟨q, hq⟩⟩ => ⟨u, hu, d, hd, x, hx, y, hy, w, hw, q, hq⟩ :
    _ → ∃ u, _ = _ ∧ ∃ d, _ = _ ∧ ∃ x, _ = _ ∧ ∃ y, _ = _ ∧ ∃ w, _ = _ ∧ ∃ q, _ = _) (lifts _ _ _ _ _ _ (hpre c))
  exact ⟨_, _, _, _, Cert.MidNormIdeal.Real.run m g u d x y w q hu hd hx hy hw hq,
    Cert.MidNormRefIdeal.Real.run m' g' u d x y w q (fun c => (hag c).1.trans (hu c)) (fun c => (hag c).2.1.trans (hd c)) (fun c => (hag c).2.2.1.trans (hx c))
      (fun c => (hag c).2.2.2.1.trans (hy c)) (fun c => (hag c).2.2.2.2.1.trans (hw c)) (fun c => (hag c).2.2.2.2.2.trans (hq c))⟩

end Cert.Proof.MidNorm

end
-- ==== Proof.PostLoss.lean ====
/- The kernel `post_loss`, over the reals: what its grid leaves in the two result arrays; and its reference. -/
module

public import proofs.«01_k».proof.Proof.NormReal
public import proofs.«01_k».proof.Proof.Gen.PostLossIdeal.Value
public import proofs.«01_k».proof.Proof.Gen.PostLossRefIdeal.Run
public import Idealize.ShloMosaic.Lib.Pipeline.ValueKit

@[expose] public section

set_option maxRecDepth 16384

noncomputable section

namespace Cert.PostLossIdeal.Real

open Idealize.ShloMosaic Cert.RealLift Cert.PostLossIdeal Cert.PostLossIdeal.Gen Idealize.SL.Sem Idealize.ShloMosaic.TcCoe

/-- The error of a block of rows. -/
def errB (x y z : S256x2048.Idx → ℝ) (w : S1x2048.Idx → ℝ) : S256x2048.Idx → ℝ := fun i => x1A x y (fun j => w (ix2 0 (j 0))) i - z i

theorem epay_eq (x y z : S256x2048.Idx → ℝ) (w : S1x2048.Idx → ℝ) :
    k0_pay2 (F := Ideal) (fun i => ((x i : ℝ) : EReal)) (fun i => ((y i : ℝ) : EReal)) (fun i => ((w i : ℝ) : EReal)) (fun i => ((z i : ℝ) : EReal))
      = fun i => ((errB x y z w i : ℝ) : EReal) := by
  funext i
  idx_vars i
  pointwise [k0_pay2]
  simp only [ofBits_2048, ofBits_eps, ← EReal.coe_mul, ← EReal.coe_add, ← EReal.coe_sub, coe_sum, div_2048, rsqrt_ms]
  rfl

theorem gpay_eq (x y z : S256x2048.Idx → ℝ) (w : S1x2048.Idx → ℝ) (i : S256x2048.Idx) :
    k0_pay3 (F := Ideal) (fun i => ((x i : ℝ) : EReal)) (fun i => ((y i : ℝ) : EReal)) (fun i => ((w i : ℝ) : EReal)) (fun i => ((z i : ℝ) : EReal)) i
      = ((errB x y z w i / 2048 : ℝ) : EReal) := by
  unfold k0_pay3
  simp only [epay_eq]
  generalize errB x y z w = e
  pointwise
  simp only [ofBits_inv_2048, ← EReal.coe_mul]
  exact congrArg _ (mul_one_div _ _)

theorem lpay_eq (a : S1x128.Idx → EReal) (x y z : S256x2048.Idx → ℝ) (w : S1x2048.Idx → ℝ) (i : S1x128.Idx) :
    k0_pay1 (F := Ideal) (k0_pay5 (fun i => ((x i : ℝ) : EReal)) (fun i => ((y i : ℝ) : EReal)) (fun i => ((w i : ℝ) : EReal)) (fun i => ((z i : ℝ) : EReal))) a i
      = a i + ((lossOf (errB x y z w) : ℝ) : EReal) := by
  unfold k0_pay5
  simp only [epay_eq]
  generalize errB x y z w = e
  idx_vars i
  pointwise [k0_pay1]
  simp only [ofBits_2048, ofBits_half, ← EReal.coe_mul, ← EReal.coe_add, coe_sum, div_2048, Fin.sum_univ_one]
  unfold lossOf
  rw [Finset.mul_sum]

variable (m : (ℓ : Loc nD τ sig) → Buf (Elt Ideal) ℓ) (c : Dev nD) (x y z : S4096x2048.Idx → ℝ) (w : S2048.Idx → ℝ)
variable (hx : m ((c : Thread nD τ).loc main_arg0) = fun i => ((x i : ℝ) : EReal))
variable (hy : m ((c : Thread nD τ).loc main_arg1) = fun i => ((y i : ℝ) : EReal))
variable (hw : m ((c : Thread nD τ).loc main_arg2) = fun i => ((w i : ℝ) : EReal))
variable (hz : m ((c : Thread nD τ).loc main_arg3) = fun i => ((z i : ℝ) : EReal))

/-- The rows of a matrix that a grid point reads. -/
def row (t : Fin 16) (r : Fin 256) : Fin 4096 := ⟨256 * t.val + r.val, by omega⟩

/-- The block of a matrix that a grid point reads. -/
def blkR (x : S4096x2048.Idx → ℝ) (t : Fin 16) : S256x2048.Idx → ℝ := fun i => x (ix2 (row t (i 0)) (i 1))

/-- The error: what the stream ends with, minus the target. -/
def errA {T n : ℕ} (x y z : (Shape.mk 2 ![T, n]).Idx → ℝ) (w : (Shape.mk 1 ![n]).Idx → ℝ) : (Shape.mk 2 ![T, n]).Idx → ℝ := fun i => x1A x y w i - z (ix2 (i 0) (i 1))

theorem err_blk (t : Fin 16) (r : Fin 256) (l : Fin 2048) :
    errB (blkR x t) (blkR y t) (blkR z t) (fun i => w (ix1 (i 1))) (ix2 r l) = errA x y z w (ix2 (row t r) l) := rfl

theorem idx0 (t : Fin cfg0.N) : win0_0.index t = ![t.val, 0] ∧ win0_1.index t = ![t.val, 0] ∧ win0_2.index t = ![0, 0] ∧ win0_3.index t = ![t.val, 0] ∧ win0_4.index t = ![t.val, 0] ∧ win0_5.index t = ![0, 0] :=
  (by decide +kernel : ∀ t : Fin grid0.N, win0_0.index t = ![t.val, 0] ∧ win0_1.index t = ![t.val, 0] ∧ win0_2.index t = ![0, 0] ∧ win0_3.index t = ![t.val, 0] ∧ win0_4.index t = ![t.val, 0] ∧ win0_5.index t = ![0, 0]) t

include hx in
theorem iblk_x (t : Fin cfg0.N) : iblk m c 0 t = fun i => ((blkR x t i : ℝ) : EReal) := by
  funext i
  have : iblk m c 0 t i = m ((c : Thread nD τ).loc main_arg0) (ix2 (row t (i 0)) (i 1)) := by blk_ext [iblk, V, idx0 t, row]
  rw [this, hx]
  rfl

include hy in
theorem iblk_y (t : Fin cfg0.N) : iblk m c 1 t = fun i => ((blkR y t i : ℝ) : EReal) := by
  funext i
  have : iblk m c 1 t i = m ((c : Thread nD τ).loc main_arg1) (ix2 (row t (i 0)) (i 1)) := by blk_ext [iblk, V, idx0 t, row]
  rw [this, hy]
  rfl

include hw in
theorem iblk_w (t : Fin cfg0.N) : iblk m c 2 t = fun i => ((w (ix1 (i 1)) : ℝ) : EReal) := by
  funext i
  have : iblk m c 2 t i = V m c main_v0 i := by blk_ext [iblk, idx0 t]
  rw [this]
  entry_read
  rw [hw]
  idx_vars i
  pointwise

include hz in
theorem iblk_z (t : Fin cfg0.N) : iblk m c 3 t = fun i => ((blkR z t i : ℝ) : EReal) := by
  funext i
  have : iblk m c 3 t i = m ((c : Thread nD τ).loc main_arg3) (ix2 (row t (i 0)) (i 1)) := by blk_ext [iblk, V, idx0 t, row]
  rw [this, hz]
  rfl

include hx hy hw hz in
theorem arr4 : (dats m 0 c).arrAt 4 cfg0.N = fun i => ((errA x y z w i / 2048 : ℝ) : EReal) := by
  refine (dats m 0 c).arrAt_eq_of_covers 4 _ (by decide +kernel) fun t hf i => ?_
  blk_simp
  rw [after0_4]
  have key : (outsAt0 m c t.val t.isLt).1 = k0_pay3 (F := Ideal) (iblk m c 0 t) (iblk m c 1 t) (iblk m c 2 t) (iblk m c 3 t) := by
    by_cases h : t.val % 16 = 0
    · rw [outsAt0_A m c t h]; frame_out
    · rw [outsAt0_B m c t h]; frame_out
  rw [key, iblk_x m c x hx, iblk_y m c y hy, iblk_w m c w hw, iblk_z m c z hz]
  idx_vars i
  have e : ((View.whole main_v1_0).slice (win0_4.rect t)).emb (ix2 i0 i1) = ix2 (row t i0) i1 := by blk_ext [idx0 t, row]
  refine (gpay_eq _ _ _ _ (ix2 i0 i1)).trans ((congrArg (fun v : ℝ => ((v / 2048 : ℝ) : EReal)) (err_blk x y z w t i0 i1)).trans ?_)
  generalize errA x y z w = g
  exact congrArg (fun j => ((g j / 2048 : ℝ) : EReal)) e.symm

/-- The losses of the blocks of rows together are the loss. -/
theorem losses_sum (e : S4096x2048.Idx → ℝ) : ∑ s : Fin 16, ((lossOf (fun i : S256x2048.Idx => e (ix2 (row s (i 0)) (i 1))) : ℝ) : EReal) = ((lossOf e : ℝ) : EReal) := by
  refine (coe_sum _ _).trans (congrArg _ ?_)
  refine Fin.sum_mul_add_congr (L := 4096) fun s k hl => ?_
  have er : row s k = ⟨s.val * 256 + k.val, hl⟩ := Fin.ext (by show 256 * s.val + k.val = s.val * 256 + k.val; omega)
  rw [← er]
  rfl

/-- The sixteen points of the grid that end at the one where the loss is written are the whole grid. -/
theorem point_eq (t : Fin cfg0.N) (s : Fin 16) (h : 16 * (t.val / 16) + s.val < cfg0.N) : (⟨16 * (t.val / 16) + s.val, h⟩ : Fin cfg0.N) = s := by
  have ht : t.val < 16 := t.isLt
  exact Fin.ext (by show 16 * (t.val / 16) + s.val = s.val; omega)

include hx hy hw hz in
theorem step (a : S1x128.Idx → EReal) (t : Fin cfg0.N) (i : S1x128.Idx) :
    k0_pay1 (F := Ideal) (k0_pay5 (iblk m c 0 t) (iblk m c 1 t) (iblk m c 2 t) (iblk m c 3 t)) a i
      = a i + ((lossOf (fun i : S256x2048.Idx => errA x y z w (ix2 (row t (i 0)) (i 1))) : ℝ) : EReal) := by
  rw [iblk_x m c x hx, iblk_y m c y hy, iblk_w m c w hw, iblk_z m c z hz]
  refine (lpay_eq a _ _ _ _ i).trans (congrArg (fun e => a i + ((lossOf e : ℝ) : EReal)) ?_)
  funext i
  idx_vars i
  exact err_blk x y z w t i0 i1

include hx hy hw hz in
theorem arr5 : (dats m 0 c).arrAt 5 cfg0.N = fun _ => ((lossOf (errA x y z w) : ℝ) : EReal) := by
  refine (dats m 0 c).arrAt_eq_of_covers 5 _ (by decide +kernel) fun t hf i => ?_
  blk_simp
  rw [after0_5]
  idx_vars i
  rw [Pipeline.eq_sum_fin_of_reset_step_apply_of_flush (fun n h => (outsAt0 m c n h).2) 16 (fun _ => 0)
    (fun t _ => ((lossOf (fun i : S256x2048.Idx => errA x y z w (ix2 (row t (i 0)) (i 1))) : ℝ) : EReal))
    (fun t h i => ?_) (fun t h i => ?_) t ((flush0_5 t).mp hf)]
  · simp only [point_eq]
    exact (@zero_add EReal _ _).trans (losses_sum (errA x y z w))
  · show (outsAt0 m c t.val t.isLt).2 i = _
    rw [outsAt0_A m c t h]
    frame_out
    refine (step m c x y z w hx hy hw hz _ t i).trans (congrArg (· + _) ?_)
    idx_vars i
    pointwise [k0_pay4]
  · show (outsAt0 m c t.val t.isLt).2 i = _
    rw [outsAt0_B m c t h]
    frame_out
    exact step m c x y z w hx hy hw hz _ t i

end Cert.PostLossIdeal.Real

namespace Cert.PostLossRefIdeal.Real

open Idealize.ShloMosaic Cert.RealLift Cert.PostLossRefIdeal Cert.PostLossRefIdeal.Gen Idealize.SL.Sem Idealize.ShloMosaic.TcCoe
open Cert.PostLossIdeal.Real (errA)

theorem x1_eq (m : (ℓ : Loc nD τ sig) → Buf (Elt Ideal) ℓ) (c : Dev nD) (x y : S4096x2048.Idx → ℝ) (w : S2048.Idx → ℝ)
    (hx : m ((c : Thread nD τ).loc main_arg0) = fun i => ((x i : ℝ) : EReal))
    (hy : m ((c : Thread nD τ).loc main_arg1) = fun i => ((y i : ℝ) : EReal))
    (hw : m ((c : Thread nD τ).loc main_arg2) = fun i => ((w i : ℝ) : EReal)) :
    (addf (m ((c.tc : Thread nD τ).loc main_arg0)) (mulf (mulf (m ((c.tc : Thread nD τ).loc main_arg1)) (broadcastInDim S4096x2048 ![0, 1] bcast_S4096x1_S4096x2048_0_1 (Host.rsqrt (addf (Host.divf (broadcastInDim S4096x1 ![0] bcast_S4096_S4096x1_0 (Host.reduceAdd (mulf (m ((c.tc : Thread nD τ).loc main_arg1)) (m ((c.tc : Thread nD τ).loc main_arg1))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 (broadcastInDim S1x2048 ![1] bcast_S2048_S1x2048_1 (m ((c.tc : Thread nD τ).loc main_arg2))))))
      = fun i => ((x1A x y w i : ℝ) : EReal) := by
  rw [hx, hy, hw]
  funext i
  idx_vars i
  pointwise
  simp only [ofBits_2048, ofBits_eps, ← EReal.coe_mul, ← EReal.coe_add, coe_sum, div_2048, rsqrt_ms]
  rfl

theorem run (m : (ℓ : Loc nD τ sig) → Buf (Elt Ideal) ℓ) (ρ : Dev nD → PrngReg)
    (x y z : Dev nD → S4096x2048.Idx → ℝ) (w : Dev nD → S2048.Idx → ℝ)
    (hx : ∀ c : Dev nD, m ((c : Thread nD τ).loc main_arg0) = fun i => ((x c i : ℝ) : EReal))
    (hy : ∀ c : Dev nD, m ((c : Thread nD τ).loc main_arg1) = fun i => ((y c i : ℝ) : EReal))
    (hw : ∀ c : Dev nD, m ((c : Thread nD τ).loc main_arg2) = fun i => ((w c i : ℝ) : EReal))
    (hz : ∀ c : Dev nD, m ((c : Thread nD τ).loc main_arg3) = fun i => ((z c i : ℝ) : EReal)) :
    θ_run defs (onTc (τ := τ) (main (F := Ideal))) ⟨m, fun _ => 0, ρ⟩ fun r => ∀ c : Dev nD,
      r.2.mem ((c.tc : Thread nD τ).loc main_v28) = (fun i => ((errA (x c) (y c) (z c) (w c) i / 2048 : ℝ) : EReal))
      ∧ r.2.mem ((c.tc : Thread nD τ).loc main_v29) = (fun _ => ((lossOf (errA (x c) (y c) (z c) (w c)) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, ?_, (h c).2.2⟩) (Value.run (F := Ideal) m ρ)
  · refine (h c).1.trans ?_
    clear h
    rw [x1_eq m c _ _ _ (hx c) (hy c) (hw c), hz c]
    funext i
    idx_vars i
    unfold errA
    generalize x1A (x c) (y c) (w c) = s
    pointwise
    simp only [ofBits_2048, ofBits_half, ofBits_two, Ideal.ofBits_one_f32, ← EReal.coe_one, ← EReal.coe_mul, ← EReal.coe_sub, div_2048]
    refine congrArg _ ?_
    show 1 / 2 / 2048 * (2 * (s (ix2 i0 i1) - z c (ix2 i0 i1))) = (s (ix2 i0 i1) - z c (ix2 i0 i1)) / 2048
    ring
  · refine (h c).2.1.trans ?_
    clear h
    rw [x1_eq m c _ _ _ (hx c) (hy c) (hw c), hz c]
    funext i
    idx_vars i
    unfold errA lossOf
    generalize x1A (x c) (y c) (w c) = s
    pointwise
    simp only [ofBits_2048, ofBits_half, ← EReal.coe_mul, ← EReal.coe_sub, coe_sum, div_2048]
    rw [Finset.mul_sum]

end Cert.PostLossRefIdeal.Real
-- ==== Proof.PostLossClaim.lean ====
/- The claims about `post_loss`. -/
module

public import proofs.«01_k».proof.Defs
public import proofs.«01_k».proof.Proof.PostLoss
public import proofs.«01_k».proof.Proof.Gen.PostLoss.Frame
public import proofs.«01_k».proof.Proof.Gen.Pre_post_loss_finite

@[expose] public section

set_option maxRecDepth 16384

noncomputable section

namespace Cert.Proof.PostLoss

open Idealize.ShloMosaic Idealize.SL.Sem Idealize.ShloMosaic.TcCoe Cert.RealLift

theorem lifts (x y : FVec Ideal Cert.Pre_post_loss_finite.S4096x2048 .f32) (w : FVec Ideal Cert.Pre_post_loss_finite.S2048 .f32) (z : FVec Ideal Cert.Pre_post_loss_finite.S4096x2048 .f32)
    (h : Cert.Pre_post_loss_finite.fn (F := Ideal) x y w z = fun _ => 1#1) :
    IsLift x ∧ IsLift y ∧ IsLift w ∧ IsLift z := by
  obtain ⟨h3, h4⟩ := and_one h
  obtain ⟨h2, h3⟩ := and_one h3
  obtain ⟨h1, h2⟩ := and_one h2
  exact ⟨lift_of_all x _ _ _ _ h1, lift_of_all y _ _ _ _ h2, lift_of_all w _ _ _ _ h3, lift_of_all z _ _ _ _ h4⟩

theorem q1 : quiescent_PostLoss := fun m g _ => Cert.PostLoss.Gen.frame m g
theorem q2 : quiescent_PostLossIdeal := fun m g _ => Cert.PostLossIdeal.Gen.frame m g
theorem q3 : quiescent_PostLossIdeal_pre_post_loss_finite := fun m g _ => Cert.PostLossIdeal.Gen.frame m g
theorem q4 : quiescent_PostLossRefIdeal := fun m g _ =>
  (θ_run _ _ _).mono (fun r h => And.intro (fun c => (h c).2.2) (sem_eq_zero_of_no_sems (by decide) r.2)) (Cert.PostLossRefIdeal.Value.run (F := Ideal) m g)
theorem q5 : quiescent_PostLossRefIdeal_pre_post_loss_finite := fun m g _ => q4 m g trivial

theorem value : algebraic_PostLossIdeal_PostLossRefIdeal_pre_post_loss_finite := by
  intro m g m' g' hpre hag
  choose x hx y hy w hw z hz using fun c => (fun ⟨⟨x, hx⟩, ⟨y, hy⟩, ⟨w, hw⟩, ⟨z, hz⟩⟩ => ⟨x, hx, y, hy, w, hw, z, hz⟩ :
    _ → ∃ x, _ = _ ∧ ∃ y, _ = _ ∧ ∃ w, _ = _ ∧ ∃ z, _ = _) (lifts _ _ _ _ (hpre c))
  refine ⟨_, _, ?_, Cert.PostLossRefIdeal.Real.run m' g' x y z w (fun c => ((hag c).1).trans (hx c)) (fun c => ((hag c).2.1).trans (hy c)) (fun c => ((hag c).2.2.1).trans (hw c)) (fun c => ((hag c).2.2.2).trans (hz c))⟩
  exact (θ_run _ _ _).mono (fun r h c => ⟨(h c).1.trans (Cert.PostLossIdeal.Real.arr4 m c (x c) (y c) (z c) (w c) (hx c) (hy c) (hw c) (hz c)),
    (h c).2.1.trans (Cert.PostLossIdeal.Real.arr5 m c (x c) (y c) (z c) (w c) (hx c) (hy c) (hw c) (hz c)), (h c).2.2⟩) (Cert.PostLossIdeal.Value.run_blocks (F := Ideal) m g)

end Cert.Proof.PostLoss

end
-- ==== Proof.NormFirst.lean ====
/- The kernel `norm_first`, over the reals: what its grid leaves in the result array; and its reference. -/
module

public import proofs.«01_k».proof.Proof.NormReal
public import proofs.«01_k».proof.Proof.Gen.NormFirstIdeal.Value
public import proofs.«01_k».proof.Proof.Gen.NormFirstRefIdeal.Run
public import Idealize.ShloMosaic.Lib.Pipeline.ValueKit

@[expose] public section

set_option maxRecDepth 16384

noncomputable section

namespace Cert.NormFirstIdeal.Real

open Idealize.ShloMosaic Cert.RealLift Cert.NormFirstIdeal Cert.NormFirstIdeal.Gen Idealize.SL.Sem Idealize.ShloMosaic.TcCoe

theorem pay_eq (x : S256x2048.Idx → ℝ) (w : S1x2048.Idx → ℝ) (r : Fin 256) (l : Fin 2048) :
    k0_pay1 (F := Ideal) (fun i => ((x i : ℝ) : EReal)) (fun i => ((w i : ℝ) : EReal)) (ix2 r l)
      = ((x (ix2 r l) * rs (rowOf x r) * w (ix2 0 l) : ℝ) : EReal) := by
  pointwise [k0_pay1]
  simp only [ofBits_2048, ofBits_eps, ← EReal.coe_mul, ← EReal.coe_add, coe_sum, div_2048, rsqrt_ms]

variable (m : (ℓ : Loc nD τ sig) → Buf (Elt Ideal) ℓ) (c : Dev nD) (x : S4096x2048.Idx → ℝ) (w : S2048.Idx → ℝ)
variable (hx : m ((c : Thread nD τ).loc main_arg0) = fun i => ((x i : ℝ) : EReal))
variable (hw : m ((c : Thread nD τ).loc main_arg1) = fun i => ((w i : ℝ) : EReal))

/-- The rows of a matrix that a grid point reads. -/
def row (t : Fin 16) (r : Fin 256) : Fin 4096 := ⟨256 * t.val + r.val, by omega⟩

theorem idx0 (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

include hx in
theorem iblk_x (t : Fin cfg0.N) : iblk m c 0 t = fun i => ((x (ix2 (row t (i 0)) (i 1)) : ℝ) : EReal) := by
  funext i
  have : iblk m c 0 t i = m ((c : Thread nD τ).loc main_arg0) (ix2 (row t (i 0)) (i 1)) := by blk_ext [iblk, V, idx0 t, row]
  rw [this, hx]

include hw in
theorem iblk_w (t : Fin cfg0.N) : iblk m c 1 t = fun i => ((w (ix1 (i 1)) : ℝ) : EReal) := by
  funext i
  have : iblk m c 1 t i = V m c main_v0 i := by blk_ext [iblk, idx0 t]
  rw [this]
  entry_read
  rw [hw]
  idx_vars i
  pointwise

include hx hw in
theorem arr2 : (dats m 0 c).arrAt 2 cfg0.N = fun i => ((normA x w i : ℝ) : EReal) := by
  refine (dats m 0 c).arrAt_eq_of_covers 2 _ (by decide +kernel) fun t hf i => ?_
  blk_simp
  rw [after0_2]
  have key : out0_2 (iblk m c 0 t) (iblk m c 1 t) = k0_pay1 (F := Ideal) (iblk m c 0 t) (iblk m c 1 t) := by
    unfold out0_2; frame_out
  rw [key, iblk_x m c x hx, iblk_w m c w hw]
  idx_vars i
  have e : ((View.whole main_v1).slice (win0_2.rect t)).emb (ix2 i0 i1) = ix2 (row t i0) i1 := by blk_ext [idx0 t, row]
  exact (pay_eq (fun i => x (ix2 (row t (i 0)) (i 1))) (fun i => w (ix1 (i 1))) i0 i1).trans (congrArg (fun j => ((normA x w j : ℝ) : EReal)) e.symm)

end Cert.NormFirstIdeal.Real

namespace Cert.NormFirstRefIdeal.Real

open Idealize.ShloMosaic Cert.RealLift Cert.NormFirstRefIdeal Idealize.SL.Sem Idealize.ShloMosaic.TcCoe

theorem run (m : (ℓ : Loc nD τ sig) → Buf (Elt Ideal) ℓ) (ρ : Dev nD → PrngReg)
    (x : Dev nD → S4096x2048.Idx → ℝ) (w : Dev nD → S2048.Idx → ℝ)
    (hx : ∀ c : Dev nD, m ((c : Thread nD τ).loc main_arg0) = fun i => ((x c i : ℝ) : EReal))
    (hw : ∀ c : Dev nD, m ((c : Thread nD τ).loc main_arg1) = fun i => ((w c i : ℝ) : EReal)) :
    θ_run defs (onTc (τ := τ) (main (F := Ideal))) ⟨m, fun _ => 0, ρ⟩ fun r => ∀ c : Dev nD,
      r.2.mem ((c.tc : Thread nD τ).loc main_v13) = (fun i => ((normA (x c) (w c) i : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, (h c).2⟩) (Value.run (F := Ideal) m ρ)
  refine (h c).1.trans ?_
  clear h
  rw [hx c, hw c]
  funext i
  idx_vars i
  pointwise
  simp only [ofBits_2048, ofBits_eps, ← EReal.coe_mul, ← EReal.coe_add, coe_sum, div_2048, rsqrt_ms]
  rfl

end Cert.NormFirstRefIdeal.Real
-- ==== Proof.NormFirstClaim.lean ====
/- The claims about `norm_first`. -/
module

public import proofs.«01_k».proof.Defs
public import proofs.«01_k».proof.Proof.NormFirst
public import proofs.«01_k».proof.Proof.Gen.NormFirst.Frame
public import proofs.«01_k».proof.Proof.Gen.Pre_norm_first_finite

@[expose] public section

set_option maxRecDepth 16384

noncomputable section

namespace Cert.Proof.NormFirst

open Idealize.ShloMosaic Idealize.SL.Sem Idealize.ShloMosaic.TcCoe Cert.RealLift

theorem lifts (x : FVec Ideal Cert.Pre_norm_first_finite.S4096x2048 .f32) (w : FVec Ideal Cert.Pre_norm_first_finite.S2048 .f32)
    (h : Cert.Pre_norm_first_finite.fn (F := Ideal) x w = fun _ => 1#1) :
    IsLift x ∧ IsLift w := by
  obtain ⟨h1, h2⟩ := and_one h
  exact ⟨lift_of_all x _ _ _ _ h1, lift_of_all w _ _ _ _ h2⟩

theorem q1 : quiescent_NormFirst := fun m g _ => Cert.NormFirst.Gen.frame m g
theorem q2 : quiescent_NormFirstIdeal := fun m g _ => Cert.NormFirstIdeal.Gen.frame m g
theorem q3 : quiescent_NormFirstIdeal_pre_norm_first_finite := fun m g _ => Cert.NormFirstIdeal.Gen.frame m g
theorem q4 : quiescent_NormFirstRefIdeal := fun m g _ =>
  (θ_run _ _ _).mono (fun r h => And.intro (fun c => (h c).2) (sem_eq_zero_of_no_sems (by decide) r.2)) (Cert.NormFirstRefIdeal.Value.run (F := Ideal) m g)
theorem q5 : quiescent_NormFirstRefIdeal_pre_norm_first_finite := fun m g _ => q4 m g trivial

theorem value : algebraic_NormFirstIdeal_NormFirstRefIdeal_pre_norm_first_finite := by
  intro m g m' g' hpre hag
  choose x hx w hw using fun c => (fun ⟨⟨x, hx⟩, ⟨w, hw⟩⟩ => ⟨x, hx, w, hw⟩ :
    _ → ∃ x, _ = _ ∧ ∃ w, _ = _) (lifts _ _ (hpre c))
  refine ⟨_, ?_, Cert.NormFirstRefIdeal.Real.run m' g' x w (fun c => ((hag c).1).trans (hx c)) (fun c => ((hag c).2).trans (hw c))⟩
  exact (θ_run _ _ _).mono (fun r h c => ⟨(h c).1.trans (Cert.NormFirstIdeal.Real.arr2 m c (x c) (w c) (hx c) (hw c)), (h c).2⟩) (Cert.NormFirstIdeal.Value.run_blocks (F := Ideal) m g)

end Cert.Proof.NormFirst

end
-- ==== Proof.PostPre.lean ====
/- The kernel `post_pre`, over the reals: what its grid leaves in the two result arrays; and its reference. -/
module

public import proofs.«01_k».proof.Proof.NormReal
public import proofs.«01_k».proof.Proof.Gen.PostPreIdeal.Value
public import proofs.«01_k».proof.Proof.Gen.PostPreRefIdeal.Run
public import Idealize.ShloMosaic.Lib.Pipeline.ValueKit

@[expose] public section

set_option maxRecDepth 16384

noncomputable section

namespace Cert.PostPreIdeal.Real

open Idealize.ShloMosaic Cert.RealLift Cert.PostPreIdeal Cert.PostPreIdeal.Gen Idealize.SL.Sem Idealize.ShloMosaic.TcCoe

theorem xpay_eq (x y : S256x2048.Idx → ℝ) (w : S1x2048.Idx → ℝ) :
    k0_pay1 (F := Ideal) (fun i => ((x i : ℝ) : EReal)) (fun i => ((y i : ℝ) : EReal)) (fun i => ((w i : ℝ) : EReal))
      = fun i => ((x1A x y (fun j => w (ix2 0 (j 0))) i : ℝ) : EReal) := by
  funext i
  idx_vars i
  pointwise [k0_pay1]
  simp only [ofBits_2048, ofBits_eps, ← EReal.coe_mul, ← EReal.coe_add, coe_sum, div_2048, rsqrt_ms]
  rfl

theorem hpay_eq (x y : S256x2048.Idx → ℝ) (w q : S1x2048.Idx → ℝ) (r : Fin 256) (l : Fin 2048) :
    k0_pay2 (F := Ideal) (fun i => ((x i : ℝ) : EReal)) (fun i => ((y i : ℝ) : EReal)) (fun i => ((w i : ℝ) : EReal)) (fun i => ((q i : ℝ) : EReal)) (ix2 r l)
      = ((normA (x1A x y (fun j => w (ix2 0 (j 0)))) (fun j => q (ix2 0 (j 0))) (ix2 r l) : ℝ) : EReal) := by
  unfold k0_pay2
  simp only [xpay_eq]
  generalize x1A x y (fun j => w (ix2 0 (j 0))) = z
  pointwise
  simp only [ofBits_2048, ofBits_eps, ← EReal.coe_mul, ← EReal.coe_add, coe_sum, div_2048, rsqrt_ms]
  rfl

variable (m : (ℓ : Loc nD τ sig) → Buf (Elt Ideal) ℓ) (c : Dev nD) (x y : S4096x2048.Idx → ℝ) (w q : S2048.Idx → ℝ)
variable (hx : m ((c : Thread nD τ).loc main_arg0) = fun i => ((x i : ℝ) : EReal))
variable (hy : m ((c : Thread nD τ).loc main_arg1) = fun i => ((y i : ℝ) : EReal))
variable (hw : m ((c : Thread nD τ).loc main_arg2) = fun i => ((w i : ℝ) : EReal))
variable (hq : m ((c : Thread nD τ).loc main_arg3) = fun i => ((q i : ℝ) : EReal))

/-- The rows of a matrix that a grid point reads. -/
def row (t : Fin 16) (r : Fin 256) : Fin 4096 := ⟨256 * t.val + r.val, by omega⟩

/-- The block of a matrix that a grid point reads. -/
def blkR (x : S4096x2048.Idx → ℝ) (t : Fin 16) : S256x2048.Idx → ℝ := fun i => x (ix2 (row t (i 0)) (i 1))

theorem idx0 (t : Fin cfg0.N) : win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0] ∧ win0_5.index t = ![t.val, 0]) t

include hx in
theorem iblk_x (t : Fin cfg0.N) : iblk m c 0 t = fun i => ((blkR x t i : ℝ) : EReal) := by
  funext i
  have : iblk m c 0 t i = m ((c : Thread nD τ).loc main_arg0) (ix2 (row t (i 0)) (i 1)) := by blk_ext [iblk, V, idx0 t, row]
  rw [this, hx]
  rfl

include hy in
theorem iblk_y (t : Fin cfg0.N) : iblk m c 1 t = fun i => ((blkR y t i : ℝ) : EReal) := by
  funext i
  have : iblk m c 1 t i = m ((c : Thread nD τ).loc main_arg1) (ix2 (row t (i 0)) (i 1)) := by blk_ext [iblk, V, idx0 t, row]
  rw [this, hy]
  rfl

include hw in
theorem iblk_w (t : Fin cfg0.N) : iblk m c 2 t = fun i => ((w (ix1 (i 1)) : ℝ) : EReal) := by
  funext i
  have : iblk m c 2 t i = V m c main_v0 i := by blk_ext [iblk, idx0 t]
  rw [this]
  entry_read
  rw [hw]
  idx_vars i
  pointwise

include hq in
theorem iblk_q (t : Fin cfg0.N) : iblk m c 3 t = fun i => ((q (ix1 (i 1)) : ℝ) : EReal) := by
  funext i
  have : iblk m c 3 t i = V m c main_v1 i := by blk_ext [iblk, idx0 t]
  rw [this]
  entry_read
  rw [hq]
  idx_vars i
  pointwise

include hx hy hw in
theorem arr4 : (dats m 0 c).arrAt 4 cfg0.N = fun i => ((x1A x y w i : ℝ) : EReal) := by
  refine (dats m 0 c).arrAt_eq_of_covers 4 _ (by decide +kernel) fun t hf i => ?_
  blk_simp
  rw [after0_4]
  have key : out0_4 (iblk m c 0 t) (iblk m c 1 t) (iblk m c 2 t) (iblk m c 3 t) = k0_pay1 (F := Ideal) (iblk m c 0 t) (iblk m c 1 t) (iblk m c 2 t) := by
    unfold out0_4; frame_out
  rw [key, iblk_x m c x hx, iblk_y m c y hy, iblk_w m c w hw]
  idx_vars i
  have e : ((View.whole main_v2_0).slice (win0_4.rect t)).emb (ix2 i0 i1) = ix2 (row t i0) i1 := by blk_ext [idx0 t, row]
  exact (congrFun (xpay_eq (blkR x t) (blkR y t) (fun i => w (ix1 (i 1)))) (ix2 i0 i1)).trans (congrArg (fun j => ((x1A x y w j : ℝ) : EReal)) e.symm)

theorem hblk_eq (t : Fin 16) (r : Fin 256) (l : Fin 2048) :
    k0_pay2 (F := Ideal) (fun i => ((blkR x t i : ℝ) : EReal)) (fun i => ((blkR y t i : ℝ) : EReal)) (fun i => ((w (ix1 (i 1)) : ℝ) : EReal)) (fun i => ((q (ix1 (i 1)) : ℝ) : EReal)) (ix2 r l)
      = ((normA (x1A x y w) q (ix2 (row t r) l) : ℝ) : EReal) := by
  refine (hpay_eq (blkR x t) (blkR y t) (fun i => w (ix1 (i 1))) (fun i => q (ix1 (i 1))) r l).trans ?_
  rfl

include hx hy hw hq in
theorem arr5 : (dats m 0 c).arrAt 5 cfg0.N = fun i => ((normA (x1A x y w) q i : ℝ) : EReal) := by
  refine (dats m 0 c).arrAt_eq_of_covers 5 _ (by decide +kernel) fun t hf i => ?_
  blk_simp
  rw [after0_5]
  have key : out0_5 (iblk m c 0 t) (iblk m c 1 t) (iblk m c 2 t) (iblk m c 3 t) = k0_pay2 (F := Ideal) (iblk m c 0 t) (iblk m c 1 t) (iblk m c 2 t) (iblk m c 3 t) := by
    unfold out0_5; frame_out
  rw [key, iblk_x m c x hx, iblk_y m c y hy, iblk_w m c w hw, iblk_q m c q hq]
  idx_vars i
  have e : ((View.whole main_v2_1).slice (win0_5.rect t)).emb (ix2 i0 i1) = ix2 (row t i0) i1 := by blk_ext [idx0 t, row]
  refine (hblk_eq x y w q t i0 i1).trans ?_
  generalize normA (x1A x y w) q = z
  exact congrArg (fun j => ((z j : ℝ) : EReal)) e.symm

end Cert.PostPreIdeal.Real

namespace Cert.PostPreRefIdeal.Real

open Idealize.ShloMosaic Cert.RealLift Cert.PostPreRefIdeal Cert.PostPreRefIdeal.Gen Idealize.SL.Sem Idealize.ShloMosaic.TcCoe

theorem x1_eq (m : (ℓ : Loc nD τ sig) → Buf (Elt Ideal) ℓ) (c : Dev nD) (x y : S4096x2048.Idx → ℝ) (w : S2048.Idx → ℝ)
    (hx : m ((c : Thread nD τ).loc main_arg0) = fun i => ((x i : ℝ) : EReal))
    (hy : m ((c : Thread nD τ).loc main_arg1) = fun i => ((y i : ℝ) : EReal))
    (hw : m ((c : Thread nD τ).loc main_arg2) = fun i => ((w i : ℝ) : EReal)) :
    (addf (m ((c.tc : Thread nD τ).loc main_arg0)) (mulf (mulf (m ((c.tc : Thread nD τ).loc main_arg1)) (broadcastInDim S4096x2048 ![0, 1] bcast_S4096x1_S4096x2048_0_1 (Host.rsqrt (addf (Host.divf (broadcastInDim S4096x1 ![0] bcast_S4096_S4096x1_0 (Host.reduceAdd (mulf (m ((c.tc : Thread nD τ).loc main_arg1)) (m ((c.tc : Thread nD τ).loc main_arg1))) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 (broadcastInDim S1x2048 ![1] bcast_S2048_S1x2048_1 (m ((c.tc : Thread nD τ).loc main_arg2))))))
      = fun i => ((x1A x y w i : ℝ) : EReal) := by
  rw [hx, hy, hw]
  funext i
  idx_vars i
  pointwise
  simp only [ofBits_2048, ofBits_eps, ← EReal.coe_mul, ← EReal.coe_add, coe_sum, div_2048, rsqrt_ms]
  rfl

theorem run (m : (ℓ : Loc nD τ sig) → Buf (Elt Ideal) ℓ) (ρ : Dev nD → PrngReg)
    (x y : Dev nD → S4096x2048.Idx → ℝ) (w q : Dev nD → S2048.Idx → ℝ)
    (hx : ∀ c : Dev nD, m ((c : Thread nD τ).loc main_arg0) = fun i => ((x c i : ℝ) : EReal))
    (hy : ∀ c : Dev nD, m ((c : Thread nD τ).loc main_arg1) = fun i => ((y c i : ℝ) : EReal))
    (hw : ∀ c : Dev nD, m ((c : Thread nD τ).loc main_arg2) = fun i => ((w c i : ℝ) : EReal))
    (hq : ∀ c : Dev nD, m ((c : Thread nD τ).loc main_arg3) = fun i => ((q c i : ℝ) : EReal)) :
    θ_run defs (onTc (τ := τ) (main (F := Ideal))) ⟨m, fun _ => 0, ρ⟩ fun r => ∀ c : Dev nD,
      r.2.mem ((c.tc : Thread nD τ).loc main_v13) = (fun i => ((x1A (x c) (y c) (w c) i : ℝ) : EReal))
      ∧ r.2.mem ((c.tc : Thread nD τ).loc main_v27) = (fun i => ((normA (x1A (x c) (y c) (w c)) (q c) i : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (x1_eq m c _ _ _ (hx c) (hy c) (hw c)), ?_, (h c).2.2⟩) (Value.run (F := Ideal) m ρ)
  refine (h c).2.1.trans ?_
  clear h
  rw [x1_eq m c _ _ _ (hx c) (hy c) (hw c), hq c]
  generalize x1A (x c) (y c) (w c) = z
  funext i
  idx_vars i
  pointwise
  simp only [ofBits_2048, ofBits_eps, ← EReal.coe_mul, ← EReal.coe_add, coe_sum, div_2048, rsqrt_ms]
  rfl

end Cert.PostPreRefIdeal.Real
-- ==== Proof.PostPreClaim.lean ====
/- The claims about `post_pre`. -/
module

public import proofs.«01_k».proof.Defs
public import proofs.«01_k».proof.Proof.PostPre
public import proofs.«01_k».proof.Proof.Gen.PostPre.Frame
public import proofs.«01_k».proof.Proof.Gen.Pre_post_pre_finite

@[expose] public section

set_option maxRecDepth 16384

noncomputable section

namespace Cert.Proof.PostPre

open Idealize.ShloMosaic Idealize.SL.Sem Idealize.ShloMosaic.TcCoe Cert.RealLift

theorem lifts (x y : FVec Ideal Cert.Pre_post_pre_finite.S4096x2048 .f32) (w q : FVec Ideal Cert.Pre_post_pre_finite.S2048 .f32)
    (h : Cert.Pre_post_pre_finite.fn (F := Ideal) x y w q = fun _ => 1#1) :
    IsLift x ∧ IsLift y ∧ IsLift w ∧ IsLift q := by
  obtain ⟨h3, h4⟩ := and_one h
  obtain ⟨h2, h3⟩ := and_one h3
  obtain ⟨h1, h2⟩ := and_one h2
  exact ⟨lift_of_all x _ _ _ _ h1, lift_of_all y _ _ _ _ h2, lift_of_all w _ _ _ _ h3, lift_of_all q _ _ _ _ h4⟩

theorem q1 : quiescent_PostPre := fun m g _ => Cert.PostPre.Gen.frame m g
theorem q2 : quiescent_PostPreIdeal := fun m g _ => Cert.PostPreIdeal.Gen.frame m g
theorem q3 : quiescent_PostPreIdeal_pre_post_pre_finite := fun m g _ => Cert.PostPreIdeal.Gen.frame m g
theorem q4 : quiescent_PostPreRefIdeal := fun m g _ =>
  (θ_run _ _ _).mono (fun r h => And.intro (fun c => (h c).2.2) (sem_eq_zero_of_no_sems (by decide) r.2)) (Cert.PostPreRefIdeal.Value.run (F := Ideal) m g)
theorem q5 : quiescent_PostPreRefIdeal_pre_post_pre_finite := fun m g _ => q4 m g trivial

theorem value : algebraic_PostPreIdeal_PostPreRefIdeal_pre_post_pre_finite := by
  intro m g m' g' hpre hag
  choose x hx y hy w hw q hq using fun c => (fun ⟨⟨x, hx⟩, ⟨y, hy⟩, ⟨w, hw⟩, ⟨q, hq⟩⟩ => ⟨x, hx, y, hy, w, hw, q, hq⟩ :
    _ → ∃ x, _ = _ ∧ ∃ y, _ = _ ∧ ∃ w, _ = _ ∧ ∃ q, _ = _) (lifts _ _ _ _ (hpre c))
  refine ⟨_, _, ?_, Cert.PostPreRefIdeal.Real.run m' g' x y w q (fun c => ((hag c).1).trans (hx c)) (fun c => ((hag c).2.1).trans (hy c)) (fun c => ((hag c).2.2.1).trans (hw c)) (fun c => ((hag c).2.2.2).trans (hq c))⟩
  exact (θ_run _ _ _).mono (fun r h c => ⟨(h c).1.trans (Cert.PostPreIdeal.Real.arr4 m c (x c) (y c) (w c) (hx c) (hy c) (hw c)),
    (h c).2.1.trans (Cert.PostPreIdeal.Real.arr5 m c (x c) (y c) (w c) (q c) (hx c) (hy c) (hw c) (hq c)), (h c).2.2⟩) (Cert.PostPreIdeal.Value.run_blocks (F := Ideal) m g)

end Cert.Proof.PostPre

end
-- ==== Proof.SwaFwdHeads.lean ====
/- The windowed attention's forward arithmetic over the reals, for both groups of heads, from blocks of reals. -/
module

public import proofs.«01_k».proof.Proof.SwaStore
public import proofs.«01_k».proof.Proof.Gen.SwaFwdIdeal.Skeleton

@[expose] public section

set_option maxRecDepth 16384

noncomputable section

namespace Cert.Swa

variable (q : Fin 3 → Fin 128 → Fin 128 → ℝ) (k v : Fin 256 → Fin 128 → ℝ) (s : Fin 3 → ℝ) (n : ℕ)

/-- The attention's rows. -/
def att (g : Fin 3) (i d : Fin 128) : ℝ := ∑ j, pn q k s n g i j * v j d

variable {k v}

theorem att_congr {k' v' : Fin 256 → Fin 128 → ℝ} (hk : ∀ j : Fin 256, (0 < n ∨ 128 ≤ j.val) → k j = k' j) (hv : ∀ j : Fin 256, (0 < n ∨ 128 ≤ j.val) → v j = v' j) (g : Fin 3) (i d : Fin 128) :
    att q k v s n g i d = att q k' v' s n g i d := by
  refine Finset.sum_congr rfl fun j _ => ?_
  by_cases h : ok n i j = true
  · rw [pn_congr q s n hk, hv j (ok_iff.mp h).2.2]
  · rw [Bool.not_eq_true] at h
    rw [pn_zero _ _ _ _ _ _ _ h, pn_zero _ _ _ _ _ _ _ h, zero_mul, zero_mul]

end Cert.Swa

namespace Cert.SwaFwdIdeal.Real

open Idealize.ShloMosaic Cert.RealLift Cert.SwaFwdIdeal Cert.SwaFwdIdeal.Gen Cert.Swa
open Cert.SwaBwdIdeal.Real (ex es tt msc soft mm_nn kb0 kb1 vb0 vb1 sk0 sk1 sc0 sc1 msk0 msk1 io bw hq hk hv hz)

/-- A group's rows: the weights' product with the values, over the weights' total. -/
def oo (X : FVec Ideal S384x256 .f32) (S : FVec Ideal S384x1 .f32) (V : FVec Ideal S256x128 .f32) : FVec Ideal S384x128 .f32 :=
  divf (matmul dot_S384x256_S256x128_S384x128_1_0_0_1_n_n none (truncf .bf16 (ex X S) bitsLt_bf16_f32) (truncf .bf16 V bitsLt_bf16_f32) (constant S384x128 .f32 0x00000000#32))
    (broadcastTo S384x128 (tt X S) broadcasts_S384x1_S384x128)

theorem oo_eq (q : Fin 3 → Fin 128 → Fin 128 → ℝ) (k v : Fin 256 → Fin 128 → ℝ) (s : Fin 3 → ℝ) (n : ℕ) :
    oo (msc q k n) (upf (st fun g _ _ => s g)) (upf v) = upf (st (att q k v s n)) := by
  obtain ⟨M, h1, -, h3⟩ := soft q k s n
  refine eq_upf fun r d => ?_
  pointwise [oo]
  simp only [h1, h3, upf_ix2, ← EReal.coe_mul, coe_sum]
  rw [div_real (totM_pos q k s n (M r) _ _).ne', Finset.sum_div]
  refine congrArg Real.toEReal (Finset.sum_congr rfl fun j _ => ?_)
  rw [← pn_shift q k s n (M r), div_mul_eq_mul_div]

variable (q : Fin 128 → Fin 768 → ℝ) (kc kp vc vp : Fin 128 → Fin 256 → ℝ) (cc sc cp sp : Fin 128 → Fin 128 → ℝ) (sk : Fin 1 → Fin 128 → ℝ) (n : Fin 32)

/-- The score's parts that both programs of the first group read. -/
abbrev lim : BitVec 32 := Scalar.select (Scalar.cmpi .sgt (bw n) 0#32) 0#32 128#32
abbrev col : IVec S384x256 32 := iota .tc S384x256 32 [1] iota_S384x256_d1_w32
abbrev s0 : FVec Ideal S384x256 .f32 :=
  k0_pay9 (k0_pay1 (upf q)) (k0_pay2 (upf cc)) (k0_pay3 (upf sc)) (k0_pay5 (upf kc) (upf kp) (upf cc) (upf sc) (upf cp) (upf sp)) (k0_pay7 (upf q)) (k0_pay8 (upf q) (upf cc)) 64#32

theorem g0 : k0_pay34 (F := Ideal) (k0_pay29 (k0_pay4 (upf sk)) (s0 q kc kp cc sc cp sp) col (lim n) k0_pay23 k0_pay24)
      (k0_pay30 (k0_pay4 (upf sk)) (k0_pay6 (upf vc) (upf vp)) (s0 q kc kp cc sc cp sp) col (lim n) k0_pay23 k0_pay24)
    = upf (st (att (hq q cc sc 0) (hk kc kp cc sc cp sp 0) (hv vc vp 0) (hz sk 0) n)) := by
  refine Eq.trans (b := oo (Cert.SwaBwdIdeal.Gen.k0_pay35 (F := Ideal) (bw n) (sc0 q kc kp cc sc cp sp)) (Cert.SwaBwdIdeal.Gen.k0_pay36 (F := Ideal) (Cert.SwaBwdIdeal.Gen.k0_pay15 (upf sk)))
    (Cert.SwaBwdIdeal.Gen.k0_pay20 (F := Ideal) (Cert.SwaBwdIdeal.Gen.k0_pay10 (upf vc)) (Cert.SwaBwdIdeal.Gen.k0_pay11 (upf vp)))) rfl ?_
  rw [msk0, sk0, vb0]
  exact oo_eq _ _ _ _ _

theorem g1 : k0_pay35 (F := Ideal) (k0_pay19 (upf sk)) (k0_pay20 (k0_pay13 (upf vc)) (k0_pay14 (upf vp)))
      (k0_pay31 (bw n) (k0_pay21 (k0_pay10 (upf q)) (k0_pay11 (upf kc)) (k0_pay12 (upf kp)) (k0_pay15 (upf cc)) (k0_pay16 (upf sc)) (k0_pay17 (upf cp)) (k0_pay18 (upf sp))))
      (k0_pay32 (k0_pay19 (upf sk))) (k0_pay33 (k0_pay19 (upf sk)))
    = upf (st (att (hq q cc sc 1) (hk kc kp cc sc cp sp 1) (hv vc vp 1) (hz sk 1) n)) := by
  refine Eq.trans (b := oo (Cert.SwaBwdIdeal.Gen.k0_pay45 (F := Ideal) (bw n) (sc1 q kc kp cc sc cp sp) io) (Cert.SwaBwdIdeal.Gen.k0_pay46 (F := Ideal) (Cert.SwaBwdIdeal.Gen.k0_pay30 (upf sk)))
    (Cert.SwaBwdIdeal.Gen.k0_pay32 (F := Ideal) (Cert.SwaBwdIdeal.Gen.k0_pay26 (upf vc)) (Cert.SwaBwdIdeal.Gen.k0_pay27 (upf vp)))) rfl ?_
  rw [msk1, sk1, vb1]
  exact oo_eq _ _ _ _ _

/-- A head's rows as stored. -/
abbrev cut (a : FVec Ideal S384x128 .f32) (o : ℕ) (h : S384x128.Slices ![o, 0] S128x128) : FVec Ideal S128x128 .bf16 :=
  truncf .bf16 (extractStridedSlice S128x128 ![o, 0] a h) bitsLt_bf16_f32

theorem put (a : Fin 384 → Fin 128 → ℝ) (o : ℕ) (h : S384x128.Slices ![o, 0] S128x128) (ho : ∀ r : Fin 128, o + r.val < 384) (r d : Fin 128) :
    cut (upf a) o h (ix2 r d) = ((a ⟨o + r.val, ho r⟩ d : ℝ) : EReal) := by
  pointwise
  rw [upf_ix2]

theorem tile (f : Fin 2 → Fin 3 → Fin 128 → Fin 128 → ℝ) (h : Fin 2) (g : Fin 3) (r d i : Fin 128) (j : Fin 768) (h0 : i.val = r.val) (h1 : j.val = h.val * 384 + g.val * 128 + d.val) :
    ((f h g r d : ℝ) : EReal) = ((f (jh j) (jg j) i (jd j) : ℝ) : EReal) := by
  obtain rfl : i = r := Fin.ext h0
  obtain rfl : jh j = h := Fin.ext (by simp only [jh]; omega)
  obtain rfl : jg j = g := Fin.ext (by simp only [jg]; omega)
  obtain rfl : jd j = d := Fin.ext (by simp only [jd]; omega)
  rfl

theorem canO (f : Fin 2 → Fin 3 → Fin 128 → Fin 128 → ℝ) :
    View.canon (Val := Elt Ideal) (s := S128x768) (e := .bf16) [
      ⟨Rect.unit ![0, 640] ![128, 128] inb_S128x768_S128x128_0_640, cut (upf (st (f 1))) 256 slices_S384x128_o256_0_S128x128⟩,
      ⟨Rect.unit ![0, 512] ![128, 128] inb_S128x768_S128x128_0_512, cut (upf (st (f 1))) 128 slices_S384x128_o128_0_S128x128⟩,
      ⟨Rect.unit ![0, 384] ![128, 128] inb_S128x768_S128x128_0_384, cut (upf (st (f 1))) 0 slices_S384x128_o0_0_S128x128⟩,
      ⟨Rect.unit ![0, 256] ![128, 128] inb_S128x768_S128x128_0_256, cut (upf (st (f 0))) 256 slices_S384x128_o256_0_S128x128⟩,
      ⟨Rect.unit ![0, 128] ![128, 128] inb_S128x768_S128x128_0_128, cut (upf (st (f 0))) 128 slices_S384x128_o128_0_S128x128⟩,
      ⟨Rect.unit ![0, 0] ![128, 128] inb_S128x768_S128x128_0_0, cut (upf (st (f 0))) 0 slices_S384x128_o0_0_S128x128⟩]
    = upf fun i j => f (jh j) (jg j) i (jd j) := by
  have row : ∀ (h : Fin 2) (g : Fin 3) (r d : Fin 128) (o : ℕ) (e : o = g.val * 128) (ho : o + r.val < 384), st (f h) ⟨o + r.val, ho⟩ d = f h g r d := fun h g r d o e ho =>
    congrFun (congrArg₂ (f h) (Fin.ext (by simp only [gOf]; omega)) (Fin.ext (by simp only [iOf]; omega))) d
  funext y
  canon_tiles x h
  all_goals idx_vars x; idx_vars y
  · exact (put _ 256 _ (by omega) _ _).trans ((congrArg Real.toEReal (row 1 2 _ _ 256 rfl _)).trans (tile f 1 2 _ _ _ _ h0 h1))
  · exact (put _ 128 _ (by omega) _ _).trans ((congrArg Real.toEReal (row 1 1 _ _ 128 rfl _)).trans (tile f 1 1 _ _ _ _ h0 h1))
  · exact (put _ 0 _ (by omega) _ _).trans ((congrArg Real.toEReal (row 1 0 _ _ 0 rfl _)).trans (tile f 1 0 _ _ _ _ h0 h1))
  · exact (put _ 256 _ (by omega) _ _).trans ((congrArg Real.toEReal (row 0 2 _ _ 256 rfl _)).trans (tile f 0 2 _ _ _ _ h0 h1))
  · exact (put _ 128 _ (by omega) _ _).trans ((congrArg Real.toEReal (row 0 1 _ _ 128 rfl _)).trans (tile f 0 1 _ _ _ _ h0 h1))
  · exact (put _ 0 _ (by omega) _ _).trans ((congrArg Real.toEReal (row 0 0 _ _ 0 rfl _)).trans (tile f 0 0 _ _ _ _ h0 (h1.trans (Nat.zero_add _).symm)))

end Cert.SwaFwdIdeal.Real

end
-- ==== Proof.SwaFwd.lean ====
/- The windowed attention's forward call over the reals: its blocks, and the array they make. -/
module

public import proofs.«01_k».proof.Proof.SwaFwdHeads
public import proofs.«01_k».proof.Proof.SwaBlocks
public import proofs.«01_k».proof.Proof.Gen.SwaFwdIdeal.Value
public import Idealize.ShloMosaic.Lib.Pipeline.ValueKit
public import Idealize.ShloMosaic.Lib.Pipeline.ReadBack
public import Idealize.ShloMosaic.Lib.Routing.OpsSet
public import Idealize.ShloMosaic.Lib.StableHlo.ReadAt

@[expose] public section

set_option maxRecDepth 16384

noncomputable section

namespace Cert.SwaFwdIdeal.Real

open Idealize.ShloMosaic Cert.RealLift Cert.SwaFwdIdeal Cert.SwaFwdIdeal.Gen Cert.Swa Idealize.SL.Sem Idealize.ShloMosaic.TcCoe
open Cert.SwaBwdIdeal.Real (wide bw hz)

variable (m : (ℓ : Loc nD τ sig) → Buf (Elt Ideal) ℓ) (c : Dev nD)
variable (p : Fin 4096 → Fin 4876 → ℝ) (s : Fin 6 → ℝ)
variable (hp : m ((c : Thread nD τ).loc main_arg0) = upf p)
variable (hs : m ((c : Thread nD τ).loc main_arg2) = fun i => ((s (i 0) : ℝ) : EReal))

/-- The positions. -/
def posn (r : Fin 4096) : BitVec 32 := (m ((c : Thread nD τ).loc main_arg1) : S4096.Idx → BitVec 32) (ix1 r)

theorem v19 (r : Fin 4096) (d : Fin 128) : (V m c main_v19 : S4096x128.Idx → EReal) (ix2 r d) = ((cosT (posn m c r) d : ℝ) : EReal) := by
  entry_read
  pointwise
  by_cases h : d.val < 64
  · rw [dif_pos h]
    refine Eq.trans (congrArg Ideal.cos (ang_eq (posn m c r) d.val)) ?_
    rw [Ideal.cos_coe, cosT, Nat.mod_eq_of_lt h]
  · rw [dif_neg h]
    refine Eq.trans (congrArg Ideal.cos (ang_eq (posn m c r) (d.val - 64))) ?_
    rw [Ideal.cos_coe, cosT, show d.val % 64 = d.val - 64 by omega]

theorem v21 (r : Fin 4096) (d : Fin 128) : (V m c main_v21 : S4096x128.Idx → EReal) (ix2 r d) = ((sinT (posn m c r) d : ℝ) : EReal) := by
  entry_read
  pointwise
  by_cases h : d.val < 64
  · rw [dif_pos h]
    refine Eq.trans (congrArg (fun x => -Ideal.sin x) (ang_eq (posn m c r) d.val)) ?_
    rw [Ideal.sin_coe, sinT, Nat.mod_eq_of_lt h, if_pos h, EReal.coe_neg]
  · rw [dif_neg h]
    refine Eq.trans (congrArg Ideal.sin (ang_eq (posn m c r) (d.val - 64))) ?_
    rw [Ideal.sin_coe, sinT, show d.val % 64 = d.val - 64 by omega, if_neg h]

include hs in
theorem v25 (d : Fin 128) : (V m c main_v25 : S1x128.Idx → EReal) (ix2 0 d) = ((wide s d : ℝ) : EReal) := by
  entry_read
  pointwise
  have e : ∀ k : S6.Idx, scatter_S128_S1_S6_0_n_0_0.resultIdx? k (broadcastInDim S1 ![] bcast_S_S1 (constantI S_ 32 0#32)) = some (ix1 d) ↔ (k 0).val = d.val := fun k => by
    refine (Routing.resultIdx?_ix1 _ k _ d).trans ?_
    have h1 : scatter_S128_S1_S6_0_n_0_0.start k (broadcastInDim S1 ![] bcast_S_S1 (constantI S_ 32 0#32)) 0 = 0 := rfl
    have h2 : scatter_S128_S1_S6_0_n_0_0.window k 0 = (k 0).val := rfl
    rw [h1, h2]
    omega
  rw [hs, wide]
  split
  · rename_i h
    refine Routing.scatter_set_hit _ _ _ _ _ _ (fun k hk => ?_) (ix1 ⟨d.val, h⟩) ((e _).mpr rfl)
    exact congrArg (fun i => ((s i : ℝ) : EReal)) (Fin.ext ((e k).mp hk))
  · rename_i h
    refine (Routing.scatter_set_miss _ _ _ _ _ fun k hk => h ?_).trans ?_
    · rw [← (e k).mp hk]
      exact (k 0).isLt
    · pointwise
      rfl

include hp in
theorem v33 (r : Fin 4096) (j : Fin 4992) (h : 3072 ≤ j.val) (h' : j.val < 4352) : (V m c main_v33 : S4096x4992.Idx → EReal) (ix2 r j) = ((p r ⟨j.val + 524, by omega⟩ : ℝ) : EReal) := by
  unfold V
  after_reads_at
  rw [dif_neg (by omega)]
  have e : ∀ k : Fin 4876, k.val = j.val + 524 → (m ((c : Thread nD τ).loc main_arg0) : S4096x4876.Idx → EReal) (ix2 r k) = ((p r ⟨j.val + 524, by omega⟩ : ℝ) : EReal) := fun k hk => by
    rw [hp]
    exact congrArg (fun k => ((p r k : ℝ) : EReal)) (Fin.ext hk)
  by_cases h1 : j.val - 3072 < 768
  · rw [dif_pos h1]
    refine (congrFun (StableHlo.unary_result' _ _ _ _) _).trans ?_
    after_reads_at
    refine e _ ?_
    dsimp only
    omega
  · rw [dif_neg h1]
    by_cases h2 : j.val - 3072 - 768 < 256
    · rw [dif_pos h2]
      refine (congrFun (StableHlo.unary_result' _ _ _ _) _).trans ?_
      after_reads_at
      refine e _ ?_
      dsimp only
      omega
    · rw [dif_neg h2, dif_pos (by omega)]
      refine (congrFun (StableHlo.unary_result' _ _ _ _) _).trans ?_
      after_reads_at
      refine e _ ?_
      dsimp only
      omega

/-- The block of a grid point. -/
def blkOf (t : Fin cfg0.N) : Fin 32 := ⟨t.val, t.isLt⟩

theorem idx0 (t : Fin cfg0.N) : win0_0.index t = ![(blkOf t).val, 4] ∧ win0_1.index t = ![(blkOf t).val, 15] ∧ win0_2.index t = ![(prv (blkOf t)).val, 15] ∧
    win0_3.index t = ![(blkOf t).val, 16] ∧ win0_4.index t = ![(prv (blkOf t)).val, 16] ∧ win0_5.index t = ![(blkOf t).val, 0] ∧ win0_6.index t = ![(blkOf t).val, 0] ∧
    win0_7.index t = ![(prv (blkOf t)).val, 0] ∧ win0_8.index t = ![(prv (blkOf t)).val, 0] ∧ win0_9.index t = ![0, 0] ∧ win0_10.index t = ![(blkOf t).val, 0] :=
  (by decide +kernel : ∀ t : Fin grid0.N, win0_0.index t = ![(blkOf t).val, 4] ∧ win0_1.index t = ![(blkOf t).val, 15] ∧ win0_2.index t = ![(prv (blkOf t)).val, 15] ∧
    win0_3.index t = ![(blkOf t).val, 16] ∧ win0_4.index t = ![(prv (blkOf t)).val, 16] ∧ win0_5.index t = ![(blkOf t).val, 0] ∧ win0_6.index t = ![(blkOf t).val, 0] ∧
    win0_7.index t = ![(prv (blkOf t)).val, 0] ∧ win0_8.index t = ![(prv (blkOf t)).val, 0] ∧ win0_9.index t = ![0, 0] ∧ win0_10.index t = ![(blkOf t).val, 0]) t

include hp in
theorem in_q (t : Fin cfg0.N) : (X0_0 m c t : S128x768.Idx → EReal) = upf fun i d => p (row (blkOf t) i) ⟨3596 + d.val, by omega⟩ := by
  refine eq_upf fun i d => ?_
  unfold X0_0 Pipeline.Window.fill
  rw [dif_pos (moved0_0 t _)]
  refine Eq.trans ?_ ((v33 m c p hp (row (blkOf t) i) ⟨3072 + d.val, by omega⟩ (by dsimp only; omega) (by dsimp only; omega)).trans
    (congrArg (fun k => ((p (row (blkOf t) i) k : ℝ) : EReal)) (Fin.ext (by dsimp only; omega))))
  blk_ext [iblk, idx0 t, row]

include hp in
theorem in_kc (t : Fin cfg0.N) : (X0_1 m c t : S128x256.Idx → EReal) = upf fun i d => p (row (blkOf t) i) ⟨4364 + d.val, by omega⟩ := by
  refine eq_upf fun i d => ?_
  unfold X0_1 Pipeline.Window.fill
  rw [dif_pos (moved0_1 t _)]
  refine Eq.trans ?_ ((v33 m c p hp (row (blkOf t) i) ⟨3840 + d.val, by omega⟩ (by dsimp only; omega) (by dsimp only; omega)).trans
    (congrArg (fun k => ((p (row (blkOf t) i) k : ℝ) : EReal)) (Fin.ext (by dsimp only; omega))))
  blk_ext [iblk, idx0 t, row]

include hp in
theorem in_kp (t : Fin cfg0.N) : (X0_2 m c t : S128x256.Idx → EReal) = upf fun i d => p (row (prv (blkOf t)) i) ⟨4364 + d.val, by omega⟩ := by
  refine eq_upf fun i d => ?_
  unfold X0_2 Pipeline.Window.fill
  rw [dif_pos (moved0_2 t _)]
  refine Eq.trans ?_ ((v33 m c p hp (row (prv (blkOf t)) i) ⟨3840 + d.val, by omega⟩ (by dsimp only; omega) (by dsimp only; omega)).trans
    (congrArg (fun k => ((p (row (prv (blkOf t)) i) k : ℝ) : EReal)) (Fin.ext (by dsimp only; omega))))
  blk_ext [iblk, idx0 t, row]

include hp in
theorem in_vc (t : Fin cfg0.N) : (X0_3 m c t : S128x256.Idx → EReal) = upf fun i d => p (row (blkOf t) i) ⟨4620 + d.val, by omega⟩ := by
  refine eq_upf fun i d => ?_
  unfold X0_3 Pipeline.Window.fill
  rw [dif_pos (moved0_3 t _)]
  refine Eq.trans ?_ ((v33 m c p hp (row (blkOf t) i) ⟨4096 + d.val, by omega⟩ (by dsimp only; omega) (by dsimp only; omega)).trans
    (congrArg (fun k => ((p (row (blkOf t) i) k : ℝ) : EReal)) (Fin.ext (by dsimp only; omega))))
  blk_ext [iblk, idx0 t, row]

include hp in
theorem in_vp (t : Fin cfg0.N) : (X0_4 m c t : S128x256.Idx → EReal) = upf fun i d => p (row (prv (blkOf t)) i) ⟨4620 + d.val, by omega⟩ := by
  refine eq_upf fun i d => ?_
  unfold X0_4 Pipeline.Window.fill
  rw [dif_pos (moved0_4 t _)]
  refine Eq.trans ?_ ((v33 m c p hp (row (prv (blkOf t)) i) ⟨4096 + d.val, by omega⟩ (by dsimp only; omega) (by dsimp only; omega)).trans
    (congrArg (fun k => ((p (row (prv (blkOf t)) i) k : ℝ) : EReal)) (Fin.ext (by dsimp only; omega))))
  blk_ext [iblk, idx0 t, row]

theorem in_cc (t : Fin cfg0.N) : (iblk m c 5 t : S128x128.Idx → EReal) = upf fun i => cosT (posn m c (row (blkOf t) i)) := by
  refine eq_upf fun i d => Eq.trans ?_ (v19 m c (row (blkOf t) i) d)
  blk_ext [iblk, idx0 t, row]

theorem in_sc (t : Fin cfg0.N) : (iblk m c 6 t : S128x128.Idx → EReal) = upf fun i => sinT (posn m c (row (blkOf t) i)) := by
  refine eq_upf fun i d => Eq.trans ?_ (v21 m c (row (blkOf t) i) d)
  blk_ext [iblk, idx0 t, row]

theorem in_cp (t : Fin cfg0.N) : (iblk m c 7 t : S128x128.Idx → EReal) = upf fun i => cosT (posn m c (row (prv (blkOf t)) i)) := by
  refine eq_upf fun i d => Eq.trans ?_ (v19 m c (row (prv (blkOf t)) i) d)
  blk_ext [iblk, idx0 t, row]

theorem in_sp (t : Fin cfg0.N) : (iblk m c 8 t : S128x128.Idx → EReal) = upf fun i => sinT (posn m c (row (prv (blkOf t)) i)) := by
  refine eq_upf fun i d => Eq.trans ?_ (v21 m c (row (prv (blkOf t)) i) d)
  blk_ext [iblk, idx0 t, row]

include hs in
theorem in_sk (t : Fin cfg0.N) : (iblk m c 9 t : S1x128.Idx → EReal) = upf fun _ => wide s := by
  refine eq_upf fun i d => Eq.trans ?_ (v25 m c s hs d)
  obtain rfl : i = 0 := Subsingleton.elim _ _
  blk_ext [iblk, idx0 t]

theorem word (t : Fin cfg0.N) : BitVec.ofNat 32 (grid0.coords t 0).val = bw (blkOf t) :=
  (by decide +kernel : ∀ t : Fin grid0.N, BitVec.ofNat 32 (grid0.coords t 0).val = bw (blkOf t)) t

theorem sinks (h : Fin 2) : hz (fun _ => wide s) h = Sb s h := funext fun g => dif_pos (hd h g).isLt

/-- The attention's result by its rows and columns. -/
def out (x : Fin 4096 → BitVec 32) (r : Fin 4096) (j : Fin 768) : ℝ :=
  att (Qb p x (bOf r) (jh j)) (Kb p x (bOf r) (jh j)) (Vb p (bOf r) (jh j)) (Sb s (jh j)) (bOf r) (jg j) (rOf r) (jd j)

include hp hs in
theorem blk (t : Fin cfg0.N) : outsAt0 m c t = upf fun i j => out p s (posn m c) (row (blkOf t) i) j := by
  funext y
  unfold outsAt0 out0_A_10
  frame_out
  unfold k0_pay36 k0_pay37 k0_pay38 k0_pay39 k0_pay40 k0_pay41
  dsimp only
  rw [in_q m c p hp, in_kc m c p hp, in_kp m c p hp, in_vc m c p hp, in_vp m c p hp, in_cc, in_sc, in_cp, in_sp, in_sk m c s hs, word, g0, g1, sinks, sinks]
  refine (congrFun (canO fun h => att (Qb p (posn m c) (blkOf t) h) (Kb p (posn m c) (blkOf t) h) (Vb p (blkOf t) h) (Sb s h) (blkOf t)) y).trans ?_
  refine congrFun (congrArg upf (funext fun i => funext fun j => ?_)) y
  unfold out
  rw [bOf_row, rOf_row]

include hp hs in
theorem arr10 : (dats m 0 c).arrAt 10 cfg0.N = (upf (out p s (posn m c)) : S4096x768.Idx → EReal) := by
  refine (dats m 0 c).arrAt_eq_of_covers 10 _ (by decide +kernel) fun t hf i => ?_
  blk_simp
  rw [after0_10, blk m c p s hp hs]
  idx_vars i
  have e : ((View.whole main_v34).slice (win0_10.rect t)).emb (ix2 i0 i1) = ix2 (row (blkOf t) i0) i1 := by blk_ext [idx0 t, row]
  exact (congrArg (upf (out p s (posn m c)) : S4096x768.Idx → EReal) e).symm

end Cert.SwaFwdIdeal.Real

end
-- ==== Proof.SwaFwdRef.lean ====
/- The reference's windowed attention over the reals. -/
module

public import proofs.«01_k».proof.Proof.SwaBwdRef
public import proofs.«01_k».proof.Proof.SwaFwd
public import proofs.«01_k».proof.Proof.Gen.SwaFwdRefIdeal.Run

@[expose] public section

set_option maxRecDepth 16384

noncomputable section

namespace Cert.SwaFwdRefIdeal.Real

open Idealize.ShloMosaic Cert.RealLift Cert.SwaFwdRefIdeal Cert.SwaFwdRefIdeal.Gen Cert.SwaFwdRefIdeal.Value Cert.Swa Idealize.SL.Sem Idealize.ShloMosaic.TcCoe StableHlo
open Cert.SwaFwdIdeal.Real (out)
open Cert.SwaBwdRefIdeal.Real (posv Pz Kz Vz Kz_eq Vz_eq v137_at v70_at)

/-- Contents of the gradient's reference with given arguments. -/
theorem args (p : S4096x4876.Idx → EReal) (x : S4096.Idx → BitVec 32) (s : S6.Idx → EReal) : ∃ V0 : Valuation Cert.SwaBwdRefIdeal.τ Cert.SwaBwdRefIdeal.sig (Elt Ideal),
    V0 (Proc.devRef .tc Cert.SwaBwdRefIdeal.main_arg0) = p ∧ V0 (Proc.devRef .tc Cert.SwaBwdRefIdeal.main_arg2) = x ∧ V0 (Proc.devRef .tc Cert.SwaBwdRefIdeal.main_arg3) = s := by
  classical
  have ne : Nonempty (Valuation Cert.SwaBwdRefIdeal.τ Cert.SwaBwdRefIdeal.sig (Elt Ideal)) := inferInstance
  obtain ⟨W⟩ := ne
  refine ⟨Function.update (Function.update (Function.update W (Proc.devRef .tc Cert.SwaBwdRefIdeal.main_arg0) p) (Proc.devRef .tc Cert.SwaBwdRefIdeal.main_arg2) x) (Proc.devRef .tc Cert.SwaBwdRefIdeal.main_arg3) s, ?_, ?_, ?_⟩
  · rw [Function.update_of_ne (by decide), Function.update_of_ne (by decide), Function.update_self]
  · rw [Function.update_of_ne (by decide), Function.update_self]
  · rw [Function.update_self]

/-- A device's positions. -/
def posm (m : (ℓ : Loc nD τ sig) → Buf (Elt Ideal) ℓ) (c : Dev nD) (r : Fin 4096) : BitVec 32 := m ((c.tc : Thread nD τ).loc main_arg1) (ix1 r)

variable (V0 : Valuation Cert.SwaBwdRefIdeal.τ Cert.SwaBwdRefIdeal.sig (Elt Ideal))

/-- The result from the gradient's probabilities and values. -/
def fin : FVec Ideal S4096x768 .bf16 :=
  truncf .bf16 (shapeCast S4096x768 (shapeCast S1x4096x768 (transpose S1x32x128x2x3x128 [0, 1, 5, 2, 4, 3] (Host.dotGeneral (φ₁ := .f32) (φ₂ := .f32) dot_S1x32x256x2x128_S1x32x2x3x128x256_S1x32x2x128x3x128_2_5_4_34_013_012 none
      (Cert.SwaBwdRefIdeal.Value.res_main_v70 V0) (Cert.SwaBwdRefIdeal.Value.res_main_v137 V0)) transposes_S1x32x2x128x3x128_S1x32x128x2x3x128_0_1_5_2_4_3) shapeCasts_S1x32x128x2x3x128_S1x4096x768) shapeCasts_S1x4096x768_S4096x768) bitsLt_bf16_f32

theorem key (m : (ℓ : Loc nD τ sig) → Buf (Elt Ideal) ℓ) (c : Dev nD) (p : S4096x4876.Idx → EReal) (x : S4096.Idx → BitVec 32) (s : S6.Idx → EReal)
    (h0 : m ((c.tc : Thread nD τ).loc main_arg0) = p) (h1 : m ((c.tc : Thread nD τ).loc main_arg1) = x) (h2 : m ((c.tc : Thread nD τ).loc main_arg2) = s)
    (g0 : V0 (Proc.devRef .tc Cert.SwaBwdRefIdeal.main_arg0) = p) (g1 : V0 (Proc.devRef .tc Cert.SwaBwdRefIdeal.main_arg2) = x) (g2 : V0 (Proc.devRef .tc Cert.SwaBwdRefIdeal.main_arg3) = s) :
    res_main_v123 m c = fin V0 := by
  unfold res_main_v123
  rw [h0, h1, h2]
  unfold fin
  simp only [Cert.SwaBwdRefIdeal.Value.res_main_v16, Cert.SwaBwdRefIdeal.Value.res_main_v19, Cert.SwaBwdRefIdeal.Value.res_main_v20, Cert.SwaBwdRefIdeal.Value.res_main_v27, Cert.SwaBwdRefIdeal.Value.res_main_v28, Cert.SwaBwdRefIdeal.Value.res_main_v29, Cert.SwaBwdRefIdeal.Value.res_main_v41, Cert.SwaBwdRefIdeal.Value.res_main_v42, Cert.SwaBwdRefIdeal.Value.res_main_v43, Cert.SwaBwdRefIdeal.Value.res_main_v56, Cert.SwaBwdRefIdeal.Value.res_main_v60, Cert.SwaBwdRefIdeal.Value.res_main_v63, Cert.SwaBwdRefIdeal.Value.res_main_v67, Cert.SwaBwdRefIdeal.Value.res_main_v70, Cert.SwaBwdRefIdeal.Value.res_main_v78, Cert.SwaBwdRefIdeal.Value.res_main_v83, Cert.SwaBwdRefIdeal.Value.res_main_v104_1, Cert.SwaBwdRefIdeal.Value.res_main_v108, Cert.SwaBwdRefIdeal.Value.res_main_v109, Cert.SwaBwdRefIdeal.Value.res_main_v129, Cert.SwaBwdRefIdeal.Value.res_main_v131, Cert.SwaBwdRefIdeal.Value.res_main_v137]
  rw [g0, g1, g2]
  rfl

theorem fin_eq (p : Fin 4096 → Fin 4876 → ℝ) (s : Fin 6 → ℝ) (h0 : V0 (Proc.devRef .tc Cert.SwaBwdRefIdeal.main_arg0) = upf p) (h3 : V0 (Proc.devRef .tc Cert.SwaBwdRefIdeal.main_arg3) = fun i => ((s (i 0) : ℝ) : EReal)) :
    fin V0 = (upf (out p s (posv V0)) : S4096x768.Idx → EReal) := by
  have e1 := v137_at V0 p s h0 h3
  have e2 := v70_at V0 p h0
  unfold fin
  generalize Cert.SwaBwdRefIdeal.Value.res_main_v137 V0 = Y at e1 ⊢
  generalize Cert.SwaBwdRefIdeal.Value.res_main_v70 V0 = X at e2 ⊢
  refine eq_upf fun r j => ?_
  pointwise
  simp only [e1, e2, ← EReal.coe_mul, coe_sum]
  refine congrArg Real.toEReal (Eq.trans (Finset.sum_congr rfl fun i _ => ?_) (att_congr _ _ _ (fun i e => Kz_eq p _ _ _ i e) (fun i e => Vz_eq p _ _ i e) _ _ _))
  exact mul_comm _ _

theorem run (m : (ℓ : Loc nD τ sig) → Buf (Elt Ideal) ℓ) (ρ : Dev nD → PrngReg) (p : Dev nD → Fin 4096 → Fin 4876 → ℝ) (s : Dev nD → Fin 6 → ℝ)
    (hp : ∀ c : Dev nD, m ((c : Thread nD τ).loc main_arg0) = upf (p c)) (hs : ∀ c : Dev nD, m ((c : Thread nD τ).loc main_arg2) = fun i => ((s c (i 0) : ℝ) : EReal)) :
    θ_run defs (onTc (τ := τ) (main (F := Ideal))) ⟨m, fun _ => 0, ρ⟩ fun r => ∀ c : Dev nD,
      r.2.mem ((c.tc : Thread nD τ).loc main_v123) = (upf (out (p c) (s c) (posm m c)) : S4096x768.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  clear h
  obtain ⟨x, h1⟩ : ∃ x : S4096.Idx → BitVec 32, m ((c.tc : Thread nD τ).loc main_arg1) = x := ⟨_, rfl⟩
  obtain ⟨V0, g0, g1, g2⟩ := args (upf (p c)) x (fun i => ((s c (i 0) : ℝ) : EReal))
  have hx : posv V0 = posm m c := funext fun r => (congrFun g1 (ix1 r)).trans (congrFun h1 (ix1 r)).symm
  rw [key V0 m c _ _ _ (hp c) h1 (hs c) g0 g1 g2, fin_eq V0 (p c) (s c) g0 g2, hx]

end Cert.SwaFwdRefIdeal.Real

end
-- ==== Proof.SwaFwdClaim.lean ====
/- The claims about `swa_fwd`. -/
module

public import proofs.«01_k».proof.Defs
public import proofs.«01_k».proof.Proof.SwaFwd
public import proofs.«01_k».proof.Proof.SwaFwdRef
public import proofs.«01_k».proof.Proof.SwaBwdClaim
public import proofs.«01_k».proof.Proof.Gen.SwaFwd.Frame
public import proofs.«01_k».proof.Proof.Gen.Pre_swa_fwd_finite

@[expose] public section

set_option maxRecDepth 16384

noncomputable section

namespace Cert.Proof.SwaFwd

open Idealize.ShloMosaic Idealize.SL.Sem Idealize.ShloMosaic.TcCoe Cert.RealLift Cert.Swa
open Cert.Proof.SwaBwd (one two)

theorem lifts (p : FVec Ideal Cert.Pre_swa_fwd_finite.S4096x4876 .f32) (x : IVec Cert.Pre_swa_fwd_finite.S4096 32) (s : FVec Ideal Cert.Pre_swa_fwd_finite.S6 .f32)
    (h : Cert.Pre_swa_fwd_finite.fn (F := Ideal) p x s = fun _ => 1#1) : IsLift p ∧ IsLift s := by
  obtain ⟨h1, h2⟩ := and_one h
  exact ⟨lift_of_all p _ _ _ _ h1, lift_of_all s _ _ _ _ h2⟩

theorem q1 : quiescent_SwaFwd := fun m g _ => Cert.SwaFwd.Gen.frame m g
theorem q2 : quiescent_SwaFwdIdeal := fun m g _ => Cert.SwaFwdIdeal.Gen.frame m g
theorem q3 : quiescent_SwaFwdIdeal_pre_swa_fwd_finite := fun m g _ => Cert.SwaFwdIdeal.Gen.frame m g
theorem q4 : quiescent_SwaFwdRefIdeal := fun m g _ =>
  (θ_run _ _ _).mono (fun r h => And.intro (fun c => (h c).2) (sem_eq_zero_of_no_sems (by decide) r.2)) (Cert.SwaFwdRefIdeal.Value.run (F := Ideal) m g)
theorem q5 : quiescent_SwaFwdRefIdeal_pre_swa_fwd_finite := fun m g _ => q4 m g trivial
theorem kept : preserves_SwaFwd_SwaFwdIdeal := IdealRules.named_const.statement _ _ _ _ _ rfl

theorem value : algebraic_SwaFwdIdeal_SwaFwdRefIdeal_pre_swa_fwd_finite := by
  intro m g m' g' hpre hag
  choose p hp using fun c => (lifts _ _ _ (hpre c)).1
  choose s hs using fun c => (lifts _ _ _ (hpre c)).2
  refine ⟨_, ?_, Cert.SwaFwdRefIdeal.Real.run m' g' (fun c i j => p c (ix2 i j)) (fun c i => s c (ix1 i))
    (fun c => (hag c).1.trans (two (hp c))) (fun c => (hag c).2.2.trans (one (hs c)))⟩
  have hx : ∀ c : Dev Cert.SwaFwdIdeal.nD, Cert.SwaFwdRefIdeal.Real.posm m' c = Cert.SwaFwdIdeal.Real.posn m c :=
    fun c => funext fun r => congrFun (hag c).2.1 (ix1 r)
  refine (θ_run _ _ _).mono (fun r h c => ⟨(h c).1.trans ?_, (h c).2⟩) (Cert.SwaFwdIdeal.Value.run_blocks (F := Ideal) m g)
  have e := hx c
  exact (Cert.SwaFwdIdeal.Real.arr10 m c _ _ (two (hp c)) (one (hs c))).trans (by rw [e])

end Cert.Proof.SwaFwd

end
-- ==== Proof.PoolFwd.lean ====
/- The pooling's forward array over the reals: a tile's payload by the gradient's own, and what the run leaves. -/
module

public import proofs.«01_k».proof.Proof.PoolOps
public import proofs.«01_k».proof.Proof.Gen.PoolFwdIdeal.Value
public import Idealize.ShloMosaic.Lib.StableHlo.ReadAt

@[expose] public section

set_option maxRecDepth 16384

noncomputable section

namespace Cert.PoolFwdIdeal.Real

open Idealize.ShloMosaic Idealize.ShloMosaic.WordCmp Cert.RealLift Cert.PoolFwdIdeal Cert.PoolFwdIdeal.Gen Cert.Pool Cert.Swa Idealize.SL.Sem Idealize.ShloMosaic.TcCoe
open Cert.PoolBwdIdeal.Real (hB xB wB sB gr pay6_at)

variable (m : (ℓ : Loc nD τ sig) → Buf (Elt Ideal) ℓ) (c : Dev nD)
variable (p : Fin 4096 → Fin 4876 → ℝ) (w : Fin 4 → Fin 128 → Fin 128 → ℝ) (s : Fin 512 → ℝ)
variable (hp : m ((c : Thread nD τ).loc main_arg0) = upf p)
variable (hw : m ((c : Thread nD τ).loc main_arg1) = fun j => ((w (j 0) (j 1) (j 2) : ℝ) : EReal))
variable (hs : m ((c : Thread nD τ).loc main_arg2) = fun i => ((s (i 0) : ℝ) : EReal))

/-- The gradient's grid point of the same group and tile: there the group comes first. -/
def sw (i : grid0.Coords) : Cert.PoolBwdIdeal.grid0.Coords := fun a => match a with | 0 => i 1 | 1 => i 0

/-- The pooled row. -/
def pooled (g : Fin 4) (b : Fin 128) (n : ℕ) : ℝ := (∑ l, mean p g l n * w g l b) * Sc s g b

theorem pay1_at (i : grid0.Coords) (r : Fin 512) (b : Fin 128) :
    k0_pay1 (F := Ideal) (k0_pay2 i (hB p (sw i)) (xB p (sw i))) (k0_pay3 i (hB p (sw i)) (xB p (sw i))) (k0_pay4 i) (k0_pay5 i) (wB w (sw i)) (sB s (sw i)) (ix2 r b)
      = ((pooled p w s (gr (sw i)) b (512 * (i 0).val + r.val) : ℝ) : EReal) := by
  have e := pay6_at p (sw i)
  have e1 : k0_pay1 (F := Ideal) (k0_pay2 i (hB p (sw i)) (xB p (sw i))) (k0_pay3 i (hB p (sw i)) (xB p (sw i))) (k0_pay4 i) (k0_pay5 i) (wB w (sw i)) (sB s (sw i))
      = truncf .bf16 (mulf (matmul dot_S512x128_S128x128_S512x128_1_0_0_1_n_n none (truncf .bf16 (Cert.PoolBwdIdeal.Gen.k0_pay6 (F := Ideal) (Cert.PoolBwdIdeal.Gen.k0_pay2 (sw i) (hB p (sw i)) (xB p (sw i)))
          (Cert.PoolBwdIdeal.Gen.k0_pay3 (sw i) (hB p (sw i)) (xB p (sw i))) (Cert.PoolBwdIdeal.Gen.k0_pay4 (sw i)) (Cert.PoolBwdIdeal.Gen.k0_pay5 (sw i)) : FVec Ideal S512x128 .f32) bitsLt_bf16_f32)
        (truncf .bf16 (shapeCast S128x128 (wB w (sw i) : FVec Ideal S1x128x128 .f32) shapeCasts_S1x128x128_S128x128) bitsLt_bf16_f32) (constant S512x128 .f32 0x00000000#32))
        (broadcastTo S512x128 (shapeCast S1x128 (sB s (sw i) : FVec Ideal S1x128 .f32) shapeCasts_S1x128_S1x128) broadcasts_S1x128_S512x128)) bitsLt_bf16_f32 := rfl
  rw [e1]
  generalize Cert.PoolBwdIdeal.Gen.k0_pay6 (F := Ideal) (Cert.PoolBwdIdeal.Gen.k0_pay2 (sw i) (hB p (sw i)) (xB p (sw i))) (Cert.PoolBwdIdeal.Gen.k0_pay3 (sw i) (hB p (sw i)) (xB p (sw i)))
    (Cert.PoolBwdIdeal.Gen.k0_pay4 (sw i)) (Cert.PoolBwdIdeal.Gen.k0_pay5 (sw i)) = x at e ⊢
  pointwise
  simp only [e]
  simp only [wB, sB, upf, ← EReal.coe_mul, coe_sum]
  rfl

include hp in
theorem v7 (r : Fin 4096) (j : Fin 4992) (h : 4352 ≤ j.val) (h' : j.val < 4864) : (V m c main_v7 : S4096x4992.Idx → EReal) (ix2 r j) = ((p r ⟨j.val - 1268, by omega⟩ : ℝ) : EReal) := by
  unfold V
  after_reads_at
  rw [dif_neg (by omega), dif_neg (by omega), dif_neg (by omega), dif_neg (by omega), dif_pos (by omega)]
  refine (congrFun (StableHlo.unary_result' _ _ _ _) _).trans ?_
  after_reads_at
  have e : ∀ k : Fin 4876, k.val = j.val - 1268 → (m ((c : Thread nD τ).loc main_arg0) : S4096x4876.Idx → EReal) (ix2 r k) = ((p r ⟨j.val - 1268, by omega⟩ : ℝ) : EReal) := fun k hk => by
    rw [hp]
    exact congrArg (fun k => ((p r k : ℝ) : EReal)) (Fin.ext hk)
  refine e _ ?_
  dsimp only
  omega

theorem co (t : Fin cfg0.N) : ((grid0.coords t) 0).val = t.val / 4 ∧ ((grid0.coords t) 1).val = t.val % 4 :=
  (by decide +kernel : ∀ t : Fin grid0.N, ((grid0.coords t) 0).val = t.val / 4 ∧ ((grid0.coords t) 1).val = t.val % 4) t

theorem idx0 (t : Fin cfg0.N) : win0_0.index t = ![t.val / 4, 34 + t.val % 4] ∧ win0_1.index t = ![32 * (t.val / 4) - 1, 34 + t.val % 4] ∧ win0_2.index t = ![t.val % 4, 0, 0]
    ∧ win0_3.index t = ![0, t.val % 4] ∧ win0_4.index t = ![t.val / 4, t.val % 4] :=
  (by decide +kernel : ∀ t : Fin grid0.N, win0_0.index t = ![t.val / 4, 34 + t.val % 4] ∧ win0_1.index t = ![32 * (t.val / 4) - 1, 34 + t.val % 4] ∧ win0_2.index t = ![t.val % 4, 0, 0]
    ∧ win0_3.index t = ![0, t.val % 4] ∧ win0_4.index t = ![t.val / 4, t.val % 4]) t

theorem t32 (t : Fin cfg0.N) : t.val < 32 := t.isLt

/-- A grid point's rows and columns, in the arrays. -/
def rw0 (t : Fin cfg0.N) (r : Fin 512) : Fin 4096 := ⟨512 * (t.val / 4) + r.val, by have := t32 t; omega⟩
def rw1 (t : Fin cfg0.N) (r : Fin 16) : Fin 4096 := ⟨16 * (32 * (t.val / 4) - 1) + r.val, by have := t32 t; omega⟩
def cx (t : Fin cfg0.N) (a : Fin 128) : Fin 4992 := ⟨128 * (34 + t.val % 4) + a.val, by omega⟩
def cs (t : Fin cfg0.N) (a : Fin 128) : Fin 512 := ⟨128 * (t.val % 4) + a.val, by omega⟩
def gq (t : Fin cfg0.N) : Fin 4 := ⟨t.val % 4, by omega⟩

theorem gr_eq (t : Fin cfg0.N) : gr (sw (grid0.coords t)) = gq t := Fin.ext (co t).2

/-- The inputs by their rows and columns. -/
theorem X_eq (t : Fin cfg0.N) (n : Fin 4096) (a : Fin 128) (k : Fin 4876) (hk : k.val = (cx t a).val - 1268) : X p (gr (sw (grid0.coords t))) a n.val = p n k := by
  rw [gr_eq]
  unfold X
  rw [dif_pos n.isLt]
  refine congrArg (p n) (Fin.ext ?_)
  rw [hk]
  show 3084 + 128 * (t.val % 4) + a.val = 128 * (34 + t.val % 4) + a.val - 1268
  omega

include hp in
theorem blk_x (t : Fin cfg0.N) : iblk m c 0 t = xB p (sw (grid0.coords t)) := by
  funext i
  have ht := t32 t
  have : iblk m c 0 t i = V m c main_v7 (ix2 (rw0 t (i 0)) (cx t (i 1))) := by blk_ext [iblk, idx0 t, rw0, cx]
  idx_vars i
  refine this.trans ((v7 m c p hp _ _ (by show 4352 ≤ 128 * (34 + t.val % 4) + i1.val; omega) (by show 128 * (34 + t.val % 4) + i1.val < 4864; omega)).trans (congrArg Real.toEReal ?_))
  refine (X_eq p t (rw0 t i0) i1 _ rfl).symm.trans (congrArg _ ?_)
  show 512 * (t.val / 4) + i0.val = 512 * (grid0.coords t 0).val + i0.val
  rw [(co t).1]

include hp in
theorem blk_h (t : Fin cfg0.N) : iblk m c 1 t = hB p (sw (grid0.coords t)) := by
  funext i
  have ht := t32 t
  have : iblk m c 1 t i = V m c main_v7 (ix2 (rw1 t (i 0)) (cx t (i 1))) := by blk_ext [iblk, idx0 t, rw1, cx]
  idx_vars i
  refine this.trans ((v7 m c p hp _ _ (by show 4352 ≤ 128 * (34 + t.val % 4) + i1.val; omega) (by show 128 * (34 + t.val % 4) + i1.val < 4864; omega)).trans (congrArg Real.toEReal ?_))
  refine (X_eq p t (rw1 t i0) i1 _ rfl).symm.trans (congrArg _ ?_)
  show 16 * (32 * (t.val / 4) - 1) + i0.val = 16 * (32 * (grid0.coords t 0).val - 1) + i0.val
  rw [(co t).1]

include hw in
theorem blk_w (t : Fin cfg0.N) : iblk m c 2 t = wB w (sw (grid0.coords t)) := by
  funext i
  have ht := t32 t
  have : iblk m c 2 t i = m ((c : Thread nD τ).loc main_arg1) (ix3 (gq t) (i 1) (i 2)) := by blk_ext [iblk, V, idx0 t, gq]
  rw [this, hw]
  show ((w (gq t) (i 1) (i 2) : ℝ) : EReal) = ((w (gr (sw (grid0.coords t))) (i 1) (i 2) : ℝ) : EReal)
  rw [gr_eq]

include hs in
theorem blk_s (t : Fin cfg0.N) : iblk m c 3 t = sB s (sw (grid0.coords t)) := by
  funext i
  have ht := t32 t
  have : iblk m c 3 t i = V m c main_v8 (ix2 0 (cs t (i 1))) := by blk_ext [iblk, idx0 t, cs]
  rw [this]
  entry_read
  rw [hs]
  idx_vars i
  pointwise
  show _ = ((Sc s (gr (sw (grid0.coords t))) i1 : ℝ) : EReal)
  rw [gr_eq]
  rfl

/-- The result by its rows and columns. -/
def out (n : Fin 4096) (k : Fin 512) : ℝ := pooled p w s ⟨k.val / 128, by omega⟩ ⟨k.val % 128, by omega⟩ n.val

include hp hw hs in
theorem arr4 : (dats m 0 c).arrAt 4 cfg0.N = (upf (out p w s) : S4096x512.Idx → EReal) := by
  refine (dats m 0 c).arrAt_eq_of_covers 4 _ (by decide +kernel) fun t hf i => ?_
  blk_simp
  rw [after0_4]
  have key : out0_4 (grid0.coords t) (iblk m c 0 t) (iblk m c 1 t) (iblk m c 2 t) (iblk m c 3 t) = k0_pay1 (F := Ideal) (k0_pay2 (grid0.coords t) (iblk m c 1 t) (iblk m c 0 t))
      (k0_pay3 (grid0.coords t) (iblk m c 1 t) (iblk m c 0 t)) (k0_pay4 (grid0.coords t)) (k0_pay5 (grid0.coords t)) (iblk m c 2 t) (iblk m c 3 t) := by
    unfold out0_4; frame_out
  rw [key, blk_x m c p hp, blk_h m c p hp, blk_w m c w hw, blk_s m c s hs]
  idx_vars i
  have ht := t32 t
  have e : ((View.whole main_v9).slice (win0_4.rect t)).emb (ix2 i0 i1) = ix2 (rw0 t i0) (cs t i1) := by blk_ext [idx0 t, rw0, cs]
  have g : ∀ j : S4096x512.Idx, j = ix2 (rw0 t i0) (cs t i1) → ((pooled p w s (gr (sw (grid0.coords t))) i1 (512 * (grid0.coords t 0).val + i0.val) : ℝ) : EReal)
      = (upf (out p w s) : S4096x512.Idx → EReal) j := by
    rintro _ rfl
    show _ = ((pooled p w s ⟨(cs t i1).val / 128, _⟩ ⟨(cs t i1).val % 128, _⟩ (rw0 t i0).val : ℝ) : EReal)
    rw [gr_eq, (co t).1]
    congr 2
    · exact Fin.ext (by show t.val % 4 = (128 * (t.val % 4) + i1.val) / 128; omega)
    · exact Fin.ext (by show i1.val = (128 * (t.val % 4) + i1.val) % 128; omega)
  exact (pay1_at p w s (grid0.coords t) i0 i1).trans (g _ e)

end Cert.PoolFwdIdeal.Real

end
-- ==== Proof.PoolFwdRef.lean ====
/- The pooling of the reference over the reals. -/
module

public import proofs.«01_k».proof.Proof.PoolRef
public import proofs.«01_k».proof.Proof.PoolFwd
public import proofs.«01_k».proof.Proof.Gen.PoolFwdRefIdeal.Run

@[expose] public section

set_option maxRecDepth 16384

noncomputable section

namespace Cert.PoolFwdRefIdeal.Real

open Idealize.ShloMosaic Cert.RealLift Cert.PoolFwdRefIdeal Cert.PoolFwdRefIdeal.Gen Cert.PoolFwdRefIdeal.Value Cert.Pool Cert.Swa Idealize.SL.Sem Idealize.ShloMosaic.TcCoe StableHlo
open Cert.PoolFwdIdeal.Real (out pooled)
open Cert.PoolBwdRefIdeal.Real (window_sum cnt_at mean_of)

/-- The groups' inputs and their running sums, as the reference writes them. -/
def xg (x : S4096x4876.Idx → EReal) : S1x4096x4x128.Idx → EReal :=
  shapeCast S1x4096x4x128 (broadcastInDim S1x4096x512 ![1, 2] bcast_S4096x512_S1x4096x512_1_2 (extractStridedSlice S4096x512 ![0, 3084] x slices_S4096x4876_S4096x512_0_3084)) shapeCasts_S1x4096x512_S1x4096x4x128
def cum (y : S1x4096x4x128.Idx → EReal) : S1x4096x4x128.Idx → EReal :=
  Host.reduceWindowAdd (F := Ideal) (φ := .f32) ![1, 4096, 1, 1] ![1, 1, 1, 1] ![0, 4095, 0, 0] ![0, 0, 0, 0] y (broadcastInDim S_ ![] bcast_S_S_ (constant S_ .f32 0x00000000#32))
    reduceWindows_S1x4096x4x128_S1x4096x4x128_w1s1p0_0_w4096s1p4095_0_w1s1p0_0_w1s1p0_0 h_S_

variable (p : Fin 4096 → Fin 4876 → ℝ) (w : Fin 4 → Fin 128 → Fin 128 → ℝ) (s : Fin 512 → ℝ)

theorem xg_at (n : Fin 4096) (g : Fin 4) (a : Fin 128) : xg (upf p) (ix4 0 n g a) = ((X p g a n.val : ℝ) : EReal) := by
  unfold xg
  pointwise
  unfold X
  rw [dif_pos n.isLt]
  refine congrArg (fun k => ((p n k : ℝ) : EReal)) (Fin.ext ?_)
  show 3084 + (g.val * 128 + a.val) = 3084 + 128 * g.val + a.val
  omega

theorem cum_at (n : Fin 4096) (g : Fin 4) (a : Fin 128) : cum (xg (upf p)) (ix4 0 n g a) = ((∑ k ∈ Finset.range (n.val + 1), X p g a k : ℝ) : EReal) := by
  have e := xg_at p
  unfold cum
  generalize xg (upf p) = x at e
  refine (window_sum 4095 0 x _ (fun _ => by pointwise) (fun n g a => X p g a n) e _ _ n g a).trans (congrArg Real.toEReal ?_)
  have hn := n.isLt
  rw [← Finset.sum_filter]
  refine Finset.sum_bij' (fun k _ => n.val + k - 4095) (fun k _ => k + 4095 - n.val) (fun k h => ?_) (fun k h => ?_) (fun k h => ?_) (fun k h => ?_) (fun k h => rfl) <;>
    simp only [Finset.mem_filter, Finset.mem_range] at h ⊢ <;> omega

theorem run (m : (ℓ : Loc nD τ sig) → Buf (Elt Ideal) ℓ) (ρ : Dev nD → PrngReg)
    (p : Dev nD → Fin 4096 → Fin 4876 → ℝ) (w : Dev nD → Fin 4 → Fin 128 → Fin 128 → ℝ) (s : Dev nD → Fin 512 → ℝ)
    (hp : ∀ c : Dev nD, m ((c : Thread nD τ).loc main_arg0) = upf (p c))
    (hw : ∀ c : Dev nD, m ((c : Thread nD τ).loc main_arg1) = fun j => ((w c (j 0) (j 1) (j 2) : ℝ) : EReal))
    (hs : ∀ c : Dev nD, m ((c : Thread nD τ).loc main_arg2) = fun i => ((s c (i 0) : ℝ) : EReal)) :
    θ_run defs (onTc (τ := τ) (main (F := Ideal))) ⟨m, fun _ => 0, ρ⟩ fun r => ∀ c : Dev nD,
      r.2.mem ((c.tc : Thread nD τ).loc main_v85) = (upf (out (p c) (w c) (s c)) : S4096x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  clear h
  unfold res_main_v85
  rw [hp c, hw c, hs c]
  have e2 := xg_at (p c)
  have e3 := cum_at (p c)
  unfold cum at e3
  unfold xg at e2 e3
  generalize (shapeCast S1x4096x4x128 (broadcastInDim S1x4096x512 ![1, 2] bcast_S4096x512_S1x4096x512_1_2 (extractStridedSlice S4096x512 ![0, 3084] (upf (p c)) slices_S4096x4876_S4096x512_0_3084)) shapeCasts_S1x4096x512_S1x4096x4x128 : S1x4096x4x128.Idx → EReal) = x2 at e2 e3 ⊢
  generalize (Host.reduceWindowAdd (F := Ideal) (φ := .f32) ![1, 4096, 1, 1] ![1, 1, 1, 1] ![0, 4095, 0, 0] ![0, 0, 0, 0] x2 (broadcastInDim S_ ![] bcast_S_S_ (constant S_ .f32 0x00000000#32))
    reduceWindows_S1x4096x4x128_S1x4096x4x128_w1s1p0_0_w4096s1p4095_0_w1s1p0_0_w1s1p0_0 h_S_ : S1x4096x4x128.Idx → EReal) = x3 at e3 ⊢
  funext i
  idx_vars i
  pointwise
  have G : ∀ (g : Fin 4) (k : Fin 128) (z : EReal), z = ((mean (p c) g k i0.val : ℝ) : EReal) → i1.val / 128 = g.val → z = ((mean (p c) ⟨i1.val / 128, by omega⟩ k i0.val : ℝ) : EReal) := fun g k z hz hg => by
    rw [hz]
    exact congrArg (fun g => ((mean (p c) g k i0.val : ℝ) : EReal)) (Fin.ext hg.symm)
  let y : BitVec 32 → S1x4096x1.Idx → EReal := fun b j => FloatOps.sitofp (F := Ideal) .f32 (IntOp.minsi (IntOp.addi (BitVec.ofNat 32 (j 1).val) 1#32) b)
  refine (congrArg (· * ((s c i1 : ℝ) : EReal)) (Finset.sum_congr rfl fun k _ => congrArg (_ * ·) (?_ : _ = ((mean (p c) ⟨i1.val / 128, by omega⟩ k i0.val : ℝ) : EReal)))).trans ?_
  · by_cases h0 : i1.val / 128 < 1
    · rw [dif_pos h0]
      exact G 0 k _ (mean_of (p c) i0 0 k x2 x3 (y 2#32) e2 e3 (fun n => cnt_at 0 n _ rfl) _ rfl) (by show _ = 0; omega)
    rw [dif_neg h0]
    by_cases h1 : i1.val / 128 - 1 < 1
    · rw [dif_pos h1]
      exact G 1 k _ (mean_of (p c) i0 1 k x2 x3 (y 4#32) e2 e3 (fun n => cnt_at 1 n _ rfl) _ rfl) (by show _ = 1; omega)
    rw [dif_neg h1]
    by_cases h2 : i1.val / 128 - 1 - 1 < 1
    · rw [dif_pos h2]
      exact G 2 k _ (mean_of (p c) i0 2 k x2 x3 (y 8#32) e2 e3 (fun n => cnt_at 2 n _ rfl) _ rfl) (by show _ = 2; omega)
    rw [dif_neg h2]
    exact G 3 k _ (mean_of (p c) i0 3 k x2 x3 (y 16#32) e2 e3 (fun n => cnt_at 3 n _ rfl) _ rfl) (by show _ = 3; omega)
  · simp only [← EReal.coe_mul, coe_sum]
    refine congrArg Real.toEReal ?_
    show _ = (∑ l, mean (p c) ⟨i1.val / 128, _⟩ l i0.val * w c ⟨i1.val / 128, _⟩ l ⟨i1.val % 128, _⟩) * s c ⟨128 * (i1.val / 128) + i1.val % 128, _⟩
    refine congrArg₂ (· * ·) (Finset.sum_congr rfl fun k _ => mul_comm _ _) (congrArg (s c) (Fin.ext ?_))
    show i1.val = 128 * (i1.val / 128) + i1.val % 128
    omega

end Cert.PoolFwdRefIdeal.Real

end
-- ==== Proof.PoolFwdClaim.lean ====
/- The claims about `pool_fwd`. -/
module

public import proofs.«01_k».proof.Defs
public import proofs.«01_k».proof.Proof.PoolFwdRef
public import proofs.«01_k».proof.Proof.PoolBwdClaim
public import proofs.«01_k».proof.Proof.Gen.PoolFwd.Frame
public import proofs.«01_k».proof.Proof.Gen.Pre_pool_fwd_finite

@[expose] public section

set_option maxRecDepth 16384

noncomputable section

namespace Cert.Proof.PoolFwd

open Idealize.ShloMosaic Idealize.SL.Sem Idealize.ShloMosaic.TcCoe Cert.RealLift Cert.Swa Cert.Proof.PoolBwd

theorem lifts (p : FVec Ideal Cert.Pre_pool_fwd_finite.S4096x4876 .f32) (w : FVec Ideal Cert.Pre_pool_fwd_finite.S4x128x128 .f32) (s : FVec Ideal Cert.Pre_pool_fwd_finite.S512 .f32)
    (h : Cert.Pre_pool_fwd_finite.fn (F := Ideal) p w s = fun _ => 1#1) : IsLift p ∧ IsLift w ∧ IsLift s := by
  obtain ⟨h12, h3⟩ := and_one h
  obtain ⟨h1, h2⟩ := and_one h12
  exact ⟨lift_of_all p _ _ _ _ h1, lift_of_all w _ _ _ _ h2, lift_of_all s _ _ _ _ h3⟩

theorem q1 : quiescent_PoolFwd := fun m g _ => Cert.PoolFwd.Gen.frame m g
theorem q2 : quiescent_PoolFwdIdeal := fun m g _ => Cert.PoolFwdIdeal.Gen.frame m g
theorem q3 : quiescent_PoolFwdIdeal_pre_pool_fwd_finite := fun m g _ => Cert.PoolFwdIdeal.Gen.frame m g
theorem q4 : quiescent_PoolFwdRefIdeal := fun m g _ =>
  (θ_run _ _ _).mono (fun r h => And.intro (fun c => (h c).2) (sem_eq_zero_of_no_sems (by decide) r.2)) (Cert.PoolFwdRefIdeal.Value.run (F := Ideal) m g)
theorem q5 : quiescent_PoolFwdRefIdeal_pre_pool_fwd_finite := fun m g _ => q4 m g trivial

theorem value : algebraic_PoolFwdIdeal_PoolFwdRefIdeal_pre_pool_fwd_finite := by
  intro m g m' g' hpre hag
  choose p hp using fun c => (lifts _ _ _ (hpre c)).1
  choose w hw using fun c => (lifts _ _ _ (hpre c)).2.1
  choose s hs using fun c => (lifts _ _ _ (hpre c)).2.2
  refine ⟨_, ?_, Cert.PoolFwdRefIdeal.Real.run m' g' (fun c i j => p c (ix2 i j)) (fun c i j k => w c (ix3 i j k)) (fun c i => s c (ix1 i))
    (fun c => (hag c).1.trans (two (hp c))) (fun c => (hag c).2.1.trans (three (hw c))) (fun c => (hag c).2.2.trans (one (hs c)))⟩
  refine (θ_run _ _ _).mono (fun r h c => ?_) (Cert.PoolFwdIdeal.Value.run_blocks (F := Ideal) m g)
  exact ⟨(h c).1.trans (Cert.PoolFwdIdeal.Real.arr4 m c _ _ _ (two (hp c)) (three (hw c)) (one (hs c))), (h c).2⟩

end Cert.Proof.PoolFwd

end
-- ==== Proof.GluFwd.lean ====
/- The feed-forward convolution and gate: what a trip of the kernel's loop stores, what a grid point leaves, and the whole array. -/
module

public import proofs.«01_k».proof.Proof.Gen.GluFwdIdeal.Value
public import Idealize.ShloMosaic.Lib.Pipeline.ValueKit
public import Idealize.ShloMosaic.Lib.Pipeline.ReadBack
public import Idealize.ShloMosaic.Lib.Routing.OpsSet
public import Idealize.ShloMosaic.Lib.StableHlo.ReadAt

@[expose] public section

set_option maxRecDepth 16384

noncomputable section

namespace Cert.GluFwdIdeal.Real

open Idealize.ShloMosaic Cert.GluFwdIdeal Cert.GluFwdIdeal.Gen Idealize.SL.Sem Idealize.ShloMosaic.TcCoe

/-- The gate of two numbers. -/
def gate (a b : EReal) : EReal := a * Ideal.logistic a * b

/-- Three taps and a bias. -/
def taps (w0 w1 w2 x0 x1 x2 b : EReal) : EReal := w0 * x0 + w1 * x1 + w2 * x2 + b

/-- A tile of 128 lanes from lane o on, from the rows read for it. -/
def tl (o : ℕ) (hw : S2x3x1408.Slices ![0, 0, o] S2x3x128) (hb : S2x1x1408.Slices ![0, 0, o] S2x1x128) (w : FVec Ideal S2x3x1408 .f32) (b : FVec Ideal S2x1x1408 .f32) (v : FVec Ideal S2x136x128 .f32) : FVec Ideal S128x128 .bf16 :=
  k0_pay5 (extractStridedSlice S2x3x128 ![0, 0, o] w hw) (extractStridedSlice S2x1x128 ![0, 0, o] b hb)
    (extractStridedSlice S2x128x128 ![0, 8, 0] v slices_S2x136x128_o0_8_0_S2x128x128)
    (addf (mulf (broadcastTo S2x128x128 (extractStridedSlice S2x1x128 ![0, 0, 0] (extractStridedSlice S2x3x128 ![0, 0, o] w hw) slices_S2x3x128_o0_0_0_S2x1x128) broadcasts_S2x1x128_S2x128x128)
        (extractStridedSlice S2x128x128 ![0, 6, 0] v slices_S2x136x128_o0_6_0_S2x128x128))
      (mulf (broadcastTo S2x128x128 (extractStridedSlice S2x1x128 ![0, 1, 0] (extractStridedSlice S2x3x128 ![0, 0, o] w hw) slices_S2x3x128_o0_1_0_S2x1x128) broadcasts_S2x1x128_S2x128x128)
        (extractStridedSlice S2x128x128 ![0, 7, 0] v slices_S2x136x128_o0_7_0_S2x128x128)))

theorem tl_at (o : ℕ) (ho : o + 128 ≤ 1408) (hw : S2x3x1408.Slices ![0, 0, o] S2x3x128) (hb : S2x1x1408.Slices ![0, 0, o] S2x1x128) (w : FVec Ideal S2x3x1408 .f32) (b : FVec Ideal S2x1x1408 .f32) (v : FVec Ideal S2x136x128 .f32) (r d : Fin 128) :
    tl o hw hb w b v (ix2 r d)
      = gate (taps (w (ix3 0 0 ⟨o + d.val, by omega⟩)) (w (ix3 0 1 ⟨o + d.val, by omega⟩)) (w (ix3 0 2 ⟨o + d.val, by omega⟩)) (v (ix3 0 ⟨6 + r.val, by omega⟩ d)) (v (ix3 0 ⟨7 + r.val, by omega⟩ d)) (v (ix3 0 ⟨8 + r.val, by omega⟩ d)) (b (ix3 0 0 ⟨o + d.val, by omega⟩)))
        (taps (w (ix3 1 0 ⟨o + d.val, by omega⟩)) (w (ix3 1 1 ⟨o + d.val, by omega⟩)) (w (ix3 1 2 ⟨o + d.val, by omega⟩)) (v (ix3 1 ⟨6 + r.val, by omega⟩ d)) (v (ix3 1 ⟨7 + r.val, by omega⟩ d)) (v (ix3 1 ⟨8 + r.val, by omega⟩ d)) (b (ix3 1 0 ⟨o + d.val, by omega⟩))) := by
  pointwise [tl, k0_pay5]
  rfl

/-- A block of rows with the eight rows before it. -/
abbrev Rows := FVec Ideal S2x520x1408 .f32

/-- The gate's rows of a block. -/
def G (w : FVec Ideal S2x3x1408 .f32) (b : FVec Ideal S2x1x1408 .f32) (E : Rows) (y : S512x1408.Idx) : EReal :=
  gate (taps (w (ix3 0 0 (y 1))) (w (ix3 0 1 (y 1))) (w (ix3 0 2 (y 1))) (E (ix3 0 ⟨6 + (y 0).val, by have := (y 0).isLt; change (y 0).val < 512 at this; omega⟩ (y 1))) (E (ix3 0 ⟨7 + (y 0).val, by have := (y 0).isLt; change (y 0).val < 512 at this; omega⟩ (y 1))) (E (ix3 0 ⟨8 + (y 0).val, by have := (y 0).isLt; change (y 0).val < 512 at this; omega⟩ (y 1))) (b (ix3 0 0 (y 1))))
    (taps (w (ix3 1 0 (y 1))) (w (ix3 1 1 (y 1))) (w (ix3 1 2 (y 1))) (E (ix3 1 ⟨6 + (y 0).val, by have := (y 0).isLt; change (y 0).val < 512 at this; omega⟩ (y 1))) (E (ix3 1 ⟨7 + (y 0).val, by have := (y 0).isLt; change (y 0).val < 512 at this; omega⟩ (y 1))) (E (ix3 1 ⟨8 + (y 0).val, by have := (y 0).isLt; change (y 0).val < 512 at this; omega⟩ (y 1))) (b (ix3 1 0 (y 1))))

theorem piece (k o : ℕ) (hk : k < 4) (ho : o + 128 ≤ 1408) (hw : S2x3x1408.Slices ![0, 0, o] S2x3x128) (hb : S2x1x1408.Slices ![0, 0, o] S2x1x128) (w : FVec Ideal S2x3x1408 .f32) (b : FVec Ideal S2x1x1408 .f32)
    (arg7 : Memref sig .tc .vmem S2x520x1408 .f32) (X : BufTy.Contents (Elt Ideal) arg7.view.ty) (off1 : Fin 3 → ℕ) (off2 : Fin 2 → ℕ) (h1 : ∀ a, off1 a + S2x136x128.size a ≤ S2x520x1408.size a) (h2 : ∀ a, off2 a + S128x128.size a ≤ S512x1408.size a)
    (e1 : off1 = ![0, 128 * k, o]) (e2 : off2 = ![128 * k, o]) (x : S128x128.Idx) :
    tl o hw hb w b (View.readAt (Elt Ideal) arg7.view (Rect.unit (s := S2x520x1408) off1 S2x136x128.size h1).toLoadRect X) x
      = G w b (arg7.view.read (Elt Ideal) X) ((Rect.unit (s := S512x1408) off2 S128x128.size h2).emb x) := by
  subst e1 e2
  idx_vars x
  refine (tl_at o ho hw hb w b _ x0 x1).trans ?_
  have q : ∀ (h : Fin 2) (z : ℕ) (hz : z + x0.val < 136) (z' : Fin 520) (hz' : z'.val = z + (128 * k + x0.val)) (l : Fin 1408) (hl : l.val = o + x1.val),
      View.readAt (Elt Ideal) arg7.view (Rect.unit (s := S2x520x1408) ![0, 128 * k, o] S2x136x128.size h1).toLoadRect X (ix3 h ⟨z + x0.val, hz⟩ x1) = arg7.view.read (Elt Ideal) X (ix3 h z' l) := by
    intro h z hz z' hz' l hl
    refine congrArg (arg7.view.read (Elt Ideal) X) (funext fun a => Fin.ext ?_)
    match a with
    | ⟨0, _⟩ => show 0 + 1 * h.val = h.val; omega
    | ⟨1, _⟩ => show 128 * k + 1 * (z + x0.val) = z'.val; omega
    | ⟨2, _⟩ => show o + 1 * x1.val = l.val; omega
  have ey0 : (((Rect.unit (s := S512x1408) ![128 * k, o] S128x128.size h2).emb (ix2 x0 x1)) 0).val = 128 * k + x0.val := by show 128 * k + 1 * x0.val = _; omega
  have ey1 : (⟨o + x1.val, by omega⟩ : Fin 1408) = ((Rect.unit (s := S512x1408) ![128 * k, o] S128x128.size h2).emb (ix2 x0 x1)) 1 := Fin.ext (by show o + x1.val = o + 1 * x1.val; omega)
  generalize (Rect.unit (s := S512x1408) ![128 * k, o] S128x128.size h2).emb (ix2 x0 x1) = y at ey0 ey1 ⊢
  have hy := congrArg Fin.val ey1
  have hy' : (y 1).val = o + x1.val := hy.symm
  unfold G
  rw [ey1, q 0 6 _ ⟨6 + (y 0).val, by omega⟩ (by show 6 + (y 0).val = _; omega) (y 1) hy', q 0 7 _ ⟨7 + (y 0).val, by omega⟩ (by show 7 + (y 0).val = _; omega) (y 1) hy', q 0 8 _ ⟨8 + (y 0).val, by omega⟩ (by show 8 + (y 0).val = _; omega) (y 1) hy',
    q 1 6 _ ⟨6 + (y 0).val, by omega⟩ (by show 6 + (y 0).val = _; omega) (y 1) hy', q 1 7 _ ⟨7 + (y 0).val, by omega⟩ (by show 7 + (y 0).val = _; omega) (y 1) hy', q 1 8 _ ⟨8 + (y 0).val, by omega⟩ (by show 8 + (y 0).val = _; omega) (y 1) hy']

/-- Where a trip reads and where it writes. -/
theorem offs (k : Fin k0_t1_loop.trips) :
    (k0_off1 k = ![0, 128 * k.val, 0] ∧ k0_off2 k = ![128 * k.val, 0]) ∧ (k0_off3 k = ![0, 128 * k.val, 128] ∧ k0_off4 k = ![128 * k.val, 128]) ∧ (k0_off5 k = ![0, 128 * k.val, 256] ∧ k0_off6 k = ![128 * k.val, 256])
    ∧ (k0_off7 k = ![0, 128 * k.val, 384] ∧ k0_off8 k = ![128 * k.val, 384]) ∧ (k0_off9 k = ![0, 128 * k.val, 512] ∧ k0_off10 k = ![128 * k.val, 512]) ∧ (k0_off11 k = ![0, 128 * k.val, 640] ∧ k0_off12 k = ![128 * k.val, 640])
    ∧ (k0_off13 k = ![0, 128 * k.val, 768] ∧ k0_off14 k = ![128 * k.val, 768]) ∧ (k0_off15 k = ![0, 128 * k.val, 896] ∧ k0_off16 k = ![128 * k.val, 896]) ∧ (k0_off17 k = ![0, 128 * k.val, 1024] ∧ k0_off18 k = ![128 * k.val, 1024])
    ∧ (k0_off19 k = ![0, 128 * k.val, 1152] ∧ k0_off20 k = ![128 * k.val, 1152]) ∧ (k0_off21 k = ![0, 128 * k.val, 1280] ∧ k0_off22 k = ![128 * k.val, 1280]) := by
  revert k
  decide +kernel

variable (c : Dev nD) (i : grid0.Coords) (arg2 : Memref sig .tc .vmem S2x512x1408 .f32) (harg2 : arg2.IsWhole) (arg3 : Memref sig .tc .vmem S2x8x1408 .f32) (harg3 : arg3.IsWhole) (arg4 : Memref sig .tc .vmem S2x1x3x1408 .f32) (harg4 : arg4.IsWhole)
  (arg5 : Memref sig .tc .vmem S2x1x1x1408 .f32) (harg5 : arg5.IsWhole) (arg6 : Memref sig .tc .vmem S512x1408 .bf16) (harg6 : arg6.IsWhole) (arg7 : Memref sig .tc .vmem S2x520x1408 .f32) (harg7 : arg7.IsWhole)
  (v13 : Vec Ideal S2x1x3x1408 .f32) (v15 : Vec Ideal S2x1x1x1408 .f32) (X : BufTy.Contents (Elt Ideal) arg7.view.ty)

/-- A piece that holds the gate's rows of its place. -/
abbrev Good (p : View.Piece (Elt Ideal) S512x1408 .bf16) : Prop := ∀ x : p.1.shape.Idx, p.2 x = G (k0_pay3 v13) (k0_pay4 v15) (arg7.view.read (Elt Ideal) X) (p.1.emb x)

/-- A stored tile is good if it is the tile of its lanes. -/
theorem good (k o : ℕ) (hk : k < 4) (ho : o + 128 ≤ 1408) (hw : S2x3x1408.Slices ![0, 0, o] S2x3x128) (hb : S2x1x1408.Slices ![0, 0, o] S2x1x128) (off1 : Fin 3 → ℕ) (off2 : Fin 2 → ℕ) (h1 : ∀ a, off1 a + S2x136x128.size a ≤ S2x520x1408.size a)
    (h2 : ∀ a, off2 a + S128x128.size a ≤ S512x1408.size a) (e : off1 = ![0, 128 * k, o] ∧ off2 = ![128 * k, o]) (p : FVec Ideal S128x128 .bf16)
    (hp : p = tl o hw hb (k0_pay3 v13) (k0_pay4 v15) (View.readAt (Elt Ideal) arg7.view (Rect.unit (s := S2x520x1408) off1 S2x136x128.size h1).toLoadRect X)) :
    Good arg7 v13 v15 X ⟨Rect.unit (s := S512x1408) off2 S128x128.size h2, p⟩ := by
  subst hp
  exact fun x => piece k o hk ho hw hb _ _ arg7 X off1 off2 h1 h2 e.1 e.2 x

theorem trip (k : Fin k0_t1_loop.trips) :
    ∀ p ∈ tripL_k0_t1 (F := Ideal) Variants.none c none i arg2 harg2 arg3 harg3 arg4 harg4 arg5 harg5 arg6 harg6 arg7 harg7 v13 v15 X k, Good arg7 v13 v15 X p := by
  have hk : k.val < 4 := Nat.lt_of_lt_of_le k.isLt k0_t1_abs.2.1
  obtain ⟨e0, e1, e2, e3, e4, e5, e6, e7, e8, e9, e10⟩ := offs k
  unfold tripL_k0_t1 trip_k0_t1
  dsimp only
  refine List.forall_mem_cons.mpr ⟨good arg7 v13 v15 X k.val 1280 hk (by omega) (by decide) (by decide) (k0_off21 k) _ (k0_off21_inb k) (k0_off22_inb k) e10 _ rfl, ?_⟩
  refine List.forall_mem_cons.mpr ⟨good arg7 v13 v15 X k.val 1152 hk (by omega) (by decide) (by decide) (k0_off19 k) _ (k0_off19_inb k) (k0_off20_inb k) e9 _ rfl, ?_⟩
  refine List.forall_mem_cons.mpr ⟨good arg7 v13 v15 X k.val 1024 hk (by omega) (by decide) (by decide) (k0_off17 k) _ (k0_off17_inb k) (k0_off18_inb k) e8 _ rfl, ?_⟩
  refine List.forall_mem_cons.mpr ⟨good arg7 v13 v15 X k.val 896 hk (by omega) (by decide) (by decide) (k0_off15 k) _ (k0_off15_inb k) (k0_off16_inb k) e7 _ rfl, ?_⟩
  refine List.forall_mem_cons.mpr ⟨good arg7 v13 v15 X k.val 768 hk (by omega) (by decide) (by decide) (k0_off13 k) _ (k0_off13_inb k) (k0_off14_inb k) e6 _ rfl, ?_⟩
  refine List.forall_mem_cons.mpr ⟨good arg7 v13 v15 X k.val 640 hk (by omega) (by decide) (by decide) (k0_off11 k) _ (k0_off11_inb k) (k0_off12_inb k) e5 _ rfl, ?_⟩
  refine List.forall_mem_cons.mpr ⟨good arg7 v13 v15 X k.val 512 hk (by omega) (by decide) (by decide) (k0_off9 k) _ (k0_off9_inb k) (k0_off10_inb k) e4 _ rfl, ?_⟩
  refine List.forall_mem_cons.mpr ⟨good arg7 v13 v15 X k.val 384 hk (by omega) (by decide) (by decide) (k0_off7 k) _ (k0_off7_inb k) (k0_off8_inb k) e3 _ rfl, ?_⟩
  refine List.forall_mem_cons.mpr ⟨good arg7 v13 v15 X k.val 256 hk (by omega) (by decide) (by decide) (k0_off5 k) _ (k0_off5_inb k) (k0_off6_inb k) e2 _ rfl, ?_⟩
  refine List.forall_mem_cons.mpr ⟨good arg7 v13 v15 X k.val 128 hk (by omega) (by decide) (by decide) (k0_off3 k) _ (k0_off3_inb k) (k0_off4_inb k) e1 _ rfl, ?_⟩
  refine List.forall_mem_cons.mpr ⟨good arg7 v13 v15 X k.val 0 hk (by omega) (by decide) (by decide) (k0_off1 k) _ (k0_off1_inb k) (k0_off2_inb k) e0 _ rfl, ?_⟩
  exact fun p hp => absurd hp List.not_mem_nil

/-- Every piece of the loop so far is good. -/
theorem trips (k : ℕ) :
    ∀ p ∈ pb_k0_t1 (F := Ideal) Variants.none c none i arg2 harg2 arg3 harg3 arg4 harg4 arg5 harg5 arg6 harg6 arg7 harg7 v13 v15 X k, Good arg7 v13 v15 X p := by
  induction k with
  | zero => intro p hp; rw [pb_k0_t1.eq_1] at hp; exact absurd hp List.not_mem_nil
  | succ k ih =>
    intro p hp
    rw [pb_k0_t1.eq_2] at hp
    unfold pb_k0_t1Step at hp
    split at hp
    · rcases List.mem_append.mp hp with hp | hp
      · exact trip c i arg2 harg2 arg3 harg3 arg4 harg4 arg5 harg5 arg6 harg6 arg7 harg7 v13 v15 X _ p hp
      · exact ih p hp
    · exact ih p hp

variable (tile : Vec Ideal S2x512x1408 .f32) (halo : Vec Ideal S2x8x1408 .f32)

/-- The rows a grid point gathers: eight from before its block, then the block. -/
def rows : Rows := fun y => if h : (y 1).val < 8 then k0_pay1 i halo (ix3 (y 0) ⟨(y 1).val, h⟩ (y 2)) else tile (ix3 (y 0) ⟨(y 1).val - 8, by have := (y 1).isLt; change (y 1).val < 520 at this; omega⟩ (y 2))

theorem rows_lo (a : Fin 2) (r : Fin 8) (d : Fin 1408) (y : S2x520x1408.Idx) (h0 : (y 0).val = a.val) (h1 : (y 1).val = r.val) (h2 : (y 2).val = d.val) : rows i tile halo y = k0_pay1 i halo (ix3 a r d) := by
  unfold rows
  rw [dif_pos (by omega)]
  exact congrArg (k0_pay1 i halo) (congr (congr (congrArg ix3 (Fin.ext h0)) (Fin.ext h1)) (Fin.ext h2))

theorem rows_hi (a : Fin 2) (r : Fin 512) (d : Fin 1408) (y : S2x520x1408.Idx) (h0 : (y 0).val = a.val) (h1 : (y 1).val = 8 + r.val) (h2 : (y 2).val = d.val) : rows i tile halo y = tile (ix3 a r d) := by
  unfold rows
  rw [dif_neg (by omega)]
  exact congrArg tile (congr (congr (congrArg ix3 (Fin.ext h0)) (Fin.ext (by show (y 1).val - 8 = r.val; omega))) (Fin.ext h2))

theorem pay2 : k0_pay2 (F := Ideal) tile = tile := by
  funext x
  unfold k0_pay2
  pointwise

/-- The gathered rows cover the scratch: its first eight rows and the rest. -/
theorem covered (y : S2x520x1408.Idx) : y ∈ (Rect.unit (s := S2x520x1408) ![0, 8, 0] S2x512x1408.size inb_S2x520x1408_S2x512x1408_0_8_0).set ∨ y ∈ (Rect.unit (s := S2x520x1408) ![0, 0, 0] S2x8x1408.size inb_S2x520x1408_S2x8x1408_0_0_0).set := by
  idx_vars y
  by_cases h : y1.val < 8
  · refine Or.inr (Rect.mem_set_unit.mpr fun a => ?_)
    match a with
    | ⟨0, _⟩ => exact ⟨Nat.zero_le _, by show y0.val < 0 + 2; omega⟩
    | ⟨1, _⟩ => exact ⟨Nat.zero_le _, by show y1.val < 0 + 8; omega⟩
    | ⟨2, _⟩ => exact ⟨Nat.zero_le _, by show y2.val < 0 + 1408; omega⟩
  · refine Or.inl (Rect.mem_set_unit.mpr fun a => ?_)
    match a with
    | ⟨0, _⟩ => exact ⟨Nat.zero_le _, by show y0.val < 0 + 2; omega⟩
    | ⟨1, _⟩ => exact ⟨by show 8 ≤ y1.val; omega, by show y1.val < 8 + 512; omega⟩
    | ⟨2, _⟩ => exact ⟨Nat.zero_le _, by show y2.val < 0 + 1408; omega⟩

theorem gathered (f : BufTy.Contents (Elt Ideal) (View.whole cc0_scratch0).ty) : View.read (Elt Ideal) (View.whole cc0_scratch0) ((View.whole cc0_scratch0).writes (Elt Ideal) f
      [⟨Rect.unit ![0, 8, 0] S2x512x1408.size inb_S2x520x1408_S2x512x1408_0_8_0, k0_pay2 tile⟩, ⟨Rect.unit ![0, 0, 0] S2x8x1408.size inb_S2x520x1408_S2x8x1408_0_0_0, k0_pay1 i halo⟩]) = rows i tile halo := by
  funext y
  have q1 : ∀ x : S2x512x1408.Idx, k0_pay2 (F := Ideal) tile x = rows i tile halo ((Rect.unit (s := S2x520x1408) ![0, 8, 0] S2x512x1408.size inb_S2x520x1408_S2x512x1408_0_8_0).emb x) := fun x => by
    rw [pay2]
    idx_vars x
    exact (rows_hi i tile halo x0 x1 x2 _ (by show 0 + 1 * x0.val = _; omega) (by show 8 + 1 * x1.val = _; omega) (by show 0 + 1 * x2.val = _; omega)).symm
  have q2 : ∀ x : S2x8x1408.Idx, k0_pay1 (F := Ideal) i halo x = rows i tile halo ((Rect.unit (s := S2x520x1408) ![0, 0, 0] S2x8x1408.size inb_S2x520x1408_S2x8x1408_0_0_0).emb x) := fun x => by
    idx_vars x
    exact (rows_lo i tile halo x0 x1 x2 _ (by show 0 + 1 * x0.val = _; omega) (by show 0 + 1 * x1.val = _; omega) (by show 0 + 1 * x2.val = _; omega)).symm
  generalize rows i tile halo = R at q1 q2 ⊢
  generalize k0_pay2 (F := Ideal) tile = A at q1 ⊢
  generalize k0_pay1 (F := Ideal) i halo = B at q2 ⊢
  refine View.read_writes_apply_of_pieces (View.whole cc0_scratch0) f (R : S2x520x1408.Idx → Elt Ideal .f32) _ (List.forall_mem_cons.mpr ⟨q1, List.forall_mem_cons.mpr ⟨q2, fun p hp => absurd hp List.not_mem_nil⟩⟩) y ?_
  rcases covered y with h | h
  · exact ⟨_, List.mem_cons_self, h⟩
  · exact ⟨_, List.mem_cons_of_mem _ List.mem_cons_self, h⟩

theorem ld {s : Shape} {e : EltTy} (M : Memref sig .tc .vmem s e) (h : M.IsWhole) (X : s.Idx → Elt Ideal e) (off : Fin s.rank → ℕ) (inb : ∀ a, off a + s.size a ≤ s.size a) :
    View.readAt (Elt Ideal) M.view (Rect.unit off s.size inb).toLoadRect (h.unread X) = X := by
  funext y
  refine (congrFun (h.read_unread X) _).trans (congrArg X (funext fun a => Fin.ext ?_))
  show off a + 1 * (y a).val = (y a).val
  have := inb a
  omega

variable (m : (ℓ : Loc nD τ sig) → Buf (Elt Ideal) ℓ)

theorem blk (t : Fin cfg0.N) : outsAt0 m c t = G (k0_pay3 (iblk m c 2 t)) (k0_pay4 (iblk m c 3 t)) (rows (grid0.coords t) (iblk m c 0 t) (iblk m c 1 t)) := by
  funext y
  have hc := cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) y
  unfold outsAt0 out0_A_4
  refine (View.read_writes_apply_of_pieces _ _ (G (k0_pay3 (iblk m c 2 t)) (k0_pay4 (iblk m c 3 t)) (rows (grid0.coords t) (iblk m c 0 t) (iblk m c 1 t))) _ ?_ y hc)
  unfold kernelRun0_A
  dsimp only
  unfold kernelRun0_A.sl.HS0_2
  have e0 := ld (ms0_0 t) (hs0_0 t) (iblk m c 0 t) ![0, 0, 0] inb_S2x512x1408_S2x512x1408_0_0_0
  have e1 := ld (ms0_1 t) (hs0_1 t) (iblk m c 1 t) ![0, 0, 0] inb_S2x8x1408_S2x8x1408_0_0_0
  have e2 := ld (ms0_2 t) (hs0_2 t) (iblk m c 2 t) ![0, 0, 0, 0] inb_S2x1x3x1408_S2x1x3x1408_0_0_0_0
  have e3 := ld (ms0_3 t) (hs0_3 t) (iblk m c 3 t) ![0, 0, 0, 0] inb_S2x1x1x1408_S2x1x1x1408_0_0_0_0
  rw [e0, e1]
  intro p hp x
  have h := trips _ _ _ _ _ _ _ _ _ _ _ _ _ _ _ _ _ _ p hp x
  rw [← gathered (grid0.coords t) (iblk m c 0 t) (iblk m c 1 t) (View.whole cc0_scratch0).junk]
  refine h.trans ?_
  rw [e2, e3]

theorem v4 (h : Fin 2) (n : Fin 4096) (j : Fin 5632) : (V m c main_v4 : S2x4096x5632.Idx → EReal) (ix3 h n j) = (m ((c : Thread nD τ).loc main_arg0) : S4096x11264.Idx → EReal) (ix2 n ⟨5632 * h.val + j.val, by omega⟩) := by
  unfold V
  after_reads_at
  split
  · exact congrArg (m ((c : Thread nD τ).loc main_arg0) : S4096x11264.Idx → EReal) (congrArg (ix2 n) (Fin.ext (by show j.val = _; dsimp only; omega)))
  · exact congrArg (m ((c : Thread nD τ).loc main_arg0) : S4096x11264.Idx → EReal) (congrArg (ix2 n) (Fin.ext (by show 5632 + j.val = _; dsimp only; omega)))

theorem v7 (h : Fin 2) (g : Fin 4) (k : Fin 3) (j : Fin 1408) : (V m c main_v7 : S2x4x3x1408.Idx → EReal) (ix4 h g k j) = (m ((c : Thread nD τ).loc main_arg1) : S3x11264.Idx → EReal) (ix2 k ⟨5632 * h.val + 1408 * g.val + j.val, by omega⟩) := by
  unfold V
  after_reads_at
  exact congrArg (m ((c : Thread nD τ).loc main_arg1) : S3x11264.Idx → EReal) (congrArg (ix2 k) (Fin.ext (by dsimp only; omega)))

theorem v8 (h : Fin 2) (g : Fin 4) (j : Fin 1408) : (V m c main_v8 : S2x4x1x1408.Idx → EReal) (ix4 h g 0 j) = (m ((c : Thread nD τ).loc main_arg2) : S11264.Idx → EReal) (ix1 ⟨5632 * h.val + 1408 * g.val + j.val, by omega⟩) := by
  unfold V
  after_reads_at
  exact congrArg (m ((c : Thread nD τ).loc main_arg2) : S11264.Idx → EReal) (congrArg ix1 (Fin.ext (by dsimp only; omega)))

variable (u : S4096x11264.Idx → EReal) (w : S3x11264.Idx → EReal) (b : S11264.Idx → EReal)

/-- The rows with two zero rows before the first. -/
def padded (n : ℕ) (j : Fin 11264) : EReal := if h : 2 ≤ n ∧ n < 4098 then u (ix2 ⟨n - 2, by omega⟩ j) else 0

/-- The convolution at a row and a lane. -/
def conv (n : ℕ) (j : Fin 11264) : EReal := taps (w (ix2 0 j)) (w (ix2 1 j)) (w (ix2 2 j)) (padded u n j) (padded u (n + 1) j) (padded u (n + 2) j) (b (ix1 j))

/-- The result. -/
def res (n : Fin 4096) (j : Fin 5632) : EReal := gate (conv u w b n.val ⟨j.val, by omega⟩) (conv u w b n.val ⟨5632 + j.val, by omega⟩)

theorem idx0 (t : Fin cfg0.N) : win0_0.index t = ![0, t.val % 8, t.val / 8] ∧ win0_1.index t = ![0, 64 * (t.val % 8) - 1, t.val / 8] ∧ win0_2.index t = ![0, t.val / 8, 0, 0] ∧ win0_3.index t = ![0, t.val / 8, 0, 0] ∧ win0_4.index t = ![t.val % 8, t.val / 8] :=
  (by decide +kernel : ∀ t : Fin grid0.N, win0_0.index t = ![0, t.val % 8, t.val / 8] ∧ win0_1.index t = ![0, 64 * (t.val % 8) - 1, t.val / 8] ∧ win0_2.index t = ![0, t.val / 8, 0, 0] ∧ win0_3.index t = ![0, t.val / 8, 0, 0] ∧ win0_4.index t = ![t.val % 8, t.val / 8]) t

/-- The first block of rows is the one with nothing before it. -/
theorem first (t : Fin cfg0.N) : Scalar.cmpi CmpIPredicate.sgt (BitVec.ofNat 32 ((grid0.coords t) 1).val) 0#32 = if t.val % 8 = 0 then 0#1 else 1#1 :=
  (by decide +kernel : ∀ t : Fin grid0.N, Scalar.cmpi CmpIPredicate.sgt (BitVec.ofNat 32 ((grid0.coords t) 1).val) 0#32 = if t.val % 8 = 0 then 0#1 else 1#1) t

variable (hu : m ((c : Thread nD τ).loc main_arg0) = u) (hw : m ((c : Thread nD τ).loc main_arg1) = w) (hb : m ((c : Thread nD τ).loc main_arg2) = b)

/-- A point's own rows and lanes. -/
def rw0 (t : Fin cfg0.N) (r : Fin 512) : Fin 4096 := ⟨512 * (t.val % 8) + r.val, by omega⟩
def cs (t : Fin cfg0.N) (h : Fin 2) (j : Fin 1408) : Fin 11264 := ⟨5632 * h.val + 1408 * (t.val / 8) + j.val, by have : t.val < 32 := t.isLt; omega⟩

include hw in
theorem wt (t : Fin cfg0.N) (h : Fin 2) (k : Fin 3) (j : Fin 1408) : k0_pay3 (iblk m c 2 t) (ix3 h k j) = w (ix2 k (cs t h j)) := by
  have ht : t.val < 32 := t.isLt
  have : k0_pay3 (iblk m c 2 t) (ix3 h k j) = (V m c main_v7 : S2x4x3x1408.Idx → EReal) (ix4 h ⟨t.val / 8, by omega⟩ k j) := by
    unfold k0_pay3
    pointwise
    blk_ext [iblk, idx0 t]
  rw [this, v7, hw]
  rfl

include hb in
theorem bt (t : Fin cfg0.N) (h : Fin 2) (j : Fin 1408) : k0_pay4 (iblk m c 3 t) (ix3 h 0 j) = b (ix1 (cs t h j)) := by
  have ht : t.val < 32 := t.isLt
  have : k0_pay4 (iblk m c 3 t) (ix3 h 0 j) = (V m c main_v8 : S2x4x1x1408.Idx → EReal) (ix4 h ⟨t.val / 8, by omega⟩ 0 j) := by
    unfold k0_pay4
    pointwise
    blk_ext [iblk, idx0 t]
  rw [this, v8, hb]
  rfl

theorem at1 (t : Fin cfg0.N) (x : Vec Ideal S2x8x1408 .f32) (i : S2x8x1408.Idx) : k0_pay1 (grid0.coords t) x i = if t.val % 8 = 0 then 0 else x i := by
  unfold k0_pay1
  dsimp only
  rw [first]
  by_cases h : t.val % 8 = 0
  · rw [if_pos h, if_pos h]
    pointwise
  · rw [if_neg h, if_neg h]
    pointwise

include hu in
theorem rt (t : Fin cfg0.N) (h : Fin 2) (z : Fin 520) (hz : 6 ≤ z.val) (j : Fin 1408) : rows (grid0.coords t) (iblk m c 0 t) (iblk m c 1 t) (ix3 h z j) = padded u (512 * (t.val % 8) + z.val - 6) (cs t h j) := by
  have ht : t.val < 32 := t.isLt
  have src : ∀ (x : EReal), x = (V m c main_v4 : S2x4096x5632.Idx → EReal) (ix3 h ⟨(512 * (t.val % 8) + z.val - 8) % 4096, by omega⟩ ⟨1408 * (t.val / 8) + j.val, by omega⟩) → ¬ (z.val < 8 ∧ t.val % 8 = 0)
      → x = padded u (512 * (t.val % 8) + z.val - 6) (cs t h j) := fun x hx hn => by
    unfold padded
    rw [dif_pos (by omega), hx, v4, hu]
    exact congrArg u (congr (congrArg ix2 (Fin.ext (by show (512 * (t.val % 8) + z.val - 8) % 4096 = 512 * (t.val % 8) + z.val - 6 - 2; omega))) (Fin.ext (by show 5632 * h.val + (1408 * (t.val / 8) + j.val) = 5632 * h.val + 1408 * (t.val / 8) + j.val; omega)))
  by_cases h8 : z.val < 8
  · rw [rows_lo _ _ _ h ⟨z.val, h8⟩ j _ rfl rfl rfl, at1]
    by_cases h0 : t.val % 8 = 0
    · rw [if_pos h0]
      unfold padded
      rw [dif_neg (by omega)]
    · rw [if_neg h0]
      refine src _ ?_ (by omega)
      blk_ext [iblk, idx0 t]
      all_goals omega
  · rw [rows_hi _ _ _ h ⟨z.val - 8, by omega⟩ j _ rfl (by show z.val = 8 + (z.val - 8); omega) rfl]
    refine src _ ?_ (by omega)
    blk_ext [iblk, idx0 t]
    all_goals omega

include hu hw hb in
theorem arr4 : (dats m 0 c).arrAt 4 cfg0.N = (fun i => res u w b (i 0) (i 1) : S4096x5632.Idx → EReal) := by
  refine (dats m 0 c).arrAt_eq_of_covers 4 _ (by decide +kernel) fun t hf i => ?_
  blk_simp
  rw [after0_4, blk]
  idx_vars i
  have ht : t.val < 32 := t.isLt
  have e : ((View.whole main_v9).slice (win0_4.rect t)).emb (ix2 i0 i1) = ix2 (rw0 t i0) ⟨1408 * (t.val / 8) + i1.val, by omega⟩ := by blk_ext [idx0 t, rw0]
  have g : ∀ j : S4096x5632.Idx, j = ix2 (rw0 t i0) ⟨1408 * (t.val / 8) + i1.val, by omega⟩ →
      G (k0_pay3 (iblk m c 2 t)) (k0_pay4 (iblk m c 3 t)) (rows (grid0.coords t) (iblk m c 0 t) (iblk m c 1 t)) (ix2 i0 i1) = res u w b (j 0) (j 1) := by
    rintro _ rfl
    have half : ∀ (h : Fin 2) (J : Fin 11264), J.val = 5632 * h.val + (1408 * (t.val / 8) + i1.val) →
        taps (k0_pay3 (iblk m c 2 t) (ix3 h 0 i1)) (k0_pay3 (iblk m c 2 t) (ix3 h 1 i1)) (k0_pay3 (iblk m c 2 t) (ix3 h 2 i1)) (rows (grid0.coords t) (iblk m c 0 t) (iblk m c 1 t) (ix3 h ⟨6 + i0.val, by omega⟩ i1))
          (rows (grid0.coords t) (iblk m c 0 t) (iblk m c 1 t) (ix3 h ⟨7 + i0.val, by omega⟩ i1)) (rows (grid0.coords t) (iblk m c 0 t) (iblk m c 1 t) (ix3 h ⟨8 + i0.val, by omega⟩ i1)) (k0_pay4 (iblk m c 3 t) (ix3 h 0 i1))
          = conv u w b (rw0 t i0).val J := by
      intro h J hJ
      have eJ : cs t h i1 = J := Fin.ext (by show 5632 * h.val + 1408 * (t.val / 8) + i1.val = J.val; omega)
      have r : ∀ k : ℕ, 512 * (t.val % 8) + (6 + k + i0.val) - 6 = 512 * (t.val % 8) + i0.val + k := fun k => by omega
      rw [wt c m w hw, wt c m w hw, wt c m w hw, bt c m b hb, rt c m u hu t h _ (by show 6 ≤ 6 + i0.val; omega), rt c m u hu t h _ (by show 6 ≤ 7 + i0.val; omega), rt c m u hu t h _ (by show 6 ≤ 8 + i0.val; omega), eJ]
      show taps _ _ _ (padded u (512 * (t.val % 8) + (6 + 0 + i0.val) - 6) J) (padded u (512 * (t.val % 8) + (6 + 1 + i0.val) - 6) J) (padded u (512 * (t.val % 8) + (6 + 2 + i0.val) - 6) J) _ = _
      rw [r 0, r 1, r 2]
      rfl
    exact congr (congrArg gate (half 0 _ (by show 1408 * (t.val / 8) + i1.val = 5632 * 0 + (1408 * (t.val / 8) + i1.val); omega))) (half 1 _ (by show 5632 + (1408 * (t.val / 8) + i1.val) = 5632 * 1 + (1408 * (t.val / 8) + i1.val); omega))
  exact g _ e

end Cert.GluFwdIdeal.Real

end
-- ==== Proof.GluFwdRef.lean ====
/- The reference's feed-forward convolution and gate at a row and a lane. -/
module

public import proofs.«01_k».proof.Proof.GluFwd
public import proofs.«01_k».proof.Proof.Gen.GluFwdRefIdeal.Run

@[expose] public section

set_option maxRecDepth 16384

noncomputable section

namespace Cert.GluFwdRefIdeal.Real

open Idealize.ShloMosaic Cert.GluFwdRefIdeal Cert.GluFwdRefIdeal.Value Idealize.SL.Sem Idealize.ShloMosaic.TcCoe
open Cert.GluFwdIdeal.Real (gate taps padded conv res)

variable (m : (ℓ : Loc nD τ sig) → Buf (Elt Ideal) ℓ) (c : Dev nD)
variable (u : S4096x11264.Idx → EReal) (w : S3x11264.Idx → EReal) (b : S11264.Idx → EReal)
theorem pad0 (n : Fin 4096) (j : Fin 11264) (g : ¬ n.val < 2 → n.val - 2 < 4096) : (if h : n.val < 2 then 0 else u (ix2 ⟨n.val - 2, g h⟩ j)) = padded u n.val j := by
  unfold padded
  by_cases h : n.val < 2
  · rw [dif_pos h, dif_neg (by omega)]
  · rw [dif_neg h, dif_pos (by omega)]

theorem pad1 (n : Fin 4096) (j : Fin 11264) (g : ¬ 1 + n.val < 2 → 1 + n.val - 2 < 4096) : (if h : 1 + n.val < 2 then 0 else u (ix2 ⟨1 + n.val - 2, g h⟩ j)) = padded u (n.val + 1) j := by
  unfold padded
  by_cases h : 1 + n.val < 2
  · rw [dif_pos h, dif_neg (by omega)]
  · rw [dif_neg h, dif_pos (by omega)]
    exact congrArg u (congrArg (ix2 · j) (Fin.ext (by show 1 + n.val - 2 = n.val + 1 - 2; omega)))

theorem pad2 (n : Fin 4096) (j : Fin 11264) : u (ix2 n j) = padded u (n.val + 2) j := by
  unfold padded
  rw [dif_pos (by omega)]
  rfl

/-- The convolution as the reference writes it: a row of the joined array lies in the zero rows or in the argument. -/
def rowR (n : Fin 4096) (j : Fin 11264) : EReal :=
  (if h : n.val < 2 then 0 else u (ix2 ⟨n.val - 2, by omega⟩ j)) * w (ix2 0 j) + (if h : 1 + n.val < 2 then 0 else u (ix2 ⟨1 + n.val - 2, by omega⟩ j)) * w (ix2 1 j) + u (ix2 n j) * w (ix2 2 j) + b (ix1 j)

theorem row_eq (n : Fin 4096) (j : Fin 11264) : rowR u w b n j = conv u w b n.val j := by
  unfold rowR conv taps
  rw [pad0, pad1, pad2 u, mul_comm (w _), mul_comm (w _), mul_comm (w _)]

variable (hu : m ((c : Thread nD τ).loc main_arg0) = u) (hw : m ((c : Thread nD τ).loc main_arg1) = w) (hb : m ((c : Thread nD τ).loc main_arg2) = b)

include hu hw hb in
theorem ref : (res_main_v33 m c : S4096x5632.Idx → EReal) = fun i => res u w b (i 0) (i 1) := by
  funext i
  idx_vars i
  unfold res_main_v33
  simp only [hu, hw, hb]
  pointwise
  simp only [hu]
  have key : rowR u w b i0 ⟨i1.val, by omega⟩ * Ideal.div 1 (1 + Ideal.exp (-rowR u w b i0 ⟨i1.val, by omega⟩)) * rowR u w b i0 ⟨5632 + i1.val, by omega⟩ = res u w b i0 i1 := by
    rw [row_eq, row_eq]
    rfl
  exact key

end Cert.GluFwdRefIdeal.Real

end
-- ==== Proof.GluFwdClaim.lean ====
/- The claims about `glu_fwd`. -/
module

public import proofs.«01_k».proof.Defs
public import proofs.«01_k».proof.Proof.GluFwdRef
public import proofs.«01_k».proof.Proof.Gen.GluFwd.Frame

@[expose] public section

set_option maxRecDepth 16384

noncomputable section

namespace Cert.Proof.GluFwd

open Idealize.ShloMosaic Idealize.SL.Sem Idealize.ShloMosaic.TcCoe

theorem q1 : quiescent_GluFwd := fun m g _ => Cert.GluFwd.Gen.frame m g
theorem q2 : quiescent_GluFwdIdeal := fun m g _ => Cert.GluFwdIdeal.Gen.frame m g
theorem q3 : quiescent_GluFwdRefIdeal := fun m g _ =>
  (θ_run _ _ _).mono (fun r h => And.intro (fun c => (h c).2) (sem_eq_zero_of_no_sems (by decide) r.2)) (Cert.GluFwdRefIdeal.Value.run (F := Ideal) m g)

theorem value : algebraic_GluFwdIdeal_GluFwdRefIdeal := by
  intro m g m' g' hpre hag
  refine ⟨_, ?_, (θ_run _ _ _).mono (fun r h c => ⟨(h c).1.trans (Cert.GluFwdRefIdeal.Real.ref m' c (m ((c : Thread Cert.GluFwdIdeal.nD Cert.GluFwdIdeal.τ).loc Cert.GluFwdIdeal.main_arg0)) (m ((c : Thread Cert.GluFwdIdeal.nD Cert.GluFwdIdeal.τ).loc Cert.GluFwdIdeal.main_arg1)) (m ((c : Thread Cert.GluFwdIdeal.nD Cert.GluFwdIdeal.τ).loc Cert.GluFwdIdeal.main_arg2))
    (hag c).1 (hag c).2.1 (hag c).2.2), (h c).2⟩) (Cert.GluFwdRefIdeal.Value.run (F := Ideal) m' g')⟩
  refine (θ_run _ _ _).mono (fun r h c => ?_) (Cert.GluFwdIdeal.Value.run_blocks (F := Ideal) m g)
  exact ⟨(h c).1.trans (Cert.GluFwdIdeal.Real.arr4 c m _ _ _ rfl rfl rfl), (h c).2⟩

end Cert.Proof.GluFwd

end
-- ==== Proof.MmSum.lean ====
/- Sums over the rows of a product, cut into the blocks the kernels add one after another. -/
module

public import Idealize.ShloMosaic.Lib.Pipeline.ValueKit
public import Idealize.ShloMosaic.Lib.MatmulPlain

@[expose] public section

noncomputable section

namespace Cert.Mm

open Idealize.ShloMosaic

/-- A sum is the sum over its two halves. -/
theorem two {n N : ℕ} (h : N = n + n) (f : Fin N → EReal) : ∑ k, f k = (∑ k : Fin n, f ⟨k.val, by omega⟩) + ∑ k : Fin n, f ⟨n + k.val, by omega⟩ := by
  subst h
  exact Fin.sum_univ_add f

/-- A sum is the sum over its blocks. -/
theorem many {J n N : ℕ} (h : N = J * n) (f : Fin N → EReal) : ∑ k, f k = ∑ b : Fin J, ∑ k : Fin n, f ⟨b.val * n + k.val, by
    have := Nat.mul_le_mul_right n (Nat.succ_le_of_lt b.isLt); rw [Nat.succ_mul] at this; omega⟩ := by
  subst h
  rw [← finProdFinEquiv.sum_comp, Fintype.sum_prod_type]
  refine Finset.sum_congr rfl fun b _ => Finset.sum_congr rfl fun k _ => congrArg f (Fin.ext ?_)
  show k.val + n * b.val = b.val * n + k.val
  rw [Nat.mul_comm, Nat.add_comm]

end Cert.Mm
-- ==== Proof.MmNn.lean ====
/- The product of two matrices, its inner sum in two blocks: what each point leaves, and the whole array. -/
module

public import proofs.«01_k».proof.Proof.MmSum
public import proofs.«01_k».proof.Proof.Gen.MmNnIdeal.Value
public import proofs.«01_k».proof.Proof.Gen.MmNnRefIdeal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.MmNnIdeal.Real

open Idealize.ShloMosaic Cert.MmNnIdeal Cert.MmNnIdeal.Gen Idealize.SL.Sem Idealize.ShloMosaic.TcCoe

theorem idx0 (t : Fin cfg0.N) : win0_0.index t = ![t.val / 4, t.val % 2] ∧ win0_1.index t = ![t.val % 2, t.val / 2 % 2] ∧ win0_2.index t = ![t.val / 4, t.val / 2 % 2] :=
  (by decide +kernel : ∀ t : Fin grid0.N, win0_0.index t = ![t.val / 4, t.val % 2] ∧ win0_1.index t = ![t.val % 2, t.val / 2 % 2] ∧ win0_2.index t = ![t.val / 4, t.val / 2 % 2]) t

theorem hz : (![0, 0] : Fin 2 → ℕ) = fun _ => 0 := by decide

/-- A block's part of the product, added to what was there. -/
theorem pay (s : Vec Ideal S1024x1024 .f32) (x : Vec Ideal S1024x2816 .bf16) (y : Vec Ideal S2816x1024 .bf16) (r d : Fin 1024) :
    k0_pay2 s x y (ix2 r d) = s (ix2 r d) + ∑ k : Fin 2816, x (ix2 r k) * y (ix2 k d) := by
  pointwise [k0_pay2]

variable (c : Dev nD) (m : (ℓ : Loc nD τ sig) → Buf (Elt Ideal) ℓ)

theorem first (i : grid0.Coords) (p : Memref sig .tc .vmem S1024x2816 .bf16) (hp : p.IsWhole) (q : Memref sig .tc .vmem S2816x1024 .bf16) (hq : q.IsWhole) (o : Memref sig .tc .vmem S1024x1024 .f32) (ho : o.IsWhole) (s : Memref sig .tc .vmem S1024x1024 .f32) (hs : s.IsWhole)
    (h0 : cond0_0 i) (h1 : ¬cond0_1 i) (x : Vec Ideal S1024x2816 .bf16) (y : Vec Ideal S2816x1024 .bf16) : sout0_A_0 c i p hp q hq o ho s hs h0 h1 x y = k0_pay2 k0_pay1 x y := by
  unfold sout0_A_0
  rw [View.read_writes_eq_canon _ _ _ (fun z => scover0_A_0 c i p hp q hq o ho s hs h0 h1 x y z)]
  unfold kernelRun0_A
  dsimp only
  sl_unfold_words
  rw [View.canon_cons_unit_zero hz, View.readCov_unit_zero _ hz]
  simp only [View.readAt_eq_ld, hp.read_unread, hq.read_unread]
  rw [View.ld_unit_zero hz, View.ld_unit_zero hz]

theorem last (i : grid0.Coords) (p : Memref sig .tc .vmem S1024x2816 .bf16) (hp : p.IsWhole) (q : Memref sig .tc .vmem S2816x1024 .bf16) (hq : q.IsWhole) (o : Memref sig .tc .vmem S1024x1024 .f32) (ho : o.IsWhole) (s : Memref sig .tc .vmem S1024x1024 .f32) (hs : s.IsWhole)
    (h0 : ¬cond0_0 i) (h1 : cond0_1 i) (x : Vec Ideal S1024x2816 .bf16) (y : Vec Ideal S2816x1024 .bf16) (v : Vec Ideal S1024x1024 .f32) : out0_B_2 c i p hp q hq o ho s hs h0 h1 x y v = k0_pay2 v x y := by
  unfold out0_B_2
  rw [View.read_writes_eq_canon _ _ _ (fun z => cover0_B_2 c i p hp q hq o ho s hs h0 h1 x y v z)]
  unfold kernelRun0_B
  dsimp only
  sl_unfold_words
  rw [View.canon_unit_zero hz, View.readCov_unit_zero _ hz]
  simp only [View.readAt_eq_ld, hp.read_unread, hq.read_unread, hs.read_unread]
  rw [View.ld_unit_zero hz, View.ld_unit_zero hz, View.ld_unit_zero hz]

variable (a : S4096x5632.Idx → EReal) (b : S5632x2048.Idx → EReal) (ha : m ((c : Thread nD τ).loc main_arg0) = a) (hb : m ((c : Thread nD τ).loc main_arg1) = b)

include ha in
theorem lhs (t : Fin cfg0.N) (r : Fin 1024) (k : Fin 2816) (K : Fin 5632) (h : K.val = 2816 * (t.val % 2) + k.val) :
    iblk m c 0 t (ix2 r k) = a (ix2 ⟨1024 * (t.val / 4) + r.val, by have : t.val < 16 := t.isLt; omega⟩ K) := by
  subst ha
  rw [show iblk m c 0 t (ix2 r k) = (V m c main_v0 : S4096x5632.Idx → EReal) (ix2 ⟨1024 * (t.val / 4) + r.val, by have : t.val < 16 := t.isLt; omega⟩ K) from by blk_ext [iblk, idx0 t, h]]
  unfold V
  after_reads_at

include hb in
theorem rhs (t : Fin cfg0.N) (k : Fin 2816) (d : Fin 1024) (K : Fin 5632) (h : K.val = 2816 * (t.val % 2) + k.val) :
    iblk m c 1 t (ix2 k d) = b (ix2 K ⟨1024 * (t.val / 2 % 2) + d.val, by omega⟩) := by
  subst hb
  rw [show iblk m c 1 t (ix2 k d) = (V m c main_v1 : S5632x2048.Idx → EReal) (ix2 K ⟨1024 * (t.val / 2 % 2) + d.val, by omega⟩) from by blk_ext [iblk, idx0 t, h]]
  unfold V
  after_reads_at

/-- The result at a row and a lane. -/
def res (n : Fin 4096) (j : Fin 2048) : EReal := ∑ k : Fin 5632, a (ix2 n k) * b (ix2 k j)

include ha hb in
theorem point (t : Fin cfg0.N) (h : t.val % 2 = 1) (r d : Fin 1024) :
    (outsAt0 m c t.val t.isLt).1 (ix2 r d) = res a b ⟨1024 * (t.val / 4) + r.val, by have : t.val < 16 := t.isLt; omega⟩ ⟨1024 * (t.val / 2 % 2) + d.val, by omega⟩ := by
  have ht : t.val < 16 := t.isLt
  rw [outsAt0_B m c t (by omega) h]
  dsimp only
  rw [last, pay, outsAt0_A m c ⟨t.val - 1, by omega⟩ (by show (t.val - 1) % 2 = 0; omega) (by show ¬(t.val - 1) % 2 = 1; omega)]
  dsimp only
  rw [first, pay, show k0_pay1 (F := Ideal) (ix2 r d) = 0 from by pointwise [k0_pay1], zero_add]
  unfold res
  rw [Cert.Mm.two (n := 2816) rfl]
  refine congrArg₂ (· + ·) (Finset.sum_congr rfl fun k _ => congrArg₂ (· * ·) ?_ ?_) (Finset.sum_congr rfl fun k _ => congrArg₂ (· * ·) ?_ ?_)
  · rw [lhs c m a ha _ r k ⟨k.val, by omega⟩ (by show k.val = 2816 * ((t.val - 1) % 2) + k.val; omega)]
    exact congrArg (fun z => a (ix2 z _)) (Fin.ext (by show 1024 * ((t.val - 1) / 4) + r.val = _; dsimp only; omega))
  · rw [rhs c m b hb _ k d ⟨k.val, by omega⟩ (by show k.val = 2816 * ((t.val - 1) % 2) + k.val; omega)]
    exact congrArg (fun z => b (ix2 _ z)) (Fin.ext (by show 1024 * ((t.val - 1) / 2 % 2) + d.val = _; dsimp only; omega))
  · exact lhs c m a ha t r k _ (by dsimp only; omega)
  · exact rhs c m b hb t k d _ (by dsimp only; omega)

include ha hb in
theorem arr2 : (dats m 0 c).arrAt 2 cfg0.N = (fun i => res a b (i 0) (i 1) : S4096x2048.Idx → EReal) := by
  refine (dats m 0 c).arrAt_eq_of_covers 2 _ (by decide +kernel) fun t hf i => ?_
  have h1 : t.val % 2 = 1 := (by decide +kernel : ∀ t : Fin cfg0.N, (cfg0.win 2).flush t = true → t.val % 2 = 1) t hf
  blk_simp
  rw [after0_2]
  idx_vars i
  have ht : t.val < 16 := t.isLt
  have e : ((View.whole main_v2).slice (win0_2.rect t)).emb (ix2 i0 i1) = ix2 ⟨1024 * (t.val / 4) + i0.val, by omega⟩ ⟨1024 * (t.val / 2 % 2) + i1.val, by omega⟩ := by blk_ext [idx0 t]
  exact (point c m a b ha hb t h1 i0 i1).trans (congrArg (fun j : S4096x2048.Idx => res a b (j 0) (j 1)) e.symm)

/-- The reference. -/
theorem ref : (Host.dotGeneral (F := Ideal) (φ₁ := .f32) (φ₂ := .f32) Cert.MmNnRefIdeal.dot_S4096x5632_S5632x2048_S4096x2048_1_0_0_1_n_n none a b : S4096x2048.Idx → EReal) = fun i => res a b (i 0) (i 1) := by
  funext i
  idx_vars i
  pointwise [res]

end Cert.MmNnIdeal.Real
-- ==== Proof.MmNnClaim.lean ====
/- The claims about the call `mm_nn`, the product of the down projection. -/
module

public import proofs.«01_k».proof.Defs
public import proofs.«01_k».proof.Proof.MmNn
public import proofs.«01_k».proof.Proof.Gen.MmNn.Frame

@[expose] public section

set_option maxRecDepth 16384

noncomputable section

namespace Cert.Proof.MmNn

open Idealize.ShloMosaic Idealize.SL.Sem Idealize.ShloMosaic.TcCoe

theorem q1 : quiescent_MmNn := fun m g _ => Cert.MmNn.Gen.frame m g
theorem q2 : quiescent_MmNnIdeal := fun m g _ => Cert.MmNnIdeal.Gen.frame m g
theorem q3 : quiescent_MmNnRefIdeal := fun m g _ =>
  (θ_run _ _ _).mono (fun r h => And.intro (fun c => (h c).2) (sem_eq_zero_of_no_sems (by decide) r.2)) (Cert.MmNnRefIdeal.Value.run (F := Ideal) m g)

theorem value : algebraic_MmNnIdeal_MmNnRefIdeal := by
  intro m g m' g' hpre hag
  refine ⟨fun c => fun i => Cert.MmNnIdeal.Real.res (m ((c : Thread Cert.MmNnIdeal.nD Cert.MmNnIdeal.τ).loc Cert.MmNnIdeal.main_arg0)) (m ((c : Thread Cert.MmNnIdeal.nD Cert.MmNnIdeal.τ).loc Cert.MmNnIdeal.main_arg1)) (i 0) (i 1), ?_, (θ_run _ _ _).mono (fun r h c => ⟨(h c).1.trans ?_, (h c).2⟩) (Cert.MmNnRefIdeal.Value.run (F := Ideal) m' g')⟩
  · exact (θ_run _ _ _).mono (fun r h c => ⟨(h c).1.trans (Cert.MmNnIdeal.Real.arr2 c m _ _ rfl rfl), (h c).2⟩) (Cert.MmNnIdeal.Value.run_blocks (F := Ideal) m g)
  · rw [(hag c).1, (hag c).2]
    exact Cert.MmNnIdeal.Real.ref _ _

end Cert.Proof.MmNn

end
-- ==== Proof.MmNt.lean ====
/- The product with the second factor's transpose: each point leaves one tile of the result. -/
module

public import proofs.«01_k».proof.Proof.MmSum
public import proofs.«01_k».proof.Proof.Gen.MmNtIdeal.Value
public import proofs.«01_k».proof.Proof.Gen.MmNtRefIdeal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.MmNtIdeal.Real

open Idealize.ShloMosaic Cert.MmNtIdeal Cert.MmNtIdeal.Gen Idealize.SL.Sem Idealize.ShloMosaic.TcCoe

theorem idx0 (t : Fin cfg0.N) : win0_0.index t = ![t.val / 4, 0] ∧ win0_1.index t = ![t.val % 4, 0] ∧ win0_2.index t = ![t.val / 4, t.val % 4] :=
  (by decide +kernel : ∀ t : Fin grid0.N, win0_0.index t = ![t.val / 4, 0] ∧ win0_1.index t = ![t.val % 4, 0] ∧ win0_2.index t = ![t.val / 4, t.val % 4]) t

/-- A tile of the product. -/
theorem pay (x : Vec Ideal S1024x2048 .bf16) (y : Vec Ideal S1408x2048 .bf16) (r : Fin 1024) (d : Fin 1408) : k0_pay1 x y (ix2 r d) = ∑ k : Fin 2048, x (ix2 r k) * y (ix2 d k) := by
  pointwise [k0_pay1]

/-- What a point leaves. -/
theorem out (x : Vec Ideal S1024x2048 .bf16) (y : Vec Ideal S1408x2048 .bf16) : out0_2 x y = k0_pay1 x y := by
  have hz : (![0, 0] : Fin 2 → ℕ) = fun _ => 0 := by decide
  unfold out0_2
  rw [View.canon_unit_zero hz, View.ld_unit_zero hz, View.ld_unit_zero hz]

variable (c : Dev nD) (m : (ℓ : Loc nD τ sig) → Buf (Elt Ideal) ℓ)
variable (a : S4096x2048.Idx → EReal) (b : S5632x2048.Idx → EReal) (ha : m ((c : Thread nD τ).loc main_arg0) = a) (hb : m ((c : Thread nD τ).loc main_arg1) = b)

include ha in
theorem lhs (t : Fin cfg0.N) (r : Fin 1024) (k : Fin 2048) : iblk m c 0 t (ix2 r k) = a (ix2 ⟨1024 * (t.val / 4) + r.val, by have : t.val < 16 := t.isLt; omega⟩ k) := by
  subst ha
  rw [show iblk m c 0 t (ix2 r k) = (V m c main_v0 : S4096x2048.Idx → EReal) (ix2 ⟨1024 * (t.val / 4) + r.val, by have : t.val < 16 := t.isLt; omega⟩ k) from by blk_ext [iblk, idx0 t]]
  unfold V
  after_reads_at

include hb in
theorem rhs (t : Fin cfg0.N) (r : Fin 1408) (k : Fin 2048) : iblk m c 1 t (ix2 r k) = b (ix2 ⟨1408 * (t.val % 4) + r.val, by omega⟩ k) := by
  subst hb
  rw [show iblk m c 1 t (ix2 r k) = (V m c main_v1 : S5632x2048.Idx → EReal) (ix2 ⟨1408 * (t.val % 4) + r.val, by omega⟩ k) from by blk_ext [iblk, idx0 t]]
  unfold V
  after_reads_at

/-- The result at a row and a lane. -/
def res (n : Fin 4096) (j : Fin 5632) : EReal := ∑ k : Fin 2048, a (ix2 n k) * b (ix2 j k)

include ha hb in
theorem arr2 : (dats m 0 c).arrAt 2 cfg0.N = (fun i => res a b (i 0) (i 1) : S4096x5632.Idx → EReal) := by
  refine (dats m 0 c).arrAt_eq_of_covers 2 _ (by decide +kernel) fun t hf i => ?_
  blk_simp
  rw [after0_2, out]
  idx_vars i
  have ht : t.val < 16 := t.isLt
  have e : ((View.whole main_v2).slice (win0_2.rect t)).emb (ix2 i0 i1) = ix2 ⟨1024 * (t.val / 4) + i0.val, by omega⟩ ⟨1408 * (t.val % 4) + i1.val, by omega⟩ := by blk_ext [idx0 t]
  refine (pay _ _ _ _).trans ?_
  refine Eq.trans ?_ (congrArg (fun j : S4096x5632.Idx => res a b (j 0) (j 1)) e.symm)
  exact Finset.sum_congr rfl fun k _ => congrArg₂ (· * ·) (lhs c m a ha t i0 k) (rhs c m b hb t i1 k)

/-- The reference. -/
theorem ref : (Host.dotGeneral (F := Ideal) (φ₁ := .f32) (φ₂ := .f32) Cert.MmNtRefIdeal.dot_S4096x2048_S5632x2048_S4096x5632_1_1_0_0_n_n none a b : S4096x5632.Idx → EReal) = fun i => res a b (i 0) (i 1) := by
  funext i
  idx_vars i
  pointwise [res]

end Cert.MmNtIdeal.Real
-- ==== Proof.MmNtClaim.lean ====
/- The claims about the call `mm_nt`, the product of its gradient by the rows. -/
module

public import proofs.«01_k».proof.Defs
public import proofs.«01_k».proof.Proof.MmNt
public import proofs.«01_k».proof.Proof.Gen.MmNt.Frame

@[expose] public section

set_option maxRecDepth 16384

noncomputable section

namespace Cert.Proof.MmNt

open Idealize.ShloMosaic Idealize.SL.Sem Idealize.ShloMosaic.TcCoe

theorem q1 : quiescent_MmNt := fun m g _ => Cert.MmNt.Gen.frame m g
theorem q2 : quiescent_MmNtIdeal := fun m g _ => Cert.MmNtIdeal.Gen.frame m g
theorem q3 : quiescent_MmNtRefIdeal := fun m g _ =>
  (θ_run _ _ _).mono (fun r h => And.intro (fun c => (h c).2) (sem_eq_zero_of_no_sems (by decide) r.2)) (Cert.MmNtRefIdeal.Value.run (F := Ideal) m g)

theorem value : algebraic_MmNtIdeal_MmNtRefIdeal := by
  intro m g m' g' hpre hag
  refine ⟨fun c => fun i => Cert.MmNtIdeal.Real.res (m ((c : Thread Cert.MmNtIdeal.nD Cert.MmNtIdeal.τ).loc Cert.MmNtIdeal.main_arg0)) (m ((c : Thread Cert.MmNtIdeal.nD Cert.MmNtIdeal.τ).loc Cert.MmNtIdeal.main_arg1)) (i 0) (i 1), ?_, (θ_run _ _ _).mono (fun r h c => ⟨(h c).1.trans ?_, (h c).2⟩) (Cert.MmNtRefIdeal.Value.run (F := Ideal) m' g')⟩
  · exact (θ_run _ _ _).mono (fun r h c => ⟨(h c).1.trans (Cert.MmNtIdeal.Real.arr2 c m _ _ rfl rfl), (h c).2⟩) (Cert.MmNtIdeal.Value.run_blocks (F := Ideal) m g)
  · rw [(hag c).1, (hag c).2]
    exact Cert.MmNtIdeal.Real.ref _ _

end Cert.Proof.MmNt

end
-- ==== Proof.MmTn.lean ====
/- The product of the first factor's transpose with the second, its inner sum in two blocks. -/
module

public import proofs.«01_k».proof.Proof.MmSum
public import proofs.«01_k».proof.Proof.Gen.MmTnIdeal.Value
public import proofs.«01_k».proof.Proof.Gen.MmTnRefIdeal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.MmTnIdeal.Real

open Idealize.ShloMosaic Cert.MmTnIdeal Cert.MmTnIdeal.Gen Idealize.SL.Sem Idealize.ShloMosaic.TcCoe

theorem idx0 (t : Fin cfg0.N) : win0_0.index t = ![t.val % 2, t.val / 4] ∧ win0_1.index t = ![t.val % 2, t.val / 2 % 2] ∧ win0_2.index t = ![t.val / 4, t.val / 2 % 2] :=
  (by decide +kernel : ∀ t : Fin grid0.N, win0_0.index t = ![t.val % 2, t.val / 4] ∧ win0_1.index t = ![t.val % 2, t.val / 2 % 2] ∧ win0_2.index t = ![t.val / 4, t.val / 2 % 2]) t

theorem hz : (![0, 0] : Fin 2 → ℕ) = fun _ => 0 := by decide

/-- A block's part of the product, added to what was there. -/
theorem pay (s : Vec Ideal S512x1024 .f32) (x : Vec Ideal S2048x512 .bf16) (y : Vec Ideal S2048x1024 .bf16) (r : Fin 512) (d : Fin 1024) :
    k0_pay2 s x y (ix2 r d) = s (ix2 r d) + ∑ k : Fin 2048, x (ix2 k r) * y (ix2 k d) := by
  pointwise [k0_pay2]

variable (c : Dev nD) (m : (ℓ : Loc nD τ sig) → Buf (Elt Ideal) ℓ)

/-- After the first of a tile's two points the scratch holds its block's part. -/
theorem first (t : Fin cfg0.N) (h : t.val % 2 = 0) : (outsAt0 m c t.val t.isLt).2 = k0_pay2 k0_pay1 (iblk m c 0 t) (iblk m c 1 t) := by
  rw [outsAt0_A m c t h (by omega)]
  dsimp only
  unfold sout0_A_0
  rw [View.read_writes_eq_canon _ _ _ (fun z => scover0_A_0 c _ _ _ _ _ _ _ _ _ _ _ _ _ z)]
  unfold kernelRun0_A
  dsimp only
  sl_unfold_words
  rw [View.canon_cons_unit_zero hz, View.readCov_unit_zero _ hz]
  simp only [View.readAt_eq_ld, (hs0_0 t).read_unread, (hs0_1 t).read_unread]
  rw [View.ld_unit_zero hz, View.ld_unit_zero hz]

/-- After the second the result's tile is the scratch with the other block's part added. -/
theorem last (t : Fin cfg0.N) (h : t.val % 2 = 1) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_B m c t (by omega) h]
  dsimp only
  unfold out0_B_2
  rw [View.read_writes_eq_canon _ _ _ (fun z => cover0_B_2 c _ _ _ _ _ _ _ _ _ _ _ _ _ _ z)]
  unfold kernelRun0_B
  dsimp only
  sl_unfold_words
  rw [View.canon_unit_zero hz, View.readCov_unit_zero _ hz]
  simp only [View.readAt_eq_ld, (hs0_0 t).read_unread, (hs0_1 t).read_unread, (Memref.isWhole_whole cc0_scratch0).read_unread]
  rw [View.ld_unit_zero hz, View.ld_unit_zero hz, View.ld_unit_zero hz]

variable (a : S4096x5632.Idx → EReal) (b : S4096x2048.Idx → EReal) (ha : m ((c : Thread nD τ).loc main_arg0) = a) (hb : m ((c : Thread nD τ).loc main_arg1) = b)

include ha in
theorem lhs (t : Fin cfg0.N) (k : Fin 2048) (r : Fin 512) (K : Fin 4096) (N : Fin 5632) (h : K.val = 2048 * (t.val % 2) + k.val) (hN : N.val = 512 * (t.val / 4) + r.val) : iblk m c 0 t (ix2 k r) = a (ix2 K N) := by
  subst ha
  rw [show iblk m c 0 t (ix2 k r) = (V m c main_v0 : S4096x5632.Idx → EReal) (ix2 K N) from by blk_ext [iblk, idx0 t, h, hN]]
  unfold V
  after_reads_at

include hb in
theorem rhs (t : Fin cfg0.N) (k : Fin 2048) (d : Fin 1024) (K : Fin 4096) (N : Fin 2048) (h : K.val = 2048 * (t.val % 2) + k.val) (hN : N.val = 1024 * (t.val / 2 % 2) + d.val) : iblk m c 1 t (ix2 k d) = b (ix2 K N) := by
  subst hb
  rw [show iblk m c 1 t (ix2 k d) = (V m c main_v1 : S4096x2048.Idx → EReal) (ix2 K N) from by blk_ext [iblk, idx0 t, h, hN]]
  unfold V
  after_reads_at

/-- The result at a row and a lane. -/
def res (n : Fin 5632) (j : Fin 2048) : EReal := ∑ k : Fin 4096, a (ix2 k n) * b (ix2 k j)

include ha hb in
theorem point (t : Fin cfg0.N) (h : t.val % 2 = 1) (r : Fin 512) (d : Fin 1024) (n : Fin 5632) (j : Fin 2048) (hn : n.val = 512 * (t.val / 4) + r.val) (hj : j.val = 1024 * (t.val / 2 % 2) + d.val) :
    (outsAt0 m c t.val t.isLt).1 (ix2 r d) = res a b n j := by
  rw [last c m t h, show ∀ v, k0_pay3 (F := Ideal) v (ix2 r d) = v (ix2 r d) from fun v => by pointwise [k0_pay3], pay,
    first c m ⟨t.val - 1, Nat.lt_of_le_of_lt (Nat.sub_le _ _) t.isLt⟩ (by show (t.val - 1) % 2 = 0; omega), pay, show k0_pay1 (F := Ideal) (ix2 r d) = 0 from by pointwise [k0_pay1], zero_add]
  unfold res
  rw [Cert.Mm.two (n := 2048) rfl]
  refine congrArg₂ (· + ·) (Finset.sum_congr rfl fun k _ => congrArg₂ (· * ·) ?_ ?_) (Finset.sum_congr rfl fun k _ => congrArg₂ (· * ·) ?_ ?_)
  · exact lhs c m a ha _ k r _ _ (by show k.val = 2048 * ((t.val - 1) % 2) + k.val; omega) (by show n.val = 512 * ((t.val - 1) / 4) + r.val; omega)
  · exact rhs c m b hb _ k d _ _ (by show k.val = 2048 * ((t.val - 1) % 2) + k.val; omega) (by show j.val = 1024 * ((t.val - 1) / 2 % 2) + d.val; omega)
  · exact lhs c m a ha t k r _ _ (by dsimp only; omega) hn
  · exact rhs c m b hb t k d _ _ (by dsimp only; omega) hj

include ha hb in
theorem arr2 : (dats m 0 c).arrAt 2 cfg0.N = (fun i => res a b (i 0) (i 1) : S5632x2048.Idx → EReal) := by
  refine (dats m 0 c).arrAt_eq_of_covers 2 _ (by decide +kernel) fun t hf i => ?_
  have h1 : t.val % 2 = 1 := (by decide +kernel : ∀ t : Fin cfg0.N, (cfg0.win 2).flush t = true → t.val % 2 = 1) t hf
  blk_simp
  rw [after0_2]
  idx_vars i
  have ht : t.val < 44 := t.isLt
  have e : ((View.whole main_v2).slice (win0_2.rect t)).emb (ix2 i0 i1) = ix2 ⟨512 * (t.val / 4) + i0.val, by omega⟩ ⟨1024 * (t.val / 2 % 2) + i1.val, by omega⟩ := by blk_ext [idx0 t]
  exact (point c m a b ha hb t h1 i0 i1 _ _ rfl rfl).trans (congrArg (fun j : S5632x2048.Idx => res a b (j 0) (j 1)) e.symm)

open Cert.MmTnRefIdeal Cert.MmTnRefIdeal.Gen in
/-- The reference. -/
theorem ref : (truncf .bf16 (transpose Cert.MmTnRefIdeal.S5632x2048 [1, 0] (Host.dotGeneral (F := Ideal) (φ₁ := .f32) (φ₂ := .f32) dot_S4096x2048_S4096x5632_S2048x5632_0_0_1_1_n_n none b a) transposes_S2048x5632_S5632x2048_1_0) Cert.MmTnRefIdeal.Gen.bitsLt_bf16_f32 : S5632x2048.Idx → EReal) = fun i => res a b (i 0) (i 1) := by
  funext i
  idx_vars i
  pointwise [res]
  exact Finset.sum_congr rfl fun k _ => mul_comm _ _

end Cert.MmTnIdeal.Real
-- ==== Proof.MmTnClaim.lean ====
/- The claims about the call `mm_tn`, the product of its gradient by the weights. -/
module

public import proofs.«01_k».proof.Defs
public import proofs.«01_k».proof.Proof.MmTn
public import proofs.«01_k».proof.Proof.Gen.MmTn.Frame

@[expose] public section

set_option maxRecDepth 16384

noncomputable section

namespace Cert.Proof.MmTn

open Idealize.ShloMosaic Idealize.SL.Sem Idealize.ShloMosaic.TcCoe

theorem q1 : quiescent_MmTn := fun m g _ => Cert.MmTn.Gen.frame m g
theorem q2 : quiescent_MmTnIdeal := fun m g _ => Cert.MmTnIdeal.Gen.frame m g
theorem q3 : quiescent_MmTnRefIdeal := fun m g _ =>
  (θ_run _ _ _).mono (fun r h => And.intro (fun c => (h c).2) (sem_eq_zero_of_no_sems (by decide) r.2)) (Cert.MmTnRefIdeal.Value.run (F := Ideal) m g)

theorem value : algebraic_MmTnIdeal_MmTnRefIdeal := by
  intro m g m' g' hpre hag
  refine ⟨fun c => fun i => Cert.MmTnIdeal.Real.res (m ((c : Thread Cert.MmTnIdeal.nD Cert.MmTnIdeal.τ).loc Cert.MmTnIdeal.main_arg0)) (m ((c : Thread Cert.MmTnIdeal.nD Cert.MmTnIdeal.τ).loc Cert.MmTnIdeal.main_arg1)) (i 0) (i 1), ?_, (θ_run _ _ _).mono (fun r h c => ⟨(h c).1.trans ?_, (h c).2⟩) (Cert.MmTnRefIdeal.Value.run (F := Ideal) m' g')⟩
  · exact (θ_run _ _ _).mono (fun r h c => ⟨(h c).1.trans (Cert.MmTnIdeal.Real.arr2 c m _ _ rfl rfl), (h c).2⟩) (Cert.MmTnIdeal.Value.run_blocks (F := Ideal) m g)
  · rw [(hag c).1, (hag c).2]
    exact Cert.MmTnIdeal.Real.ref _ _

end Cert.Proof.MmTn

end
-- ==== Proof.MmUp.lean ====
/- The product with the blocked matrix, the two halves of the result apart: each point leaves one tile. -/
module

public import proofs.«01_k».proof.Proof.MmSum
public import proofs.«01_k».proof.Proof.Gen.MmUpIdeal.Value
public import proofs.«01_k».proof.Proof.Gen.MmUpRefIdeal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.MmUpIdeal.Real

open Idealize.ShloMosaic Cert.MmUpIdeal Cert.MmUpIdeal.Gen Idealize.SL.Sem Idealize.ShloMosaic.TcCoe

theorem idx0 (t : Fin cfg0.N) : win0_0.index t = ![t.val / 8, 0] ∧ win0_1.index t = ![t.val % 8, 0, 0] ∧ win0_2.index t = ![t.val % 8 / 4, t.val / 8, t.val % 4] :=
  (by decide +kernel : ∀ t : Fin grid0.N, win0_0.index t = ![t.val / 8, 0] ∧ win0_1.index t = ![t.val % 8, 0, 0] ∧ win0_2.index t = ![t.val % 8 / 4, t.val / 8, t.val % 4]) t

/-- A tile of the product. -/
theorem pay (x : Vec Ideal S1024x2048 .bf16) (y : Vec Ideal S1x2048x1408 .bf16) (z : Fin 1) (r : Fin 1024) (d : Fin 1408) : k0_pay1 x y (ix3 z r d) = ∑ k : Fin 2048, x (ix2 r k) * y (ix3 0 k d) := by
  pointwise [k0_pay1]

/-- What a point leaves. -/
theorem out (x : Vec Ideal S1024x2048 .bf16) (y : Vec Ideal S1x2048x1408 .bf16) : out0_2 x y = k0_pay1 x y := by
  have h3 : (![0, 0, 0] : Fin 3 → ℕ) = fun _ => 0 := by decide
  have h2 : (![0, 0] : Fin 2 → ℕ) = fun _ => 0 := by decide
  unfold out0_2
  rw [View.canon_unit_zero h3, View.ld_unit_zero h2, View.ld_unit_zero h3]

variable (c : Dev nD) (m : (ℓ : Loc nD τ sig) → Buf (Elt Ideal) ℓ)
variable (a : S4096x2048.Idx → EReal) (b : S2048x11264.Idx → EReal) (ha : m ((c : Thread nD τ).loc main_arg0) = a) (hb : m ((c : Thread nD τ).loc main_arg1) = b)

include ha in
theorem lhs (t : Fin cfg0.N) (r : Fin 1024) (k : Fin 2048) : iblk m c 0 t (ix2 r k) = a (ix2 ⟨1024 * (t.val / 8) + r.val, by have : t.val < 32 := t.isLt; omega⟩ k) := by
  subst ha
  rw [show iblk m c 0 t (ix2 r k) = (V m c main_v0 : S4096x2048.Idx → EReal) (ix2 ⟨1024 * (t.val / 8) + r.val, by have : t.val < 32 := t.isLt; omega⟩ k) from by blk_ext [iblk, idx0 t]]
  unfold V
  after_reads_at

include hb in
theorem rhs (t : Fin cfg0.N) (k : Fin 2048) (d : Fin 1408) : iblk m c 1 t (ix3 0 k d) = b (ix2 k ⟨1408 * (t.val % 8) + d.val, by omega⟩) := by
  subst hb
  rw [show iblk m c 1 t (ix3 0 k d) = (V m c main_v3 : S8x2048x1408.Idx → EReal) (ix3 ⟨t.val % 8, by omega⟩ k d) from by blk_ext [iblk, idx0 t]]
  unfold V
  after_reads_at
  exact congrArg (m ((c : Thread nD τ).loc main_arg1) : S2048x11264.Idx → EReal) (congrArg (ix2 k) (Fin.ext (by dsimp only; omega)))

/-- The result at a half, a row and a lane. -/
def res (h : Fin 2) (n : Fin 4096) (j : Fin 5632) : EReal := ∑ k : Fin 2048, a (ix2 n k) * b (ix2 k ⟨5632 * h.val + j.val, by omega⟩)

include ha hb in
theorem arr2 : (dats m 0 c).arrAt 2 cfg0.N = (fun i => res a b (i 0) (i 1) (i 2) : S2x4096x5632.Idx → EReal) := by
  refine (dats m 0 c).arrAt_eq_of_covers 2 _ (by decide +kernel) fun t hf i => ?_
  blk_simp
  rw [after0_2, out]
  idx_vars i
  have ht : t.val < 32 := t.isLt
  have e : ((View.whole main_v4).slice (win0_2.rect t)).emb (ix3 i0 i1 i2) = ix3 ⟨t.val % 8 / 4, by omega⟩ ⟨1024 * (t.val / 8) + i1.val, by omega⟩ ⟨1408 * (t.val % 4) + i2.val, by omega⟩ := by blk_ext [idx0 t]
  refine (pay _ _ _ _ _).trans ?_
  refine Eq.trans ?_ (congrArg (fun j : S2x4096x5632.Idx => res a b (j 0) (j 1) (j 2)) e.symm)
  refine Finset.sum_congr rfl fun k _ => congrArg₂ (· * ·) (lhs c m a ha t i1 k) ((rhs c m b hb t k i2).trans ?_)
  exact congrArg (fun z => b (ix2 k z)) (Fin.ext (by show 1408 * (t.val % 8) + i2.val = 5632 * (t.val % 8 / 4) + (1408 * (t.val % 4) + i2.val); omega))

open Cert.MmUpRefIdeal Cert.MmUpRefIdeal.Gen in
/-- The reference. -/
theorem ref : (concatenate Cert.MmUpRefIdeal.S2x4096x5632 0 [⟨Cert.MmUpRefIdeal.S1x4096x5632, (broadcastInDim Cert.MmUpRefIdeal.S1x4096x5632 ![1, 2] bcast_S4096x5632_S1x4096x5632_1_2 (extractStridedSlice Cert.MmUpRefIdeal.S4096x5632 ![0, 0] (Host.dotGeneral (F := Ideal) (φ₁ := .f32) (φ₂ := .f32) dot_S4096x2048_S2048x11264_S4096x11264_1_0_0_1_n_n none a b) slices_S4096x11264_S4096x5632_0_0))⟩, ⟨Cert.MmUpRefIdeal.S1x4096x5632, (broadcastInDim Cert.MmUpRefIdeal.S1x4096x5632 ![1, 2] bcast_S4096x5632_S1x4096x5632_1_2 (extractStridedSlice Cert.MmUpRefIdeal.S4096x5632 ![0, 5632] (Host.dotGeneral (F := Ideal) (φ₁ := .f32) (φ₂ := .f32) dot_S4096x2048_S2048x11264_S4096x11264_1_0_0_1_n_n none a b) slices_S4096x11264_S4096x5632_0_5632))⟩] concatenates_S1x4096x5632_S1x4096x5632_S2x4096x5632_d0 : S2x4096x5632.Idx → EReal) = fun i => res a b (i 0) (i 1) (i 2) := by
  funext i
  idx_vars i
  pointwise [res]
  split
  · exact Finset.sum_congr rfl fun k _ => congrArg (fun z => a (ix2 i1 k) * b (ix2 k z)) (Fin.ext (by show i2.val = 5632 * i0.val + i2.val; omega))
  · exact Finset.sum_congr rfl fun k _ => congrArg (fun z => a (ix2 i1 k) * b (ix2 k z)) (Fin.ext (by show 5632 + i2.val = 5632 * i0.val + i2.val; omega))

end Cert.MmUpIdeal.Real
-- ==== Proof.MmUpClaim.lean ====
/- The claims about the call `mm_up`, the product of the up projection. -/
module

public import proofs.«01_k».proof.Defs
public import proofs.«01_k».proof.Proof.MmUp
public import proofs.«01_k».proof.Proof.Gen.MmUp.Frame

@[expose] public section

set_option maxRecDepth 16384

noncomputable section

namespace Cert.Proof.MmUp

open Idealize.ShloMosaic Idealize.SL.Sem Idealize.ShloMosaic.TcCoe

theorem q1 : quiescent_MmUp := fun m g _ => Cert.MmUp.Gen.frame m g
theorem q2 : quiescent_MmUpIdeal := fun m g _ => Cert.MmUpIdeal.Gen.frame m g
theorem q3 : quiescent_MmUpRefIdeal := fun m g _ =>
  (θ_run _ _ _).mono (fun r h => And.intro (fun c => (h c).2) (sem_eq_zero_of_no_sems (by decide) r.2)) (Cert.MmUpRefIdeal.Value.run (F := Ideal) m g)

theorem value : algebraic_MmUpIdeal_MmUpRefIdeal := by
  intro m g m' g' hpre hag
  refine ⟨fun c => fun i => Cert.MmUpIdeal.Real.res (m ((c : Thread Cert.MmUpIdeal.nD Cert.MmUpIdeal.τ).loc Cert.MmUpIdeal.main_arg0)) (m ((c : Thread Cert.MmUpIdeal.nD Cert.MmUpIdeal.τ).loc Cert.MmUpIdeal.main_arg1)) (i 0) (i 1) (i 2), ?_, (θ_run _ _ _).mono (fun r h c => ⟨(h c).1.trans ?_, (h c).2⟩) (Cert.MmUpRefIdeal.Value.run (F := Ideal) m' g')⟩
  · exact (θ_run _ _ _).mono (fun r h c => ⟨(h c).1.trans (Cert.MmUpIdeal.Real.arr2 c m _ _ rfl rfl), (h c).2⟩) (Cert.MmUpIdeal.Value.run_blocks (F := Ideal) m g)
  · rw [(hag c).1, (hag c).2]
    exact Cert.MmUpIdeal.Real.ref _ _

end Cert.Proof.MmUp

end
-- ==== Proof.MmUpD.lean ====
/- The product of the halves with the blocked matrix's transpose, its inner sum in eight blocks. -/
module

public import proofs.«01_k».proof.Proof.MmSum
public import proofs.«01_k».proof.Proof.Gen.MmUpDIdeal.Value
public import proofs.«01_k».proof.Proof.Gen.MmUpDRefIdeal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.MmUpDIdeal.Real

open Idealize.ShloMosaic Cert.MmUpDIdeal Cert.MmUpDIdeal.Gen Idealize.SL.Sem Idealize.ShloMosaic.TcCoe

theorem idx0 (t : Fin cfg0.N) : win0_0.index t = ![t.val % 8 / 4, t.val / 8, t.val % 4] ∧ win0_1.index t = ![t.val % 8, 0, 0] ∧ win0_2.index t = ![t.val / 8, 0] :=
  (by decide +kernel : ∀ t : Fin grid0.N, win0_0.index t = ![t.val % 8 / 4, t.val / 8, t.val % 4] ∧ win0_1.index t = ![t.val % 8, 0, 0] ∧ win0_2.index t = ![t.val / 8, 0]) t

theorem h2 : (![0, 0] : Fin 2 → ℕ) = fun _ => 0 := by decide
theorem h3 : (![0, 0, 0] : Fin 3 → ℕ) = fun _ => 0 := by decide

/-- A block's part of the product, added to what was there. -/
theorem pay (s : Vec Ideal S1024x2048 .f32) (x : Vec Ideal S1x1024x1408 .bf16) (y : Vec Ideal S1x2048x1408 .bf16) (r : Fin 1024) (d : Fin 2048) :
    k0_pay2 s x y (ix2 r d) = s (ix2 r d) + ∑ k : Fin 1408, x (ix3 0 r k) * y (ix3 0 d k) := by
  pointwise [k0_pay2]

variable (c : Dev nD) (m : (ℓ : Loc nD τ sig) → Buf (Elt Ideal) ℓ)

/-- A block's part of the product. -/
def part (x : Vec Ideal S1x1024x1408 .bf16) (y : Vec Ideal S1x2048x1408 .bf16) (j : S1024x2048.Idx) : EReal := ∑ k : Fin 1408, x (ix3 0 (j 0) k) * y (ix3 0 (j 1) k)

/-- What a point adds to the scratch. -/
def term (t : Fin cfg0.N) : S1024x2048.Idx → EReal := part (iblk m c 0 t) (iblk m c 1 t)

theorem first (t : Fin cfg0.N) (h : t.val % 8 = 0) : (outsAt0 m c t.val t.isLt).2 = fun j => 0 + term c m t j := by
  rw [outsAt0_A m c t h (by omega)]
  dsimp only
  unfold sout0_A_0
  rw [View.read_writes_eq_canon _ _ _ (fun z => scover0_A_0 c _ _ _ _ _ _ _ _ _ _ _ _ _ z)]
  unfold kernelRun0_A
  dsimp only
  sl_unfold_words
  rw [View.canon_cons_unit_zero h2, View.readCov_unit_zero _ h2]
  simp only [View.readAt_eq_ld, (hs0_0 t).read_unread, (hs0_1 t).read_unread]
  rw [View.ld_unit_zero h3, View.ld_unit_zero h3]
  funext j
  idx_vars j
  rw [pay, show k0_pay1 (F := Ideal) (ix2 j0 j1) = 0 from by pointwise [k0_pay1]]
  rfl

theorem next (t : Fin cfg0.N) (h : ¬t.val % 8 = 0) : (outsAt0 m c t.val t.isLt).2 = fun j => (outsAt0 m c (t.val - 1) (Nat.lt_of_le_of_lt (Nat.sub_le _ _) t.isLt)).2 j + term c m t j := by
  funext j
  idx_vars j
  refine Eq.trans (congrFun ?_ _) (pay (outsAt0 m c (t.val - 1) (Nat.lt_of_le_of_lt (Nat.sub_le _ _) t.isLt)).2 (iblk m c 0 t) (iblk m c 1 t) j0 j1)
  by_cases h1 : t.val % 8 = 7
  · rw [outsAt0_C m c t h h1]
    dsimp only
    unfold sout0_C_0
    rw [View.read_writes_eq_canon _ _ _ (fun z => scover0_C_0 c _ _ _ _ _ _ _ _ _ _ _ _ _ _ z)]
    unfold kernelRun0_C
    dsimp only
    sl_unfold_words
    rw [View.canon_unit_zero h2]
    simp only [View.readAt_eq_ld, (hs0_0 t).read_unread, (hs0_1 t).read_unread, (Memref.isWhole_whole cc0_scratch0).read_unread]
    rw [View.ld_unit_zero h2, View.ld_unit_zero h3, View.ld_unit_zero h3]
  · rw [outsAt0_B m c t h h1]
    dsimp only
    unfold sout0_B_0
    rw [View.read_writes_eq_canon _ _ _ (fun z => scover0_B_0 c _ _ _ _ _ _ _ _ _ _ _ _ _ _ z)]
    unfold kernelRun0_B
    dsimp only
    sl_unfold_words
    rw [View.canon_unit_zero h2]
    simp only [View.readAt_eq_ld, (hs0_0 t).read_unread, (hs0_1 t).read_unread, (Memref.isWhole_whole cc0_scratch0).read_unread]
    rw [View.ld_unit_zero h2, View.ld_unit_zero h3, View.ld_unit_zero h3]

/-- The last of a tile's points stores the scratch as the result. -/
theorem stored (t : Fin cfg0.N) (h : t.val % 8 = 7) : (outsAt0 m c t.val t.isLt).1 = (outsAt0 m c t.val t.isLt).2 := by
  rw [outsAt0_C m c t (by omega) h]
  dsimp only
  unfold out0_C_2 sout0_C_0
  rw [View.read_writes_eq_canon _ _ _ (fun z => cover0_C_2 c _ _ _ _ _ _ _ _ _ _ _ _ _ _ z), View.read_writes_eq_canon _ _ _ (fun z => scover0_C_0 c _ _ _ _ _ _ _ _ _ _ _ _ _ _ z)]
  unfold kernelRun0_C
  dsimp only
  sl_unfold_words
  rw [View.canon_unit_zero h2, View.canon_unit_zero h2, View.readCov_unit_zero _ h2]

variable (a : S4096x11264.Idx → EReal) (b : S2048x11264.Idx → EReal) (ha : m ((c : Thread nD τ).loc main_arg0) = a) (hb : m ((c : Thread nD τ).loc main_arg1) = b)

include ha in
theorem lhs (t : Fin cfg0.N) (r : Fin 1024) (k : Fin 1408) (N : Fin 4096) (K : Fin 11264) (hN : N.val = 1024 * (t.val / 8) + r.val) (h : K.val = t.val % 8 * 1408 + k.val) : iblk m c 0 t (ix3 0 r k) = a (ix2 N K) := by
  subst ha
  rw [show iblk m c 0 t (ix3 0 r k) = (V m c main_v5 : S2x4096x5632.Idx → EReal) (ix3 ⟨t.val % 8 / 4, by omega⟩ N ⟨1408 * (t.val % 4) + k.val, by omega⟩) from by blk_ext [iblk, idx0 t, hN]]
  unfold V
  after_reads_at
  split
  all_goals
    rename_i hs
    refine congrArg (m ((c : Thread nD τ).loc main_arg0) : S4096x11264.Idx → EReal) (funext fun q => ?_)
  · have hs' : t.val % 8 / 4 < 1 := hs
    match q with
    | 0 => exact Fin.ext (by show 0 + N.val = N.val; omega)
    | 1 => exact Fin.ext (by show 0 + (1408 * (t.val % 4) + k.val) = K.val; omega)
  · have hs' : ¬t.val % 8 / 4 < 1 := hs
    match q with
    | 0 => exact Fin.ext (by show 0 + N.val = N.val; omega)
    | 1 => exact Fin.ext (by show 5632 + (1408 * (t.val % 4) + k.val) = K.val; omega)

include hb in
theorem rhs (t : Fin cfg0.N) (d : Fin 2048) (k : Fin 1408) (K : Fin 11264) (h : K.val = t.val % 8 * 1408 + k.val) : iblk m c 1 t (ix3 0 d k) = b (ix2 d K) := by
  subst hb
  rw [show iblk m c 1 t (ix3 0 d k) = (V m c main_v8 : S8x2048x1408.Idx → EReal) (ix3 ⟨t.val % 8, by omega⟩ d k) from by blk_ext [iblk, idx0 t]]
  unfold V
  after_reads_at
  exact congrArg (m ((c : Thread nD τ).loc main_arg1) : S2048x11264.Idx → EReal) (congrArg (ix2 d) (Fin.ext (by dsimp only; omega)))

/-- The result at a row and a lane. -/
def res (n : Fin 4096) (j : Fin 2048) : EReal := ∑ k : Fin 11264, a (ix2 n k) * b (ix2 j k)

include ha hb in
theorem point (t : Fin cfg0.N) (h : t.val % 8 = 7) (r : Fin 1024) (d : Fin 2048) (n : Fin 4096) (hn : n.val = 1024 * (t.val / 8) + r.val) : (outsAt0 m c t.val t.isLt).1 (ix2 r d) = res a b n d := by
  have ht : t.val < 32 := t.isLt
  rw [stored c m t h]
  refine (congrFun (Pipeline.eq_sum_fin_of_reset_step_of_flush (fun n hn => ((outsAt0 m c n hn).2 : S1024x2048.Idx → EReal)) 8 (fun _ => 0) (term c m) (fun t h => first c m t h) (fun t h => next c m t h) t h) (ix2 r d)).trans ?_
  rw [Pi.add_apply, zero_add, Finset.sum_apply]
  unfold res
  rw [Cert.Mm.many (J := 8) (n := 1408) rfl]
  unfold term part
  refine Finset.sum_congr rfl fun s _ => Finset.sum_congr rfl fun k _ => congrArg₂ (· * ·) ?_ ?_
  · exact lhs c m a ha _ r k _ _ (by show n.val = 1024 * ((8 * (t.val / 8) + s.val) / 8) + r.val; omega) (by show s.val * 1408 + k.val = (8 * (t.val / 8) + s.val) % 8 * 1408 + k.val; omega)
  · exact rhs c m b hb _ d k _ (by show s.val * 1408 + k.val = (8 * (t.val / 8) + s.val) % 8 * 1408 + k.val; omega)

include ha hb in
theorem arr2 : (dats m 0 c).arrAt 2 cfg0.N = (fun i => res a b (i 0) (i 1) : S4096x2048.Idx → EReal) := by
  refine (dats m 0 c).arrAt_eq_of_covers 2 _ (by decide +kernel) fun t hf i => ?_
  have h1 : t.val % 8 = 7 := (by decide +kernel : ∀ t : Fin cfg0.N, (cfg0.win 2).flush t = true → t.val % 8 = 7) t hf
  blk_simp
  rw [after0_2]
  idx_vars i
  have ht : t.val < 32 := t.isLt
  have e : ((View.whole main_v9).slice (win0_2.rect t)).emb (ix2 i0 i1) = ix2 ⟨1024 * (t.val / 8) + i0.val, by omega⟩ i1 := by blk_ext [idx0 t]
  exact (point c m a b ha hb t h1 i0 i1 _ rfl).trans (congrArg (fun j : S4096x2048.Idx => res a b (j 0) (j 1)) e.symm)

/-- The reference. -/
theorem ref : (Host.dotGeneral (F := Ideal) (φ₁ := .f32) (φ₂ := .f32) Cert.MmUpDRefIdeal.dot_S4096x11264_S2048x11264_S4096x2048_1_1_0_0_n_n none a b : S4096x2048.Idx → EReal) = fun i => res a b (i 0) (i 1) := by
  funext i
  idx_vars i
  pointwise [res]

end Cert.MmUpDIdeal.Real
-- ==== Proof.MmUpDClaim.lean ====
/- The claims about the call `mm_up_dgrad`, the product of its gradient by the rows. -/
module

public import proofs.«01_k».proof.Defs
public import proofs.«01_k».proof.Proof.MmUpD
public import proofs.«01_k».proof.Proof.Gen.MmUpD.Frame

@[expose] public section

set_option maxRecDepth 16384

noncomputable section

namespace Cert.Proof.MmUpD

open Idealize.ShloMosaic Idealize.SL.Sem Idealize.ShloMosaic.TcCoe

theorem q1 : quiescent_MmUpD := fun m g _ => Cert.MmUpD.Gen.frame m g
theorem q2 : quiescent_MmUpDIdeal := fun m g _ => Cert.MmUpDIdeal.Gen.frame m g
theorem q3 : quiescent_MmUpDRefIdeal := fun m g _ =>
  (θ_run _ _ _).mono (fun r h => And.intro (fun c => (h c).2) (sem_eq_zero_of_no_sems (by decide) r.2)) (Cert.MmUpDRefIdeal.Value.run (F := Ideal) m g)

theorem value : algebraic_MmUpDIdeal_MmUpDRefIdeal := by
  intro m g m' g' hpre hag
  refine ⟨fun c => fun i => Cert.MmUpDIdeal.Real.res (m ((c : Thread Cert.MmUpDIdeal.nD Cert.MmUpDIdeal.τ).loc Cert.MmUpDIdeal.main_arg0)) (m ((c : Thread Cert.MmUpDIdeal.nD Cert.MmUpDIdeal.τ).loc Cert.MmUpDIdeal.main_arg1)) (i 0) (i 1), ?_, (θ_run _ _ _).mono (fun r h c => ⟨(h c).1.trans ?_, (h c).2⟩) (Cert.MmUpDRefIdeal.Value.run (F := Ideal) m' g')⟩
  · exact (θ_run _ _ _).mono (fun r h c => ⟨(h c).1.trans (Cert.MmUpDIdeal.Real.arr2 c m _ _ rfl rfl), (h c).2⟩) (Cert.MmUpDIdeal.Value.run_blocks (F := Ideal) m g)
  · rw [(hag c).1, (hag c).2]
    exact Cert.MmUpDIdeal.Real.ref _ _

end Cert.Proof.MmUpD

end
-- ==== Proof.MmUpW.lean ====
/- The product of the rows' transpose with the halves, in blocks of lanes, its inner sum in two blocks. -/
module

public import proofs.«01_k».proof.Proof.MmSum
public import proofs.«01_k».proof.Proof.Gen.MmUpWIdeal.Value
public import proofs.«01_k».proof.Proof.Gen.MmUpWRefIdeal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.MmUpWIdeal.Real

open Idealize.ShloMosaic Cert.MmUpWIdeal Cert.MmUpWIdeal.Gen Idealize.SL.Sem Idealize.ShloMosaic.TcCoe

theorem idx0 (t : Fin cfg0.N) : win0_0.index t = ![t.val % 2, t.val / 16] ∧ win0_1.index t = ![t.val / 2 % 8 / 4, t.val % 2, t.val / 2 % 4] ∧ win0_2.index t = ![t.val / 2 % 8, t.val / 16, 0] :=
  (by decide +kernel : ∀ t : Fin grid0.N, win0_0.index t = ![t.val % 2, t.val / 16] ∧ win0_1.index t = ![t.val / 2 % 8 / 4, t.val % 2, t.val / 2 % 4] ∧ win0_2.index t = ![t.val / 2 % 8, t.val / 16, 0]) t

theorem h2 : (![0, 0] : Fin 2 → ℕ) = fun _ => 0 := by decide
theorem h3 : (![0, 0, 0] : Fin 3 → ℕ) = fun _ => 0 := by decide

/-- A block's part of the product, added to what was there. -/
theorem pay (s : Vec Ideal S1024x1408 .f32) (x : Vec Ideal S2048x1024 .bf16) (y : Vec Ideal S1x2048x1408 .bf16) (r : Fin 1024) (d : Fin 1408) :
    k0_pay2 s x y (ix2 r d) = s (ix2 r d) + ∑ k : Fin 2048, x (ix2 k r) * y (ix3 0 k d) := by
  pointwise [k0_pay2]

variable (c : Dev nD) (m : (ℓ : Loc nD τ sig) → Buf (Elt Ideal) ℓ)

theorem first (t : Fin cfg0.N) (h : t.val % 2 = 0) : (outsAt0 m c t.val t.isLt).2 = k0_pay2 k0_pay1 (iblk m c 0 t) (iblk m c 1 t) := by
  rw [outsAt0_A m c t h (by omega)]
  dsimp only
  unfold sout0_A_0
  rw [View.read_writes_eq_canon _ _ _ (fun z => scover0_A_0 c _ _ _ _ _ _ _ _ _ _ _ _ _ z)]
  unfold kernelRun0_A
  dsimp only
  sl_unfold_words
  rw [View.canon_cons_unit_zero h2, View.readCov_unit_zero _ h2]
  simp only [View.readAt_eq_ld, (hs0_0 t).read_unread, (hs0_1 t).read_unread]
  rw [View.ld_unit_zero h2, View.ld_unit_zero h3]

theorem last (t : Fin cfg0.N) (h : t.val % 2 = 1) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_B m c t (by omega) h]
  dsimp only
  unfold out0_B_2
  rw [View.read_writes_eq_canon _ _ _ (fun z => cover0_B_2 c _ _ _ _ _ _ _ _ _ _ _ _ _ _ z)]
  unfold kernelRun0_B
  dsimp only
  sl_unfold_words
  rw [View.canon_unit_zero h3, View.readCov_unit_zero _ h2]
  simp only [View.readAt_eq_ld, (hs0_0 t).read_unread, (hs0_1 t).read_unread, (Memref.isWhole_whole cc0_scratch0).read_unread]
  rw [View.ld_unit_zero h2, View.ld_unit_zero h2, View.ld_unit_zero h3]

variable (a : S4096x2048.Idx → EReal) (b : S4096x11264.Idx → EReal) (ha : m ((c : Thread nD τ).loc main_arg0) = a) (hb : m ((c : Thread nD τ).loc main_arg1) = b)

include ha in
theorem lhs (t : Fin cfg0.N) (k : Fin 2048) (r : Fin 1024) (K : Fin 4096) (N : Fin 2048) (h : K.val = 2048 * (t.val % 2) + k.val) (hN : N.val = 1024 * (t.val / 16) + r.val) : iblk m c 0 t (ix2 k r) = a (ix2 K N) := by
  subst ha
  rw [show iblk m c 0 t (ix2 k r) = (V m c main_v0 : S4096x2048.Idx → EReal) (ix2 K N) from by blk_ext [iblk, idx0 t, h, hN]]
  unfold V
  after_reads_at

include hb in
theorem rhs (t : Fin cfg0.N) (k : Fin 2048) (d : Fin 1408) (K : Fin 4096) (N : Fin 11264) (h : K.val = 2048 * (t.val % 2) + k.val) (hN : N.val = 1408 * (t.val / 2 % 8) + d.val) : iblk m c 1 t (ix3 0 k d) = b (ix2 K N) := by
  subst hb
  rw [show iblk m c 1 t (ix3 0 k d) = (V m c main_v6 : S2x4096x5632.Idx → EReal) (ix3 ⟨t.val / 2 % 8 / 4, by omega⟩ K ⟨1408 * (t.val / 2 % 4) + d.val, by omega⟩) from by blk_ext [iblk, idx0 t, h]]
  unfold V
  after_reads_at
  split
  all_goals
    rename_i hs
    refine congrArg (m ((c : Thread nD τ).loc main_arg1) : S4096x11264.Idx → EReal) (funext fun q => ?_)
  · have hs' : t.val / 2 % 8 / 4 < 1 := hs
    match q with
    | 0 => exact Fin.ext (by show 0 + K.val = K.val; omega)
    | 1 => exact Fin.ext (by show 0 + (1408 * (t.val / 2 % 4) + d.val) = N.val; omega)
  · have hs' : ¬t.val / 2 % 8 / 4 < 1 := hs
    match q with
    | 0 => exact Fin.ext (by show 0 + K.val = K.val; omega)
    | 1 => exact Fin.ext (by show 5632 + (1408 * (t.val / 2 % 4) + d.val) = N.val; omega)

/-- The result at a block, a row and a lane. -/
def res (g : Fin 8) (n : Fin 2048) (j : Fin 1408) : EReal := ∑ k : Fin 4096, a (ix2 k n) * b (ix2 k ⟨1408 * g.val + j.val, by omega⟩)

include ha hb in
theorem point (t : Fin cfg0.N) (h : t.val % 2 = 1) (z : Fin 1) (r : Fin 1024) (d : Fin 1408) (g : Fin 8) (n : Fin 2048) (hg : g.val = t.val / 2 % 8) (hn : n.val = 1024 * (t.val / 16) + r.val) :
    (outsAt0 m c t.val t.isLt).1 (ix3 z r d) = res a b g n d := by
  rw [last c m t h, show ∀ v, k0_pay3 (F := Ideal) v (ix3 z r d) = v (ix2 r d) from fun v => by pointwise [k0_pay3], pay,
    first c m ⟨t.val - 1, Nat.lt_of_le_of_lt (Nat.sub_le _ _) t.isLt⟩ (by show (t.val - 1) % 2 = 0; omega), pay, show k0_pay1 (F := Ideal) (ix2 r d) = 0 from by pointwise [k0_pay1], zero_add]
  unfold res
  rw [Cert.Mm.two (n := 2048) rfl]
  refine congrArg₂ (· + ·) (Finset.sum_congr rfl fun k _ => congrArg₂ (· * ·) ?_ ?_) (Finset.sum_congr rfl fun k _ => congrArg₂ (· * ·) ?_ ?_)
  · exact lhs c m a ha _ k r _ _ (by show k.val = 2048 * ((t.val - 1) % 2) + k.val; omega) (by show n.val = 1024 * ((t.val - 1) / 16) + r.val; omega)
  · exact rhs c m b hb _ k d _ _ (by show k.val = 2048 * ((t.val - 1) % 2) + k.val; omega) (by show 1408 * g.val + d.val = 1408 * ((t.val - 1) / 2 % 8) + d.val; omega)
  · exact lhs c m a ha t k r _ _ (by dsimp only; omega) hn
  · exact rhs c m b hb t k d _ _ (by dsimp only; omega) (by dsimp only; omega)

include ha hb in
theorem arr2 : (dats m 0 c).arrAt 2 cfg0.N = (fun i => res a b (i 0) (i 1) (i 2) : S8x2048x1408.Idx → EReal) := by
  refine (dats m 0 c).arrAt_eq_of_covers 2 _ (by decide +kernel) fun t hf i => ?_
  have h1 : t.val % 2 = 1 := (by decide +kernel : ∀ t : Fin cfg0.N, (cfg0.win 2).flush t = true → t.val % 2 = 1) t hf
  blk_simp
  rw [after0_2]
  idx_vars i
  have ht : t.val < 32 := t.isLt
  have e : ((View.whole main_v7).slice (win0_2.rect t)).emb (ix3 i0 i1 i2) = ix3 ⟨t.val / 2 % 8, by omega⟩ ⟨1024 * (t.val / 16) + i1.val, by omega⟩ i2 := by blk_ext [idx0 t]
  exact (point c m a b ha hb t h1 i0 i1 i2 _ _ rfl rfl).trans (congrArg (fun j : S8x2048x1408.Idx => res a b (j 0) (j 1) (j 2)) e.symm)

open Cert.MmUpWRefIdeal Cert.MmUpWRefIdeal.Gen in
/-- The reference. -/
theorem ref : (truncf .bf16 (transpose Cert.MmUpWRefIdeal.S8x2048x1408 [1, 0, 2] (shapeCast _ (transpose Cert.MmUpWRefIdeal.S2048x11264 [1, 0] (Host.dotGeneral (F := Ideal) (φ₁ := .f32) (φ₂ := .f32) dot_S4096x11264_S4096x2048_S11264x2048_0_0_1_1_n_n none b a) transposes_S11264x2048_S2048x11264_1_0) shapeCasts_S2048x11264_S2048x8x1408) transposes_S2048x8x1408_S8x2048x1408_1_0_2) Cert.MmUpWRefIdeal.Gen.bitsLt_bf16_f32 : S8x2048x1408.Idx → EReal) = fun i => res a b (i 0) (i 1) (i 2) := by
  funext i
  idx_vars i
  pointwise [res]
  exact Finset.sum_congr rfl fun k _ => (mul_comm _ _).trans (congrArg (fun z => a (ix2 k i1) * b (ix2 k z)) (Fin.ext (by dsimp only; omega)))

end Cert.MmUpWIdeal.Real
-- ==== Proof.MmUpWClaim.lean ====
/- The claims about the call `mm_up_wgrad`, the product of its gradient by the weights. -/
module

public import proofs.«01_k».proof.Defs
public import proofs.«01_k».proof.Proof.MmUpW
public import proofs.«01_k».proof.Proof.Gen.MmUpW.Frame

@[expose] public section

set_option maxRecDepth 16384

noncomputable section

namespace Cert.Proof.MmUpW

open Idealize.ShloMosaic Idealize.SL.Sem Idealize.ShloMosaic.TcCoe

theorem q1 : quiescent_MmUpW := fun m g _ => Cert.MmUpW.Gen.frame m g
theorem q2 : quiescent_MmUpWIdeal := fun m g _ => Cert.MmUpWIdeal.Gen.frame m g
theorem q3 : quiescent_MmUpWRefIdeal := fun m g _ =>
  (θ_run _ _ _).mono (fun r h => And.intro (fun c => (h c).2) (sem_eq_zero_of_no_sems (by decide) r.2)) (Cert.MmUpWRefIdeal.Value.run (F := Ideal) m g)

theorem value : algebraic_MmUpWIdeal_MmUpWRefIdeal := by
  intro m g m' g' hpre hag
  refine ⟨fun c => fun i => Cert.MmUpWIdeal.Real.res (m ((c : Thread Cert.MmUpWIdeal.nD Cert.MmUpWIdeal.τ).loc Cert.MmUpWIdeal.main_arg0)) (m ((c : Thread Cert.MmUpWIdeal.nD Cert.MmUpWIdeal.τ).loc Cert.MmUpWIdeal.main_arg1)) (i 0) (i 1) (i 2), ?_, (θ_run _ _ _).mono (fun r h c => ⟨(h c).1.trans ?_, (h c).2⟩) (Cert.MmUpWRefIdeal.Value.run (F := Ideal) m' g')⟩
  · exact (θ_run _ _ _).mono (fun r h c => ⟨(h c).1.trans (Cert.MmUpWIdeal.Real.arr2 c m _ _ rfl rfl), (h c).2⟩) (Cert.MmUpWIdeal.Value.run_blocks (F := Ideal) m g)
  · rw [(hag c).1, (hag c).2]
    exact Cert.MmUpWIdeal.Real.ref _ _

end Cert.Proof.MmUpW

end
-- ==== Proof.Adamw.lean ====
/- The optimiser's call `adamw`, over the reals: what its grid leaves in the three result arrays; and its reference. -/
module

public import proofs.«01_k».proof.Proof.Gen.AdamwIdeal.Value
public import proofs.«01_k».proof.Proof.Gen.AdamwRefIdeal.Run
public import Idealize.ShloMosaic.Lib.Pipeline.ValueKit

@[expose] public section

set_option maxRecDepth 16384

noncomputable section

namespace Cert.AdamwIdeal.Real

open Idealize.ShloMosaic Cert.AdamwIdeal Cert.AdamwIdeal.Gen Idealize.SL.Sem Idealize.ShloMosaic.TcCoe

theorem ofBits_d1 : Ideal.ofBits .f32 0x3F26BD02#32 = ((5463681 / 8388608 : ℝ) : EReal) := by
  simp [Ideal.ofBits, Ideal.ieee, -EReal.coe_mul]
  norm_num

theorem ofBits_d2 : Ideal.ofBits .f32 0x3C231ACC#32 = ((2672307 / 268435456 : ℝ) : EReal) := by
  simp [Ideal.ofBits, Ideal.ieee, -EReal.coe_mul]
  norm_num

/-- The name `c1` stands for the reciprocal of the first bias correction. -/
theorem c1_eq : Named.named (F := Ideal) κ "c1" (φ := .f32) 0x3FC48605#32 = ((1 / (5463681 / 8388608 : ℝ) : ℝ) : EReal) :=
  (IdealRules.named_const.ideal_named_scalar _ _ _ ((8388608 / 5463681 : ℝ) : EReal) rfl).trans (by norm_num)

/-- The name `c2` stands for the reciprocal of the second bias correction. -/
theorem c2_eq : Named.named (F := Ideal) κ "c2" (φ := .f32) 0x42C8E6D3#32 = ((1 / (2672307 / 268435456 : ℝ) : ℝ) : EReal) :=
  (IdealRules.named_const.ideal_named_scalar _ _ _ ((268435456 / 2672307 : ℝ) : EReal) rfl).trans (by norm_num)

/-- The new first moment. -/
def mom (g m : EReal) : EReal := Ideal.ofBits .f32 0x3F666666#32 * m + Ideal.ofBits .f32 0x3DCCCCCD#32 * g

/-- The new second moment. -/
def vel (g v : EReal) : EReal := Ideal.ofBits .f32 0x3F7FBE77#32 * v + Ideal.ofBits .f32 0x3A83126F#32 * (g * g)

/-- The step of a weight. -/
def step (w g m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32) + Ideal.ofBits .f32 0x3C23D70A#32 * w)

theorem pay2_eq (g m : FVec Ideal S32x4876 .f32) (r : Fin 32) (l : Fin 4876) :
    k0_pay2 (F := Ideal) g m (ix2 r l) = mom (g (ix2 r l)) (m (ix2 r l)) := by
  pointwise [k0_pay2, k0_pay1]
  rfl

theorem pay3_eq (g v : FVec Ideal S32x4876 .f32) (r : Fin 32) (l : Fin 4876) :
    k0_pay3 (F := Ideal) g v (ix2 r l) = vel (g (ix2 r l)) (v (ix2 r l)) := by
  pointwise [k0_pay3, k0_pay1]
  rfl

theorem pay4_eq (w g m v : FVec Ideal S32x4876 .f32) (r : Fin 32) (l : Fin 4876) :
    k0_pay4 (F := Ideal) g m v w (ix2 r l) = step (w (ix2 r l)) (g (ix2 r l)) (m (ix2 r l)) (v (ix2 r l)) := by
  unfold k0_pay4 step
  rw [ofBits_d1, ofBits_d2, Ideal.div_coe (by norm_num), Ideal.div_coe (by norm_num), ← c1_eq, ← c2_eq, ← pay2_eq g m, ← pay3_eq g v]
  generalize k0_pay2 (F := Ideal) g m = a
  generalize k0_pay3 (F := Ideal) g v = b
  pointwise

/-- The rows that a grid point reads and writes. -/
def row (t : Fin 32) (r : Fin 32) : Fin 1024 := ⟨32 * t.val + r.val, by omega⟩

theorem idx0 (t : Fin cfg0.N) : win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0]) t

/-- An array of a layer's shards with its two leading axes as one. -/
def flat (a : FVec Ideal S4x256x4876 .f32) : FVec Ideal S1024x4876 .f32 := shapeCast _ a shapeCasts_S4x256x4876_S1024x4876

variable (c : Dev nD) (m : (ℓ : Loc nD τ sig) → Buf (Elt Ideal) ℓ)

theorem iblk_w (t : Fin cfg0.N) (r : Fin 32) (l : Fin 4876) : iblk m c 0 t (ix2 r l) = flat (m ((c : Thread nD τ).loc main_arg0)) (ix2 (row t r) l) := by
  have : iblk m c 0 t (ix2 r l) = V m c main_v0 (ix2 (row t r) l) := by blk_ext [iblk, idx0 t, row]
  rw [this]
  entry_read
  rfl

theorem iblk_g (t : Fin cfg0.N) (r : Fin 32) (l : Fin 4876) : iblk m c 1 t (ix2 r l) = flat (m ((c : Thread nD τ).loc main_arg1)) (ix2 (row t r) l) := by
  have : iblk m c 1 t (ix2 r l) = V m c main_v1 (ix2 (row t r) l) := by blk_ext [iblk, idx0 t, row]
  rw [this]
  entry_read
  rfl

theorem iblk_m (t : Fin cfg0.N) (r : Fin 32) (l : Fin 4876) : iblk m c 2 t (ix2 r l) = flat (m ((c : Thread nD τ).loc main_arg2)) (ix2 (row t r) l) := by
  have : iblk m c 2 t (ix2 r l) = V m c main_v2 (ix2 (row t r) l) := by blk_ext [iblk, idx0 t, row]
  rw [this]
  entry_read
  rfl

theorem iblk_v (t : Fin cfg0.N) (r : Fin 32) (l : Fin 4876) : iblk m c 3 t (ix2 r l) = flat (m ((c : Thread nD τ).loc main_arg3)) (ix2 (row t r) l) := by
  have : iblk m c 3 t (ix2 r l) = V m c main_v3 (ix2 (row t r) l) := by blk_ext [iblk, idx0 t, row]
  rw [this]
  entry_read
  rfl

variable (w g mo v : FVec Ideal S4x256x4876 .f32)
variable (hw : m ((c : Thread nD τ).loc main_arg0) = w) (hg : m ((c : Thread nD τ).loc main_arg1) = g)
variable (hm : m ((c : Thread nD τ).loc main_arg2) = mo) (hv : m ((c : Thread nD τ).loc main_arg3) = v)

include hw hg hm hv in
theorem arr4 : (dats m 0 c).arrAt 4 cfg0.N = fun i => step (flat w i) (flat g i) (flat mo i) (flat v i) := by
  subst hw hg hm hv
  refine (dats m 0 c).arrAt_eq_of_covers 4 _ (by decide +kernel) fun t hf i => ?_
  blk_simp
  rw [after0_4]
  have key : out0_4 (iblk m c 0 t) (iblk m c 1 t) (iblk m c 2 t) (iblk m c 3 t) = k0_pay4 (F := Ideal) (iblk m c 1 t) (iblk m c 2 t) (iblk m c 3 t) (iblk m c 0 t) := by
    unfold out0_4; frame_out
  rw [key]
  idx_vars i
  have e : ((View.whole main_v4_0).slice (win0_4.rect t)).emb (ix2 i0 i1) = ix2 (row t i0) i1 := by blk_ext [idx0 t, row]
  rw [pay4_eq, iblk_w, iblk_g, iblk_m, iblk_v]
  exact congrArg (fun j => step (flat (m ((c : Thread nD τ).loc main_arg0)) j) (flat (m ((c : Thread nD τ).loc main_arg1)) j) (flat (m ((c : Thread nD τ).loc main_arg2)) j) (flat (m ((c : Thread nD τ).loc main_arg3)) j)) e.symm

include hg hm in
theorem arr5 : (dats m 0 c).arrAt 5 cfg0.N = fun i => mom (flat g i) (flat mo i) := by
  subst hg hm
  refine (dats m 0 c).arrAt_eq_of_covers 5 _ (by decide +kernel) fun t hf i => ?_
  blk_simp
  rw [after0_5]
  have key : out0_5 (iblk m c 0 t) (iblk m c 1 t) (iblk m c 2 t) (iblk m c 3 t) = k0_pay2 (F := Ideal) (iblk m c 1 t) (iblk m c 2 t) := by
    unfold out0_5; frame_out
  rw [key]
  idx_vars i
  have e : ((View.whole main_v4_1).slice (win0_5.rect t)).emb (ix2 i0 i1) = ix2 (row t i0) i1 := by blk_ext [idx0 t, row]
  rw [pay2_eq, iblk_g, iblk_m]
  exact congrArg (fun j => mom (flat (m ((c : Thread nD τ).loc main_arg1)) j) (flat (m ((c : Thread nD τ).loc main_arg2)) j)) e.symm

include hg hv in
theorem arr6 : (dats m 0 c).arrAt 6 cfg0.N = fun i => vel (flat g i) (flat v i) := by
  subst hg hv
  refine (dats m 0 c).arrAt_eq_of_covers 6 _ (by decide +kernel) fun t hf i => ?_
  blk_simp
  rw [after0_6]
  have key : out0_6 (iblk m c 0 t) (iblk m c 1 t) (iblk m c 2 t) (iblk m c 3 t) = k0_pay3 (F := Ideal) (iblk m c 1 t) (iblk m c 3 t) := by
    unfold out0_6; frame_out
  rw [key]
  idx_vars i
  have e : ((View.whole main_v4_2).slice (win0_6.rect t)).emb (ix2 i0 i1) = ix2 (row t i0) i1 := by blk_ext [idx0 t, row]
  rw [pay3_eq, iblk_g, iblk_v]
  exact congrArg (fun j => vel (flat (m ((c : Thread nD τ).loc main_arg1)) j) (flat (m ((c : Thread nD τ).loc main_arg3)) j)) e.symm

section
open Cert.AdamwRefIdeal Cert.AdamwRefIdeal.Gen

theorem ref4 (w g m v : FVec Ideal Cert.AdamwRefIdeal.S4x256x4876 .f32) :
    shapeCast S1024x4876 (mulf (broadcastInDim S4x256x4876 ![] bcast_S_S4x256x4876 (constant (F := Ideal) S_ .f32 0xBA83126F#32)) (addf (Host.divf (Host.divf (addf (mulf (broadcastInDim S4x256x4876 ![] bcast_S_S4x256x4876 (constant (F := Ideal) S_ .f32 0x3F666666#32)) m) (mulf (broadcastInDim S4x256x4876 ![] bcast_S_S4x256x4876 (constant (F := Ideal) S_ .f32 0x3DCCCCCD#32)) g)) (broadcastInDim S4x256x4876 ![] bcast_S_S4x256x4876 (constant (F := Ideal) S_ .f32 0x3F26BD02#32))) (addf (Host.sqrt (Host.divf (addf (mulf (broadcastInDim S4x256x4876 ![] bcast_S_S4x256x4876 (constant (F := Ideal) S_ .f32 0x3F7FBE77#32)) v) (mulf (broadcastInDim S4x256x4876 ![] bcast_S_S4x256x4876 (constant (F := Ideal) S_ .f32 0x3A83126F#32)) (mulf g g))) (broadcastInDim S4x256x4876 ![] bcast_S_S4x256x4876 (constant (F := Ideal) S_ .f32 0x3C231ACC#32)))) (broadcastInDim S4x256x4876 ![] bcast_S_S4x256x4876 (constant (F := Ideal) S_ .f32 0x322BCC77#32)))) (mulf (broadcastInDim S4x256x4876 ![] bcast_S_S4x256x4876 (constant (F := Ideal) S_ .f32 0x3C23D70A#32)) w))) Cert.AdamwRefIdeal.Gen.shapeCasts_S4x256x4876_S1024x4876 = fun i => step (flat w i) (flat g i) (flat m i) (flat v i) := rfl

theorem ref5 (g m : FVec Ideal Cert.AdamwRefIdeal.S4x256x4876 .f32) :
    shapeCast S1024x4876 (addf (mulf (broadcastInDim S4x256x4876 ![] bcast_S_S4x256x4876 (constant (F := Ideal) S_ .f32 0x3F666666#32)) m) (mulf (broadcastInDim S4x256x4876 ![] bcast_S_S4x256x4876 (constant (F := Ideal) S_ .f32 0x3DCCCCCD#32)) g)) Cert.AdamwRefIdeal.Gen.shapeCasts_S4x256x4876_S1024x4876 = fun i => mom (flat g i) (flat m i) := rfl

theorem ref6 (g v : FVec Ideal Cert.AdamwRefIdeal.S4x256x4876 .f32) :
    shapeCast S1024x4876 (addf (mulf (broadcastInDim S4x256x4876 ![] bcast_S_S4x256x4876 (constant (F := Ideal) S_ .f32 0x3F7FBE77#32)) v) (mulf (broadcastInDim S4x256x4876 ![] bcast_S_S4x256x4876 (constant (F := Ideal) S_ .f32 0x3A83126F#32)) (mulf g g))) Cert.AdamwRefIdeal.Gen.shapeCasts_S4x256x4876_S1024x4876 = fun i => vel (flat g i) (flat v i) := rfl
end

end Cert.AdamwIdeal.Real
-- ==== Proof.AdamwClaim.lean ====
/- The claims about the optimiser's call `adamw`. -/
module

public import proofs.«01_k».proof.Defs
public import proofs.«01_k».proof.Proof.Adamw
public import proofs.«01_k».proof.Proof.Gen.Adamw.Frame

@[expose] public section

set_option maxRecDepth 16384

noncomputable section

namespace Cert.Proof.Adamw

open Idealize.ShloMosaic Idealize.SL.Sem Idealize.ShloMosaic.TcCoe

theorem q1 : quiescent_Adamw := fun m g _ => Cert.Adamw.Gen.frame m g
theorem q2 : quiescent_AdamwIdeal := fun m g _ => Cert.AdamwIdeal.Gen.frame m g
theorem q3 : quiescent_AdamwRefIdeal := fun m g _ =>
  (θ_run _ _ _).mono (fun r h => And.intro (fun c => (h c).2.2.2) (sem_eq_zero_of_no_sems (by decide) r.2)) (Cert.AdamwRefIdeal.Value.run (F := Ideal) m g)
theorem kept : preserves_Adamw_AdamwIdeal :=
  ⟨IdealRules.named_const.statement _ _ _ _ _ rfl, IdealRules.named_const.statement _ _ _ _ _ rfl⟩

theorem value : algebraic_AdamwIdeal_AdamwRefIdeal := by
  intro m g m' g' hpre hag
  refine ⟨_, _, _, (θ_run _ _ _).mono (fun r h c => ⟨(h c).1.trans (Cert.AdamwIdeal.Real.arr4 c m _ _ _ _ rfl rfl rfl rfl),
    (h c).2.1.trans (Cert.AdamwIdeal.Real.arr5 c m _ _ rfl rfl), (h c).2.2.1.trans (Cert.AdamwIdeal.Real.arr6 c m _ _ rfl rfl), (h c).2.2.2⟩) (Cert.AdamwIdeal.Value.run_blocks (F := Ideal) m g),
    (θ_run _ _ _).mono (fun r h c => ⟨(h c).1.trans ?_, (h c).2.1.trans ?_, (h c).2.2.1.trans ?_, (h c).2.2.2⟩) (Cert.AdamwRefIdeal.Value.run (F := Ideal) m' g')⟩
  · rw [(hag c).1, (hag c).2.1, (hag c).2.2.1, (hag c).2.2.2]
    exact Cert.AdamwIdeal.Real.ref4 _ _ _ _
  · rw [(hag c).2.1, (hag c).2.2.1]
    exact Cert.AdamwIdeal.Real.ref5 _ _
  · rw [(hag c).2.1, (hag c).2.2.2]
    exact Cert.AdamwIdeal.Real.ref6 _ _

end Cert.Proof.Adamw

end
-- ==== Proof.SumSlabs.lean ====
/- The call `sum_slabs`, the sum of the eight devices' parts, over the reals; and its reference. -/
module

public import proofs.«01_k».proof.Proof.Gen.SumSlabsIdeal.Value
public import proofs.«01_k».proof.Proof.Gen.SumSlabsRefIdeal.Run
public import Idealize.ShloMosaic.Lib.Pipeline.ValueKit

@[expose] public section

set_option maxRecDepth 16384

noncomputable section

namespace Cert.SumSlabsIdeal.Real

open Idealize.ShloMosaic Cert.SumSlabsIdeal Cert.SumSlabsIdeal.Gen Idealize.SL.Sem Idealize.ShloMosaic.TcCoe

/-- The sum of the parts. -/
def res (x : FVec Ideal S8x6144x128 .f32) (r : Fin 6144) (l : Fin 128) : EReal := ∑ d : Fin 8, x (ix3 d r l)

/-- The rows that a grid point reads and writes. -/
def row (t : Fin 2) (r : Fin 3072) : Fin 6144 := ⟨3072 * t.val + r.val, by omega⟩

theorem idx0 (t : Fin cfg0.N) : win0_0.index t = ![0, t.val, 0] ∧ win0_1.index t = ![t.val, 0] :=
  (by decide +kernel : ∀ t : Fin grid0.N, win0_0.index t = ![0, t.val, 0] ∧ win0_1.index t = ![t.val, 0]) t

theorem arr1 (c : Dev nD) (m : (ℓ : Loc nD τ sig) → Buf (Elt Ideal) ℓ) (x : FVec Ideal S8x6144x128 .f32)
    (hx : m ((c : Thread nD τ).loc main_arg0) = x) : (dats m 0 c).arrAt 1 cfg0.N = fun i => res x (i 0) (i 1) := by
  subst hx
  refine (dats m 0 c).arrAt_eq_of_covers 1 _ (by decide +kernel) fun t hf i => ?_
  blk_simp
  rw [after0_1]
  unfold out0_1
  rw [Value.canon1_eq]
  idx_vars i
  have e : ((View.whole main_v0).slice (win0_1.rect t)).emb (ix2 i0 i1) = ix2 (row t i0) i1 := by blk_ext [idx0 t, row]
  refine Eq.trans ?_ (congrArg (fun j => res (m ((c : Thread nD τ).loc main_arg0)) (j 0) (j 1)) e.symm)
  show _ = res (m ((c : Thread nD τ).loc main_arg0)) (row t i0) i1
  have b (d : Fin 8) : iblk m c 0 t (ix3 d i0 i1) = m ((c : Thread nD τ).loc main_arg0) (ix3 d (row t i0) i1) := by blk_ext [iblk, V, idx0 t, row]
  unfold res
  rw [Fin.sum_univ_eight, ← b 0, ← b 1, ← b 2, ← b 3, ← b 4, ← b 5, ← b 6, ← b 7]
  pointwise

theorem ref (x : FVec Ideal Cert.SumSlabsRefIdeal.S8x6144x128 .f32) :
    Host.reduceAdd x (constant (F := Ideal) Cert.SumSlabsRefIdeal.S_ .f32 0x00000000#32) Cert.SumSlabsRefIdeal.Gen.reducesTo_S8x6144x128_S6144x128_d0 Cert.SumSlabsRefIdeal.Gen.h_S_ = (fun i => res x (i 0) (i 1) : FVec Ideal S6144x128 .f32) := by
  funext i
  idx_vars i
  pointwise
  rfl

end Cert.SumSlabsIdeal.Real
-- ==== Proof.SumSlabsClaim.lean ====
/- The claims about the sum of the devices' parts, `sum_slabs`. -/
module

public import proofs.«01_k».proof.Defs
public import proofs.«01_k».proof.Proof.SumSlabs
public import proofs.«01_k».proof.Proof.Gen.SumSlabs.Frame

@[expose] public section

set_option maxRecDepth 16384

noncomputable section

namespace Cert.Proof.SumSlabs

open Idealize.ShloMosaic Idealize.SL.Sem Idealize.ShloMosaic.TcCoe

theorem q1 : quiescent_SumSlabs := fun m g _ => Cert.SumSlabs.Gen.frame m g
theorem q2 : quiescent_SumSlabsIdeal := fun m g _ => Cert.SumSlabsIdeal.Gen.frame m g
theorem q3 : quiescent_SumSlabsRefIdeal := fun m g _ =>
  (θ_run _ _ _).mono (fun r h => And.intro (fun c => (h c).2) (sem_eq_zero_of_no_sems (by decide) r.2)) (Cert.SumSlabsRefIdeal.Value.run (F := Ideal) m g)

theorem value : algebraic_SumSlabsIdeal_SumSlabsRefIdeal := by
  intro m g m' g' hpre hag
  refine ⟨_, (θ_run _ _ _).mono (fun r h c => ⟨(h c).1.trans (Cert.SumSlabsIdeal.Real.arr1 c m _ rfl), (h c).2⟩) (Cert.SumSlabsIdeal.Value.run_blocks (F := Ideal) m g),
    (θ_run _ _ _).mono (fun r h c => ⟨(h c).1.trans ?_, (h c).2⟩) (Cert.SumSlabsRefIdeal.Value.run (F := Ideal) m' g')⟩
  rw [hag c]
  exact Cert.SumSlabsIdeal.Real.ref _

end Cert.Proof.SumSlabs

end
-- ==== Proof.Packing.lean ====
/- The packing of thirteen arrays into rows of 128 lanes, and that it goes along with any function of the entries. -/
module

public import proofs.«01_k».proof.Proof.Gen.PackIdeal
public import Idealize.ShloMosaic.Lib.Pipeline.ValueKit

@[expose] public section

set_option maxRecDepth 16384

noncomputable section

namespace Cert.PackIdeal.Real

open Idealize.ShloMosaic Cert.PackIdeal Cert.PackIdeal.Gen Idealize.SL.Sem Idealize.ShloMosaic.TcCoe

section
variable {α β : Type}

theorem concatenateAt_map (f : α → β) (t : Shape) (a : Fin t.rank) (j : t.Idx) :
    ∀ (xs : List ((s : Shape) × (s.Idx → α))) (hs : ∀ s ∈ xs.map (·.1), s.FitsOff t a) (c : Nat) (hc : c < (axisSizes t a xs).sum)
      (hs' : ∀ s ∈ (xs.map fun p => (⟨p.1, fun i => f (p.2 i)⟩ : (s : Shape) × (s.Idx → β))).map (·.1), s.FitsOff t a)
      (hc' : c < (axisSizes t a (xs.map fun p => (⟨p.1, fun i => f (p.2 i)⟩ : (s : Shape) × (s.Idx → β)))).sum),
      concatenateAt t a j (xs.map fun p => ⟨p.1, fun i => f (p.2 i)⟩) hs' c hc' = f (concatenateAt t a j xs hs c hc)
  | [], _, _, hc, _, _ => absurd hc (Nat.not_lt_zero _)
  | [_], _, _, _, _, _ => by
    simp only [List.map_cons, List.map_nil]
    rw [concatenateAt, concatenateAt]
  | p :: q :: xs, hs, c, hc, hs', hc' => by
    simp only [List.map_cons]
    rw [concatenateAt, concatenateAt]
    split
    · rfl
    · exact concatenateAt_map f t a j (q :: xs) _ _ _ _ _

theorem concatenate_map (f : α → β) (t : Shape) (a : Fin t.rank) (xs : List ((s : Shape) × (s.Idx → α)))
    (h : Shape.Concatenates (xs.map (·.1)) t a)
    (h' : Shape.Concatenates ((xs.map fun p => (⟨p.1, fun i => f (p.2 i)⟩ : (s : Shape) × (s.Idx → β))).map (·.1)) t a) :
    concatenate t a (xs.map fun p => ⟨p.1, fun i => f (p.2 i)⟩) h' = fun j => f (concatenate t a xs h j) := by
  funext j
  rw [concatenate_apply, concatenate_apply]
  exact concatenateAt_map f t a j xs _ _ _ _ _

/-- The shapes of the thirteen arrays. -/
abbrev sh : Fin 13 → Shape := ![S4x2048, S4x4x288, S4x6, S4x6, S4x128, S4x4x128x128, S4x512, S4x6, S4x2048, S4x2048, S4x3x1408, S4x11264, S4x2048]

/-- The thirteen arrays, each as one row. -/
abbrev parts (x : (k : Fin 13) → (sh k).Idx → α) : List ((s : Shape) × (s.Idx → α)) :=
  [ ⟨S8192, shapeCast S8192 (x 0) shapeCasts_S4x2048_S8192⟩,
    ⟨S4608, shapeCast S4608 (x 1) shapeCasts_S4x4x288_S4608⟩,
    ⟨S24, shapeCast S24 (x 2) shapeCasts_S4x6_S24⟩,
    ⟨S24, shapeCast S24 (x 3) shapeCasts_S4x6_S24⟩,
    ⟨S512, shapeCast S512 (x 4) shapeCasts_S4x128_S512⟩,
    ⟨S262144, shapeCast S262144 (x 5) shapeCasts_S4x4x128x128_S262144⟩,
    ⟨S2048, shapeCast S2048 (x 6) shapeCasts_S4x512_S2048⟩,
    ⟨S24, shapeCast S24 (x 7) shapeCasts_S4x6_S24⟩,
    ⟨S8192, shapeCast S8192 (x 8) shapeCasts_S4x2048_S8192⟩,
    ⟨S8192, shapeCast S8192 (x 9) shapeCasts_S4x2048_S8192⟩,
    ⟨S16896, shapeCast S16896 (x 10) shapeCasts_S4x3x1408_S16896⟩,
    ⟨S45056, shapeCast S45056 (x 11) shapeCasts_S4x11264_S45056⟩,
    ⟨S8192, shapeCast S8192 (x 12) shapeCasts_S4x2048_S8192⟩ ]

/-- The packed array: the rows one after the other, filled up with `d`, in rows of 128 lanes. -/
def pack (d : α) (x : (k : Fin 13) → (sh k).Idx → α) : S3072x128.Idx → α :=
  shapeCast S3072x128 (pad S393216 ![0] ![29112] ![0] (concatenate S364104 0 (parts x) concatenates_S8192_S4608_S24_S24_S512_S262144_S2048_S24_S8192_S8192_S16896_S45056_S8192_S364104_d0)
    (fun _ : S_.Idx => d) pads_S364104_S393216_0291120 h_S_) shapeCasts_S393216_S3072x128

theorem pack_map (f : α → β) (d : α) (x : (k : Fin 13) → (sh k).Idx → α) :
    pack (f d) (fun k i => f (x k i)) = fun j => f (pack d x j) := by
  have e : concatenate S364104 0 (parts fun k i => f (x k i)) concatenates_S8192_S4608_S24_S24_S512_S262144_S2048_S24_S8192_S8192_S16896_S45056_S8192_S364104_d0 = fun j => f (concatenate S364104 0 (parts x) concatenates_S8192_S4608_S24_S24_S512_S262144_S2048_S24_S8192_S8192_S16896_S45056_S8192_S364104_d0 j) :=
    concatenate_map f S364104 0 (parts x) concatenates_S8192_S4608_S24_S24_S512_S262144_S2048_S24_S8192_S8192_S16896_S45056_S8192_S364104_d0 concatenates_S8192_S4608_S24_S24_S512_S262144_S2048_S24_S8192_S8192_S16896_S45056_S8192_S364104_d0
  unfold pack
  rw [e]
  funext j
  unfold shapeCast pad
  dsimp only
  split <;> rfl
end

/-- Packing goes along with a function of four arrays. -/
theorem pack_map₄ (f : EReal → EReal → EReal → EReal → EReal) (h : f 0 0 0 0 = 0) (w g m v : (k : Fin 13) → (sh k).Idx → EReal) :
    pack 0 (fun k i => f (w k i) (g k i) (m k i) (v k i)) = fun j => f (pack 0 w j) (pack 0 g j) (pack 0 m j) (pack 0 v j) := by
  have e := fun (q : EReal × EReal × EReal × EReal → EReal) => pack_map q (0, 0, 0, 0) (fun k i => (w k i, g k i, m k i, v k i))
  have e0 := e fun p => f p.1 p.2.1 p.2.2.1 p.2.2.2
  have e1 := e fun p => p.1
  have e2 := e fun p => p.2.1
  have e3 := e fun p => p.2.2.1
  have e4 := e fun p => p.2.2.2
  dsimp only at e0 e1 e2 e3 e4
  rw [h] at e0
  rw [e0, e1, e2, e3, e4]

end Cert.PackIdeal.Real
-- ==== Proof.Pack.lean ====
/- The optimiser's call on the packed small weights, over the reals: what its grid leaves in the three result arrays. -/
module

public import proofs.«01_k».proof.Proof.Packing
public import proofs.«01_k».proof.Proof.Adamw
public import proofs.«01_k».proof.Proof.Gen.PackIdeal.Value

@[expose] public section

set_option maxRecDepth 16384

noncomputable section

namespace Cert.PackIdeal.Real

open Idealize.ShloMosaic Cert.PackIdeal Cert.PackIdeal.Gen Idealize.SL.Sem Idealize.ShloMosaic.TcCoe
open Cert.AdamwIdeal.Real (mom vel step ofBits_d1 ofBits_d2)

theorem c1_eq : Named.named (F := Ideal) κ "c1" (φ := .f32) 0x3FC48605#32 = ((1 / (5463681 / 8388608 : ℝ) : ℝ) : EReal) :=
  (IdealRules.named_const.ideal_named_scalar _ _ _ ((8388608 / 5463681 : ℝ) : EReal) rfl).trans (by norm_num)

theorem c2_eq : Named.named (F := Ideal) κ "c2" (φ := .f32) 0x42C8E6D3#32 = ((1 / (2672307 / 268435456 : ℝ) : ℝ) : EReal) :=
  (IdealRules.named_const.ideal_named_scalar _ _ _ ((268435456 / 2672307 : ℝ) : EReal) rfl).trans (by norm_num)

theorem pay2_eq (g m : FVec Ideal S1536x128 .f32) (r : Fin 1536) (l : Fin 128) :
    k0_pay2 (F := Ideal) g m (ix2 r l) = mom (g (ix2 r l)) (m (ix2 r l)) := by
  pointwise [k0_pay2, k0_pay1]
  rfl

theorem pay3_eq (g v : FVec Ideal S1536x128 .f32) (r : Fin 1536) (l : Fin 128) :
    k0_pay3 (F := Ideal) g v (ix2 r l) = vel (g (ix2 r l)) (v (ix2 r l)) := by
  pointwise [k0_pay3, k0_pay1]
  rfl

theorem pay4_eq (w g m v : FVec Ideal S1536x128 .f32) (r : Fin 1536) (l : Fin 128) :
    k0_pay4 (F := Ideal) g m v w (ix2 r l) = step (w (ix2 r l)) (g (ix2 r l)) (m (ix2 r l)) (v (ix2 r l)) := by
  unfold k0_pay4 step
  rw [ofBits_d1, ofBits_d2, Ideal.div_coe (by norm_num), Ideal.div_coe (by norm_num), ← c1_eq, ← c2_eq, ← pay2_eq g m, ← pay3_eq g v]
  generalize k0_pay2 (F := Ideal) g m = a
  generalize k0_pay3 (F := Ideal) g v = b
  pointwise

/-- The rows that a grid point reads and writes. -/
def row (t : Fin 2) (r : Fin 1536) : Fin 3072 := ⟨1536 * t.val + r.val, by omega⟩

theorem idx0 (t : Fin cfg0.N) : win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0]) t

/-- The number that fills the packed rows up. -/
theorem fill_eq : (sitofp (F := Ideal) .f32 (constantI S_ 32 0#32) : FVec Ideal S_ .f32) = fun _ => 0 := by
  funext i
  show (((0#32).toInt : ℝ) : EReal) = 0
  simp

theorem pack_fill (x : (k : Fin 13) → (sh k).Idx → EReal) :
    shapeCast S3072x128 (pad S393216 ![0] ![29112] ![0] (concatenate S364104 0 (parts x) concatenates_S8192_S4608_S24_S24_S512_S262144_S2048_S24_S8192_S8192_S16896_S45056_S8192_S364104_d0)
      (sitofp (F := Ideal) .f32 (constantI S_ 32 0#32) : FVec Ideal S_ .f32) pads_S364104_S393216_0291120 h_S_) shapeCasts_S393216_S3072x128 = pack 0 x := by
  rw [fill_eq]
  rfl

theorem mom_zero : mom 0 0 = 0 := by simp [mom]

theorem vel_zero : vel 0 0 = 0 := by simp [vel]

theorem ofBits_eps : Ideal.ofBits .f32 0x322BCC77#32 = ((11258999 / 1125899906842624 : ℝ) : EReal) := by
  simp [Ideal.ofBits, Ideal.ieee, -EReal.coe_mul]
  norm_num

theorem sqrt_zero : Ideal.sqrt 0 = 0 := by
  have := Ideal.sqrt_coe (r := 0)
  simpa using this

theorem step_zero : step 0 0 0 0 = 0 := by
  unfold step
  rw [mom_zero, vel_zero, ofBits_d1, ofBits_d2, Ideal.div_coe (by norm_num), Ideal.div_coe (by norm_num), zero_mul, zero_mul, sqrt_zero, zero_add, ofBits_eps, Ideal.div_coe (by norm_num), zero_mul, mul_zero, zero_add, mul_zero]

variable (c : Dev nD) (m : (ℓ : Loc nD τ sig) → Buf (Elt Ideal) ℓ)

/-- The thirteen arrays of weights. -/
def ws : (k : Fin 13) → (sh k).Idx → EReal := fun k => match k with
  | 0 => m ((c : Thread nD τ).loc main_arg0)
  | 1 => m ((c : Thread nD τ).loc main_arg1)
  | 2 => m ((c : Thread nD τ).loc main_arg2)
  | 3 => m ((c : Thread nD τ).loc main_arg3)
  | 4 => m ((c : Thread nD τ).loc main_arg4)
  | 5 => m ((c : Thread nD τ).loc main_arg5)
  | 6 => m ((c : Thread nD τ).loc main_arg6)
  | 7 => m ((c : Thread nD τ).loc main_arg7)
  | 8 => m ((c : Thread nD τ).loc main_arg8)
  | 9 => m ((c : Thread nD τ).loc main_arg9)
  | 10 => m ((c : Thread nD τ).loc main_arg10)
  | 11 => m ((c : Thread nD τ).loc main_arg11)
  | 12 => m ((c : Thread nD τ).loc main_arg12)

/-- The thirteen arrays of gradients. -/
def gs : (k : Fin 13) → (sh k).Idx → EReal := fun k => match k with
  | 0 => m ((c : Thread nD τ).loc main_arg13)
  | 1 => m ((c : Thread nD τ).loc main_arg14)
  | 2 => m ((c : Thread nD τ).loc main_arg15)
  | 3 => m ((c : Thread nD τ).loc main_arg16)
  | 4 => m ((c : Thread nD τ).loc main_arg17)
  | 5 => m ((c : Thread nD τ).loc main_arg18)
  | 6 => m ((c : Thread nD τ).loc main_arg19)
  | 7 => m ((c : Thread nD τ).loc main_arg20)
  | 8 => m ((c : Thread nD τ).loc main_arg21)
  | 9 => m ((c : Thread nD τ).loc main_arg22)
  | 10 => m ((c : Thread nD τ).loc main_arg23)
  | 11 => m ((c : Thread nD τ).loc main_arg24)
  | 12 => m ((c : Thread nD τ).loc main_arg25)

/-- The thirteen arrays of first moments. -/
def ms : (k : Fin 13) → (sh k).Idx → EReal := fun k => match k with
  | 0 => m ((c : Thread nD τ).loc main_arg26)
  | 1 => m ((c : Thread nD τ).loc main_arg27)
  | 2 => m ((c : Thread nD τ).loc main_arg28)
  | 3 => m ((c : Thread nD τ).loc main_arg29)
  | 4 => m ((c : Thread nD τ).loc main_arg30)
  | 5 => m ((c : Thread nD τ).loc main_arg31)
  | 6 => m ((c : Thread nD τ).loc main_arg32)
  | 7 => m ((c : Thread nD τ).loc main_arg33)
  | 8 => m ((c : Thread nD τ).loc main_arg34)
  | 9 => m ((c : Thread nD τ).loc main_arg35)
  | 10 => m ((c : Thread nD τ).loc main_arg36)
  | 11 => m ((c : Thread nD τ).loc main_arg37)
  | 12 => m ((c : Thread nD τ).loc main_arg38)

/-- The thirteen arrays of second moments. -/
def vs : (k : Fin 13) → (sh k).Idx → EReal := fun k => match k with
  | 0 => m ((c : Thread nD τ).loc main_arg39)
  | 1 => m ((c : Thread nD τ).loc main_arg40)
  | 2 => m ((c : Thread nD τ).loc main_arg41)
  | 3 => m ((c : Thread nD τ).loc main_arg42)
  | 4 => m ((c : Thread nD τ).loc main_arg43)
  | 5 => m ((c : Thread nD τ).loc main_arg44)
  | 6 => m ((c : Thread nD τ).loc main_arg45)
  | 7 => m ((c : Thread nD τ).loc main_arg46)
  | 8 => m ((c : Thread nD τ).loc main_arg47)
  | 9 => m ((c : Thread nD τ).loc main_arg48)
  | 10 => m ((c : Thread nD τ).loc main_arg49)
  | 11 => m ((c : Thread nD τ).loc main_arg50)
  | 12 => m ((c : Thread nD τ).loc main_arg51)

theorem V_ws : V m c main_v15 = pack 0 (ws c m) := by
  rw [← pack_fill]
  entry_read
  rfl

theorem V_gs : V m c main_v31 = pack 0 (gs c m) := by
  rw [← pack_fill]
  entry_read
  rfl

theorem V_ms : V m c main_v47 = pack 0 (ms c m) := by
  rw [← pack_fill]
  entry_read
  rfl

theorem V_vs : V m c main_v63 = pack 0 (vs c m) := by
  rw [← pack_fill]
  entry_read
  rfl

theorem iblk_ws (t : Fin cfg0.N) (r : Fin 1536) (l : Fin 128) : iblk m c 0 t (ix2 r l) = pack 0 (ws c m) (ix2 (row t r) l) := by
  rw [← V_ws]
  blk_ext [iblk, idx0 t, row]

theorem iblk_gs (t : Fin cfg0.N) (r : Fin 1536) (l : Fin 128) : iblk m c 1 t (ix2 r l) = pack 0 (gs c m) (ix2 (row t r) l) := by
  rw [← V_gs]
  blk_ext [iblk, idx0 t, row]

theorem iblk_ms (t : Fin cfg0.N) (r : Fin 1536) (l : Fin 128) : iblk m c 2 t (ix2 r l) = pack 0 (ms c m) (ix2 (row t r) l) := by
  rw [← V_ms]
  blk_ext [iblk, idx0 t, row]

theorem iblk_vs (t : Fin cfg0.N) (r : Fin 1536) (l : Fin 128) : iblk m c 3 t (ix2 r l) = pack 0 (vs c m) (ix2 (row t r) l) := by
  rw [← V_vs]
  blk_ext [iblk, idx0 t, row]

section
variable (W G M U : S3072x128.Idx → EReal)
variable (hws : ∀ (t : Fin cfg0.N) (r : Fin 1536) (l : Fin 128), iblk m c 0 t (ix2 r l) = W (ix2 (row t r) l))
variable (hgs : ∀ (t : Fin cfg0.N) (r : Fin 1536) (l : Fin 128), iblk m c 1 t (ix2 r l) = G (ix2 (row t r) l))
variable (hms : ∀ (t : Fin cfg0.N) (r : Fin 1536) (l : Fin 128), iblk m c 2 t (ix2 r l) = M (ix2 (row t r) l))
variable (hvs : ∀ (t : Fin cfg0.N) (r : Fin 1536) (l : Fin 128), iblk m c 3 t (ix2 r l) = U (ix2 (row t r) l))

set_option maxHeartbeats 2000000 in
include hws hgs hms hvs in
theorem arr4_of : (dats m 0 c).arrAt 4 cfg0.N = fun i => step (W i) (G i) (M i) (U i) := by
  refine (dats m 0 c).arrAt_eq_of_covers 4 _ (by decide +kernel) fun t hf i => ?_
  blk_simp
  rw [after0_4]
  have key : out0_4 (iblk m c 0 t) (iblk m c 1 t) (iblk m c 2 t) (iblk m c 3 t) = k0_pay4 (F := Ideal) (iblk m c 1 t) (iblk m c 2 t) (iblk m c 3 t) (iblk m c 0 t) := by
    unfold out0_4; frame_out
  rw [key]
  idx_vars i
  have e : ((View.whole main_v64_0).slice (win0_4.rect t)).emb (ix2 i0 i1) = ix2 (row t i0) i1 := by blk_ext [idx0 t, row]
  rw [pay4_eq, hws, hgs, hms, hvs]
  exact congrArg (fun j => step (W j) (G j) (M j) (U j)) e.symm

set_option maxHeartbeats 2000000 in
include hgs hms in
theorem arr5_of : (dats m 0 c).arrAt 5 cfg0.N = fun i => mom (G i) (M i) := by
  refine (dats m 0 c).arrAt_eq_of_covers 5 _ (by decide +kernel) fun t hf i => ?_
  blk_simp
  rw [after0_5]
  have key : out0_5 (iblk m c 0 t) (iblk m c 1 t) (iblk m c 2 t) (iblk m c 3 t) = k0_pay2 (F := Ideal) (iblk m c 1 t) (iblk m c 2 t) := by
    unfold out0_5; frame_out
  rw [key]
  idx_vars i
  have e : ((View.whole main_v64_1).slice (win0_5.rect t)).emb (ix2 i0 i1) = ix2 (row t i0) i1 := by blk_ext [idx0 t, row]
  rw [pay2_eq, hgs, hms]
  exact congrArg (fun j => mom (G j) (M j)) e.symm

set_option maxHeartbeats 2000000 in
include hgs hvs in
theorem arr6_of : (dats m 0 c).arrAt 6 cfg0.N = fun i => vel (G i) (U i) := by
  refine (dats m 0 c).arrAt_eq_of_covers 6 _ (by decide +kernel) fun t hf i => ?_
  blk_simp
  rw [after0_6]
  have key : out0_6 (iblk m c 0 t) (iblk m c 1 t) (iblk m c 2 t) (iblk m c 3 t) = k0_pay3 (F := Ideal) (iblk m c 1 t) (iblk m c 3 t) := by
    unfold out0_6; frame_out
  rw [key]
  idx_vars i
  have e : ((View.whole main_v64_2).slice (win0_6.rect t)).emb (ix2 i0 i1) = ix2 (row t i0) i1 := by blk_ext [idx0 t, row]
  rw [pay3_eq, hgs, hvs]
  exact congrArg (fun j => vel (G j) (U j)) e.symm

end

theorem arr4 : (dats m 0 c).arrAt 4 cfg0.N = fun i => step (pack 0 (ws c m) i) (pack 0 (gs c m) i) (pack 0 (ms c m) i) (pack 0 (vs c m) i) :=
  arr4_of c m _ _ _ _ (iblk_ws c m) (iblk_gs c m) (iblk_ms c m) (iblk_vs c m)

theorem arr5 : (dats m 0 c).arrAt 5 cfg0.N = fun i => mom (pack 0 (gs c m) i) (pack 0 (ms c m) i) :=
  arr5_of c m _ _ (iblk_gs c m) (iblk_ms c m)

theorem arr6 : (dats m 0 c).arrAt 6 cfg0.N = fun i => vel (pack 0 (gs c m) i) (pack 0 (vs c m) i) :=
  arr6_of c m _ _ (iblk_gs c m) (iblk_vs c m)

end Cert.PackIdeal.Real
-- ==== Proof.PackClaim.lean ====
/- The claims about the optimiser's call on the packed small weights. -/
module

public import proofs.«01_k».proof.Defs
public import proofs.«01_k».proof.Proof.Pack
public import proofs.«01_k».proof.Proof.Gen.Pack.Frame
public import proofs.«01_k».proof.Proof.Gen.PackRefIdeal.Run

@[expose] public section

set_option maxRecDepth 16384

noncomputable section

namespace Cert.Proof.Pack

open Idealize.ShloMosaic Idealize.SL.Sem Idealize.ShloMosaic.TcCoe
open Cert.AdamwIdeal.Real (mom vel step)
open Cert.PackIdeal.Real (sh pack pack_fill pack_map₄ ws gs ms vs)

section
open Cert.PackRefIdeal Cert.PackRefIdeal.Gen Cert.PackRefIdeal.Value

variable (V0 : Valuation τ sig (Elt Ideal))

/-- The reference's thirteen arrays of weights. -/
def rws : (k : Fin 13) → (sh k).Idx → EReal := fun k => match k with
  | 0 => V0 (Proc.devRef .tc main_arg0)
  | 1 => V0 (Proc.devRef .tc main_arg1)
  | 2 => V0 (Proc.devRef .tc main_arg2)
  | 3 => V0 (Proc.devRef .tc main_arg3)
  | 4 => V0 (Proc.devRef .tc main_arg4)
  | 5 => V0 (Proc.devRef .tc main_arg5)
  | 6 => V0 (Proc.devRef .tc main_arg6)
  | 7 => V0 (Proc.devRef .tc main_arg7)
  | 8 => V0 (Proc.devRef .tc main_arg8)
  | 9 => V0 (Proc.devRef .tc main_arg9)
  | 10 => V0 (Proc.devRef .tc main_arg10)
  | 11 => V0 (Proc.devRef .tc main_arg11)
  | 12 => V0 (Proc.devRef .tc main_arg12)

/-- The reference's thirteen arrays of gradients. -/
def rgs : (k : Fin 13) → (sh k).Idx → EReal := fun k => match k with
  | 0 => V0 (Proc.devRef .tc main_arg13)
  | 1 => V0 (Proc.devRef .tc main_arg14)
  | 2 => V0 (Proc.devRef .tc main_arg15)
  | 3 => V0 (Proc.devRef .tc main_arg16)
  | 4 => V0 (Proc.devRef .tc main_arg17)
  | 5 => V0 (Proc.devRef .tc main_arg18)
  | 6 => V0 (Proc.devRef .tc main_arg19)
  | 7 => V0 (Proc.devRef .tc main_arg20)
  | 8 => V0 (Proc.devRef .tc main_arg21)
  | 9 => V0 (Proc.devRef .tc main_arg22)
  | 10 => V0 (Proc.devRef .tc main_arg23)
  | 11 => V0 (Proc.devRef .tc main_arg24)
  | 12 => V0 (Proc.devRef .tc main_arg25)

/-- The reference's thirteen arrays of first moments. -/
def rms : (k : Fin 13) → (sh k).Idx → EReal := fun k => match k with
  | 0 => V0 (Proc.devRef .tc main_arg26)
  | 1 => V0 (Proc.devRef .tc main_arg27)
  | 2 => V0 (Proc.devRef .tc main_arg28)
  | 3 => V0 (Proc.devRef .tc main_arg29)
  | 4 => V0 (Proc.devRef .tc main_arg30)
  | 5 => V0 (Proc.devRef .tc main_arg31)
  | 6 => V0 (Proc.devRef .tc main_arg32)
  | 7 => V0 (Proc.devRef .tc main_arg33)
  | 8 => V0 (Proc.devRef .tc main_arg34)
  | 9 => V0 (Proc.devRef .tc main_arg35)
  | 10 => V0 (Proc.devRef .tc main_arg36)
  | 11 => V0 (Proc.devRef .tc main_arg37)
  | 12 => V0 (Proc.devRef .tc main_arg38)

/-- The reference's thirteen arrays of second moments. -/
def rvs : (k : Fin 13) → (sh k).Idx → EReal := fun k => match k with
  | 0 => V0 (Proc.devRef .tc main_arg39)
  | 1 => V0 (Proc.devRef .tc main_arg40)
  | 2 => V0 (Proc.devRef .tc main_arg41)
  | 3 => V0 (Proc.devRef .tc main_arg42)
  | 4 => V0 (Proc.devRef .tc main_arg43)
  | 5 => V0 (Proc.devRef .tc main_arg44)
  | 6 => V0 (Proc.devRef .tc main_arg45)
  | 7 => V0 (Proc.devRef .tc main_arg46)
  | 8 => V0 (Proc.devRef .tc main_arg47)
  | 9 => V0 (Proc.devRef .tc main_arg48)
  | 10 => V0 (Proc.devRef .tc main_arg49)
  | 11 => V0 (Proc.devRef .tc main_arg50)
  | 12 => V0 (Proc.devRef .tc main_arg51)

end

theorem q1 : quiescent_Pack := fun m g _ => Cert.Pack.Gen.frame m g
theorem q2 : quiescent_PackIdeal := fun m g _ => Cert.PackIdeal.Gen.frame m g
theorem q3 : quiescent_PackRefIdeal := fun m g _ =>
  (θ_run _ _ _).mono (fun r h => And.intro (fun c => (h c).2.2.2) (sem_eq_zero_of_no_sems (by decide) r.2)) (Cert.PackRefIdeal.Value.run (F := Ideal) m g)
theorem kept : preserves_Pack_PackIdeal :=
  ⟨IdealRules.named_const.statement _ _ _ _ _ rfl, IdealRules.named_const.statement _ _ _ _ _ rfl⟩

theorem value : algebraic_PackIdeal_PackRefIdeal := by
  intro m g m' g' hpre hag
  have hw : ∀ c, rws (StableHlo.launchContents m' c) = ws c m := fun c => by
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51⟩ := hag c
    funext k
    match k with
    | 0 => exact h0
    | 1 => exact h1
    | 2 => exact h2
    | 3 => exact h3
    | 4 => exact h4
    | 5 => exact h5
    | 6 => exact h6
    | 7 => exact h7
    | 8 => exact h8
    | 9 => exact h9
    | 10 => exact h10
    | 11 => exact h11
    | 12 => exact h12
  have hg : ∀ c, rgs (StableHlo.launchContents m' c) = gs c m := fun c => by
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51⟩ := hag c
    funext k
    match k with
    | 0 => exact h13
    | 1 => exact h14
    | 2 => exact h15
    | 3 => exact h16
    | 4 => exact h17
    | 5 => exact h18
    | 6 => exact h19
    | 7 => exact h20
    | 8 => exact h21
    | 9 => exact h22
    | 10 => exact h23
    | 11 => exact h24
    | 12 => exact h25
  have hm : ∀ c, rms (StableHlo.launchContents m' c) = ms c m := fun c => by
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51⟩ := hag c
    funext k
    match k with
    | 0 => exact h26
    | 1 => exact h27
    | 2 => exact h28
    | 3 => exact h29
    | 4 => exact h30
    | 5 => exact h31
    | 6 => exact h32
    | 7 => exact h33
    | 8 => exact h34
    | 9 => exact h35
    | 10 => exact h36
    | 11 => exact h37
    | 12 => exact h38
  have hv : ∀ c, rvs (StableHlo.launchContents m' c) = vs c m := fun c => by
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51⟩ := hag c
    funext k
    match k with
    | 0 => exact h39
    | 1 => exact h40
    | 2 => exact h41
    | 3 => exact h42
    | 4 => exact h43
    | 5 => exact h44
    | 6 => exact h45
    | 7 => exact h46
    | 8 => exact h47
    | 9 => exact h48
    | 10 => exact h49
    | 11 => exact h50
    | 12 => exact h51
  refine ⟨_, _, _, (θ_run _ _ _).mono (fun r h c => ⟨(h c).1.trans (Cert.PackIdeal.Real.arr4 c m),
    (h c).2.1.trans (Cert.PackIdeal.Real.arr5 c m), (h c).2.2.1.trans (Cert.PackIdeal.Real.arr6 c m), (h c).2.2.2⟩) (Cert.PackIdeal.Value.run_blocks (F := Ideal) m g),
    (θ_run _ _ _).mono (fun r h c => ⟨(h c).1.trans ?_, (h c).2.1.trans ?_, (h c).2.2.1.trans ?_, (h c).2.2.2⟩) (Cert.PackRefIdeal.Value.run (F := Ideal) m' g')⟩
  · refine Eq.trans ?_ (pack_map₄ step Cert.PackIdeal.Real.step_zero (ws c m) (gs c m) (ms c m) (vs c m))
    rw [← hw, ← hg, ← hm, ← hv, ← pack_fill]
    rfl
  · refine Eq.trans ?_ (pack_map₄ (fun _ g m _ => mom g m) Cert.PackIdeal.Real.mom_zero (ws c m) (gs c m) (ms c m) (vs c m))
    rw [← hg, ← hm, ← pack_fill]
    rfl
  · refine Eq.trans ?_ (pack_map₄ (fun _ g _ v => vel g v) Cert.PackIdeal.Real.vel_zero (ws c m) (gs c m) (ms c m) (vs c m))
    rw [← hg, ← hv, ← pack_fill]
    rfl

end Cert.Proof.Pack

end
-- ==== Proof.lean ====
module

public import proofs.«01_k».proof.Defs
public import proofs.«01_k».proof.Proof.Gen.PostNorm
public import proofs.«01_k».proof.Proof.Gen.PostNormIdeal
public import proofs.«01_k».proof.Proof.Gen.PostNormRefIdeal
public import proofs.«01_k».proof.Proof.Gen.Pre_post_norm_finite
public import proofs.«01_k».proof.Proof.Gen.PostNorm.Frame
public import proofs.«01_k».proof.Proof.Gen.PostNormIdeal.Frame
public import proofs.«01_k».proof.Proof.Gen.PostNormIdeal.Value
public import proofs.«01_k».proof.Proof.Gen.PostNormRefIdeal.Run
public import proofs.«01_k».proof.Proof.Gen.PreNorm
public import proofs.«01_k».proof.Proof.Gen.PreNormIdeal
public import proofs.«01_k».proof.Proof.Gen.PreNormRefIdeal
public import proofs.«01_k».proof.Proof.Gen.Pre_pre_norm_finite
public import proofs.«01_k».proof.Proof.Gen.PreNorm.Frame
public import proofs.«01_k».proof.Proof.Gen.PreNormIdeal.Frame
public import proofs.«01_k».proof.Proof.Gen.PreNormIdeal.Value
public import proofs.«01_k».proof.Proof.Gen.PreNormRefIdeal.Run
public import proofs.«01_k».proof.Proof.Gen.SwaBwd
public import proofs.«01_k».proof.Proof.Gen.SwaBwdIdeal
public import proofs.«01_k».proof.Proof.Gen.SwaBwdRefIdeal
public import proofs.«01_k».proof.Proof.Gen.Pre_swa_bwd_finite
public import proofs.«01_k».proof.Proof.Gen.SwaBwdIdeal.Frame.RunB
public import proofs.«01_k».proof.Proof.Gen.SwaBwdRefIdeal.Run
public import proofs.«01_k».proof.Proof.Gen.PoolBwd
public import proofs.«01_k».proof.Proof.Gen.PoolBwdIdeal
public import proofs.«01_k».proof.Proof.Gen.PoolBwdRefIdeal
public import proofs.«01_k».proof.Proof.Gen.Pre_pool_bwd_finite
public import proofs.«01_k».proof.Proof.Gen.PoolBwd.Frame
public import proofs.«01_k».proof.Proof.Gen.PoolBwdIdeal.Frame
public import proofs.«01_k».proof.Proof.Gen.PoolBwdIdeal.Value
public import proofs.«01_k».proof.Proof.Gen.PoolBwdRefIdeal.Run
public import proofs.«01_k».proof.Proof.Gen.MidNorm
public import proofs.«01_k».proof.Proof.Gen.MidNormIdeal
public import proofs.«01_k».proof.Proof.Gen.MidNormRefIdeal
public import proofs.«01_k».proof.Proof.Gen.Pre_mid_norm_finite
public import proofs.«01_k».proof.Proof.Gen.MidNorm.Frame
public import proofs.«01_k».proof.Proof.Gen.MidNormIdeal.Frame
public import proofs.«01_k».proof.Proof.Gen.MidNormRefIdeal.Run
public import proofs.«01_k».proof.Proof.Gen.PostLoss
public import proofs.«01_k».proof.Proof.Gen.PostLossIdeal
public import proofs.«01_k».proof.Proof.Gen.PostLossRefIdeal
public import proofs.«01_k».proof.Proof.Gen.Pre_post_loss_finite
public import proofs.«01_k».proof.Proof.Gen.PostLoss.Frame
public import proofs.«01_k».proof.Proof.Gen.PostLossIdeal.Frame
public import proofs.«01_k».proof.Proof.Gen.PostLossIdeal.Value
public import proofs.«01_k».proof.Proof.Gen.PostLossRefIdeal.Run
public import proofs.«01_k».proof.Proof.Gen.NormFirst
public import proofs.«01_k».proof.Proof.Gen.NormFirstIdeal
public import proofs.«01_k».proof.Proof.Gen.NormFirstRefIdeal
public import proofs.«01_k».proof.Proof.Gen.Pre_norm_first_finite
public import proofs.«01_k».proof.Proof.Gen.NormFirst.Frame
public import proofs.«01_k».proof.Proof.Gen.NormFirstIdeal.Frame
public import proofs.«01_k».proof.Proof.Gen.NormFirstIdeal.Value
public import proofs.«01_k».proof.Proof.Gen.NormFirstRefIdeal.Run
public import proofs.«01_k».proof.Proof.Gen.PostPre
public import proofs.«01_k».proof.Proof.Gen.PostPreIdeal
public import proofs.«01_k».proof.Proof.Gen.PostPreRefIdeal
public import proofs.«01_k».proof.Proof.Gen.Pre_post_pre_finite
public import proofs.«01_k».proof.Proof.Gen.PostPre.Frame
public import proofs.«01_k».proof.Proof.Gen.PostPreIdeal.Frame
public import proofs.«01_k».proof.Proof.Gen.PostPreIdeal.Value
public import proofs.«01_k».proof.Proof.Gen.PostPreRefIdeal.Run
public import proofs.«01_k».proof.Proof.Gen.SwaFwd
public import proofs.«01_k».proof.Proof.Gen.SwaFwdIdeal
public import proofs.«01_k».proof.Proof.Gen.SwaFwdRefIdeal
public import proofs.«01_k».proof.Proof.Gen.Pre_swa_fwd_finite
public import proofs.«01_k».proof.Proof.Gen.SwaFwd.Frame
public import proofs.«01_k».proof.Proof.Gen.SwaFwdIdeal.Frame
public import proofs.«01_k».proof.Proof.Gen.SwaFwdIdeal.Value
public import proofs.«01_k».proof.Proof.Gen.SwaFwdRefIdeal.Run
public import proofs.«01_k».proof.Proof.Gen.PoolFwd
public import proofs.«01_k».proof.Proof.Gen.PoolFwdIdeal
public import proofs.«01_k».proof.Proof.Gen.PoolFwdRefIdeal
public import proofs.«01_k».proof.Proof.Gen.Pre_pool_fwd_finite
public import proofs.«01_k».proof.Proof.Gen.PoolFwd.Frame
public import proofs.«01_k».proof.Proof.Gen.PoolFwdIdeal.Frame
public import proofs.«01_k».proof.Proof.Gen.PoolFwdIdeal.Value
public import proofs.«01_k».proof.Proof.Gen.PoolFwdRefIdeal.Run
public import proofs.«01_k».proof.Proof.Gen.GluFwd
public import proofs.«01_k».proof.Proof.Gen.GluFwdIdeal
public import proofs.«01_k».proof.Proof.Gen.GluFwdRefIdeal
public import proofs.«01_k».proof.Proof.Gen.GluFwd.Frame
public import proofs.«01_k».proof.Proof.Gen.GluFwdIdeal.Frame
public import proofs.«01_k».proof.Proof.Gen.GluFwdIdeal.Value
public import proofs.«01_k».proof.Proof.Gen.GluFwdRefIdeal.Run
public import proofs.«01_k».proof.Proof.Gen.MmNn
public import proofs.«01_k».proof.Proof.Gen.MmNnIdeal
public import proofs.«01_k».proof.Proof.Gen.MmNnRefIdeal
public import proofs.«01_k».proof.Proof.Gen.MmNn.Frame
public import proofs.«01_k».proof.Proof.Gen.MmNnIdeal.Frame
public import proofs.«01_k».proof.Proof.Gen.MmNnIdeal.Value
public import proofs.«01_k».proof.Proof.Gen.MmNnRefIdeal.Run
public import proofs.«01_k».proof.Proof.Gen.MmNt
public import proofs.«01_k».proof.Proof.Gen.MmNtIdeal
public import proofs.«01_k».proof.Proof.Gen.MmNtRefIdeal
public import proofs.«01_k».proof.Proof.Gen.MmNt.Frame
public import proofs.«01_k».proof.Proof.Gen.MmNtIdeal.Frame
public import proofs.«01_k».proof.Proof.Gen.MmNtIdeal.Value
public import proofs.«01_k».proof.Proof.Gen.MmNtRefIdeal.Run
public import proofs.«01_k».proof.Proof.Gen.MmTn
public import proofs.«01_k».proof.Proof.Gen.MmTnIdeal
public import proofs.«01_k».proof.Proof.Gen.MmTnRefIdeal
public import proofs.«01_k».proof.Proof.Gen.MmTn.Frame
public import proofs.«01_k».proof.Proof.Gen.MmTnIdeal.Frame
public import proofs.«01_k».proof.Proof.Gen.MmTnIdeal.Value
public import proofs.«01_k».proof.Proof.Gen.MmTnRefIdeal.Run
public import proofs.«01_k».proof.Proof.Gen.MmUp
public import proofs.«01_k».proof.Proof.Gen.MmUpIdeal
public import proofs.«01_k».proof.Proof.Gen.MmUpRefIdeal
public import proofs.«01_k».proof.Proof.Gen.MmUp.Frame
public import proofs.«01_k».proof.Proof.Gen.MmUpIdeal.Frame
public import proofs.«01_k».proof.Proof.Gen.MmUpIdeal.Value
public import proofs.«01_k».proof.Proof.Gen.MmUpRefIdeal.Run
public import proofs.«01_k».proof.Proof.Gen.MmUpD
public import proofs.«01_k».proof.Proof.Gen.MmUpDIdeal
public import proofs.«01_k».proof.Proof.Gen.MmUpDRefIdeal
public import proofs.«01_k».proof.Proof.Gen.MmUpD.Frame
public import proofs.«01_k».proof.Proof.Gen.MmUpDIdeal.Frame
public import proofs.«01_k».proof.Proof.Gen.MmUpDIdeal.Value
public import proofs.«01_k».proof.Proof.Gen.MmUpDRefIdeal.Run
public import proofs.«01_k».proof.Proof.Gen.MmUpW
public import proofs.«01_k».proof.Proof.Gen.MmUpWIdeal
public import proofs.«01_k».proof.Proof.Gen.MmUpWRefIdeal
public import proofs.«01_k».proof.Proof.Gen.MmUpW.Frame
public import proofs.«01_k».proof.Proof.Gen.MmUpWIdeal.Frame
public import proofs.«01_k».proof.Proof.Gen.MmUpWIdeal.Value
public import proofs.«01_k».proof.Proof.Gen.MmUpWRefIdeal.Run
public import proofs.«01_k».proof.Proof.Gen.Adamw
public import proofs.«01_k».proof.Proof.Gen.AdamwIdeal
public import proofs.«01_k».proof.Proof.Gen.AdamwRefIdeal
public import proofs.«01_k».proof.Proof.Gen.Adamw.Frame
public import proofs.«01_k».proof.Proof.Gen.AdamwIdeal.Frame
public import proofs.«01_k».proof.Proof.Gen.AdamwIdeal.Value
public import proofs.«01_k».proof.Proof.Gen.AdamwRefIdeal.Run
public import proofs.«01_k».proof.Proof.Gen.SumSlabs
public import proofs.«01_k».proof.Proof.Gen.SumSlabsIdeal
public import proofs.«01_k».proof.Proof.Gen.SumSlabsRefIdeal
public import proofs.«01_k».proof.Proof.Gen.SumSlabs.Frame
public import proofs.«01_k».proof.Proof.Gen.SumSlabsIdeal.Frame
public import proofs.«01_k».proof.Proof.Gen.SumSlabsIdeal.Value
public import proofs.«01_k».proof.Proof.Gen.SumSlabsRefIdeal.Run
public import proofs.«01_k».proof.Proof.Gen.Pack
public import proofs.«01_k».proof.Proof.Gen.PackIdeal
public import proofs.«01_k».proof.Proof.Gen.PackRefIdeal
public import proofs.«01_k».proof.Proof.Gen.Pack.Frame
public import proofs.«01_k».proof.Proof.Gen.PackIdeal.Frame
public import proofs.«01_k».proof.Proof.Gen.PackIdeal.Value
public import proofs.«01_k».proof.Proof.Gen.PackRefIdeal.Run
public import proofs.«01_k».proof.Proof.PostNormClaim
public import proofs.«01_k».proof.Proof.PreNormClaim
public import proofs.«01_k».proof.Proof.SwaBwdClaim
public import proofs.«01_k».proof.Proof.PoolBwdClaim
public import proofs.«01_k».proof.Proof.MidNormClaim
public import proofs.«01_k».proof.Proof.PostLossClaim
public import proofs.«01_k».proof.Proof.NormFirstClaim
public import proofs.«01_k».proof.Proof.PostPreClaim
public import proofs.«01_k».proof.Proof.SwaFwdClaim
public import proofs.«01_k».proof.Proof.PoolFwdClaim
public import proofs.«01_k».proof.Proof.GluFwdClaim
public import proofs.«01_k».proof.Proof.MmNnClaim
public import proofs.«01_k».proof.Proof.MmNtClaim
public import proofs.«01_k».proof.Proof.MmTnClaim
public import proofs.«01_k».proof.Proof.MmUpClaim
public import proofs.«01_k».proof.Proof.MmUpDClaim
public import proofs.«01_k».proof.Proof.MmUpWClaim
public import proofs.«01_k».proof.Proof.AdamwClaim
public import proofs.«01_k».proof.Proof.SumSlabsClaim
public import proofs.«01_k».proof.Proof.PackClaim
public import Idealize.ShloMosaic.Adequacy
public import Idealize.ShloMosaic.Init

@[expose] public section

noncomputable section

namespace Cert.Proof

theorem claim : Cert.Claim :=
  ⟨Cert.PostNorm.Gen.facts, Cert.PostNormIdeal.Gen.facts, Cert.PostNormRefIdeal.Gen.facts, Cert.PreNorm.Gen.facts, Cert.PreNormIdeal.Gen.facts, Cert.PreNormRefIdeal.Gen.facts, Cert.SwaBwd.Gen.facts, Cert.SwaBwdIdeal.Gen.facts, Cert.SwaBwdRefIdeal.Gen.facts, Cert.PoolBwd.Gen.facts, Cert.PoolBwdIdeal.Gen.facts, Cert.PoolBwdRefIdeal.Gen.facts, Cert.MidNorm.Gen.facts, Cert.MidNormIdeal.Gen.facts, Cert.MidNormRefIdeal.Gen.facts, Cert.PostLoss.Gen.facts, Cert.PostLossIdeal.Gen.facts, Cert.PostLossRefIdeal.Gen.facts, Cert.NormFirst.Gen.facts, Cert.NormFirstIdeal.Gen.facts, Cert.NormFirstRefIdeal.Gen.facts, Cert.PostPre.Gen.facts, Cert.PostPreIdeal.Gen.facts, Cert.PostPreRefIdeal.Gen.facts, Cert.SwaFwd.Gen.facts, Cert.SwaFwdIdeal.Gen.facts, Cert.SwaFwdRefIdeal.Gen.facts, Cert.PoolFwd.Gen.facts, Cert.PoolFwdIdeal.Gen.facts, Cert.PoolFwdRefIdeal.Gen.facts, Cert.GluFwd.Gen.facts, Cert.GluFwdIdeal.Gen.facts, Cert.GluFwdRefIdeal.Gen.facts, Cert.MmNn.Gen.facts, Cert.MmNnIdeal.Gen.facts, Cert.MmNnRefIdeal.Gen.facts, Cert.MmNt.Gen.facts, Cert.MmNtIdeal.Gen.facts, Cert.MmNtRefIdeal.Gen.facts, Cert.MmTn.Gen.facts, Cert.MmTnIdeal.Gen.facts, Cert.MmTnRefIdeal.Gen.facts, Cert.MmUp.Gen.facts, Cert.MmUpIdeal.Gen.facts, Cert.MmUpRefIdeal.Gen.facts, Cert.MmUpD.Gen.facts, Cert.MmUpDIdeal.Gen.facts, Cert.MmUpDRefIdeal.Gen.facts, Cert.MmUpW.Gen.facts, Cert.MmUpWIdeal.Gen.facts, Cert.MmUpWRefIdeal.Gen.facts, Cert.Adamw.Gen.facts, Cert.AdamwIdeal.Gen.facts, Cert.AdamwRefIdeal.Gen.facts, Cert.SumSlabs.Gen.facts, Cert.SumSlabsIdeal.Gen.facts, Cert.SumSlabsRefIdeal.Gen.facts, Cert.Pack.Gen.facts, Cert.PackIdeal.Gen.facts, Cert.PackRefIdeal.Gen.facts, Cert.Pre_post_norm_finite.Gen.facts, Cert.Pre_pre_norm_finite.Gen.facts, Cert.Pre_swa_bwd_finite.Gen.facts, Cert.Pre_pool_bwd_finite.Gen.facts, Cert.Pre_mid_norm_finite.Gen.facts, Cert.Pre_post_loss_finite.Gen.facts, Cert.Pre_norm_first_finite.Gen.facts, Cert.Pre_post_pre_finite.Gen.facts, Cert.Pre_swa_fwd_finite.Gen.facts, Cert.Pre_pool_fwd_finite.Gen.facts,
  PostNorm.q1, PostNorm.q2, PostNorm.q3, PostNorm.q4, PostNorm.q5, PreNorm.q1, PreNorm.q2, PreNorm.q3, PreNorm.q4, PreNorm.q5, SwaBwd.q1, SwaBwd.q2, SwaBwd.q3, SwaBwd.q4, SwaBwd.q5, PoolBwd.q1, PoolBwd.q2, PoolBwd.q3, PoolBwd.q4, PoolBwd.q5, MidNorm.q1, MidNorm.q2, MidNorm.q3, MidNorm.q4, MidNorm.q5, PostLoss.q1, PostLoss.q2, PostLoss.q3, PostLoss.q4, PostLoss.q5, NormFirst.q1, NormFirst.q2, NormFirst.q3, NormFirst.q4, NormFirst.q5, PostPre.q1, PostPre.q2, PostPre.q3, PostPre.q4, PostPre.q5, SwaFwd.q1, SwaFwd.q2, SwaFwd.q3, SwaFwd.q4, SwaFwd.q5, PoolFwd.q1, PoolFwd.q2, PoolFwd.q3, PoolFwd.q4, PoolFwd.q5, GluFwd.q1, GluFwd.q2, GluFwd.q3, MmNn.q1, MmNn.q2, MmNn.q3, MmNt.q1, MmNt.q2, MmNt.q3, MmTn.q1, MmTn.q2, MmTn.q3, MmUp.q1, MmUp.q2, MmUp.q3, MmUpD.q1, MmUpD.q2, MmUpD.q3, MmUpW.q1, MmUpW.q2, MmUpW.q3, Adamw.q1, Adamw.q2, Adamw.q3, SumSlabs.q1, SumSlabs.q2, SumSlabs.q3, Pack.q1, Pack.q2, Pack.q3,
  trivial, PostNorm.value, trivial, PreNorm.value, SwaBwd.kept, SwaBwd.value, trivial, PoolBwd.value, trivial, MidNorm.value, trivial, PostLoss.value, trivial, NormFirst.value, trivial, PostPre.value, SwaFwd.kept, SwaFwd.value, trivial, PoolFwd.value, trivial, GluFwd.value, trivial, MmNn.value, trivial, MmNt.value, trivial, MmTn.value, trivial, MmUp.value, trivial, MmUpD.value, trivial, MmUpW.value, Adamw.kept, Adamw.value, trivial, SumSlabs.value, Pack.kept, Pack.value⟩

end Cert.Proof

end
